-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x1152 : Shape := ⟨3, ![16, 2048, 1152]⟩
abbrev S16x2048x12 : Shape := ⟨3, ![16, 2048, 12]⟩
abbrev S16x2048x384 : Shape := ⟨3, ![16, 2048, 384]⟩
abbrev S16x2048x4 : Shape := ⟨3, ![16, 2048, 4]⟩
abbrev S16x12x2048 : Shape := ⟨3, ![16, 12, 2048]⟩
abbrev S16x4x2048 : Shape := ⟨3, ![16, 4, 2048]⟩
abbrev S16x2048x36 : Shape := ⟨3, ![16, 2048, 36]⟩
abbrev S1x2048x1152 : Shape := ⟨3, ![1, 2048, 1152]⟩
abbrev S1x12x2048 : Shape := ⟨3, ![1, 12, 2048]⟩
abbrev S1x2048x384 : Shape := ⟨3, ![1, 2048, 384]⟩
abbrev S1x2048x4 : Shape := ⟨3, ![1, 2048, 4]⟩
abbrev S1x4x2048 : Shape := ⟨3, ![1, 4, 2048]⟩
abbrev S1x2048x36 : Shape := ⟨3, ![1, 2048, 36]⟩
abbrev S1152x2048 : Shape := ⟨2, ![1152, 2048]⟩
abbrev S4x2048x128 : Shape := ⟨3, ![4, 2048, 128]⟩
abbrev S4x96x2048 : Shape := ⟨3, ![4, 96, 2048]⟩
abbrev S12x2048 : Shape := ⟨2, ![12, 2048]⟩
abbrev S128x2048 : Shape := ⟨2, ![128, 2048]⟩
abbrev S2x2x2048x256 : Shape := ⟨4, ![2, 2, 2048, 256]⟩
abbrev S2x16x256 : Shape := ⟨3, ![2, 16, 256]⟩
abbrev S16x256 : Shape := ⟨2, ![16, 256]⟩
abbrev S128x128 : Shape := ⟨2, ![128, 128]⟩
abbrev S1x256 : Shape := ⟨2, ![1, 256]⟩
abbrev S1x2048x128 : Shape := ⟨3, ![1, 2048, 128]⟩
abbrev S2048x128 : Shape := ⟨2, ![2048, 128]⟩
abbrev S1x2048x96 : Shape := ⟨3, ![1, 2048, 96]⟩
abbrev S2048x96 : Shape := ⟨2, ![2048, 96]⟩
abbrev S2048x32 : Shape := ⟨2, ![2048, 32]⟩
abbrev S1x2048x32 : Shape := ⟨3, ![1, 2048, 32]⟩
abbrev S1x2048x1 : Shape := ⟨3, ![1, 2048, 1]⟩
abbrev S2048x1 : Shape := ⟨2, ![2048, 1]⟩
abbrev S96x2048 : Shape := ⟨2, ![96, 2048]⟩
abbrev S1x1x2048 : Shape := ⟨3, ![1, 1, 2048]⟩
abbrev S1x2048 : Shape := ⟨2, ![1, 2048]⟩
abbrev S1x96x2048 : Shape := ⟨3, ![1, 96, 2048]⟩
abbrev S8x256 : Shape := ⟨2, ![8, 256]⟩
abbrev S96x256 : Shape := ⟨2, ![96, 256]⟩
abbrev S160x256 : Shape := ⟨2, ![160, 256]⟩
abbrev S256x256 : Shape := ⟨2, ![256, 256]⟩
abbrev S1x128x128 : Shape := ⟨3, ![1, 128, 128]⟩
abbrev S128x256 : Shape := ⟨2, ![128, 256]⟩
abbrev S16x8x256 : Shape := ⟨3, ![16, 8, 256]⟩
abbrev S256 : Shape := ⟨1, ![256]⟩
abbrev S1x128 : Shape := ⟨2, ![1, 128]⟩
abbrev S32x128 : Shape := ⟨2, ![32, 128]⟩
abbrev S128 : Shape := ⟨1, ![128]⟩
abbrev S1x1x128 : Shape := ⟨3, ![1, 1, 128]⟩
abbrev S1x1x128x128 : Shape := ⟨4, ![1, 1, 128, 128]⟩
abbrev S16x8x128 : Shape := ⟨3, ![16, 8, 128]⟩
abbrev S8x128 : Shape := ⟨2, ![8, 128]⟩
abbrev S1x1x256 : Shape := ⟨3, ![1, 1, 256]⟩
abbrev S1x1x128x256 : Shape := ⟨4, ![1, 1, 128, 256]⟩
abbrev S1x96x256 : Shape := ⟨3, ![1, 96, 256]⟩
abbrev S32x256 : Shape := ⟨2, ![32, 256]⟩
abbrev S1x1x256x256 : Shape := ⟨4, ![1, 1, 256, 256]⟩
abbrev S1 : Shape := ⟨1, ![1]⟩
abbrev S1x1x1 : Shape := ⟨3, ![1, 1, 1]⟩
abbrev S256x128 : Shape := ⟨2, ![256, 128]⟩
abbrev S1x256x128 : Shape := ⟨3, ![1, 256, 128]⟩
abbrev S256x36 : Shape := ⟨2, ![256, 36]⟩
abbrev S1x256x36 : Shape := ⟨3, ![1, 256, 36]⟩

abbrev nBuf : Space → Nat
  | .hbm => 10
  | .vmem => 28
  | .smem => 0
  | _ => 0

abbrev bufTy : (tb : Table) → Fin (tcTables nBuf tb) → BufTy
  | .hbm, ⟨0, _⟩ => ⟨S16x2048x1152, .fp8e4m3⟩
  | .hbm, ⟨1, _⟩ => ⟨S16x2048x12, .f32⟩
  | .hbm, ⟨2, _⟩ => ⟨S16x2048x384, .fp8e4m3⟩
  | .hbm, ⟨3, _⟩ => ⟨S16x2048x4, .f32⟩
  | .hbm, ⟨4, _⟩ => ⟨S16x2048x384, .fp8e4m3⟩
  | .hbm, ⟨5, _⟩ => ⟨S16x2048x4, .f32⟩
  | .hbm, ⟨6, _⟩ => ⟨S16x12x2048, .f32⟩
  | .hbm, ⟨7, _⟩ => ⟨S16x4x2048, .f32⟩
  | .hbm, ⟨8, _⟩ => ⟨S16x2048x1152, .fp8e4m3⟩
  | .hbm, ⟨9, _⟩ => ⟨S16x2048x36, .i8⟩
  | .local _ .vmem, ⟨0, _⟩ => ⟨S1x2048x1152, .fp8e4m3⟩
  | .local _ .vmem, ⟨1, _⟩ => ⟨S1x2048x1152, .fp8e4m3⟩
  | .local _ .vmem, ⟨2, _⟩ => ⟨S1x12x2048, .f32⟩
  | .local _ .vmem, ⟨3, _⟩ => ⟨S1x12x2048, .f32⟩
  | .local _ .vmem, ⟨4, _⟩ => ⟨S1x2048x384, .fp8e4m3⟩
  | .local _ .vmem, ⟨5, _⟩ => ⟨S1x2048x384, .fp8e4m3⟩
  | .local _ .vmem, ⟨6, _⟩ => ⟨S1x2048x4, .f32⟩
  | .local _ .vmem, ⟨7, _⟩ => ⟨S1x2048x4, .f32⟩
  | .local _ .vmem, ⟨8, _⟩ => ⟨S1x2048x384, .fp8e4m3⟩
  | .local _ .vmem, ⟨9, _⟩ => ⟨S1x2048x384, .fp8e4m3⟩
  | .local _ .vmem, ⟨10, _⟩ => ⟨S1x4x2048, .f32⟩
  | .local _ .vmem, ⟨11, _⟩ => ⟨S1x4x2048, .f32⟩
  | .local _ .vmem, ⟨12, _⟩ => ⟨S1x2048x1152, .fp8e4m3⟩
  | .local _ .vmem, ⟨13, _⟩ => ⟨S1x2048x1152, .fp8e4m3⟩
  | .local _ .vmem, ⟨14, _⟩ => ⟨S1x2048x36, .i8⟩
  | .local _ .vmem, ⟨15, _⟩ => ⟨S1x2048x36, .i8⟩
  | .local _ .vmem, ⟨16, _⟩ => ⟨S1152x2048, .fp8e4m3⟩
  | .local _ .vmem, ⟨17, _⟩ => ⟨S4x2048x128, .fp8e4m3⟩
  | .local _ .vmem, ⟨18, _⟩ => ⟨S4x96x2048, .bf16⟩
  | .local _ .vmem, ⟨19, _⟩ => ⟨S4x2048x128, .f32⟩
  | .local _ .vmem, ⟨20, _⟩ => ⟨S12x2048, .f32⟩
  | .local _ .vmem, ⟨21, _⟩ => ⟨S1152x2048, .bf16⟩
  | .local _ .vmem, ⟨22, _⟩ => ⟨S128x2048, .f32⟩
  | .local _ .vmem, ⟨23, _⟩ => ⟨S2x2x2048x256, .f32⟩
  | .local _ .vmem, ⟨24, _⟩ => ⟨S2x16x256, .f32⟩
  | .local _ .vmem, ⟨25, _⟩ => ⟨S16x256, .f32⟩
  | .local _ .vmem, ⟨26, _⟩ => ⟨S128x128, .f32⟩
  | .local _ .vmem, ⟨27, _⟩ => ⟨S1x256, .f32⟩
  | _, _ => ⟨S16x2048x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_8434_r0 : BitVec 32 := 0#32
  let c8_i32_r0 : BitVec 32 := 8#32
  let v17594_r0 : BitVec 32 := Scalar.addi c0_i32_8434_r0 c8_i32_r0
  let c1_i32_8435_r0 : BitVec 32 := 1#32
  ⟨c0_i32_8434_r0, v17594_r0, c1_i32_8435_r0⟩
def k0_mult1 (k0_t1 : Fin k0_t1_loop.trips) : BitVec 32 :=
  let c0_i32_8434_r0 : BitVec 32 := 0#32
  let c1_i32_8435_r0 : BitVec 32 := 1#32
  let arg23_r0 : BitVec 32 := Scf.iv c0_i32_8434_r0 c1_i32_8435_r0 k0_t1
  let c256_i32_r0 : BitVec 32 := 256#32
  let v17610_r0 : BitVec 32 := Scalar.muli arg23_r0 c256_i32_r0
  v17610_r0
def k0_off1 (arg21_r0 : BitVec 32) (k0_t1 : Fin k0_t1_loop.trips) : Fin 2 → Nat :=
  let c2_i32_8431_r0 : BitVec 32 := 2#32
  let c6_i32_8425_r0 : BitVec 32 := 6#32
  let c0_i32_8426_r0 : BitVec 32 := 0#32
  let v17582_r0 : BitVec 1 := Scalar.cmpi .eq c6_i32_8425_r0 c0_i32_8426_r0
  let c1_i32_8427_r0 : BitVec 32 := 1#32
  let v17583_r0 : BitVec 32 := Scalar.select v17582_r0 c1_i32_8427_r0 c6_i32_8425_r0
  let v17584_r0 : BitVec 32 := Scalar.remsi arg21_r0 v17583_r0
  let c0_i32_8429_r0 : BitVec 32 := 0#32
  let v17586_r0 : BitVec 1 := Scalar.cmpi .slt v17584_r0 c0_i32_8429_r0
  let c0_i32_8430_r0 : BitVec 32 := 0#32
  let v17587_r0 : BitVec 1 := Scalar.cmpi .slt v17583_r0 c0_i32_8430_r0
  let v17588_r0 : BitVec 1 := Scalar.xori v17586_r0 v17587_r0
  let c0_i32_8428_r0 : BitVec 32 := 0#32
  let v17585_r0 : BitVec 1 := Scalar.cmpi .ne v17584_r0 c0_i32_8428_r0
  let v17589_r0 : BitVec 1 := Scalar.andi v17588_r0 v17585_r0
  let v17590_r0 : BitVec 32 := Scalar.addi v17584_r0 v17583_r0
  let v17591_r0 : BitVec 32 := Scalar.select v17589_r0 v17590_r0 v17584_r0
  let v17592_r0 : BitVec 32 := Scalar.muli c2_i32_8431_r0 v17591_r0
  let c0_i32_8432_r0 : BitVec 32 := 0#32
  let v17593_r0 : BitVec 32 := Scalar.addi v17592_r0 c0_i32_8432_r0
  let v17612_r0 : Index := Scalar.indexCast v17593_r0
  let c0_i32_8434_r0 : BitVec 32 := 0#32
  let c1_i32_8435_r0 : BitVec 32 := 1#32
  let arg23_r0 : BitVec 32 := Scf.iv c0_i32_8434_r0 c1_i32_8435_r0 k0_t1
  let c256_i32_r0 : BitVec 32 := 256#32
  let v17610_r0 : BitVec 32 := Scalar.muli arg23_r0 c256_i32_r0
  let v17611_r0 : BitVec 32 := v17610_r0
  let v17613_r0 : Index := Scalar.indexCast v17611_r0
  ![v17612_r0.toNat, v17613_r0.toNat]
def k0_cond1 (arg21_r0 : BitVec 32) : BitVec 1 :=
  let c6_i32_539_r0 : BitVec 32 := 6#32
  let v701_r0 : BitVec 1 := Scalar.cmpi .sge arg21_r0 c6_i32_539_r0
  let v702_r0 : BitVec 32 := Scalar.extui v701_r0
  let c0_i32_540_r0 : BitVec 32 := 0#32
  let v703_r0 : BitVec 1 := Scalar.cmpi .ne v702_r0 c0_i32_540_r0
  v703_r0

@[reducible] def k0_t2_loop (k0_t1 : Fin k0_t1_loop.trips) : Scf.Loop 32 :=
  let c0_i32_8453_r0 : BitVec 32 := 0#32
  let c0_i32_8434_r0 : BitVec 32 := 0#32
  let c1_i32_8435_r0 : BitVec 32 := 1#32
  let arg23_r0 : BitVec 32 := Scf.iv c0_i32_8434_r0 c1_i32_8435_r0 k0_t1
  let c1_i32_8450_r0 : BitVec 32 := 1#32
  let v17615_r0 : BitVec 32 := Scalar.addi arg23_r0 c1_i32_8450_r0
  let c2_i32_8451_r0 : BitVec 32 := 2#32
  let v17616_r0 : BitVec 32 := Scalar.muli v17615_r0 c2_i32_8451_r0
  let v17618_r0 : BitVec 32 := Scalar.subi v17616_r0 c0_i32_8453_r0
  let c1_i32_8454_r0 : BitVec 32 := 1#32
  let v17620_r0 : BitVec 32 := Scalar.divsi v17618_r0 c1_i32_8454_r0
  let v17621_r0 : BitVec 32 := Scalar.muli v17620_r0 c1_i32_8454_r0
  let v17622_r0 : BitVec 32 := Scalar.addi c0_i32_8453_r0 v17621_r0
  let c1_i32_8455_r0 : BitVec 32 := 1#32
  ⟨c0_i32_8453_r0, v17622_r0, c1_i32_8455_r0⟩
def k0_mult2 (k0_t1 : Fin k0_t1_loop.trips) (k0_t2 : Fin (k0_t2_loop k0_t1).trips) : BitVec 32 :=
  let c0_i32_8453_r0 : BitVec 32 := 0#32
  let c1_i32_8455_r0 : BitVec 32 := 1#32
  let arg25_r0 : BitVec 32 := Scf.iv c0_i32_8453_r0 c1_i32_8455_r0 k0_t2
  let c128_i32_r0 : BitVec 32 := 128#32
  let v17632_r0 : BitVec 32 := Scalar.muli arg25_r0 c128_i32_r0
  v17632_r0
def k0_mult3 (arg21_r0 : BitVec 32) : BitVec 32 :=
  let c2_i32_8431_r0 : BitVec 32 := 2#32
  let c6_i32_8425_r0 : BitVec 32 := 6#32
  let c0_i32_8426_r0 : BitVec 32 := 0#32
  let v17582_r0 : BitVec 1 := Scalar.cmpi .eq c6_i32_8425_r0 c0_i32_8426_r0
  let c1_i32_8427_r0 : BitVec 32 := 1#32
  let v17583_r0 : BitVec 32 := Scalar.select v17582_r0 c1_i32_8427_r0 c6_i32_8425_r0
  let v17584_r0 : BitVec 32 := Scalar.remsi arg21_r0 v17583_r0
  let c0_i32_8429_r0 : BitVec 32 := 0#32
  let v17586_r0 : BitVec 1 := Scalar.cmpi .slt v17584_r0 c0_i32_8429_r0
  let c0_i32_8430_r0 : BitVec 32 := 0#32
  let v17587_r0 : BitVec 1 := Scalar.cmpi .slt v17583_r0 c0_i32_8430_r0
  let v17588_r0 : BitVec 1 := Scalar.xori v17586_r0 v17587_r0
  let c0_i32_8428_r0 : BitVec 32 := 0#32
  let v17585_r0 : BitVec 1 := Scalar.cmpi .ne v17584_r0 c0_i32_8428_r0
  let v17589_r0 : BitVec 1 := Scalar.andi v17588_r0 v17585_r0
  let v17590_r0 : BitVec 32 := Scalar.addi v17584_r0 v17583_r0
  let v17591_r0 : BitVec 32 := Scalar.select v17589_r0 v17590_r0 v17584_r0
  let v17592_r0 : BitVec 32 := Scalar.muli c2_i32_8431_r0 v17591_r0
  let c0_i32_8432_r0 : BitVec 32 := 0#32
  let v17593_r0 : BitVec 32 := Scalar.addi v17592_r0 c0_i32_8432_r0
  let c96_i32_8461_r0 : BitVec 32 := 96#32
  let v17634_r0 : BitVec 32 := Scalar.muli v17593_r0 c96_i32_8461_r0
  v17634_r0
def k0_off2 (arg21_r0 : BitVec 32) (k0_t1 : Fin k0_t1_loop.trips) : Fin 2 → Nat :=
  let c2_i32_8431_r0 : BitVec 32 := 2#32
  let c6_i32_8425_r0 : BitVec 32 := 6#32
  let c0_i32_8426_r0 : BitVec 32 := 0#32
  let v17582_r0 : BitVec 1 := Scalar.cmpi .eq c6_i32_8425_r0 c0_i32_8426_r0
  let c1_i32_8427_r0 : BitVec 32 := 1#32
  let v17583_r0 : BitVec 32 := Scalar.select v17582_r0 c1_i32_8427_r0 c6_i32_8425_r0
  let v17584_r0 : BitVec 32 := Scalar.remsi arg21_r0 v17583_r0
  let c0_i32_8429_r0 : BitVec 32 := 0#32
  let v17586_r0 : BitVec 1 := Scalar.cmpi .slt v17584_r0 c0_i32_8429_r0
  let c0_i32_8430_r0 : BitVec 32 := 0#32
  let v17587_r0 : BitVec 1 := Scalar.cmpi .slt v17583_r0 c0_i32_8430_r0
  let v17588_r0 : BitVec 1 := Scalar.xori v17586_r0 v17587_r0
  let c0_i32_8428_r0 : BitVec 32 := 0#32
  let v17585_r0 : BitVec 1 := Scalar.cmpi .ne v17584_r0 c0_i32_8428_r0
  let v17589_r0 : BitVec 1 := Scalar.andi v17588_r0 v17585_r0
  let v17590_r0 : BitVec 32 := Scalar.addi v17584_r0 v17583_r0
  let v17591_r0 : BitVec 32 := Scalar.select v17589_r0 v17590_r0 v17584_r0
  let v17592_r0 : BitVec 32 := Scalar.muli c2_i32_8431_r0 v17591_r0
  let c0_i32_8432_r0 : BitVec 32 := 0#32
  let v17593_r0 : BitVec 32 := Scalar.addi v17592_r0 c0_i32_8432_r0
  let c96_i32_8461_r0 : BitVec 32 := 96#32
  let v17634_r0 : BitVec 32 := Scalar.muli v17593_r0 c96_i32_8461_r0
  let v17635_r0 : BitVec 32 := v17634_r0
  let v17636_r0 : Index := Scalar.indexCast v17635_r0
  let c0_i32_8434_r0 : BitVec 32 := 0#32
  let c1_i32_8435_r0 : BitVec 32 := 1#32
  let arg23_r0 : BitVec 32 := Scf.iv c0_i32_8434_r0 c1_i32_8435_r0 k0_t1
  let c256_i32_r0 : BitVec 32 := 256#32
  let v17610_r0 : BitVec 32 := Scalar.muli arg23_r0 c256_i32_r0
  let v17611_r0 : BitVec 32 := v17610_r0
  let v17637_r0 : Index := Scalar.indexCast v17611_r0
  ![v17636_r0.toNat, v17637_r0.toNat]
def k0_off3 (arg21_r0 : BitVec 32) (k0_t1 : Fin k0_t1_loop.trips) (k0_t2 : Fin (k0_t2_loop k0_t1).trips) : Fin 3 → Nat :=
  let c2_i32_8431_r0 : BitVec 32 := 2#32
  let c6_i32_8425_r0 : BitVec 32 := 6#32
  let c0_i32_8426_r0 : BitVec 32 := 0#32
  let v17582_r0 : BitVec 1 := Scalar.cmpi .eq c6_i32_8425_r0 c0_i32_8426_r0
  let c1_i32_8427_r0 : BitVec 32 := 1#32
  let v17583_r0 : BitVec 32 := Scalar.select v17582_r0 c1_i32_8427_r0 c6_i32_8425_r0
  let v17584_r0 : BitVec 32 := Scalar.remsi arg21_r0 v17583_r0
  let c0_i32_8429_r0 : BitVec 32 := 0#32
  let v17586_r0 : BitVec 1 := Scalar.cmpi .slt v17584_r0 c0_i32_8429_r0
  let c0_i32_8430_r0 : BitVec 32 := 0#32
  let v17587_r0 : BitVec 1 := Scalar.cmpi .slt v17583_r0 c0_i32_8430_r0
  let v17588_r0 : BitVec 1 := Scalar.xori v17586_r0 v17587_r0
  let c0_i32_8428_r0 : BitVec 32 := 0#32
  let v17585_r0 : BitVec 1 := Scalar.cmpi .ne v17584_r0 c0_i32_8428_r0
  let v17589_r0 : BitVec 1 := Scalar.andi v17588_r0 v17585_r0
  let v17590_r0 : BitVec 32 := Scalar.addi v17584_r0 v17583_r0
  let v17591_r0 : BitVec 32 := Scalar.select v17589_r0 v17590_r0 v17584_r0
  let v17592_r0 : BitVec 32 := Scalar.muli c2_i32_8431_r0 v17591_r0
  let c0_i32_8432_r0 : BitVec 32 := 0#32
  let v17593_r0 : BitVec 32 := Scalar.addi v17592_r0 c0_i32_8432_r0
  let c0_i32_8464_r0 : BitVec 32 := 0#32
  let v17643_r0 : BitVec 1 := Scalar.cmpi .sgt v17593_r0 c0_i32_8464_r0
  let v17644_r0 : BitVec 32 := Scalar.extui v17643_r0
  let c0_i32_8465_r0 : BitVec 32 := 0#32
  let v17645_r0 : BitVec 1 := Scalar.cmpi .slt v17593_r0 c0_i32_8465_r0
  let v17646_r0 : BitVec 32 := Scalar.extui v17645_r0
  let v17647_r0 : BitVec 32 := Scalar.subi v17644_r0 v17646_r0
  let c3_i32_8463_r0 : BitVec 32 := 3#32
  let c0_i32_8466_r0 : BitVec 32 := 0#32
  let v17648_r0 : BitVec 1 := Scalar.cmpi .sgt c3_i32_8463_r0 c0_i32_8466_r0
  let v17649_r0 : BitVec 32 := Scalar.extui v17648_r0
  let c0_i32_8467_r0 : BitVec 32 := 0#32
  let v17650_r0 : BitVec 1 := Scalar.cmpi .slt c3_i32_8463_r0 c0_i32_8467_r0
  let v17651_r0 : BitVec 32 := Scalar.extui v17650_r0
  let v17652_r0 : BitVec 32 := Scalar.subi v17649_r0 v17651_r0
  let v17653_r0 : BitVec 1 := Scalar.cmpi .ne v17647_r0 v17652_r0
  let v17654_r0 : BitVec 32 := Scalar.remsi v17593_r0 c3_i32_8463_r0
  let c0_i32_8468_r0 : BitVec 32 := 0#32
  let v17655_r0 : BitVec 1 := Scalar.cmpi .ne v17654_r0 c0_i32_8468_r0
  let v17656_r0 : BitVec 1 := Scalar.andi v17653_r0 v17655_r0
  let v17642_r0 : BitVec 32 := Scalar.divsi v17593_r0 c3_i32_8463_r0
  let c1_i32_8469_r0 : BitVec 32 := 1#32
  let v17657_r0 : BitVec 32 := Scalar.subi v17642_r0 c1_i32_8469_r0
  let v17658_r0 : BitVec 32 := Scalar.select v17656_r0 v17657_r0 v17642_r0
  let v17659_r0 : Index := Scalar.indexCast v17658_r0
  let c0_i32_8453_r0 : BitVec 32 := 0#32
  let c1_i32_8455_r0 : BitVec 32 := 1#32
  let arg25_r0 : BitVec 32 := Scf.iv c0_i32_8453_r0 c1_i32_8455_r0 k0_t2
  let c128_i32_r0 : BitVec 32 := 128#32
  let v17632_r0 : BitVec 32 := Scalar.muli arg25_r0 c128_i32_r0
  let v17633_r0 : BitVec 32 := v17632_r0
  let v17660_r0 : Index := Scalar.indexCast v17633_r0
  let c0_8470_r0 : Index := 0#32
  ![v17659_r0.toNat, v17660_r0.toNat, 0]
@[reducible] def k0_t3_loop (k0_t1 : Fin k0_t1_loop.trips) : Scf.Loop 32 :=
  let c0_i32_8453_r0 : BitVec 32 := 0#32
  let c0_i32_8434_r0 : BitVec 32 := 0#32
  let c1_i32_8435_r0 : BitVec 32 := 1#32
  let arg23_r0 : BitVec 32 := Scf.iv c0_i32_8434_r0 c1_i32_8435_r0 k0_t1
  let c1_i32_8450_r0 : BitVec 32 := 1#32
  let v17615_r0 : BitVec 32 := Scalar.addi arg23_r0 c1_i32_8450_r0
  let c2_i32_8451_r0 : BitVec 32 := 2#32
  let v17616_r0 : BitVec 32 := Scalar.muli v17615_r0 c2_i32_8451_r0
  let v17618_r0 : BitVec 32 := Scalar.subi v17616_r0 c0_i32_8453_r0
  let c1_i32_8454_r0 : BitVec 32 := 1#32
  let v17620_r0 : BitVec 32 := Scalar.divsi v17618_r0 c1_i32_8454_r0
  let v17621_r0 : BitVec 32 := Scalar.muli v17620_r0 c1_i32_8454_r0
  let v17622_r0 : BitVec 32 := Scalar.addi c0_i32_8453_r0 v17621_r0
  let v17619_r0 : BitVec 32 := Scalar.addi c0_i32_8453_r0 v17618_r0
  let c1_i32_8456_r0 : BitVec 32 := 1#32
  ⟨v17622_r0, v17619_r0, c1_i32_8456_r0⟩
def k0_mult4 (k0_t1 : Fin k0_t1_loop.trips) (k0_t3 : Fin (k0_t3_loop k0_t1).trips) : BitVec 32 :=
  let c0_i32_8453_r0 : BitVec 32 := 0#32
  let c0_i32_8434_r0 : BitVec 32 := 0#32
  let c1_i32_8435_r0 : BitVec 32 := 1#32
  let arg23_r0 : BitVec 32 := Scf.iv c0_i32_8434_r0 c1_i32_8435_r0 k0_t1
  let c1_i32_8450_r0 : BitVec 32 := 1#32
  let v17615_r0 : BitVec 32 := Scalar.addi arg23_r0 c1_i32_8450_r0
  let c2_i32_8451_r0 : BitVec 32 := 2#32
  let v17616_r0 : BitVec 32 := Scalar.muli v17615_r0 c2_i32_8451_r0
  let v17618_r0 : BitVec 32 := Scalar.subi v17616_r0 c0_i32_8453_r0
  let c1_i32_8454_r0 : BitVec 32 := 1#32
  let v17620_r0 : BitVec 32 := Scalar.divsi v17618_r0 c1_i32_8454_r0
  let v17621_r0 : BitVec 32 := Scalar.muli v17620_r0 c1_i32_8454_r0
  let v17622_r0 : BitVec 32 := Scalar.addi c0_i32_8453_r0 v17621_r0
  let c1_i32_8456_r0 : BitVec 32 := 1#32
  let arg25_r0 : BitVec 32 := Scf.iv v17622_r0 c1_i32_8456_r0 k0_t3
  let c128_i32_r0 : BitVec 32 := 128#32
  let v17632_r0 : BitVec 32 := Scalar.muli arg25_r0 c128_i32_r0
  v17632_r0
def k0_mult5 (arg21_r0 : BitVec 32) : BitVec 32 :=
  let c2_i32_8431_r0 : BitVec 32 := 2#32
  let c6_i32_8425_r0 : BitVec 32 := 6#32
  let c0_i32_8426_r0 : BitVec 32 := 0#32
  let v17582_r0 : BitVec 1 := Scalar.cmpi .eq c6_i32_8425_r0 c0_i32_8426_r0
  let c1_i32_8427_r0 : BitVec 32 := 1#32
  let v17583_r0 : BitVec 32 := Scalar.select v17582_r0 c1_i32_8427_r0 c6_i32_8425_r0
  let v17584_r0 : BitVec 32 := Scalar.remsi arg21_r0 v17583_r0
  let c0_i32_8429_r0 : BitVec 32 := 0#32
  let v17586_r0 : BitVec 1 := Scalar.cmpi .slt v17584_r0 c0_i32_8429_r0
  let c0_i32_8430_r0 : BitVec 32 := 0#32
  let v17587_r0 : BitVec 1 := Scalar.cmpi .slt v17583_r0 c0_i32_8430_r0
  let v17588_r0 : BitVec 1 := Scalar.xori v17586_r0 v17587_r0
  let c0_i32_8428_r0 : BitVec 32 := 0#32
  let v17585_r0 : BitVec 1 := Scalar.cmpi .ne v17584_r0 c0_i32_8428_r0
  let v17589_r0 : BitVec 1 := Scalar.andi v17588_r0 v17585_r0
  let v17590_r0 : BitVec 32 := Scalar.addi v17584_r0 v17583_r0
  let v17591_r0 : BitVec 32 := Scalar.select v17589_r0 v17590_r0 v17584_r0
  let v17592_r0 : BitVec 32 := Scalar.muli c2_i32_8431_r0 v17591_r0
  let c0_i32_8432_r0 : BitVec 32 := 0#32
  let v17593_r0 : BitVec 32 := Scalar.addi v17592_r0 c0_i32_8432_r0
  let c96_i32_8461_r0 : BitVec 32 := 96#32
  let v17634_r0 : BitVec 32 := Scalar.muli v17593_r0 c96_i32_8461_r0
  v17634_r0
def k0_off4 (arg21_r0 : BitVec 32) (k0_t1 : Fin k0_t1_loop.trips) : Fin 2 → Nat :=
  let c2_i32_8431_r0 : BitVec 32 := 2#32
  let c6_i32_8425_r0 : BitVec 32 := 6#32
  let c0_i32_8426_r0 : BitVec 32 := 0#32
  let v17582_r0 : BitVec 1 := Scalar.cmpi .eq c6_i32_8425_r0 c0_i32_8426_r0
  let c1_i32_8427_r0 : BitVec 32 := 1#32
  let v17583_r0 : BitVec 32 := Scalar.select v17582_r0 c1_i32_8427_r0 c6_i32_8425_r0
  let v17584_r0 : BitVec 32 := Scalar.remsi arg21_r0 v17583_r0
  let c0_i32_8429_r0 : BitVec 32 := 0#32
  let v17586_r0 : BitVec 1 := Scalar.cmpi .slt v17584_r0 c0_i32_8429_r0
  let c0_i32_8430_r0 : BitVec 32 := 0#32
  let v17587_r0 : BitVec 1 := Scalar.cmpi .slt v17583_r0 c0_i32_8430_r0
  let v17588_r0 : BitVec 1 := Scalar.xori v17586_r0 v17587_r0
  let c0_i32_8428_r0 : BitVec 32 := 0#32
  let v17585_r0 : BitVec 1 := Scalar.cmpi .ne v17584_r0 c0_i32_8428_r0
  let v17589_r0 : BitVec 1 := Scalar.andi v17588_r0 v17585_r0
  let v17590_r0 : BitVec 32 := Scalar.addi v17584_r0 v17583_r0
  let v17591_r0 : BitVec 32 := Scalar.select v17589_r0 v17590_r0 v17584_r0
  let v17592_r0 : BitVec 32 := Scalar.muli c2_i32_8431_r0 v17591_r0
  let c0_i32_8432_r0 : BitVec 32 := 0#32
  let v17593_r0 : BitVec 32 := Scalar.addi v17592_r0 c0_i32_8432_r0
  let c96_i32_8461_r0 : BitVec 32 := 96#32
  let v17634_r0 : BitVec 32 := Scalar.muli v17593_r0 c96_i32_8461_r0
  let v17635_r0 : BitVec 32 := v17634_r0
  let v17636_r0 : Index := Scalar.indexCast v17635_r0
  let c0_i32_8434_r0 : BitVec 32 := 0#32
  let c1_i32_8435_r0 : BitVec 32 := 1#32
  let arg23_r0 : BitVec 32 := Scf.iv c0_i32_8434_r0 c1_i32_8435_r0 k0_t1
  let c256_i32_r0 : BitVec 32 := 256#32
  let v17610_r0 : BitVec 32 := Scalar.muli arg23_r0 c256_i32_r0
  let v17611_r0 : BitVec 32 := v17610_r0
  let v17637_r0 : Index := Scalar.indexCast v17611_r0
  ![v17636_r0.toNat, v17637_r0.toNat]
def k0_off5 (arg21_r0 : BitVec 32) (k0_t1 : Fin k0_t1_loop.trips) (k0_t3 : Fin (k0_t3_loop k0_t1).trips) : Fin 3 → Nat :=
  let c2_i32_8431_r0 : BitVec 32 := 2#32
  let c6_i32_8425_r0 : BitVec 32 := 6#32
  let c0_i32_8426_r0 : BitVec 32 := 0#32
  let v17582_r0 : BitVec 1 := Scalar.cmpi .eq c6_i32_8425_r0 c0_i32_8426_r0
  let c1_i32_8427_r0 : BitVec 32 := 1#32
  let v17583_r0 : BitVec 32 := Scalar.select v17582_r0 c1_i32_8427_r0 c6_i32_8425_r0
  let v17584_r0 : BitVec 32 := Scalar.remsi arg21_r0 v17583_r0
  let c0_i32_8429_r0 : BitVec 32 := 0#32
  let v17586_r0 : BitVec 1 := Scalar.cmpi .slt v17584_r0 c0_i32_8429_r0
  let c0_i32_8430_r0 : BitVec 32 := 0#32
  let v17587_r0 : BitVec 1 := Scalar.cmpi .slt v17583_r0 c0_i32_8430_r0
  let v17588_r0 : BitVec 1 := Scalar.xori v17586_r0 v17587_r0
  let c0_i32_8428_r0 : BitVec 32 := 0#32
  let v17585_r0 : BitVec 1 := Scalar.cmpi .ne v17584_r0 c0_i32_8428_r0
  let v17589_r0 : BitVec 1 := Scalar.andi v17588_r0 v17585_r0
  let v17590_r0 : BitVec 32 := Scalar.addi v17584_r0 v17583_r0
  let v17591_r0 : BitVec 32 := Scalar.select v17589_r0 v17590_r0 v17584_r0
  let v17592_r0 : BitVec 32 := Scalar.muli c2_i32_8431_r0 v17591_r0
  let c0_i32_8432_r0 : BitVec 32 := 0#32
  let v17593_r0 : BitVec 32 := Scalar.addi v17592_r0 c0_i32_8432_r0
  let c0_i32_8464_r0 : BitVec 32 := 0#32
  let v17643_r0 : BitVec 1 := Scalar.cmpi .sgt v17593_r0 c0_i32_8464_r0
  let v17644_r0 : BitVec 32 := Scalar.extui v17643_r0
  let c0_i32_8465_r0 : BitVec 32 := 0#32
  let v17645_r0 : BitVec 1 := Scalar.cmpi .slt v17593_r0 c0_i32_8465_r0
  let v17646_r0 : BitVec 32 := Scalar.extui v17645_r0
  let v17647_r0 : BitVec 32 := Scalar.subi v17644_r0 v17646_r0
  let c3_i32_8463_r0 : BitVec 32 := 3#32
  let c0_i32_8466_r0 : BitVec 32 := 0#32
  let v17648_r0 : BitVec 1 := Scalar.cmpi .sgt c3_i32_8463_r0 c0_i32_8466_r0
  let v17649_r0 : BitVec 32 := Scalar.extui v17648_r0
  let c0_i32_8467_r0 : BitVec 32 := 0#32
  let v17650_r0 : BitVec 1 := Scalar.cmpi .slt c3_i32_8463_r0 c0_i32_8467_r0
  let v17651_r0 : BitVec 32 := Scalar.extui v17650_r0
  let v17652_r0 : BitVec 32 := Scalar.subi v17649_r0 v17651_r0
  let v17653_r0 : BitVec 1 := Scalar.cmpi .ne v17647_r0 v17652_r0
  let v17654_r0 : BitVec 32 := Scalar.remsi v17593_r0 c3_i32_8463_r0
  let c0_i32_8468_r0 : BitVec 32 := 0#32
  let v17655_r0 : BitVec 1 := Scalar.cmpi .ne v17654_r0 c0_i32_8468_r0
  let v17656_r0 : BitVec 1 := Scalar.andi v17653_r0 v17655_r0
  let v17642_r0 : BitVec 32 := Scalar.divsi v17593_r0 c3_i32_8463_r0
  let c1_i32_8469_r0 : BitVec 32 := 1#32
  let v17657_r0 : BitVec 32 := Scalar.subi v17642_r0 c1_i32_8469_r0
  let v17658_r0 : BitVec 32 := Scalar.select v17656_r0 v17657_r0 v17642_r0
  let v17659_r0 : Index := Scalar.indexCast v17658_r0
  let c0_i32_8453_r0 : BitVec 32 := 0#32
  let c0_i32_8434_r0 : BitVec 32 := 0#32
  let c1_i32_8435_r0 : BitVec 32 := 1#32
  let arg23_r0 : BitVec 32 := Scf.iv c0_i32_8434_r0 c1_i32_8435_r0 k0_t1
  let c1_i32_8450_r0 : BitVec 32 := 1#32
  let v17615_r0 : BitVec 32 := Scalar.addi arg23_r0 c1_i32_8450_r0
  let c2_i32_8451_r0 : BitVec 32 := 2#32
  let v17616_r0 : BitVec 32 := Scalar.muli v17615_r0 c2_i32_8451_r0
  let v17618_r0 : BitVec 32 := Scalar.subi v17616_r0 c0_i32_8453_r0
  let c1_i32_8454_r0 : BitVec 32 := 1#32
  let v17620_r0 : BitVec 32 := Scalar.divsi v17618_r0 c1_i32_8454_r0
  let v17621_r0 : BitVec 32 := Scalar.muli v17620_r0 c1_i32_8454_r0
  let v17622_r0 : BitVec 32 := Scalar.addi c0_i32_8453_r0 v17621_r0
  let c1_i32_8456_r0 : BitVec 32 := 1#32
  let arg25_r0 : BitVec 32 := Scf.iv v17622_r0 c1_i32_8456_r0 k0_t3
  let c128_i32_r0 : BitVec 32 := 128#32
  let v17632_r0 : BitVec 32 := Scalar.muli arg25_r0 c128_i32_r0
  let v17633_r0 : BitVec 32 := v17632_r0
  let v17660_r0 : Index := Scalar.indexCast v17633_r0
  let c0_8470_r0 : Index := 0#32
  ![v17659_r0.toNat, v17660_r0.toNat, 0]
def k0_off6 (k0_t1 : Fin k0_t1_loop.trips) : Fin 2 → Nat :=
  let c0_i32_8458_r0 : BitVec 32 := 0#32
  let c0_i32_8434_r0 : BitVec 32 := 0#32
  let c1_i32_8435_r0 : BitVec 32 := 1#32
  let arg23_r0 : BitVec 32 := Scf.iv c0_i32_8434_r0 c1_i32_8435_r0 k0_t1
  let v17627_r0 : BitVec 32 := Scalar.addi c0_i32_8458_r0 arg23_r0
  let v17628_r0 : Index := Scalar.indexCast v17627_r0
  let c0_8459_r0 : Index := 0#32
  ![v17628_r0.toNat, 0]
@[reducible] def k0_t4_loop : Scf.Loop 32 :=
  let c0_i32_8446_r0 : BitVec 32 := 0#32
  let c8_i32_8447_r0 : BitVec 32 := 8#32
  let v17608_r0 : BitVec 32 := Scalar.addi c0_i32_8446_r0 c8_i32_8447_r0
  let c1_i32_8448_r0 : BitVec 32 := 1#32
  ⟨c0_i32_8446_r0, v17608_r0, c1_i32_8448_r0⟩
def k0_mult6 (k0_t4 : Fin k0_t4_loop.trips) : BitVec 32 :=
  let c0_i32_8446_r0 : BitVec 32 := 0#32
  let c1_i32_8448_r0 : BitVec 32 := 1#32
  let arg23_r0 : BitVec 32 := Scf.iv c0_i32_8446_r0 c1_i32_8448_r0 k0_t4
  let c256_i32_r0 : BitVec 32 := 256#32
  let v17610_r0 : BitVec 32 := Scalar.muli arg23_r0 c256_i32_r0
  v17610_r0
def k0_off7 (arg21_r0 : BitVec 32) (k0_t4 : Fin k0_t4_loop.trips) : Fin 2 → Nat :=
  let c2_i32_8443_r0 : BitVec 32 := 2#32
  let c6_i32_8437_r0 : BitVec 32 := 6#32
  let c0_i32_8438_r0 : BitVec 32 := 0#32
  let v17596_r0 : BitVec 1 := Scalar.cmpi .eq c6_i32_8437_r0 c0_i32_8438_r0
  let c1_i32_8439_r0 : BitVec 32 := 1#32
  let v17597_r0 : BitVec 32 := Scalar.select v17596_r0 c1_i32_8439_r0 c6_i32_8437_r0
  let v17598_r0 : BitVec 32 := Scalar.remsi arg21_r0 v17597_r0
  let c0_i32_8441_r0 : BitVec 32 := 0#32
  let v17600_r0 : BitVec 1 := Scalar.cmpi .slt v17598_r0 c0_i32_8441_r0
  let c0_i32_8442_r0 : BitVec 32 := 0#32
  let v17601_r0 : BitVec 1 := Scalar.cmpi .slt v17597_r0 c0_i32_8442_r0
  let v17602_r0 : BitVec 1 := Scalar.xori v17600_r0 v17601_r0
  let c0_i32_8440_r0 : BitVec 32 := 0#32
  let v17599_r0 : BitVec 1 := Scalar.cmpi .ne v17598_r0 c0_i32_8440_r0
  let v17603_r0 : BitVec 1 := Scalar.andi v17602_r0 v17599_r0
  let v17604_r0 : BitVec 32 := Scalar.addi v17598_r0 v17597_r0
  let v17605_r0 : BitVec 32 := Scalar.select v17603_r0 v17604_r0 v17598_r0
  let v17606_r0 : BitVec 32 := Scalar.muli c2_i32_8443_r0 v17605_r0
  let c1_i32_8444_r0 : BitVec 32 := 1#32
  let v17607_r0 : BitVec 32 := Scalar.addi v17606_r0 c1_i32_8444_r0
  let v17612_r0 : Index := Scalar.indexCast v17607_r0
  let c0_i32_8446_r0 : BitVec 32 := 0#32
  let c1_i32_8448_r0 : BitVec 32 := 1#32
  let arg23_r0 : BitVec 32 := Scf.iv c0_i32_8446_r0 c1_i32_8448_r0 k0_t4
  let c256_i32_r0 : BitVec 32 := 256#32
  let v17610_r0 : BitVec 32 := Scalar.muli arg23_r0 c256_i32_r0
  let v17611_r0 : BitVec 32 := v17610_r0
  let v17613_r0 : Index := Scalar.indexCast v17611_r0
  ![v17612_r0.toNat, v17613_r0.toNat]
@[reducible] def k0_t5_loop (k0_t4 : Fin k0_t4_loop.trips) : Scf.Loop 32 :=
  let c0_i32_8453_r0 : BitVec 32 := 0#32
  let c0_i32_8446_r0 : BitVec 32 := 0#32
  let c1_i32_8448_r0 : BitVec 32 := 1#32
  let arg23_r0 : BitVec 32 := Scf.iv c0_i32_8446_r0 c1_i32_8448_r0 k0_t4
  let c1_i32_8450_r0 : BitVec 32 := 1#32
  let v17615_r0 : BitVec 32 := Scalar.addi arg23_r0 c1_i32_8450_r0
  let c2_i32_8451_r0 : BitVec 32 := 2#32
  let v17616_r0 : BitVec 32 := Scalar.muli v17615_r0 c2_i32_8451_r0
  let v17618_r0 : BitVec 32 := Scalar.subi v17616_r0 c0_i32_8453_r0
  let c1_i32_8454_r0 : BitVec 32 := 1#32
  let v17620_r0 : BitVec 32 := Scalar.divsi v17618_r0 c1_i32_8454_r0
  let v17621_r0 : BitVec 32 := Scalar.muli v17620_r0 c1_i32_8454_r0
  let v17622_r0 : BitVec 32 := Scalar.addi c0_i32_8453_r0 v17621_r0
  let c1_i32_8455_r0 : BitVec 32 := 1#32
  ⟨c0_i32_8453_r0, v17622_r0, c1_i32_8455_r0⟩
def k0_mult7 (k0_t4 : Fin k0_t4_loop.trips) (k0_t5 : Fin (k0_t5_loop k0_t4).trips) : BitVec 32 :=
  let c0_i32_8453_r0 : BitVec 32 := 0#32
  let c1_i32_8455_r0 : BitVec 32 := 1#32
  let arg25_r0 : BitVec 32 := Scf.iv c0_i32_8453_r0 c1_i32_8455_r0 k0_t5
  let c128_i32_r0 : BitVec 32 := 128#32
  let v17632_r0 : BitVec 32 := Scalar.muli arg25_r0 c128_i32_r0
  v17632_r0
def k0_mult8 (arg21_r0 : BitVec 32) : BitVec 32 :=
  let c2_i32_8443_r0 : BitVec 32 := 2#32
  let c6_i32_8437_r0 : BitVec 32 := 6#32
  let c0_i32_8438_r0 : BitVec 32 := 0#32
  let v17596_r0 : BitVec 1 := Scalar.cmpi .eq c6_i32_8437_r0 c0_i32_8438_r0
  let c1_i32_8439_r0 : BitVec 32 := 1#32
  let v17597_r0 : BitVec 32 := Scalar.select v17596_r0 c1_i32_8439_r0 c6_i32_8437_r0
  let v17598_r0 : BitVec 32 := Scalar.remsi arg21_r0 v17597_r0
  let c0_i32_8441_r0 : BitVec 32 := 0#32
  let v17600_r0 : BitVec 1 := Scalar.cmpi .slt v17598_r0 c0_i32_8441_r0
  let c0_i32_8442_r0 : BitVec 32 := 0#32
  let v17601_r0 : BitVec 1 := Scalar.cmpi .slt v17597_r0 c0_i32_8442_r0
  let v17602_r0 : BitVec 1 := Scalar.xori v17600_r0 v17601_r0
  let c0_i32_8440_r0 : BitVec 32 := 0#32
  let v17599_r0 : BitVec 1 := Scalar.cmpi .ne v17598_r0 c0_i32_8440_r0
  let v17603_r0 : BitVec 1 := Scalar.andi v17602_r0 v17599_r0
  let v17604_r0 : BitVec 32 := Scalar.addi v17598_r0 v17597_r0
  let v17605_r0 : BitVec 32 := Scalar.select v17603_r0 v17604_r0 v17598_r0
  let v17606_r0 : BitVec 32 := Scalar.muli c2_i32_8443_r0 v17605_r0
  let c1_i32_8444_r0 : BitVec 32 := 1#32
  let v17607_r0 : BitVec 32 := Scalar.addi v17606_r0 c1_i32_8444_r0
  let c96_i32_8461_r0 : BitVec 32 := 96#32
  let v17634_r0 : BitVec 32 := Scalar.muli v17607_r0 c96_i32_8461_r0
  v17634_r0
def k0_off8 (arg21_r0 : BitVec 32) (k0_t4 : Fin k0_t4_loop.trips) : Fin 2 → Nat :=
  let c2_i32_8443_r0 : BitVec 32 := 2#32
  let c6_i32_8437_r0 : BitVec 32 := 6#32
  let c0_i32_8438_r0 : BitVec 32 := 0#32
  let v17596_r0 : BitVec 1 := Scalar.cmpi .eq c6_i32_8437_r0 c0_i32_8438_r0
  let c1_i32_8439_r0 : BitVec 32 := 1#32
  let v17597_r0 : BitVec 32 := Scalar.select v17596_r0 c1_i32_8439_r0 c6_i32_8437_r0
  let v17598_r0 : BitVec 32 := Scalar.remsi arg21_r0 v17597_r0
  let c0_i32_8441_r0 : BitVec 32 := 0#32
  let v17600_r0 : BitVec 1 := Scalar.cmpi .slt v17598_r0 c0_i32_8441_r0
  let c0_i32_8442_r0 : BitVec 32 := 0#32
  let v17601_r0 : BitVec 1 := Scalar.cmpi .slt v17597_r0 c0_i32_8442_r0
  let v17602_r0 : BitVec 1 := Scalar.xori v17600_r0 v17601_r0
  let c0_i32_8440_r0 : BitVec 32 := 0#32
  let v17599_r0 : BitVec 1 := Scalar.cmpi .ne v17598_r0 c0_i32_8440_r0
  let v17603_r0 : BitVec 1 := Scalar.andi v17602_r0 v17599_r0
  let v17604_r0 : BitVec 32 := Scalar.addi v17598_r0 v17597_r0
  let v17605_r0 : BitVec 32 := Scalar.select v17603_r0 v17604_r0 v17598_r0
  let v17606_r0 : BitVec 32 := Scalar.muli c2_i32_8443_r0 v17605_r0
  let c1_i32_8444_r0 : BitVec 32 := 1#32
  let v17607_r0 : BitVec 32 := Scalar.addi v17606_r0 c1_i32_8444_r0
  let c96_i32_8461_r0 : BitVec 32 := 96#32
  let v17634_r0 : BitVec 32 := Scalar.muli v17607_r0 c96_i32_8461_r0
  let v17635_r0 : BitVec 32 := v17634_r0
  let v17636_r0 : Index := Scalar.indexCast v17635_r0
  let c0_i32_8446_r0 : BitVec 32 := 0#32
  let c1_i32_8448_r0 : BitVec 32 := 1#32
  let arg23_r0 : BitVec 32 := Scf.iv c0_i32_8446_r0 c1_i32_8448_r0 k0_t4
  let c256_i32_r0 : BitVec 32 := 256#32
  let v17610_r0 : BitVec 32 := Scalar.muli arg23_r0 c256_i32_r0
  let v17611_r0 : BitVec 32 := v17610_r0
  let v17637_r0 : Index := Scalar.indexCast v17611_r0
  ![v17636_r0.toNat, v17637_r0.toNat]
def k0_off9 (arg21_r0 : BitVec 32) (k0_t4 : Fin k0_t4_loop.trips) (k0_t5 : Fin (k0_t5_loop k0_t4).trips) : Fin 3 → Nat :=
  let c2_i32_8443_r0 : BitVec 32 := 2#32
  let c6_i32_8437_r0 : BitVec 32 := 6#32
  let c0_i32_8438_r0 : BitVec 32 := 0#32
  let v17596_r0 : BitVec 1 := Scalar.cmpi .eq c6_i32_8437_r0 c0_i32_8438_r0
  let c1_i32_8439_r0 : BitVec 32 := 1#32
  let v17597_r0 : BitVec 32 := Scalar.select v17596_r0 c1_i32_8439_r0 c6_i32_8437_r0
  let v17598_r0 : BitVec 32 := Scalar.remsi arg21_r0 v17597_r0
  let c0_i32_8441_r0 : BitVec 32 := 0#32
  let v17600_r0 : BitVec 1 := Scalar.cmpi .slt v17598_r0 c0_i32_8441_r0
  let c0_i32_8442_r0 : BitVec 32 := 0#32
  let v17601_r0 : BitVec 1 := Scalar.cmpi .slt v17597_r0 c0_i32_8442_r0
  let v17602_r0 : BitVec 1 := Scalar.xori v17600_r0 v17601_r0
  let c0_i32_8440_r0 : BitVec 32 := 0#32
  let v17599_r0 : BitVec 1 := Scalar.cmpi .ne v17598_r0 c0_i32_8440_r0
  let v17603_r0 : BitVec 1 := Scalar.andi v17602_r0 v17599_r0
  let v17604_r0 : BitVec 32 := Scalar.addi v17598_r0 v17597_r0
  let v17605_r0 : BitVec 32 := Scalar.select v17603_r0 v17604_r0 v17598_r0
  let v17606_r0 : BitVec 32 := Scalar.muli c2_i32_8443_r0 v17605_r0
  let c1_i32_8444_r0 : BitVec 32 := 1#32
  let v17607_r0 : BitVec 32 := Scalar.addi v17606_r0 c1_i32_8444_r0
  let c0_i32_8464_r0 : BitVec 32 := 0#32
  let v17643_r0 : BitVec 1 := Scalar.cmpi .sgt v17607_r0 c0_i32_8464_r0
  let v17644_r0 : BitVec 32 := Scalar.extui v17643_r0
  let c0_i32_8465_r0 : BitVec 32 := 0#32
  let v17645_r0 : BitVec 1 := Scalar.cmpi .slt v17607_r0 c0_i32_8465_r0
  let v17646_r0 : BitVec 32 := Scalar.extui v17645_r0
  let v17647_r0 : BitVec 32 := Scalar.subi v17644_r0 v17646_r0
  let c3_i32_8463_r0 : BitVec 32 := 3#32
  let c0_i32_8466_r0 : BitVec 32 := 0#32
  let v17648_r0 : BitVec 1 := Scalar.cmpi .sgt c3_i32_8463_r0 c0_i32_8466_r0
  let v17649_r0 : BitVec 32 := Scalar.extui v17648_r0
  let c0_i32_8467_r0 : BitVec 32 := 0#32
  let v17650_r0 : BitVec 1 := Scalar.cmpi .slt c3_i32_8463_r0 c0_i32_8467_r0
  let v17651_r0 : BitVec 32 := Scalar.extui v17650_r0
  let v17652_r0 : BitVec 32 := Scalar.subi v17649_r0 v17651_r0
  let v17653_r0 : BitVec 1 := Scalar.cmpi .ne v17647_r0 v17652_r0
  let v17654_r0 : BitVec 32 := Scalar.remsi v17607_r0 c3_i32_8463_r0
  let c0_i32_8468_r0 : BitVec 32 := 0#32
  let v17655_r0 : BitVec 1 := Scalar.cmpi .ne v17654_r0 c0_i32_8468_r0
  let v17656_r0 : BitVec 1 := Scalar.andi v17653_r0 v17655_r0
  let v17642_r0 : BitVec 32 := Scalar.divsi v17607_r0 c3_i32_8463_r0
  let c1_i32_8469_r0 : BitVec 32 := 1#32
  let v17657_r0 : BitVec 32 := Scalar.subi v17642_r0 c1_i32_8469_r0
  let v17658_r0 : BitVec 32 := Scalar.select v17656_r0 v17657_r0 v17642_r0
  let v17659_r0 : Index := Scalar.indexCast v17658_r0
  let c0_i32_8453_r0 : BitVec 32 := 0#32
  let c1_i32_8455_r0 : BitVec 32 := 1#32
  let arg25_r0 : BitVec 32 := Scf.iv c0_i32_8453_r0 c1_i32_8455_r0 k0_t5
  let c128_i32_r0 : BitVec 32 := 128#32
  let v17632_r0 : BitVec 32 := Scalar.muli arg25_r0 c128_i32_r0
  let v17633_r0 : BitVec 32 := v17632_r0
  let v17660_r0 : Index := Scalar.indexCast v17633_r0
  let c0_8470_r0 : Index := 0#32
  ![v17659_r0.toNat, v17660_r0.toNat, 0]
@[reducible] def k0_t6_loop (k0_t4 : Fin k0_t4_loop.trips) : Scf.Loop 32 :=
  let c0_i32_8453_r0 : BitVec 32 := 0#32
  let c0_i32_8446_r0 : BitVec 32 := 0#32
  let c1_i32_8448_r0 : BitVec 32 := 1#32
  let arg23_r0 : BitVec 32 := Scf.iv c0_i32_8446_r0 c1_i32_8448_r0 k0_t4
  let c1_i32_8450_r0 : BitVec 32 := 1#32
  let v17615_r0 : BitVec 32 := Scalar.addi arg23_r0 c1_i32_8450_r0
  let c2_i32_8451_r0 : BitVec 32 := 2#32
  let v17616_r0 : BitVec 32 := Scalar.muli v17615_r0 c2_i32_8451_r0
  let v17618_r0 : BitVec 32 := Scalar.subi v17616_r0 c0_i32_8453_r0
  let c1_i32_8454_r0 : BitVec 32 := 1#32
  let v17620_r0 : BitVec 32 := Scalar.divsi v17618_r0 c1_i32_8454_r0
  let v17621_r0 : BitVec 32 := Scalar.muli v17620_r0 c1_i32_8454_r0
  let v17622_r0 : BitVec 32 := Scalar.addi c0_i32_8453_r0 v17621_r0
  let v17619_r0 : BitVec 32 := Scalar.addi c0_i32_8453_r0 v17618_r0
  let c1_i32_8456_r0 : BitVec 32 := 1#32
  ⟨v17622_r0, v17619_r0, c1_i32_8456_r0⟩
def k0_mult9 (k0_t4 : Fin k0_t4_loop.trips) (k0_t6 : Fin (k0_t6_loop k0_t4).trips) : BitVec 32 :=
  let c0_i32_8453_r0 : BitVec 32 := 0#32
  let c0_i32_8446_r0 : BitVec 32 := 0#32
  let c1_i32_8448_r0 : BitVec 32 := 1#32
  let arg23_r0 : BitVec 32 := Scf.iv c0_i32_8446_r0 c1_i32_8448_r0 k0_t4
  let c1_i32_8450_r0 : BitVec 32 := 1#32
  let v17615_r0 : BitVec 32 := Scalar.addi arg23_r0 c1_i32_8450_r0
  let c2_i32_8451_r0 : BitVec 32 := 2#32
  let v17616_r0 : BitVec 32 := Scalar.muli v17615_r0 c2_i32_8451_r0
  let v17618_r0 : BitVec 32 := Scalar.subi v17616_r0 c0_i32_8453_r0
  let c1_i32_8454_r0 : BitVec 32 := 1#32
  let v17620_r0 : BitVec 32 := Scalar.divsi v17618_r0 c1_i32_8454_r0
  let v17621_r0 : BitVec 32 := Scalar.muli v17620_r0 c1_i32_8454_r0
  let v17622_r0 : BitVec 32 := Scalar.addi c0_i32_8453_r0 v17621_r0
  let c1_i32_8456_r0 : BitVec 32 := 1#32
  let arg25_r0 : BitVec 32 := Scf.iv v17622_r0 c1_i32_8456_r0 k0_t6
  let c128_i32_r0 : BitVec 32 := 128#32
  let v17632_r0 : BitVec 32 := Scalar.muli arg25_r0 c128_i32_r0
  v17632_r0
def k0_mult10 (arg21_r0 : BitVec 32) : BitVec 32 :=
  let c2_i32_8443_r0 : BitVec 32 := 2#32
  let c6_i32_8437_r0 : BitVec 32 := 6#32
  let c0_i32_8438_r0 : BitVec 32 := 0#32
  let v17596_r0 : BitVec 1 := Scalar.cmpi .eq c6_i32_8437_r0 c0_i32_8438_r0
  let c1_i32_8439_r0 : BitVec 32 := 1#32
  let v17597_r0 : BitVec 32 := Scalar.select v17596_r0 c1_i32_8439_r0 c6_i32_8437_r0
  let v17598_r0 : BitVec 32 := Scalar.remsi arg21_r0 v17597_r0
  let c0_i32_8441_r0 : BitVec 32 := 0#32
  let v17600_r0 : BitVec 1 := Scalar.cmpi .slt v17598_r0 c0_i32_8441_r0
  let c0_i32_8442_r0 : BitVec 32 := 0#32
  let v17601_r0 : BitVec 1 := Scalar.cmpi .slt v17597_r0 c0_i32_8442_r0
  let v17602_r0 : BitVec 1 := Scalar.xori v17600_r0 v17601_r0
  let c0_i32_8440_r0 : BitVec 32 := 0#32
  let v17599_r0 : BitVec 1 := Scalar.cmpi .ne v17598_r0 c0_i32_8440_r0
  let v17603_r0 : BitVec 1 := Scalar.andi v17602_r0 v17599_r0
  let v17604_r0 : BitVec 32 := Scalar.addi v17598_r0 v17597_r0
  let v17605_r0 : BitVec 32 := Scalar.select v17603_r0 v17604_r0 v17598_r0
  let v17606_r0 : BitVec 32 := Scalar.muli c2_i32_8443_r0 v17605_r0
  let c1_i32_8444_r0 : BitVec 32 := 1#32
  let v17607_r0 : BitVec 32 := Scalar.addi v17606_r0 c1_i32_8444_r0
  let c96_i32_8461_r0 : BitVec 32 := 96#32
  let v17634_r0 : BitVec 32 := Scalar.muli v17607_r0 c96_i32_8461_r0
  v17634_r0
def k0_off10 (arg21_r0 : BitVec 32) (k0_t4 : Fin k0_t4_loop.trips) : Fin 2 → Nat :=
  let c2_i32_8443_r0 : BitVec 32 := 2#32
  let c6_i32_8437_r0 : BitVec 32 := 6#32
  let c0_i32_8438_r0 : BitVec 32 := 0#32
  let v17596_r0 : BitVec 1 := Scalar.cmpi .eq c6_i32_8437_r0 c0_i32_8438_r0
  let c1_i32_8439_r0 : BitVec 32 := 1#32
  let v17597_r0 : BitVec 32 := Scalar.select v17596_r0 c1_i32_8439_r0 c6_i32_8437_r0
  let v17598_r0 : BitVec 32 := Scalar.remsi arg21_r0 v17597_r0
  let c0_i32_8441_r0 : BitVec 32 := 0#32
  let v17600_r0 : BitVec 1 := Scalar.cmpi .slt v17598_r0 c0_i32_8441_r0
  let c0_i32_8442_r0 : BitVec 32 := 0#32
  let v17601_r0 : BitVec 1 := Scalar.cmpi .slt v17597_r0 c0_i32_8442_r0
  let v17602_r0 : BitVec 1 := Scalar.xori v17600_r0 v17601_r0
  let c0_i32_8440_r0 : BitVec 32 := 0#32
  let v17599_r0 : BitVec 1 := Scalar.cmpi .ne v17598_r0 c0_i32_8440_r0
  let v17603_r0 : BitVec 1 := Scalar.andi v17602_r0 v17599_r0
  let v17604_r0 : BitVec 32 := Scalar.addi v17598_r0 v17597_r0
  let v17605_r0 : BitVec 32 := Scalar.select v17603_r0 v17604_r0 v17598_r0
  let v17606_r0 : BitVec 32 := Scalar.muli c2_i32_8443_r0 v17605_r0
  let c1_i32_8444_r0 : BitVec 32 := 1#32
  let v17607_r0 : BitVec 32 := Scalar.addi v17606_r0 c1_i32_8444_r0
  let c96_i32_8461_r0 : BitVec 32 := 96#32
  let v17634_r0 : BitVec 32 := Scalar.muli v17607_r0 c96_i32_8461_r0
  let v17635_r0 : BitVec 32 := v17634_r0
  let v17636_r0 : Index := Scalar.indexCast v17635_r0
  let c0_i32_8446_r0 : BitVec 32 := 0#32
  let c1_i32_8448_r0 : BitVec 32 := 1#32
  let arg23_r0 : BitVec 32 := Scf.iv c0_i32_8446_r0 c1_i32_8448_r0 k0_t4
  let c256_i32_r0 : BitVec 32 := 256#32
  let v17610_r0 : BitVec 32 := Scalar.muli arg23_r0 c256_i32_r0
  let v17611_r0 : BitVec 32 := v17610_r0
  let v17637_r0 : Index := Scalar.indexCast v17611_r0
  ![v17636_r0.toNat, v17637_r0.toNat]
def k0_off11 (arg21_r0 : BitVec 32) (k0_t4 : Fin k0_t4_loop.trips) (k0_t6 : Fin (k0_t6_loop k0_t4).trips) : Fin 3 → Nat :=
  let c2_i32_8443_r0 : BitVec 32 := 2#32
  let c6_i32_8437_r0 : BitVec 32 := 6#32
  let c0_i32_8438_r0 : BitVec 32 := 0#32
  let v17596_r0 : BitVec 1 := Scalar.cmpi .eq c6_i32_8437_r0 c0_i32_8438_r0
  let c1_i32_8439_r0 : BitVec 32 := 1#32
  let v17597_r0 : BitVec 32 := Scalar.select v17596_r0 c1_i32_8439_r0 c6_i32_8437_r0
  let v17598_r0 : BitVec 32 := Scalar.remsi arg21_r0 v17597_r0
  let c0_i32_8441_r0 : BitVec 32 := 0#32
  let v17600_r0 : BitVec 1 := Scalar.cmpi .slt v17598_r0 c0_i32_8441_r0
  let c0_i32_8442_r0 : BitVec 32 := 0#32
  let v17601_r0 : BitVec 1 := Scalar.cmpi .slt v17597_r0 c0_i32_8442_r0
  let v17602_r0 : BitVec 1 := Scalar.xori v17600_r0 v17601_r0
  let c0_i32_8440_r0 : BitVec 32 := 0#32
  let v17599_r0 : BitVec 1 := Scalar.cmpi .ne v17598_r0 c0_i32_8440_r0
  let v17603_r0 : BitVec 1 := Scalar.andi v17602_r0 v17599_r0
  let v17604_r0 : BitVec 32 := Scalar.addi v17598_r0 v17597_r0
  let v17605_r0 : BitVec 32 := Scalar.select v17603_r0 v17604_r0 v17598_r0
  let v17606_r0 : BitVec 32 := Scalar.muli c2_i32_8443_r0 v17605_r0
  let c1_i32_8444_r0 : BitVec 32 := 1#32
  let v17607_r0 : BitVec 32 := Scalar.addi v17606_r0 c1_i32_8444_r0
  let c0_i32_8464_r0 : BitVec 32 := 0#32
  let v17643_r0 : BitVec 1 := Scalar.cmpi .sgt v17607_r0 c0_i32_8464_r0
  let v17644_r0 : BitVec 32 := Scalar.extui v17643_r0
  let c0_i32_8465_r0 : BitVec 32 := 0#32
  let v17645_r0 : BitVec 1 := Scalar.cmpi .slt v17607_r0 c0_i32_8465_r0
  let v17646_r0 : BitVec 32 := Scalar.extui v17645_r0
  let v17647_r0 : BitVec 32 := Scalar.subi v17644_r0 v17646_r0
  let c3_i32_8463_r0 : BitVec 32 := 3#32
  let c0_i32_8466_r0 : BitVec 32 := 0#32
  let v17648_r0 : BitVec 1 := Scalar.cmpi .sgt c3_i32_8463_r0 c0_i32_8466_r0
  let v17649_r0 : BitVec 32 := Scalar.extui v17648_r0
  let c0_i32_8467_r0 : BitVec 32 := 0#32
  let v17650_r0 : BitVec 1 := Scalar.cmpi .slt c3_i32_8463_r0 c0_i32_8467_r0
  let v17651_r0 : BitVec 32 := Scalar.extui v17650_r0
  let v17652_r0 : BitVec 32 := Scalar.subi v17649_r0 v17651_r0
  let v17653_r0 : BitVec 1 := Scalar.cmpi .ne v17647_r0 v17652_r0
  let v17654_r0 : BitVec 32 := Scalar.remsi v17607_r0 c3_i32_8463_r0
  let c0_i32_8468_r0 : BitVec 32 := 0#32
  let v17655_r0 : BitVec 1 := Scalar.cmpi .ne v17654_r0 c0_i32_8468_r0
  let v17656_r0 : BitVec 1 := Scalar.andi v17653_r0 v17655_r0
  let v17642_r0 : BitVec 32 := Scalar.divsi v17607_r0 c3_i32_8463_r0
  let c1_i32_8469_r0 : BitVec 32 := 1#32
  let v17657_r0 : BitVec 32 := Scalar.subi v17642_r0 c1_i32_8469_r0
  let v17658_r0 : BitVec 32 := Scalar.select v17656_r0 v17657_r0 v17642_r0
  let v17659_r0 : Index := Scalar.indexCast v17658_r0
  let c0_i32_8453_r0 : BitVec 32 := 0#32
  let c0_i32_8446_r0 : BitVec 32 := 0#32
  let c1_i32_8448_r0 : BitVec 32 := 1#32
  let arg23_r0 : BitVec 32 := Scf.iv c0_i32_8446_r0 c1_i32_8448_r0 k0_t4
  let c1_i32_8450_r0 : BitVec 32 := 1#32
  let v17615_r0 : BitVec 32 := Scalar.addi arg23_r0 c1_i32_8450_r0
  let c2_i32_8451_r0 : BitVec 32 := 2#32
  let v17616_r0 : BitVec 32 := Scalar.muli v17615_r0 c2_i32_8451_r0
  let v17618_r0 : BitVec 32 := Scalar.subi v17616_r0 c0_i32_8453_r0
  let c1_i32_8454_r0 : BitVec 32 := 1#32
  let v17620_r0 : BitVec 32 := Scalar.divsi v17618_r0 c1_i32_8454_r0
  let v17621_r0 : BitVec 32 := Scalar.muli v17620_r0 c1_i32_8454_r0
  let v17622_r0 : BitVec 32 := Scalar.addi c0_i32_8453_r0 v17621_r0
  let c1_i32_8456_r0 : BitVec 32 := 1#32
  let arg25_r0 : BitVec 32 := Scf.iv v17622_r0 c1_i32_8456_r0 k0_t6
  let c128_i32_r0 : BitVec 32 := 128#32
  let v17632_r0 : BitVec 32 := Scalar.muli arg25_r0 c128_i32_r0
  let v17633_r0 : BitVec 32 := v17632_r0
  let v17660_r0 : Index := Scalar.indexCast v17633_r0
  let c0_8470_r0 : Index := 0#32
  ![v17659_r0.toNat, v17660_r0.toNat, 0]
def k0_off12 (k0_t4 : Fin k0_t4_loop.trips) : Fin 2 → Nat :=
  let c8_i32_8458_r0 : BitVec 32 := 8#32
  let c0_i32_8446_r0 : BitVec 32 := 0#32
  let c1_i32_8448_r0 : BitVec 32 := 1#32
  let arg23_r0 : BitVec 32 := Scf.iv c0_i32_8446_r0 c1_i32_8448_r0 k0_t4
  let v17627_r0 : BitVec 32 := Scalar.addi c8_i32_8458_r0 arg23_r0
  let v17628_r0 : Index := Scalar.indexCast v17627_r0
  let c0_8459_r0 : Index := 0#32
  ![v17628_r0.toNat, 0]
def k0_mult11 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_r0 : BitVec 32 := 96#32
  let v729_r0 : BitVec 32 := Scalar.muli v716_r0 c96_i32_r0
  v729_r0
def k0_off13 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_r0 : BitVec 32 := 96#32
  let v729_r0 : BitVec 32 := Scalar.muli v716_r0 c96_i32_r0
  let v730_r0 : BitVec 32 := v729_r0
  let v731_r0 : Index := Scalar.indexCast v730_r0
  let c0_556_r0 : Index := 0#32
  ![v731_r0.toNat, 0]
def k0_off14 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_558_r0 : BitVec 32 := 0#32
  let v737_r0 : BitVec 1 := Scalar.cmpi .sgt v716_r0 c0_i32_558_r0
  let v738_r0 : BitVec 32 := Scalar.extui v737_r0
  let c0_i32_559_r0 : BitVec 32 := 0#32
  let v739_r0 : BitVec 1 := Scalar.cmpi .slt v716_r0 c0_i32_559_r0
  let v740_r0 : BitVec 32 := Scalar.extui v739_r0
  let v741_r0 : BitVec 32 := Scalar.subi v738_r0 v740_r0
  let c3_i32_r0 : BitVec 32 := 3#32
  let c0_i32_560_r0 : BitVec 32 := 0#32
  let v742_r0 : BitVec 1 := Scalar.cmpi .sgt c3_i32_r0 c0_i32_560_r0
  let v743_r0 : BitVec 32 := Scalar.extui v742_r0
  let c0_i32_561_r0 : BitVec 32 := 0#32
  let v744_r0 : BitVec 1 := Scalar.cmpi .slt c3_i32_r0 c0_i32_561_r0
  let v745_r0 : BitVec 32 := Scalar.extui v744_r0
  let v746_r0 : BitVec 32 := Scalar.subi v743_r0 v745_r0
  let v747_r0 : BitVec 1 := Scalar.cmpi .ne v741_r0 v746_r0
  let v748_r0 : BitVec 32 := Scalar.remsi v716_r0 c3_i32_r0
  let c0_i32_562_r0 : BitVec 32 := 0#32
  let v749_r0 : BitVec 1 := Scalar.cmpi .ne v748_r0 c0_i32_562_r0
  let v750_r0 : BitVec 1 := Scalar.andi v747_r0 v749_r0
  let v736_r0 : BitVec 32 := Scalar.divsi v716_r0 c3_i32_r0
  let c1_i32_563_r0 : BitVec 32 := 1#32
  let v751_r0 : BitVec 32 := Scalar.subi v736_r0 c1_i32_563_r0
  let v752_r0 : BitVec 32 := Scalar.select v750_r0 v751_r0 v736_r0
  let v753_r0 : Index := Scalar.indexCast v752_r0
  let c0_564_r0 : Index := 0#32
  let c0_565_r0 : Index := 0#32
  ![v753_r0.toNat, 0, 0]
def k0_off15 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_568_r0 : BitVec 32 := 0#32
  let v760_r0 : BitVec 1 := Scalar.cmpi .sgt v716_r0 c0_i32_568_r0
  let v761_r0 : BitVec 32 := Scalar.extui v760_r0
  let c0_i32_569_r0 : BitVec 32 := 0#32
  let v762_r0 : BitVec 1 := Scalar.cmpi .slt v716_r0 c0_i32_569_r0
  let v763_r0 : BitVec 32 := Scalar.extui v762_r0
  let v764_r0 : BitVec 32 := Scalar.subi v761_r0 v763_r0
  let c3_i32_567_r0 : BitVec 32 := 3#32
  let c0_i32_570_r0 : BitVec 32 := 0#32
  let v765_r0 : BitVec 1 := Scalar.cmpi .sgt c3_i32_567_r0 c0_i32_570_r0
  let v766_r0 : BitVec 32 := Scalar.extui v765_r0
  let c0_i32_571_r0 : BitVec 32 := 0#32
  let v767_r0 : BitVec 1 := Scalar.cmpi .slt c3_i32_567_r0 c0_i32_571_r0
  let v768_r0 : BitVec 32 := Scalar.extui v767_r0
  let v769_r0 : BitVec 32 := Scalar.subi v766_r0 v768_r0
  let v770_r0 : BitVec 1 := Scalar.cmpi .ne v764_r0 v769_r0
  let v771_r0 : BitVec 32 := Scalar.remsi v716_r0 c3_i32_567_r0
  let c0_i32_572_r0 : BitVec 32 := 0#32
  let v772_r0 : BitVec 1 := Scalar.cmpi .ne v771_r0 c0_i32_572_r0
  let v773_r0 : BitVec 1 := Scalar.andi v770_r0 v772_r0
  let v759_r0 : BitVec 32 := Scalar.divsi v716_r0 c3_i32_567_r0
  let c1_i32_573_r0 : BitVec 32 := 1#32
  let v774_r0 : BitVec 32 := Scalar.subi v759_r0 c1_i32_573_r0
  let v775_r0 : BitVec 32 := Scalar.select v773_r0 v774_r0 v759_r0
  let v776_r0 : Index := Scalar.indexCast v775_r0
  let c128_574_r0 : Index := 128#32
  let c0_575_r0 : Index := 0#32
  ![v776_r0.toNat, 128, 0]
def k0_mult12 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_577_r0 : BitVec 32 := 96#32
  let v782_r0 : BitVec 32 := Scalar.muli v728_r0 c96_i32_577_r0
  v782_r0
def k0_mult13 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_600_r0 : BitVec 32 := 96#32
  let v835_r0 : BitVec 32 := Scalar.muli v716_r0 c96_i32_600_r0
  v835_r0
def k0_off16 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_600_r0 : BitVec 32 := 96#32
  let v835_r0 : BitVec 32 := Scalar.muli v716_r0 c96_i32_600_r0
  let v836_r0 : BitVec 32 := v835_r0
  let v837_r0 : Index := Scalar.indexCast v836_r0
  let c256_601_r0 : Index := 256#32
  ![v837_r0.toNat, 256]
def k0_mult14 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_623_r0 : BitVec 32 := 96#32
  let v888_r0 : BitVec 32 := Scalar.muli v728_r0 c96_i32_623_r0
  v888_r0
def k0_off17 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let v941_r0 : Index := Scalar.indexCast v716_r0
  let c0_646_r0 : Index := 0#32
  ![v941_r0.toNat, 0]
def k0_mult15 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_791_r0 : BitVec 32 := 96#32
  let v1205_r0 : BitVec 32 := Scalar.muli v716_r0 c96_i32_791_r0
  v1205_r0
def k0_off18 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_795_r0 : BitVec 32 := 0#32
  let v1213_r0 : BitVec 1 := Scalar.cmpi .sgt v716_r0 c0_i32_795_r0
  let v1214_r0 : BitVec 32 := Scalar.extui v1213_r0
  let c0_i32_796_r0 : BitVec 32 := 0#32
  let v1215_r0 : BitVec 1 := Scalar.cmpi .slt v716_r0 c0_i32_796_r0
  let v1216_r0 : BitVec 32 := Scalar.extui v1215_r0
  let v1217_r0 : BitVec 32 := Scalar.subi v1214_r0 v1216_r0
  let c3_i32_794_r0 : BitVec 32 := 3#32
  let c0_i32_797_r0 : BitVec 32 := 0#32
  let v1218_r0 : BitVec 1 := Scalar.cmpi .sgt c3_i32_794_r0 c0_i32_797_r0
  let v1219_r0 : BitVec 32 := Scalar.extui v1218_r0
  let c0_i32_798_r0 : BitVec 32 := 0#32
  let v1220_r0 : BitVec 1 := Scalar.cmpi .slt c3_i32_794_r0 c0_i32_798_r0
  let v1221_r0 : BitVec 32 := Scalar.extui v1220_r0
  let v1222_r0 : BitVec 32 := Scalar.subi v1219_r0 v1221_r0
  let v1223_r0 : BitVec 1 := Scalar.cmpi .ne v1217_r0 v1222_r0
  let v1224_r0 : BitVec 32 := Scalar.remsi v716_r0 c3_i32_794_r0
  let c0_i32_799_r0 : BitVec 32 := 0#32
  let v1225_r0 : BitVec 1 := Scalar.cmpi .ne v1224_r0 c0_i32_799_r0
  let v1226_r0 : BitVec 1 := Scalar.andi v1223_r0 v1225_r0
  let v1212_r0 : BitVec 32 := Scalar.divsi v716_r0 c3_i32_794_r0
  let c1_i32_800_r0 : BitVec 32 := 1#32
  let v1227_r0 : BitVec 32 := Scalar.subi v1212_r0 c1_i32_800_r0
  let v1228_r0 : BitVec 32 := Scalar.select v1226_r0 v1227_r0 v1212_r0
  let v1229_r0 : Index := Scalar.indexCast v1228_r0
  let c256_801_r0 : Index := 256#32
  let c0_802_r0 : Index := 0#32
  ![v1229_r0.toNat, 256, 0]
def k0_off19 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_805_r0 : BitVec 32 := 0#32
  let v1236_r0 : BitVec 1 := Scalar.cmpi .sgt v716_r0 c0_i32_805_r0
  let v1237_r0 : BitVec 32 := Scalar.extui v1236_r0
  let c0_i32_806_r0 : BitVec 32 := 0#32
  let v1238_r0 : BitVec 1 := Scalar.cmpi .slt v716_r0 c0_i32_806_r0
  let v1239_r0 : BitVec 32 := Scalar.extui v1238_r0
  let v1240_r0 : BitVec 32 := Scalar.subi v1237_r0 v1239_r0
  let c3_i32_804_r0 : BitVec 32 := 3#32
  let c0_i32_807_r0 : BitVec 32 := 0#32
  let v1241_r0 : BitVec 1 := Scalar.cmpi .sgt c3_i32_804_r0 c0_i32_807_r0
  let v1242_r0 : BitVec 32 := Scalar.extui v1241_r0
  let c0_i32_808_r0 : BitVec 32 := 0#32
  let v1243_r0 : BitVec 1 := Scalar.cmpi .slt c3_i32_804_r0 c0_i32_808_r0
  let v1244_r0 : BitVec 32 := Scalar.extui v1243_r0
  let v1245_r0 : BitVec 32 := Scalar.subi v1242_r0 v1244_r0
  let v1246_r0 : BitVec 1 := Scalar.cmpi .ne v1240_r0 v1245_r0
  let v1247_r0 : BitVec 32 := Scalar.remsi v716_r0 c3_i32_804_r0
  let c0_i32_809_r0 : BitVec 32 := 0#32
  let v1248_r0 : BitVec 1 := Scalar.cmpi .ne v1247_r0 c0_i32_809_r0
  let v1249_r0 : BitVec 1 := Scalar.andi v1246_r0 v1248_r0
  let v1235_r0 : BitVec 32 := Scalar.divsi v716_r0 c3_i32_804_r0
  let c1_i32_810_r0 : BitVec 32 := 1#32
  let v1250_r0 : BitVec 32 := Scalar.subi v1235_r0 c1_i32_810_r0
  let v1251_r0 : BitVec 32 := Scalar.select v1249_r0 v1250_r0 v1235_r0
  let v1252_r0 : Index := Scalar.indexCast v1251_r0
  let c384_811_r0 : Index := 384#32
  let c0_812_r0 : Index := 0#32
  ![v1252_r0.toNat, 384, 0]
def k0_mult16 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_814_r0 : BitVec 32 := 96#32
  let v1258_r0 : BitVec 32 := Scalar.muli v728_r0 c96_i32_814_r0
  v1258_r0
def k0_off20 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let v1311_r0 : Index := Scalar.indexCast v716_r0
  let c256_837_r0 : Index := 256#32
  ![v1311_r0.toNat, 256]
def k0_off21 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_979_r0 : BitVec 32 := 0#32
  let v1580_r0 : BitVec 1 := Scalar.cmpi .sgt v716_r0 c0_i32_979_r0
  let v1581_r0 : BitVec 32 := Scalar.extui v1580_r0
  let c0_i32_980_r0 : BitVec 32 := 0#32
  let v1582_r0 : BitVec 1 := Scalar.cmpi .slt v716_r0 c0_i32_980_r0
  let v1583_r0 : BitVec 32 := Scalar.extui v1582_r0
  let v1584_r0 : BitVec 32 := Scalar.subi v1581_r0 v1583_r0
  let c3_i32_978_r0 : BitVec 32 := 3#32
  let c0_i32_981_r0 : BitVec 32 := 0#32
  let v1585_r0 : BitVec 1 := Scalar.cmpi .sgt c3_i32_978_r0 c0_i32_981_r0
  let v1586_r0 : BitVec 32 := Scalar.extui v1585_r0
  let c0_i32_982_r0 : BitVec 32 := 0#32
  let v1587_r0 : BitVec 1 := Scalar.cmpi .slt c3_i32_978_r0 c0_i32_982_r0
  let v1588_r0 : BitVec 32 := Scalar.extui v1587_r0
  let v1589_r0 : BitVec 32 := Scalar.subi v1586_r0 v1588_r0
  let v1590_r0 : BitVec 1 := Scalar.cmpi .ne v1584_r0 v1589_r0
  let v1591_r0 : BitVec 32 := Scalar.remsi v716_r0 c3_i32_978_r0
  let c0_i32_983_r0 : BitVec 32 := 0#32
  let v1592_r0 : BitVec 1 := Scalar.cmpi .ne v1591_r0 c0_i32_983_r0
  let v1593_r0 : BitVec 1 := Scalar.andi v1590_r0 v1592_r0
  let v1579_r0 : BitVec 32 := Scalar.divsi v716_r0 c3_i32_978_r0
  let c1_i32_984_r0 : BitVec 32 := 1#32
  let v1594_r0 : BitVec 32 := Scalar.subi v1579_r0 c1_i32_984_r0
  let v1595_r0 : BitVec 32 := Scalar.select v1593_r0 v1594_r0 v1579_r0
  let v1596_r0 : Index := Scalar.indexCast v1595_r0
  let c0_985_r0 : Index := 0#32
  let c0_986_r0 : Index := 0#32
  ![v1596_r0.toNat, 0, 0]
def k0_mult17 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_1008_r0 : BitVec 32 := 96#32
  let v1635_r0 : BitVec 32 := Scalar.muli v716_r0 c96_i32_1008_r0
  v1635_r0
def k0_off22 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_1008_r0 : BitVec 32 := 96#32
  let v1635_r0 : BitVec 32 := Scalar.muli v716_r0 c96_i32_1008_r0
  let v1636_r0 : BitVec 32 := v1635_r0
  let v1637_r0 : Index := Scalar.indexCast v1636_r0
  let c512_1009_r0 : Index := 512#32
  ![v1637_r0.toNat, 512]
def k0_mult18 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_1031_r0 : BitVec 32 := 96#32
  let v1688_r0 : BitVec 32 := Scalar.muli v728_r0 c96_i32_1031_r0
  v1688_r0
def k0_mult19 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_1172_r0 : BitVec 32 := 96#32
  let v1970_r0 : BitVec 32 := Scalar.muli v716_r0 c96_i32_1172_r0
  v1970_r0
def k0_off23 (arg21_r0 : BitVec 32) (c0_i32_547_r0 : BitVec 32) (c0_i32_1187_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_1172_r0 : BitVec 32 := 96#32
  let v1970_r0 : BitVec 32 := Scalar.muli v716_r0 c96_i32_1172_r0
  let v1971_r0 : BitVec 32 := v1970_r0
  let v2015_r0 : BitVec 32 := Scalar.addi v1971_r0 c0_i32_1187_r0
  let v2016_r0 : Index := Scalar.indexCast v2015_r0
  let c0_1188_r0 : Index := 0#32
  ![v2016_r0.toNat, 0]
def k0_off24 (arg21_r0 : BitVec 32) (c0_i32_547_r0 : BitVec 32) (c0_i32_1190_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c3_i32_1189_r0 : BitVec 32 := 3#32
  let v2023_r0 : BitVec 32 := Scalar.muli v716_r0 c3_i32_1189_r0
  let v2024_r0 : BitVec 32 := Scalar.addi v2023_r0 c0_i32_1190_r0
  let v2025_r0 : Index := Scalar.indexCast v2024_r0
  let c0_1191_r0 : Index := 0#32
  ![v2025_r0.toNat, 0]
def k0_mult20 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_1230_r0 : BitVec 32 := 96#32
  let v2144_r0 : BitVec 32 := Scalar.muli v728_r0 c96_i32_1230_r0
  v2144_r0
def k0_mult21 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_1291_r0 : BitVec 32 := 96#32
  let v2317_r0 : BitVec 32 := Scalar.muli v716_r0 c96_i32_1291_r0
  v2317_r0
def k0_mult22 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_1314_r0 : BitVec 32 := 96#32
  let v2370_r0 : BitVec 32 := Scalar.muli v728_r0 c96_i32_1314_r0
  v2370_r0
def k0_off25 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let v2423_r0 : Index := Scalar.indexCast v716_r0
  let c512_1337_r0 : Index := 512#32
  ![v2423_r0.toNat, 512]
def k0_mult23 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_1497_r0 : BitVec 32 := 96#32
  let v2729_r0 : BitVec 32 := Scalar.muli v716_r0 c96_i32_1497_r0
  v2729_r0
def k0_off26 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_1501_r0 : BitVec 32 := 0#32
  let v2737_r0 : BitVec 1 := Scalar.cmpi .sgt v716_r0 c0_i32_1501_r0
  let v2738_r0 : BitVec 32 := Scalar.extui v2737_r0
  let c0_i32_1502_r0 : BitVec 32 := 0#32
  let v2739_r0 : BitVec 1 := Scalar.cmpi .slt v716_r0 c0_i32_1502_r0
  let v2740_r0 : BitVec 32 := Scalar.extui v2739_r0
  let v2741_r0 : BitVec 32 := Scalar.subi v2738_r0 v2740_r0
  let c3_i32_1500_r0 : BitVec 32 := 3#32
  let c0_i32_1503_r0 : BitVec 32 := 0#32
  let v2742_r0 : BitVec 1 := Scalar.cmpi .sgt c3_i32_1500_r0 c0_i32_1503_r0
  let v2743_r0 : BitVec 32 := Scalar.extui v2742_r0
  let c0_i32_1504_r0 : BitVec 32 := 0#32
  let v2744_r0 : BitVec 1 := Scalar.cmpi .slt c3_i32_1500_r0 c0_i32_1504_r0
  let v2745_r0 : BitVec 32 := Scalar.extui v2744_r0
  let v2746_r0 : BitVec 32 := Scalar.subi v2743_r0 v2745_r0
  let v2747_r0 : BitVec 1 := Scalar.cmpi .ne v2741_r0 v2746_r0
  let v2748_r0 : BitVec 32 := Scalar.remsi v716_r0 c3_i32_1500_r0
  let c0_i32_1505_r0 : BitVec 32 := 0#32
  let v2749_r0 : BitVec 1 := Scalar.cmpi .ne v2748_r0 c0_i32_1505_r0
  let v2750_r0 : BitVec 1 := Scalar.andi v2747_r0 v2749_r0
  let v2736_r0 : BitVec 32 := Scalar.divsi v716_r0 c3_i32_1500_r0
  let c1_i32_1506_r0 : BitVec 32 := 1#32
  let v2751_r0 : BitVec 32 := Scalar.subi v2736_r0 c1_i32_1506_r0
  let v2752_r0 : BitVec 32 := Scalar.select v2750_r0 v2751_r0 v2736_r0
  let v2753_r0 : Index := Scalar.indexCast v2752_r0
  let c512_1507_r0 : Index := 512#32
  let c0_1508_r0 : Index := 0#32
  ![v2753_r0.toNat, 512, 0]
def k0_off27 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_1511_r0 : BitVec 32 := 0#32
  let v2760_r0 : BitVec 1 := Scalar.cmpi .sgt v716_r0 c0_i32_1511_r0
  let v2761_r0 : BitVec 32 := Scalar.extui v2760_r0
  let c0_i32_1512_r0 : BitVec 32 := 0#32
  let v2762_r0 : BitVec 1 := Scalar.cmpi .slt v716_r0 c0_i32_1512_r0
  let v2763_r0 : BitVec 32 := Scalar.extui v2762_r0
  let v2764_r0 : BitVec 32 := Scalar.subi v2761_r0 v2763_r0
  let c3_i32_1510_r0 : BitVec 32 := 3#32
  let c0_i32_1513_r0 : BitVec 32 := 0#32
  let v2765_r0 : BitVec 1 := Scalar.cmpi .sgt c3_i32_1510_r0 c0_i32_1513_r0
  let v2766_r0 : BitVec 32 := Scalar.extui v2765_r0
  let c0_i32_1514_r0 : BitVec 32 := 0#32
  let v2767_r0 : BitVec 1 := Scalar.cmpi .slt c3_i32_1510_r0 c0_i32_1514_r0
  let v2768_r0 : BitVec 32 := Scalar.extui v2767_r0
  let v2769_r0 : BitVec 32 := Scalar.subi v2766_r0 v2768_r0
  let v2770_r0 : BitVec 1 := Scalar.cmpi .ne v2764_r0 v2769_r0
  let v2771_r0 : BitVec 32 := Scalar.remsi v716_r0 c3_i32_1510_r0
  let c0_i32_1515_r0 : BitVec 32 := 0#32
  let v2772_r0 : BitVec 1 := Scalar.cmpi .ne v2771_r0 c0_i32_1515_r0
  let v2773_r0 : BitVec 1 := Scalar.andi v2770_r0 v2772_r0
  let v2759_r0 : BitVec 32 := Scalar.divsi v716_r0 c3_i32_1510_r0
  let c1_i32_1516_r0 : BitVec 32 := 1#32
  let v2774_r0 : BitVec 32 := Scalar.subi v2759_r0 c1_i32_1516_r0
  let v2775_r0 : BitVec 32 := Scalar.select v2773_r0 v2774_r0 v2759_r0
  let v2776_r0 : Index := Scalar.indexCast v2775_r0
  let c640_1517_r0 : Index := 640#32
  let c0_1518_r0 : Index := 0#32
  ![v2776_r0.toNat, 640, 0]
def k0_mult24 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_1520_r0 : BitVec 32 := 96#32
  let v2782_r0 : BitVec 32 := Scalar.muli v728_r0 c96_i32_1520_r0
  v2782_r0
def k0_off28 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_1658_r0 : BitVec 32 := 0#32
  let v3068_r0 : BitVec 1 := Scalar.cmpi .sgt v716_r0 c0_i32_1658_r0
  let v3069_r0 : BitVec 32 := Scalar.extui v3068_r0
  let c0_i32_1659_r0 : BitVec 32 := 0#32
  let v3070_r0 : BitVec 1 := Scalar.cmpi .slt v716_r0 c0_i32_1659_r0
  let v3071_r0 : BitVec 32 := Scalar.extui v3070_r0
  let v3072_r0 : BitVec 32 := Scalar.subi v3069_r0 v3071_r0
  let c3_i32_1657_r0 : BitVec 32 := 3#32
  let c0_i32_1660_r0 : BitVec 32 := 0#32
  let v3073_r0 : BitVec 1 := Scalar.cmpi .sgt c3_i32_1657_r0 c0_i32_1660_r0
  let v3074_r0 : BitVec 32 := Scalar.extui v3073_r0
  let c0_i32_1661_r0 : BitVec 32 := 0#32
  let v3075_r0 : BitVec 1 := Scalar.cmpi .slt c3_i32_1657_r0 c0_i32_1661_r0
  let v3076_r0 : BitVec 32 := Scalar.extui v3075_r0
  let v3077_r0 : BitVec 32 := Scalar.subi v3074_r0 v3076_r0
  let v3078_r0 : BitVec 1 := Scalar.cmpi .ne v3072_r0 v3077_r0
  let v3079_r0 : BitVec 32 := Scalar.remsi v716_r0 c3_i32_1657_r0
  let c0_i32_1662_r0 : BitVec 32 := 0#32
  let v3080_r0 : BitVec 1 := Scalar.cmpi .ne v3079_r0 c0_i32_1662_r0
  let v3081_r0 : BitVec 1 := Scalar.andi v3078_r0 v3080_r0
  let v3067_r0 : BitVec 32 := Scalar.divsi v716_r0 c3_i32_1657_r0
  let c1_i32_1663_r0 : BitVec 32 := 1#32
  let v3082_r0 : BitVec 32 := Scalar.subi v3067_r0 c1_i32_1663_r0
  let v3083_r0 : BitVec 32 := Scalar.select v3081_r0 v3082_r0 v3067_r0
  let v3084_r0 : Index := Scalar.indexCast v3083_r0
  let c0_1664_r0 : Index := 0#32
  let c256_1665_r0 : Index := 256#32
  ![v3084_r0.toNat, 0, 256]
def k0_mult25 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_1687_r0 : BitVec 32 := 96#32
  let v3123_r0 : BitVec 32 := Scalar.muli v716_r0 c96_i32_1687_r0
  v3123_r0
def k0_off29 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_1687_r0 : BitVec 32 := 96#32
  let v3123_r0 : BitVec 32 := Scalar.muli v716_r0 c96_i32_1687_r0
  let v3124_r0 : BitVec 32 := v3123_r0
  let v3125_r0 : Index := Scalar.indexCast v3124_r0
  let c768_1688_r0 : Index := 768#32
  ![v3125_r0.toNat, 768]
def k0_mult26 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_1710_r0 : BitVec 32 := 96#32
  let v3176_r0 : BitVec 32 := Scalar.muli v728_r0 c96_i32_1710_r0
  v3176_r0
def k0_mult27 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_1850_r0 : BitVec 32 := 96#32
  let v3458_r0 : BitVec 32 := Scalar.muli v716_r0 c96_i32_1850_r0
  v3458_r0
def k0_off30 (arg21_r0 : BitVec 32) (c0_i32_547_r0 : BitVec 32) (c0_i32_1865_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_1850_r0 : BitVec 32 := 96#32
  let v3458_r0 : BitVec 32 := Scalar.muli v716_r0 c96_i32_1850_r0
  let v3459_r0 : BitVec 32 := v3458_r0
  let v3503_r0 : BitVec 32 := Scalar.addi v3459_r0 c0_i32_1865_r0
  let v3504_r0 : Index := Scalar.indexCast v3503_r0
  let c256_1866_r0 : Index := 256#32
  ![v3504_r0.toNat, 256]
def k0_off31 (arg21_r0 : BitVec 32) (c0_i32_547_r0 : BitVec 32) (c0_i32_1869_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c3_i32_1868_r0 : BitVec 32 := 3#32
  let v3511_r0 : BitVec 32 := Scalar.muli v716_r0 c3_i32_1868_r0
  let v3512_r0 : BitVec 32 := Scalar.addi v3511_r0 c0_i32_1869_r0
  let v3513_r0 : Index := Scalar.indexCast v3512_r0
  let c256_1870_r0 : Index := 256#32
  ![v3513_r0.toNat, 256]
def k0_mult28 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_1911_r0 : BitVec 32 := 96#32
  let v3632_r0 : BitVec 32 := Scalar.muli v728_r0 c96_i32_1911_r0
  v3632_r0
def k0_mult29 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_1972_r0 : BitVec 32 := 96#32
  let v3805_r0 : BitVec 32 := Scalar.muli v716_r0 c96_i32_1972_r0
  v3805_r0
def k0_mult30 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_1995_r0 : BitVec 32 := 96#32
  let v3858_r0 : BitVec 32 := Scalar.muli v728_r0 c96_i32_1995_r0
  v3858_r0
def k0_off32 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let v3911_r0 : Index := Scalar.indexCast v716_r0
  let c768_2018_r0 : Index := 768#32
  ![v3911_r0.toNat, 768]
def k0_mult31 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_2178_r0 : BitVec 32 := 96#32
  let v4217_r0 : BitVec 32 := Scalar.muli v716_r0 c96_i32_2178_r0
  v4217_r0
def k0_mult32 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_2201_r0 : BitVec 32 := 96#32
  let v4270_r0 : BitVec 32 := Scalar.muli v728_r0 c96_i32_2201_r0
  v4270_r0
def k0_mult33 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_2358_r0 : BitVec 32 := 96#32
  let v4593_r0 : BitVec 32 := Scalar.muli v716_r0 c96_i32_2358_r0
  v4593_r0
def k0_off33 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_2362_r0 : BitVec 32 := 0#32
  let v4601_r0 : BitVec 1 := Scalar.cmpi .sgt v716_r0 c0_i32_2362_r0
  let v4602_r0 : BitVec 32 := Scalar.extui v4601_r0
  let c0_i32_2363_r0 : BitVec 32 := 0#32
  let v4603_r0 : BitVec 1 := Scalar.cmpi .slt v716_r0 c0_i32_2363_r0
  let v4604_r0 : BitVec 32 := Scalar.extui v4603_r0
  let v4605_r0 : BitVec 32 := Scalar.subi v4602_r0 v4604_r0
  let c3_i32_2361_r0 : BitVec 32 := 3#32
  let c0_i32_2364_r0 : BitVec 32 := 0#32
  let v4606_r0 : BitVec 1 := Scalar.cmpi .sgt c3_i32_2361_r0 c0_i32_2364_r0
  let v4607_r0 : BitVec 32 := Scalar.extui v4606_r0
  let c0_i32_2365_r0 : BitVec 32 := 0#32
  let v4608_r0 : BitVec 1 := Scalar.cmpi .slt c3_i32_2361_r0 c0_i32_2365_r0
  let v4609_r0 : BitVec 32 := Scalar.extui v4608_r0
  let v4610_r0 : BitVec 32 := Scalar.subi v4607_r0 v4609_r0
  let v4611_r0 : BitVec 1 := Scalar.cmpi .ne v4605_r0 v4610_r0
  let v4612_r0 : BitVec 32 := Scalar.remsi v716_r0 c3_i32_2361_r0
  let c0_i32_2366_r0 : BitVec 32 := 0#32
  let v4613_r0 : BitVec 1 := Scalar.cmpi .ne v4612_r0 c0_i32_2366_r0
  let v4614_r0 : BitVec 1 := Scalar.andi v4611_r0 v4613_r0
  let v4600_r0 : BitVec 32 := Scalar.divsi v716_r0 c3_i32_2361_r0
  let c1_i32_2367_r0 : BitVec 32 := 1#32
  let v4615_r0 : BitVec 32 := Scalar.subi v4600_r0 c1_i32_2367_r0
  let v4616_r0 : BitVec 32 := Scalar.select v4614_r0 v4615_r0 v4600_r0
  let v4617_r0 : Index := Scalar.indexCast v4616_r0
  let c768_2368_r0 : Index := 768#32
  let c0_2369_r0 : Index := 0#32
  ![v4617_r0.toNat, 768, 0]
def k0_off34 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_2372_r0 : BitVec 32 := 0#32
  let v4624_r0 : BitVec 1 := Scalar.cmpi .sgt v716_r0 c0_i32_2372_r0
  let v4625_r0 : BitVec 32 := Scalar.extui v4624_r0
  let c0_i32_2373_r0 : BitVec 32 := 0#32
  let v4626_r0 : BitVec 1 := Scalar.cmpi .slt v716_r0 c0_i32_2373_r0
  let v4627_r0 : BitVec 32 := Scalar.extui v4626_r0
  let v4628_r0 : BitVec 32 := Scalar.subi v4625_r0 v4627_r0
  let c3_i32_2371_r0 : BitVec 32 := 3#32
  let c0_i32_2374_r0 : BitVec 32 := 0#32
  let v4629_r0 : BitVec 1 := Scalar.cmpi .sgt c3_i32_2371_r0 c0_i32_2374_r0
  let v4630_r0 : BitVec 32 := Scalar.extui v4629_r0
  let c0_i32_2375_r0 : BitVec 32 := 0#32
  let v4631_r0 : BitVec 1 := Scalar.cmpi .slt c3_i32_2371_r0 c0_i32_2375_r0
  let v4632_r0 : BitVec 32 := Scalar.extui v4631_r0
  let v4633_r0 : BitVec 32 := Scalar.subi v4630_r0 v4632_r0
  let v4634_r0 : BitVec 1 := Scalar.cmpi .ne v4628_r0 v4633_r0
  let v4635_r0 : BitVec 32 := Scalar.remsi v716_r0 c3_i32_2371_r0
  let c0_i32_2376_r0 : BitVec 32 := 0#32
  let v4636_r0 : BitVec 1 := Scalar.cmpi .ne v4635_r0 c0_i32_2376_r0
  let v4637_r0 : BitVec 1 := Scalar.andi v4634_r0 v4636_r0
  let v4623_r0 : BitVec 32 := Scalar.divsi v716_r0 c3_i32_2371_r0
  let c1_i32_2377_r0 : BitVec 32 := 1#32
  let v4638_r0 : BitVec 32 := Scalar.subi v4623_r0 c1_i32_2377_r0
  let v4639_r0 : BitVec 32 := Scalar.select v4637_r0 v4638_r0 v4623_r0
  let v4640_r0 : Index := Scalar.indexCast v4639_r0
  let c896_2378_r0 : Index := 896#32
  let c0_2379_r0 : Index := 0#32
  ![v4640_r0.toNat, 896, 0]
def k0_mult34 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_2381_r0 : BitVec 32 := 96#32
  let v4646_r0 : BitVec 32 := Scalar.muli v728_r0 c96_i32_2381_r0
  v4646_r0
def k0_off35 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_2519_r0 : BitVec 32 := 0#32
  let v4932_r0 : BitVec 1 := Scalar.cmpi .sgt v716_r0 c0_i32_2519_r0
  let v4933_r0 : BitVec 32 := Scalar.extui v4932_r0
  let c0_i32_2520_r0 : BitVec 32 := 0#32
  let v4934_r0 : BitVec 1 := Scalar.cmpi .slt v716_r0 c0_i32_2520_r0
  let v4935_r0 : BitVec 32 := Scalar.extui v4934_r0
  let v4936_r0 : BitVec 32 := Scalar.subi v4933_r0 v4935_r0
  let c3_i32_2518_r0 : BitVec 32 := 3#32
  let c0_i32_2521_r0 : BitVec 32 := 0#32
  let v4937_r0 : BitVec 1 := Scalar.cmpi .sgt c3_i32_2518_r0 c0_i32_2521_r0
  let v4938_r0 : BitVec 32 := Scalar.extui v4937_r0
  let c0_i32_2522_r0 : BitVec 32 := 0#32
  let v4939_r0 : BitVec 1 := Scalar.cmpi .slt c3_i32_2518_r0 c0_i32_2522_r0
  let v4940_r0 : BitVec 32 := Scalar.extui v4939_r0
  let v4941_r0 : BitVec 32 := Scalar.subi v4938_r0 v4940_r0
  let v4942_r0 : BitVec 1 := Scalar.cmpi .ne v4936_r0 v4941_r0
  let v4943_r0 : BitVec 32 := Scalar.remsi v716_r0 c3_i32_2518_r0
  let c0_i32_2523_r0 : BitVec 32 := 0#32
  let v4944_r0 : BitVec 1 := Scalar.cmpi .ne v4943_r0 c0_i32_2523_r0
  let v4945_r0 : BitVec 1 := Scalar.andi v4942_r0 v4944_r0
  let v4931_r0 : BitVec 32 := Scalar.divsi v716_r0 c3_i32_2518_r0
  let c1_i32_2524_r0 : BitVec 32 := 1#32
  let v4946_r0 : BitVec 32 := Scalar.subi v4931_r0 c1_i32_2524_r0
  let v4947_r0 : BitVec 32 := Scalar.select v4945_r0 v4946_r0 v4931_r0
  let v4948_r0 : Index := Scalar.indexCast v4947_r0
  let c0_2525_r0 : Index := 0#32
  let c512_2526_r0 : Index := 512#32
  ![v4948_r0.toNat, 0, 512]
def k0_mult35 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_2548_r0 : BitVec 32 := 96#32
  let v4987_r0 : BitVec 32 := Scalar.muli v716_r0 c96_i32_2548_r0
  v4987_r0
def k0_off36 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_2548_r0 : BitVec 32 := 96#32
  let v4987_r0 : BitVec 32 := Scalar.muli v716_r0 c96_i32_2548_r0
  let v4988_r0 : BitVec 32 := v4987_r0
  let v4989_r0 : Index := Scalar.indexCast v4988_r0
  let c1024_2549_r0 : Index := 1024#32
  ![v4989_r0.toNat, 1024]
def k0_mult36 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_2571_r0 : BitVec 32 := 96#32
  let v5040_r0 : BitVec 32 := Scalar.muli v728_r0 c96_i32_2571_r0
  v5040_r0
def k0_mult37 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_2711_r0 : BitVec 32 := 96#32
  let v5322_r0 : BitVec 32 := Scalar.muli v716_r0 c96_i32_2711_r0
  v5322_r0
def k0_off37 (arg21_r0 : BitVec 32) (c0_i32_547_r0 : BitVec 32) (c0_i32_2726_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_2711_r0 : BitVec 32 := 96#32
  let v5322_r0 : BitVec 32 := Scalar.muli v716_r0 c96_i32_2711_r0
  let v5323_r0 : BitVec 32 := v5322_r0
  let v5367_r0 : BitVec 32 := Scalar.addi v5323_r0 c0_i32_2726_r0
  let v5368_r0 : Index := Scalar.indexCast v5367_r0
  let c512_2727_r0 : Index := 512#32
  ![v5368_r0.toNat, 512]
def k0_off38 (arg21_r0 : BitVec 32) (c0_i32_547_r0 : BitVec 32) (c0_i32_2730_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c3_i32_2729_r0 : BitVec 32 := 3#32
  let v5375_r0 : BitVec 32 := Scalar.muli v716_r0 c3_i32_2729_r0
  let v5376_r0 : BitVec 32 := Scalar.addi v5375_r0 c0_i32_2730_r0
  let v5377_r0 : Index := Scalar.indexCast v5376_r0
  let c512_2731_r0 : Index := 512#32
  ![v5377_r0.toNat, 512]
def k0_mult38 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_2772_r0 : BitVec 32 := 96#32
  let v5496_r0 : BitVec 32 := Scalar.muli v728_r0 c96_i32_2772_r0
  v5496_r0
def k0_mult39 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_2833_r0 : BitVec 32 := 96#32
  let v5669_r0 : BitVec 32 := Scalar.muli v716_r0 c96_i32_2833_r0
  v5669_r0
def k0_mult40 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_2856_r0 : BitVec 32 := 96#32
  let v5722_r0 : BitVec 32 := Scalar.muli v728_r0 c96_i32_2856_r0
  v5722_r0
def k0_off39 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let v5775_r0 : Index := Scalar.indexCast v716_r0
  let c1024_2879_r0 : Index := 1024#32
  ![v5775_r0.toNat, 1024]
def k0_mult41 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_3040_r0 : BitVec 32 := 96#32
  let v6081_r0 : BitVec 32 := Scalar.muli v716_r0 c96_i32_3040_r0
  v6081_r0
def k0_mult42 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_3063_r0 : BitVec 32 := 96#32
  let v6134_r0 : BitVec 32 := Scalar.muli v728_r0 c96_i32_3063_r0
  v6134_r0
def k0_mult43 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_3220_r0 : BitVec 32 := 96#32
  let v6457_r0 : BitVec 32 := Scalar.muli v716_r0 c96_i32_3220_r0
  v6457_r0
def k0_mult44 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_3243_r0 : BitVec 32 := 96#32
  let v6510_r0 : BitVec 32 := Scalar.muli v728_r0 c96_i32_3243_r0
  v6510_r0
def k0_mult45 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_3400_r0 : BitVec 32 := 96#32
  let v6833_r0 : BitVec 32 := Scalar.muli v716_r0 c96_i32_3400_r0
  v6833_r0
def k0_off40 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_3404_r0 : BitVec 32 := 0#32
  let v6841_r0 : BitVec 1 := Scalar.cmpi .sgt v716_r0 c0_i32_3404_r0
  let v6842_r0 : BitVec 32 := Scalar.extui v6841_r0
  let c0_i32_3405_r0 : BitVec 32 := 0#32
  let v6843_r0 : BitVec 1 := Scalar.cmpi .slt v716_r0 c0_i32_3405_r0
  let v6844_r0 : BitVec 32 := Scalar.extui v6843_r0
  let v6845_r0 : BitVec 32 := Scalar.subi v6842_r0 v6844_r0
  let c3_i32_3403_r0 : BitVec 32 := 3#32
  let c0_i32_3406_r0 : BitVec 32 := 0#32
  let v6846_r0 : BitVec 1 := Scalar.cmpi .sgt c3_i32_3403_r0 c0_i32_3406_r0
  let v6847_r0 : BitVec 32 := Scalar.extui v6846_r0
  let c0_i32_3407_r0 : BitVec 32 := 0#32
  let v6848_r0 : BitVec 1 := Scalar.cmpi .slt c3_i32_3403_r0 c0_i32_3407_r0
  let v6849_r0 : BitVec 32 := Scalar.extui v6848_r0
  let v6850_r0 : BitVec 32 := Scalar.subi v6847_r0 v6849_r0
  let v6851_r0 : BitVec 1 := Scalar.cmpi .ne v6845_r0 v6850_r0
  let v6852_r0 : BitVec 32 := Scalar.remsi v716_r0 c3_i32_3403_r0
  let c0_i32_3408_r0 : BitVec 32 := 0#32
  let v6853_r0 : BitVec 1 := Scalar.cmpi .ne v6852_r0 c0_i32_3408_r0
  let v6854_r0 : BitVec 1 := Scalar.andi v6851_r0 v6853_r0
  let v6840_r0 : BitVec 32 := Scalar.divsi v716_r0 c3_i32_3403_r0
  let c1_i32_3409_r0 : BitVec 32 := 1#32
  let v6855_r0 : BitVec 32 := Scalar.subi v6840_r0 c1_i32_3409_r0
  let v6856_r0 : BitVec 32 := Scalar.select v6854_r0 v6855_r0 v6840_r0
  let v6857_r0 : Index := Scalar.indexCast v6856_r0
  let c1024_3410_r0 : Index := 1024#32
  let c0_3411_r0 : Index := 0#32
  ![v6857_r0.toNat, 1024, 0]
def k0_off41 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_3414_r0 : BitVec 32 := 0#32
  let v6864_r0 : BitVec 1 := Scalar.cmpi .sgt v716_r0 c0_i32_3414_r0
  let v6865_r0 : BitVec 32 := Scalar.extui v6864_r0
  let c0_i32_3415_r0 : BitVec 32 := 0#32
  let v6866_r0 : BitVec 1 := Scalar.cmpi .slt v716_r0 c0_i32_3415_r0
  let v6867_r0 : BitVec 32 := Scalar.extui v6866_r0
  let v6868_r0 : BitVec 32 := Scalar.subi v6865_r0 v6867_r0
  let c3_i32_3413_r0 : BitVec 32 := 3#32
  let c0_i32_3416_r0 : BitVec 32 := 0#32
  let v6869_r0 : BitVec 1 := Scalar.cmpi .sgt c3_i32_3413_r0 c0_i32_3416_r0
  let v6870_r0 : BitVec 32 := Scalar.extui v6869_r0
  let c0_i32_3417_r0 : BitVec 32 := 0#32
  let v6871_r0 : BitVec 1 := Scalar.cmpi .slt c3_i32_3413_r0 c0_i32_3417_r0
  let v6872_r0 : BitVec 32 := Scalar.extui v6871_r0
  let v6873_r0 : BitVec 32 := Scalar.subi v6870_r0 v6872_r0
  let v6874_r0 : BitVec 1 := Scalar.cmpi .ne v6868_r0 v6873_r0
  let v6875_r0 : BitVec 32 := Scalar.remsi v716_r0 c3_i32_3413_r0
  let c0_i32_3418_r0 : BitVec 32 := 0#32
  let v6876_r0 : BitVec 1 := Scalar.cmpi .ne v6875_r0 c0_i32_3418_r0
  let v6877_r0 : BitVec 1 := Scalar.andi v6874_r0 v6876_r0
  let v6863_r0 : BitVec 32 := Scalar.divsi v716_r0 c3_i32_3413_r0
  let c1_i32_3419_r0 : BitVec 32 := 1#32
  let v6878_r0 : BitVec 32 := Scalar.subi v6863_r0 c1_i32_3419_r0
  let v6879_r0 : BitVec 32 := Scalar.select v6877_r0 v6878_r0 v6863_r0
  let v6880_r0 : Index := Scalar.indexCast v6879_r0
  let c1152_r0 : Index := 1152#32
  let c0_3420_r0 : Index := 0#32
  ![v6880_r0.toNat, 1152, 0]
def k0_mult46 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_3422_r0 : BitVec 32 := 96#32
  let v6886_r0 : BitVec 32 := Scalar.muli v728_r0 c96_i32_3422_r0
  v6886_r0
def k0_off42 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_3560_r0 : BitVec 32 := 0#32
  let v7172_r0 : BitVec 1 := Scalar.cmpi .sgt v716_r0 c0_i32_3560_r0
  let v7173_r0 : BitVec 32 := Scalar.extui v7172_r0
  let c0_i32_3561_r0 : BitVec 32 := 0#32
  let v7174_r0 : BitVec 1 := Scalar.cmpi .slt v716_r0 c0_i32_3561_r0
  let v7175_r0 : BitVec 32 := Scalar.extui v7174_r0
  let v7176_r0 : BitVec 32 := Scalar.subi v7173_r0 v7175_r0
  let c3_i32_3559_r0 : BitVec 32 := 3#32
  let c0_i32_3562_r0 : BitVec 32 := 0#32
  let v7177_r0 : BitVec 1 := Scalar.cmpi .sgt c3_i32_3559_r0 c0_i32_3562_r0
  let v7178_r0 : BitVec 32 := Scalar.extui v7177_r0
  let c0_i32_3563_r0 : BitVec 32 := 0#32
  let v7179_r0 : BitVec 1 := Scalar.cmpi .slt c3_i32_3559_r0 c0_i32_3563_r0
  let v7180_r0 : BitVec 32 := Scalar.extui v7179_r0
  let v7181_r0 : BitVec 32 := Scalar.subi v7178_r0 v7180_r0
  let v7182_r0 : BitVec 1 := Scalar.cmpi .ne v7176_r0 v7181_r0
  let v7183_r0 : BitVec 32 := Scalar.remsi v716_r0 c3_i32_3559_r0
  let c0_i32_3564_r0 : BitVec 32 := 0#32
  let v7184_r0 : BitVec 1 := Scalar.cmpi .ne v7183_r0 c0_i32_3564_r0
  let v7185_r0 : BitVec 1 := Scalar.andi v7182_r0 v7184_r0
  let v7171_r0 : BitVec 32 := Scalar.divsi v716_r0 c3_i32_3559_r0
  let c1_i32_3565_r0 : BitVec 32 := 1#32
  let v7186_r0 : BitVec 32 := Scalar.subi v7171_r0 c1_i32_3565_r0
  let v7187_r0 : BitVec 32 := Scalar.select v7185_r0 v7186_r0 v7171_r0
  let v7188_r0 : Index := Scalar.indexCast v7187_r0
  let c0_3566_r0 : Index := 0#32
  let c768_3567_r0 : Index := 768#32
  ![v7188_r0.toNat, 0, 768]
def k0_mult47 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_3589_r0 : BitVec 32 := 96#32
  let v7227_r0 : BitVec 32 := Scalar.muli v716_r0 c96_i32_3589_r0
  v7227_r0
def k0_off43 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_3589_r0 : BitVec 32 := 96#32
  let v7227_r0 : BitVec 32 := Scalar.muli v716_r0 c96_i32_3589_r0
  let v7228_r0 : BitVec 32 := v7227_r0
  let v7229_r0 : Index := Scalar.indexCast v7228_r0
  let c1280_3590_r0 : Index := 1280#32
  ![v7229_r0.toNat, 1280]
def k0_mult48 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_3612_r0 : BitVec 32 := 96#32
  let v7280_r0 : BitVec 32 := Scalar.muli v728_r0 c96_i32_3612_r0
  v7280_r0
def k0_mult49 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_3753_r0 : BitVec 32 := 96#32
  let v7562_r0 : BitVec 32 := Scalar.muli v716_r0 c96_i32_3753_r0
  v7562_r0
def k0_off44 (arg21_r0 : BitVec 32) (c0_i32_547_r0 : BitVec 32) (c0_i32_3768_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_3753_r0 : BitVec 32 := 96#32
  let v7562_r0 : BitVec 32 := Scalar.muli v716_r0 c96_i32_3753_r0
  let v7563_r0 : BitVec 32 := v7562_r0
  let v7607_r0 : BitVec 32 := Scalar.addi v7563_r0 c0_i32_3768_r0
  let v7608_r0 : Index := Scalar.indexCast v7607_r0
  let c768_3769_r0 : Index := 768#32
  ![v7608_r0.toNat, 768]
def k0_off45 (arg21_r0 : BitVec 32) (c0_i32_547_r0 : BitVec 32) (c0_i32_3772_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c3_i32_3771_r0 : BitVec 32 := 3#32
  let v7615_r0 : BitVec 32 := Scalar.muli v716_r0 c3_i32_3771_r0
  let v7616_r0 : BitVec 32 := Scalar.addi v7615_r0 c0_i32_3772_r0
  let v7617_r0 : Index := Scalar.indexCast v7616_r0
  let c768_3773_r0 : Index := 768#32
  ![v7617_r0.toNat, 768]
def k0_mult50 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_3814_r0 : BitVec 32 := 96#32
  let v7736_r0 : BitVec 32 := Scalar.muli v728_r0 c96_i32_3814_r0
  v7736_r0
def k0_mult51 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_3875_r0 : BitVec 32 := 96#32
  let v7909_r0 : BitVec 32 := Scalar.muli v716_r0 c96_i32_3875_r0
  v7909_r0
def k0_mult52 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_3898_r0 : BitVec 32 := 96#32
  let v7962_r0 : BitVec 32 := Scalar.muli v728_r0 c96_i32_3898_r0
  v7962_r0
def k0_off46 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let v8015_r0 : Index := Scalar.indexCast v716_r0
  let c1280_3921_r0 : Index := 1280#32
  ![v8015_r0.toNat, 1280]
def k0_mult53 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_4082_r0 : BitVec 32 := 96#32
  let v8321_r0 : BitVec 32 := Scalar.muli v716_r0 c96_i32_4082_r0
  v8321_r0
def k0_mult54 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_4105_r0 : BitVec 32 := 96#32
  let v8374_r0 : BitVec 32 := Scalar.muli v728_r0 c96_i32_4105_r0
  v8374_r0
def k0_mult55 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_4262_r0 : BitVec 32 := 96#32
  let v8697_r0 : BitVec 32 := Scalar.muli v716_r0 c96_i32_4262_r0
  v8697_r0
def k0_mult56 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_4285_r0 : BitVec 32 := 96#32
  let v8750_r0 : BitVec 32 := Scalar.muli v728_r0 c96_i32_4285_r0
  v8750_r0
def k0_mult57 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_4442_r0 : BitVec 32 := 96#32
  let v9073_r0 : BitVec 32 := Scalar.muli v716_r0 c96_i32_4442_r0
  v9073_r0
def k0_mult58 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_4465_r0 : BitVec 32 := 96#32
  let v9126_r0 : BitVec 32 := Scalar.muli v728_r0 c96_i32_4465_r0
  v9126_r0
def k0_mult59 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_4622_r0 : BitVec 32 := 96#32
  let v9449_r0 : BitVec 32 := Scalar.muli v716_r0 c96_i32_4622_r0
  v9449_r0
def k0_off47 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_4626_r0 : BitVec 32 := 0#32
  let v9457_r0 : BitVec 1 := Scalar.cmpi .sgt v716_r0 c0_i32_4626_r0
  let v9458_r0 : BitVec 32 := Scalar.extui v9457_r0
  let c0_i32_4627_r0 : BitVec 32 := 0#32
  let v9459_r0 : BitVec 1 := Scalar.cmpi .slt v716_r0 c0_i32_4627_r0
  let v9460_r0 : BitVec 32 := Scalar.extui v9459_r0
  let v9461_r0 : BitVec 32 := Scalar.subi v9458_r0 v9460_r0
  let c3_i32_4625_r0 : BitVec 32 := 3#32
  let c0_i32_4628_r0 : BitVec 32 := 0#32
  let v9462_r0 : BitVec 1 := Scalar.cmpi .sgt c3_i32_4625_r0 c0_i32_4628_r0
  let v9463_r0 : BitVec 32 := Scalar.extui v9462_r0
  let c0_i32_4629_r0 : BitVec 32 := 0#32
  let v9464_r0 : BitVec 1 := Scalar.cmpi .slt c3_i32_4625_r0 c0_i32_4629_r0
  let v9465_r0 : BitVec 32 := Scalar.extui v9464_r0
  let v9466_r0 : BitVec 32 := Scalar.subi v9463_r0 v9465_r0
  let v9467_r0 : BitVec 1 := Scalar.cmpi .ne v9461_r0 v9466_r0
  let v9468_r0 : BitVec 32 := Scalar.remsi v716_r0 c3_i32_4625_r0
  let c0_i32_4630_r0 : BitVec 32 := 0#32
  let v9469_r0 : BitVec 1 := Scalar.cmpi .ne v9468_r0 c0_i32_4630_r0
  let v9470_r0 : BitVec 1 := Scalar.andi v9467_r0 v9469_r0
  let v9456_r0 : BitVec 32 := Scalar.divsi v716_r0 c3_i32_4625_r0
  let c1_i32_4631_r0 : BitVec 32 := 1#32
  let v9471_r0 : BitVec 32 := Scalar.subi v9456_r0 c1_i32_4631_r0
  let v9472_r0 : BitVec 32 := Scalar.select v9470_r0 v9471_r0 v9456_r0
  let v9473_r0 : Index := Scalar.indexCast v9472_r0
  let c1280_4632_r0 : Index := 1280#32
  let c0_4633_r0 : Index := 0#32
  ![v9473_r0.toNat, 1280, 0]
def k0_off48 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_4636_r0 : BitVec 32 := 0#32
  let v9480_r0 : BitVec 1 := Scalar.cmpi .sgt v716_r0 c0_i32_4636_r0
  let v9481_r0 : BitVec 32 := Scalar.extui v9480_r0
  let c0_i32_4637_r0 : BitVec 32 := 0#32
  let v9482_r0 : BitVec 1 := Scalar.cmpi .slt v716_r0 c0_i32_4637_r0
  let v9483_r0 : BitVec 32 := Scalar.extui v9482_r0
  let v9484_r0 : BitVec 32 := Scalar.subi v9481_r0 v9483_r0
  let c3_i32_4635_r0 : BitVec 32 := 3#32
  let c0_i32_4638_r0 : BitVec 32 := 0#32
  let v9485_r0 : BitVec 1 := Scalar.cmpi .sgt c3_i32_4635_r0 c0_i32_4638_r0
  let v9486_r0 : BitVec 32 := Scalar.extui v9485_r0
  let c0_i32_4639_r0 : BitVec 32 := 0#32
  let v9487_r0 : BitVec 1 := Scalar.cmpi .slt c3_i32_4635_r0 c0_i32_4639_r0
  let v9488_r0 : BitVec 32 := Scalar.extui v9487_r0
  let v9489_r0 : BitVec 32 := Scalar.subi v9486_r0 v9488_r0
  let v9490_r0 : BitVec 1 := Scalar.cmpi .ne v9484_r0 v9489_r0
  let v9491_r0 : BitVec 32 := Scalar.remsi v716_r0 c3_i32_4635_r0
  let c0_i32_4640_r0 : BitVec 32 := 0#32
  let v9492_r0 : BitVec 1 := Scalar.cmpi .ne v9491_r0 c0_i32_4640_r0
  let v9493_r0 : BitVec 1 := Scalar.andi v9490_r0 v9492_r0
  let v9479_r0 : BitVec 32 := Scalar.divsi v716_r0 c3_i32_4635_r0
  let c1_i32_4641_r0 : BitVec 32 := 1#32
  let v9494_r0 : BitVec 32 := Scalar.subi v9479_r0 c1_i32_4641_r0
  let v9495_r0 : BitVec 32 := Scalar.select v9493_r0 v9494_r0 v9479_r0
  let v9496_r0 : Index := Scalar.indexCast v9495_r0
  let c1408_r0 : Index := 1408#32
  let c0_4642_r0 : Index := 0#32
  ![v9496_r0.toNat, 1408, 0]
def k0_mult60 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_4644_r0 : BitVec 32 := 96#32
  let v9502_r0 : BitVec 32 := Scalar.muli v728_r0 c96_i32_4644_r0
  v9502_r0
def k0_off49 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_4782_r0 : BitVec 32 := 0#32
  let v9788_r0 : BitVec 1 := Scalar.cmpi .sgt v716_r0 c0_i32_4782_r0
  let v9789_r0 : BitVec 32 := Scalar.extui v9788_r0
  let c0_i32_4783_r0 : BitVec 32 := 0#32
  let v9790_r0 : BitVec 1 := Scalar.cmpi .slt v716_r0 c0_i32_4783_r0
  let v9791_r0 : BitVec 32 := Scalar.extui v9790_r0
  let v9792_r0 : BitVec 32 := Scalar.subi v9789_r0 v9791_r0
  let c3_i32_4781_r0 : BitVec 32 := 3#32
  let c0_i32_4784_r0 : BitVec 32 := 0#32
  let v9793_r0 : BitVec 1 := Scalar.cmpi .sgt c3_i32_4781_r0 c0_i32_4784_r0
  let v9794_r0 : BitVec 32 := Scalar.extui v9793_r0
  let c0_i32_4785_r0 : BitVec 32 := 0#32
  let v9795_r0 : BitVec 1 := Scalar.cmpi .slt c3_i32_4781_r0 c0_i32_4785_r0
  let v9796_r0 : BitVec 32 := Scalar.extui v9795_r0
  let v9797_r0 : BitVec 32 := Scalar.subi v9794_r0 v9796_r0
  let v9798_r0 : BitVec 1 := Scalar.cmpi .ne v9792_r0 v9797_r0
  let v9799_r0 : BitVec 32 := Scalar.remsi v716_r0 c3_i32_4781_r0
  let c0_i32_4786_r0 : BitVec 32 := 0#32
  let v9800_r0 : BitVec 1 := Scalar.cmpi .ne v9799_r0 c0_i32_4786_r0
  let v9801_r0 : BitVec 1 := Scalar.andi v9798_r0 v9800_r0
  let v9787_r0 : BitVec 32 := Scalar.divsi v716_r0 c3_i32_4781_r0
  let c1_i32_4787_r0 : BitVec 32 := 1#32
  let v9802_r0 : BitVec 32 := Scalar.subi v9787_r0 c1_i32_4787_r0
  let v9803_r0 : BitVec 32 := Scalar.select v9801_r0 v9802_r0 v9787_r0
  let v9804_r0 : Index := Scalar.indexCast v9803_r0
  let c0_4788_r0 : Index := 0#32
  let c1024_4789_r0 : Index := 1024#32
  ![v9804_r0.toNat, 0, 1024]
def k0_mult61 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_4811_r0 : BitVec 32 := 96#32
  let v9843_r0 : BitVec 32 := Scalar.muli v716_r0 c96_i32_4811_r0
  v9843_r0
def k0_off50 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_4811_r0 : BitVec 32 := 96#32
  let v9843_r0 : BitVec 32 := Scalar.muli v716_r0 c96_i32_4811_r0
  let v9844_r0 : BitVec 32 := v9843_r0
  let v9845_r0 : Index := Scalar.indexCast v9844_r0
  let c1536_4812_r0 : Index := 1536#32
  ![v9845_r0.toNat, 1536]
def k0_mult62 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_4834_r0 : BitVec 32 := 96#32
  let v9896_r0 : BitVec 32 := Scalar.muli v728_r0 c96_i32_4834_r0
  v9896_r0
def k0_mult63 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_4975_r0 : BitVec 32 := 96#32
  let v10178_r0 : BitVec 32 := Scalar.muli v716_r0 c96_i32_4975_r0
  v10178_r0
def k0_off51 (arg21_r0 : BitVec 32) (c0_i32_547_r0 : BitVec 32) (c0_i32_4990_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_4975_r0 : BitVec 32 := 96#32
  let v10178_r0 : BitVec 32 := Scalar.muli v716_r0 c96_i32_4975_r0
  let v10179_r0 : BitVec 32 := v10178_r0
  let v10223_r0 : BitVec 32 := Scalar.addi v10179_r0 c0_i32_4990_r0
  let v10224_r0 : Index := Scalar.indexCast v10223_r0
  let c1024_4991_r0 : Index := 1024#32
  ![v10224_r0.toNat, 1024]
def k0_off52 (arg21_r0 : BitVec 32) (c0_i32_547_r0 : BitVec 32) (c0_i32_4994_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c3_i32_4993_r0 : BitVec 32 := 3#32
  let v10231_r0 : BitVec 32 := Scalar.muli v716_r0 c3_i32_4993_r0
  let v10232_r0 : BitVec 32 := Scalar.addi v10231_r0 c0_i32_4994_r0
  let v10233_r0 : Index := Scalar.indexCast v10232_r0
  let c1024_4995_r0 : Index := 1024#32
  ![v10233_r0.toNat, 1024]
def k0_mult64 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_5036_r0 : BitVec 32 := 96#32
  let v10352_r0 : BitVec 32 := Scalar.muli v728_r0 c96_i32_5036_r0
  v10352_r0
def k0_mult65 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_5097_r0 : BitVec 32 := 96#32
  let v10525_r0 : BitVec 32 := Scalar.muli v716_r0 c96_i32_5097_r0
  v10525_r0
def k0_mult66 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_5120_r0 : BitVec 32 := 96#32
  let v10578_r0 : BitVec 32 := Scalar.muli v728_r0 c96_i32_5120_r0
  v10578_r0
def k0_off53 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let v10631_r0 : Index := Scalar.indexCast v716_r0
  let c1536_5143_r0 : Index := 1536#32
  ![v10631_r0.toNat, 1536]
def k0_mult67 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_5304_r0 : BitVec 32 := 96#32
  let v10937_r0 : BitVec 32 := Scalar.muli v716_r0 c96_i32_5304_r0
  v10937_r0
def k0_mult68 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_5327_r0 : BitVec 32 := 96#32
  let v10990_r0 : BitVec 32 := Scalar.muli v728_r0 c96_i32_5327_r0
  v10990_r0
def k0_mult69 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_5484_r0 : BitVec 32 := 96#32
  let v11313_r0 : BitVec 32 := Scalar.muli v716_r0 c96_i32_5484_r0
  v11313_r0
def k0_mult70 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_5507_r0 : BitVec 32 := 96#32
  let v11366_r0 : BitVec 32 := Scalar.muli v728_r0 c96_i32_5507_r0
  v11366_r0
def k0_mult71 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_5664_r0 : BitVec 32 := 96#32
  let v11689_r0 : BitVec 32 := Scalar.muli v716_r0 c96_i32_5664_r0
  v11689_r0
def k0_mult72 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_5687_r0 : BitVec 32 := 96#32
  let v11742_r0 : BitVec 32 := Scalar.muli v728_r0 c96_i32_5687_r0
  v11742_r0
def k0_mult73 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_5844_r0 : BitVec 32 := 96#32
  let v12065_r0 : BitVec 32 := Scalar.muli v716_r0 c96_i32_5844_r0
  v12065_r0
def k0_mult74 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_5867_r0 : BitVec 32 := 96#32
  let v12118_r0 : BitVec 32 := Scalar.muli v728_r0 c96_i32_5867_r0
  v12118_r0
def k0_mult75 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_6024_r0 : BitVec 32 := 96#32
  let v12441_r0 : BitVec 32 := Scalar.muli v716_r0 c96_i32_6024_r0
  v12441_r0
def k0_off54 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_6028_r0 : BitVec 32 := 0#32
  let v12449_r0 : BitVec 1 := Scalar.cmpi .sgt v716_r0 c0_i32_6028_r0
  let v12450_r0 : BitVec 32 := Scalar.extui v12449_r0
  let c0_i32_6029_r0 : BitVec 32 := 0#32
  let v12451_r0 : BitVec 1 := Scalar.cmpi .slt v716_r0 c0_i32_6029_r0
  let v12452_r0 : BitVec 32 := Scalar.extui v12451_r0
  let v12453_r0 : BitVec 32 := Scalar.subi v12450_r0 v12452_r0
  let c3_i32_6027_r0 : BitVec 32 := 3#32
  let c0_i32_6030_r0 : BitVec 32 := 0#32
  let v12454_r0 : BitVec 1 := Scalar.cmpi .sgt c3_i32_6027_r0 c0_i32_6030_r0
  let v12455_r0 : BitVec 32 := Scalar.extui v12454_r0
  let c0_i32_6031_r0 : BitVec 32 := 0#32
  let v12456_r0 : BitVec 1 := Scalar.cmpi .slt c3_i32_6027_r0 c0_i32_6031_r0
  let v12457_r0 : BitVec 32 := Scalar.extui v12456_r0
  let v12458_r0 : BitVec 32 := Scalar.subi v12455_r0 v12457_r0
  let v12459_r0 : BitVec 1 := Scalar.cmpi .ne v12453_r0 v12458_r0
  let v12460_r0 : BitVec 32 := Scalar.remsi v716_r0 c3_i32_6027_r0
  let c0_i32_6032_r0 : BitVec 32 := 0#32
  let v12461_r0 : BitVec 1 := Scalar.cmpi .ne v12460_r0 c0_i32_6032_r0
  let v12462_r0 : BitVec 1 := Scalar.andi v12459_r0 v12461_r0
  let v12448_r0 : BitVec 32 := Scalar.divsi v716_r0 c3_i32_6027_r0
  let c1_i32_6033_r0 : BitVec 32 := 1#32
  let v12463_r0 : BitVec 32 := Scalar.subi v12448_r0 c1_i32_6033_r0
  let v12464_r0 : BitVec 32 := Scalar.select v12462_r0 v12463_r0 v12448_r0
  let v12465_r0 : Index := Scalar.indexCast v12464_r0
  let c1536_6034_r0 : Index := 1536#32
  let c0_6035_r0 : Index := 0#32
  ![v12465_r0.toNat, 1536, 0]
def k0_off55 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_6038_r0 : BitVec 32 := 0#32
  let v12472_r0 : BitVec 1 := Scalar.cmpi .sgt v716_r0 c0_i32_6038_r0
  let v12473_r0 : BitVec 32 := Scalar.extui v12472_r0
  let c0_i32_6039_r0 : BitVec 32 := 0#32
  let v12474_r0 : BitVec 1 := Scalar.cmpi .slt v716_r0 c0_i32_6039_r0
  let v12475_r0 : BitVec 32 := Scalar.extui v12474_r0
  let v12476_r0 : BitVec 32 := Scalar.subi v12473_r0 v12475_r0
  let c3_i32_6037_r0 : BitVec 32 := 3#32
  let c0_i32_6040_r0 : BitVec 32 := 0#32
  let v12477_r0 : BitVec 1 := Scalar.cmpi .sgt c3_i32_6037_r0 c0_i32_6040_r0
  let v12478_r0 : BitVec 32 := Scalar.extui v12477_r0
  let c0_i32_6041_r0 : BitVec 32 := 0#32
  let v12479_r0 : BitVec 1 := Scalar.cmpi .slt c3_i32_6037_r0 c0_i32_6041_r0
  let v12480_r0 : BitVec 32 := Scalar.extui v12479_r0
  let v12481_r0 : BitVec 32 := Scalar.subi v12478_r0 v12480_r0
  let v12482_r0 : BitVec 1 := Scalar.cmpi .ne v12476_r0 v12481_r0
  let v12483_r0 : BitVec 32 := Scalar.remsi v716_r0 c3_i32_6037_r0
  let c0_i32_6042_r0 : BitVec 32 := 0#32
  let v12484_r0 : BitVec 1 := Scalar.cmpi .ne v12483_r0 c0_i32_6042_r0
  let v12485_r0 : BitVec 1 := Scalar.andi v12482_r0 v12484_r0
  let v12471_r0 : BitVec 32 := Scalar.divsi v716_r0 c3_i32_6037_r0
  let c1_i32_6043_r0 : BitVec 32 := 1#32
  let v12486_r0 : BitVec 32 := Scalar.subi v12471_r0 c1_i32_6043_r0
  let v12487_r0 : BitVec 32 := Scalar.select v12485_r0 v12486_r0 v12471_r0
  let v12488_r0 : Index := Scalar.indexCast v12487_r0
  let c1664_r0 : Index := 1664#32
  let c0_6044_r0 : Index := 0#32
  ![v12488_r0.toNat, 1664, 0]
def k0_mult76 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_6046_r0 : BitVec 32 := 96#32
  let v12494_r0 : BitVec 32 := Scalar.muli v728_r0 c96_i32_6046_r0
  v12494_r0
def k0_off56 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_6184_r0 : BitVec 32 := 0#32
  let v12780_r0 : BitVec 1 := Scalar.cmpi .sgt v716_r0 c0_i32_6184_r0
  let v12781_r0 : BitVec 32 := Scalar.extui v12780_r0
  let c0_i32_6185_r0 : BitVec 32 := 0#32
  let v12782_r0 : BitVec 1 := Scalar.cmpi .slt v716_r0 c0_i32_6185_r0
  let v12783_r0 : BitVec 32 := Scalar.extui v12782_r0
  let v12784_r0 : BitVec 32 := Scalar.subi v12781_r0 v12783_r0
  let c3_i32_6183_r0 : BitVec 32 := 3#32
  let c0_i32_6186_r0 : BitVec 32 := 0#32
  let v12785_r0 : BitVec 1 := Scalar.cmpi .sgt c3_i32_6183_r0 c0_i32_6186_r0
  let v12786_r0 : BitVec 32 := Scalar.extui v12785_r0
  let c0_i32_6187_r0 : BitVec 32 := 0#32
  let v12787_r0 : BitVec 1 := Scalar.cmpi .slt c3_i32_6183_r0 c0_i32_6187_r0
  let v12788_r0 : BitVec 32 := Scalar.extui v12787_r0
  let v12789_r0 : BitVec 32 := Scalar.subi v12786_r0 v12788_r0
  let v12790_r0 : BitVec 1 := Scalar.cmpi .ne v12784_r0 v12789_r0
  let v12791_r0 : BitVec 32 := Scalar.remsi v716_r0 c3_i32_6183_r0
  let c0_i32_6188_r0 : BitVec 32 := 0#32
  let v12792_r0 : BitVec 1 := Scalar.cmpi .ne v12791_r0 c0_i32_6188_r0
  let v12793_r0 : BitVec 1 := Scalar.andi v12790_r0 v12792_r0
  let v12779_r0 : BitVec 32 := Scalar.divsi v716_r0 c3_i32_6183_r0
  let c1_i32_6189_r0 : BitVec 32 := 1#32
  let v12794_r0 : BitVec 32 := Scalar.subi v12779_r0 c1_i32_6189_r0
  let v12795_r0 : BitVec 32 := Scalar.select v12793_r0 v12794_r0 v12779_r0
  let v12796_r0 : Index := Scalar.indexCast v12795_r0
  let c0_6190_r0 : Index := 0#32
  let c1280_6191_r0 : Index := 1280#32
  ![v12796_r0.toNat, 0, 1280]
def k0_mult77 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_6213_r0 : BitVec 32 := 96#32
  let v12835_r0 : BitVec 32 := Scalar.muli v716_r0 c96_i32_6213_r0
  v12835_r0
def k0_off57 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_6213_r0 : BitVec 32 := 96#32
  let v12835_r0 : BitVec 32 := Scalar.muli v716_r0 c96_i32_6213_r0
  let v12836_r0 : BitVec 32 := v12835_r0
  let v12837_r0 : Index := Scalar.indexCast v12836_r0
  let c1792_6214_r0 : Index := 1792#32
  ![v12837_r0.toNat, 1792]
def k0_mult78 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_6236_r0 : BitVec 32 := 96#32
  let v12888_r0 : BitVec 32 := Scalar.muli v728_r0 c96_i32_6236_r0
  v12888_r0
def k0_mult79 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_6377_r0 : BitVec 32 := 96#32
  let v13170_r0 : BitVec 32 := Scalar.muli v716_r0 c96_i32_6377_r0
  v13170_r0
def k0_off58 (arg21_r0 : BitVec 32) (c0_i32_547_r0 : BitVec 32) (c0_i32_6392_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_6377_r0 : BitVec 32 := 96#32
  let v13170_r0 : BitVec 32 := Scalar.muli v716_r0 c96_i32_6377_r0
  let v13171_r0 : BitVec 32 := v13170_r0
  let v13215_r0 : BitVec 32 := Scalar.addi v13171_r0 c0_i32_6392_r0
  let v13216_r0 : Index := Scalar.indexCast v13215_r0
  let c1280_6393_r0 : Index := 1280#32
  ![v13216_r0.toNat, 1280]
def k0_off59 (arg21_r0 : BitVec 32) (c0_i32_547_r0 : BitVec 32) (c0_i32_6396_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c3_i32_6395_r0 : BitVec 32 := 3#32
  let v13223_r0 : BitVec 32 := Scalar.muli v716_r0 c3_i32_6395_r0
  let v13224_r0 : BitVec 32 := Scalar.addi v13223_r0 c0_i32_6396_r0
  let v13225_r0 : Index := Scalar.indexCast v13224_r0
  let c1280_6397_r0 : Index := 1280#32
  ![v13225_r0.toNat, 1280]
def k0_mult80 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_6438_r0 : BitVec 32 := 96#32
  let v13344_r0 : BitVec 32 := Scalar.muli v728_r0 c96_i32_6438_r0
  v13344_r0
def k0_mult81 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_6499_r0 : BitVec 32 := 96#32
  let v13517_r0 : BitVec 32 := Scalar.muli v716_r0 c96_i32_6499_r0
  v13517_r0
def k0_mult82 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_6522_r0 : BitVec 32 := 96#32
  let v13570_r0 : BitVec 32 := Scalar.muli v728_r0 c96_i32_6522_r0
  v13570_r0
def k0_off60 (arg21_r0 : BitVec 32) (c0_i32_547_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let v13623_r0 : Index := Scalar.indexCast v716_r0
  let c1792_6545_r0 : Index := 1792#32
  ![v13623_r0.toNat, 1792]
def k0_mult83 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_6706_r0 : BitVec 32 := 96#32
  let v13929_r0 : BitVec 32 := Scalar.muli v716_r0 c96_i32_6706_r0
  v13929_r0
def k0_mult84 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_6729_r0 : BitVec 32 := 96#32
  let v13982_r0 : BitVec 32 := Scalar.muli v728_r0 c96_i32_6729_r0
  v13982_r0
def k0_mult85 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_6886_r0 : BitVec 32 := 96#32
  let v14305_r0 : BitVec 32 := Scalar.muli v716_r0 c96_i32_6886_r0
  v14305_r0
def k0_mult86 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_6909_r0 : BitVec 32 := 96#32
  let v14358_r0 : BitVec 32 := Scalar.muli v728_r0 c96_i32_6909_r0
  v14358_r0
def k0_mult87 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_7066_r0 : BitVec 32 := 96#32
  let v14681_r0 : BitVec 32 := Scalar.muli v716_r0 c96_i32_7066_r0
  v14681_r0
def k0_mult88 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_7089_r0 : BitVec 32 := 96#32
  let v14734_r0 : BitVec 32 := Scalar.muli v728_r0 c96_i32_7089_r0
  v14734_r0
def k0_mult89 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_7246_r0 : BitVec 32 := 96#32
  let v15057_r0 : BitVec 32 := Scalar.muli v716_r0 c96_i32_7246_r0
  v15057_r0
def k0_mult90 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_7269_r0 : BitVec 32 := 96#32
  let v15110_r0 : BitVec 32 := Scalar.muli v728_r0 c96_i32_7269_r0
  v15110_r0
def k0_mult91 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_7426_r0 : BitVec 32 := 96#32
  let v15433_r0 : BitVec 32 := Scalar.muli v716_r0 c96_i32_7426_r0
  v15433_r0
def k0_mult92 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_7449_r0 : BitVec 32 := 96#32
  let v15486_r0 : BitVec 32 := Scalar.muli v728_r0 c96_i32_7449_r0
  v15486_r0
def k0_mult93 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_7606_r0 : BitVec 32 := 96#32
  let v15809_r0 : BitVec 32 := Scalar.muli v716_r0 c96_i32_7606_r0
  v15809_r0
def k0_off61 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_7610_r0 : BitVec 32 := 0#32
  let v15817_r0 : BitVec 1 := Scalar.cmpi .sgt v716_r0 c0_i32_7610_r0
  let v15818_r0 : BitVec 32 := Scalar.extui v15817_r0
  let c0_i32_7611_r0 : BitVec 32 := 0#32
  let v15819_r0 : BitVec 1 := Scalar.cmpi .slt v716_r0 c0_i32_7611_r0
  let v15820_r0 : BitVec 32 := Scalar.extui v15819_r0
  let v15821_r0 : BitVec 32 := Scalar.subi v15818_r0 v15820_r0
  let c3_i32_7609_r0 : BitVec 32 := 3#32
  let c0_i32_7612_r0 : BitVec 32 := 0#32
  let v15822_r0 : BitVec 1 := Scalar.cmpi .sgt c3_i32_7609_r0 c0_i32_7612_r0
  let v15823_r0 : BitVec 32 := Scalar.extui v15822_r0
  let c0_i32_7613_r0 : BitVec 32 := 0#32
  let v15824_r0 : BitVec 1 := Scalar.cmpi .slt c3_i32_7609_r0 c0_i32_7613_r0
  let v15825_r0 : BitVec 32 := Scalar.extui v15824_r0
  let v15826_r0 : BitVec 32 := Scalar.subi v15823_r0 v15825_r0
  let v15827_r0 : BitVec 1 := Scalar.cmpi .ne v15821_r0 v15826_r0
  let v15828_r0 : BitVec 32 := Scalar.remsi v716_r0 c3_i32_7609_r0
  let c0_i32_7614_r0 : BitVec 32 := 0#32
  let v15829_r0 : BitVec 1 := Scalar.cmpi .ne v15828_r0 c0_i32_7614_r0
  let v15830_r0 : BitVec 1 := Scalar.andi v15827_r0 v15829_r0
  let v15816_r0 : BitVec 32 := Scalar.divsi v716_r0 c3_i32_7609_r0
  let c1_i32_7615_r0 : BitVec 32 := 1#32
  let v15831_r0 : BitVec 32 := Scalar.subi v15816_r0 c1_i32_7615_r0
  let v15832_r0 : BitVec 32 := Scalar.select v15830_r0 v15831_r0 v15816_r0
  let v15833_r0 : Index := Scalar.indexCast v15832_r0
  let c1792_7616_r0 : Index := 1792#32
  let c0_7617_r0 : Index := 0#32
  ![v15833_r0.toNat, 1792, 0]
def k0_off62 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_7620_r0 : BitVec 32 := 0#32
  let v15840_r0 : BitVec 1 := Scalar.cmpi .sgt v716_r0 c0_i32_7620_r0
  let v15841_r0 : BitVec 32 := Scalar.extui v15840_r0
  let c0_i32_7621_r0 : BitVec 32 := 0#32
  let v15842_r0 : BitVec 1 := Scalar.cmpi .slt v716_r0 c0_i32_7621_r0
  let v15843_r0 : BitVec 32 := Scalar.extui v15842_r0
  let v15844_r0 : BitVec 32 := Scalar.subi v15841_r0 v15843_r0
  let c3_i32_7619_r0 : BitVec 32 := 3#32
  let c0_i32_7622_r0 : BitVec 32 := 0#32
  let v15845_r0 : BitVec 1 := Scalar.cmpi .sgt c3_i32_7619_r0 c0_i32_7622_r0
  let v15846_r0 : BitVec 32 := Scalar.extui v15845_r0
  let c0_i32_7623_r0 : BitVec 32 := 0#32
  let v15847_r0 : BitVec 1 := Scalar.cmpi .slt c3_i32_7619_r0 c0_i32_7623_r0
  let v15848_r0 : BitVec 32 := Scalar.extui v15847_r0
  let v15849_r0 : BitVec 32 := Scalar.subi v15846_r0 v15848_r0
  let v15850_r0 : BitVec 1 := Scalar.cmpi .ne v15844_r0 v15849_r0
  let v15851_r0 : BitVec 32 := Scalar.remsi v716_r0 c3_i32_7619_r0
  let c0_i32_7624_r0 : BitVec 32 := 0#32
  let v15852_r0 : BitVec 1 := Scalar.cmpi .ne v15851_r0 c0_i32_7624_r0
  let v15853_r0 : BitVec 1 := Scalar.andi v15850_r0 v15852_r0
  let v15839_r0 : BitVec 32 := Scalar.divsi v716_r0 c3_i32_7619_r0
  let c1_i32_7625_r0 : BitVec 32 := 1#32
  let v15854_r0 : BitVec 32 := Scalar.subi v15839_r0 c1_i32_7625_r0
  let v15855_r0 : BitVec 32 := Scalar.select v15853_r0 v15854_r0 v15839_r0
  let v15856_r0 : Index := Scalar.indexCast v15855_r0
  let c1920_r0 : Index := 1920#32
  let c0_7626_r0 : Index := 0#32
  ![v15856_r0.toNat, 1920, 0]
def k0_mult94 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_7628_r0 : BitVec 32 := 96#32
  let v15862_r0 : BitVec 32 := Scalar.muli v728_r0 c96_i32_7628_r0
  v15862_r0
def k0_off63 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_7766_r0 : BitVec 32 := 0#32
  let v16148_r0 : BitVec 1 := Scalar.cmpi .sgt v716_r0 c0_i32_7766_r0
  let v16149_r0 : BitVec 32 := Scalar.extui v16148_r0
  let c0_i32_7767_r0 : BitVec 32 := 0#32
  let v16150_r0 : BitVec 1 := Scalar.cmpi .slt v716_r0 c0_i32_7767_r0
  let v16151_r0 : BitVec 32 := Scalar.extui v16150_r0
  let v16152_r0 : BitVec 32 := Scalar.subi v16149_r0 v16151_r0
  let c3_i32_7765_r0 : BitVec 32 := 3#32
  let c0_i32_7768_r0 : BitVec 32 := 0#32
  let v16153_r0 : BitVec 1 := Scalar.cmpi .sgt c3_i32_7765_r0 c0_i32_7768_r0
  let v16154_r0 : BitVec 32 := Scalar.extui v16153_r0
  let c0_i32_7769_r0 : BitVec 32 := 0#32
  let v16155_r0 : BitVec 1 := Scalar.cmpi .slt c3_i32_7765_r0 c0_i32_7769_r0
  let v16156_r0 : BitVec 32 := Scalar.extui v16155_r0
  let v16157_r0 : BitVec 32 := Scalar.subi v16154_r0 v16156_r0
  let v16158_r0 : BitVec 1 := Scalar.cmpi .ne v16152_r0 v16157_r0
  let v16159_r0 : BitVec 32 := Scalar.remsi v716_r0 c3_i32_7765_r0
  let c0_i32_7770_r0 : BitVec 32 := 0#32
  let v16160_r0 : BitVec 1 := Scalar.cmpi .ne v16159_r0 c0_i32_7770_r0
  let v16161_r0 : BitVec 1 := Scalar.andi v16158_r0 v16160_r0
  let v16147_r0 : BitVec 32 := Scalar.divsi v716_r0 c3_i32_7765_r0
  let c1_i32_7771_r0 : BitVec 32 := 1#32
  let v16162_r0 : BitVec 32 := Scalar.subi v16147_r0 c1_i32_7771_r0
  let v16163_r0 : BitVec 32 := Scalar.select v16161_r0 v16162_r0 v16147_r0
  let v16164_r0 : Index := Scalar.indexCast v16163_r0
  let c0_7772_r0 : Index := 0#32
  let c1536_7773_r0 : Index := 1536#32
  ![v16164_r0.toNat, 0, 1536]
def k0_mult95 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_7913_r0 : BitVec 32 := 96#32
  let v16432_r0 : BitVec 32 := Scalar.muli v716_r0 c96_i32_7913_r0
  v16432_r0
def k0_off64 (arg21_r0 : BitVec 32) (c0_i32_547_r0 : BitVec 32) (c0_i32_7928_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_7913_r0 : BitVec 32 := 96#32
  let v16432_r0 : BitVec 32 := Scalar.muli v716_r0 c96_i32_7913_r0
  let v16433_r0 : BitVec 32 := v16432_r0
  let v16477_r0 : BitVec 32 := Scalar.addi v16433_r0 c0_i32_7928_r0
  let v16478_r0 : Index := Scalar.indexCast v16477_r0
  let c1536_7929_r0 : Index := 1536#32
  ![v16478_r0.toNat, 1536]
def k0_off65 (arg21_r0 : BitVec 32) (c0_i32_547_r0 : BitVec 32) (c0_i32_7932_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c3_i32_7931_r0 : BitVec 32 := 3#32
  let v16485_r0 : BitVec 32 := Scalar.muli v716_r0 c3_i32_7931_r0
  let v16486_r0 : BitVec 32 := Scalar.addi v16485_r0 c0_i32_7932_r0
  let v16487_r0 : Index := Scalar.indexCast v16486_r0
  let c1536_7933_r0 : Index := 1536#32
  ![v16487_r0.toNat, 1536]
def k0_mult96 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_7974_r0 : BitVec 32 := 96#32
  let v16606_r0 : BitVec 32 := Scalar.muli v728_r0 c96_i32_7974_r0
  v16606_r0
def k0_off66 (arg21_r0 : BitVec 32) (c0_i32_547_r0 : BitVec 32) : Fin 3 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c0_i32_8272_r0 : BitVec 32 := 0#32
  let v17174_r0 : BitVec 1 := Scalar.cmpi .sgt v716_r0 c0_i32_8272_r0
  let v17175_r0 : BitVec 32 := Scalar.extui v17174_r0
  let c0_i32_8273_r0 : BitVec 32 := 0#32
  let v17176_r0 : BitVec 1 := Scalar.cmpi .slt v716_r0 c0_i32_8273_r0
  let v17177_r0 : BitVec 32 := Scalar.extui v17176_r0
  let v17178_r0 : BitVec 32 := Scalar.subi v17175_r0 v17177_r0
  let c3_i32_8271_r0 : BitVec 32 := 3#32
  let c0_i32_8274_r0 : BitVec 32 := 0#32
  let v17179_r0 : BitVec 1 := Scalar.cmpi .sgt c3_i32_8271_r0 c0_i32_8274_r0
  let v17180_r0 : BitVec 32 := Scalar.extui v17179_r0
  let c0_i32_8275_r0 : BitVec 32 := 0#32
  let v17181_r0 : BitVec 1 := Scalar.cmpi .slt c3_i32_8271_r0 c0_i32_8275_r0
  let v17182_r0 : BitVec 32 := Scalar.extui v17181_r0
  let v17183_r0 : BitVec 32 := Scalar.subi v17180_r0 v17182_r0
  let v17184_r0 : BitVec 1 := Scalar.cmpi .ne v17178_r0 v17183_r0
  let v17185_r0 : BitVec 32 := Scalar.remsi v716_r0 c3_i32_8271_r0
  let c0_i32_8276_r0 : BitVec 32 := 0#32
  let v17186_r0 : BitVec 1 := Scalar.cmpi .ne v17185_r0 c0_i32_8276_r0
  let v17187_r0 : BitVec 1 := Scalar.andi v17184_r0 v17186_r0
  let v17173_r0 : BitVec 32 := Scalar.divsi v716_r0 c3_i32_8271_r0
  let c1_i32_8277_r0 : BitVec 32 := 1#32
  let v17188_r0 : BitVec 32 := Scalar.subi v17173_r0 c1_i32_8277_r0
  let v17189_r0 : BitVec 32 := Scalar.select v17187_r0 v17188_r0 v17173_r0
  let v17190_r0 : Index := Scalar.indexCast v17189_r0
  let c0_8278_r0 : Index := 0#32
  let c1792_8279_r0 : Index := 1792#32
  ![v17190_r0.toNat, 0, 1792]
def k0_mult97 (arg21_r0 : BitVec 32) : BitVec 32 :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let c0_i32_547_r0 : BitVec 32 := 0#32
  let v716_r0 : BitVec 32 := Scalar.addi v715_r0 c0_i32_547_r0
  let c96_i32_8301_r0 : BitVec 32 := 96#32
  let v17230_r0 : BitVec 32 := Scalar.muli v716_r0 c96_i32_8301_r0
  v17230_r0
def k0_off67 (arg21_r0 : BitVec 32) (c0_i32_547_r0 : BitVec 32) (c0_i32_8316_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c96_i32_8301_r0 : BitVec 32 := 96#32
  let v17230_r0 : BitVec 32 := Scalar.muli v716_r0 c96_i32_8301_r0
  let v17231_r0 : BitVec 32 := v17230_r0
  let v17275_r0 : BitVec 32 := Scalar.addi v17231_r0 c0_i32_8316_r0
  let v17276_r0 : Index := Scalar.indexCast v17275_r0
  let c1792_8317_r0 : Index := 1792#32
  ![v17276_r0.toNat, 1792]
def k0_off68 (arg21_r0 : BitVec 32) (c0_i32_547_r0 : BitVec 32) (c0_i32_8320_r0 : BitVec 32) : Fin 2 → Nat :=
  let c2_i32_r0 : BitVec 32 := 2#32
  let c6_i32_542_r0 : BitVec 32 := 6#32
  let c0_i32_543_r0 : BitVec 32 := 0#32
  let v705_r0 : BitVec 1 := Scalar.cmpi .eq c6_i32_542_r0 c0_i32_543_r0
  let c1_i32_r0 : BitVec 32 := 1#32
  let v706_r0 : BitVec 32 := Scalar.select v705_r0 c1_i32_r0 c6_i32_542_r0
  let v707_r0 : BitVec 32 := Scalar.remsi arg21_r0 v706_r0
  let c0_i32_545_r0 : BitVec 32 := 0#32
  let v709_r0 : BitVec 1 := Scalar.cmpi .slt v707_r0 c0_i32_545_r0
  let c0_i32_546_r0 : BitVec 32 := 0#32
  let v710_r0 : BitVec 1 := Scalar.cmpi .slt v706_r0 c0_i32_546_r0
  let v711_r0 : BitVec 1 := Scalar.xori v709_r0 v710_r0
  let c0_i32_544_r0 : BitVec 32 := 0#32
  let v708_r0 : BitVec 1 := Scalar.cmpi .ne v707_r0 c0_i32_544_r0
  let v712_r0 : BitVec 1 := Scalar.andi v711_r0 v708_r0
  let v713_r0 : BitVec 32 := Scalar.addi v707_r0 v706_r0
  let v714_r0 : BitVec 32 := Scalar.select v712_r0 v713_r0 v707_r0
  let v715_r0 : BitVec 32 := Scalar.muli c2_i32_r0 v714_r0
  let v716_r0 : BitVec 32 := Scalar.addi v715_r0 c0_i32_547_r0
  let c3_i32_8319_r0 : BitVec 32 := 3#32
  let v17283_r0 : BitVec 32 := Scalar.muli v716_r0 c3_i32_8319_r0
  let v17284_r0 : BitVec 32 := Scalar.addi v17283_r0 c0_i32_8320_r0
  let v17285_r0 : Index := Scalar.indexCast v17284_r0
  let c1792_8321_r0 : Index := 1792#32
  ![v17285_r0.toNat, 1792]
def k0_mult98 (arg21_r0 : BitVec 32) : BitVec 32 :=
  let c2_i32_554_r0 : BitVec 32 := 2#32
  let c6_i32_548_r0 : BitVec 32 := 6#32
  let c0_i32_549_r0 : BitVec 32 := 0#32
  let v717_r0 : BitVec 1 := Scalar.cmpi .eq c6_i32_548_r0 c0_i32_549_r0
  let c1_i32_550_r0 : BitVec 32 := 1#32
  let v718_r0 : BitVec 32 := Scalar.select v717_r0 c1_i32_550_r0 c6_i32_548_r0
  let v719_r0 : BitVec 32 := Scalar.remsi arg21_r0 v718_r0
  let c0_i32_552_r0 : BitVec 32 := 0#32
  let v721_r0 : BitVec 1 := Scalar.cmpi .slt v719_r0 c0_i32_552_r0
  let c0_i32_553_r0 : BitVec 32 := 0#32
  let v722_r0 : BitVec 1 := Scalar.cmpi .slt v718_r0 c0_i32_553_r0
  let v723_r0 : BitVec 1 := Scalar.xori v721_r0 v722_r0
  let c0_i32_551_r0 : BitVec 32 := 0#32
  let v720_r0 : BitVec 1 := Scalar.cmpi .ne v719_r0 c0_i32_551_r0
  let v724_r0 : BitVec 1 := Scalar.andi v723_r0 v720_r0
  let v725_r0 : BitVec 32 := Scalar.addi v719_r0 v718_r0
  let v726_r0 : BitVec 32 := Scalar.select v724_r0 v725_r0 v719_r0
  let v727_r0 : BitVec 32 := Scalar.muli c2_i32_554_r0 v726_r0
  let c1_i32_555_r0 : BitVec 32 := 1#32
  let v728_r0 : BitVec 32 := Scalar.addi v727_r0 c1_i32_555_r0
  let c96_i32_8362_r0 : BitVec 32 := 96#32
  let v17404_r0 : BitVec 32 := Scalar.muli v728_r0 c96_i32_8362_r0
  v17404_r0

def k0_chk1_0 (arg21_r0 : BitVec 32) : Prop :=
  (∀ k0_t1 : Fin k0_t1_loop.trips, ∀ (k0_h1 : k0_cond1 arg21_r0 = 1#1), ∀ a, (k0_off1 arg21_r0 k0_t1) a + S1x256.size a ≤ S12x2048.size a) ∧
  (∀ (k0_h1 : k0_cond1 arg21_r0 = 1#1), 32 ∣ (k0_mult3 arg21_r0).toNat) ∧
  (∀ k0_t1 : Fin k0_t1_loop.trips, ∀ (k0_h1 : k0_cond1 arg21_r0 = 1#1), ∀ a, (k0_off2 arg21_r0 k0_t1) a + S96x256.size a ≤ S1152x2048.size a) ∧
  (∀ (k0_t1 : Fin k0_t1_loop.trips) (k0_t2 : Fin (k0_t2_loop k0_t1).trips), ∀ (k0_h1 : k0_cond1 arg21_r0 = 1#1), ∀ a, (k0_off3 arg21_r0 k0_t1 k0_t2) a + S1x128x128.size a ≤ S4x2048x128.size a) ∧
  (∀ (k0_t1 : Fin k0_t1_loop.trips) (k0_t3 : Fin (k0_t3_loop k0_t1).trips), ∀ (k0_h1 : k0_cond1 arg21_r0 = 1#1), 32 ∣ (k0_mult5 arg21_r0).toNat) ∧
  (∀ (k0_t1 : Fin k0_t1_loop.trips) (k0_t3 : Fin (k0_t3_loop k0_t1).trips), ∀ (k0_h1 : k0_cond1 arg21_r0 = 1#1), ∀ a, (k0_off4 arg21_r0 k0_t1) a + S96x256.size a ≤ S1152x2048.size a) ∧
  (∀ (k0_t1 : Fin k0_t1_loop.trips) (k0_t3 : Fin (k0_t3_loop k0_t1).trips), ∀ (k0_h1 : k0_cond1 arg21_r0 = 1#1), ∀ a, (k0_off5 arg21_r0 k0_t1 k0_t3) a + S1x128x128.size a ≤ S4x2048x128.size a) ∧
  (∀ k0_t4 : Fin k0_t4_loop.trips, ∀ (k0_h1 : k0_cond1 arg21_r0 = 1#1), ∀ a, (k0_off7 arg21_r0 k0_t4) a + S1x256.size a ≤ S12x2048.size a) ∧
  (∀ (k0_h1 : k0_cond1 arg21_r0 = 1#1), 32 ∣ (k0_mult8 arg21_r0).toNat) ∧
  (∀ k0_t4 : Fin k0_t4_loop.trips, ∀ (k0_h1 : k0_cond1 arg21_r0 = 1#1), ∀ a, (k0_off8 arg21_r0 k0_t4) a + S96x256.size a ≤ S1152x2048.size a) ∧
  (∀ (k0_t4 : Fin k0_t4_loop.trips) (k0_t5 : Fin (k0_t5_loop k0_t4).trips), ∀ (k0_h1 : k0_cond1 arg21_r0 = 1#1), ∀ a, (k0_off9 arg21_r0 k0_t4 k0_t5) a + S1x128x128.size a ≤ S4x2048x128.size a) ∧
  (∀ (k0_t4 : Fin k0_t4_loop.trips) (k0_t6 : Fin (k0_t6_loop k0_t4).trips), ∀ (k0_h1 : k0_cond1 arg21_r0 = 1#1), 32 ∣ (k0_mult10 arg21_r0).toNat) ∧
  (∀ (k0_t4 : Fin k0_t4_loop.trips) (k0_t6 : Fin (k0_t6_loop k0_t4).trips), ∀ (k0_h1 : k0_cond1 arg21_r0 = 1#1), ∀ a, (k0_off10 arg21_r0 k0_t4) a + S96x256.size a ≤ S1152x2048.size a) ∧
  (∀ (k0_t4 : Fin k0_t4_loop.trips) (k0_t6 : Fin (k0_t6_loop k0_t4).trips), ∀ (k0_h1 : k0_cond1 arg21_r0 = 1#1), ∀ a, (k0_off11 arg21_r0 k0_t4 k0_t6) a + S1x128x128.size a ≤ S4x2048x128.size a) ∧
  (32 ∣ (k0_mult11 arg21_r0).toNat) ∧
  (∀ (r : Fin 2), ∀ a, (k0_off13 arg21_r0 (BitVec.ofNat 32 r.val)) a + S96x256.size a ≤ S1152x2048.size a) ∧
  (∀ (r : Fin 2), ∀ a, (k0_off14 arg21_r0 (BitVec.ofNat 32 r.val)) a + S1x128x128.size a ≤ S4x2048x128.size a) ∧
  (∀ (r : Fin 2), ∀ a, (k0_off15 arg21_r0 (BitVec.ofNat 32 r.val)) a + S1x128x128.size a ≤ S4x2048x128.size a) ∧
  (32 ∣ (k0_mult12 arg21_r0).toNat) ∧
  (32 ∣ (k0_mult13 arg21_r0).toNat) ∧
  (∀ (r : Fin 2), ∀ a, (k0_off16 arg21_r0 (BitVec.ofNat 32 r.val)) a + S96x256.size a ≤ S1152x2048.size a) ∧
  (32 ∣ (k0_mult14 arg21_r0).toNat) ∧
  (∀ (r : Fin 2), ∀ a, (k0_off17 arg21_r0 (BitVec.ofNat 32 r.val)) a + S1x256.size a ≤ S12x2048.size a) ∧
  (32 ∣ (k0_mult15 arg21_r0).toNat) ∧
  (∀ (r : Fin 2), ∀ a, (k0_off18 arg21_r0 (BitVec.ofNat 32 r.val)) a + S1x128x128.size a ≤ S4x2048x128.size a) ∧
  (∀ (r : Fin 2), ∀ a, (k0_off19 arg21_r0 (BitVec.ofNat 32 r.val)) a + S1x128x128.size a ≤ S4x2048x128.size a) ∧
  (32 ∣ (k0_mult16 arg21_r0).toNat) ∧
  (∀ (r : Fin 2), ∀ a, (k0_off20 arg21_r0 (BitVec.ofNat 32 r.val)) a + S1x256.size a ≤ S12x2048.size a) ∧
  (∀ (r : Fin 2), ∀ a, (k0_off21 arg21_r0 (BitVec.ofNat 32 r.val)) a + S1x96x256.size a ≤ S4x96x2048.size a) ∧
  (32 ∣ (k0_mult17 arg21_r0).toNat) ∧
  (∀ (r : Fin 2), ∀ a, (k0_off22 arg21_r0 (BitVec.ofNat 32 r.val)) a + S96x256.size a ≤ S1152x2048.size a) ∧
  (32 ∣ (k0_mult18 arg21_r0).toNat)
def k0_chk1_1 (arg21_r0 : BitVec 32) : Prop :=
  (32 ∣ (k0_mult19 arg21_r0).toNat) ∧
  (∀ (r₁ : Fin 2) (r₂ : Fin 3), ∀ a, (k0_off23 arg21_r0 (BitVec.ofNat 32 r₁.val) (BitVec.ofNat 32 (32 * r₂.val))) a + S32x256.size a ≤ S1152x2048.size a) ∧
  (∀ (r₁ : Fin 2) (r₂ : Fin 3), ∀ (hinb : ∀ a, (k0_off23 arg21_r0 (BitVec.ofNat 32 r₁.val) (BitVec.ofNat 32 (32 * r₂.val))) a + S32x256.size a ≤ S1152x2048.size a), (Rect.unit (s := S1152x2048) (k0_off23 arg21_r0 (BitVec.ofNat 32 r₁.val) (BitVec.ofNat 32 (32 * r₂.val))) S32x256.size hinb).PackedRows (EltTy.packing .bf16)) ∧
  (∀ (r₁ : Fin 2) (r₂ : Fin 3), ∀ a, (k0_off24 arg21_r0 (BitVec.ofNat 32 r₁.val) (BitVec.ofNat 32 r₂.val)) a + S1x256.size a ≤ S128x2048.size a) ∧
  (32 ∣ (k0_mult20 arg21_r0).toNat) ∧
  (32 ∣ (k0_mult21 arg21_r0).toNat) ∧
  (32 ∣ (k0_mult22 arg21_r0).toNat) ∧
  (∀ (r : Fin 2), ∀ a, (k0_off25 arg21_r0 (BitVec.ofNat 32 r.val)) a + S1x256.size a ≤ S12x2048.size a) ∧
  (32 ∣ (k0_mult23 arg21_r0).toNat) ∧
  (∀ (r : Fin 2), ∀ a, (k0_off26 arg21_r0 (BitVec.ofNat 32 r.val)) a + S1x128x128.size a ≤ S4x2048x128.size a) ∧
  (∀ (r : Fin 2), ∀ a, (k0_off27 arg21_r0 (BitVec.ofNat 32 r.val)) a + S1x128x128.size a ≤ S4x2048x128.size a) ∧
  (32 ∣ (k0_mult24 arg21_r0).toNat) ∧
  (∀ (r : Fin 2), ∀ a, (k0_off28 arg21_r0 (BitVec.ofNat 32 r.val)) a + S1x96x256.size a ≤ S4x96x2048.size a) ∧
  (32 ∣ (k0_mult25 arg21_r0).toNat) ∧
  (∀ (r : Fin 2), ∀ a, (k0_off29 arg21_r0 (BitVec.ofNat 32 r.val)) a + S96x256.size a ≤ S1152x2048.size a) ∧
  (32 ∣ (k0_mult26 arg21_r0).toNat) ∧
  (32 ∣ (k0_mult27 arg21_r0).toNat) ∧
  (∀ (r₁ : Fin 2) (r₂ : Fin 3), ∀ a, (k0_off30 arg21_r0 (BitVec.ofNat 32 r₁.val) (BitVec.ofNat 32 (32 * r₂.val))) a + S32x256.size a ≤ S1152x2048.size a) ∧
  (∀ (r₁ : Fin 2) (r₂ : Fin 3), ∀ (hinb : ∀ a, (k0_off30 arg21_r0 (BitVec.ofNat 32 r₁.val) (BitVec.ofNat 32 (32 * r₂.val))) a + S32x256.size a ≤ S1152x2048.size a), (Rect.unit (s := S1152x2048) (k0_off30 arg21_r0 (BitVec.ofNat 32 r₁.val) (BitVec.ofNat 32 (32 * r₂.val))) S32x256.size hinb).PackedRows (EltTy.packing .bf16)) ∧
  (∀ (r₁ : Fin 2) (r₂ : Fin 3), ∀ a, (k0_off31 arg21_r0 (BitVec.ofNat 32 r₁.val) (BitVec.ofNat 32 r₂.val)) a + S1x256.size a ≤ S128x2048.size a) ∧
  (32 ∣ (k0_mult28 arg21_r0).toNat) ∧
  (32 ∣ (k0_mult29 arg21_r0).toNat) ∧
  (32 ∣ (k0_mult30 arg21_r0).toNat) ∧
  (∀ (r : Fin 2), ∀ a, (k0_off32 arg21_r0 (BitVec.ofNat 32 r.val)) a + S1x256.size a ≤ S12x2048.size a) ∧
  (32 ∣ (k0_mult31 arg21_r0).toNat) ∧
  (32 ∣ (k0_mult32 arg21_r0).toNat) ∧
  (32 ∣ (k0_mult33 arg21_r0).toNat) ∧
  (∀ (r : Fin 2), ∀ a, (k0_off33 arg21_r0 (BitVec.ofNat 32 r.val)) a + S1x128x128.size a ≤ S4x2048x128.size a) ∧
  (∀ (r : Fin 2), ∀ a, (k0_off34 arg21_r0 (BitVec.ofNat 32 r.val)) a + S1x128x128.size a ≤ S4x2048x128.size a) ∧
  (32 ∣ (k0_mult34 arg21_r0).toNat) ∧
  (∀ (r : Fin 2), ∀ a, (k0_off35 arg21_r0 (BitVec.ofNat 32 r.val)) a + S1x96x256.size a ≤ S4x96x2048.size a) ∧
  (32 ∣ (k0_mult35 arg21_r0).toNat)
def k0_chk1_2 (arg21_r0 : BitVec 32) : Prop :=
  (∀ (r : Fin 2), ∀ a, (k0_off36 arg21_r0 (BitVec.ofNat 32 r.val)) a + S96x256.size a ≤ S1152x2048.size a) ∧
  (32 ∣ (k0_mult36 arg21_r0).toNat) ∧
  (32 ∣ (k0_mult37 arg21_r0).toNat) ∧
  (∀ (r₁ : Fin 2) (r₂ : Fin 3), ∀ a, (k0_off37 arg21_r0 (BitVec.ofNat 32 r₁.val) (BitVec.ofNat 32 (32 * r₂.val))) a + S32x256.size a ≤ S1152x2048.size a) ∧
  (∀ (r₁ : Fin 2) (r₂ : Fin 3), ∀ (hinb : ∀ a, (k0_off37 arg21_r0 (BitVec.ofNat 32 r₁.val) (BitVec.ofNat 32 (32 * r₂.val))) a + S32x256.size a ≤ S1152x2048.size a), (Rect.unit (s := S1152x2048) (k0_off37 arg21_r0 (BitVec.ofNat 32 r₁.val) (BitVec.ofNat 32 (32 * r₂.val))) S32x256.size hinb).PackedRows (EltTy.packing .bf16)) ∧
  (∀ (r₁ : Fin 2) (r₂ : Fin 3), ∀ a, (k0_off38 arg21_r0 (BitVec.ofNat 32 r₁.val) (BitVec.ofNat 32 r₂.val)) a + S1x256.size a ≤ S128x2048.size a) ∧
  (32 ∣ (k0_mult38 arg21_r0).toNat) ∧
  (32 ∣ (k0_mult39 arg21_r0).toNat) ∧
  (32 ∣ (k0_mult40 arg21_r0).toNat) ∧
  (∀ (r : Fin 2), ∀ a, (k0_off39 arg21_r0 (BitVec.ofNat 32 r.val)) a + S1x256.size a ≤ S12x2048.size a) ∧
  (32 ∣ (k0_mult41 arg21_r0).toNat) ∧
  (32 ∣ (k0_mult42 arg21_r0).toNat) ∧
  (32 ∣ (k0_mult43 arg21_r0).toNat) ∧
  (32 ∣ (k0_mult44 arg21_r0).toNat) ∧
  (32 ∣ (k0_mult45 arg21_r0).toNat) ∧
  (∀ (r : Fin 2), ∀ a, (k0_off40 arg21_r0 (BitVec.ofNat 32 r.val)) a + S1x128x128.size a ≤ S4x2048x128.size a) ∧
  (∀ (r : Fin 2), ∀ a, (k0_off41 arg21_r0 (BitVec.ofNat 32 r.val)) a + S1x128x128.size a ≤ S4x2048x128.size a) ∧
  (32 ∣ (k0_mult46 arg21_r0).toNat) ∧
  (∀ (r : Fin 2), ∀ a, (k0_off42 arg21_r0 (BitVec.ofNat 32 r.val)) a + S1x96x256.size a ≤ S4x96x2048.size a) ∧
  (32 ∣ (k0_mult47 arg21_r0).toNat) ∧
  (∀ (r : Fin 2), ∀ a, (k0_off43 arg21_r0 (BitVec.ofNat 32 r.val)) a + S96x256.size a ≤ S1152x2048.size a) ∧
  (32 ∣ (k0_mult48 arg21_r0).toNat) ∧
  (32 ∣ (k0_mult49 arg21_r0).toNat) ∧
  (∀ (r₁ : Fin 2) (r₂ : Fin 3), ∀ a, (k0_off44 arg21_r0 (BitVec.ofNat 32 r₁.val) (BitVec.ofNat 32 (32 * r₂.val))) a + S32x256.size a ≤ S1152x2048.size a) ∧
  (∀ (r₁ : Fin 2) (r₂ : Fin 3), ∀ (hinb : ∀ a, (k0_off44 arg21_r0 (BitVec.ofNat 32 r₁.val) (BitVec.ofNat 32 (32 * r₂.val))) a + S32x256.size a ≤ S1152x2048.size a), (Rect.unit (s := S1152x2048) (k0_off44 arg21_r0 (BitVec.ofNat 32 r₁.val) (BitVec.ofNat 32 (32 * r₂.val))) S32x256.size hinb).PackedRows (EltTy.packing .bf16)) ∧
  (∀ (r₁ : Fin 2) (r₂ : Fin 3), ∀ a, (k0_off45 arg21_r0 (BitVec.ofNat 32 r₁.val) (BitVec.ofNat 32 r₂.val)) a + S1x256.size a ≤ S128x2048.size a) ∧
  (32 ∣ (k0_mult50 arg21_r0).toNat) ∧
  (32 ∣ (k0_mult51 arg21_r0).toNat) ∧
  (32 ∣ (k0_mult52 arg21_r0).toNat) ∧
  (∀ (r : Fin 2), ∀ a, (k0_off46 arg21_r0 (BitVec.ofNat 32 r.val)) a + S1x256.size a ≤ S12x2048.size a) ∧
  (32 ∣ (k0_mult53 arg21_r0).toNat) ∧
  (32 ∣ (k0_mult54 arg21_r0).toNat)
def k0_chk1_3 (arg21_r0 : BitVec 32) : Prop :=
  (32 ∣ (k0_mult55 arg21_r0).toNat) ∧
  (32 ∣ (k0_mult56 arg21_r0).toNat) ∧
  (32 ∣ (k0_mult57 arg21_r0).toNat) ∧
  (32 ∣ (k0_mult58 arg21_r0).toNat) ∧
  (32 ∣ (k0_mult59 arg21_r0).toNat) ∧
  (∀ (r : Fin 2), ∀ a, (k0_off47 arg21_r0 (BitVec.ofNat 32 r.val)) a + S1x128x128.size a ≤ S4x2048x128.size a) ∧
  (∀ (r : Fin 2), ∀ a, (k0_off48 arg21_r0 (BitVec.ofNat 32 r.val)) a + S1x128x128.size a ≤ S4x2048x128.size a) ∧
  (32 ∣ (k0_mult60 arg21_r0).toNat) ∧
  (∀ (r : Fin 2), ∀ a, (k0_off49 arg21_r0 (BitVec.ofNat 32 r.val)) a + S1x96x256.size a ≤ S4x96x2048.size a) ∧
  (32 ∣ (k0_mult61 arg21_r0).toNat) ∧
  (∀ (r : Fin 2), ∀ a, (k0_off50 arg21_r0 (BitVec.ofNat 32 r.val)) a + S96x256.size a ≤ S1152x2048.size a) ∧
  (32 ∣ (k0_mult62 arg21_r0).toNat) ∧
  (32 ∣ (k0_mult63 arg21_r0).toNat) ∧
  (∀ (r₁ : Fin 2) (r₂ : Fin 3), ∀ a, (k0_off51 arg21_r0 (BitVec.ofNat 32 r₁.val) (BitVec.ofNat 32 (32 * r₂.val))) a + S32x256.size a ≤ S1152x2048.size a) ∧
  (∀ (r₁ : Fin 2) (r₂ : Fin 3), ∀ (hinb : ∀ a, (k0_off51 arg21_r0 (BitVec.ofNat 32 r₁.val) (BitVec.ofNat 32 (32 * r₂.val))) a + S32x256.size a ≤ S1152x2048.size a), (Rect.unit (s := S1152x2048) (k0_off51 arg21_r0 (BitVec.ofNat 32 r₁.val) (BitVec.ofNat 32 (32 * r₂.val))) S32x256.size hinb).PackedRows (EltTy.packing .bf16)) ∧
  (∀ (r₁ : Fin 2) (r₂ : Fin 3), ∀ a, (k0_off52 arg21_r0 (BitVec.ofNat 32 r₁.val) (BitVec.ofNat 32 r₂.val)) a + S1x256.size a ≤ S128x2048.size a) ∧
  (32 ∣ (k0_mult64 arg21_r0).toNat) ∧
  (32 ∣ (k0_mult65 arg21_r0).toNat) ∧
  (32 ∣ (k0_mult66 arg21_r0).toNat) ∧
  (∀ (r : Fin 2), ∀ a, (k0_off53 arg21_r0 (BitVec.ofNat 32 r.val)) a + S1x256.size a ≤ S12x2048.size a) ∧
  (32 ∣ (k0_mult67 arg21_r0).toNat) ∧
  (32 ∣ (k0_mult68 arg21_r0).toNat) ∧
  (32 ∣ (k0_mult69 arg21_r0).toNat) ∧
  (32 ∣ (k0_mult70 arg21_r0).toNat) ∧
  (32 ∣ (k0_mult71 arg21_r0).toNat) ∧
  (32 ∣ (k0_mult72 arg21_r0).toNat) ∧
  (32 ∣ (k0_mult73 arg21_r0).toNat) ∧
  (32 ∣ (k0_mult74 arg21_r0).toNat) ∧
  (32 ∣ (k0_mult75 arg21_r0).toNat) ∧
  (∀ (r : Fin 2), ∀ a, (k0_off54 arg21_r0 (BitVec.ofNat 32 r.val)) a + S1x128x128.size a ≤ S4x2048x128.size a) ∧
  (∀ (r : Fin 2), ∀ a, (k0_off55 arg21_r0 (BitVec.ofNat 32 r.val)) a + S1x128x128.size a ≤ S4x2048x128.size a) ∧
  (32 ∣ (k0_mult76 arg21_r0).toNat)
def k0_chk1_4 (arg21_r0 : BitVec 32) : Prop :=
  (∀ (r : Fin 2), ∀ a, (k0_off56 arg21_r0 (BitVec.ofNat 32 r.val)) a + S1x96x256.size a ≤ S4x96x2048.size a) ∧
  (32 ∣ (k0_mult77 arg21_r0).toNat) ∧
  (∀ (r : Fin 2), ∀ a, (k0_off57 arg21_r0 (BitVec.ofNat 32 r.val)) a + S96x256.size a ≤ S1152x2048.size a) ∧
  (32 ∣ (k0_mult78 arg21_r0).toNat) ∧
  (32 ∣ (k0_mult79 arg21_r0).toNat) ∧
  (∀ (r₁ : Fin 2) (r₂ : Fin 3), ∀ a, (k0_off58 arg21_r0 (BitVec.ofNat 32 r₁.val) (BitVec.ofNat 32 (32 * r₂.val))) a + S32x256.size a ≤ S1152x2048.size a) ∧
  (∀ (r₁ : Fin 2) (r₂ : Fin 3), ∀ (hinb : ∀ a, (k0_off58 arg21_r0 (BitVec.ofNat 32 r₁.val) (BitVec.ofNat 32 (32 * r₂.val))) a + S32x256.size a ≤ S1152x2048.size a), (Rect.unit (s := S1152x2048) (k0_off58 arg21_r0 (BitVec.ofNat 32 r₁.val) (BitVec.ofNat 32 (32 * r₂.val))) S32x256.size hinb).PackedRows (EltTy.packing .bf16)) ∧
  (∀ (r₁ : Fin 2) (r₂ : Fin 3), ∀ a, (k0_off59 arg21_r0 (BitVec.ofNat 32 r₁.val) (BitVec.ofNat 32 r₂.val)) a + S1x256.size a ≤ S128x2048.size a) ∧
  (32 ∣ (k0_mult80 arg21_r0).toNat) ∧
  (32 ∣ (k0_mult81 arg21_r0).toNat) ∧
  (32 ∣ (k0_mult82 arg21_r0).toNat) ∧
  (∀ (r : Fin 2), ∀ a, (k0_off60 arg21_r0 (BitVec.ofNat 32 r.val)) a + S1x256.size a ≤ S12x2048.size a) ∧
  (32 ∣ (k0_mult83 arg21_r0).toNat) ∧
  (32 ∣ (k0_mult84 arg21_r0).toNat) ∧
  (32 ∣ (k0_mult85 arg21_r0).toNat) ∧
  (32 ∣ (k0_mult86 arg21_r0).toNat) ∧
  (32 ∣ (k0_mult87 arg21_r0).toNat) ∧
  (32 ∣ (k0_mult88 arg21_r0).toNat) ∧
  (32 ∣ (k0_mult89 arg21_r0).toNat) ∧
  (32 ∣ (k0_mult90 arg21_r0).toNat) ∧
  (32 ∣ (k0_mult91 arg21_r0).toNat) ∧
  (32 ∣ (k0_mult92 arg21_r0).toNat) ∧
  (32 ∣ (k0_mult93 arg21_r0).toNat) ∧
  (∀ (r : Fin 2), ∀ a, (k0_off61 arg21_r0 (BitVec.ofNat 32 r.val)) a + S1x128x128.size a ≤ S4x2048x128.size a) ∧
  (∀ (r : Fin 2), ∀ a, (k0_off62 arg21_r0 (BitVec.ofNat 32 r.val)) a + S1x128x128.size a ≤ S4x2048x128.size a) ∧
  (32 ∣ (k0_mult94 arg21_r0).toNat) ∧
  (∀ (r : Fin 2), ∀ a, (k0_off63 arg21_r0 (BitVec.ofNat 32 r.val)) a + S1x96x256.size a ≤ S4x96x2048.size a) ∧
  (32 ∣ (k0_mult95 arg21_r0).toNat) ∧
  (∀ (r₁ : Fin 2) (r₂ : Fin 3), ∀ a, (k0_off64 arg21_r0 (BitVec.ofNat 32 r₁.val) (BitVec.ofNat 32 (32 * r₂.val))) a + S32x256.size a ≤ S1152x2048.size a) ∧
  (∀ (r₁ : Fin 2) (r₂ : Fin 3), ∀ (hinb : ∀ a, (k0_off64 arg21_r0 (BitVec.ofNat 32 r₁.val) (BitVec.ofNat 32 (32 * r₂.val))) a + S32x256.size a ≤ S1152x2048.size a), (Rect.unit (s := S1152x2048) (k0_off64 arg21_r0 (BitVec.ofNat 32 r₁.val) (BitVec.ofNat 32 (32 * r₂.val))) S32x256.size hinb).PackedRows (EltTy.packing .bf16)) ∧
  (∀ (r₁ : Fin 2) (r₂ : Fin 3), ∀ a, (k0_off65 arg21_r0 (BitVec.ofNat 32 r₁.val) (BitVec.ofNat 32 r₂.val)) a + S1x256.size a ≤ S128x2048.size a) ∧
  (32 ∣ (k0_mult96 arg21_r0).toNat)
def k0_chk1_5 (arg21_r0 : BitVec 32) : Prop :=
  (∀ (r : Fin 2), ∀ a, (k0_off66 arg21_r0 (BitVec.ofNat 32 r.val)) a + S1x96x256.size a ≤ S4x96x2048.size a) ∧
  (32 ∣ (k0_mult97 arg21_r0).toNat) ∧
  (∀ (r₁ : Fin 2) (r₂ : Fin 3), ∀ a, (k0_off67 arg21_r0 (BitVec.ofNat 32 r₁.val) (BitVec.ofNat 32 (32 * r₂.val))) a + S32x256.size a ≤ S1152x2048.size a) ∧
  (∀ (r₁ : Fin 2) (r₂ : Fin 3), ∀ (hinb : ∀ a, (k0_off67 arg21_r0 (BitVec.ofNat 32 r₁.val) (BitVec.ofNat 32 (32 * r₂.val))) a + S32x256.size a ≤ S1152x2048.size a), (Rect.unit (s := S1152x2048) (k0_off67 arg21_r0 (BitVec.ofNat 32 r₁.val) (BitVec.ofNat 32 (32 * r₂.val))) S32x256.size hinb).PackedRows (EltTy.packing .bf16)) ∧
  (∀ (r₁ : Fin 2) (r₂ : Fin 3), ∀ a, (k0_off68 arg21_r0 (BitVec.ofNat 32 r₁.val) (BitVec.ofNat 32 r₂.val)) a + S1x256.size a ≤ S128x2048.size a) ∧
  (32 ∣ (k0_mult98 arg21_r0).toNat)
def k0_chk1 (arg21_r0 : BitVec 32) : Prop :=
  k0_chk1_0 arg21_r0 ∧
  k0_chk1_1 arg21_r0 ∧
  k0_chk1_2 arg21_r0 ∧
  k0_chk1_3 arg21_r0 ∧
  k0_chk1_4 arg21_r0 ∧
  k0_chk1_5 arg21_r0
theorem k0_off1_inb : ∀ (arg21_r0 : BitVec 32) (k0_hw1 : k0_chk1 arg21_r0) (k0_t1 : Fin k0_t1_loop.trips), ∀ (k0_h1 : k0_cond1 arg21_r0 = 1#1), ∀ a, (k0_off1 arg21_r0 k0_t1) a + S1x256.size a ≤ S12x2048.size a := fun arg21_r0 k0_hw1 k0_t1 k0_h1 => k0_hw1.1.1 k0_t1 k0_h1
theorem k0_mult3_dvd : ∀ (arg21_r0 : BitVec 32) (k0_hw1 : k0_chk1 arg21_r0), ∀ (k0_h1 : k0_cond1 arg21_r0 = 1#1), 32 ∣ (k0_mult3 arg21_r0).toNat := fun arg21_r0 k0_hw1 k0_h1 => k0_hw1.1.2.1 k0_h1
theorem k0_off2_inb : ∀ (arg21_r0 : BitVec 32) (k0_hw1 : k0_chk1 arg21_r0) (k0_t1 : Fin k0_t1_loop.trips), ∀ (k0_h1 : k0_cond1 arg21_r0 = 1#1), ∀ a, (k0_off2 arg21_r0 k0_t1) a + S96x256.size a ≤ S1152x2048.size a := fun arg21_r0 k0_hw1 k0_t1 k0_h1 => k0_hw1.1.2.2.1 k0_t1 k0_h1
theorem k0_off3_inb : ∀ (arg21_r0 : BitVec 32) (k0_hw1 : k0_chk1 arg21_r0) (k0_t1 : Fin k0_t1_loop.trips) (k0_t2 : Fin (k0_t2_loop k0_t1).trips), ∀ (k0_h1 : k0_cond1 arg21_r0 = 1#1), ∀ a, (k0_off3 arg21_r0 k0_t1 k0_t2) a + S1x128x128.size a ≤ S4x2048x128.size a := fun arg21_r0 k0_hw1 k0_t1 k0_t2 k0_h1 => k0_hw1.1.2.2.2.1 k0_t1 k0_t2 k0_h1
theorem k0_mult5_dvd : ∀ (arg21_r0 : BitVec 32) (k0_hw1 : k0_chk1 arg21_r0) (k0_t1 : Fin k0_t1_loop.trips) (k0_t3 : Fin (k0_t3_loop k0_t1).trips), ∀ (k0_h1 : k0_cond1 arg21_r0 = 1#1), 32 ∣ (k0_mult5 arg21_r0).toNat := fun arg21_r0 k0_hw1 k0_t1 k0_t3 k0_h1 => k0_hw1.1.2.2.2.2.1 k0_t1 k0_t3 k0_h1
theorem k0_off4_inb : ∀ (arg21_r0 : BitVec 32) (k0_hw1 : k0_chk1 arg21_r0) (k0_t1 : Fin k0_t1_loop.trips) (k0_t3 : Fin (k0_t3_loop k0_t1).trips), ∀ (k0_h1 : k0_cond1 arg21_r0 = 1#1), ∀ a, (k0_off4 arg21_r0 k0_t1) a + S96x256.size a ≤ S1152x2048.size a := fun arg21_r0 k0_hw1 k0_t1 k0_t3 k0_h1 => k0_hw1.1.2.2.2.2.2.1 k0_t1 k0_t3 k0_h1
theorem k0_off5_inb : ∀ (arg21_r0 : BitVec 32) (k0_hw1 : k0_chk1 arg21_r0) (k0_t1 : Fin k0_t1_loop.trips) (k0_t3 : Fin (k0_t3_loop k0_t1).trips), ∀ (k0_h1 : k0_cond1 arg21_r0 = 1#1), ∀ a, (k0_off5 arg21_r0 k0_t1 k0_t3) a + S1x128x128.size a ≤ S4x2048x128.size a := fun arg21_r0 k0_hw1 k0_t1 k0_t3 k0_h1 => k0_hw1.1.2.2.2.2.2.2.1 k0_t1 k0_t3 k0_h1
theorem k0_off7_inb : ∀ (arg21_r0 : BitVec 32) (k0_hw1 : k0_chk1 arg21_r0) (k0_t4 : Fin k0_t4_loop.trips), ∀ (k0_h1 : k0_cond1 arg21_r0 = 1#1), ∀ a, (k0_off7 arg21_r0 k0_t4) a + S1x256.size a ≤ S12x2048.size a := fun arg21_r0 k0_hw1 k0_t4 k0_h1 => k0_hw1.1.2.2.2.2.2.2.2.1 k0_t4 k0_h1
theorem k0_mult8_dvd : ∀ (arg21_r0 : BitVec 32) (k0_hw1 : k0_chk1 arg21_r0), ∀ (k0_h1 : k0_cond1 arg21_r0 = 1#1), 32 ∣ (k0_mult8 arg21_r0).toNat := fun arg21_r0 k0_hw1 k0_h1 => k0_hw1.1.2.2.2.2.2.2.2.2.1 k0_h1
theorem k0_off8_inb : ∀ (arg21_r0 : BitVec 32) (k0_hw1 : k0_chk1 arg21_r0) (k0_t4 : Fin k0_t4_loop.trips), ∀ (k0_h1 : k0_cond1 arg21_r0 = 1#1), ∀ a, (k0_off8 arg21_r0 k0_t4) a + S96x256.size a ≤ S1152x2048.size a := fun arg21_r0 k0_hw1 k0_t4 k0_h1 => k0_hw1.1.2.2.2.2.2.2.2.2.2.1 k0_t4 k0_h1
theorem k0_off9_inb : ∀ (arg21_r0 : BitVec 32) (k0_hw1 : k0_chk1 arg21_r0) (k0_t4 : Fin k0_t4_loop.trips) (k0_t5 : Fin (k0_t5_loop k0_t4).trips), ∀ (k0_h1 : k0_cond1 arg21_r0 = 1#1), ∀ a, (k0_off9 arg21_r0 k0_t4 k0_t5) a + S1x128x128.size a ≤ S4x2048x128.size a := fun arg21_r0 k0_hw1 k0_t4 k0_t5 k0_h1 => k0_hw1.1.2.2.2.2.2.2.2.2.2.2.1 k0_t4 k0_t5 k0_h1
theorem k0_mult10_dvd : ∀ (arg21_r0 : BitVec 32) (k0_hw1 : k0_chk1 arg21_r0) (k0_t4 : Fin k0_t4_loop.trips) (k0_t6 : Fin (k0_t6_loop k0_t4).trips), ∀ (k0_h1 : k0_cond1 arg21_r0 = 1#1), 32 ∣ (k0_mult10 arg21_r0).toNat := fun arg21_r0 k0_hw1 k0_t4 k0_t6 k0_h1 => k0_hw1.1.2.2.2.2.2.2.2.2.2.2.2.1 k0_t4 k0_t6 k0_h1
theorem k0_off10_inb : ∀ (arg21_r0 : BitVec 32) (k0_hw1 : k0_chk1 arg21_r0) (k0_t4 : Fin k0_t4_loop.trips) (k0_t6 : Fin (k0_t6_loop k0_t4).trips), ∀ (k0_h1 : k0_cond1 arg21_r0 = 1#1), ∀ a, (k0_off10 arg21_r0 k0_t4) a + S96x256.size a ≤ S1152x2048.size a := fun arg21_r0 k0_hw1 k0_t4 k0_t6 k0_h1 => k0_hw1.1.2.2.2.2.2.2.2.2.2.2.2.2.1 k0_t4 k0_t6 k0_h1
theorem k0_off11_inb : ∀ (arg21_r0 : BitVec 32) (k0_hw1 : k0_chk1 arg21_r0) (k0_t4 : Fin k0_t4_loop.trips) (k0_t6 : Fin (k0_t6_loop k0_t4).trips), ∀ (k0_h1 : k0_cond1 arg21_r0 = 1#1), ∀ a, (k0_off11 arg21_r0 k0_t4 k0_t6) a + S1x128x128.size a ≤ S4x2048x128.size a := fun arg21_r0 k0_hw1 k0_t4 k0_t6 k0_h1 => k0_hw1.1.2.2.2.2.2.2.2.2.2.2.2.2.2.1 k0_t4 k0_t6 k0_h1
theorem k0_mult11_dvd : ∀ (arg21_r0 : BitVec 32) (k0_hw1 : k0_chk1 arg21_r0), 32 ∣ (k0_mult11 arg21_r0).toNat := fun arg21_r0 k0_hw1 => k0_hw1.1.2.2.2.2.2.2.2.2.2.2.2.2.2.2.1
theorem k0_off13_inb : ∀ (arg21_r0 : BitVec 32) (k0_hw1 : k0_chk1 arg21_r0), ∀ (r : Fin 2), ∀ a, (k0_off13 arg21_r0 (BitVec.ofNat 32 r.val)) a + S96x256.size a ≤ S1152x2048.size a := fun arg21_r0 k0_hw1 r => k0_hw1.1.2.2.2.2.2.2.2.2.2.2.2.2.2.2.2.1 r
theorem k0_off14_inb : ∀ (arg21_r0 : BitVec 32) (k0_hw1 : k0_chk1 arg21_r0), ∀ (r : Fin 2), ∀ a, (k0_off14 arg21_r0 (BitVec.ofNat 32 r.val)) a + S1x128x128.size a ≤ S4x2048x128.size a := fun arg21_r0 k0_hw1 r => k0_hw1.1.2.2.2.2.2.2.2.2.2.2.2.2.2.2.2.2.1 r
theorem k0_off15_inb : ∀ (arg21_r0 : BitVec 32) (k0_hw1 : k0_chk1 arg21_r0), ∀ (r : Fin 2), ∀ a, (k0_off15 arg21_r0 (BitVec.ofNat 32 r.val)) a + S1x128x128.size a ≤ S4x2048x128.size a := fun arg21_r0 k0_hw1 r => k0_hw1.1.2.2.2.2.2.2.2.2.2.2.2.2.2.2.2.2.2.1 r
theorem k0_mult12_dvd : ∀ (arg21_r0 : BitVec 32) (k0_hw1 : k0_chk1 arg21_r0), 32 ∣ (k0_mult12 arg21_r0).toNat := fun arg21_r0 k0_hw1 => k0_hw1.1.2.2.2.2.2.2.2.2.2.2.2.2.2.2.2.2.2.2.1
theorem k0_mult13_dvd : ∀ (arg21_r0 : BitVec 32) (k0_hw1 : k0_chk1 arg21_r0), 32 ∣ (k0_mult13 arg21_r0).toNat := fun arg21_r0 k0_hw1 => k0_hw1.1.2.2.2.2.2.2.2.2.2.2.2.2.2.2.2.2.2.2.2.1
theorem k0_off16_inb : ∀ (arg21_r0 : BitVec 32) (k0_hw1 : k0_chk1 arg21_r0), ∀ (r : Fin 2), ∀ a, (k0_off16 arg21_r0 (BitVec.ofNat 32 r.val)) a + S96x256.size a ≤ S1152x2048.size a := fun arg21_r0 k0_hw1 r => k0_hw1.1.2.2.2.2.2.2.2.2.2.2.2.2.2.2.2.2.2.2.2.2.1 r
theorem k0_mult14_dvd : ∀ (arg21_r0 : BitVec 32) (k0_hw1 : k0_chk1 arg21_r0), 32 ∣ (k0_mult14 arg21_r0).toNat := fun arg21_r0 k0_hw1 => k0_hw1.1.2.2.2.2.2.2.2.2.2.2.2.2.2.2.2.2.2.2.2.2.2.1
theorem k0_off17_inb : ∀ (arg21_r0 : BitVec 32) (k0_hw1 : k0_chk1 arg21_r0), ∀ (r : Fin 2), ∀ a, (k0_off17 arg21_r0 (BitVec.ofNat 32 r.val)) a + S1x256.size a ≤ S12x2048.size a := fun arg21_r0 k0_hw1 r => k0_hw1.1.2.2.2.2.2.2.2.2.2.2.2.2.2.2.2.2.2.2.2.2.2.2.1 r
theorem k0_mult15_dvd : ∀ (arg21_r0 : BitVec 32) (k0_hw1 : k0_chk1 arg21_r0), 32 ∣ (k0_mult15 arg21_r0).toNat := fun arg21_r0 k0_hw1 => k0_hw1.1.2.2.2.2.2.2.2.2.2.2.2.2.2.2.2.2.2.2.2.2.2.2.2.1
theorem k0_off18_inb : ∀ (arg21_r0 : BitVec 32) (k0_hw1 : k0_chk1 arg21_r0), ∀ (r : Fin 2), ∀ a, (k0_off18 arg21_r0 (BitVec.ofNat 32 r.val)) a + S1x128x128.size a ≤ S4x2048x128.size a := fun arg21_r0 k0_hw1 r => k0_hw1.1.2.2.2.2.2.2.2.2.2.2.2.2.2.2.2.2.2.2.2.2.2.2.2.2.1 r
theorem k0_off19_inb : ∀ (arg21_r0 : BitVec 32) (k0_hw1 : k0_chk1 arg21_r0), ∀ (r : Fin 2), ∀ a, (k0_off19 arg21_r0 (BitVec.ofNat 32 r.val)) a + S1x128x128.size a ≤ S4x2048x128.size a := fun arg21_r0 k0_hw1 r => k0_hw1.1.2.2.2.2.2.2.2.2.2.2.2.2.2.2.2.2.2.2.2.2.2.2.2.2.2.1 r
theorem k0_mult16_dvd : ∀ (arg21_r0 : BitVec 32) (k0_hw1 : k0_chk1 arg21_r0), 32 ∣ (k0_mult16 arg21_r0).toNat := fun arg21_r0 k0_hw1 => k0_hw1.1.2.2.2.2.2.2.2.2.2.2.2.2.2.2.2.2.2.2.2.2.2.2.2.2.2.2.1
theorem k0_off20_inb : ∀ (arg21_r0 : BitVec 32) (k0_hw1 : k0_chk1 arg21_r0), ∀ (r : Fin 2), ∀ a, (k0_off20 arg21_r0 (BitVec.ofNat 32 r.val)) a + S1x256.size a ≤ S12x2048.size a := fun arg21_r0 k0_hw1 r => k0_hw1.1.2.2.2.2.2.2.2.2.2.2.2.2.2.2.2.2.2.2.2.2.2.2.2.2.2.2.2.1 r
theorem k0_off21_inb : ∀ (arg21_r0 : BitVec 32) (k0_hw1 : k0_chk1 arg21_r0), ∀ (r : Fin 2), ∀ a, (k0_off21 arg21_r0 (BitVec.ofNat 32 r.val)) a + S1x96x256.size a ≤ S4x96x2048.size a := fun arg21_r0 k0_hw1 r => k0_hw1.1.2.2.2.2.2.2.2.2.2.2.2.2.2.2.2.2.2.2.2.2.2.2.2.2.2.2.2.2.1 r
theorem k0_mult17_dvd : ∀ (arg21_r0 : BitVec 32) (k0_hw1 : k0_chk1 arg21_r0), 32 ∣ (k0_mult17 arg21_r0).toNat := fun arg21_r0 k0_hw1 => k0_hw1.1.2.2.2.2.2.2.2.2.2.2.2.2.2.2.2.2.2.2.2.2.2.2.2.2.2.2.2.2.2.1
theorem k0_off22_inb : ∀ (arg21_r0 : BitVec 32) (k0_hw1 : k0_chk1 arg21_r0), ∀ (r : Fin 2), ∀ a, (k0_off22 arg21_r0 (BitVec.ofNat 32 r.val)) a + S96x256.size a ≤ S1152x2048.size a := fun arg21_r0 k0_hw1 r => k0_hw1.1.2.2.2.2.2.2.2.2.2.2.2.2.2.2.2.2.2.2.2.2.2.2.2.2.2.2.2.2.2.2.1 r
theorem k0_mult18_dvd : ∀ (arg21_r0 : BitVec 32) (k0_hw1 : k0_chk1 arg21_r0), 32 ∣ (k0_mult18 arg21_r0).toNat := fun arg21_r0 k0_hw1 => k0_hw1.1.2.2.2.2.2.2.2.2.2.2.2.2.2.2.2.2.2.2.2.2.2.2.2.2.2.2.2.2.2.2.2
theorem k0_mult19_dvd : ∀ (arg21_r0 : BitVec 32) (k0_hw1 : k0_chk1 arg21_r0), 32 ∣ (k0_mult19 arg21_r0).toNat := fun arg21_r0 k0_hw1 => k0_hw1.2.1.1
theorem k0_off23_inb : ∀ (arg21_r0 : BitVec 32) (k0_hw1 : k0_chk1 arg21_r0), ∀ (r₁ : Fin 2) (r₂ : Fin 3), ∀ a, (k0_off23 arg21_r0 (BitVec.ofNat 32 r₁.val) (BitVec.ofNat 32 (32 * r₂.val))) a + S32x256.size a ≤ S1152x2048.size a := fun arg21_r0 k0_hw1 r₁ r₂ => k0_hw1.2.1.2.1 r₁ r₂
theorem k0_off23_packedbf16 : ∀ (arg21_r0 : BitVec 32) (k0_hw1 : k0_chk1 arg21_r0), ∀ (r₁ : Fin 2) (r₂ : Fin 3), (Rect.unit (s := S1152x2048) (k0_off23 arg21_r0 (BitVec.ofNat 32 r₁.val) (BitVec.ofNat 32 (32 * r₂.val))) S32x256.size (k0_off23_inb arg21_r0 k0_hw1 r₁ r₂)).PackedRows (EltTy.packing .bf16) := fun arg21_r0 k0_hw1 r₁ r₂ => k0_hw1.2.1.2.2.1 r₁ r₂ (k0_off23_inb arg21_r0 k0_hw1 r₁ r₂)
theorem k0_off24_inb : ∀ (arg21_r0 : BitVec 32) (k0_hw1 : k0_chk1 arg21_r0), ∀ (r₁ : Fin 2) (r₂ : Fin 3), ∀ a, (k0_off24 arg21_r0 (BitVec.ofNat 32 r₁.val) (BitVec.ofNat 32 r₂.val)) a + S1x256.size a ≤ S128x2048.size a := fun arg21_r0 k0_hw1 r₁ r₂ => k0_hw1.2.1.2.2.2.1 r₁ r₂
theorem k0_mult20_dvd : ∀ (arg21_r0 : BitVec 32) (k0_hw1 : k0_chk1 arg21_r0), 32 ∣ (k0_mult20 arg21_r0).toNat := fun arg21_r0 k0_hw1 => k0_hw1.2.1.2.2.2.2.1
theorem k0_mult21_dvd : ∀ (arg21_r0 : BitVec 32) (k0_hw1 : k0_chk1 arg21_r0), 32 ∣ (k0_mult21 arg21_r0).toNat := fun arg21_r0 k0_hw1 => k0_hw1.2.1.2.2.2.2.2.1
theorem k0_mult22_dvd : ∀ (arg21_r0 : BitVec 32) (k0_hw1 : k0_chk1 arg21_r0), 32 ∣ (k0_mult22 arg21_r0).toNat := fun arg21_r0 k0_hw1 => k0_hw1.2.1.2.2.2.2.2.2.1
theorem k0_off25_inb : ∀ (arg21_r0 : BitVec 32) (k0_hw1 : k0_chk1 arg21_r0), ∀ (r : Fin 2), ∀ a, (k0_off25 arg21_r0 (BitVec.ofNat 32 r.val)) a + S1x256.size a ≤ S12x2048.size a := fun arg21_r0 k0_hw1 r => k0_hw1.2.1.2.2.2.2.2.2.2.1 r
theorem k0_mult23_dvd : ∀ (arg21_r0 : BitVec 32) (k0_hw1 : k0_chk1 arg21_r0), 32 ∣ (k0_mult23 arg21_r0).toNat := fun arg21_r0 k0_hw1 => k0_hw1.2.1.2.2.2.2.2.2.2.2.1
theorem k0_off26_inb : ∀ (arg21_r0 : BitVec 32) (k0_hw1 : k0_chk1 arg21_r0), ∀ (r : Fin 2), ∀ a, (k0_off26 arg21_r0 (BitVec.ofNat 32 r.val)) a + S1x128x128.size a ≤ S4x2048x128.size a := fun arg21_r0 k0_hw1 r => k0_hw1.2.1.2.2.2.2.2.2.2.2.2.1 r
theorem k0_off27_inb : ∀ (arg21_r0 : BitVec 32) (k0_hw1 : k0_chk1 arg21_r0), ∀ (r : Fin 2), ∀ a, (k0_off27 arg21_r0 (BitVec.ofNat 32 r.val)) a + S1x128x128.size a ≤ S4x2048x128.size a := fun arg21_r0 k0_hw1 r => k0_hw1.2.1.2.2.2.2.2.2.2.2.2.2.1 r
theorem k0_mult24_dvd : ∀ (arg21_r0 : BitVec 32) (k0_hw1 : k0_chk1 arg21_r0), 32 ∣ (k0_mult24 arg21_r0).toNat := fun arg21_r0 k0_hw1 => k0_hw1.2.1.2.2.2.2.2.2.2.2.2.2.2.1
theorem k0_off28_inb : ∀ (arg21_r0 : BitVec 32) (k0_hw1 : k0_chk1 arg21_r0), ∀ (r : Fin 2), ∀ a, (k0_off28 arg21_r0 (BitVec.ofNat 32 r.val)) a + S1x96x256.size a ≤ S4x96x2048.size a := fun arg21_r0 k0_hw1 r => k0_hw1.2.1.2.2.2.2.2.2.2.2.2.2.2.2.1 r
theorem k0_mult25_dvd : ∀ (arg21_r0 : BitVec 32) (k0_hw1 : k0_chk1 arg21_r0), 32 ∣ (k0_mult25 arg21_r0).toNat := fun arg21_r0 k0_hw1 => k0_hw1.2.1.2.2.2.2.2.2.2.2.2.2.2.2.2.1
theorem k0_off29_inb : ∀ (arg21_r0 : BitVec 32) (k0_hw1 : k0_chk1 arg21_r0), ∀ (r : Fin 2), ∀ a, (k0_off29 arg21_r0 (BitVec.ofNat 32 r.val)) a + S96x256.size a ≤ S1152x2048.size a := fun arg21_r0 k0_hw1 r => k0_hw1.2.1.2.2.2.2.2.2.2.2.2.2.2.2.2.2.1 r
theorem k0_mult26_dvd : ∀ (arg21_r0 : BitVec 32) (k0_hw1 : k0_chk1 arg21_r0), 32 ∣ (k0_mult26 arg21_r0).toNat := fun arg21_r0 k0_hw1 => k0_hw1.2.1.2.2.2.2.2.2.2.2.2.2.2.2.2.2.2.1
theorem k0_mult27_dvd : ∀ (arg21_r0 : BitVec 32) (k0_hw1 : k0_chk1 arg21_r0), 32 ∣ (k0_mult27 arg21_r0).toNat := fun arg21_r0 k0_hw1 => k0_hw1.2.1.2.2.2.2.2.2.2.2.2.2.2.2.2.2.2.2.1
theorem k0_off30_inb : ∀ (arg21_r0 : BitVec 32) (k0_hw1 : k0_chk1 arg21_r0), ∀ (r₁ : Fin 2) (r₂ : Fin 3), ∀ a, (k0_off30 arg21_r0 (BitVec.ofNat 32 r₁.val) (BitVec.ofNat 32 (32 * r₂.val))) a + S32x256.size a ≤ S1152x2048.size a := fun arg21_r0 k0_hw1 r₁ r₂ => k0_hw1.2.1.2.2.2.2.2.2.2.2.2.2.2.2.2.2.2.2.2.1 r₁ r₂
theorem k0_off30_packedbf16 : ∀ (arg21_r0 : BitVec 32) (k0_hw1 : k0_chk1 arg21_r0), ∀ (r₁ : Fin 2) (r₂ : Fin 3), (Rect.unit (s := S1152x2048) (k0_off30 arg21_r0 (BitVec.ofNat 32 r₁.val) (BitVec.ofNat 32 (32 * r₂.val))) S32x256.size (k0_off30_inb arg21_r0 k0_hw1 r₁ r₂)).PackedRows (EltTy.packing .bf16) := fun arg21_r0 k0_hw1 r₁ r₂ => k0_hw1.2.1.2.2.2.2.2.2.2.2.2.2.2.2.2.2.2.2.2.2.1 r₁ r₂ (k0_off30_inb arg21_r0 k0_hw1 r₁ r₂)
theorem k0_off31_inb : ∀ (arg21_r0 : BitVec 32) (k0_hw1 : k0_chk1 arg21_r0), ∀ (r₁ : Fin 2) (r₂ : Fin 3), ∀ a, (k0_off31 arg21_r0 (BitVec.ofNat 32 r₁.val) (BitVec.ofNat 32 r₂.val)) a + S1x256.size a ≤ S128x2048.size a := fun arg21_r0 k0_hw1 r₁ r₂ => k0_hw1.2.1.2.2.2.2.2.2.2.2.2.2.2.2.2.2.2.2.2.2.2.1 r₁ r₂
theorem k0_mult28_dvd : ∀ (arg21_r0 : BitVec 32) (k0_hw1 : k0_chk1 arg21_r0), 32 ∣ (k0_mult28 arg21_r0).toNat := fun arg21_r0 k0_hw1 => k0_hw1.2.1.2.2.2.2.2.2.2.2.2.2.2.2.2.2.2.2.2.2.2.2.1
theorem k0_mult29_dvd : ∀ (arg21_r0 : BitVec 32) (k0_hw1 : k0_chk1 arg21_r0), 32 ∣ (k0_mult29 arg21_r0).toNat := fun arg21_r0 k0_hw1 => k0_hw1.2.1.2.2.2.2.2.2.2.2.2.2.2.2.2.2.2.2.2.2.2.2.2.1
theorem k0_mult30_dvd : ∀ (arg21_r0 : BitVec 32) (k0_hw1 : k0_chk1 arg21_r0), 32 ∣ (k0_mult30 arg21_r0).toNat := fun arg21_r0 k0_hw1 => k0_hw1.2.1.2.2.2.2.2.2.2.2.2.2.2.2.2.2.2.2.2.2.2.2.2.2.1
theorem k0_off32_inb : ∀ (arg21_r0 : BitVec 32) (k0_hw1 : k0_chk1 arg21_r0), ∀ (r : Fin 2), ∀ a, (k0_off32 arg21_r0 (BitVec.ofNat 32 r.val)) a + S1x256.size a ≤ S12x2048.size a := fun arg21_r0 k0_hw1 r => k0_hw1.2.1.2.2.2.2.2.2.2.2.2.2.2.2.2.2.2.2.2.2.2.2.2.2.2.1 r
theorem k0_mult31_dvd : ∀ (arg21_r0 : BitVec 32) (k0_hw1 : k0_chk1 arg21_r0), 32 ∣ (k0_mult31 arg21_r0).toNat := fun arg21_r0 k0_hw1 => k0_hw1.2.1.2.2.2.2.2.2.2.2.2.2.2.2.2.2.2.2.2.2.2.2.2.2.2.2.1
theorem k0_mult32_dvd : ∀ (arg21_r0 : BitVec 32) (k0_hw1 : k0_chk1 arg21_r0), 32 ∣ (k0_mult32 arg21_r0).toNat := fun arg21_r0 k0_hw1 => k0_hw1.2.1.2.2.2.2.2.2.2.2.2.2.2.2.2.2.2.2.2.2.2.2.2.2.2.2.2.1
theorem k0_mult33_dvd : ∀ (arg21_r0 : BitVec 32) (k0_hw1 : k0_chk1 arg21_r0), 32 ∣ (k0_mult33 arg21_r0).toNat := fun arg21_r0 k0_hw1 => k0_hw1.2.1.2.2.2.2.2.2.2.2.2.2.2.2.2.2.2.2.2.2.2.2.2.2.2.2.2.2.1
theorem k0_off33_inb : ∀ (arg21_r0 : BitVec 32) (k0_hw1 : k0_chk1 arg21_r0), ∀ (r : Fin 2), ∀ a, (k0_off33 arg21_r0 (BitVec.ofNat 32 r.val)) a + S1x128x128.size a ≤ S4x2048x128.size a := fun arg21_r0 k0_hw1 r => k0_hw1.2.1.2.2.2.2.2.2.2.2.2.2.2.2.2.2.2.2.2.2.2.2.2.2.2.2.2.2.2.1 r
theorem k0_off34_inb : ∀ (arg21_r0 : BitVec 32) (k0_hw1 : k0_chk1 arg21_r0), ∀ (r : Fin 2), ∀ a, (k0_off34 arg21_r0 (BitVec.ofNat 32 r.val)) a + S1x128x128.size a ≤ S4x2048x128.size a := fun arg21_r0 k0_hw1 r => k0_hw1.2.1.2.2.2.2.2.2.2.2.2.2.2.2.2.2.2.2.2.2.2.2.2.2.2.2.2.2.2.2.1 r
theorem k0_mult34_dvd : ∀ (arg21_r0 : BitVec 32) (k0_hw1 : k0_chk1 arg21_r0), 32 ∣ (k0_mult34 arg21_r0).toNat := fun arg21_r0 k0_hw1 => k0_hw1.2.1.2.2.2.2.2.2.2.2.2.2.2.2.2.2.2.2.2.2.2.2.2.2.2.2.2.2.2.2.2.1
theorem k0_off35_inb : ∀ (arg21_r0 : BitVec 32) (k0_hw1 : k0_chk1 arg21_r0), ∀ (r : Fin 2), ∀ a, (k0_off35 arg21_r0 (BitVec.ofNat 32 r.val)) a + S1x96x256.size a ≤ S4x96x2048.size a := fun arg21_r0 k0_hw1 r => k0_hw1.2.1.2.2.2.2.2.2.2.2.2.2.2.2.2.2.2.2.2.2.2.2.2.2.2.2.2.2.2.2.2.2.1 r
theorem k0_mult35_dvd : ∀ (arg21_r0 : BitVec 32) (k0_hw1 : k0_chk1 arg21_r0), 32 ∣ (k0_mult35 arg21_r0).toNat := fun arg21_r0 k0_hw1 => k0_hw1.2.1.2.2.2.2.2.2.2.2.2.2.2.2.2.2.2.2.2.2.2.2.2.2.2.2.2.2.2.2.2.2.2
theorem k0_off36_inb : ∀ (arg21_r0 : BitVec 32) (k0_hw1 : k0_chk1 arg21_r0), ∀ (r : Fin 2), ∀ a, (k0_off36 arg21_r0 (BitVec.ofNat 32 r.val)) a + S96x256.size a ≤ S1152x2048.size a := fun arg21_r0 k0_hw1 r => k0_hw1.2.2.1.1 r
theorem k0_mult36_dvd : ∀ (arg21_r0 : BitVec 32) (k0_hw1 : k0_chk1 arg21_r0), 32 ∣ (k0_mult36 arg21_r0).toNat := fun arg21_r0 k0_hw1 => k0_hw1.2.2.1.2.1
theorem k0_mult37_dvd : ∀ (arg21_r0 : BitVec 32) (k0_hw1 : k0_chk1 arg21_r0), 32 ∣ (k0_mult37 arg21_r0).toNat := fun arg21_r0 k0_hw1 => k0_hw1.2.2.1.2.2.1
theorem k0_off37_inb : ∀ (arg21_r0 : BitVec 32) (k0_hw1 : k0_chk1 arg21_r0), ∀ (r₁ : Fin 2) (r₂ : Fin 3), ∀ a, (k0_off37 arg21_r0 (BitVec.ofNat 32 r₁.val) (BitVec.ofNat 32 (32 * r₂.val))) a + S32x256.size a ≤ S1152x2048.size a := fun arg21_r0 k0_hw1 r₁ r₂ => k0_hw1.2.2.1.2.2.2.1 r₁ r₂
theorem k0_off37_packedbf16 : ∀ (arg21_r0 : BitVec 32) (k0_hw1 : k0_chk1 arg21_r0), ∀ (r₁ : Fin 2) (r₂ : Fin 3), (Rect.unit (s := S1152x2048) (k0_off37 arg21_r0 (BitVec.ofNat 32 r₁.val) (BitVec.ofNat 32 (32 * r₂.val))) S32x256.size (k0_off37_inb arg21_r0 k0_hw1 r₁ r₂)).PackedRows (EltTy.packing .bf16) := fun arg21_r0 k0_hw1 r₁ r₂ => k0_hw1.2.2.1.2.2.2.2.1 r₁ r₂ (k0_off37_inb arg21_r0 k0_hw1 r₁ r₂)
theorem k0_off38_inb : ∀ (arg21_r0 : BitVec 32) (k0_hw1 : k0_chk1 arg21_r0), ∀ (r₁ : Fin 2) (r₂ : Fin 3), ∀ a, (k0_off38 arg21_r0 (BitVec.ofNat 32 r₁.val) (BitVec.ofNat 32 r₂.val)) a + S1x256.size a ≤ S128x2048.size a := fun arg21_r0 k0_hw1 r₁ r₂ => k0_hw1.2.2.1.2.2.2.2.2.1 r₁ r₂
theorem k0_mult38_dvd : ∀ (arg21_r0 : BitVec 32) (k0_hw1 : k0_chk1 arg21_r0), 32 ∣ (k0_mult38 arg21_r0).toNat := fun arg21_r0 k0_hw1 => k0_hw1.2.2.1.2.2.2.2.2.2.1
theorem k0_mult39_dvd : ∀ (arg21_r0 : BitVec 32) (k0_hw1 : k0_chk1 arg21_r0), 32 ∣ (k0_mult39 arg21_r0).toNat := fun arg21_r0 k0_hw1 => k0_hw1.2.2.1.2.2.2.2.2.2.2.1
theorem k0_mult40_dvd : ∀ (arg21_r0 : BitVec 32) (k0_hw1 : k0_chk1 arg21_r0), 32 ∣ (k0_mult40 arg21_r0).toNat := fun arg21_r0 k0_hw1 => k0_hw1.2.2.1.2.2.2.2.2.2.2.2.1
theorem k0_off39_inb : ∀ (arg21_r0 : BitVec 32) (k0_hw1 : k0_chk1 arg21_r0), ∀ (r : Fin 2), ∀ a, (k0_off39 arg21_r0 (BitVec.ofNat 32 r.val)) a + S1x256.size a ≤ S12x2048.size a := fun arg21_r0 k0_hw1 r => k0_hw1.2.2.1.2.2.2.2.2.2.2.2.2.1 r
theorem k0_mult41_dvd : ∀ (arg21_r0 : BitVec 32) (k0_hw1 : k0_chk1 arg21_r0), 32 ∣ (k0_mult41 arg21_r0).toNat := fun arg21_r0 k0_hw1 => k0_hw1.2.2.1.2.2.2.2.2.2.2.2.2.2.1
theorem k0_mult42_dvd : ∀ (arg21_r0 : BitVec 32) (k0_hw1 : k0_chk1 arg21_r0), 32 ∣ (k0_mult42 arg21_r0).toNat := fun arg21_r0 k0_hw1 => k0_hw1.2.2.1.2.2.2.2.2.2.2.2.2.2.2.1
theorem k0_mult43_dvd : ∀ (arg21_r0 : BitVec 32) (k0_hw1 : k0_chk1 arg21_r0), 32 ∣ (k0_mult43 arg21_r0).toNat := fun arg21_r0 k0_hw1 => k0_hw1.2.2.1.2.2.2.2.2.2.2.2.2.2.2.2.1
theorem k0_mult44_dvd : ∀ (arg21_r0 : BitVec 32) (k0_hw1 : k0_chk1 arg21_r0), 32 ∣ (k0_mult44 arg21_r0).toNat := fun arg21_r0 k0_hw1 => k0_hw1.2.2.1.2.2.2.2.2.2.2.2.2.2.2.2.2.1
theorem k0_mult45_dvd : ∀ (arg21_r0 : BitVec 32) (k0_hw1 : k0_chk1 arg21_r0), 32 ∣ (k0_mult45 arg21_r0).toNat := fun arg21_r0 k0_hw1 => k0_hw1.2.2.1.2.2.2.2.2.2.2.2.2.2.2.2.2.2.1
theorem k0_off40_inb : ∀ (arg21_r0 : BitVec 32) (k0_hw1 : k0_chk1 arg21_r0), ∀ (r : Fin 2), ∀ a, (k0_off40 arg21_r0 (BitVec.ofNat 32 r.val)) a + S1x128x128.size a ≤ S4x2048x128.size a := fun arg21_r0 k0_hw1 r => k0_hw1.2.2.1.2.2.2.2.2.2.2.2.2.2.2.2.2.2.2.1 r
theorem k0_off41_inb : ∀ (arg21_r0 : BitVec 32) (k0_hw1 : k0_chk1 arg21_r0), ∀ (r : Fin 2), ∀ a, (k0_off41 arg21_r0 (BitVec.ofNat 32 r.val)) a + S1x128x128.size a ≤ S4x2048x128.size a := fun arg21_r0 k0_hw1 r => k0_hw1.2.2.1.2.2.2.2.2.2.2.2.2.2.2.2.2.2.2.2.1 r
theorem k0_mult46_dvd : ∀ (arg21_r0 : BitVec 32) (k0_hw1 : k0_chk1 arg21_r0), 32 ∣ (k0_mult46 arg21_r0).toNat := fun arg21_r0 k0_hw1 => k0_hw1.2.2.1.2.2.2.2.2.2.2.2.2.2.2.2.2.2.2.2.2.1
theorem k0_off42_inb : ∀ (arg21_r0 : BitVec 32) (k0_hw1 : k0_chk1 arg21_r0), ∀ (r : Fin 2), ∀ a, (k0_off42 arg21_r0 (BitVec.ofNat 32 r.val)) a + S1x96x256.size a ≤ S4x96x2048.size a := fun arg21_r0 k0_hw1 r => k0_hw1.2.2.1.2.2.2.2.2.2.2.2.2.2.2.2.2.2.2.2.2.2.1 r
theorem k0_mult47_dvd : ∀ (arg21_r0 : BitVec 32) (k0_hw1 : k0_chk1 arg21_r0), 32 ∣ (k0_mult47 arg21_r0).toNat := fun arg21_r0 k0_hw1 => k0_hw1.2.2.1.2.2.2.2.2.2.2.2.2.2.2.2.2.2.2.2.2.2.2.1
theorem k0_off43_inb : ∀ (arg21_r0 : BitVec 32) (k0_hw1 : k0_chk1 arg21_r0), ∀ (r : Fin 2), ∀ a, (k0_off43 arg21_r0 (BitVec.ofNat 32 r.val)) a + S96x256.size a ≤ S1152x2048.size a := fun arg21_r0 k0_hw1 r => k0_hw1.2.2.1.2.2.2.2.2.2.2.2.2.2.2.2.2.2.2.2.2.2.2.2.1 r
theorem k0_mult48_dvd : ∀ (arg21_r0 : BitVec 32) (k0_hw1 : k0_chk1 arg21_r0), 32 ∣ (k0_mult48 arg21_r0).toNat := fun arg21_r0 k0_hw1 => k0_hw1.2.2.1.2.2.2.2.2.2.2.2.2.2.2.2.2.2.2.2.2.2.2.2.2.1
theorem k0_mult49_dvd : ∀ (arg21_r0 : BitVec 32) (k0_hw1 : k0_chk1 arg21_r0), 32 ∣ (k0_mult49 arg21_r0).toNat := fun arg21_r0 k0_hw1 => k0_hw1.2.2.1.2.2.2.2.2.2.2.2.2.2.2.2.2.2.2.2.2.2.2.2.2.2.1
theorem k0_off44_inb : ∀ (arg21_r0 : BitVec 32) (k0_hw1 : k0_chk1 arg21_r0), ∀ (r₁ : Fin 2) (r₂ : Fin 3), ∀ a, (k0_off44 arg21_r0 (BitVec.ofNat 32 r₁.val) (BitVec.ofNat 32 (32 * r₂.val))) a + S32x256.size a ≤ S1152x2048.size a := fun arg21_r0 k0_hw1 r₁ r₂ => k0_hw1.2.2.1.2.2.2.2.2.2.2.2.2.2.2.2.2.2.2.2.2.2.2.2.2.2.2.1 r₁ r₂
theorem k0_off44_packedbf16 : ∀ (arg21_r0 : BitVec 32) (k0_hw1 : k0_chk1 arg21_r0), ∀ (r₁ : Fin 2) (r₂ : Fin 3), (Rect.unit (s := S1152x2048) (k0_off44 arg21_r0 (BitVec.ofNat 32 r₁.val) (BitVec.ofNat 32 (32 * r₂.val))) S32x256.size (k0_off44_inb arg21_r0 k0_hw1 r₁ r₂)).PackedRows (EltTy.packing .bf16) := fun arg21_r0 k0_hw1 r₁ r₂ => k0_hw1.2.2.1.2.2.2.2.2.2.2.2.2.2.2.2.2.2.2.2.2.2.2.2.2.2.2.2.1 r₁ r₂ (k0_off44_inb arg21_r0 k0_hw1 r₁ r₂)
theorem k0_off45_inb : ∀ (arg21_r0 : BitVec 32) (k0_hw1 : k0_chk1 arg21_r0), ∀ (r₁ : Fin 2) (r₂ : Fin 3), ∀ a, (k0_off45 arg21_r0 (BitVec.ofNat 32 r₁.val) (BitVec.ofNat 32 r₂.val)) a + S1x256.size a ≤ S128x2048.size a := fun arg21_r0 k0_hw1 r₁ r₂ => k0_hw1.2.2.1.2.2.2.2.2.2.2.2.2.2.2.2.2.2.2.2.2.2.2.2.2.2.2.2.2.1 r₁ r₂
theorem k0_mult50_dvd : ∀ (arg21_r0 : BitVec 32) (k0_hw1 : k0_chk1 arg21_r0), 32 ∣ (k0_mult50 arg21_r0).toNat := fun arg21_r0 k0_hw1 => k0_hw1.2.2.1.2.2.2.2.2.2.2.2.2.2.2.2.2.2.2.2.2.2.2.2.2.2.2.2.2.2.1
theorem k0_mult51_dvd : ∀ (arg21_r0 : BitVec 32) (k0_hw1 : k0_chk1 arg21_r0), 32 ∣ (k0_mult51 arg21_r0).toNat := fun arg21_r0 k0_hw1 => k0_hw1.2.2.1.2.2.2.2.2.2.2.2.2.2.2.2.2.2.2.2.2.2.2.2.2.2.2.2.2.2.2.1
theorem k0_mult52_dvd : ∀ (arg21_r0 : BitVec 32) (k0_hw1 : k0_chk1 arg21_r0), 32 ∣ (k0_mult52 arg21_r0).toNat := fun arg21_r0 k0_hw1 => k0_hw1.2.2.1.2.2.2.2.2.2.2.2.2.2.2.2.2.2.2.2.2.2.2.2.2.2.2.2.2.2.2.2.1
theorem k0_off46_inb : ∀ (arg21_r0 : BitVec 32) (k0_hw1 : k0_chk1 arg21_r0), ∀ (r : Fin 2), ∀ a, (k0_off46 arg21_r0 (BitVec.ofNat 32 r.val)) a + S1x256.size a ≤ S12x2048.size a := fun arg21_r0 k0_hw1 r => k0_hw1.2.2.1.2.2.2.2.2.2.2.2.2.2.2.2.2.2.2.2.2.2.2.2.2.2.2.2.2.2.2.2.2.1 r
theorem k0_mult53_dvd : ∀ (arg21_r0 : BitVec 32) (k0_hw1 : k0_chk1 arg21_r0), 32 ∣ (k0_mult53 arg21_r0).toNat := fun arg21_r0 k0_hw1 => k0_hw1.2.2.1.2.2.2.2.2.2.2.2.2.2.2.2.2.2.2.2.2.2.2.2.2.2.2.2.2.2.2.2.2.2.1
theorem k0_mult54_dvd : ∀ (arg21_r0 : BitVec 32) (k0_hw1 : k0_chk1 arg21_r0), 32 ∣ (k0_mult54 arg21_r0).toNat := fun arg21_r0 k0_hw1 => k0_hw1.2.2.1.2.2.2.2.2.2.2.2.2.2.2.2.2.2.2.2.2.2.2.2.2.2.2.2.2.2.2.2.2.2.2
theorem k0_mult55_dvd : ∀ (arg21_r0 : BitVec 32) (k0_hw1 : k0_chk1 arg21_r0), 32 ∣ (k0_mult55 arg21_r0).toNat := fun arg21_r0 k0_hw1 => k0_hw1.2.2.2.1.1
theorem k0_mult56_dvd : ∀ (arg21_r0 : BitVec 32) (k0_hw1 : k0_chk1 arg21_r0), 32 ∣ (k0_mult56 arg21_r0).toNat := fun arg21_r0 k0_hw1 => k0_hw1.2.2.2.1.2.1
theorem k0_mult57_dvd : ∀ (arg21_r0 : BitVec 32) (k0_hw1 : k0_chk1 arg21_r0), 32 ∣ (k0_mult57 arg21_r0).toNat := fun arg21_r0 k0_hw1 => k0_hw1.2.2.2.1.2.2.1
theorem k0_mult58_dvd : ∀ (arg21_r0 : BitVec 32) (k0_hw1 : k0_chk1 arg21_r0), 32 ∣ (k0_mult58 arg21_r0).toNat := fun arg21_r0 k0_hw1 => k0_hw1.2.2.2.1.2.2.2.1
theorem k0_mult59_dvd : ∀ (arg21_r0 : BitVec 32) (k0_hw1 : k0_chk1 arg21_r0), 32 ∣ (k0_mult59 arg21_r0).toNat := fun arg21_r0 k0_hw1 => k0_hw1.2.2.2.1.2.2.2.2.1
theorem k0_off47_inb : ∀ (arg21_r0 : BitVec 32) (k0_hw1 : k0_chk1 arg21_r0), ∀ (r : Fin 2), ∀ a, (k0_off47 arg21_r0 (BitVec.ofNat 32 r.val)) a + S1x128x128.size a ≤ S4x2048x128.size a := fun arg21_r0 k0_hw1 r => k0_hw1.2.2.2.1.2.2.2.2.2.1 r
theorem k0_off48_inb : ∀ (arg21_r0 : BitVec 32) (k0_hw1 : k0_chk1 arg21_r0), ∀ (r : Fin 2), ∀ a, (k0_off48 arg21_r0 (BitVec.ofNat 32 r.val)) a + S1x128x128.size a ≤ S4x2048x128.size a := fun arg21_r0 k0_hw1 r => k0_hw1.2.2.2.1.2.2.2.2.2.2.1 r
theorem k0_mult60_dvd : ∀ (arg21_r0 : BitVec 32) (k0_hw1 : k0_chk1 arg21_r0), 32 ∣ (k0_mult60 arg21_r0).toNat := fun arg21_r0 k0_hw1 => k0_hw1.2.2.2.1.2.2.2.2.2.2.2.1
theorem k0_off49_inb : ∀ (arg21_r0 : BitVec 32) (k0_hw1 : k0_chk1 arg21_r0), ∀ (r : Fin 2), ∀ a, (k0_off49 arg21_r0 (BitVec.ofNat 32 r.val)) a + S1x96x256.size a ≤ S4x96x2048.size a := fun arg21_r0 k0_hw1 r => k0_hw1.2.2.2.1.2.2.2.2.2.2.2.2.1 r
theorem k0_mult61_dvd : ∀ (arg21_r0 : BitVec 32) (k0_hw1 : k0_chk1 arg21_r0), 32 ∣ (k0_mult61 arg21_r0).toNat := fun arg21_r0 k0_hw1 => k0_hw1.2.2.2.1.2.2.2.2.2.2.2.2.2.1
theorem k0_off50_inb : ∀ (arg21_r0 : BitVec 32) (k0_hw1 : k0_chk1 arg21_r0), ∀ (r : Fin 2), ∀ a, (k0_off50 arg21_r0 (BitVec.ofNat 32 r.val)) a + S96x256.size a ≤ S1152x2048.size a := fun arg21_r0 k0_hw1 r => k0_hw1.2.2.2.1.2.2.2.2.2.2.2.2.2.2.1 r
theorem k0_mult62_dvd : ∀ (arg21_r0 : BitVec 32) (k0_hw1 : k0_chk1 arg21_r0), 32 ∣ (k0_mult62 arg21_r0).toNat := fun arg21_r0 k0_hw1 => k0_hw1.2.2.2.1.2.2.2.2.2.2.2.2.2.2.2.1
theorem k0_mult63_dvd : ∀ (arg21_r0 : BitVec 32) (k0_hw1 : k0_chk1 arg21_r0), 32 ∣ (k0_mult63 arg21_r0).toNat := fun arg21_r0 k0_hw1 => k0_hw1.2.2.2.1.2.2.2.2.2.2.2.2.2.2.2.2.1
theorem k0_off51_inb : ∀ (arg21_r0 : BitVec 32) (k0_hw1 : k0_chk1 arg21_r0), ∀ (r₁ : Fin 2) (r₂ : Fin 3), ∀ a, (k0_off51 arg21_r0 (BitVec.ofNat 32 r₁.val) (BitVec.ofNat 32 (32 * r₂.val))) a + S32x256.size a ≤ S1152x2048.size a := fun arg21_r0 k0_hw1 r₁ r₂ => k0_hw1.2.2.2.1.2.2.2.2.2.2.2.2.2.2.2.2.2.1 r₁ r₂
theorem k0_off51_packedbf16 : ∀ (arg21_r0 : BitVec 32) (k0_hw1 : k0_chk1 arg21_r0), ∀ (r₁ : Fin 2) (r₂ : Fin 3), (Rect.unit (s := S1152x2048) (k0_off51 arg21_r0 (BitVec.ofNat 32 r₁.val) (BitVec.ofNat 32 (32 * r₂.val))) S32x256.size (k0_off51_inb arg21_r0 k0_hw1 r₁ r₂)).PackedRows (EltTy.packing .bf16) := fun arg21_r0 k0_hw1 r₁ r₂ => k0_hw1.2.2.2.1.2.2.2.2.2.2.2.2.2.2.2.2.2.2.1 r₁ r₂ (k0_off51_inb arg21_r0 k0_hw1 r₁ r₂)
theorem k0_off52_inb : ∀ (arg21_r0 : BitVec 32) (k0_hw1 : k0_chk1 arg21_r0), ∀ (r₁ : Fin 2) (r₂ : Fin 3), ∀ a, (k0_off52 arg21_r0 (BitVec.ofNat 32 r₁.val) (BitVec.ofNat 32 r₂.val)) a + S1x256.size a ≤ S128x2048.size a := fun arg21_r0 k0_hw1 r₁ r₂ => k0_hw1.2.2.2.1.2.2.2.2.2.2.2.2.2.2.2.2.2.2.2.1 r₁ r₂
theorem k0_mult64_dvd : ∀ (arg21_r0 : BitVec 32) (k0_hw1 : k0_chk1 arg21_r0), 32 ∣ (k0_mult64 arg21_r0).toNat := fun arg21_r0 k0_hw1 => k0_hw1.2.2.2.1.2.2.2.2.2.2.2.2.2.2.2.2.2.2.2.2.1
theorem k0_mult65_dvd : ∀ (arg21_r0 : BitVec 32) (k0_hw1 : k0_chk1 arg21_r0), 32 ∣ (k0_mult65 arg21_r0).toNat := fun arg21_r0 k0_hw1 => k0_hw1.2.2.2.1.2.2.2.2.2.2.2.2.2.2.2.2.2.2.2.2.2.1
theorem k0_mult66_dvd : ∀ (arg21_r0 : BitVec 32) (k0_hw1 : k0_chk1 arg21_r0), 32 ∣ (k0_mult66 arg21_r0).toNat := fun arg21_r0 k0_hw1 => k0_hw1.2.2.2.1.2.2.2.2.2.2.2.2.2.2.2.2.2.2.2.2.2.2.1
theorem k0_off53_inb : ∀ (arg21_r0 : BitVec 32) (k0_hw1 : k0_chk1 arg21_r0), ∀ (r : Fin 2), ∀ a, (k0_off53 arg21_r0 (BitVec.ofNat 32 r.val)) a + S1x256.size a ≤ S12x2048.size a := fun arg21_r0 k0_hw1 r => k0_hw1.2.2.2.1.2.2.2.2.2.2.2.2.2.2.2.2.2.2.2.2.2.2.2.1 r
theorem k0_mult67_dvd : ∀ (arg21_r0 : BitVec 32) (k0_hw1 : k0_chk1 arg21_r0), 32 ∣ (k0_mult67 arg21_r0).toNat := fun arg21_r0 k0_hw1 => k0_hw1.2.2.2.1.2.2.2.2.2.2.2.2.2.2.2.2.2.2.2.2.2.2.2.2.1
theorem k0_mult68_dvd : ∀ (arg21_r0 : BitVec 32) (k0_hw1 : k0_chk1 arg21_r0), 32 ∣ (k0_mult68 arg21_r0).toNat := fun arg21_r0 k0_hw1 => k0_hw1.2.2.2.1.2.2.2.2.2.2.2.2.2.2.2.2.2.2.2.2.2.2.2.2.2.1
theorem k0_mult69_dvd : ∀ (arg21_r0 : BitVec 32) (k0_hw1 : k0_chk1 arg21_r0), 32 ∣ (k0_mult69 arg21_r0).toNat := fun arg21_r0 k0_hw1 => k0_hw1.2.2.2.1.2.2.2.2.2.2.2.2.2.2.2.2.2.2.2.2.2.2.2.2.2.2.1
theorem k0_mult70_dvd : ∀ (arg21_r0 : BitVec 32) (k0_hw1 : k0_chk1 arg21_r0), 32 ∣ (k0_mult70 arg21_r0).toNat := fun arg21_r0 k0_hw1 => k0_hw1.2.2.2.1.2.2.2.2.2.2.2.2.2.2.2.2.2.2.2.2.2.2.2.2.2.2.2.1
theorem k0_mult71_dvd : ∀ (arg21_r0 : BitVec 32) (k0_hw1 : k0_chk1 arg21_r0), 32 ∣ (k0_mult71 arg21_r0).toNat := fun arg21_r0 k0_hw1 => k0_hw1.2.2.2.1.2.2.2.2.2.2.2.2.2.2.2.2.2.2.2.2.2.2.2.2.2.2.2.2.1
theorem k0_mult72_dvd : ∀ (arg21_r0 : BitVec 32) (k0_hw1 : k0_chk1 arg21_r0), 32 ∣ (k0_mult72 arg21_r0).toNat := fun arg21_r0 k0_hw1 => k0_hw1.2.2.2.1.2.2.2.2.2.2.2.2.2.2.2.2.2.2.2.2.2.2.2.2.2.2.2.2.2.1
theorem k0_mult73_dvd : ∀ (arg21_r0 : BitVec 32) (k0_hw1 : k0_chk1 arg21_r0), 32 ∣ (k0_mult73 arg21_r0).toNat := fun arg21_r0 k0_hw1 => k0_hw1.2.2.2.1.2.2.2.2.2.2.2.2.2.2.2.2.2.2.2.2.2.2.2.2.2.2.2.2.2.2.1
theorem k0_mult74_dvd : ∀ (arg21_r0 : BitVec 32) (k0_hw1 : k0_chk1 arg21_r0), 32 ∣ (k0_mult74 arg21_r0).toNat := fun arg21_r0 k0_hw1 => k0_hw1.2.2.2.1.2.2.2.2.2.2.2.2.2.2.2.2.2.2.2.2.2.2.2.2.2.2.2.2.2.2.2.1
theorem k0_mult75_dvd : ∀ (arg21_r0 : BitVec 32) (k0_hw1 : k0_chk1 arg21_r0), 32 ∣ (k0_mult75 arg21_r0).toNat := fun arg21_r0 k0_hw1 => k0_hw1.2.2.2.1.2.2.2.2.2.2.2.2.2.2.2.2.2.2.2.2.2.2.2.2.2.2.2.2.2.2.2.2.1
theorem k0_off54_inb : ∀ (arg21_r0 : BitVec 32) (k0_hw1 : k0_chk1 arg21_r0), ∀ (r : Fin 2), ∀ a, (k0_off54 arg21_r0 (BitVec.ofNat 32 r.val)) a + S1x128x128.size a ≤ S4x2048x128.size a := fun arg21_r0 k0_hw1 r => k0_hw1.2.2.2.1.2.2.2.2.2.2.2.2.2.2.2.2.2.2.2.2.2.2.2.2.2.2.2.2.2.2.2.2.2.1 r
theorem k0_off55_inb : ∀ (arg21_r0 : BitVec 32) (k0_hw1 : k0_chk1 arg21_r0), ∀ (r : Fin 2), ∀ a, (k0_off55 arg21_r0 (BitVec.ofNat 32 r.val)) a + S1x128x128.size a ≤ S4x2048x128.size a := fun arg21_r0 k0_hw1 r => k0_hw1.2.2.2.1.2.2.2.2.2.2.2.2.2.2.2.2.2.2.2.2.2.2.2.2.2.2.2.2.2.2.2.2.2.2.1 r
theorem k0_mult76_dvd : ∀ (arg21_r0 : BitVec 32) (k0_hw1 : k0_chk1 arg21_r0), 32 ∣ (k0_mult76 arg21_r0).toNat := fun arg21_r0 k0_hw1 => k0_hw1.2.2.2.1.2.2.2.2.2.2.2.2.2.2.2.2.2.2.2.2.2.2.2.2.2.2.2.2.2.2.2.2.2.2.2
theorem k0_off56_inb : ∀ (arg21_r0 : BitVec 32) (k0_hw1 : k0_chk1 arg21_r0), ∀ (r : Fin 2), ∀ a, (k0_off56 arg21_r0 (BitVec.ofNat 32 r.val)) a + S1x96x256.size a ≤ S4x96x2048.size a := fun arg21_r0 k0_hw1 r => k0_hw1.2.2.2.2.1.1 r
theorem k0_mult77_dvd : ∀ (arg21_r0 : BitVec 32) (k0_hw1 : k0_chk1 arg21_r0), 32 ∣ (k0_mult77 arg21_r0).toNat := fun arg21_r0 k0_hw1 => k0_hw1.2.2.2.2.1.2.1
theorem k0_off57_inb : ∀ (arg21_r0 : BitVec 32) (k0_hw1 : k0_chk1 arg21_r0), ∀ (r : Fin 2), ∀ a, (k0_off57 arg21_r0 (BitVec.ofNat 32 r.val)) a + S96x256.size a ≤ S1152x2048.size a := fun arg21_r0 k0_hw1 r => k0_hw1.2.2.2.2.1.2.2.1 r
theorem k0_mult78_dvd : ∀ (arg21_r0 : BitVec 32) (k0_hw1 : k0_chk1 arg21_r0), 32 ∣ (k0_mult78 arg21_r0).toNat := fun arg21_r0 k0_hw1 => k0_hw1.2.2.2.2.1.2.2.2.1
theorem k0_mult79_dvd : ∀ (arg21_r0 : BitVec 32) (k0_hw1 : k0_chk1 arg21_r0), 32 ∣ (k0_mult79 arg21_r0).toNat := fun arg21_r0 k0_hw1 => k0_hw1.2.2.2.2.1.2.2.2.2.1
theorem k0_off58_inb : ∀ (arg21_r0 : BitVec 32) (k0_hw1 : k0_chk1 arg21_r0), ∀ (r₁ : Fin 2) (r₂ : Fin 3), ∀ a, (k0_off58 arg21_r0 (BitVec.ofNat 32 r₁.val) (BitVec.ofNat 32 (32 * r₂.val))) a + S32x256.size a ≤ S1152x2048.size a := fun arg21_r0 k0_hw1 r₁ r₂ => k0_hw1.2.2.2.2.1.2.2.2.2.2.1 r₁ r₂
theorem k0_off58_packedbf16 : ∀ (arg21_r0 : BitVec 32) (k0_hw1 : k0_chk1 arg21_r0), ∀ (r₁ : Fin 2) (r₂ : Fin 3), (Rect.unit (s := S1152x2048) (k0_off58 arg21_r0 (BitVec.ofNat 32 r₁.val) (BitVec.ofNat 32 (32 * r₂.val))) S32x256.size (k0_off58_inb arg21_r0 k0_hw1 r₁ r₂)).PackedRows (EltTy.packing .bf16) := fun arg21_r0 k0_hw1 r₁ r₂ => k0_hw1.2.2.2.2.1.2.2.2.2.2.2.1 r₁ r₂ (k0_off58_inb arg21_r0 k0_hw1 r₁ r₂)
theorem k0_off59_inb : ∀ (arg21_r0 : BitVec 32) (k0_hw1 : k0_chk1 arg21_r0), ∀ (r₁ : Fin 2) (r₂ : Fin 3), ∀ a, (k0_off59 arg21_r0 (BitVec.ofNat 32 r₁.val) (BitVec.ofNat 32 r₂.val)) a + S1x256.size a ≤ S128x2048.size a := fun arg21_r0 k0_hw1 r₁ r₂ => k0_hw1.2.2.2.2.1.2.2.2.2.2.2.2.1 r₁ r₂
theorem k0_mult80_dvd : ∀ (arg21_r0 : BitVec 32) (k0_hw1 : k0_chk1 arg21_r0), 32 ∣ (k0_mult80 arg21_r0).toNat := fun arg21_r0 k0_hw1 => k0_hw1.2.2.2.2.1.2.2.2.2.2.2.2.2.1
theorem k0_mult81_dvd : ∀ (arg21_r0 : BitVec 32) (k0_hw1 : k0_chk1 arg21_r0), 32 ∣ (k0_mult81 arg21_r0).toNat := fun arg21_r0 k0_hw1 => k0_hw1.2.2.2.2.1.2.2.2.2.2.2.2.2.2.1
theorem k0_mult82_dvd : ∀ (arg21_r0 : BitVec 32) (k0_hw1 : k0_chk1 arg21_r0), 32 ∣ (k0_mult82 arg21_r0).toNat := fun arg21_r0 k0_hw1 => k0_hw1.2.2.2.2.1.2.2.2.2.2.2.2.2.2.2.1
theorem k0_off60_inb : ∀ (arg21_r0 : BitVec 32) (k0_hw1 : k0_chk1 arg21_r0), ∀ (r : Fin 2), ∀ a, (k0_off60 arg21_r0 (BitVec.ofNat 32 r.val)) a + S1x256.size a ≤ S12x2048.size a := fun arg21_r0 k0_hw1 r => k0_hw1.2.2.2.2.1.2.2.2.2.2.2.2.2.2.2.2.1 r
theorem k0_mult83_dvd : ∀ (arg21_r0 : BitVec 32) (k0_hw1 : k0_chk1 arg21_r0), 32 ∣ (k0_mult83 arg21_r0).toNat := fun arg21_r0 k0_hw1 => k0_hw1.2.2.2.2.1.2.2.2.2.2.2.2.2.2.2.2.2.1
theorem k0_mult84_dvd : ∀ (arg21_r0 : BitVec 32) (k0_hw1 : k0_chk1 arg21_r0), 32 ∣ (k0_mult84 arg21_r0).toNat := fun arg21_r0 k0_hw1 => k0_hw1.2.2.2.2.1.2.2.2.2.2.2.2.2.2.2.2.2.2.1
theorem k0_mult85_dvd : ∀ (arg21_r0 : BitVec 32) (k0_hw1 : k0_chk1 arg21_r0), 32 ∣ (k0_mult85 arg21_r0).toNat := fun arg21_r0 k0_hw1 => k0_hw1.2.2.2.2.1.2.2.2.2.2.2.2.2.2.2.2.2.2.2.1
theorem k0_mult86_dvd : ∀ (arg21_r0 : BitVec 32) (k0_hw1 : k0_chk1 arg21_r0), 32 ∣ (k0_mult86 arg21_r0).toNat := fun arg21_r0 k0_hw1 => k0_hw1.2.2.2.2.1.2.2.2.2.2.2.2.2.2.2.2.2.2.2.2.1
theorem k0_mult87_dvd : ∀ (arg21_r0 : BitVec 32) (k0_hw1 : k0_chk1 arg21_r0), 32 ∣ (k0_mult87 arg21_r0).toNat := fun arg21_r0 k0_hw1 => k0_hw1.2.2.2.2.1.2.2.2.2.2.2.2.2.2.2.2.2.2.2.2.2.1
theorem k0_mult88_dvd : ∀ (arg21_r0 : BitVec 32) (k0_hw1 : k0_chk1 arg21_r0), 32 ∣ (k0_mult88 arg21_r0).toNat := fun arg21_r0 k0_hw1 => k0_hw1.2.2.2.2.1.2.2.2.2.2.2.2.2.2.2.2.2.2.2.2.2.2.1
theorem k0_mult89_dvd : ∀ (arg21_r0 : BitVec 32) (k0_hw1 : k0_chk1 arg21_r0), 32 ∣ (k0_mult89 arg21_r0).toNat := fun arg21_r0 k0_hw1 => k0_hw1.2.2.2.2.1.2.2.2.2.2.2.2.2.2.2.2.2.2.2.2.2.2.2.1
theorem k0_mult90_dvd : ∀ (arg21_r0 : BitVec 32) (k0_hw1 : k0_chk1 arg21_r0), 32 ∣ (k0_mult90 arg21_r0).toNat := fun arg21_r0 k0_hw1 => k0_hw1.2.2.2.2.1.2.2.2.2.2.2.2.2.2.2.2.2.2.2.2.2.2.2.2.1
theorem k0_mult91_dvd : ∀ (arg21_r0 : BitVec 32) (k0_hw1 : k0_chk1 arg21_r0), 32 ∣ (k0_mult91 arg21_r0).toNat := fun arg21_r0 k0_hw1 => k0_hw1.2.2.2.2.1.2.2.2.2.2.2.2.2.2.2.2.2.2.2.2.2.2.2.2.2.1
theorem k0_mult92_dvd : ∀ (arg21_r0 : BitVec 32) (k0_hw1 : k0_chk1 arg21_r0), 32 ∣ (k0_mult92 arg21_r0).toNat := fun arg21_r0 k0_hw1 => k0_hw1.2.2.2.2.1.2.2.2.2.2.2.2.2.2.2.2.2.2.2.2.2.2.2.2.2.2.1
theorem k0_mult93_dvd : ∀ (arg21_r0 : BitVec 32) (k0_hw1 : k0_chk1 arg21_r0), 32 ∣ (k0_mult93 arg21_r0).toNat := fun arg21_r0 k0_hw1 => k0_hw1.2.2.2.2.1.2.2.2.2.2.2.2.2.2.2.2.2.2.2.2.2.2.2.2.2.2.2.1
theorem k0_off61_inb : ∀ (arg21_r0 : BitVec 32) (k0_hw1 : k0_chk1 arg21_r0), ∀ (r : Fin 2), ∀ a, (k0_off61 arg21_r0 (BitVec.ofNat 32 r.val)) a + S1x128x128.size a ≤ S4x2048x128.size a := fun arg21_r0 k0_hw1 r => k0_hw1.2.2.2.2.1.2.2.2.2.2.2.2.2.2.2.2.2.2.2.2.2.2.2.2.2.2.2.2.1 r
theorem k0_off62_inb : ∀ (arg21_r0 : BitVec 32) (k0_hw1 : k0_chk1 arg21_r0), ∀ (r : Fin 2), ∀ a, (k0_off62 arg21_r0 (BitVec.ofNat 32 r.val)) a + S1x128x128.size a ≤ S4x2048x128.size a := fun arg21_r0 k0_hw1 r => k0_hw1.2.2.2.2.1.2.2.2.2.2.2.2.2.2.2.2.2.2.2.2.2.2.2.2.2.2.2.2.2.1 r
theorem k0_mult94_dvd : ∀ (arg21_r0 : BitVec 32) (k0_hw1 : k0_chk1 arg21_r0), 32 ∣ (k0_mult94 arg21_r0).toNat := fun arg21_r0 k0_hw1 => k0_hw1.2.2.2.2.1.2.2.2.2.2.2.2.2.2.2.2.2.2.2.2.2.2.2.2.2.2.2.2.2.2.1
theorem k0_off63_inb : ∀ (arg21_r0 : BitVec 32) (k0_hw1 : k0_chk1 arg21_r0), ∀ (r : Fin 2), ∀ a, (k0_off63 arg21_r0 (BitVec.ofNat 32 r.val)) a + S1x96x256.size a ≤ S4x96x2048.size a := fun arg21_r0 k0_hw1 r => k0_hw1.2.2.2.2.1.2.2.2.2.2.2.2.2.2.2.2.2.2.2.2.2.2.2.2.2.2.2.2.2.2.2.1 r
theorem k0_mult95_dvd : ∀ (arg21_r0 : BitVec 32) (k0_hw1 : k0_chk1 arg21_r0), 32 ∣ (k0_mult95 arg21_r0).toNat := fun arg21_r0 k0_hw1 => k0_hw1.2.2.2.2.1.2.2.2.2.2.2.2.2.2.2.2.2.2.2.2.2.2.2.2.2.2.2.2.2.2.2.2.1
theorem k0_off64_inb : ∀ (arg21_r0 : BitVec 32) (k0_hw1 : k0_chk1 arg21_r0), ∀ (r₁ : Fin 2) (r₂ : Fin 3), ∀ a, (k0_off64 arg21_r0 (BitVec.ofNat 32 r₁.val) (BitVec.ofNat 32 (32 * r₂.val))) a + S32x256.size a ≤ S1152x2048.size a := fun arg21_r0 k0_hw1 r₁ r₂ => k0_hw1.2.2.2.2.1.2.2.2.2.2.2.2.2.2.2.2.2.2.2.2.2.2.2.2.2.2.2.2.2.2.2.2.2.1 r₁ r₂
theorem k0_off64_packedbf16 : ∀ (arg21_r0 : BitVec 32) (k0_hw1 : k0_chk1 arg21_r0), ∀ (r₁ : Fin 2) (r₂ : Fin 3), (Rect.unit (s := S1152x2048) (k0_off64 arg21_r0 (BitVec.ofNat 32 r₁.val) (BitVec.ofNat 32 (32 * r₂.val))) S32x256.size (k0_off64_inb arg21_r0 k0_hw1 r₁ r₂)).PackedRows (EltTy.packing .bf16) := fun arg21_r0 k0_hw1 r₁ r₂ => k0_hw1.2.2.2.2.1.2.2.2.2.2.2.2.2.2.2.2.2.2.2.2.2.2.2.2.2.2.2.2.2.2.2.2.2.2.1 r₁ r₂ (k0_off64_inb arg21_r0 k0_hw1 r₁ r₂)
theorem k0_off65_inb : ∀ (arg21_r0 : BitVec 32) (k0_hw1 : k0_chk1 arg21_r0), ∀ (r₁ : Fin 2) (r₂ : Fin 3), ∀ a, (k0_off65 arg21_r0 (BitVec.ofNat 32 r₁.val) (BitVec.ofNat 32 r₂.val)) a + S1x256.size a ≤ S128x2048.size a := fun arg21_r0 k0_hw1 r₁ r₂ => k0_hw1.2.2.2.2.1.2.2.2.2.2.2.2.2.2.2.2.2.2.2.2.2.2.2.2.2.2.2.2.2.2.2.2.2.2.2.1 r₁ r₂
theorem k0_mult96_dvd : ∀ (arg21_r0 : BitVec 32) (k0_hw1 : k0_chk1 arg21_r0), 32 ∣ (k0_mult96 arg21_r0).toNat := fun arg21_r0 k0_hw1 => k0_hw1.2.2.2.2.1.2.2.2.2.2.2.2.2.2.2.2.2.2.2.2.2.2.2.2.2.2.2.2.2.2.2.2.2.2.2.2
theorem k0_off66_inb : ∀ (arg21_r0 : BitVec 32) (k0_hw1 : k0_chk1 arg21_r0), ∀ (r : Fin 2), ∀ a, (k0_off66 arg21_r0 (BitVec.ofNat 32 r.val)) a + S1x96x256.size a ≤ S4x96x2048.size a := fun arg21_r0 k0_hw1 r => k0_hw1.2.2.2.2.2.1 r
theorem k0_mult97_dvd : ∀ (arg21_r0 : BitVec 32) (k0_hw1 : k0_chk1 arg21_r0), 32 ∣ (k0_mult97 arg21_r0).toNat := fun arg21_r0 k0_hw1 => k0_hw1.2.2.2.2.2.2.1
theorem k0_off67_inb : ∀ (arg21_r0 : BitVec 32) (k0_hw1 : k0_chk1 arg21_r0), ∀ (r₁ : Fin 2) (r₂ : Fin 3), ∀ a, (k0_off67 arg21_r0 (BitVec.ofNat 32 r₁.val) (BitVec.ofNat 32 (32 * r₂.val))) a + S32x256.size a ≤ S1152x2048.size a := fun arg21_r0 k0_hw1 r₁ r₂ => k0_hw1.2.2.2.2.2.2.2.1 r₁ r₂
theorem k0_off67_packedbf16 : ∀ (arg21_r0 : BitVec 32) (k0_hw1 : k0_chk1 arg21_r0), ∀ (r₁ : Fin 2) (r₂ : Fin 3), (Rect.unit (s := S1152x2048) (k0_off67 arg21_r0 (BitVec.ofNat 32 r₁.val) (BitVec.ofNat 32 (32 * r₂.val))) S32x256.size (k0_off67_inb arg21_r0 k0_hw1 r₁ r₂)).PackedRows (EltTy.packing .bf16) := fun arg21_r0 k0_hw1 r₁ r₂ => k0_hw1.2.2.2.2.2.2.2.2.1 r₁ r₂ (k0_off67_inb arg21_r0 k0_hw1 r₁ r₂)
theorem k0_off68_inb : ∀ (arg21_r0 : BitVec 32) (k0_hw1 : k0_chk1 arg21_r0), ∀ (r₁ : Fin 2) (r₂ : Fin 3), ∀ a, (k0_off68 arg21_r0 (BitVec.ofNat 32 r₁.val) (BitVec.ofNat 32 r₂.val)) a + S1x256.size a ≤ S128x2048.size a := fun arg21_r0 k0_hw1 r₁ r₂ => k0_hw1.2.2.2.2.2.2.2.2.2.1 r₁ r₂
theorem k0_mult98_dvd : ∀ (arg21_r0 : BitVec 32) (k0_hw1 : k0_chk1 arg21_r0), 32 ∣ (k0_mult98 arg21_r0).toNat := fun arg21_r0 k0_hw1 => k0_hw1.2.2.2.2.2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x1152 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x36 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x2048x1152 : Shape := ⟨3, ![16, 2048, 1152]⟩
abbrev S16x2048x12 : Shape := ⟨3, ![16, 2048, 12]⟩
abbrev S16x2048x384 : Shape := ⟨3, ![16, 2048, 384]⟩
abbrev S16x2048x4 : Shape := ⟨3, ![16, 2048, 4]⟩
abbrev S16x4x2048 : Shape := ⟨3, ![16, 4, 2048]⟩
abbrev S16x2048x36 : Shape := ⟨3, ![16, 2048, 36]⟩
abbrev S1x2048x96 : Shape := ⟨3, ![1, 2048, 96]⟩
abbrev S2048x96 : Shape := ⟨2, ![2048, 96]⟩
abbrev S2048x2048 : Shape := ⟨2, ![2048, 2048]⟩
abbrev S1x2048x1 : Shape := ⟨3, ![1, 2048, 1]⟩
abbrev S2048x1 : Shape := ⟨2, ![2048, 1]⟩
abbrev S1x1x2048 : Shape := ⟨3, ![1, 1, 2048]⟩
abbrev S1x2048 : Shape := ⟨2, ![1, 2048]⟩
abbrev S2048 : Shape := ⟨1, ![2048]⟩
abbrev S2048x32 : Shape := ⟨2, ![2048, 32]⟩
abbrev S1x2048x32 : Shape := ⟨3, ![1, 2048, 32]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x1152, .fp8e4m3⟩
  | .hbm, ⟨1, _⟩ => ⟨S16x2048x12, .f32⟩
  | .hbm, ⟨2, _⟩ => ⟨S16x2048x384, .fp8e4m3⟩
  | .hbm, ⟨3, _⟩ => ⟨S16x2048x4, .f32⟩
  | .hbm, ⟨4, _⟩ => ⟨S16x2048x384, .fp8e4m3⟩
  | .hbm, ⟨5, _⟩ => ⟨S16x2048x4, .f32⟩
  | .hbm, ⟨6, _⟩ => ⟨S16x4x2048, .f32⟩
  | .hbm, ⟨7, _⟩ => ⟨S16x4x2048, .f32⟩
  | .hbm, ⟨8, _⟩ => ⟨S16x2048x1152, .fp8e4m3⟩
  | .hbm, ⟨9, _⟩ => ⟨S16x2048x36, .i8⟩
  | .local _ .vmem, ⟨0, _⟩ => ⟨S16x2048x1152, .fp8e4m3⟩
  | .local _ .vmem, ⟨1, _⟩ => ⟨S16x2048x12, .f32⟩
  | .local _ .vmem, ⟨2, _⟩ => ⟨S16x2048x384, .fp8e4m3⟩
  | .local _ .vmem, ⟨3, _⟩ => ⟨S16x4x2048, .f32⟩
  | .local _ .vmem, ⟨4, _⟩ => ⟨S16x2048x384, .fp8e4m3⟩
  | .local _ .vmem, ⟨5, _⟩ => ⟨S16x4x2048, .f32⟩
  | .local _ .vmem, ⟨6, _⟩ => ⟨S16x2048x1152, .fp8e4m3⟩
  | .local _ .vmem, ⟨7, _⟩ => ⟨S16x2048x36, .i8⟩
  | _, _ => ⟨S16x2048x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
@[reducible] def k0_t2_loop : Scf.Loop 32 :=
  let c0_i32_1 : BitVec 32 := 0#32
  let c12_i32 : BitVec 32 := 12#32
  let v1 : BitVec 32 := Scalar.addi c0_i32_1 c12_i32
  let c1_i32_2 : BitVec 32 := 1#32
  ⟨c0_i32_1, v1, c1_i32_2⟩
def k0_off1 (k0_t1 : Fin k0_t1_loop.trips) (k0_t2 : Fin k0_t2_loop.trips) : Fin 3 → Nat :=
  let c0_i32 : BitVec 32 := 0#32
  let c1_i32 : BitVec 32 := 1#32
  let arg8 : BitVec 32 := Scf.iv c0_i32 c1_i32 k0_t1
  let v20 : Index := Scalar.indexCast arg8
  let c0 : Index := 0#32
  let c0_i32_1 : BitVec 32 := 0#32
  let c1_i32_2 : BitVec 32 := 1#32
  let arg9 : BitVec 32 := Scf.iv c0_i32_1 c1_i32_2 k0_t2
  let c96_i32 : BitVec 32 := 96#32
  let v19 : BitVec 32 := Scalar.muli arg9 c96_i32
  let v21 : Index := Scalar.indexCast v19
  ![v20.toNat, 0, v21.toNat]
def k0_off2 (k0_t1 : Fin k0_t1_loop.trips) (k0_t2 : Fin k0_t2_loop.trips) : Fin 3 → Nat :=
  let c0_i32 : BitVec 32 := 0#32
  let c1_i32 : BitVec 32 := 1#32
  let arg8 : BitVec 32 := Scf.iv c0_i32 c1_i32 k0_t1
  let v25 : Index := Scalar.indexCast arg8
  let c0_11 : Index := 0#32
  let c0_i32_1 : BitVec 32 := 0#32
  let c1_i32_2 : BitVec 32 := 1#32
  let arg9 : BitVec 32 := Scf.iv c0_i32_1 c1_i32_2 k0_t2
  let c0_i32_4 : BitVec 32 := 0#32
  let v3 : BitVec 1 := Scalar.cmpi .sgt arg9 c0_i32_4
  let v4 : BitVec 32 := Scalar.extui v3
  let c0_i32_5 : BitVec 32 := 0#32
  let v5 : BitVec 1 := Scalar.cmpi .slt arg9 c0_i32_5
  let v6 : BitVec 32 := Scalar.extui v5
  let v7 : BitVec 32 := Scalar.subi v4 v6
  let c3_i32 : BitVec 32 := 3#32
  let c0_i32_6 : BitVec 32 := 0#32
  let v8 : BitVec 1 := Scalar.cmpi .sgt c3_i32 c0_i32_6
  let v9 : BitVec 32 := Scalar.extui v8
  let c0_i32_7 : BitVec 32 := 0#32
  let v10 : BitVec 1 := Scalar.cmpi .slt c3_i32 c0_i32_7
  let v11 : BitVec 32 := Scalar.extui v10
  let v12 : BitVec 32 := Scalar.subi v9 v11
  let v13 : BitVec 1 := Scalar.cmpi .ne v7 v12
  let v14 : BitVec 32 := Scalar.remsi arg9 c3_i32
  let c0_i32_8 : BitVec 32 := 0#32
  let v15 : BitVec 1 := Scalar.cmpi .ne v14 c0_i32_8
  let v16 : BitVec 1 := Scalar.andi v13 v15
  let v2 : BitVec 32 := Scalar.divsi arg9 c3_i32
  let c1_i32_9 : BitVec 32 := 1#32
  let v17 : BitVec 32 := Scalar.subi v2 c1_i32_9
  let v18 : BitVec 32 := Scalar.select v16 v17 v2
  let c96_i32_10 : BitVec 32 := 96#32
  let v24 : BitVec 32 := Scalar.muli v18 c96_i32_10
  let v26 : Index := Scalar.indexCast v24
  ![v25.toNat, 0, v26.toNat]
def k0_off3 (k0_t1 : Fin k0_t1_loop.trips) (k0_t2 : Fin k0_t2_loop.trips) : Fin 3 → Nat :=
  let c0_i32 : BitVec 32 := 0#32
  let c1_i32 : BitVec 32 := 1#32
  let arg8 : BitVec 32 := Scf.iv c0_i32 c1_i32 k0_t1
  let v36 : Index := Scalar.indexCast arg8
  let c0_14 : Index := 0#32
  let c0_i32_1 : BitVec 32 := 0#32
  let c1_i32_2 : BitVec 32 := 1#32
  let arg9 : BitVec 32 := Scf.iv c0_i32_1 c1_i32_2 k0_t2
  let v37 : Index := Scalar.indexCast arg9
  ![v36.toNat, 0, v37.toNat]
def k0_off4 (k0_t1 : Fin k0_t1_loop.trips) (k0_t2 : Fin k0_t2_loop.trips) : Fin 3 → Nat :=
  let c0_i32 : BitVec 32 := 0#32
  let c1_i32 : BitVec 32 := 1#32
  let arg8 : BitVec 32 := Scf.iv c0_i32 c1_i32 k0_t1
  let v42 : Index := Scalar.indexCast arg8
  let c0_i32_1 : BitVec 32 := 0#32
  let c1_i32_2 : BitVec 32 := 1#32
  let arg9 : BitVec 32 := Scf.iv c0_i32_1 c1_i32_2 k0_t2
  let c0_i32_4 : BitVec 32 := 0#32
  let v3 : BitVec 1 := Scalar.cmpi .sgt arg9 c0_i32_4
  let v4 : BitVec 32 := Scalar.extui v3
  let c0_i32_5 : BitVec 32 := 0#32
  let v5 : BitVec 1 := Scalar.cmpi .slt arg9 c0_i32_5
  let v6 : BitVec 32 := Scalar.extui v5
  let v7 : BitVec 32 := Scalar.subi v4 v6
  let c3_i32 : BitVec 32 := 3#32
  let c0_i32_6 : BitVec 32 := 0#32
  let v8 : BitVec 1 := Scalar.cmpi .sgt c3_i32 c0_i32_6
  let v9 : BitVec 32 := Scalar.extui v8
  let c0_i32_7 : BitVec 32 := 0#32
  let v10 : BitVec 1 := Scalar.cmpi .slt c3_i32 c0_i32_7
  let v11 : BitVec 32 := Scalar.extui v10
  let v12 : BitVec 32 := Scalar.subi v9 v11
  let v13 : BitVec 1 := Scalar.cmpi .ne v7 v12
  let v14 : BitVec 32 := Scalar.remsi arg9 c3_i32
  let c0_i32_8 : BitVec 32 := 0#32
  let v15 : BitVec 1 := Scalar.cmpi .ne v14 c0_i32_8
  let v16 : BitVec 1 := Scalar.andi v13 v15
  let v2 : BitVec 32 := Scalar.divsi arg9 c3_i32
  let c1_i32_9 : BitVec 32 := 1#32
  let v17 : BitVec 32 := Scalar.subi v2 c1_i32_9
  let v18 : BitVec 32 := Scalar.select v16 v17 v2
  let v43 : Index := Scalar.indexCast v18
  let c0_15 : Index := 0#32
  ![v42.toNat, v43.toNat, 0]
def k0_off5 (k0_t1 : Fin k0_t1_loop.trips) (k0_t2 : Fin k0_t2_loop.trips) (c0_i32_33 : BitVec 32) : Fin 3 → Nat :=
  let c0_i32 : BitVec 32 := 0#32
  let c1_i32 : BitVec 32 := 1#32
  let arg8 : BitVec 32 := Scf.iv c0_i32 c1_i32 k0_t1
  let v105 : Index := Scalar.indexCast arg8
  let c0_34 : Index := 0#32
  let c0_i32_1 : BitVec 32 := 0#32
  let c1_i32_2 : BitVec 32 := 1#32
  let arg9 : BitVec 32 := Scf.iv c0_i32_1 c1_i32_2 k0_t2
  let c96_i32_32 : BitVec 32 := 96#32
  let v103 : BitVec 32 := Scalar.muli arg9 c96_i32_32
  let v104 : BitVec 32 := Scalar.addi v103 c0_i32_33
  let v106 : Index := Scalar.indexCast v104
  ![v105.toNat, 0, v106.toNat]
def k0_off6 (k0_t1 : Fin k0_t1_loop.trips) (k0_t2 : Fin k0_t2_loop.trips) (c0_i32_36 : BitVec 32) : Fin 3 → Nat :=
  let c0_i32 : BitVec 32 := 0#32
  let c1_i32 : BitVec 32 := 1#32
  let arg8 : BitVec 32 := Scf.iv c0_i32 c1_i32 k0_t1
  let v115 : Index := Scalar.indexCast arg8
  let c0_37 : Index := 0#32
  let c0_i32_1 : BitVec 32 := 0#32
  let c1_i32_2 : BitVec 32 := 1#32
  let arg9 : BitVec 32 := Scf.iv c0_i32_1 c1_i32_2 k0_t2
  let c3_i32_35 : BitVec 32 := 3#32
  let v113 : BitVec 32 := Scalar.muli arg9 c3_i32_35
  let v114 : BitVec 32 := Scalar.addi v113 c0_i32_36
  let v116 : Index := Scalar.indexCast v114
  ![v115.toNat, 0, v116.toNat]
abbrev stage0_0 : Fin 1 → Memref sig .tc .vmem S16x2048x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048x384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2048x1152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048x36 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Tiles.lean ====
/-
  The pure operations of one step of the kernel's head-pair loop, named: what is read from the buffers
  goes in, the tile that is pushed, multiplied or stored comes out.  Nothing here touches memory.
-/
module

public import proofs.«01_k».proof.Kernel

@[expose] public section

namespace Cert.Kernel.Pair

open Idealize.ShloMosaic Idealize.SL.Sem Cert.Kernel
open Cert.Kernel.Facts₀

variable {F : FTy → Type} [FloatOps F] [Facts]

/-- A head's query tile, padded to the unit's 256 rows. -/
def qTile (q : Vec F S96x256 .fp8e4m3) : FVec F S256x256 .bf16 :=
  extf .bf16 (concatenate S256x256 0 [⟨S96x256, q⟩, ⟨S160x256, broadcast S160x256 (Scalar.ofBits .fp8e4m3 0x00#8)⟩]
    concatenates_S96x256_S160x256_S256x256_d0) bitsLt_fp8e4m3_bf16

/-- 128 rows of keys, padded to the unit's 256 columns. -/
def kTile (k : Vec F S1x128x128 .fp8e4m3) : FVec F S128x256 .bf16 :=
  extf .bf16 (concatenate S128x256 1 [⟨S128x128, shapeCast S128x128 k shapeCasts_S1x128x128_S128x128⟩,
    ⟨S128x128, broadcast S128x128 (Scalar.ofBits .fp8e4m3 0x00#8)⟩] concatenates_S128x128_S128x128_S128x256_d1) bitsLt_fp8e4m3_bf16

/-- One half (`half` = 0: columns 0–127, 1: columns 128–255) of a popped score tile, scaled by the keys' and the queries' scales. -/
def zHalf (half : Fin 2) (s : FVec F S128x256 .f32) (kb : Vec F S1x128x128 .f32) (cq : Vec F S1x256 .f32) : FVec F S128x128 .f32 :=
  match half with
  | 0 => mulf (mulf (extractStridedSlice S128x128 ![0, 0] s slices_S128x256_o0_0_S128x128)
          (shapeCast S128x128 kb shapeCasts_S1x128x128_S128x128))
          (broadcastTo S128x128 (extractStridedSlice S1x128 ![0, 0] cq slices_S1x256_o0_0_S1x128) broadcasts_S1x128_S128x128)
  | 1 => mulf (mulf (extractStridedSlice S128x128 ![0, 128] s slices_S128x256_o0_128_S128x128)
          (shapeCast S128x128 kb shapeCasts_S1x128x128_S128x128))
          (broadcastTo S128x128 (extractStridedSlice S1x128 ![0, 128] cq slices_S1x256_o0_128_S1x128) broadcasts_S1x128_S128x128)

/-- The estimated shift of a column: the maximum of the tile's first 32 rows plus 90. -/
def est (z : FVec F S128x128 .f32) : FVec F S1x128 .f32 :=
  addf (shapeCast S1x128 (multiReduction .maximumf [0] S128 (extractStridedSlice S32x128 ![0, 0] z slices_S128x128_o0_0_S32x128)
    0xFF800000#32 reduces_S32x128_S128 (.inl rfl) rfl) shapeCasts_S128_S1x128) (broadcast S1x128 (Scalar.ofBits .f32 0x42B40000#32))

/-- The unnormalised weights of a tile: `2 ^ (z - shift)`. -/
def pTile (z : FVec F S128x128 .f32) (shift : Vec F S1x1x128 .f32) : FVec F S128x128 .f32 :=
  exp2 (subf z (broadcastTo S128x128 (shapeCast S1x128 shift shapeCasts_S1x1x128_S1x128) broadcasts_S1x128_S128x128))

/-- The sums of the tile over its sixteen groups of eight rows. -/
def fold8 (p : FVec F S128x128 .f32) : FVec F S8x128 .f32 :=
  multiReduction .add [0] S8x128 (shapeCast S16x8x128 p shapeCasts_S128x128_S16x8x128) 0x00000000#32 reduces_S16x8x128_S8x128 (.inl rfl) rfl

/-- The column sums from the two halves' partial sums. -/
def lRow (d0 d1 : FVec F S8x128 .f32) : FVec F S1x256 .f32 :=
  shapeCast S1x256 (multiReduction .add [0] S256 (concatenate S8x256 1 [⟨S8x128, d0⟩, ⟨S8x128, d1⟩] concatenates_S8x128_S8x128_S8x256_d1)
    0x00000000#32 reduces_S8x256_S256 (.inl rfl) rfl) shapeCasts_S256_S1x256

/-- The flag row after a query tile: 1 where a sum reached the limit, else what it was. -/
def badRow (b : Vec F S1x256 .f32) (l : FVec F S1x256 .f32) : FVec F S1x256 .f32 :=
  shapeCast S1x256 (maximumf b (select (cmpf .olt l (broadcast S1x256 (Scalar.ofBits .f32 0x7B800000#32)))
    (broadcast S1x256 (Scalar.ofBits .f32 0x00000000#32)) (broadcast S1x256 (Scalar.ofBits .f32 0x3F800000#32)))) shapeCasts_S1x256_S1x256

/-- The reciprocal sums. -/
def invRow (l : FVec F S1x256 .f32) : FVec F S1x1x256 .f32 :=
  shapeCast S1x1x256 (divf (broadcast S1x256 (Scalar.ofBits .f32 0x3F800000#32)) l) shapeCasts_S1x256_S1x1x256

/-- The weights of 256 keys below the diagonal, normalised. -/
def wFull (r : Vec F S1x1x256 .f32) (p : Vec F S1x1x256x256 .f32) : FVec F S256x256 .bf16 :=
  truncf .bf16 (mulf (shapeCast S256x256 p shapeCasts_S1x1x256x256_S256x256)
    (broadcastTo S256x256 (shapeCast S1x256 r shapeCasts_S1x1x256_S1x256) broadcasts_S1x256_S256x256)) bitsLt_bf16_f32

/-- The weights of the 256 keys on the diagonal, normalised; the lower left quarter is zero. -/
def wDiag (r : Vec F S1x1x256 .f32) (p : Vec F S1x1x128x256 .f32) (p' : Vec F S1x1x128x128 .f32) : FVec F S256x256 .bf16 :=
  concatenate S256x256 0 [⟨S128x256, truncf .bf16 (mulf (shapeCast S128x256 p shapeCasts_S1x1x128x256_S128x256)
      (broadcastTo S128x256 (shapeCast S1x256 r shapeCasts_S1x1x256_S1x256) broadcasts_S1x256_S128x256)) bitsLt_bf16_f32⟩,
    ⟨S128x256, concatenate S128x256 1 [⟨S128x128, broadcast S128x128 (Scalar.ofBits .bf16 0x0000#16)⟩,
      ⟨S128x128, truncf .bf16 (mulf (shapeCast S128x128 p' shapeCasts_S1x1x128x128_S128x128)
        (broadcastTo S128x128 (extractStridedSlice S1x128 ![0, 128] (shapeCast S1x256 r shapeCasts_S1x1x256_S1x256) slices_S1x256_o0_128_S1x128)
          broadcasts_S1x128_S128x128)) bitsLt_bf16_f32⟩] concatenates_S128x128_S128x128_S128x256_d1⟩] concatenates_S128x256_S128x256_S256x256_d0

/-- Block `b` of 32 rows of a head's output tile. -/
def oBlock (b : Fin 3) (o : FVec F S96x256 .f32) : FVec F S32x256 .f32 :=
  match b with
  | 0 => extractStridedSlice S32x256 ![0, 0] o slices_S96x256_o0_0_S32x256
  | 1 => extractStridedSlice S32x256 ![32, 0] o slices_S96x256_o32_0_S32x256
  | 2 => extractStridedSlice S32x256 ![64, 0] o slices_S96x256_o64_0_S32x256

/-- The largest absolute value of each column of a block. -/
def amax (ob : FVec F S32x256 .f32) : FVec F S1x256 .f32 :=
  shapeCast S1x256 (multiReduction .maximumf [0] S256 (absf ob) 0xFF800000#32 reduces_S32x256_S256 (.inl rfl) rfl) shapeCasts_S256_S1x256

/-- `floor (log2 y)`, as a quotient of natural logarithms, before the correction. -/
def flog (y : FVec F S1x256 .f32) : FVec F S1x256 .f32 :=
  floor (divf (log y) (log (broadcast S1x256 (Scalar.ofBits .f32 0x40000000#32))))

/-- The power-of-two exponent of a block's scale. -/
def expo (a : FVec F S1x256 .f32) : IVec S1x256 32 :=
  let y := mulf a (broadcast S1x256 (Scalar.ofBits .f32 0x3B124925#32))
  let f := flog y
  let one : FVec F S1x256 .f32 := broadcast S1x256 (Scalar.ofBits .f32 0x3F800000#32)
  let zero : FVec F S1x256 .f32 := broadcast S1x256 (Scalar.ofBits .f32 0x00000000#32)
  select (cmpf .oeq a zero) (broadcast S1x256 0#32)
    (addi (fptosi 32 (subf (addf f (select (cmpf .oge y (exp2 (addf f one))) one zero)) (select (cmpf .olt y (exp2 f)) one zero)))
      (broadcast S1x256 1#32))

/-- A block's codes. -/
def codes (ob : FVec F S32x256 .f32) : FVec F S32x256 .bf16 :=
  shapeCast S32x256 (truncf .bf16 (minimumf (broadcast S32x256 (Scalar.ofBits .f32 0x43E00000#32))
    (maximumf (broadcast S32x256 (Scalar.ofBits .f32 0xC3E00000#32))
      (mulf ob (broadcastTo S32x256 (exp2 (sitofp .f32 (subi (broadcast S1x256 0#32) (expo (amax ob))))) broadcasts_S1x256_S32x256))))
      bitsLt_bf16_f32) shapeCasts_S32x256_S32x256

/-- A block's biased exponents, as floats. -/
def exps (ob : FVec F S32x256 .f32) : FVec F S1x256 .f32 :=
  shapeCast S1x256 (sitofp .f32 (addi (expo (amax ob)) (broadcast S1x256 127#32))) shapeCasts_S1x256_S1x256

end Cert.Kernel.Pair
-- ==== Proof.Ev.lean ====
/-
  Running the kernel's programs over the contents of its buffers: `Ev` says that a program, holding every
  buffer at given contents, ends with the buffers at contents its result is described with; one rule per operation.
-/
module

public import proofs.«01_k».proof.Proof.Gen.Kernel
public import Idealize.ShloMosaic.Lib.Tactic
public import Idealize.ShloMosaic.Lib.Exec
public import Idealize.ShloMosaic.Lib.Claim
public import Idealize.ShloMosaic.Lib.Pipeline.Frame
public import Idealize.ShloMosaic.Lib.Pipeline.FrameBody

@[expose] public section

noncomputable section

namespace Cert.Kernel.Pair

open Cert.Kernel Cert.Kernel.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

/-- A program of the kernel. -/
abbrev Pr (F : FTy → Type) [FloatOps F] (α : Type) := Prog (TpuEff nD τ sig (Elt F) (Λ₀ F) .tc) α

/-- The kernel's buffers: its six operands' blocks, its two results' blocks, its scratch. -/
inductive Slot where
  | xq | xs | xk | ks | xv | vs | oc | oe | q | k | v | kb | cq | ct | et | p | row | mx | tri | bad
  deriving DecidableEq

instance : Fintype Slot :=
  ⟨⟨Multiset.ofList [.xq, .xs, .xk, .ks, .xv, .vs, .oc, .oe, .q, .k, .v, .kb, .cq, .ct, .et, .p, .row, .mx, .tri, .bad], by decide⟩,
    fun s => by cases s <;> decide⟩

/-- A buffer's shape. -/
@[reducible] def Slot.shape : Slot → Shape
  | .xq => S1x2048x1152 | .xs => S1x12x2048 | .xk => S1x2048x384 | .ks => S1x2048x4 | .xv => S1x2048x384 | .vs => S1x4x2048
  | .oc => S1x2048x1152 | .oe => S1x2048x36
  | .q => S1152x2048 | .k => S4x2048x128 | .v => S4x96x2048 | .kb => S4x2048x128 | .cq => S12x2048 | .ct => S1152x2048
  | .et => S128x2048 | .p => S2x2x2048x256 | .row => S2x16x256 | .mx => S16x256 | .tri => S128x128 | .bad => S1x256

/-- A buffer's element type. -/
@[reducible] def Slot.elt : Slot → EltTy
  | .xq => .fp8e4m3 | .xs => .f32 | .xk => .fp8e4m3 | .ks => .f32 | .xv => .fp8e4m3 | .vs => .f32
  | .oc => .fp8e4m3 | .oe => .i8
  | .q => .fp8e4m3 | .k => .fp8e4m3 | .v => .bf16 | .kb => .f32 | .cq => .f32 | .ct => .bf16
  | .et => .f32 | .p => .f32 | .row => .f32 | .mx => .f32 | .tri => .f32 | .bad => .f32

/-- Where each buffer is. -/
abbrev Refs := ∀ s : Slot, Memref sig .tc .vmem s.shape s.elt

/-- What each buffer holds. -/
abbrev Mem (F : FTy → Type) := ∀ s : Slot, s.shape.Idx → Elt F s.elt

local notation "𝕄" => MT nD τ sig Unit (Elt F) ℕ (UR sig nD τ) ℕ

/-- All buffers held, at the given contents. -/
def own (c : Dev nD) (R : Refs) (μ : Mem F) : sProp 𝕄 :=
  bigSep Finset.univ fun s => owns (c : Thread nD τ) (R s) fullShare (μ s)

/-- A rectangle of contents overwritten. -/
def put {s : Shape} {e : EltTy} (r : Rect s) (w : r.shape.Idx → Elt F e) (X : s.Idx → Elt F e) : s.Idx → Elt F e :=
  fun y => match preimage? r.emb y with | some x => w x | none => X y

theorem read_put {s : Shape} {e : EltTy} (m : Memref sig .tc .vmem s e) (r : Rect s) (f : m.view.ty.Contents (Elt F))
    (w : r.shape.Idx → Elt F e) :
    m.view.read (Elt F) ((m.access r).write (Elt F) f w Finset.univ) = put r w (m.view.read (Elt F) f) := by
  funext y
  unfold put
  cases h : preimage? r.emb y with
  | some x =>
    obtain rfl : r.emb x = y := by
      by_cases hx : ∃ x', r.emb x' = y
      · obtain ⟨x', rfl⟩ := hx
        rw [preimage?_emb] at h; cases h; rfl
      · rw [preimage?_eq_none fun x' h' => hx ⟨x', h'⟩] at h; cases h
    exact View.read_slice_write_emb r f w (Finset.mem_univ x)
  | none =>
    refine View.read_slice_write_of_not_mem r f w Finset.univ ?_
    intro hm
    obtain ⟨x, -, rfl⟩ := Finset.mem_map.mp hm
    rw [preimage?_emb] at h; cases h

variable (c : Dev nD) (R : Refs) (bd : Option ℕ)

theorem bigSep_slot (s : Slot) (Φ : Slot → sProp 𝕄) :
    bigSep Finset.univ Φ = iprop(Φ s ∗ bigSep (Finset.univ.erase s) Φ) := bigSep_erase (Finset.mem_univ s)

/-- One buffer taken out of all of them, to be put back at any contents. -/
theorem own_take (s : Slot) (μ : Mem F) :
    own c R μ ⊢ iprop(owns (c : Thread nD τ) (R s) fullShare (μ s)
      ∗ (∀ X, owns (c : Thread nD τ) (R s) fullShare X -∗ own c R (Function.update μ s X))) := by
  unfold own
  rw [bigSep_slot s]
  iintro ⟨H, HR⟩
  isplitl [H]; · iexact H
  iintro %X HX
  rw [bigSep_slot s, Function.update_self]
  isplitl [HX]; · iexact HX
  rw [show bigSep (Finset.univ.erase s) (fun s' => (owns (c : Thread nD τ) (R s') fullShare (Function.update μ s X s') : sProp 𝕄))
    = bigSep (Finset.univ.erase s) (fun s' => owns (c : Thread nD τ) (R s') fullShare (μ s')) from
    bigSep_congr fun s' hs' => by rw [Function.update_of_ne (Finset.ne_of_mem_erase hs')]]
  iexact HR

/-- The program, from the buffers at `μ`, ends in a result and contents `Q` holds of. -/
def Ev {α : Type} (p : Pr F α) (μ : Mem F) (Q : α → Mem F → Prop) : Prop :=
  own c R μ ⊢ wp frame (wpE (defs₀ (F := F)) Variants.nat (c : Thread nD τ) bd) Set.univ p
    (fun a => iprop(∃ μ', ⌜Q a μ'⌝ ∗ own c R μ'))

variable {c R bd}

theorem Ev.ret {α : Type} {a : α} {μ : Mem F} {Q : α → Mem F → Prop} (h : Q a μ) : Ev c R bd (.ret a) μ Q := by
  unfold Ev
  rw [wp_ret]
  iintro H; imodintro
  iexists μ; isplitr; · ipureintro; exact h
  iexact H

theorem Ev.mono {α : Type} {p : Pr F α} {μ : Mem F} {Q Q' : α → Mem F → Prop} (h : Ev c R bd p μ Q)
    (hQ : ∀ a μ', Q a μ' → Q' a μ') : Ev c R bd p μ Q' := by
  unfold Ev at *
  refine h.trans (wp_mono _ _ _ fun a => ?_)
  iintro ⟨%μ', %hq, H⟩
  iexists μ'; isplitr; · ipureintro; exact hQ a μ' hq
  iexact H

theorem Ev.bind {α β : Type} {p : Pr F α} {k : α → Pr F β} {μ : Mem F} {Q : α → Mem F → Prop} {Q' : β → Mem F → Prop}
    (h : Ev c R bd p μ Q) (hk : ∀ a μ', Q a μ' → Ev c R bd (k a) μ' Q') : Ev c R bd (p >>= k) μ Q' := by
  unfold Ev at *
  rw [wp_bind]
  refine h.trans (wp_mono _ _ _ fun a => ?_)
  iintro ⟨%μ', %hq, H⟩
  iapply (hk a μ' hq)
  iexact H

/-- A load reads the buffer's contents. -/
theorem Ev.load (s : Slot) {r : Rect s.shape} {hl : (R s).view.LoadsAt r.toLoadRect} {β : Type} {k : (r.shape.Idx → Elt F s.elt) → Pr F β}
    {μ : Mem F} {Q : β → Mem F → Prop} (h : Ev c R bd (k fun x => μ s (r.emb x)) μ Q) :
    Ev c R bd (.op (.load (R s) r.toLoadRect hl) k) μ Q := by
  unfold Ev at *
  refine (own_take c R s μ).trans ?_
  unfold owns
  iintro ⟨⟨%f, %hf, H⟩, HR⟩
  iapply (wp_load_rect (𝒱 := Variants.nat) (c : Thread nD τ) bd Set.univ (m := R s) (r := r) (by
    rw [show ((R s).access r).set = (R s).view.setOn r.set from View.set_slice _ _]; exact Finset.map_subset_map.mpr (Finset.subset_univ _))) $$ H
  iintro H
  rw [show (((R s).access r).read (Elt F) f) = (fun x => μ s (r.emb x)) from by rw [← hf]; rfl]
  iapply h
  rw [show (own c R μ : sProp 𝕄) = own c R (Function.update μ s (μ s)) from by rw [Function.update_eq_self]]
  iapply HR
  iexists f; isplitr; · ipureintro; exact hf
  iexact H

/-- A store overwrites a rectangle of the buffer's contents. -/
theorem Ev.store (s : Slot) {r : Rect s.shape} {w : r.shape.Idx → Elt F s.elt} {hx : ((R s).access r).Stores Finset.univ}
    {hm : (Finset.univ : Finset r.shape.Idx) = Finset.univ ∨ ∀ a, r.stride a = 1} {β : Type} {k : PUnit → Pr F β}
    {μ : Mem F} {Q : β → Mem F → Prop} (h : Ev c R bd (k ⟨⟩) (Function.update μ s (put r w (μ s))) Q) :
    Ev c R bd (.op (.store (R s) r w Finset.univ hx hm) k) μ Q := by
  unfold Ev at *
  refine (own_take c R s μ).trans ?_
  unfold owns
  iintro ⟨⟨%f, %hf, H⟩, HR⟩
  iapply (wp_store (𝒱 := Variants.nat) (c : Thread nD τ) bd Set.univ (m := R s) (r := r) (Mk := Finset.univ) (by
    rw [View.setOn_univ, show ((R s).access r).set = (R s).view.setOn r.set from View.set_slice _ _]; exact Finset.map_subset_map.mpr (Finset.subset_univ _))) $$ H
  iintro H
  iapply h
  iapply HR
  iexists _; isplitr
  swap; · iexact H
  ipureintro
  rw [read_put, hf]

theorem Ev.assume {P : Prop} {d : Decidable P} {β : Type} {k : PLift P → Pr F β} {μ : Mem F} {Q : β → Mem F → Prop} (hP : P)
    (h : Ev c R bd (k ⟨hP⟩) μ Q) : Ev c R bd (.op (.assume P d) k) μ Q := by
  unfold Ev at *
  exact h.trans (wp_assume _ _ _ _ hP)

/-- A call runs the label's body, at a smaller variant. -/
theorem Ev.call {ℓ : (Λ₀ F).Label} {a : (Λ₀ F).Args ℓ} {β : Type} {k : (Λ₀ F).Result ℓ → Pr F β} {μ : Mem F}
    {Q : (Λ₀ F).Result ℓ → Mem F → Prop} {Q' : β → Mem F → Prop} (v : ℕ) (hv : ∀ u ∈ bd, v < u)
    (h : Ev c R (some v) (defs₀ (F := F) .tc ℓ a) μ Q) (hk : ∀ x μ', Q x μ' → Ev c R bd (k x) μ' Q') :
    Ev c R bd (.op (.call ℓ a) k) μ Q' := by
  unfold Ev at *
  refine BIBase.Entails.trans (h.trans (wp_mono _ _ _ fun x => ?_)) (wp_call_spec (𝒱 := Variants.nat) (c : Thread nD τ) bd Set.univ
    (wp frame (wpE (defs₀ (F := F)) Variants.nat (c : Thread nD τ) (some v)) Set.univ (defs₀ (F := F) .tc ℓ a)) v hv (le_refl _))
  iintro ⟨%μ', %hq, H⟩
  iapply (hk x μ' hq)
  iexact H

/-- A counted loop, by an invariant. -/
theorem Ev.for {w : ℕ} {σ : Type} {lb ub st : BitVec w} {hok : Scf.OK lb ub st} {init : σ}
    {body : Fin (Scf.trips lb ub st) → σ → Pr F σ} {μ : Mem F} (I : ℕ → σ → Mem F → Prop) (h0 : I 0 init μ)
    (hbody : ∀ k acc μ', I k.val acc μ' → Ev c R bd (body k acc) μ' (I (k.val + 1))) :
    Ev c R bd (Scf.for lb ub st hok init body) μ (I (Scf.trips lb ub st)) := by
  unfold Ev at *
  have := Scf.wp_for frame (wpE (defs₀ (F := F)) Variants.nat (c : Thread nD τ) bd) Set.univ lb ub st hok init body
    (fun k acc => iprop(∃ μ', ⌜I k acc μ'⌝ ∗ own c R μ')) (fun k acc => by
      iintro ⟨%μ', %hq, H⟩
      iapply (hbody k acc μ' hq)
      iexact H) (Q := fun acc => iprop(∃ μ', ⌜I (Scf.trips lb ub st) acc μ'⌝ ∗ own c R μ'))
  refine BIBase.Entails.trans ?_ this
  iintro H
  isplitl [H]
  · iexists μ; isplitr; · ipureintro; exact h0
    iexact H
  iintro %acc H
  iexact H

/-! ### Without the contents -/

variable (c R bd) in
/-- From any contents the program ends, in a result `Q` holds of. -/
def Sf {α : Type} (p : Pr F α) (Q : α → Prop) : Prop := ∀ μ, Ev c R bd p μ fun a _ => Q a

theorem Sf.ret {α : Type} {a : α} {Q : α → Prop} (h : Q a) : Sf c R bd (.ret a : Pr F α) Q := fun _ => .ret h

theorem Sf.mono {α : Type} {p : Pr F α} {Q Q' : α → Prop} (h : Sf c R bd p Q) (hQ : ∀ a, Q a → Q' a) : Sf c R bd p Q' :=
  fun μ => (h μ).mono fun a _ => hQ a

theorem Sf.bind {α β : Type} {p : Pr F α} {k : α → Pr F β} {Q : α → Prop} {Q' : β → Prop} (h : Sf c R bd p Q)
    (hk : ∀ a, Q a → Sf c R bd (k a) Q') : Sf c R bd (p >>= k) Q' :=
  fun μ => (h μ).bind fun a μ' hq => hk a hq μ'

theorem Sf.load (s : Slot) {r : Rect s.shape} {hl : (R s).view.LoadsAt r.toLoadRect} {β : Type} {k : (r.shape.Idx → Elt F s.elt) → Pr F β}
    {Q : β → Prop} (h : ∀ x, Sf c R bd (k x) Q) : Sf c R bd (.op (.load (R s) r.toLoadRect hl) k) Q :=
  fun μ => .load s (h _ μ)

theorem Sf.store (s : Slot) {r : Rect s.shape} {w : r.shape.Idx → Elt F s.elt} {hx : ((R s).access r).Stores Finset.univ}
    {hm : (Finset.univ : Finset r.shape.Idx) = Finset.univ ∨ ∀ a, r.stride a = 1} {β : Type} {k : PUnit → Pr F β}
    {Q : β → Prop} (h : Sf c R bd (k ⟨⟩) Q) : Sf c R bd (.op (.store (R s) r w Finset.univ hx hm) k) Q :=
  fun μ => .store s (h _)

theorem Sf.assume {P : Prop} {d : Decidable P} {β : Type} {k : PLift P → Pr F β} {Q : β → Prop} (hP : P)
    (h : Sf c R bd (k ⟨hP⟩) Q) : Sf c R bd (.op (.assume P d) k) Q := fun μ => .assume hP (h μ)

theorem Sf.call {ℓ : (Λ₀ F).Label} {a : (Λ₀ F).Args ℓ} {β : Type} {k : (Λ₀ F).Result ℓ → Pr F β}
    {Q : (Λ₀ F).Result ℓ → Prop} {Q' : β → Prop} (v : ℕ) (hv : ∀ u ∈ bd, v < u)
    (h : Sf c R (some v) (defs₀ (F := F) .tc ℓ a) Q) (hk : ∀ x, Q x → Sf c R bd (k x) Q') :
    Sf c R bd (.op (.call ℓ a) k) Q' := fun μ => .call v hv (h μ) fun x μ' hq => hk x hq μ'

theorem Sf.for {w : ℕ} {σ : Type} {lb ub st : BitVec w} {hok : Scf.OK lb ub st} {init : σ}
    {body : Fin (Scf.trips lb ub st) → σ → Pr F σ} (I : σ → Prop) (h0 : I init)
    (hbody : ∀ k acc, I acc → Sf c R bd (body k acc) I) : Sf c R bd (Scf.for lb ub st hok init body) I :=
  fun μ => Ev.for (fun _ a _ => I a) h0 fun k acc μ' h => hbody k acc h μ'

end Cert.Kernel.Pair
-- ==== Proof.Body.lean ====
/-
  The kernel's head-pair loop body, written as the program writes it before unrolling: `issue`, `passA`,
  `passB`, `finish` over the steps (query tile, key tile).
-/
module

public import proofs.«01_k».proof.Proof.Tiles
public import proofs.«01_k».proof.Proof.Ev

@[expose] public section

namespace Cert.Kernel.Pair

open Idealize.ShloMosaic Idealize.SL.Sem Cert.Kernel
open Cert.Kernel.Facts₀

variable {F : FTy → Type} [FloatOps F] [Facts]

/-- The word of a head of the pair. -/
abbrev mw (m : Fin 2) : BitVec 32 := BitVec.ofNat 32 m.val

/-- First row of the head's queries. -/
def hrow (it : BitVec 32) (m : Fin 2) : ℕ := k0_off13 it (mw m) 0
/-- The head's key/value head. -/
def krow (it : BitVec 32) (m : Fin 2) : ℕ := k0_off14 it (mw m) 0
/-- The head. -/
def crow (it : BitVec 32) (m : Fin 2) : ℕ := k0_off17 it (mw m) 0
/-- First row of block `b` of the head's codes. -/
def orow (it : BitVec 32) (m : Fin 2) (b : Fin 3) : ℕ := k0_off23 it (mw m) (BitVec.ofNat 32 (32 * b.val)) 0
/-- The row of block `b` of the head's exponents. -/
def erow (it : BitVec 32) (m : Fin 2) (b : Fin 3) : ℕ := k0_off24 it (mw m) (BitVec.ofNat 32 b.val) 0

/-- What the check of the loop counter gives: every row the pair names lies inside its buffer. -/
structure Ok (it : BitVec 32) : Prop where
  q : ∀ m, hrow it m + 96 ≤ 1152
  k : ∀ m, krow it m + 1 ≤ 4
  c : ∀ m, crow it m + 1 ≤ 12
  o : ∀ m b, orow it m b + 32 ≤ 1152
  e : ∀ m b, erow it m b + 1 ≤ 128
  ev : ∀ m b, 2 ∣ orow it m b

theorem inb2 {r c h w R C : ℕ} (hr : r + h ≤ R) (hc : c + w ≤ C) :
    ∀ a, (![r, c] : Fin 2 → ℕ) a + (⟨2, ![h, w]⟩ : Shape).size a ≤ (⟨2, ![R, C]⟩ : Shape).size a := by
  intro a; match a with
  | ⟨0, _⟩ => exact hr
  | ⟨1, _⟩ => exact hc

theorem inb3 {i r c g h w G R C : ℕ} (hi : i + g ≤ G) (hr : r + h ≤ R) (hc : c + w ≤ C) :
    ∀ a, (![i, r, c] : Fin 3 → ℕ) a + (⟨3, ![g, h, w]⟩ : Shape).size a ≤ (⟨3, ![G, R, C]⟩ : Shape).size a := by
  intro a; match a with
  | ⟨0, _⟩ => exact hi
  | ⟨1, _⟩ => exact hr
  | ⟨2, _⟩ => exact hc

theorem inb4 {l i r c f g h w L G R C : ℕ} (hl : l + f ≤ L) (hi : i + g ≤ G) (hr : r + h ≤ R) (hc : c + w ≤ C) :
    ∀ a, (![l, i, r, c] : Fin 4 → ℕ) a + (⟨4, ![f, g, h, w]⟩ : Shape).size a ≤ (⟨4, ![L, G, R, C]⟩ : Shape).size a := by
  intro a; match a with
  | ⟨0, _⟩ => exact hl
  | ⟨1, _⟩ => exact hi
  | ⟨2, _⟩ => exact hr
  | ⟨3, _⟩ => exact hc

/-- The scratch buffers the loop uses. -/
structure Bufs where
  q : Memref sig .tc .vmem S1152x2048 .fp8e4m3
  k : Memref sig .tc .vmem S4x2048x128 .fp8e4m3
  v : Memref sig .tc .vmem S4x96x2048 .bf16
  kb : Memref sig .tc .vmem S4x2048x128 .f32
  cq : Memref sig .tc .vmem S12x2048 .f32
  ct : Memref sig .tc .vmem S1152x2048 .bf16
  et : Memref sig .tc .vmem S128x2048 .f32
  p : Memref sig .tc .vmem S2x2x2048x256 .f32
  row : Memref sig .tc .vmem S2x16x256 .f32
  mx : Memref sig .tc .vmem S16x256 .f32
  tri : Memref sig .tc .vmem S128x128 .f32
  bad : Memref sig .tc .vmem S1x256 .f32
  hct : ct.IsWhole

/-- The loop's scratch buffers, of all the kernel's. -/
abbrev bufs (R : Refs) (hct : (R .ct).IsWhole) : Bufs :=
  ⟨R .q, R .k, R .v, R .kb, R .cq, R .ct, R .et, R .p, R .row, R .mx, R .tri, R .bad, hct⟩

/-- A load of the rectangle of the given extents at the given offsets. -/
abbrev ld {s : Shape} {e : EltTy} (m : Memref sig .tc .vmem s e) (off size : Fin s.rank → ℕ)
    (inb : ∀ a, off a + size a ≤ s.size a) (h : 0 < (Rect.unit (s := s) off size inb).shape.numel) :
    Pr F ((Rect.unit (s := s) off size inb).shape.Idx → Elt F e) :=
  Prog.lift (.load m (Rect.unit (s := s) off size inb).toLoadRect (View.loadsAt_vmem h))

/-- A store of 32-bit elements at the given offsets. -/
abbrev st {s : Shape} (m : Memref sig .tc .vmem s .f32) (off size : Fin s.rank → ℕ)
    (inb : ∀ a, off a + size a ≤ s.size a) (h : 0 < (Rect.unit (s := s) off size inb).shape.numel)
    (w : (Rect.unit (s := s) off size inb).shape.Idx → Elt F .f32) : Pr F PUnit :=
  Prog.lift (.store m (Rect.unit (s := s) off size inb) w Finset.univ (View.stores_vmem_bits_univ h rfl) (.inl rfl))

/-- The accumulator's address for scores: two buffers of two halves. -/
def sAddr (buf j : Fin 2) : ℕ := 64 * buf.val + 32 * j.val
/-- The accumulator's address for outputs: two buffers. -/
def oAddr (t : Fin 8) : ℕ := 128 + 24 * (t.val % 2)

theorem fitsS (buf j : Fin 2) : Mxu.Fits (sAddr buf j) 128 := by
  have := fits_0_128; have := fits_32_128; have := fits_64_128; have := fits_96_128
  fin_cases buf <;> fin_cases j <;> assumption

theorem fitsO (t : Fin 8) : Mxu.Fits (oAddr t) 96 := by
  have := fits_128_96; have := fits_152_96
  fin_cases t <;> assumption

section
variable (B : Bufs) (it : BitVec 32) (ok : Ok it)

include ok in
theorem inbK (m : Fin 2) (c : Fin 8) (j : Fin 2) :
    ∀ a, (![krow it m, c.val * 256 + j.val * 128, 0] : Fin 3 → ℕ) a + S1x128x128.size a ≤ S4x2048x128.size a :=
  inb3 (ok.k m) (by have := c.2; have := j.2; omega) (by omega)

/-- Push the head's query tile and multiply both halves of a key tile by it. -/
def issue (m : Fin 2) (t c : Fin 8) (buf : Fin 2) (u : Mxu F) : Pr F (Mxu F) := do
  let q ← ld B.q ![hrow it m, t.val * 256] S96x256.size (inb2 (ok.q m) (by have := t.2; omega)) h_S96x256
  let u ← u.pushRhs m 0 false (qTile q)
  let k0 ← ld B.k ![krow it m, c.val * 256 + 0 * 128, 0] S1x128x128.size (inbK it ok m c 0) h_S1x128x128
  let u := u.accLhs m 0 (sAddr buf 0) (kTile k0) (fitsS buf 0)
  let k1 ← ld B.k ![krow it m, c.val * 256 + 1 * 128, 0] S1x128x128.size (inbK it ok m c 1) h_S1x128x128
  u.accLhsLoaded m (sAddr buf 1) (kTile k1) (fitsS buf 1)

theorem inbR (m : Fin 2) (t : Fin 8) (half : Fin 2) :
    ∀ a, (![m.val, 2 * t.val, 128 * half.val] : Fin 3 → ℕ) a + S1x1x128.size a ≤ S2x16x256.size a :=
  inb3 (by have := m.2; omega) (by have := t.2; omega) (by have := half.2; omega)

theorem inbP (m : Fin 2) (t c : Fin 8) (j half : Fin 2) :
    ∀ a, (![m.val, t.val % 2, c.val * 256 + j.val * 128, 128 * half.val] : Fin 4 → ℕ) a + S1x1x128x128.size a ≤ S2x2x2048x256.size a :=
  inb4 (by have := m.2; omega) (by omega) (by have := c.2; have := j.2; omega) (by have := half.2; omega)

/-- One half of a score tile to its weights: the shift stored by the column's first tile, the weights stored, and their partial sums. -/
def weigh (m : Fin 2) (t c : Fin 8) (j half : Fin 2) (z : FVec F S128x128 .f32) : Pr F (FVec F S8x128 .f32) := do
  if c.val + j.val = 0 then
    let x ← ld B.mx ![8 * m.val + t.val, 128 * half.val] S1x128.size
      (inb2 (by have := m.2; have := t.2; omega) (by have := half.2; omega)) h_S1x128
    let _ ← ld B.row ![m.val, 2 * t.val, 128 * half.val] S1x1x128.size (inbR m t half) h_S1x1x128
    st B.row ![m.val, 2 * t.val, 128 * half.val] S1x1x128.size (inbR m t half) h_S1x1x128
      (shapeCast S1x1x128 (Scalar.select (Scalar.cmpi .sge it 6#32) x (est z)) shapeCasts_S1x128_S1x1x128)
  let r ← ld B.row ![m.val, 2 * t.val, 128 * half.val] S1x1x128.size (inbR m t half) h_S1x1x128
  let _ ← ld B.p ![m.val, t.val % 2, c.val * 256 + j.val * 128, 128 * half.val] S1x1x128x128.size (inbP m t c j half) h_S1x1x128x128
  st B.p ![m.val, t.val % 2, c.val * 256 + j.val * 128, 128 * half.val] S1x1x128x128.size (inbP m t c j half) h_S1x1x128x128
    (shapeCast S1x1x128x128 (pTile z r) shapeCasts_S128x128_S1x1x128x128)
  pure (fold8 (pTile z r))

/-- The weights of one half of one 128-key chunk, its mask added on the diagonal; the running partial sum comes back. -/
def half (m : Fin 2) (t c : Fin 8) (j h : Fin 2) (s : FVec F S128x256 .f32) (kb : Vec F S1x128x128 .f32) (cq : Vec F S1x256 .f32)
    (d : FVec F S8x128 .f32) : Pr F (FVec F S8x128 .f32) := do
  let z ← (if c.val = t.val ∧ j = h then do
      let tr ← ld B.tri ![0, 0] S128x128.size inb_S128x128_S128x128_0_0 h_S128x128
      pure (addf (zHalf h s kb cq) tr)
    else pure (zHalf h s kb cq) : Pr F (FVec F S128x128 .f32))
  let p ← weigh B it m t c j h z
  pure (if c.val + j.val = 0 then p else addf d p)

/-- A query tile's scores against a key tile, to weights. -/
def passA (m : Fin 2) (t c : Fin 8) (buf : Fin 2) (u : Mxu F) (d : FVec F S8x128 .f32 × FVec F S8x128 .f32) :
    Pr F (Mxu F × (FVec F S8x128 .f32 × FVec F S8x128 .f32)) := do
  let cq ← ld B.cq ![crow it m, t.val * 256] S1x256.size (inb2 (ok.c m) (by have := t.2; omega)) h_S1x256
  let kb0 ← ld B.kb ![krow it m, c.val * 256 + 0 * 128, 0] S1x128x128.size (inbK it ok m c 0) h_S1x128x128
  let s0 := u.read m (sAddr buf 0) (fitsS buf 0)
  let u := u.pop m (sAddr buf 0) 128 (fitsS buf 0)
  let d0 ← half B it m t c 0 0 s0 kb0 cq d.1
  let d1 ← half B it m t c 0 1 s0 kb0 cq d.2
  let kb1 ← ld B.kb ![krow it m, c.val * 256 + 1 * 128, 0] S1x128x128.size (inbK it ok m c 1) h_S1x128x128
  let s1 := u.read m (sAddr buf 1) (fitsS buf 1)
  let u := u.pop m (sAddr buf 1) 128 (fitsS buf 1)
  if c.val = t.val then
    let d1 ← half B it m t c 1 1 s1 kb1 cq d1
    let b ← ld B.bad ![0, 0] S1x256.size inb_S1x256_S1x256_0_0 h_S1x256
    let _ ← ld B.bad ![0, 0] S1x256.size inb_S1x256_S1x256_0_0 h_S1x256
    st B.bad ![0, 0] S1x256.size inb_S1x256_S1x256_0_0 h_S1x256 (badRow b (lRow d0 d1))
    let _ ← ld B.row ![m.val, 2 * t.val + 1, 0] S1x1x256.size (inb3 (by have := m.2; omega) (by have := t.2; omega) (by omega)) h_S1x1x256
    st B.row ![m.val, 2 * t.val + 1, 0] S1x1x256.size (inb3 (by have := m.2; omega) (by have := t.2; omega) (by omega)) h_S1x1x256
      (invRow (lRow d0 d1))
    pure (u, (d0, d1))
  else
    let d0 ← half B it m t c 1 0 s1 kb1 cq d0
    let d1 ← half B it m t c 1 1 s1 kb1 cq d1
    pure (u, (d0, d1))

/-- The normalised weights of a key tile against the values, onto the query tile's accumulator. -/
def passB (m : Fin 2) (t c : Fin 8) (u : Mxu F) : Pr F (Mxu F) := do
  let r ← ld B.row ![m.val, 2 * t.val + 1, 0] S1x1x256.size (inb3 (by have := m.2; omega) (by have := t.2; omega) (by omega)) h_S1x1x256
  let w ← (if c.val = t.val then do
      let p ← ld B.p ![m.val, t.val % 2, c.val * 256, 0] S1x1x128x256.size
        (inb4 (by have := m.2; omega) (by omega) (by have := c.2; omega) (by omega)) h_S1x1x128x256
      let p' ← ld B.p ![m.val, t.val % 2, c.val * 256 + 128, 128] S1x1x128x128.size
        (inb4 (by have := m.2; omega) (by omega) (by have := c.2; omega) (by omega)) h_S1x1x128x128
      pure (wDiag r p p')
    else do
      let p ← ld B.p ![m.val, t.val % 2, c.val * 256, 0] S1x1x256x256.size
        (inb4 (by have := m.2; omega) (by omega) (by have := c.2; omega) (by omega)) h_S1x1x256x256
      pure (wFull r p) : Pr F (FVec F S256x256 .bf16))
  let u ← u.pushRhs m 1 false w
  let v ← ld B.v ![krow it m, 0, c.val * 256] S1x96x256.size (inb3 (ok.k m) (by omega) (by have := c.2; omega)) h_S1x96x256
  pure (u.accLhs m 1 (oAddr t) (shapeCast S96x256 v shapeCasts_S1x96x256_S96x256 : FVec F S96x256 .bf16) (fitsO t))

include ok in
theorem packedO (m : Fin 2) (t : Fin 8) (b : Fin 3) :
    (Rect.unit (s := S1152x2048) ![orow it m b, t.val * 256] S32x256.size (inb2 (ok.o m b) (by have := t.2; omega))).PackedRows (EltTy.packing .bf16) := by
  have h2 : 2 ≤ S1152x2048.rank := by decide
  refine .inr ⟨h2, rfl, .inl ⟨?_, ?_⟩⟩
  · exact ok.ev m b
  · exact (by decide : 2 ∣ 32)

/-- One block of a query tile's output, quantised and stored. -/
def quant (m : Fin 2) (t : Fin 8) (o : FVec F S96x256 .f32) (b : Fin 3) : Pr F PUnit := do
  let _ ← ld B.ct ![orow it m b, t.val * 256] S32x256.size (inb2 (ok.o m b) (by have := t.2; omega)) h_S32x256
  Prog.lift (.store B.ct (Rect.unit (s := S1152x2048) ![orow it m b, t.val * 256] S32x256.size (inb2 (ok.o m b) (by have := t.2; omega)))
    (codes (oBlock b o)) Finset.univ (View.stores_vmem h_S32x256 (B.hct.storeExact_slice rfl _ (packedO it ok m t b)) (fun _ => rfl)) (.inl rfl))
  let _ ← ld B.et ![erow it m b, t.val * 256] S1x256.size (inb2 (ok.e m b) (by have := t.2; omega)) h_S1x256
  st B.et ![erow it m b, t.val * 256] S1x256.size (inb2 (ok.e m b) (by have := t.2; omega)) h_S1x256 (exps (oBlock b o))

/-- A query tile's output out of the accumulator, quantised and stored. -/
def finish (m : Fin 2) (t : Fin 8) (u : Mxu F) : Pr F (Mxu F) := do
  let o := u.read m (oAddr t) (fitsO t)
  let u := u.pop m (oAddr t) 96 (fitsO t)
  quant B it ok m t o 0
  quant B it ok m t o 1
  quant B it ok m t o 2
  pure u

/-- What the pair's steps carry: the matrix units, and each head's partial sums. -/
structure Carry (F : FTy → Type) [FloatOps F] where
  u : Mxu F
  d0 : FVec F S8x128 .f32 × FVec F S8x128 .f32
  d1 : FVec F S8x128 .f32 × FVec F S8x128 .f32

/-- The query tile before. -/
def prev (t : Fin 8) : Fin 8 := ⟨t.val - 1, by have := t.2; omega⟩

/-- A head's second half of a step: the previous query tile against this key tile, or its output. -/
def tail (m : Fin 2) (t c : Fin 8) (u : Mxu F) : Pr F (Mxu F) :=
  if c.val < t.val then passB B it ok m (prev t) c u
  else if 0 < t.val then finish B it ok m (prev t) u
  else pure u

/-- One step: the next step's scores issued, this one's weights made, the previous tile's weights used. -/
def step (s : Fin 8 × Fin 8) (nx : Option (Fin 8 × Fin 8)) (buf : Fin 2) (x : Carry F) : Pr F (Carry F) := do
  let u ← (match nx with
    | some (t', c') => do
        let u ← issue B it ok 0 t' c' (1 - buf) x.u
        issue B it ok 1 t' c' (1 - buf) u
    | none => pure x.u : Pr F (Mxu F))
  let (u, d0) ← passA B it ok 0 s.1 s.2 buf u x.d0
  let (u, d1) ← passA B it ok 1 s.1 s.2 buf u x.d1
  let u ← tail B it ok 0 s.1 s.2 u
  let u ← tail B it ok 1 s.1 s.2 u
  pure ⟨u, d0, d1⟩

/-- All steps from a list on. -/
def steps : List (Fin 8 × Fin 8) → Fin 2 → Carry F → Pr F (Carry F)
  | [], _, x => pure x
  | s :: r, buf, x => do
      let x ← step B it ok s r.head? buf x
      steps r (1 - buf) x

/-- The steps in order. -/
def order : List (Fin 8 × Fin 8) :=
  [(0,0), (1,0),(1,1), (2,0),(2,1),(2,2), (3,0),(3,1),(3,2),(3,3), (4,0),(4,1),(4,2),(4,3),(4,4),
   (5,0),(5,1),(5,2),(5,3),(5,4),(5,5), (6,0),(6,1),(6,2),(6,3),(6,4),(6,5),(6,6),
   (7,0),(7,1),(7,2),(7,3),(7,4),(7,5),(7,6),(7,7)]

/-- The last query tile against each key tile. -/
def last : List (Fin 8) → Mxu F → Pr F (Mxu F)
  | [], u => pure u
  | c :: r, u => do
      let u ← passB B it ok 0 7 c u
      let u ← passB B it ok 1 7 c u
      last r u

/-- A pair of heads. -/
def pair (u : Mxu F) : Pr F (Mxu F) := do
  let u ← issue B it ok 0 0 0 0 u
  let u ← issue B it ok 1 0 0 0 u
  let z : FVec F S8x128 .f32 := broadcast S8x128 (Scalar.ofBits .f32 0x00000000#32)
  let x ← steps B it ok order 0 ⟨u, (z, z), (z, z)⟩
  let u ← last B it ok [0, 1, 2, 3, 4, 5, 6, 7] x.u
  let u ← finish B it ok 0 7 u
  finish B it ok 1 7 u

end

end Cert.Kernel.Pair
-- ==== Proof.Safe.lean ====
/-
  A pair of heads runs without fault from any contents: every push finds its register empty, every reuse its
  tile, and the accumulators' rows in use are those of the scores and outputs under way.
-/
module

public import proofs.«01_k».proof.Proof.Body

@[expose] public section

namespace Cert.Kernel.Pair

open Idealize.ShloMosaic Idealize.SL.Sem Cert.Kernel
open Cert.Kernel.Facts₀

variable {F : FTy → Type} [FloatOps F] [Facts]

/-- Rows of the matrix units' accumulators. -/
abbrev Rows := Fin 2 → ℕ → Prop

/-- No register is staged, and every accumulator row in use is of `S`. -/
def St (S : Rows) (u : Mxu F) : Prop := (∀ q r, u.reg q r = none) ∧ ∀ q R, u.live q R = true → S q R.val

theorem St.mono {S T : Rows} {u : Mxu F} (h : St S u) (hT : ∀ q R, S q R → T q R) : St T u :=
  ⟨h.1, fun q R hl => hT q R.val (h.2 q R hl)⟩

/-- The rows of an address. -/
def at' (m : Fin 2) (A M : ℕ) : Rows := fun q R => q = m ∧ 4 * A ≤ R ∧ R < 4 * A + M

/-- A push and its loading accumulate. -/
theorem St.load {S : Rows} {u : Mxu F} (h : St S u) (m r : Fin 2) {φ φ' : FTy} (tr : Bool) (v : FVec F (Mxu.STile 256) φ) (A : ℕ) {M : ℕ}
    (w : FVec F (Mxu.STile M) φ') (hf : Mxu.Fits A M) :
    St (fun q R => S q R ∨ at' m A M q R) ((u.pushed m r tr v).accLhs m r A w hf) := by
  refine ⟨fun q r' => ?_, fun q R hl => ?_⟩
  · by_cases hq : q = m ∧ r' = r
    · obtain ⟨rfl, rfl⟩ := hq; exact Mxu.reg_accLhs _ _ _ _ _ _
    · rw [Mxu.reg_accLhs_ne _ _ _ _ _ _ _ _ hq, Mxu.reg_pushed_ne _ _ _ _ _ _ _ hq]; exact h.1 q r'
  · rw [Mxu.live_accLhs] at hl
    by_cases hc : q = m ∧ 4 * A ≤ R.val ∧ R.val < 4 * A + M
    · exact .inr hc
    · rw [if_neg hc, Mxu.live_pushed] at hl; exact .inl (h.2 q R hl)

theorem St.acc {S : Rows} {u : Mxu F} (h : St S u) (m : Fin 2) {φ' : FTy} (t : Mxu.Staged F) (A : ℕ) {M : ℕ}
    (w : FVec F (Mxu.STile M) φ') (hf : Mxu.Fits A M) :
    St (fun q R => S q R ∨ at' m A M q R) (u.accBy m t A w hf) := by
  refine ⟨fun q r' => h.1 q r', fun q R hl => ?_⟩
  rw [Mxu.live_accBy] at hl
  by_cases hc : q = m ∧ 4 * A ≤ R.val ∧ R.val < 4 * A + M
  · exact .inr hc
  · rw [if_neg hc] at hl; exact .inl (h.2 q R hl)

theorem St.pop {S : Rows} {u : Mxu F} (h : St S u) (m : Fin 2) (A M : ℕ) (hf : Mxu.Fits A M) :
    St (fun q R => S q R ∧ ¬ at' m A M q R) (u.pop m A M hf) := by
  refine ⟨fun q r' => h.1 q r', fun q R hl => ?_⟩
  rw [Mxu.live_pop] at hl
  by_cases hc : q = m ∧ 4 * A ≤ R.val ∧ R.val < 4 * A + M
  · rw [if_pos hc] at hl; cases hl
  · rw [if_neg hc] at hl; exact ⟨h.2 q R hl, hc⟩

section
variable {c : Dev nD} {R : Refs} {bd : Option ℕ}

theorem Sf.push {u : Mxu F} {m r : Fin 2} {tr : Bool} {φ : FTy} {v : FVec F (Mxu.STile 256) φ} {β : Type} {k : Mxu F → Pr F β} {Q : β → Prop}
    (hn : u.reg m r = none) (h : Sf c R bd (k (u.pushed m r tr v)) Q) : Sf c R bd (u.pushRhs m r tr v >>= k) Q := by
  simp only [Mxu.pushRhs, Prog.bind_op, Prog.bind_ret]
  exact .assume (Mxu.pushOk_of_none _ _ _ _ hn) h

theorem Sf.loaded {u : Mxu F} {m : Fin 2} {A M : ℕ} {φ : FTy} {w : FVec F (Mxu.STile M) φ} {hf : Mxu.Fits A M} {t : Mxu.Staged F}
    {β : Type} {k : Mxu F → Pr F β} {Q : β → Prop}
    (ht : u.gmr m = some t) (h : Sf c R bd (k (u.accBy m t A w hf)) Q) : Sf c R bd (u.accLhsLoaded m A w hf >>= k) Q := by
  obtain ⟨hs, e⟩ := Option.eq_some_iff_get_eq.mp ht
  rw [← e] at h
  simp only [Mxu.accLhsLoaded, Prog.bind_op, Prog.bind_ret]
  exact .assume hs h

variable {hct : (R .ct).IsWhole} {it : BitVec 32} (ok : Ok it)

/-- The rows of a score buffer. -/
def sRows (m buf : Fin 2) : Rows := fun q R => q = m ∧ 256 * buf.val ≤ R ∧ R < 256 * buf.val + 256
/-- The rows of a query tile's outputs. -/
def oRows (m : Fin 2) (t : ℕ) : Rows := fun q R => q = m ∧ 512 + 96 * (t % 2) ≤ R ∧ R < 512 + 96 * (t % 2) + 96

theorem issue_safe (m : Fin 2) (t c' : Fin 8) (buf : Fin 2) {S : Rows} {u : Mxu F} (h : St S u) :
    Sf c R bd (issue (bufs R hct) it ok m t c' buf u) (St fun q r => S q r ∨ sRows m buf q r) := by
  unfold issue
  simp only [ld, Prog.lift, Prog.bind_op, Prog.bind_ret]
  refine .load .q fun q => .push (h.1 _ _) ?_
  refine .load .k fun k0 => .load .k fun k1 => ?_
  rw [← bind_pure (Mxu.accLhsLoaded _ _ _ _ _)]
  refine .loaded (Mxu.gmr_accLhs _ _ _ _ _ _) (.ret ?_)
  refine St.mono (St.acc (St.load h ..) ..) fun q r => ?_
  have := buf.2
  rintro ((h | ⟨rfl, h1, h2⟩) | ⟨rfl, h1, h2⟩)
  · exact .inl h
  · exact .inr ⟨rfl, by simp only [sAddr] at h1 h2; omega, by simp only [sAddr] at h1 h2; omega⟩
  · exact .inr ⟨rfl, by simp only [sAddr] at h1 h2; omega, by simp only [sAddr] at h1 h2; omega⟩

theorem weigh_safe (m : Fin 2) (t c' : Fin 8) (j hf : Fin 2) (z : FVec F S128x128 .f32) :
    Sf c R bd (weigh (bufs R hct) it m t c' j hf z) (fun _ => True) := by
  unfold weigh
  simp only [ld, st, Prog.lift, Prog.bind_op, Prog.bind_ret, Prog.pure_eq_ret]
  split
  · exact .load .mx fun _ => .load .row fun _ => .store .row <| .load .row fun _ => .load .p fun _ => .store .p <| .ret trivial
  · exact .load .row fun _ => .load .p fun _ => .store .p <| .ret trivial

theorem half_safe (m : Fin 2) (t c' : Fin 8) (j hf : Fin 2) (s : FVec F S128x256 .f32) (kb : Vec F S1x128x128 .f32) (cq : Vec F S1x256 .f32)
    (d : FVec F S8x128 .f32) : Sf c R bd (half (bufs R hct) it m t c' j hf s kb cq d) (fun _ => True) := by
  unfold half
  refine .bind (Q := fun _ => True) ?_ fun z _ => .bind (weigh_safe m t c' j hf z) fun p _ => .ret trivial
  split
  · simp only [ld, Prog.lift, Prog.bind_op, Prog.bind_ret, Prog.pure_eq_ret]
    exact .load .tri fun _ => .ret trivial
  · exact .ret trivial

theorem passA_safe (m : Fin 2) (t c' : Fin 8) (buf : Fin 2) {S : Rows} {u : Mxu F} (h : St S u) (d : FVec F S8x128 .f32 × FVec F S8x128 .f32) :
    Sf c R bd (passA (bufs R hct) it ok m t c' buf u d) (fun x => St (fun q r => S q r ∧ ¬ sRows m buf q r) x.1) := by
  have key : St (fun q r => S q r ∧ ¬ sRows m buf q r)
      ((u.pop m (sAddr buf 0) 128 (fitsS buf 0)).pop m (sAddr buf 1) 128 (fitsS buf 1)) := by
    refine St.mono (St.pop (St.pop h ..) ..) fun q r => ?_
    rintro ⟨⟨h0, h1⟩, h2⟩
    refine ⟨h0, ?_⟩
    rintro ⟨rfl, h3, h4⟩
    by_cases hr : r < 256 * buf.val + 128
    · exact h1 ⟨rfl, by simp only [sAddr]; simp; omega, by simp only [sAddr]; simp; omega⟩
    · exact h2 ⟨rfl, by simp only [sAddr]; simp; omega, by simp only [sAddr]; simp; omega⟩
  unfold passA
  simp only [ld, st, Prog.lift, Prog.bind_op, Prog.bind_ret, Prog.pure_eq_ret]
  refine .load .cq fun cq => .load .kb fun kb0 => .bind (half_safe _ _ _ _ _ _ _ _ _) fun d0 _ => .bind (half_safe _ _ _ _ _ _ _ _ _) fun d1 _ => .load .kb fun kb1 => ?_
  split
  · refine .bind (half_safe _ _ _ _ _ _ _ _ _) fun d1 _ => ?_
    exact .load .bad fun _ => .load .bad fun _ => .store .bad <| .load .row fun _ => .store .row <| .ret key
  · exact .bind (half_safe _ _ _ _ _ _ _ _ _) fun d0 _ => .bind (half_safe _ _ _ _ _ _ _ _ _) fun d1 _ => .ret key

theorem passB_safe (m : Fin 2) (t c' : Fin 8) {S : Rows} {u : Mxu F} (h : St S u) :
    Sf c R bd (passB (bufs R hct) it ok m t c' u) (St fun q r => S q r ∨ oRows m t.val q r) := by
  have hw : ∀ (w : FVec F S256x256 .bf16) (v : FVec F S96x256 .bf16),
      St (fun q r => S q r ∨ oRows m t.val q r) ((u.pushed m 1 false w).accLhs m 1 (oAddr t) v (fitsO t)) := fun w v => by
    refine St.mono (St.load h ..) fun q r => ?_
    rintro (h | ⟨rfl, h1, h2⟩)
    · exact .inl h
    · exact .inr ⟨rfl, by simp only [oAddr] at h1 h2; omega, by simp only [oAddr] at h1 h2; omega⟩
  unfold passB
  simp only [ld, Prog.lift, Prog.bind_op, Prog.bind_ret, Prog.pure_eq_ret]
  refine .load .row fun r => .bind (Q := fun _ => True) ?_ fun w _ => .push (h.1 _ _) (.load .v fun v => .ret (hw w _))
  split
  · exact .load .p fun _ => .load .p fun _ => .ret trivial
  · exact .load .p fun _ => .ret trivial

theorem quant_safe (m : Fin 2) (t : Fin 8) (o : FVec F S96x256 .f32) (b : Fin 3) :
    Sf c R bd (quant (bufs R hct) it ok m t o b) (fun _ => True) := by
  unfold quant
  simp only [ld, st, Prog.lift, Prog.bind_op, Prog.bind_ret]
  exact .load .ct fun _ => .store .ct <| .load .et fun _ => .store .et <| .ret trivial

theorem finish_safe (m : Fin 2) (t : Fin 8) {S : Rows} {u : Mxu F} (h : St S u) :
    Sf c R bd (finish (bufs R hct) it ok m t u) (St fun q r => S q r ∧ ¬ oRows m t.val q r) := by
  unfold finish
  refine .bind (quant_safe ok m t _ 0) fun _ _ => .bind (quant_safe ok m t _ 1) fun _ _ => .bind (quant_safe ok m t _ 2) fun _ _ => .ret ?_
  refine St.mono (St.pop h ..) fun q r => ?_
  rintro ⟨h0, h1⟩
  refine ⟨h0, ?_⟩
  rintro ⟨rfl, h3, h4⟩
  exact h1 ⟨rfl, by simp only [oAddr]; omega, by simp only [oAddr]; omega⟩

/-- The rows in use before a step. -/
def before (s : Fin 8 × Fin 8) (buf : Fin 2) : Rows := fun q r =>
  (256 * buf.val ≤ r ∧ r < 256 * buf.val + 256)
    ∨ (0 < s.2.val ∧ s.2.val ≤ s.1.val ∧ 512 + 96 * ((s.1.val - 1) % 2) ≤ r ∧ r < 512 + 96 * ((s.1.val - 1) % 2) + 96)

/-- The rows in use before the rest of the steps. -/
def beforeAll : Option (Fin 8 × Fin 8) → Fin 2 → Rows
  | some s, buf => before s buf
  | none, _ => fun _ _ => False

/-- The step after `s`, none after a query tile's last. -/
def Next (s : Fin 8 × Fin 8) : Option (Fin 8 × Fin 8) → Prop
  | some s' => if s.2.val < s.1.val then s'.1.val = s.1.val ∧ s'.2.val = s.2.val + 1 else s'.2.val = 0
  | none => s.1.val ≤ s.2.val

theorem tail_safe (m : Fin 2) (t c' : Fin 8) {S : Rows} {u : Mxu F} (h : St S u) :
    Sf c R bd (tail (bufs R hct) it ok m t c' u)
      (St fun q r => (S q r ∨ (c'.val < t.val ∧ oRows m (t.val - 1) q r)) ∧ ¬ (t.val ≤ c'.val ∧ 0 < t.val ∧ oRows m (t.val - 1) q r)) := by
  unfold tail
  split
  · refine (passB_safe ok m (prev t) c' h).mono fun u hu => hu.mono fun q r => ?_
    rintro (h | h)
    · exact ⟨.inl h, fun h' => by omega⟩
    · exact ⟨.inr ⟨by assumption, h⟩, fun h' => by omega⟩
  · split
    · refine (finish_safe ok m (prev t) h).mono fun u hu => hu.mono fun q r => ?_
      rintro ⟨h, h'⟩
      exact ⟨.inl h, fun h'' => h' h''.2.2⟩
    · exact .ret (h.mono fun q r h => ⟨.inl h, fun h' => by omega⟩)

theorem step_safe (s : Fin 8 × Fin 8) (nx : Option (Fin 8 × Fin 8)) (hn : Next s nx) (buf : Fin 2) (x : Carry F) (h : St (before s buf) x.u) :
    Sf c R bd (step (bufs R hct) it ok s nx buf x) (fun y => St (beforeAll nx (1 - buf)) y.u) := by
  have hb : (1 - buf : Fin 2).val = 1 - buf.val := by fin_cases buf <;> rfl
  have hb2 := buf.2
  unfold step
  refine .bind (Q := St fun q r => before s buf q r ∨ (nx.isSome ∧ 256 * (1 - buf : Fin 2).val ≤ r ∧ r < 256 * (1 - buf : Fin 2).val + 256)) ?_
    fun u hu => .bind (passA_safe ok 0 s.1 s.2 buf hu x.d0) fun y hy => .bind (passA_safe ok 1 s.1 s.2 buf hy x.d1) fun y' hy' =>
      .bind (tail_safe ok 0 s.1 s.2 hy') fun u' hu' => .bind (tail_safe ok 1 s.1 s.2 hu') fun u'' hu'' => .ret ?_
  · match nx with
    | none => exact .ret (h.mono fun q r h => .inl h)
    | some (t', c') =>
      refine .bind (issue_safe ok 0 t' c' (1 - buf) h) fun u hu => (issue_safe ok 1 t' c' (1 - buf) hu).mono fun u hu => hu.mono fun q r => ?_
      rintro ((h | ⟨-, h⟩) | ⟨-, h⟩)
      · exact .inl h
      · exact .inr ⟨rfl, h⟩
      · exact .inr ⟨rfl, h⟩
  · refine hu''.mono fun q r => ?_
    have hq : q = 0 ∨ q = 1 := by fin_cases q <;> simp
    rw [hb]
    unfold beforeAll before sRows oRows Next at *
    rcases nx with _ | ⟨t', c'⟩ <;> rcases hq with rfl | rfl <;> simp at hn ⊢ <;> (try split at hn) <;> omega

/-- A list of steps each the one after the last. -/
def Linked : List (Fin 8 × Fin 8) → Prop
  | [] => True
  | s :: r => Next s r.head? ∧ Linked r

theorem steps_safe : ∀ (l : List (Fin 8 × Fin 8)) (hl : Linked l) (buf : Fin 2) (x : Carry F) (h : St (beforeAll l.head? buf) x.u),
    Sf c R bd (steps (bufs R hct) it ok l buf x) (fun y => St (fun _ _ => False) y.u)
  | [], _, _, _, h => .ret h
  | s :: r, hl, buf, x, h => .bind (step_safe ok s r.head? hl.1 buf x h) fun y hy => steps_safe r hl.2 (1 - buf) y hy

theorem order_linked : Linked order := by
  simp [order, Linked, Next]

theorem last_safe : ∀ (l : List (Fin 8)) {S : Rows} {u : Mxu F} (h : St S u),
    Sf c R bd (last (bufs R hct) it ok l u) (St fun q r => S q r ∨ oRows q 7 q r)
  | [], S, u, h => .ret (h.mono fun _ _ h => .inl h)
  | c' :: l, S, u, h => .bind (passB_safe ok 0 7 c' h) fun u hu => .bind (passB_safe ok 1 7 c' hu) fun u hu =>
      (last_safe l hu).mono fun u hu => hu.mono fun q r => by
        rintro (((h | h) | h) | h)
        · exact .inl h
        · obtain ⟨rfl, h⟩ := h; exact .inr ⟨rfl, h⟩
        · obtain ⟨rfl, h⟩ := h; exact .inr ⟨rfl, h⟩
        · exact .inr h

/-- A pair of heads, from idle matrix units, leaves them idle. -/
theorem pair_safe {u : Mxu F} (h : St (fun _ _ => False) u) :
    Sf c R bd (pair (bufs R hct) it ok u) (St fun _ _ => False) := by
  unfold pair
  refine .bind (issue_safe ok 0 0 0 0 h) fun u hu => .bind (issue_safe ok 1 0 0 0 hu) fun u hu =>
    .bind (steps_safe ok order order_linked 0 _ (hu.mono fun q r => ?_)) fun x hx => .bind (last_safe ok _ hx) fun u hu =>
      .bind (finish_safe ok 0 7 hu) fun u hu => (finish_safe ok 1 7 hu).mono fun u hu => hu.mono fun q r => ?_
  · rintro ((h | ⟨-, h⟩) | ⟨-, h⟩)
    · exact h.elim
    · exact .inl h
    · exact .inl h
  · rintro ⟨⟨h | h, h0⟩, h1⟩
    · exact h
    · have hq : q = 0 ∨ q = 1 := by fin_cases q <;> simp
      rcases hq with rfl | rfl
      · exact h0 h
      · exact h1 h

end

end Cert.Kernel.Pair
-- ==== Proof.Rare.lean ====
/-
  The loops over key tiles that find each query's greatest score run without fault, leaving the matrix units idle.
-/
module

public import proofs.«01_k».proof.Proof.Safe

@[expose] public section

namespace Cert.Kernel.Pair

open Idealize.ShloMosaic Idealize.SL.Sem Cert.Kernel
open Cert.Kernel.Facts₀

variable {F : FTy → Type} [FloatOps F] [Facts] {c : Dev nD} {R : Refs} {bd : Option ℕ}
variable {i : grid0.Coords} {hq : (R .q).IsWhole} {hk : (R .k).IsWhole} {hv : (R .v).IsWhole} {hkb : (R .kb).IsWhole} {hcq : (R .cq).IsWhole}
  {hct : (R .ct).IsWhole} {het : (R .et).IsWhole} {hp : (R .p).IsWhole} {hrow : (R .row).IsWhole} {hmx : (R .mx).IsWhole}
  {htri : (R .tri).IsWhole} {hbad : (R .bad).IsWhole}
variable {it n : BitVec 32} {u0 : Mxu F} {hw : k0_chk1 it} {h1 : k0_cond1 it = 1#1}

/-- No rows in use. -/
abbrev none' : Rows := fun _ _ => False

theorem St.one {u : Mxu F} (h : St none' u) (m : Fin 2) {φ φ' : FTy} (tr : Bool) (v : FVec F (Mxu.STile 256) φ)
    (w : FVec F (Mxu.STile 128) φ') (hf : Mxu.Fits 0 128) :
    St none' (((u.pushed m 0 tr v).accLhs m 0 0 w hf).pop m 0 128 hf) := by
  refine ((St.load h m 0 tr v 0 w hf).pop m 0 128 hf).mono ?_
  rintro q R ⟨h | h, h'⟩
  · exact h
  · exact h' h

theorem part24_safe {a b c0 c1 : BitVec 32} {t : Fin k0_t1_loop.trips} {t' : Fin (k0_t2_loop t).trips} {u : Mxu F} (h : St none' u) :
    Sf c R bd (k0_part24 i (R .cq) hcq (R .q) hq (R .k) hk (R .kb) hkb (R .mx) hmx (R .tri) htri (R .row) hrow (R .p) hp (R .bad) hbad (R .v) hv (R .ct) hct (R .et) het it n u0 hw h1 a t b c0 c1 t' u) (fun x => St none' (x.2.1.pop 0 0 128 Facts₀.fits_0_128)) := by
  unfold k0_part24
  exact .load .q fun _ => .push (h.1 _ _) (.load .k fun _ => .ret (h.one ..))

theorem part25_safe {a b c0 c1 : BitVec 32} {t : Fin k0_t1_loop.trips} {t' : Fin (k0_t3_loop t).trips} {u : Mxu F} (h : St none' u) :
    Sf c R bd (k0_part25 i (R .cq) hcq (R .q) hq (R .k) hk (R .kb) hkb (R .mx) hmx (R .tri) htri (R .row) hrow (R .p) hp (R .bad) hbad (R .v) hv (R .ct) hct (R .et) het it n u0 hw h1 a t b c0 c1 t' u) (fun x => St none' (x.2.1.pop 0 0 128 Facts₀.fits_0_128)) := by
  unfold k0_part25
  exact .load .q fun _ => .push (h.1 _ _) (.load .k fun _ => .ret (h.one ..))

theorem part26_safe {a b c0 c1 : BitVec 32} {t : Fin k0_t4_loop.trips} {t' : Fin (k0_t5_loop t).trips} {u : Mxu F} (h : St none' u) :
    Sf c R bd (k0_part26 i (R .cq) hcq (R .q) hq (R .k) hk (R .kb) hkb (R .mx) hmx (R .tri) htri (R .row) hrow (R .p) hp (R .bad) hbad (R .v) hv (R .ct) hct (R .et) het it n u0 hw h1 a t b c0 c1 t' u) (fun x => St none' (x.2.1.pop 1 0 128 Facts₀.fits_0_128)) := by
  unfold k0_part26
  exact .load .q fun _ => .push (h.1 _ _) (.load .k fun _ => .ret (h.one ..))

theorem part27_safe {a b c0 c1 : BitVec 32} {t : Fin k0_t4_loop.trips} {t' : Fin (k0_t6_loop t).trips} {u : Mxu F} (h : St none' u) :
    Sf c R bd (k0_part27 i (R .cq) hcq (R .q) hq (R .k) hk (R .kb) hkb (R .mx) hmx (R .tri) htri (R .row) hrow (R .p) hp (R .bad) hbad (R .v) hv (R .ct) hct (R .et) het it n u0 hw h1 a t b c0 c1 t' u) (fun x => St none' (x.2.1.pop 1 0 128 Facts₀.fits_0_128)) := by
  unfold k0_part27
  exact .load .q fun _ => .push (h.1 _ _) (.load .k fun _ => .ret (h.one ..))

/-- The loops over key tiles, run for one pair in six and skipped for the others. -/
theorem rare_safe {u : Mxu F} (h : St none' u) : Sf c R bd (k0_part29 i (R .cq) hcq (R .q) hq (R .k) hk (R .kb) hkb (R .mx) hmx (R .tri) htri (R .row) hrow (R .p) hp (R .bad) hbad (R .v) hv (R .ct) hct (R .et) het it n u hw) (St none') := by
  unfold k0_part29
  show Sf c R bd (dite (k0_cond1 it = 1#1) _ _) _
  split
  · refine .bind (.for (fun x => St (F := F) none' x.2) h fun t (_, _) hx => ?_) fun (_, _) hx => ?_
    · refine .load .cq fun _ => .bind (Q := fun _ => True) (.ret trivial) fun _ _ => .bind (.for (fun x : FVec F S8x256 .f32 × Mxu F => St (F := F) none' x.2) hx fun t' (_, _) hx => ?_) fun (_, _) hx =>
        .bind (.for (fun x : FVec F S8x256 .f32 × Mxu F => St (F := F) none' x.2) hx fun t' (_, _) hx => ?_) fun (_, _) hx => .load .mx fun _ => .store .mx <| .ret hx
      · exact .bind (part24_safe hx) fun ⟨_, _, _, _, _, _⟩ hx => .load .kb fun _ => .ret hx
      · exact .bind (part25_safe hx) fun ⟨_, _, _, _, _, _⟩ hx => .load .kb fun _ => .ret hx
    · refine .bind (.for (fun x => St (F := F) none' x.2) hx fun t (_, _) hx => ?_) fun (_, _) hx => .ret hx
      refine .load .cq fun _ => .bind (Q := fun _ => True) (.ret trivial) fun _ _ => .bind (.for (fun x : FVec F S8x256 .f32 × Mxu F => St (F := F) none' x.2) hx fun t' (_, _) hx => ?_) fun (_, _) hx =>
        .bind (.for (fun x : FVec F S8x256 .f32 × Mxu F => St (F := F) none' x.2) hx fun t' (_, _) hx => ?_) fun (_, _) hx => .load .mx fun _ => .store .mx <| .ret hx
      · exact .bind (part26_safe hx) fun ⟨_, _, _, _, _, _⟩ hx => .load .kb fun _ => .ret hx
      · exact .bind (part27_safe hx) fun ⟨_, _, _, _, _, _⟩ hx => .load .kb fun _ => .ret hx
  · exact .ret h

end Cert.Kernel.Pair
-- ==== Proof.Match.lean ====
/-
  The printed body of the loop over head pairs is `pair` between the check of the loop counter, the recount of the maxima and the
  choice of the number of iterations.
-/
module

public import proofs.«01_k».proof.Proof.Body
public import Idealize.ShloMosaic.Lib.Tactic

@[expose] public section

namespace Cert.Kernel.Pair

open Idealize.ShloMosaic Idealize.SL.Sem Cert.Kernel
open Cert.Kernel.Facts₀

variable {F : FTy → Type} [FloatOps F] [Facts]

theorem ok_of {it : BitVec 32} (h : k0_chk1 it) : Ok it where
  q m := k0_off13_inb it h m 0
  k m := k0_off14_inb it h m 0
  c m := k0_off17_inb it h m 0
  o m b := k0_off23_inb it h m b 0
  e m b := k0_off24_inb it h m b 0
  ev m b := by
    rcases k0_off23_packedbf16 it h m b with h0 | ⟨_, -, ⟨h1, -⟩ | ⟨-, h1, -⟩⟩
    · exact absurd (show 32 = 1152 from (h0 0).2.2) (by decide)
    · exact h1
    · exact absurd (show 32 = 1152 from h1) (by decide)

/-- The number of iterations after iteration `it`: read off the flags by the sixth, else as it was. -/
def nextN (B : Bufs) (it n : BitVec 32) : Pr F (BitVec 32) :=
  do
    let v ← (if Scalar.cmpi .ne (Scalar.extui (Scalar.cmpi .eq it 5#32) : BitVec 32) 0#32 = 1#1 then do
        let b ← ld B.bad ![0, 0] S1x256.size inb_S1x256_S1x256_0_0 h_S1x256
        pure (Scalar.select (Scalar.cmpf .ogt (extractAt ![0, 0, 0] (shapeCast S1x1x1 (multiReduction .maximumf [1, 2] S1
          (shapeCast S1x1x256 b shapeCasts_S1x256_S1x1x256) 0xFF800000#32 reduces_S1x1x256_S1 (.inl rfl) rfl) shapeCasts_S1_S1x1x1) inpos_S1x1x1_p0_0_0)
          (Scalar.ofBits .f32 0x00000000#32 : F .f32)) 12#32 6#32)
      else pure n : Pr F (BitVec 32))
    pure v

/-- One round of the loop: the check of the counter, the recount, the pair, and the next round. -/
noncomputable def round (i : grid0.Coords) (arg13 : Memref sig .tc .vmem S12x2048 .f32) (harg13 : arg13.IsWhole) (arg9 : Memref sig .tc .vmem S1152x2048 .fp8e4m3) (harg9 : arg9.IsWhole) (arg10 : Memref sig .tc .vmem S4x2048x128 .fp8e4m3) (harg10 : arg10.IsWhole) (arg12 : Memref sig .tc .vmem S4x2048x128 .f32) (harg12 : arg12.IsWhole) (arg18 : Memref sig .tc .vmem S16x256 .f32) (harg18 : arg18.IsWhole) (arg19 : Memref sig .tc .vmem S128x128 .f32) (harg19 : arg19.IsWhole) (arg17 : Memref sig .tc .vmem S2x16x256 .f32) (harg17 : arg17.IsWhole) (arg16 : Memref sig .tc .vmem S2x2x2048x256 .f32) (harg16 : arg16.IsWhole) (arg20 : Memref sig .tc .vmem S1x256 .f32) (harg20 : arg20.IsWhole) (arg11 : Memref sig .tc .vmem S4x96x2048 .bf16) (harg11 : arg11.IsWhole) (arg14 : Memref sig .tc .vmem S1152x2048 .bf16) (harg14 : arg14.IsWhole) (arg15 : Memref sig .tc .vmem S128x2048 .f32) (harg15 : arg15.IsWhole) (arg21_r0 : BitVec 32) (arg22_r0 : BitVec 32) (k0_mxu2 : Mxu F) : Pr F (BitVec 32 × BitVec 32 × Mxu F) := do
  let hw ← Prog.lift (TpuEff.assume (k0_chk1 arg21_r0) (k0_chk1.dec arg21_r0))
  let u ← k0_part29 i arg13 harg13 arg9 harg9 arg10 harg10 arg12 harg12 arg18 harg18 arg19 harg19 arg17 harg17 arg16 harg16 arg20 harg20 arg11 harg11 arg14 harg14 arg15 harg15 arg21_r0 arg22_r0 k0_mxu2 hw.down
  let u ← pair ⟨arg9, arg10, arg11, arg12, arg13, arg14, arg15, arg16, arg17, arg18, arg19, arg20, harg14⟩ arg21_r0 (ok_of hw.down) u
  let n' ← nextN ⟨arg9, arg10, arg11, arg12, arg13, arg14, arg15, arg16, arg17, arg18, arg19, arg20, harg14⟩ arg21_r0 arg22_r0
  Prog.lift (.call (1 : (Λ₀ F).Label) ⟨i, arg13, harg13, arg9, harg9, arg10, harg10, arg12, harg12, arg18, harg18, arg19, harg19, arg17, harg17, arg16, harg16, arg20, harg20, arg11, harg11, arg14, harg14, arg15, harg15, Scalar.addi arg21_r0 1#32, n', u⟩)

/-- A sequence of three programs, nested either way. -/
theorem reassoc {α β γ : Type} (X : Pr F α) (f : α → Pr F β) (g : β → Pr F γ) (r : α → Pr F γ) (h : ∀ u, (f u >>= g) = r u) :
    (X >>= f) >>= g = X >>= r := by
  rw [bind_assoc]; exact congrArg _ (funext h)

set_option maxRecDepth 100000 in
/-- The printed loop is rounds as long as its counter is below the number of iterations. -/
theorem while_eq (i : grid0.Coords) (arg13 : Memref sig .tc .vmem S12x2048 .f32) (harg13 : arg13.IsWhole) (arg9 : Memref sig .tc .vmem S1152x2048 .fp8e4m3) (harg9 : arg9.IsWhole) (arg10 : Memref sig .tc .vmem S4x2048x128 .fp8e4m3) (harg10 : arg10.IsWhole) (arg12 : Memref sig .tc .vmem S4x2048x128 .f32) (harg12 : arg12.IsWhole) (arg18 : Memref sig .tc .vmem S16x256 .f32) (harg18 : arg18.IsWhole) (arg19 : Memref sig .tc .vmem S128x128 .f32) (harg19 : arg19.IsWhole) (arg17 : Memref sig .tc .vmem S2x16x256 .f32) (harg17 : arg17.IsWhole) (arg16 : Memref sig .tc .vmem S2x2x2048x256 .f32) (harg16 : arg16.IsWhole) (arg20 : Memref sig .tc .vmem S1x256 .f32) (harg20 : arg20.IsWhole) (arg11 : Memref sig .tc .vmem S4x96x2048 .bf16) (harg11 : arg11.IsWhole) (arg14 : Memref sig .tc .vmem S1152x2048 .bf16) (harg14 : arg14.IsWhole) (arg15 : Memref sig .tc .vmem S128x2048 .f32) (harg15 : arg15.IsWhole) (arg21_r0 : BitVec 32) (arg22_r0 : BitVec 32) (k0_mxu2 : Mxu F) :
    cc0_while1 i arg13 harg13 arg9 harg9 arg10 harg10 arg12 harg12 arg18 harg18 arg19 harg19 arg17 harg17 arg16 harg16 arg20 harg20 arg11 harg11 arg14 harg14 arg15 harg15 arg21_r0 arg22_r0 k0_mxu2 =
      if Scalar.cmpi .slt arg21_r0 arg22_r0 = 1#1 then round i arg13 harg13 arg9 harg9 arg10 harg10 arg12 harg12 arg18 harg18 arg19 harg19 arg17 harg17 arg16 harg16 arg20 harg20 arg11 harg11 arg14 harg14 arg15 harg15 arg21_r0 arg22_r0 k0_mxu2 else pure (arg21_r0, arg22_r0, k0_mxu2) := by
  delta cc0_while1 k0_part460 round
  dsimp only
  by_cases hc : Scalar.cmpi .slt arg21_r0 arg22_r0 = 1#1
  · rw [if_pos hc, if_pos hc]
    refine congrArg (Prog.op _) (funext fun hw => ?_)
    change ((pure hw : Pr F _) >>= _) >>= _ = _
    rw [pure_bind]
    exact reassoc (α := Mxu F) _ _ _ _ (fun u => by sl_kernel_rfl)
  · rw [if_neg hc, if_neg hc]

end Cert.Kernel.Pair
-- ==== Proof.Chk.lean ====
/-
  The checks the loop makes of its counter hold at every count it takes.
-/
module

public import proofs.«01_k».proof.Kernel

@[expose] public section

namespace Cert.Kernel.Pair

open Idealize.ShloMosaic Cert.Kernel
open Cert.Kernel.Facts₀

set_option maxRecDepth 100000 in
theorem chk : ∀ k : Fin 12, k0_chk1 (BitVec.ofNat 32 k.val) := by decide +kernel

end Cert.Kernel.Pair
-- ==== Proof.While.lean ====
/-
  The loop over pairs of heads runs without fault: its counter stays below twelve, and every round leaves the
  matrix units idle.
-/
module

public import proofs.«01_k».proof.Proof.Rare
public import proofs.«01_k».proof.Proof.Match
public import proofs.«01_k».proof.Proof.Chk

@[expose] public section

namespace Cert.Kernel.Pair

open Idealize.ShloMosaic Idealize.SL.Sem Cert.Kernel
open Cert.Kernel.Facts₀

variable {F : FTy → Type} [FloatOps F] [Facts] {c : Dev nD} {R : Refs}
variable {i : grid0.Coords} {hq : (R .q).IsWhole} {hk : (R .k).IsWhole} {hv : (R .v).IsWhole} {hkb : (R .kb).IsWhole} {hcq : (R .cq).IsWhole}
  {hct : (R .ct).IsWhole} {het : (R .et).IsWhole} {hp : (R .p).IsWhole} {hrow : (R .row).IsWhole} {hmx : (R .mx).IsWhole}
  {htri : (R .tri).IsWhole} {hbad : (R .bad).IsWhole}

theorem nextN_safe {bd : Option ℕ} {it n : BitVec 32} (hn : n = 6#32 ∨ n = 12#32) :
    Sf c R bd (nextN (F := F) (bufs R hct) it n) (fun n => n = 6#32 ∨ n = 12#32) := by
  unfold nextN
  show Sf c R bd (ite _ _ _) _
  split
  · refine .load .bad fun b => .ret ?_
    unfold Scalar.select
    split
    · exact .inr rfl
    · exact .inl rfl
  · exact .ret hn

/-- The loop from count `k`, with `j` rounds to come at most. -/
theorem while_safe : ∀ (j k : ℕ) (hjk : k + j = 12) (n : BitVec 32) (hn : n = 6#32 ∨ n = 12#32) (u : Mxu F) (h : St none' u),
    Sf c R (some j) (cc0_while1 i (R .cq) hcq (R .q) hq (R .k) hk (R .kb) hkb (R .mx) hmx (R .tri) htri (R .row) hrow (R .p) hp (R .bad) hbad (R .v) hv (R .ct) hct (R .et) het (BitVec.ofNat 32 k) n u) (fun x => St none' x.2.2)
  | 0, k, hjk, n, hn, u, h => by
    obtain rfl : k = 12 := by omega
    rw [while_eq, if_neg (by rcases hn with rfl | rfl <;> decide)]
    exact .ret h
  | j + 1, k, hjk, n, hn, u, h => by
    rw [while_eq]
    split
    · unfold round
      refine .assume (chk ⟨k, by omega⟩) <| .bind (Q := fun _ => True) (.ret trivial) fun _ _ => .bind (rare_safe h) fun u hu => .bind (pair_safe _ hu) fun u hu =>
        .bind (nextN_safe hn) fun n hn => .call j (fun w hw => by cases hw; omega) (Q := fun x : BitVec 32 × BitVec 32 × Mxu F => St none' x.2.2) ?_ fun x hx => .ret hx
      have e : Scalar.addi (BitVec.ofNat 32 k) 1#32 = BitVec.ofNat 32 (k + 1) := (BitVec.ofNat_add k 1).symm
      rw [e]
      exact while_safe j (k + 1) (by omega) n hn u hu
    · exact .ret h

end Cert.Kernel.Pair
-- ==== Proof.Whole.lean ====
/-
  The whole body runs without fault: the operands are laid out in scratch memory, the loop over pairs of heads
  runs, and the codes and exponents are copied out.
-/
module

public import proofs.«01_k».proof.Proof.While

@[expose] public section

namespace Cert.Kernel.Pair

open Idealize.ShloMosaic Idealize.SL.Sem Cert.Kernel
open Cert.Kernel.Facts₀

variable {F : FTy → Type} [FloatOps F] [Facts] {c : Dev nD} {R : Refs} {i : grid0.Coords} {H : ∀ s, (R s).IsWhole}

theorem part1_safe  : Sf c R none (k0_part1 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (St none') := by
  unfold k0_part1
  exact .load .xq fun _ => .load .q fun _ => .store .q <| .load .xq fun _ => .load .q fun _ => .store .q <| .load .xq fun _ =>
    .load .q fun _ => .store .q <| .load .xq fun _ => .load .q fun _ => .store .q <| .ret ⟨fun _ _ => rfl, fun _ _ h =>
    by cases h⟩

theorem part2_safe  : Sf c R none (k0_part2 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part2
  exact .load .xq fun _ => .load .q fun _ => .store .q <| .load .xq fun _ => .load .q fun _ => .store .q <| .load .xq fun _ =>
    .load .q fun _ => .store .q <| .load .xq fun _ => .load .q fun _ => .store .q <| .load .xq fun _ => .ret trivial

theorem part3_safe {v66 : FVec F S2048x128 .bf16} : Sf c R none (k0_part3 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v66) (fun _ => True) := by
  unfold k0_part3
  exact .load .q fun _ => .store .q <| .load .xk fun _ => .load .k fun _ => .store .k <| .load .k fun _ => .store .k <| .load
    .ks fun _ => .load .kb fun _ => .store .kb <| .load .xv fun _ => .load .vs fun _ => .ret trivial

theorem part4_safe {v96 : FVec F S96x2048 .bf16} : Sf c R none (k0_part4 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v96) (fun _ => True) := by
  unfold k0_part4
  exact .load .v fun _ => .store .v <| .load .xk fun _ => .load .k fun _ => .store .k <| .load .k fun _ => .store .k <| .load
    .ks fun _ => .load .kb fun _ => .store .kb <| .load .xv fun _ => .load .vs fun _ => .load .v fun _ => .ret trivial

theorem part5_safe {v124 : FVec F S96x2048 .bf16} : Sf c R none (k0_part5 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v124) (fun _ => True) := by
  unfold k0_part5
  exact .store .v <| .load .xk fun _ => .load .k fun _ => .store .k <| .load .k fun _ => .store .k <| .load .ks fun _ => .load
    .kb fun _ => .store .kb <| .load .xv fun _ => .load .vs fun _ => .load .v fun _ => .store .v <| .ret trivial

theorem part6_safe  : Sf c R none (k0_part6 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part6
  exact .load .xk fun _ => .load .k fun _ => .store .k <| .load .k fun _ => .store .k <| .load .ks fun _ => .load .kb fun _ =>
    .store .kb <| .load .xv fun _ => .load .vs fun _ => .load .v fun _ => .store .v <| .load .xs fun _ => .ret trivial

theorem part7_safe {v184 : Vec F S1x12x2048 .f32} {u : Mxu F} (h : St none' u) :
    Sf c R none (k0_part7 i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) u v184) (St none') := by
  unfold k0_part7
  refine .load _ fun _ => .store _ <| .load _ fun _ => .store _ <| .load _ fun _ => .store _ <|
    .call 12 (fun _ h => by cases h) (while_safe 12 0 rfl 6#32 (.inl rfl) u h) fun x hx => ?_
  obtain ⟨x0, x1, u'⟩ := x
  exact .load _ fun _ => .load _ fun _ => .store _ <| .load _ fun _ => .load _ fun _ => .store _ <| .ret hx

theorem part8_safe  : Sf c R none (k0_part8 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part8
  exact .load .ct fun _ => .load .oc fun _ => .store .oc <| .load .ct fun _ => .load .oc fun _ => .store .oc <| .load .ct fun _
    => .load .oc fun _ => .store .oc <| .load .ct fun _ => .load .oc fun _ => .store .oc <| .load .ct fun _ => .load .oc
    fun _ => .store .oc <| .ret trivial

theorem part9_safe  : Sf c R none (k0_part9 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part9
  exact .load .ct fun _ => .load .oc fun _ => .store .oc <| .load .ct fun _ => .load .oc fun _ => .store .oc <| .load .et fun _
    => .load .oe fun _ => .store .oe <| .load .ct fun _ => .load .oc fun _ => .store .oc <| .load .ct fun _ => .load .oc
    fun _ => .ret trivial

theorem part10_safe {v277 : FVec F S1x256x128 .fp8e4m3} : Sf c R none (k0_part10 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v277) (fun _ => True) := by
  unfold k0_part10
  exact .store .oc <| .load .ct fun _ => .load .oc fun _ => .store .oc <| .load .ct fun _ => .load .oc fun _ => .store .oc <|
    .load .ct fun _ => .load .oc fun _ => .store .oc <| .load .ct fun _ => .load .oc fun _ => .store .oc <| .load .ct
    fun _ => .load .oc fun _ => .ret trivial

theorem part11_safe {v307 : FVec F S1x256x128 .fp8e4m3} : Sf c R none (k0_part11 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v307) (fun _ => True) := by
  unfold k0_part11
  exact .store .oc <| .load .ct fun _ => .load .oc fun _ => .store .oc <| .load .ct fun _ => .load .oc fun _ => .store .oc <|
    .load .et fun _ => .load .oe fun _ => .store .oe <| .load .ct fun _ => .load .oc fun _ => .store .oc <| .load .ct
    fun _ => .load .oc fun _ => .ret trivial

theorem part12_safe {v336 : FVec F S256x128 .fp8e4m3} {v337 : Vec F S1x256x128 .fp8e4m3} : Sf c R none (k0_part12 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v336 v337) (fun _ => True) := by
  unfold k0_part12
  exact .store .oc <| .load .ct fun _ => .load .oc fun _ => .store .oc <| .load .ct fun _ => .load .oc fun _ => .store .oc <|
    .load .ct fun _ => .load .oc fun _ => .store .oc <| .load .ct fun _ => .load .oc fun _ => .store .oc <| .load .ct
    fun _ => .load .oc fun _ => .ret trivial

theorem part13_safe {v366 : FVec F S256x128 .fp8e4m3} {v367 : Vec F S1x256x128 .fp8e4m3} : Sf c R none (k0_part13 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v366 v367) (fun _ => True) := by
  unfold k0_part13
  exact .store .oc <| .load .ct fun _ => .load .oc fun _ => .store .oc <| .load .ct fun _ => .load .oc fun _ => .store .oc <|
    .load .et fun _ => .load .oe fun _ => .store .oe <| .load .ct fun _ => .load .oc fun _ => .store .oc <| .load .ct
    fun _ => .ret trivial

theorem part14_safe {v398 : FVec F S256x128 .fp8e4m3} : Sf c R none (k0_part14 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v398) (fun _ => True) := by
  unfold k0_part14
  exact .load .oc fun _ => .store .oc <| .load .ct fun _ => .load .oc fun _ => .store .oc <| .load .ct fun _ => .load .oc fun _
    => .store .oc <| .load .ct fun _ => .load .oc fun _ => .store .oc <| .load .ct fun _ => .load .oc fun _ => .store
    .oc <| .load .ct fun _ => .ret trivial

theorem part15_safe {v428 : FVec F S256x128 .fp8e4m3} : Sf c R none (k0_part15 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v428) (fun _ => True) := by
  unfold k0_part15
  exact .load .oc fun _ => .store .oc <| .load .ct fun _ => .load .oc fun _ => .store .oc <| .load .ct fun _ => .load .oc fun _
    => .store .oc <| .load .et fun _ => .load .oe fun _ => .store .oe <| .load .ct fun _ => .load .oc fun _ => .store
    .oc <| .load .ct fun _ => .ret trivial

theorem part16_safe {v460 : FVec F S256x128 .fp8e4m3} : Sf c R none (k0_part16 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v460) (fun _ => True) := by
  unfold k0_part16
  exact .load .oc fun _ => .store .oc <| .load .ct fun _ => .load .oc fun _ => .store .oc <| .load .ct fun _ => .load .oc fun _
    => .store .oc <| .load .ct fun _ => .load .oc fun _ => .store .oc <| .load .ct fun _ => .load .oc fun _ => .store
    .oc <| .load .ct fun _ => .ret trivial

theorem part17_safe {v490 : FVec F S256x128 .fp8e4m3} : Sf c R none (k0_part17 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v490) (fun _ => True) := by
  unfold k0_part17
  exact .load .oc fun _ => .store .oc <| .load .ct fun _ => .load .oc fun _ => .store .oc <| .load .ct fun _ => .load .oc fun _
    => .store .oc <| .load .et fun _ => .load .oe fun _ => .store .oe <| .load .ct fun _ => .load .oc fun _ => .store
    .oc <| .load .ct fun _ => .ret trivial

theorem part18_safe {v520 : Vec F S128x256 .bf16} : Sf c R none (k0_part18 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v520) (fun _ => True) := by
  unfold k0_part18
  exact .load .oc fun _ => .store .oc <| .load .ct fun _ => .load .oc fun _ => .store .oc <| .load .ct fun _ => .load .oc fun _
    => .store .oc <| .load .ct fun _ => .load .oc fun _ => .store .oc <| .load .ct fun _ => .load .oc fun _ => .store
    .oc <| .load .ct fun _ => .ret trivial

theorem part19_safe {v550 : Vec F S128x256 .bf16} : Sf c R none (k0_part19 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v550) (fun _ => True) := by
  unfold k0_part19
  exact .load .oc fun _ => .store .oc <| .load .ct fun _ => .load .oc fun _ => .store .oc <| .load .ct fun _ => .load .oc fun _
    => .store .oc <| .load .et fun _ => .load .oe fun _ => .store .oe <| .load .ct fun _ => .load .oc fun _ => .store
    .oc <| .ret trivial

theorem part20_safe  : Sf c R none (k0_part20 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part20
  exact .load .ct fun _ => .load .oc fun _ => .store .oc <| .load .ct fun _ => .load .oc fun _ => .store .oc <| .load .ct fun _
    => .load .oc fun _ => .store .oc <| .load .ct fun _ => .load .oc fun _ => .store .oc <| .load .ct fun _ => .load .oc
    fun _ => .store .oc <| .ret trivial

theorem part21_safe  : Sf c R none (k0_part21 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part21
  exact .load .ct fun _ => .load .oc fun _ => .store .oc <| .load .ct fun _ => .load .oc fun _ => .store .oc <| .load .ct fun _
    => .load .oc fun _ => .store .oc <| .load .et fun _ => .load .oe fun _ => .store .oe <| .load .ct fun _ => .load .oc
    fun _ => .ret trivial

theorem part22_safe {v643 : FVec F S1x256x128 .fp8e4m3} : Sf c R none (k0_part22 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v643) (fun _ => True) := by
  unfold k0_part22
  exact .store .oc <| .load .ct fun _ => .load .oc fun _ => .store .oc <| .load .ct fun _ => .load .oc fun _ => .store .oc <|
    .load .ct fun _ => .load .oc fun _ => .store .oc <| .load .ct fun _ => .load .oc fun _ => .store .oc <| .load .ct
    fun _ => .load .oc fun _ => .ret trivial

/-- The kernel's body runs from any contents of its windows and scratch. -/
theorem body_safe : Sf c R none (cc0_gqa_prefill (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) (fun _ => True) := by
  have h23 : Sf c R none (k0_part23 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) (St none') := by
    unfold k0_part23
    exact .bind part1_safe fun u hu => .bind part2_safe fun _ _ => .bind part3_safe fun _ _ => .bind part4_safe
      fun _ _ => .bind part5_safe fun _ _ => .bind part6_safe fun _ _ => .bind (part7_safe hu) fun u hu =>
      .bind part8_safe fun _ _ => .bind part9_safe fun _ _ => .bind part10_safe fun _ _ => .bind part11_safe
      fun ⟨_, _⟩ _ => .bind part12_safe fun ⟨_, _⟩ _ => .bind part13_safe fun _ _ => .bind part14_safe fun _ _
      => .bind part15_safe fun _ _ => .bind part16_safe fun _ _ => .bind part17_safe fun _ _ => .bind
      part18_safe fun _ _ => .bind part19_safe fun _ _ => .bind part20_safe fun _ _ => .bind part21_safe fun _
      _ => .bind part22_safe fun _ _ =>
      .store .oc <| .load .ct fun _ => .load .oc fun _ => .store .oc <| .load .ct fun _ => .load .oc fun _ => .store .oc <|
      .load .ct fun _ => .load .oc fun _ => .store .oc <| .ret hu
  unfold cc0_gqa_prefill
  refine .bind h23 fun u hu => .load .et fun _ => .load .oe fun _ => .store .oe <| .assume ⟨fun q r => ?_, fun q r => ?_⟩ <| .ret trivial
  · rw [hu.1]; rfl
  · by_contra h
    exact hu.2 q r (by simpa using h)

end Cert.Kernel.Pair
-- ==== Proof.Run.lean ====
/-
  The kernel runs: its body's safety carried through the pipeline over the sixteen sequences, and from there to the
  whole program, which ends with its arguments unchanged and every semaphore at zero.
-/
module

public import proofs.«01_k».proof.Proof.Whole
public import proofs.«01_k».proof.Proof.Gen.Kernel.Launch
public import proofs.«01_k».proof.Proof.Gen.Kernel.Points

@[expose] public section

noncomputable section

namespace Cert.Kernel.Pair

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point of the grid -/

/-- Where the kernel's buffers are at point `t`. -/
abbrev refs (t : Fin (cfg0 (F := F)).N) : Refs
  | .xq => win0_0.stage ((cfg0 (F := F)).slots t 0) | .xs => win0_1.stage ((cfg0 (F := F)).slots t 1) | .xk => win0_2.stage ((cfg0 (F := F)).slots t 2) | .ks => win0_3.stage ((cfg0 (F := F)).slots t 3) | .xv => win0_4.stage ((cfg0 (F := F)).slots t 4) | .vs => win0_5.stage ((cfg0 (F := F)).slots t 5)
  | .oc => win0_6.stage ((cfg0 (F := F)).slots t 6) | .oe => win0_7.stage ((cfg0 (F := F)).slots t 7)
  | .q => Memref.whole cc0_scratch0 | .k => Memref.whole cc0_scratch1 | .v => Memref.whole cc0_scratch2
  | .kb => Memref.whole cc0_scratch3 | .cq => Memref.whole cc0_scratch4 | .ct => Memref.whole cc0_scratch5
  | .et => Memref.whole cc0_scratch6 | .p => Memref.whole cc0_scratch7 | .row => Memref.whole cc0_scratch8
  | .mx => Memref.whole cc0_scratch9 | .tri => Memref.whole cc0_scratch10 | .bad => Memref.whole cc0_scratch11

theorem refs_whole (t : Fin (cfg0 (F := F)).N) : ∀ s, (refs t s).IsWhole
  | .xq => hstage0_0 (((cfg0 (F := F)).slots t 0).cast nbuf0_0) | .xs => hstage0_1 (((cfg0 (F := F)).slots t 1).cast nbuf0_1) | .xk => hstage0_2 (((cfg0 (F := F)).slots t 2).cast nbuf0_2) | .ks => hstage0_3 (((cfg0 (F := F)).slots t 3).cast nbuf0_3) | .xv => hstage0_4 (((cfg0 (F := F)).slots t 4).cast nbuf0_4)
  | .vs => hstage0_5 (((cfg0 (F := F)).slots t 5).cast nbuf0_5) | .oc => hstage0_6 (((cfg0 (F := F)).slots t 6).cast nbuf0_6) | .oe => hstage0_7 (((cfg0 (F := F)).slots t 7).cast nbuf0_7)
  | .q => Memref.isWhole_whole _ | .k => Memref.isWhole_whole _ | .v => Memref.isWhole_whole _
  | .kb => Memref.isWhole_whole _ | .cq => Memref.isWhole_whole _ | .ct => Memref.isWhole_whole _
  | .et => Memref.isWhole_whole _ | .p => Memref.isWhole_whole _ | .row => Memref.isWhole_whole _
  | .mx => Memref.isWhole_whole _ | .tri => Memref.isWhole_whole _ | .bad => Memref.isWhole_whole _

/-- The buffers' ownership, buffer by buffer. -/
theorem own_eq (c : Dev nD) (R : Refs) (μ : Mem F) :
    (own c R μ : sProp 𝕄) = iprop(owns (c : Thread nD τ) (R .xq) fullShare (μ .xq) ∗ owns (c : Thread nD τ) (R .xs) fullShare (μ .xs)
      ∗ owns (c : Thread nD τ) (R .xk) fullShare (μ .xk) ∗ owns (c : Thread nD τ) (R .ks) fullShare (μ .ks)
      ∗ owns (c : Thread nD τ) (R .xv) fullShare (μ .xv) ∗ owns (c : Thread nD τ) (R .vs) fullShare (μ .vs)
      ∗ owns (c : Thread nD τ) (R .oc) fullShare (μ .oc) ∗ owns (c : Thread nD τ) (R .oe) fullShare (μ .oe)
      ∗ owns (c : Thread nD τ) (R .q) fullShare (μ .q) ∗ owns (c : Thread nD τ) (R .k) fullShare (μ .k)
      ∗ owns (c : Thread nD τ) (R .v) fullShare (μ .v) ∗ owns (c : Thread nD τ) (R .kb) fullShare (μ .kb)
      ∗ owns (c : Thread nD τ) (R .cq) fullShare (μ .cq) ∗ owns (c : Thread nD τ) (R .ct) fullShare (μ .ct)
      ∗ owns (c : Thread nD τ) (R .et) fullShare (μ .et) ∗ owns (c : Thread nD τ) (R .p) fullShare (μ .p)
      ∗ owns (c : Thread nD τ) (R .row) fullShare (μ .row) ∗ owns (c : Thread nD τ) (R .mx) fullShare (μ .mx)
      ∗ owns (c : Thread nD τ) (R .tri) fullShare (μ .tri) ∗ owns (c : Thread nD τ) (R .bad) fullShare (μ .bad)) := by
  unfold own
  exact bigSep_univ_eq_bigSepL ([.xq, .xs, .xk, .ks, .xv, .vs, .oc, .oe, .q, .k, .v, .kb, .cq, .ct, .et, .p, .row, .mx, .tri, .bad] : List Slot)
    (by decide) (by decide) _

/-- The scratch buffers' contents as found, beside the windows' `Y`. -/
def mem (t : Fin (cfg0 (F := F)).N) (Y : (w : Fin (cfg0 (F := F)).W) → ((cfg0 (F := F)).win w).block.Idx → Elt F ((cfg0 (F := F)).win w).elt)
    (d0 : Vec F S1152x2048 .fp8e4m3) (d1 : Vec F S4x2048x128 .fp8e4m3) (d2 : Vec F S4x96x2048 .bf16) (d3 : Vec F S4x2048x128 .f32)
    (d4 : Vec F S12x2048 .f32) (d5 : Vec F S1152x2048 .bf16) (d6 : Vec F S128x2048 .f32) (d7 : Vec F S2x2x2048x256 .f32)
    (d8 : Vec F S2x16x256 .f32) (d9 : Vec F S16x256 .f32) (d10 : Vec F S128x128 .f32) (d11 : Vec F S1x256 .f32) : Mem F
  | .xq => Y 0 | .xs => Y 1 | .xk => Y 2 | .ks => Y 3 | .xv => Y 4 | .vs => Y 5 | .oc => Y 6 | .oe => Y 7
  | .q => d0 | .k => d1 | .v => d2 | .kb => d3 | .cq => d4 | .ct => d5 | .et => d6 | .p => d7 | .row => d8 | .mx => d9
  | .tri => d10 | .bad => d11

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-! ## The program's lines before the call -/

/-- What each buffer holds when the call begins. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

set_option maxHeartbeats 1600000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_eq (b : Ref sig .tc) (h0 : b ≠ main_v0) (h1 : b ≠ main_v1) (c : Dev nD) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The run -/

/-- The proof data: the windows' arrays as the call finds them; a window's buffer may be left holding anything. -/
def rdat (c : Dev nD) : RDat τ (Elt F) Unit ℕ (UR sig nD τ) ℕ (cfg0 (F := F)) c where
  A w := V m c (Pipeline.arrRef spec0 w)
  after _ _ _ _ := True
  Φ _ := Pipeline.ΦA spec0 c
  q _ := fullShare
  owed _ := 0

theorem A_eq (c : Dev nD) (w : Fin (cfg0 (F := F)).W) : (rdat m c).A w = V m c (Pipeline.arrRef spec0 w) := by
  dsimp only [rdat]

/-- What the pipeline takes back after the body. -/
theorem pipe_finish (c : Dev nD) (t : Fin (cfg0 (F := F)).N)
    (Y : (w : Fin (cfg0 (F := F)).W) → ((cfg0 (F := F)).win w).block.Idx → Elt F ((cfg0 (F := F)).win w).elt) :
    (iprop((∃ μ', ⌜True⌝ ∗ own c (refs t) μ') ∗ (∃ r, prngReg c r) ∗ (rdat m c).owesAt () t.castSucc) : sProp 𝕄)
      ⊢ iprop((rdat m c).Φ t.succ ∗ (rdat m c).owesAt () t.succ
        ∗ bigSep Finset.univ fun w => iprop(∃ X, ⌜(rdat m c).after w t (Y w) X⌝
          ∗ owns (c : Thread nD τ) (((cfg0 (F := F)).win w).stage ((cfg0 (F := F)).slots t w)) fullShare X)) := by
  rw [bigSep_W0, show (rdat m c).Φ t.succ = Pipeline.ΦA spec0 c from rfl,
    show (rdat m c).owesAt () t.succ = (rdat m c).owesAt () t.castSucc from rfl]
  unfold Pipeline.ΦA
  rw [scopedRest0_eq]
  simp only [← owns_whole, own_eq]
  iintro ⟨⟨%μ, -, W0, W1, W2, W3, W4, W5, W6, W7, S0, S1, S2, S3, S4, S5, S6, S7, S8, S9, S10, S11⟩, HR, HO⟩
  isplitl [HR S0 S1 S2 S3 S4 S5 S6 S7 S8 S9 S10 S11]
  · isplitr [HR]
    swap; · iexact HR
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    iexists _; iexact S11
  isplitl [HO]; · iexact HO
  isplitl [W0]; · iexists (μ .xq); isplitr; · ipureintro; trivial
                  iexact W0
  isplitl [W1]; · iexists (μ .xs); isplitr; · ipureintro; trivial
                  iexact W1
  isplitl [W2]; · iexists (μ .xk); isplitr; · ipureintro; trivial
                  iexact W2
  isplitl [W3]; · iexists (μ .ks); isplitr; · ipureintro; trivial
                  iexact W3
  isplitl [W4]; · iexists (μ .xv); isplitr; · ipureintro; trivial
                  iexact W4
  isplitl [W5]; · iexists (μ .vs); isplitr; · ipureintro; trivial
                  iexact W5
  isplitl [W6]; · iexists (μ .oc); isplitr; · ipureintro; trivial
                  iexact W6
  iexists (μ .oe); isplitr; · ipureintro; trivial
  iexact W7

theorem body_runs (c : Dev nD) (t : Fin (cfg0 (F := F)).N) (μ : Mem F) :
    (own c (refs t) μ : sProp 𝕄) ⊢ wp frame (wpE (defs₀ (F := F)) Variants.nat (c : Thread nD τ) none)
      Set.univ (bodyAt0 t) (fun _ => iprop(∃ μ', ⌜True⌝ ∗ own c (refs t) μ')) := by
  have h := body_safe (F := F) (c := c) (R := refs t) (i := grid0.coords t) (H := refs_whole t)
  have h2 := h μ
  unfold Ev at h2
  dsimp only [refs] at h2
  unfold bodyAt0
  dsimp only [refs]
  convert h2 using 4

theorem body_obligation (c : Dev nD) : (rdat m c).BodyObligation (defs₀ (F := F)) Variants.nat () Set.univ := fun t Y _ => by
  rw [bigSep_W0, defs₀_row, show (rdat m c).Φ t.castSucc = Pipeline.ΦA spec0 c from rfl]
  unfold Pipeline.ΦA
  rw [scopedRest0_eq]
  simp only [← owns_whole]
  iintro ⟨⟨⟨⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩, ⟨%d10, S10⟩, ⟨%d11, S11⟩⟩, HR⟩,
    HO, W0, W1, W2, W3, W4, W5, W6, W7⟩
  have h := body_runs c t (mem t Y d0 d1 d2 d3 d4 d5 d6 d7 d8 d9 d10 d11)
  rw [own_eq (μ := mem t Y d0 d1 d2 d3 d4 d5 d6 d7 d8 d9 d10 d11)] at h
  have h' := (wp_frame_r frame (wpE (defs₀ (F := F)) Variants.nat (c : Thread nD τ) none) Set.univ
    (R := iprop((∃ r, prngReg c r) ∗ (rdat m c).owesAt () t.castSucc))).trans
    (wp_mono _ _ _ (p := bodyAt0 t) fun _ => pipe_finish m c t Y)
  iapply h'
  isplitr [HR HO]
  · iapply h
    dsimp only [mem]
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [HR]; · iexact HR
  iexact HO

/-- Every execution ends, with every semaphore at zero and the call's arrays and the other arguments accounted for. -/
theorem run_main : θ_run defs (onTc (τ := τ) (main (F := F))) (s₀ m ρ)
    (fun r => RDat.FramePost (cfg0 (F := F)) (rdat m) (V m) r ∧ r.2.sem = fun _ => 0) :=
  RDat.θ_run_frame cfgs (0 : Fin 1) launch0 defs₀ Variants.nat (rdat m) m ρ main (body_obligation m)
    (fun c w => by unfold RDat.share; split <;> rfl) (fun _ _ => rfl) (V m) (hmain m Variants.nat) (A_eq m) (fun _ _ => rfl) (Q' := _) (hQ' := fun _ h => h)

/-- The kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r ⟨h, hs⟩ => ⟨fun c => ⟨?_, ?_, ?_, ?_, ?_, ?_⟩, hs⟩) (run_main m ρ)
  · exact (RDat.FramePost.arr_in h c 0 rfl).trans ((A_eq m c 0).trans (V_eq m main_arg0 (by decide) (by decide) c))
  · exact ((h c).2 main_arg1 (Pipeline.mem_restRefs_of main_arg1 (by decide) (by decide : ∀ w : Fin 8, (spec0 w).arr.view.ref ≠ main_arg1))).trans (V_eq m main_arg1 (by decide) (by decide) c)
  · exact (RDat.FramePost.arr_in h c 2 rfl).trans ((A_eq m c 2).trans (V_eq m main_arg2 (by decide) (by decide) c))
  · exact (RDat.FramePost.arr_in h c 3 rfl).trans ((A_eq m c 3).trans (V_eq m main_arg3 (by decide) (by decide) c))
  · exact (RDat.FramePost.arr_in h c 4 rfl).trans ((A_eq m c 4).trans (V_eq m main_arg4 (by decide) (by decide) c))
  · exact ((h c).2 main_arg5 (Pipeline.mem_restRefs_of main_arg5 (by decide) (by decide : ∀ w : Fin 8, (spec0 w).arr.view.ref ≠ main_arg5))).trans (V_eq m main_arg5 (by decide) (by decide) c)

end Cert.Kernel.Pair
-- ==== Proof.Ideal.Tiles.lean ====
/-
  The pure operations of one step of the kernel's head-pair loop, named: what is read from the buffers
  goes in, the tile that is pushed, multiplied or stored comes out.  Nothing here touches memory.
-/
module

public import proofs.«01_k».proof.KernelIdeal

@[expose] public section

namespace Cert.KernelIdeal.Pair

open Idealize.ShloMosaic Idealize.SL.Sem Cert.KernelIdeal
open Cert.KernelIdeal.Facts₀

variable {F : FTy → Type} [FloatOps F] [Facts]

/-- A head's query tile, padded to the unit's 256 rows. -/
def qTile (q : Vec F S96x256 .fp8e4m3) : FVec F S256x256 .bf16 :=
  extf .bf16 (concatenate S256x256 0 [⟨S96x256, q⟩, ⟨S160x256, broadcast S160x256 (Scalar.ofBits .fp8e4m3 0x00#8)⟩]
    concatenates_S96x256_S160x256_S256x256_d0) bitsLt_fp8e4m3_bf16

/-- 128 rows of keys, padded to the unit's 256 columns. -/
def kTile (k : Vec F S1x128x128 .fp8e4m3) : FVec F S128x256 .bf16 :=
  extf .bf16 (concatenate S128x256 1 [⟨S128x128, shapeCast S128x128 k shapeCasts_S1x128x128_S128x128⟩,
    ⟨S128x128, broadcast S128x128 (Scalar.ofBits .fp8e4m3 0x00#8)⟩] concatenates_S128x128_S128x128_S128x256_d1) bitsLt_fp8e4m3_bf16

/-- One half (`half` = 0: columns 0–127, 1: columns 128–255) of a popped score tile, scaled by the keys' and the queries' scales. -/
def zHalf (half : Fin 2) (s : FVec F S128x256 .f32) (kb : Vec F S1x128x128 .f32) (cq : Vec F S1x256 .f32) : FVec F S128x128 .f32 :=
  match half with
  | 0 => mulf (mulf (extractStridedSlice S128x128 ![0, 0] s slices_S128x256_o0_0_S128x128)
          (shapeCast S128x128 kb shapeCasts_S1x128x128_S128x128))
          (broadcastTo S128x128 (extractStridedSlice S1x128 ![0, 0] cq slices_S1x256_o0_0_S1x128) broadcasts_S1x128_S128x128)
  | 1 => mulf (mulf (extractStridedSlice S128x128 ![0, 128] s slices_S128x256_o0_128_S128x128)
          (shapeCast S128x128 kb shapeCasts_S1x128x128_S128x128))
          (broadcastTo S128x128 (extractStridedSlice S1x128 ![0, 128] cq slices_S1x256_o0_128_S1x128) broadcasts_S1x128_S128x128)

/-- The estimated shift of a column: the maximum of the tile's first 32 rows plus 90. -/
def est (z : FVec F S128x128 .f32) : FVec F S1x128 .f32 :=
  addf (shapeCast S1x128 (multiReduction .maximumf [0] S128 (extractStridedSlice S32x128 ![0, 0] z slices_S128x128_o0_0_S32x128)
    0xFF800000#32 reduces_S32x128_S128 (.inl rfl) rfl) shapeCasts_S128_S1x128) (broadcast S1x128 (Scalar.ofBits .f32 0x42B40000#32))

/-- The unnormalised weights of a tile: `2 ^ (z - shift)`. -/
def pTile (z : FVec F S128x128 .f32) (shift : Vec F S1x1x128 .f32) : FVec F S128x128 .f32 :=
  exp2 (subf z (broadcastTo S128x128 (shapeCast S1x128 shift shapeCasts_S1x1x128_S1x128) broadcasts_S1x128_S128x128))

/-- The sums of the tile over its sixteen groups of eight rows. -/
def fold8 (p : FVec F S128x128 .f32) : FVec F S8x128 .f32 :=
  multiReduction .add [0] S8x128 (shapeCast S16x8x128 p shapeCasts_S128x128_S16x8x128) 0x00000000#32 reduces_S16x8x128_S8x128 (.inl rfl) rfl

/-- The column sums from the two halves' partial sums. -/
def lRow (d0 d1 : FVec F S8x128 .f32) : FVec F S1x256 .f32 :=
  shapeCast S1x256 (multiReduction .add [0] S256 (concatenate S8x256 1 [⟨S8x128, d0⟩, ⟨S8x128, d1⟩] concatenates_S8x128_S8x128_S8x256_d1)
    0x00000000#32 reduces_S8x256_S256 (.inl rfl) rfl) shapeCasts_S256_S1x256

/-- The flag row after a query tile: 1 where a sum reached the limit, else what it was. -/
def badRow (b : Vec F S1x256 .f32) (l : FVec F S1x256 .f32) : FVec F S1x256 .f32 :=
  shapeCast S1x256 (maximumf b (select (cmpf .olt l (broadcast S1x256 (Scalar.ofBits .f32 0x7B800000#32)))
    (broadcast S1x256 (Scalar.ofBits .f32 0x00000000#32)) (broadcast S1x256 (Scalar.ofBits .f32 0x3F800000#32)))) shapeCasts_S1x256_S1x256

/-- The reciprocal sums. -/
def invRow (l : FVec F S1x256 .f32) : FVec F S1x1x256 .f32 :=
  shapeCast S1x1x256 (divf (broadcast S1x256 (Scalar.ofBits .f32 0x3F800000#32)) l) shapeCasts_S1x256_S1x1x256

/-- The weights of 256 keys below the diagonal, normalised. -/
def wFull (r : Vec F S1x1x256 .f32) (p : Vec F S1x1x256x256 .f32) : FVec F S256x256 .bf16 :=
  truncf .bf16 (mulf (shapeCast S256x256 p shapeCasts_S1x1x256x256_S256x256)
    (broadcastTo S256x256 (shapeCast S1x256 r shapeCasts_S1x1x256_S1x256) broadcasts_S1x256_S256x256)) bitsLt_bf16_f32

/-- The weights of the 256 keys on the diagonal, normalised; the lower left quarter is zero. -/
def wDiag (r : Vec F S1x1x256 .f32) (p : Vec F S1x1x128x256 .f32) (p' : Vec F S1x1x128x128 .f32) : FVec F S256x256 .bf16 :=
  concatenate S256x256 0 [⟨S128x256, truncf .bf16 (mulf (shapeCast S128x256 p shapeCasts_S1x1x128x256_S128x256)
      (broadcastTo S128x256 (shapeCast S1x256 r shapeCasts_S1x1x256_S1x256) broadcasts_S1x256_S128x256)) bitsLt_bf16_f32⟩,
    ⟨S128x256, concatenate S128x256 1 [⟨S128x128, broadcast S128x128 (Scalar.ofBits .bf16 0x0000#16)⟩,
      ⟨S128x128, truncf .bf16 (mulf (shapeCast S128x128 p' shapeCasts_S1x1x128x128_S128x128)
        (broadcastTo S128x128 (extractStridedSlice S1x128 ![0, 128] (shapeCast S1x256 r shapeCasts_S1x1x256_S1x256) slices_S1x256_o0_128_S1x128)
          broadcasts_S1x128_S128x128)) bitsLt_bf16_f32⟩] concatenates_S128x128_S128x128_S128x256_d1⟩] concatenates_S128x256_S128x256_S256x256_d0

/-- Block `b` of 32 rows of a head's output tile. -/
def oBlock (b : Fin 3) (o : FVec F S96x256 .f32) : FVec F S32x256 .f32 :=
  match b with
  | 0 => extractStridedSlice S32x256 ![0, 0] o slices_S96x256_o0_0_S32x256
  | 1 => extractStridedSlice S32x256 ![32, 0] o slices_S96x256_o32_0_S32x256
  | 2 => extractStridedSlice S32x256 ![64, 0] o slices_S96x256_o64_0_S32x256

/-- The largest absolute value of each column of a block. -/
def amax (ob : FVec F S32x256 .f32) : FVec F S1x256 .f32 :=
  shapeCast S1x256 (multiReduction .maximumf [0] S256 (absf ob) 0xFF800000#32 reduces_S32x256_S256 (.inl rfl) rfl) shapeCasts_S256_S1x256

/-- `floor (log2 y)`, as a quotient of natural logarithms, before the correction. -/
def flog (y : FVec F S1x256 .f32) : FVec F S1x256 .f32 :=
  floor (divf (log y) (log (broadcast S1x256 (Scalar.ofBits .f32 0x40000000#32))))

/-- The power-of-two exponent of a block's scale. -/
def expo (a : FVec F S1x256 .f32) : IVec S1x256 32 :=
  let y := mulf a (broadcast S1x256 (Scalar.ofBits .f32 0x3B124925#32))
  let f := flog y
  let one : FVec F S1x256 .f32 := broadcast S1x256 (Scalar.ofBits .f32 0x3F800000#32)
  let zero : FVec F S1x256 .f32 := broadcast S1x256 (Scalar.ofBits .f32 0x00000000#32)
  select (cmpf .oeq a zero) (broadcast S1x256 0#32)
    (addi (fptosi 32 (subf (addf f (select (cmpf .oge y (exp2 (addf f one))) one zero)) (select (cmpf .olt y (exp2 f)) one zero)))
      (broadcast S1x256 1#32))

/-- A block's codes. -/
def codes (ob : FVec F S32x256 .f32) : FVec F S32x256 .bf16 :=
  shapeCast S32x256 (truncf .bf16 (minimumf (broadcast S32x256 (Scalar.ofBits .f32 0x43E00000#32))
    (maximumf (broadcast S32x256 (Scalar.ofBits .f32 0xC3E00000#32))
      (mulf ob (broadcastTo S32x256 (exp2 (sitofp .f32 (subi (broadcast S1x256 0#32) (expo (amax ob))))) broadcasts_S1x256_S32x256))))
      bitsLt_bf16_f32) shapeCasts_S32x256_S32x256

/-- A block's biased exponents, as floats. -/
def exps (ob : FVec F S32x256 .f32) : FVec F S1x256 .f32 :=
  shapeCast S1x256 (sitofp .f32 (addi (expo (amax ob)) (broadcast S1x256 127#32))) shapeCasts_S1x256_S1x256

end Cert.KernelIdeal.Pair
-- ==== Proof.Ideal.Ev.lean ====
/-
  Running the kernel's programs over the contents of its buffers: `Ev` says that a program, holding every
  buffer at given contents, ends with the buffers at contents its result is described with; one rule per operation.
-/
module

public import proofs.«01_k».proof.Proof.Gen.KernelIdeal
public import Idealize.ShloMosaic.Lib.Tactic
public import Idealize.ShloMosaic.Lib.Exec
public import Idealize.ShloMosaic.Lib.Claim
public import Idealize.ShloMosaic.Lib.Pipeline.Frame
public import Idealize.ShloMosaic.Lib.Pipeline.FrameBody

@[expose] public section

noncomputable section

namespace Cert.KernelIdeal.Pair

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

/-- A program of the kernel. -/
abbrev Pr (F : FTy → Type) [FloatOps F] (α : Type) := Prog (TpuEff nD τ sig (Elt F) (Λ₀ F) .tc) α

/-- The kernel's buffers: its six operands' blocks, its two results' blocks, its scratch. -/
inductive Slot where
  | xq | xs | xk | ks | xv | vs | oc | oe | q | k | v | kb | cq | ct | et | p | row | mx | tri | bad
  deriving DecidableEq

instance : Fintype Slot :=
  ⟨⟨Multiset.ofList [.xq, .xs, .xk, .ks, .xv, .vs, .oc, .oe, .q, .k, .v, .kb, .cq, .ct, .et, .p, .row, .mx, .tri, .bad], by decide⟩,
    fun s => by cases s <;> decide⟩

/-- A buffer's shape. -/
@[reducible] def Slot.shape : Slot → Shape
  | .xq => S1x2048x1152 | .xs => S1x12x2048 | .xk => S1x2048x384 | .ks => S1x2048x4 | .xv => S1x2048x384 | .vs => S1x4x2048
  | .oc => S1x2048x1152 | .oe => S1x2048x36
  | .q => S1152x2048 | .k => S4x2048x128 | .v => S4x96x2048 | .kb => S4x2048x128 | .cq => S12x2048 | .ct => S1152x2048
  | .et => S128x2048 | .p => S2x2x2048x256 | .row => S2x16x256 | .mx => S16x256 | .tri => S128x128 | .bad => S1x256

/-- A buffer's element type. -/
@[reducible] def Slot.elt : Slot → EltTy
  | .xq => .fp8e4m3 | .xs => .f32 | .xk => .fp8e4m3 | .ks => .f32 | .xv => .fp8e4m3 | .vs => .f32
  | .oc => .fp8e4m3 | .oe => .i8
  | .q => .fp8e4m3 | .k => .fp8e4m3 | .v => .bf16 | .kb => .f32 | .cq => .f32 | .ct => .bf16
  | .et => .f32 | .p => .f32 | .row => .f32 | .mx => .f32 | .tri => .f32 | .bad => .f32

/-- Where each buffer is. -/
abbrev Refs := ∀ s : Slot, Memref sig .tc .vmem s.shape s.elt

/-- What each buffer holds. -/
abbrev Mem (F : FTy → Type) := ∀ s : Slot, s.shape.Idx → Elt F s.elt

local notation "𝕄" => MT nD τ sig Unit (Elt F) ℕ (UR sig nD τ) ℕ

/-- All buffers held, at the given contents. -/
def own (c : Dev nD) (R : Refs) (μ : Mem F) : sProp 𝕄 :=
  bigSep Finset.univ fun s => owns (c : Thread nD τ) (R s) fullShare (μ s)

/-- A rectangle of contents overwritten. -/
def put {s : Shape} {e : EltTy} (r : Rect s) (w : r.shape.Idx → Elt F e) (X : s.Idx → Elt F e) : s.Idx → Elt F e :=
  fun y => match preimage? r.emb y with | some x => w x | none => X y

theorem read_put {s : Shape} {e : EltTy} (m : Memref sig .tc .vmem s e) (r : Rect s) (f : m.view.ty.Contents (Elt F))
    (w : r.shape.Idx → Elt F e) :
    m.view.read (Elt F) ((m.access r).write (Elt F) f w Finset.univ) = put r w (m.view.read (Elt F) f) := by
  funext y
  unfold put
  cases h : preimage? r.emb y with
  | some x =>
    obtain rfl : r.emb x = y := by
      by_cases hx : ∃ x', r.emb x' = y
      · obtain ⟨x', rfl⟩ := hx
        rw [preimage?_emb] at h; cases h; rfl
      · rw [preimage?_eq_none fun x' h' => hx ⟨x', h'⟩] at h; cases h
    exact View.read_slice_write_emb r f w (Finset.mem_univ x)
  | none =>
    refine View.read_slice_write_of_not_mem r f w Finset.univ ?_
    intro hm
    obtain ⟨x, -, rfl⟩ := Finset.mem_map.mp hm
    rw [preimage?_emb] at h; cases h

variable (c : Dev nD) (R : Refs) (bd : Option ℕ)

theorem bigSep_slot (s : Slot) (Φ : Slot → sProp 𝕄) :
    bigSep Finset.univ Φ = iprop(Φ s ∗ bigSep (Finset.univ.erase s) Φ) := bigSep_erase (Finset.mem_univ s)

/-- One buffer taken out of all of them, to be put back at any contents. -/
theorem own_take (s : Slot) (μ : Mem F) :
    own c R μ ⊢ iprop(owns (c : Thread nD τ) (R s) fullShare (μ s)
      ∗ (∀ X, owns (c : Thread nD τ) (R s) fullShare X -∗ own c R (Function.update μ s X))) := by
  unfold own
  rw [bigSep_slot s]
  iintro ⟨H, HR⟩
  isplitl [H]; · iexact H
  iintro %X HX
  rw [bigSep_slot s, Function.update_self]
  isplitl [HX]; · iexact HX
  rw [show bigSep (Finset.univ.erase s) (fun s' => (owns (c : Thread nD τ) (R s') fullShare (Function.update μ s X s') : sProp 𝕄))
    = bigSep (Finset.univ.erase s) (fun s' => owns (c : Thread nD τ) (R s') fullShare (μ s')) from
    bigSep_congr fun s' hs' => by rw [Function.update_of_ne (Finset.ne_of_mem_erase hs')]]
  iexact HR

/-- The program, from the buffers at `μ`, ends in a result and contents `Q` holds of. -/
def Ev {α : Type} (p : Pr F α) (μ : Mem F) (Q : α → Mem F → Prop) : Prop :=
  own c R μ ⊢ wp frame (wpE (defs₀ (F := F)) Variants.nat (c : Thread nD τ) bd) Set.univ p
    (fun a => iprop(∃ μ', ⌜Q a μ'⌝ ∗ own c R μ'))

variable {c R bd}

theorem Ev.ret {α : Type} {a : α} {μ : Mem F} {Q : α → Mem F → Prop} (h : Q a μ) : Ev c R bd (.ret a) μ Q := by
  unfold Ev
  rw [wp_ret]
  iintro H; imodintro
  iexists μ; isplitr; · ipureintro; exact h
  iexact H

theorem Ev.mono {α : Type} {p : Pr F α} {μ : Mem F} {Q Q' : α → Mem F → Prop} (h : Ev c R bd p μ Q)
    (hQ : ∀ a μ', Q a μ' → Q' a μ') : Ev c R bd p μ Q' := by
  unfold Ev at *
  refine h.trans (wp_mono _ _ _ fun a => ?_)
  iintro ⟨%μ', %hq, H⟩
  iexists μ'; isplitr; · ipureintro; exact hQ a μ' hq
  iexact H

theorem Ev.bind {α β : Type} {p : Pr F α} {k : α → Pr F β} {μ : Mem F} {Q : α → Mem F → Prop} {Q' : β → Mem F → Prop}
    (h : Ev c R bd p μ Q) (hk : ∀ a μ', Q a μ' → Ev c R bd (k a) μ' Q') : Ev c R bd (p >>= k) μ Q' := by
  unfold Ev at *
  rw [wp_bind]
  refine h.trans (wp_mono _ _ _ fun a => ?_)
  iintro ⟨%μ', %hq, H⟩
  iapply (hk a μ' hq)
  iexact H

/-- A load reads the buffer's contents. -/
theorem Ev.load (s : Slot) {r : Rect s.shape} {hl : (R s).view.LoadsAt r.toLoadRect} {β : Type} {k : (r.shape.Idx → Elt F s.elt) → Pr F β}
    {μ : Mem F} {Q : β → Mem F → Prop} (h : Ev c R bd (k fun x => μ s (r.emb x)) μ Q) :
    Ev c R bd (.op (.load (R s) r.toLoadRect hl) k) μ Q := by
  unfold Ev at *
  refine (own_take c R s μ).trans ?_
  unfold owns
  iintro ⟨⟨%f, %hf, H⟩, HR⟩
  iapply (wp_load_rect (𝒱 := Variants.nat) (c : Thread nD τ) bd Set.univ (m := R s) (r := r) (by
    rw [show ((R s).access r).set = (R s).view.setOn r.set from View.set_slice _ _]; exact Finset.map_subset_map.mpr (Finset.subset_univ _))) $$ H
  iintro H
  rw [show (((R s).access r).read (Elt F) f) = (fun x => μ s (r.emb x)) from by rw [← hf]; rfl]
  iapply h
  rw [show (own c R μ : sProp 𝕄) = own c R (Function.update μ s (μ s)) from by rw [Function.update_eq_self]]
  iapply HR
  iexists f; isplitr; · ipureintro; exact hf
  iexact H

/-- A store overwrites a rectangle of the buffer's contents. -/
theorem Ev.store (s : Slot) {r : Rect s.shape} {w : r.shape.Idx → Elt F s.elt} {hx : ((R s).access r).Stores Finset.univ}
    {hm : (Finset.univ : Finset r.shape.Idx) = Finset.univ ∨ ∀ a, r.stride a = 1} {β : Type} {k : PUnit → Pr F β}
    {μ : Mem F} {Q : β → Mem F → Prop} (h : Ev c R bd (k ⟨⟩) (Function.update μ s (put r w (μ s))) Q) :
    Ev c R bd (.op (.store (R s) r w Finset.univ hx hm) k) μ Q := by
  unfold Ev at *
  refine (own_take c R s μ).trans ?_
  unfold owns
  iintro ⟨⟨%f, %hf, H⟩, HR⟩
  iapply (wp_store (𝒱 := Variants.nat) (c : Thread nD τ) bd Set.univ (m := R s) (r := r) (Mk := Finset.univ) (by
    rw [View.setOn_univ, show ((R s).access r).set = (R s).view.setOn r.set from View.set_slice _ _]; exact Finset.map_subset_map.mpr (Finset.subset_univ _))) $$ H
  iintro H
  iapply h
  iapply HR
  iexists _; isplitr
  swap; · iexact H
  ipureintro
  rw [read_put, hf]

theorem Ev.assume {P : Prop} {d : Decidable P} {β : Type} {k : PLift P → Pr F β} {μ : Mem F} {Q : β → Mem F → Prop} (hP : P)
    (h : Ev c R bd (k ⟨hP⟩) μ Q) : Ev c R bd (.op (.assume P d) k) μ Q := by
  unfold Ev at *
  exact h.trans (wp_assume _ _ _ _ hP)

/-- A call runs the label's body, at a smaller variant. -/
theorem Ev.call {ℓ : (Λ₀ F).Label} {a : (Λ₀ F).Args ℓ} {β : Type} {k : (Λ₀ F).Result ℓ → Pr F β} {μ : Mem F}
    {Q : (Λ₀ F).Result ℓ → Mem F → Prop} {Q' : β → Mem F → Prop} (v : ℕ) (hv : ∀ u ∈ bd, v < u)
    (h : Ev c R (some v) (defs₀ (F := F) .tc ℓ a) μ Q) (hk : ∀ x μ', Q x μ' → Ev c R bd (k x) μ' Q') :
    Ev c R bd (.op (.call ℓ a) k) μ Q' := by
  unfold Ev at *
  refine BIBase.Entails.trans (h.trans (wp_mono _ _ _ fun x => ?_)) (wp_call_spec (𝒱 := Variants.nat) (c : Thread nD τ) bd Set.univ
    (wp frame (wpE (defs₀ (F := F)) Variants.nat (c : Thread nD τ) (some v)) Set.univ (defs₀ (F := F) .tc ℓ a)) v hv (le_refl _))
  iintro ⟨%μ', %hq, H⟩
  iapply (hk x μ' hq)
  iexact H

/-- A counted loop, by an invariant. -/
theorem Ev.for {w : ℕ} {σ : Type} {lb ub st : BitVec w} {hok : Scf.OK lb ub st} {init : σ}
    {body : Fin (Scf.trips lb ub st) → σ → Pr F σ} {μ : Mem F} (I : ℕ → σ → Mem F → Prop) (h0 : I 0 init μ)
    (hbody : ∀ k acc μ', I k.val acc μ' → Ev c R bd (body k acc) μ' (I (k.val + 1))) :
    Ev c R bd (Scf.for lb ub st hok init body) μ (I (Scf.trips lb ub st)) := by
  unfold Ev at *
  have := Scf.wp_for frame (wpE (defs₀ (F := F)) Variants.nat (c : Thread nD τ) bd) Set.univ lb ub st hok init body
    (fun k acc => iprop(∃ μ', ⌜I k acc μ'⌝ ∗ own c R μ')) (fun k acc => by
      iintro ⟨%μ', %hq, H⟩
      iapply (hbody k acc μ' hq)
      iexact H) (Q := fun acc => iprop(∃ μ', ⌜I (Scf.trips lb ub st) acc μ'⌝ ∗ own c R μ'))
  refine BIBase.Entails.trans ?_ this
  iintro H
  isplitl [H]
  · iexists μ; isplitr; · ipureintro; exact h0
    iexact H
  iintro %acc H
  iexact H

/-! ### Without the contents -/

variable (c R bd) in
/-- From any contents the program ends, in a result `Q` holds of. -/
def Sf {α : Type} (p : Pr F α) (Q : α → Prop) : Prop := ∀ μ, Ev c R bd p μ fun a _ => Q a

theorem Sf.ret {α : Type} {a : α} {Q : α → Prop} (h : Q a) : Sf c R bd (.ret a : Pr F α) Q := fun _ => .ret h

theorem Sf.mono {α : Type} {p : Pr F α} {Q Q' : α → Prop} (h : Sf c R bd p Q) (hQ : ∀ a, Q a → Q' a) : Sf c R bd p Q' :=
  fun μ => (h μ).mono fun a _ => hQ a

theorem Sf.bind {α β : Type} {p : Pr F α} {k : α → Pr F β} {Q : α → Prop} {Q' : β → Prop} (h : Sf c R bd p Q)
    (hk : ∀ a, Q a → Sf c R bd (k a) Q') : Sf c R bd (p >>= k) Q' :=
  fun μ => (h μ).bind fun a μ' hq => hk a hq μ'

theorem Sf.load (s : Slot) {r : Rect s.shape} {hl : (R s).view.LoadsAt r.toLoadRect} {β : Type} {k : (r.shape.Idx → Elt F s.elt) → Pr F β}
    {Q : β → Prop} (h : ∀ x, Sf c R bd (k x) Q) : Sf c R bd (.op (.load (R s) r.toLoadRect hl) k) Q :=
  fun μ => .load s (h _ μ)

theorem Sf.store (s : Slot) {r : Rect s.shape} {w : r.shape.Idx → Elt F s.elt} {hx : ((R s).access r).Stores Finset.univ}
    {hm : (Finset.univ : Finset r.shape.Idx) = Finset.univ ∨ ∀ a, r.stride a = 1} {β : Type} {k : PUnit → Pr F β}
    {Q : β → Prop} (h : Sf c R bd (k ⟨⟩) Q) : Sf c R bd (.op (.store (R s) r w Finset.univ hx hm) k) Q :=
  fun μ => .store s (h _)

theorem Sf.assume {P : Prop} {d : Decidable P} {β : Type} {k : PLift P → Pr F β} {Q : β → Prop} (hP : P)
    (h : Sf c R bd (k ⟨hP⟩) Q) : Sf c R bd (.op (.assume P d) k) Q := fun μ => .assume hP (h μ)

theorem Sf.call {ℓ : (Λ₀ F).Label} {a : (Λ₀ F).Args ℓ} {β : Type} {k : (Λ₀ F).Result ℓ → Pr F β}
    {Q : (Λ₀ F).Result ℓ → Prop} {Q' : β → Prop} (v : ℕ) (hv : ∀ u ∈ bd, v < u)
    (h : Sf c R (some v) (defs₀ (F := F) .tc ℓ a) Q) (hk : ∀ x, Q x → Sf c R bd (k x) Q') :
    Sf c R bd (.op (.call ℓ a) k) Q' := fun μ => .call v hv (h μ) fun x μ' hq => hk x hq μ'

theorem Sf.for {w : ℕ} {σ : Type} {lb ub st : BitVec w} {hok : Scf.OK lb ub st} {init : σ}
    {body : Fin (Scf.trips lb ub st) → σ → Pr F σ} (I : σ → Prop) (h0 : I init)
    (hbody : ∀ k acc, I acc → Sf c R bd (body k acc) I) : Sf c R bd (Scf.for lb ub st hok init body) I :=
  fun μ => Ev.for (fun _ a _ => I a) h0 fun k acc μ' h => hbody k acc h μ'

end Cert.KernelIdeal.Pair
-- ==== Proof.Ideal.Body.lean ====
/-
  The kernel's head-pair loop body, written as the program writes it before unrolling: `issue`, `passA`,
  `passB`, `finish` over the steps (query tile, key tile).
-/
module

public import proofs.«01_k».proof.Proof.Ideal.Tiles
public import proofs.«01_k».proof.Proof.Ideal.Ev

@[expose] public section

namespace Cert.KernelIdeal.Pair

open Idealize.ShloMosaic Idealize.SL.Sem Cert.KernelIdeal
open Cert.KernelIdeal.Facts₀

variable {F : FTy → Type} [FloatOps F] [Facts]

/-- The word of a head of the pair. -/
abbrev mw (m : Fin 2) : BitVec 32 := BitVec.ofNat 32 m.val

/-- First row of the head's queries. -/
def hrow (it : BitVec 32) (m : Fin 2) : ℕ := k0_off13 it (mw m) 0
/-- The head's key/value head. -/
def krow (it : BitVec 32) (m : Fin 2) : ℕ := k0_off14 it (mw m) 0
/-- The head. -/
def crow (it : BitVec 32) (m : Fin 2) : ℕ := k0_off17 it (mw m) 0
/-- First row of block `b` of the head's codes. -/
def orow (it : BitVec 32) (m : Fin 2) (b : Fin 3) : ℕ := k0_off23 it (mw m) (BitVec.ofNat 32 (32 * b.val)) 0
/-- The row of block `b` of the head's exponents. -/
def erow (it : BitVec 32) (m : Fin 2) (b : Fin 3) : ℕ := k0_off24 it (mw m) (BitVec.ofNat 32 b.val) 0

/-- What the check of the loop counter gives: every row the pair names lies inside its buffer. -/
structure Ok (it : BitVec 32) : Prop where
  q : ∀ m, hrow it m + 96 ≤ 1152
  k : ∀ m, krow it m + 1 ≤ 4
  c : ∀ m, crow it m + 1 ≤ 12
  o : ∀ m b, orow it m b + 32 ≤ 1152
  e : ∀ m b, erow it m b + 1 ≤ 128
  ev : ∀ m b, 2 ∣ orow it m b

theorem inb2 {r c h w R C : ℕ} (hr : r + h ≤ R) (hc : c + w ≤ C) :
    ∀ a, (![r, c] : Fin 2 → ℕ) a + (⟨2, ![h, w]⟩ : Shape).size a ≤ (⟨2, ![R, C]⟩ : Shape).size a := by
  intro a; match a with
  | ⟨0, _⟩ => exact hr
  | ⟨1, _⟩ => exact hc

theorem inb3 {i r c g h w G R C : ℕ} (hi : i + g ≤ G) (hr : r + h ≤ R) (hc : c + w ≤ C) :
    ∀ a, (![i, r, c] : Fin 3 → ℕ) a + (⟨3, ![g, h, w]⟩ : Shape).size a ≤ (⟨3, ![G, R, C]⟩ : Shape).size a := by
  intro a; match a with
  | ⟨0, _⟩ => exact hi
  | ⟨1, _⟩ => exact hr
  | ⟨2, _⟩ => exact hc

theorem inb4 {l i r c f g h w L G R C : ℕ} (hl : l + f ≤ L) (hi : i + g ≤ G) (hr : r + h ≤ R) (hc : c + w ≤ C) :
    ∀ a, (![l, i, r, c] : Fin 4 → ℕ) a + (⟨4, ![f, g, h, w]⟩ : Shape).size a ≤ (⟨4, ![L, G, R, C]⟩ : Shape).size a := by
  intro a; match a with
  | ⟨0, _⟩ => exact hl
  | ⟨1, _⟩ => exact hi
  | ⟨2, _⟩ => exact hr
  | ⟨3, _⟩ => exact hc

/-- The scratch buffers the loop uses. -/
structure Bufs where
  q : Memref sig .tc .vmem S1152x2048 .fp8e4m3
  k : Memref sig .tc .vmem S4x2048x128 .fp8e4m3
  v : Memref sig .tc .vmem S4x96x2048 .bf16
  kb : Memref sig .tc .vmem S4x2048x128 .f32
  cq : Memref sig .tc .vmem S12x2048 .f32
  ct : Memref sig .tc .vmem S1152x2048 .bf16
  et : Memref sig .tc .vmem S128x2048 .f32
  p : Memref sig .tc .vmem S2x2x2048x256 .f32
  row : Memref sig .tc .vmem S2x16x256 .f32
  mx : Memref sig .tc .vmem S16x256 .f32
  tri : Memref sig .tc .vmem S128x128 .f32
  bad : Memref sig .tc .vmem S1x256 .f32
  hct : ct.IsWhole

/-- The loop's scratch buffers, of all the kernel's. -/
abbrev bufs (R : Refs) (hct : (R .ct).IsWhole) : Bufs :=
  ⟨R .q, R .k, R .v, R .kb, R .cq, R .ct, R .et, R .p, R .row, R .mx, R .tri, R .bad, hct⟩

/-- A load of the rectangle of the given extents at the given offsets. -/
abbrev ld {s : Shape} {e : EltTy} (m : Memref sig .tc .vmem s e) (off size : Fin s.rank → ℕ)
    (inb : ∀ a, off a + size a ≤ s.size a) (h : 0 < (Rect.unit (s := s) off size inb).shape.numel) :
    Pr F ((Rect.unit (s := s) off size inb).shape.Idx → Elt F e) :=
  Prog.lift (.load m (Rect.unit (s := s) off size inb).toLoadRect (View.loadsAt_vmem h))

/-- A store of 32-bit elements at the given offsets. -/
abbrev st {s : Shape} (m : Memref sig .tc .vmem s .f32) (off size : Fin s.rank → ℕ)
    (inb : ∀ a, off a + size a ≤ s.size a) (h : 0 < (Rect.unit (s := s) off size inb).shape.numel)
    (w : (Rect.unit (s := s) off size inb).shape.Idx → Elt F .f32) : Pr F PUnit :=
  Prog.lift (.store m (Rect.unit (s := s) off size inb) w Finset.univ (View.stores_vmem_bits_univ h rfl) (.inl rfl))

/-- The accumulator's address for scores: two buffers of two halves. -/
def sAddr (buf j : Fin 2) : ℕ := 64 * buf.val + 32 * j.val
/-- The accumulator's address for outputs: two buffers. -/
def oAddr (t : Fin 8) : ℕ := 128 + 24 * (t.val % 2)

theorem fitsS (buf j : Fin 2) : Mxu.Fits (sAddr buf j) 128 := by
  have := fits_0_128; have := fits_32_128; have := fits_64_128; have := fits_96_128
  fin_cases buf <;> fin_cases j <;> assumption

theorem fitsO (t : Fin 8) : Mxu.Fits (oAddr t) 96 := by
  have := fits_128_96; have := fits_152_96
  fin_cases t <;> assumption

section
variable (B : Bufs) (it : BitVec 32) (ok : Ok it)

include ok in
theorem inbK (m : Fin 2) (c : Fin 8) (j : Fin 2) :
    ∀ a, (![krow it m, c.val * 256 + j.val * 128, 0] : Fin 3 → ℕ) a + S1x128x128.size a ≤ S4x2048x128.size a :=
  inb3 (ok.k m) (by have := c.2; have := j.2; omega) (by omega)

/-- Push the head's query tile and multiply both halves of a key tile by it. -/
def issue (m : Fin 2) (t c : Fin 8) (buf : Fin 2) (u : Mxu F) : Pr F (Mxu F) := do
  let q ← ld B.q ![hrow it m, t.val * 256] S96x256.size (inb2 (ok.q m) (by have := t.2; omega)) h_S96x256
  let u ← u.pushRhs m 0 false (qTile q)
  let k0 ← ld B.k ![krow it m, c.val * 256 + 0 * 128, 0] S1x128x128.size (inbK it ok m c 0) h_S1x128x128
  let u := u.accLhs m 0 (sAddr buf 0) (kTile k0) (fitsS buf 0)
  let k1 ← ld B.k ![krow it m, c.val * 256 + 1 * 128, 0] S1x128x128.size (inbK it ok m c 1) h_S1x128x128
  u.accLhsLoaded m (sAddr buf 1) (kTile k1) (fitsS buf 1)

theorem inbR (m : Fin 2) (t : Fin 8) (half : Fin 2) :
    ∀ a, (![m.val, 2 * t.val, 128 * half.val] : Fin 3 → ℕ) a + S1x1x128.size a ≤ S2x16x256.size a :=
  inb3 (by have := m.2; omega) (by have := t.2; omega) (by have := half.2; omega)

theorem inbP (m : Fin 2) (t c : Fin 8) (j half : Fin 2) :
    ∀ a, (![m.val, t.val % 2, c.val * 256 + j.val * 128, 128 * half.val] : Fin 4 → ℕ) a + S1x1x128x128.size a ≤ S2x2x2048x256.size a :=
  inb4 (by have := m.2; omega) (by omega) (by have := c.2; have := j.2; omega) (by have := half.2; omega)

/-- One half of a score tile to its weights: the shift stored by the column's first tile, the weights stored, and their partial sums. -/
def weigh (m : Fin 2) (t c : Fin 8) (j half : Fin 2) (z : FVec F S128x128 .f32) : Pr F (FVec F S8x128 .f32) := do
  if c.val + j.val = 0 then
    let x ← ld B.mx ![8 * m.val + t.val, 128 * half.val] S1x128.size
      (inb2 (by have := m.2; have := t.2; omega) (by have := half.2; omega)) h_S1x128
    let _ ← ld B.row ![m.val, 2 * t.val, 128 * half.val] S1x1x128.size (inbR m t half) h_S1x1x128
    st B.row ![m.val, 2 * t.val, 128 * half.val] S1x1x128.size (inbR m t half) h_S1x1x128
      (shapeCast S1x1x128 (Scalar.select (Scalar.cmpi .sge it 6#32) x (est z)) shapeCasts_S1x128_S1x1x128)
  let r ← ld B.row ![m.val, 2 * t.val, 128 * half.val] S1x1x128.size (inbR m t half) h_S1x1x128
  let _ ← ld B.p ![m.val, t.val % 2, c.val * 256 + j.val * 128, 128 * half.val] S1x1x128x128.size (inbP m t c j half) h_S1x1x128x128
  st B.p ![m.val, t.val % 2, c.val * 256 + j.val * 128, 128 * half.val] S1x1x128x128.size (inbP m t c j half) h_S1x1x128x128
    (shapeCast S1x1x128x128 (pTile z r) shapeCasts_S128x128_S1x1x128x128)
  pure (fold8 (pTile z r))

/-- The weights of one half of one 128-key chunk, its mask added on the diagonal; the running partial sum comes back. -/
def half (m : Fin 2) (t c : Fin 8) (j h : Fin 2) (s : FVec F S128x256 .f32) (kb : Vec F S1x128x128 .f32) (cq : Vec F S1x256 .f32)
    (d : FVec F S8x128 .f32) : Pr F (FVec F S8x128 .f32) := do
  let z ← (if c.val = t.val ∧ j = h then do
      let tr ← ld B.tri ![0, 0] S128x128.size inb_S128x128_S128x128_0_0 h_S128x128
      pure (addf (zHalf h s kb cq) tr)
    else pure (zHalf h s kb cq) : Pr F (FVec F S128x128 .f32))
  let p ← weigh B it m t c j h z
  pure (if c.val + j.val = 0 then p else addf d p)

/-- A query tile's scores against a key tile, to weights. -/
def passA (m : Fin 2) (t c : Fin 8) (buf : Fin 2) (u : Mxu F) (d : FVec F S8x128 .f32 × FVec F S8x128 .f32) :
    Pr F (Mxu F × (FVec F S8x128 .f32 × FVec F S8x128 .f32)) := do
  let cq ← ld B.cq ![crow it m, t.val * 256] S1x256.size (inb2 (ok.c m) (by have := t.2; omega)) h_S1x256
  let kb0 ← ld B.kb ![krow it m, c.val * 256 + 0 * 128, 0] S1x128x128.size (inbK it ok m c 0) h_S1x128x128
  let s0 := u.read m (sAddr buf 0) (fitsS buf 0)
  let u := u.pop m (sAddr buf 0) 128 (fitsS buf 0)
  let d0 ← half B it m t c 0 0 s0 kb0 cq d.1
  let d1 ← half B it m t c 0 1 s0 kb0 cq d.2
  let kb1 ← ld B.kb ![krow it m, c.val * 256 + 1 * 128, 0] S1x128x128.size (inbK it ok m c 1) h_S1x128x128
  let s1 := u.read m (sAddr buf 1) (fitsS buf 1)
  let u := u.pop m (sAddr buf 1) 128 (fitsS buf 1)
  if c.val = t.val then
    let d1 ← half B it m t c 1 1 s1 kb1 cq d1
    let b ← ld B.bad ![0, 0] S1x256.size inb_S1x256_S1x256_0_0 h_S1x256
    let _ ← ld B.bad ![0, 0] S1x256.size inb_S1x256_S1x256_0_0 h_S1x256
    st B.bad ![0, 0] S1x256.size inb_S1x256_S1x256_0_0 h_S1x256 (badRow b (lRow d0 d1))
    let _ ← ld B.row ![m.val, 2 * t.val + 1, 0] S1x1x256.size (inb3 (by have := m.2; omega) (by have := t.2; omega) (by omega)) h_S1x1x256
    st B.row ![m.val, 2 * t.val + 1, 0] S1x1x256.size (inb3 (by have := m.2; omega) (by have := t.2; omega) (by omega)) h_S1x1x256
      (invRow (lRow d0 d1))
    pure (u, (d0, d1))
  else
    let d0 ← half B it m t c 1 0 s1 kb1 cq d0
    let d1 ← half B it m t c 1 1 s1 kb1 cq d1
    pure (u, (d0, d1))

/-- The normalised weights of a key tile against the values, onto the query tile's accumulator. -/
def passB (m : Fin 2) (t c : Fin 8) (u : Mxu F) : Pr F (Mxu F) := do
  let r ← ld B.row ![m.val, 2 * t.val + 1, 0] S1x1x256.size (inb3 (by have := m.2; omega) (by have := t.2; omega) (by omega)) h_S1x1x256
  let w ← (if c.val = t.val then do
      let p ← ld B.p ![m.val, t.val % 2, c.val * 256, 0] S1x1x128x256.size
        (inb4 (by have := m.2; omega) (by omega) (by have := c.2; omega) (by omega)) h_S1x1x128x256
      let p' ← ld B.p ![m.val, t.val % 2, c.val * 256 + 128, 128] S1x1x128x128.size
        (inb4 (by have := m.2; omega) (by omega) (by have := c.2; omega) (by omega)) h_S1x1x128x128
      pure (wDiag r p p')
    else do
      let p ← ld B.p ![m.val, t.val % 2, c.val * 256, 0] S1x1x256x256.size
        (inb4 (by have := m.2; omega) (by omega) (by have := c.2; omega) (by omega)) h_S1x1x256x256
      pure (wFull r p) : Pr F (FVec F S256x256 .bf16))
  let u ← u.pushRhs m 1 false w
  let v ← ld B.v ![krow it m, 0, c.val * 256] S1x96x256.size (inb3 (ok.k m) (by omega) (by have := c.2; omega)) h_S1x96x256
  pure (u.accLhs m 1 (oAddr t) (shapeCast S96x256 v shapeCasts_S1x96x256_S96x256 : FVec F S96x256 .bf16) (fitsO t))

include ok in
theorem packedO (m : Fin 2) (t : Fin 8) (b : Fin 3) :
    (Rect.unit (s := S1152x2048) ![orow it m b, t.val * 256] S32x256.size (inb2 (ok.o m b) (by have := t.2; omega))).PackedRows (EltTy.packing .bf16) := by
  have h2 : 2 ≤ S1152x2048.rank := by decide
  refine .inr ⟨h2, rfl, .inl ⟨?_, ?_⟩⟩
  · exact ok.ev m b
  · exact (by decide : 2 ∣ 32)

/-- One block of a query tile's output, quantised and stored. -/
def quant (m : Fin 2) (t : Fin 8) (o : FVec F S96x256 .f32) (b : Fin 3) : Pr F PUnit := do
  let _ ← ld B.ct ![orow it m b, t.val * 256] S32x256.size (inb2 (ok.o m b) (by have := t.2; omega)) h_S32x256
  Prog.lift (.store B.ct (Rect.unit (s := S1152x2048) ![orow it m b, t.val * 256] S32x256.size (inb2 (ok.o m b) (by have := t.2; omega)))
    (codes (oBlock b o)) Finset.univ (View.stores_vmem h_S32x256 (B.hct.storeExact_slice rfl _ (packedO it ok m t b)) (fun _ => rfl)) (.inl rfl))
  let _ ← ld B.et ![erow it m b, t.val * 256] S1x256.size (inb2 (ok.e m b) (by have := t.2; omega)) h_S1x256
  st B.et ![erow it m b, t.val * 256] S1x256.size (inb2 (ok.e m b) (by have := t.2; omega)) h_S1x256 (exps (oBlock b o))

/-- A query tile's output out of the accumulator, quantised and stored. -/
def finish (m : Fin 2) (t : Fin 8) (u : Mxu F) : Pr F (Mxu F) := do
  let o := u.read m (oAddr t) (fitsO t)
  let u := u.pop m (oAddr t) 96 (fitsO t)
  quant B it ok m t o 0
  quant B it ok m t o 1
  quant B it ok m t o 2
  pure u

/-- What the pair's steps carry: the matrix units, and each head's partial sums. -/
structure Carry (F : FTy → Type) [FloatOps F] where
  u : Mxu F
  d0 : FVec F S8x128 .f32 × FVec F S8x128 .f32
  d1 : FVec F S8x128 .f32 × FVec F S8x128 .f32

/-- The query tile before. -/
def prev (t : Fin 8) : Fin 8 := ⟨t.val - 1, by have := t.2; omega⟩

/-- A head's second half of a step: the previous query tile against this key tile, or its output. -/
def tail (m : Fin 2) (t c : Fin 8) (u : Mxu F) : Pr F (Mxu F) :=
  if c.val < t.val then passB B it ok m (prev t) c u
  else if 0 < t.val then finish B it ok m (prev t) u
  else pure u

/-- One step: the next step's scores issued, this one's weights made, the previous tile's weights used. -/
def step (s : Fin 8 × Fin 8) (nx : Option (Fin 8 × Fin 8)) (buf : Fin 2) (x : Carry F) : Pr F (Carry F) := do
  let u ← (match nx with
    | some (t', c') => do
        let u ← issue B it ok 0 t' c' (1 - buf) x.u
        issue B it ok 1 t' c' (1 - buf) u
    | none => pure x.u : Pr F (Mxu F))
  let (u, d0) ← passA B it ok 0 s.1 s.2 buf u x.d0
  let (u, d1) ← passA B it ok 1 s.1 s.2 buf u x.d1
  let u ← tail B it ok 0 s.1 s.2 u
  let u ← tail B it ok 1 s.1 s.2 u
  pure ⟨u, d0, d1⟩

/-- All steps from a list on. -/
def steps : List (Fin 8 × Fin 8) → Fin 2 → Carry F → Pr F (Carry F)
  | [], _, x => pure x
  | s :: r, buf, x => do
      let x ← step B it ok s r.head? buf x
      steps r (1 - buf) x

/-- The steps in order. -/
def order : List (Fin 8 × Fin 8) :=
  [(0,0), (1,0),(1,1), (2,0),(2,1),(2,2), (3,0),(3,1),(3,2),(3,3), (4,0),(4,1),(4,2),(4,3),(4,4),
   (5,0),(5,1),(5,2),(5,3),(5,4),(5,5), (6,0),(6,1),(6,2),(6,3),(6,4),(6,5),(6,6),
   (7,0),(7,1),(7,2),(7,3),(7,4),(7,5),(7,6),(7,7)]

/-- The last query tile against each key tile. -/
def last : List (Fin 8) → Mxu F → Pr F (Mxu F)
  | [], u => pure u
  | c :: r, u => do
      let u ← passB B it ok 0 7 c u
      let u ← passB B it ok 1 7 c u
      last r u

/-- A pair of heads. -/
def pair (u : Mxu F) : Pr F (Mxu F) := do
  let u ← issue B it ok 0 0 0 0 u
  let u ← issue B it ok 1 0 0 0 u
  let z : FVec F S8x128 .f32 := broadcast S8x128 (Scalar.ofBits .f32 0x00000000#32)
  let x ← steps B it ok order 0 ⟨u, (z, z), (z, z)⟩
  let u ← last B it ok [0, 1, 2, 3, 4, 5, 6, 7] x.u
  let u ← finish B it ok 0 7 u
  finish B it ok 1 7 u

end

end Cert.KernelIdeal.Pair
-- ==== Proof.Ideal.Safe.lean ====
/-
  A pair of heads runs without fault from any contents: every push finds its register empty, every reuse its
  tile, and the accumulators' rows in use are those of the scores and outputs under way.
-/
module

public import proofs.«01_k».proof.Proof.Ideal.Body

@[expose] public section

namespace Cert.KernelIdeal.Pair

open Idealize.ShloMosaic Idealize.SL.Sem Cert.KernelIdeal
open Cert.KernelIdeal.Facts₀

variable {F : FTy → Type} [FloatOps F] [Facts]

/-- Rows of the matrix units' accumulators. -/
abbrev Rows := Fin 2 → ℕ → Prop

/-- No register is staged, and every accumulator row in use is of `S`. -/
def St (S : Rows) (u : Mxu F) : Prop := (∀ q r, u.reg q r = none) ∧ ∀ q R, u.live q R = true → S q R.val

theorem St.mono {S T : Rows} {u : Mxu F} (h : St S u) (hT : ∀ q R, S q R → T q R) : St T u :=
  ⟨h.1, fun q R hl => hT q R.val (h.2 q R hl)⟩

/-- The rows of an address. -/
def at' (m : Fin 2) (A M : ℕ) : Rows := fun q R => q = m ∧ 4 * A ≤ R ∧ R < 4 * A + M

/-- A push and its loading accumulate. -/
theorem St.load {S : Rows} {u : Mxu F} (h : St S u) (m r : Fin 2) {φ φ' : FTy} (tr : Bool) (v : FVec F (Mxu.STile 256) φ) (A : ℕ) {M : ℕ}
    (w : FVec F (Mxu.STile M) φ') (hf : Mxu.Fits A M) :
    St (fun q R => S q R ∨ at' m A M q R) ((u.pushed m r tr v).accLhs m r A w hf) := by
  refine ⟨fun q r' => ?_, fun q R hl => ?_⟩
  · by_cases hq : q = m ∧ r' = r
    · obtain ⟨rfl, rfl⟩ := hq; exact Mxu.reg_accLhs _ _ _ _ _ _
    · rw [Mxu.reg_accLhs_ne _ _ _ _ _ _ _ _ hq, Mxu.reg_pushed_ne _ _ _ _ _ _ _ hq]; exact h.1 q r'
  · rw [Mxu.live_accLhs] at hl
    by_cases hc : q = m ∧ 4 * A ≤ R.val ∧ R.val < 4 * A + M
    · exact .inr hc
    · rw [if_neg hc, Mxu.live_pushed] at hl; exact .inl (h.2 q R hl)

theorem St.acc {S : Rows} {u : Mxu F} (h : St S u) (m : Fin 2) {φ' : FTy} (t : Mxu.Staged F) (A : ℕ) {M : ℕ}
    (w : FVec F (Mxu.STile M) φ') (hf : Mxu.Fits A M) :
    St (fun q R => S q R ∨ at' m A M q R) (u.accBy m t A w hf) := by
  refine ⟨fun q r' => h.1 q r', fun q R hl => ?_⟩
  rw [Mxu.live_accBy] at hl
  by_cases hc : q = m ∧ 4 * A ≤ R.val ∧ R.val < 4 * A + M
  · exact .inr hc
  · rw [if_neg hc] at hl; exact .inl (h.2 q R hl)

theorem St.pop {S : Rows} {u : Mxu F} (h : St S u) (m : Fin 2) (A M : ℕ) (hf : Mxu.Fits A M) :
    St (fun q R => S q R ∧ ¬ at' m A M q R) (u.pop m A M hf) := by
  refine ⟨fun q r' => h.1 q r', fun q R hl => ?_⟩
  rw [Mxu.live_pop] at hl
  by_cases hc : q = m ∧ 4 * A ≤ R.val ∧ R.val < 4 * A + M
  · rw [if_pos hc] at hl; cases hl
  · rw [if_neg hc] at hl; exact ⟨h.2 q R hl, hc⟩

section
variable {c : Dev nD} {R : Refs} {bd : Option ℕ}

theorem Sf.push {u : Mxu F} {m r : Fin 2} {tr : Bool} {φ : FTy} {v : FVec F (Mxu.STile 256) φ} {β : Type} {k : Mxu F → Pr F β} {Q : β → Prop}
    (hn : u.reg m r = none) (h : Sf c R bd (k (u.pushed m r tr v)) Q) : Sf c R bd (u.pushRhs m r tr v >>= k) Q := by
  simp only [Mxu.pushRhs, Prog.bind_op, Prog.bind_ret]
  exact .assume (Mxu.pushOk_of_none _ _ _ _ hn) h

theorem Sf.loaded {u : Mxu F} {m : Fin 2} {A M : ℕ} {φ : FTy} {w : FVec F (Mxu.STile M) φ} {hf : Mxu.Fits A M} {t : Mxu.Staged F}
    {β : Type} {k : Mxu F → Pr F β} {Q : β → Prop}
    (ht : u.gmr m = some t) (h : Sf c R bd (k (u.accBy m t A w hf)) Q) : Sf c R bd (u.accLhsLoaded m A w hf >>= k) Q := by
  obtain ⟨hs, e⟩ := Option.eq_some_iff_get_eq.mp ht
  rw [← e] at h
  simp only [Mxu.accLhsLoaded, Prog.bind_op, Prog.bind_ret]
  exact .assume hs h

variable {hct : (R .ct).IsWhole} {it : BitVec 32} (ok : Ok it)

/-- The rows of a score buffer. -/
def sRows (m buf : Fin 2) : Rows := fun q R => q = m ∧ 256 * buf.val ≤ R ∧ R < 256 * buf.val + 256
/-- The rows of a query tile's outputs. -/
def oRows (m : Fin 2) (t : ℕ) : Rows := fun q R => q = m ∧ 512 + 96 * (t % 2) ≤ R ∧ R < 512 + 96 * (t % 2) + 96

theorem issue_safe (m : Fin 2) (t c' : Fin 8) (buf : Fin 2) {S : Rows} {u : Mxu F} (h : St S u) :
    Sf c R bd (issue (bufs R hct) it ok m t c' buf u) (St fun q r => S q r ∨ sRows m buf q r) := by
  unfold issue
  simp only [ld, Prog.lift, Prog.bind_op, Prog.bind_ret]
  refine .load .q fun q => .push (h.1 _ _) ?_
  refine .load .k fun k0 => .load .k fun k1 => ?_
  rw [← bind_pure (Mxu.accLhsLoaded _ _ _ _ _)]
  refine .loaded (Mxu.gmr_accLhs _ _ _ _ _ _) (.ret ?_)
  refine St.mono (St.acc (St.load h ..) ..) fun q r => ?_
  have := buf.2
  rintro ((h | ⟨rfl, h1, h2⟩) | ⟨rfl, h1, h2⟩)
  · exact .inl h
  · exact .inr ⟨rfl, by simp only [sAddr] at h1 h2; omega, by simp only [sAddr] at h1 h2; omega⟩
  · exact .inr ⟨rfl, by simp only [sAddr] at h1 h2; omega, by simp only [sAddr] at h1 h2; omega⟩

theorem weigh_safe (m : Fin 2) (t c' : Fin 8) (j hf : Fin 2) (z : FVec F S128x128 .f32) :
    Sf c R bd (weigh (bufs R hct) it m t c' j hf z) (fun _ => True) := by
  unfold weigh
  simp only [ld, st, Prog.lift, Prog.bind_op, Prog.bind_ret, Prog.pure_eq_ret]
  split
  · exact .load .mx fun _ => .load .row fun _ => .store .row <| .load .row fun _ => .load .p fun _ => .store .p <| .ret trivial
  · exact .load .row fun _ => .load .p fun _ => .store .p <| .ret trivial

theorem half_safe (m : Fin 2) (t c' : Fin 8) (j hf : Fin 2) (s : FVec F S128x256 .f32) (kb : Vec F S1x128x128 .f32) (cq : Vec F S1x256 .f32)
    (d : FVec F S8x128 .f32) : Sf c R bd (half (bufs R hct) it m t c' j hf s kb cq d) (fun _ => True) := by
  unfold half
  refine .bind (Q := fun _ => True) ?_ fun z _ => .bind (weigh_safe m t c' j hf z) fun p _ => .ret trivial
  split
  · simp only [ld, Prog.lift, Prog.bind_op, Prog.bind_ret, Prog.pure_eq_ret]
    exact .load .tri fun _ => .ret trivial
  · exact .ret trivial

theorem passA_safe (m : Fin 2) (t c' : Fin 8) (buf : Fin 2) {S : Rows} {u : Mxu F} (h : St S u) (d : FVec F S8x128 .f32 × FVec F S8x128 .f32) :
    Sf c R bd (passA (bufs R hct) it ok m t c' buf u d) (fun x => St (fun q r => S q r ∧ ¬ sRows m buf q r) x.1) := by
  have key : St (fun q r => S q r ∧ ¬ sRows m buf q r)
      ((u.pop m (sAddr buf 0) 128 (fitsS buf 0)).pop m (sAddr buf 1) 128 (fitsS buf 1)) := by
    refine St.mono (St.pop (St.pop h ..) ..) fun q r => ?_
    rintro ⟨⟨h0, h1⟩, h2⟩
    refine ⟨h0, ?_⟩
    rintro ⟨rfl, h3, h4⟩
    by_cases hr : r < 256 * buf.val + 128
    · exact h1 ⟨rfl, by simp only [sAddr]; simp; omega, by simp only [sAddr]; simp; omega⟩
    · exact h2 ⟨rfl, by simp only [sAddr]; simp; omega, by simp only [sAddr]; simp; omega⟩
  unfold passA
  simp only [ld, st, Prog.lift, Prog.bind_op, Prog.bind_ret, Prog.pure_eq_ret]
  refine .load .cq fun cq => .load .kb fun kb0 => .bind (half_safe _ _ _ _ _ _ _ _ _) fun d0 _ => .bind (half_safe _ _ _ _ _ _ _ _ _) fun d1 _ => .load .kb fun kb1 => ?_
  split
  · refine .bind (half_safe _ _ _ _ _ _ _ _ _) fun d1 _ => ?_
    exact .load .bad fun _ => .load .bad fun _ => .store .bad <| .load .row fun _ => .store .row <| .ret key
  · exact .bind (half_safe _ _ _ _ _ _ _ _ _) fun d0 _ => .bind (half_safe _ _ _ _ _ _ _ _ _) fun d1 _ => .ret key

theorem passB_safe (m : Fin 2) (t c' : Fin 8) {S : Rows} {u : Mxu F} (h : St S u) :
    Sf c R bd (passB (bufs R hct) it ok m t c' u) (St fun q r => S q r ∨ oRows m t.val q r) := by
  have hw : ∀ (w : FVec F S256x256 .bf16) (v : FVec F S96x256 .bf16),
      St (fun q r => S q r ∨ oRows m t.val q r) ((u.pushed m 1 false w).accLhs m 1 (oAddr t) v (fitsO t)) := fun w v => by
    refine St.mono (St.load h ..) fun q r => ?_
    rintro (h | ⟨rfl, h1, h2⟩)
    · exact .inl h
    · exact .inr ⟨rfl, by simp only [oAddr] at h1 h2; omega, by simp only [oAddr] at h1 h2; omega⟩
  unfold passB
  simp only [ld, Prog.lift, Prog.bind_op, Prog.bind_ret, Prog.pure_eq_ret]
  refine .load .row fun r => .bind (Q := fun _ => True) ?_ fun w _ => .push (h.1 _ _) (.load .v fun v => .ret (hw w _))
  split
  · exact .load .p fun _ => .load .p fun _ => .ret trivial
  · exact .load .p fun _ => .ret trivial

theorem quant_safe (m : Fin 2) (t : Fin 8) (o : FVec F S96x256 .f32) (b : Fin 3) :
    Sf c R bd (quant (bufs R hct) it ok m t o b) (fun _ => True) := by
  unfold quant
  simp only [ld, st, Prog.lift, Prog.bind_op, Prog.bind_ret]
  exact .load .ct fun _ => .store .ct <| .load .et fun _ => .store .et <| .ret trivial

theorem finish_safe (m : Fin 2) (t : Fin 8) {S : Rows} {u : Mxu F} (h : St S u) :
    Sf c R bd (finish (bufs R hct) it ok m t u) (St fun q r => S q r ∧ ¬ oRows m t.val q r) := by
  unfold finish
  refine .bind (quant_safe ok m t _ 0) fun _ _ => .bind (quant_safe ok m t _ 1) fun _ _ => .bind (quant_safe ok m t _ 2) fun _ _ => .ret ?_
  refine St.mono (St.pop h ..) fun q r => ?_
  rintro ⟨h0, h1⟩
  refine ⟨h0, ?_⟩
  rintro ⟨rfl, h3, h4⟩
  exact h1 ⟨rfl, by simp only [oAddr]; omega, by simp only [oAddr]; omega⟩

/-- The rows in use before a step. -/
def before (s : Fin 8 × Fin 8) (buf : Fin 2) : Rows := fun q r =>
  (256 * buf.val ≤ r ∧ r < 256 * buf.val + 256)
    ∨ (0 < s.2.val ∧ s.2.val ≤ s.1.val ∧ 512 + 96 * ((s.1.val - 1) % 2) ≤ r ∧ r < 512 + 96 * ((s.1.val - 1) % 2) + 96)

/-- The rows in use before the rest of the steps. -/
def beforeAll : Option (Fin 8 × Fin 8) → Fin 2 → Rows
  | some s, buf => before s buf
  | none, _ => fun _ _ => False

/-- The step after `s`, none after a query tile's last. -/
def Next (s : Fin 8 × Fin 8) : Option (Fin 8 × Fin 8) → Prop
  | some s' => if s.2.val < s.1.val then s'.1.val = s.1.val ∧ s'.2.val = s.2.val + 1 else s'.2.val = 0
  | none => s.1.val ≤ s.2.val

theorem tail_safe (m : Fin 2) (t c' : Fin 8) {S : Rows} {u : Mxu F} (h : St S u) :
    Sf c R bd (tail (bufs R hct) it ok m t c' u)
      (St fun q r => (S q r ∨ (c'.val < t.val ∧ oRows m (t.val - 1) q r)) ∧ ¬ (t.val ≤ c'.val ∧ 0 < t.val ∧ oRows m (t.val - 1) q r)) := by
  unfold tail
  split
  · refine (passB_safe ok m (prev t) c' h).mono fun u hu => hu.mono fun q r => ?_
    rintro (h | h)
    · exact ⟨.inl h, fun h' => by omega⟩
    · exact ⟨.inr ⟨by assumption, h⟩, fun h' => by omega⟩
  · split
    · refine (finish_safe ok m (prev t) h).mono fun u hu => hu.mono fun q r => ?_
      rintro ⟨h, h'⟩
      exact ⟨.inl h, fun h'' => h' h''.2.2⟩
    · exact .ret (h.mono fun q r h => ⟨.inl h, fun h' => by omega⟩)

theorem step_safe (s : Fin 8 × Fin 8) (nx : Option (Fin 8 × Fin 8)) (hn : Next s nx) (buf : Fin 2) (x : Carry F) (h : St (before s buf) x.u) :
    Sf c R bd (step (bufs R hct) it ok s nx buf x) (fun y => St (beforeAll nx (1 - buf)) y.u) := by
  have hb : (1 - buf : Fin 2).val = 1 - buf.val := by fin_cases buf <;> rfl
  have hb2 := buf.2
  unfold step
  refine .bind (Q := St fun q r => before s buf q r ∨ (nx.isSome ∧ 256 * (1 - buf : Fin 2).val ≤ r ∧ r < 256 * (1 - buf : Fin 2).val + 256)) ?_
    fun u hu => .bind (passA_safe ok 0 s.1 s.2 buf hu x.d0) fun y hy => .bind (passA_safe ok 1 s.1 s.2 buf hy x.d1) fun y' hy' =>
      .bind (tail_safe ok 0 s.1 s.2 hy') fun u' hu' => .bind (tail_safe ok 1 s.1 s.2 hu') fun u'' hu'' => .ret ?_
  · match nx with
    | none => exact .ret (h.mono fun q r h => .inl h)
    | some (t', c') =>
      refine .bind (issue_safe ok 0 t' c' (1 - buf) h) fun u hu => (issue_safe ok 1 t' c' (1 - buf) hu).mono fun u hu => hu.mono fun q r => ?_
      rintro ((h | ⟨-, h⟩) | ⟨-, h⟩)
      · exact .inl h
      · exact .inr ⟨rfl, h⟩
      · exact .inr ⟨rfl, h⟩
  · refine hu''.mono fun q r => ?_
    have hq : q = 0 ∨ q = 1 := by fin_cases q <;> simp
    rw [hb]
    unfold beforeAll before sRows oRows Next at *
    rcases nx with _ | ⟨t', c'⟩ <;> rcases hq with rfl | rfl <;> simp at hn ⊢ <;> (try split at hn) <;> omega

/-- A list of steps each the one after the last. -/
def Linked : List (Fin 8 × Fin 8) → Prop
  | [] => True
  | s :: r => Next s r.head? ∧ Linked r

theorem steps_safe : ∀ (l : List (Fin 8 × Fin 8)) (hl : Linked l) (buf : Fin 2) (x : Carry F) (h : St (beforeAll l.head? buf) x.u),
    Sf c R bd (steps (bufs R hct) it ok l buf x) (fun y => St (fun _ _ => False) y.u)
  | [], _, _, _, h => .ret h
  | s :: r, hl, buf, x, h => .bind (step_safe ok s r.head? hl.1 buf x h) fun y hy => steps_safe r hl.2 (1 - buf) y hy

theorem order_linked : Linked order := by
  simp [order, Linked, Next]

theorem last_safe : ∀ (l : List (Fin 8)) {S : Rows} {u : Mxu F} (h : St S u),
    Sf c R bd (last (bufs R hct) it ok l u) (St fun q r => S q r ∨ oRows q 7 q r)
  | [], S, u, h => .ret (h.mono fun _ _ h => .inl h)
  | c' :: l, S, u, h => .bind (passB_safe ok 0 7 c' h) fun u hu => .bind (passB_safe ok 1 7 c' hu) fun u hu =>
      (last_safe l hu).mono fun u hu => hu.mono fun q r => by
        rintro (((h | h) | h) | h)
        · exact .inl h
        · obtain ⟨rfl, h⟩ := h; exact .inr ⟨rfl, h⟩
        · obtain ⟨rfl, h⟩ := h; exact .inr ⟨rfl, h⟩
        · exact .inr h

/-- A pair of heads, from idle matrix units, leaves them idle. -/
theorem pair_safe {u : Mxu F} (h : St (fun _ _ => False) u) :
    Sf c R bd (pair (bufs R hct) it ok u) (St fun _ _ => False) := by
  unfold pair
  refine .bind (issue_safe ok 0 0 0 0 h) fun u hu => .bind (issue_safe ok 1 0 0 0 hu) fun u hu =>
    .bind (steps_safe ok order order_linked 0 _ (hu.mono fun q r => ?_)) fun x hx => .bind (last_safe ok _ hx) fun u hu =>
      .bind (finish_safe ok 0 7 hu) fun u hu => (finish_safe ok 1 7 hu).mono fun u hu => hu.mono fun q r => ?_
  · rintro ((h | ⟨-, h⟩) | ⟨-, h⟩)
    · exact h.elim
    · exact .inl h
    · exact .inl h
  · rintro ⟨⟨h | h, h0⟩, h1⟩
    · exact h
    · have hq : q = 0 ∨ q = 1 := by fin_cases q <;> simp
      rcases hq with rfl | rfl
      · exact h0 h
      · exact h1 h

end

end Cert.KernelIdeal.Pair
-- ==== Proof.Ideal.Rare.lean ====
/-
  The loops over key tiles that find each query's greatest score run without fault, leaving the matrix units idle.
-/
module

public import proofs.«01_k».proof.Proof.Ideal.Safe

@[expose] public section

namespace Cert.KernelIdeal.Pair

open Idealize.ShloMosaic Idealize.SL.Sem Cert.KernelIdeal
open Cert.KernelIdeal.Facts₀

variable {F : FTy → Type} [FloatOps F] [Facts] {c : Dev nD} {R : Refs} {bd : Option ℕ}
variable {i : grid0.Coords} {hq : (R .q).IsWhole} {hk : (R .k).IsWhole} {hv : (R .v).IsWhole} {hkb : (R .kb).IsWhole} {hcq : (R .cq).IsWhole}
  {hct : (R .ct).IsWhole} {het : (R .et).IsWhole} {hp : (R .p).IsWhole} {hrow : (R .row).IsWhole} {hmx : (R .mx).IsWhole}
  {htri : (R .tri).IsWhole} {hbad : (R .bad).IsWhole}
variable {it n : BitVec 32} {u0 : Mxu F} {hw : k0_chk1 it} {h1 : k0_cond1 it = 1#1}

/-- No rows in use. -/
abbrev none' : Rows := fun _ _ => False

theorem St.one {u : Mxu F} (h : St none' u) (m : Fin 2) {φ φ' : FTy} (tr : Bool) (v : FVec F (Mxu.STile 256) φ)
    (w : FVec F (Mxu.STile 128) φ') (hf : Mxu.Fits 0 128) :
    St none' (((u.pushed m 0 tr v).accLhs m 0 0 w hf).pop m 0 128 hf) := by
  refine ((St.load h m 0 tr v 0 w hf).pop m 0 128 hf).mono ?_
  rintro q R ⟨h | h, h'⟩
  · exact h
  · exact h' h

theorem part24_safe {a b c0 c1 : BitVec 32} {t : Fin k0_t1_loop.trips} {t' : Fin (k0_t2_loop t).trips} {u : Mxu F} (h : St none' u) :
    Sf c R bd (k0_part24 i (R .cq) hcq (R .q) hq (R .k) hk (R .kb) hkb (R .mx) hmx (R .tri) htri (R .row) hrow (R .p) hp (R .bad) hbad (R .v) hv (R .ct) hct (R .et) het it n u0 hw h1 a t b c0 c1 t' u) (fun x => St none' (x.2.1.pop 0 0 128 Facts₀.fits_0_128)) := by
  unfold k0_part24
  exact .load .q fun _ => .push (h.1 _ _) (.load .k fun _ => .ret (h.one ..))

theorem part25_safe {a b c0 c1 : BitVec 32} {t : Fin k0_t1_loop.trips} {t' : Fin (k0_t3_loop t).trips} {u : Mxu F} (h : St none' u) :
    Sf c R bd (k0_part25 i (R .cq) hcq (R .q) hq (R .k) hk (R .kb) hkb (R .mx) hmx (R .tri) htri (R .row) hrow (R .p) hp (R .bad) hbad (R .v) hv (R .ct) hct (R .et) het it n u0 hw h1 a t b c0 c1 t' u) (fun x => St none' (x.2.1.pop 0 0 128 Facts₀.fits_0_128)) := by
  unfold k0_part25
  exact .load .q fun _ => .push (h.1 _ _) (.load .k fun _ => .ret (h.one ..))

theorem part26_safe {a b c0 c1 : BitVec 32} {t : Fin k0_t4_loop.trips} {t' : Fin (k0_t5_loop t).trips} {u : Mxu F} (h : St none' u) :
    Sf c R bd (k0_part26 i (R .cq) hcq (R .q) hq (R .k) hk (R .kb) hkb (R .mx) hmx (R .tri) htri (R .row) hrow (R .p) hp (R .bad) hbad (R .v) hv (R .ct) hct (R .et) het it n u0 hw h1 a t b c0 c1 t' u) (fun x => St none' (x.2.1.pop 1 0 128 Facts₀.fits_0_128)) := by
  unfold k0_part26
  exact .load .q fun _ => .push (h.1 _ _) (.load .k fun _ => .ret (h.one ..))

theorem part27_safe {a b c0 c1 : BitVec 32} {t : Fin k0_t4_loop.trips} {t' : Fin (k0_t6_loop t).trips} {u : Mxu F} (h : St none' u) :
    Sf c R bd (k0_part27 i (R .cq) hcq (R .q) hq (R .k) hk (R .kb) hkb (R .mx) hmx (R .tri) htri (R .row) hrow (R .p) hp (R .bad) hbad (R .v) hv (R .ct) hct (R .et) het it n u0 hw h1 a t b c0 c1 t' u) (fun x => St none' (x.2.1.pop 1 0 128 Facts₀.fits_0_128)) := by
  unfold k0_part27
  exact .load .q fun _ => .push (h.1 _ _) (.load .k fun _ => .ret (h.one ..))

/-- The loops over key tiles, run for one pair in six and skipped for the others. -/
theorem rare_safe {u : Mxu F} (h : St none' u) : Sf c R bd (k0_part29 i (R .cq) hcq (R .q) hq (R .k) hk (R .kb) hkb (R .mx) hmx (R .tri) htri (R .row) hrow (R .p) hp (R .bad) hbad (R .v) hv (R .ct) hct (R .et) het it n u hw) (St none') := by
  unfold k0_part29
  show Sf c R bd (dite (k0_cond1 it = 1#1) _ _) _
  split
  · refine .bind (.for (fun x => St (F := F) none' x.2) h fun t (_, _) hx => ?_) fun (_, _) hx => ?_
    · refine .load .cq fun _ => .bind (Q := fun _ => True) (.ret trivial) fun _ _ => .bind (.for (fun x : FVec F S8x256 .f32 × Mxu F => St (F := F) none' x.2) hx fun t' (_, _) hx => ?_) fun (_, _) hx =>
        .bind (.for (fun x : FVec F S8x256 .f32 × Mxu F => St (F := F) none' x.2) hx fun t' (_, _) hx => ?_) fun (_, _) hx => .load .mx fun _ => .store .mx <| .ret hx
      · exact .bind (part24_safe hx) fun ⟨_, _, _, _, _, _⟩ hx => .load .kb fun _ => .ret hx
      · exact .bind (part25_safe hx) fun ⟨_, _, _, _, _, _⟩ hx => .load .kb fun _ => .ret hx
    · refine .bind (.for (fun x => St (F := F) none' x.2) hx fun t (_, _) hx => ?_) fun (_, _) hx => .ret hx
      refine .load .cq fun _ => .bind (Q := fun _ => True) (.ret trivial) fun _ _ => .bind (.for (fun x : FVec F S8x256 .f32 × Mxu F => St (F := F) none' x.2) hx fun t' (_, _) hx => ?_) fun (_, _) hx =>
        .bind (.for (fun x : FVec F S8x256 .f32 × Mxu F => St (F := F) none' x.2) hx fun t' (_, _) hx => ?_) fun (_, _) hx => .load .mx fun _ => .store .mx <| .ret hx
      · exact .bind (part26_safe hx) fun ⟨_, _, _, _, _, _⟩ hx => .load .kb fun _ => .ret hx
      · exact .bind (part27_safe hx) fun ⟨_, _, _, _, _, _⟩ hx => .load .kb fun _ => .ret hx
  · exact .ret h

end Cert.KernelIdeal.Pair
-- ==== Proof.Ideal.Match.lean ====
/-
  The printed body of the loop over head pairs is `pair` between the check of the loop counter, the recount of the maxima and the
  choice of the number of iterations.
-/
module

public import proofs.«01_k».proof.Proof.Ideal.Body
public import Idealize.ShloMosaic.Lib.Tactic

@[expose] public section

namespace Cert.KernelIdeal.Pair

open Idealize.ShloMosaic Idealize.SL.Sem Cert.KernelIdeal
open Cert.KernelIdeal.Facts₀

variable {F : FTy → Type} [FloatOps F] [Facts]

theorem ok_of {it : BitVec 32} (h : k0_chk1 it) : Ok it where
  q m := k0_off13_inb it h m 0
  k m := k0_off14_inb it h m 0
  c m := k0_off17_inb it h m 0
  o m b := k0_off23_inb it h m b 0
  e m b := k0_off24_inb it h m b 0
  ev m b := by
    rcases k0_off23_packedbf16 it h m b with h0 | ⟨_, -, ⟨h1, -⟩ | ⟨-, h1, -⟩⟩
    · exact absurd (show 32 = 1152 from (h0 0).2.2) (by decide)
    · exact h1
    · exact absurd (show 32 = 1152 from h1) (by decide)

/-- The number of iterations after iteration `it`: read off the flags by the sixth, else as it was. -/
def nextN (B : Bufs) (it n : BitVec 32) : Pr F (BitVec 32) :=
  do
    let v ← (if Scalar.cmpi .ne (Scalar.extui (Scalar.cmpi .eq it 5#32) : BitVec 32) 0#32 = 1#1 then do
        let b ← ld B.bad ![0, 0] S1x256.size inb_S1x256_S1x256_0_0 h_S1x256
        pure (Scalar.select (Scalar.cmpf .ogt (extractAt ![0, 0, 0] (shapeCast S1x1x1 (multiReduction .maximumf [1, 2] S1
          (shapeCast S1x1x256 b shapeCasts_S1x256_S1x1x256) 0xFF800000#32 reduces_S1x1x256_S1 (.inl rfl) rfl) shapeCasts_S1_S1x1x1) inpos_S1x1x1_p0_0_0)
          (Scalar.ofBits .f32 0x00000000#32 : F .f32)) 12#32 6#32)
      else pure n : Pr F (BitVec 32))
    pure v

/-- One round of the loop: the check of the counter, the recount, the pair, and the next round. -/
noncomputable def round (i : grid0.Coords) (arg13 : Memref sig .tc .vmem S12x2048 .f32) (harg13 : arg13.IsWhole) (arg9 : Memref sig .tc .vmem S1152x2048 .fp8e4m3) (harg9 : arg9.IsWhole) (arg10 : Memref sig .tc .vmem S4x2048x128 .fp8e4m3) (harg10 : arg10.IsWhole) (arg12 : Memref sig .tc .vmem S4x2048x128 .f32) (harg12 : arg12.IsWhole) (arg18 : Memref sig .tc .vmem S16x256 .f32) (harg18 : arg18.IsWhole) (arg19 : Memref sig .tc .vmem S128x128 .f32) (harg19 : arg19.IsWhole) (arg17 : Memref sig .tc .vmem S2x16x256 .f32) (harg17 : arg17.IsWhole) (arg16 : Memref sig .tc .vmem S2x2x2048x256 .f32) (harg16 : arg16.IsWhole) (arg20 : Memref sig .tc .vmem S1x256 .f32) (harg20 : arg20.IsWhole) (arg11 : Memref sig .tc .vmem S4x96x2048 .bf16) (harg11 : arg11.IsWhole) (arg14 : Memref sig .tc .vmem S1152x2048 .bf16) (harg14 : arg14.IsWhole) (arg15 : Memref sig .tc .vmem S128x2048 .f32) (harg15 : arg15.IsWhole) (arg21_r0 : BitVec 32) (arg22_r0 : BitVec 32) (k0_mxu2 : Mxu F) : Pr F (BitVec 32 × BitVec 32 × Mxu F) := do
  let hw ← Prog.lift (TpuEff.assume (k0_chk1 arg21_r0) (k0_chk1.dec arg21_r0))
  let u ← k0_part29 i arg13 harg13 arg9 harg9 arg10 harg10 arg12 harg12 arg18 harg18 arg19 harg19 arg17 harg17 arg16 harg16 arg20 harg20 arg11 harg11 arg14 harg14 arg15 harg15 arg21_r0 arg22_r0 k0_mxu2 hw.down
  let u ← pair ⟨arg9, arg10, arg11, arg12, arg13, arg14, arg15, arg16, arg17, arg18, arg19, arg20, harg14⟩ arg21_r0 (ok_of hw.down) u
  let n' ← nextN ⟨arg9, arg10, arg11, arg12, arg13, arg14, arg15, arg16, arg17, arg18, arg19, arg20, harg14⟩ arg21_r0 arg22_r0
  Prog.lift (.call (1 : (Λ₀ F).Label) ⟨i, arg13, harg13, arg9, harg9, arg10, harg10, arg12, harg12, arg18, harg18, arg19, harg19, arg17, harg17, arg16, harg16, arg20, harg20, arg11, harg11, arg14, harg14, arg15, harg15, Scalar.addi arg21_r0 1#32, n', u⟩)

/-- A sequence of three programs, nested either way. -/
theorem reassoc {α β γ : Type} (X : Pr F α) (f : α → Pr F β) (g : β → Pr F γ) (r : α → Pr F γ) (h : ∀ u, (f u >>= g) = r u) :
    (X >>= f) >>= g = X >>= r := by
  rw [bind_assoc]; exact congrArg _ (funext h)

set_option maxRecDepth 100000 in
/-- The printed loop is rounds as long as its counter is below the number of iterations. -/
theorem while_eq (i : grid0.Coords) (arg13 : Memref sig .tc .vmem S12x2048 .f32) (harg13 : arg13.IsWhole) (arg9 : Memref sig .tc .vmem S1152x2048 .fp8e4m3) (harg9 : arg9.IsWhole) (arg10 : Memref sig .tc .vmem S4x2048x128 .fp8e4m3) (harg10 : arg10.IsWhole) (arg12 : Memref sig .tc .vmem S4x2048x128 .f32) (harg12 : arg12.IsWhole) (arg18 : Memref sig .tc .vmem S16x256 .f32) (harg18 : arg18.IsWhole) (arg19 : Memref sig .tc .vmem S128x128 .f32) (harg19 : arg19.IsWhole) (arg17 : Memref sig .tc .vmem S2x16x256 .f32) (harg17 : arg17.IsWhole) (arg16 : Memref sig .tc .vmem S2x2x2048x256 .f32) (harg16 : arg16.IsWhole) (arg20 : Memref sig .tc .vmem S1x256 .f32) (harg20 : arg20.IsWhole) (arg11 : Memref sig .tc .vmem S4x96x2048 .bf16) (harg11 : arg11.IsWhole) (arg14 : Memref sig .tc .vmem S1152x2048 .bf16) (harg14 : arg14.IsWhole) (arg15 : Memref sig .tc .vmem S128x2048 .f32) (harg15 : arg15.IsWhole) (arg21_r0 : BitVec 32) (arg22_r0 : BitVec 32) (k0_mxu2 : Mxu F) :
    cc0_while1 i arg13 harg13 arg9 harg9 arg10 harg10 arg12 harg12 arg18 harg18 arg19 harg19 arg17 harg17 arg16 harg16 arg20 harg20 arg11 harg11 arg14 harg14 arg15 harg15 arg21_r0 arg22_r0 k0_mxu2 =
      if Scalar.cmpi .slt arg21_r0 arg22_r0 = 1#1 then round i arg13 harg13 arg9 harg9 arg10 harg10 arg12 harg12 arg18 harg18 arg19 harg19 arg17 harg17 arg16 harg16 arg20 harg20 arg11 harg11 arg14 harg14 arg15 harg15 arg21_r0 arg22_r0 k0_mxu2 else pure (arg21_r0, arg22_r0, k0_mxu2) := by
  delta cc0_while1 k0_part460 round
  dsimp only
  by_cases hc : Scalar.cmpi .slt arg21_r0 arg22_r0 = 1#1
  · rw [if_pos hc, if_pos hc]
    refine congrArg (Prog.op _) (funext fun hw => ?_)
    change ((pure hw : Pr F _) >>= _) >>= _ = _
    rw [pure_bind]
    exact reassoc (α := Mxu F) _ _ _ _ (fun u => by sl_kernel_rfl)
  · rw [if_neg hc, if_neg hc]

end Cert.KernelIdeal.Pair
-- ==== Proof.Ideal.Chk.lean ====
/-
  The checks the loop makes of its counter hold at every count it takes.
-/
module

public import proofs.«01_k».proof.KernelIdeal

@[expose] public section

namespace Cert.KernelIdeal.Pair

open Idealize.ShloMosaic Cert.KernelIdeal
open Cert.KernelIdeal.Facts₀

set_option maxRecDepth 100000 in
theorem chk : ∀ k : Fin 12, k0_chk1 (BitVec.ofNat 32 k.val) := by decide +kernel

end Cert.KernelIdeal.Pair
-- ==== Proof.Ideal.While.lean ====
/-
  The loop over pairs of heads runs without fault: its counter stays below twelve, and every round leaves the
  matrix units idle.
-/
module

public import proofs.«01_k».proof.Proof.Ideal.Rare
public import proofs.«01_k».proof.Proof.Ideal.Match
public import proofs.«01_k».proof.Proof.Ideal.Chk

@[expose] public section

namespace Cert.KernelIdeal.Pair

open Idealize.ShloMosaic Idealize.SL.Sem Cert.KernelIdeal
open Cert.KernelIdeal.Facts₀

variable {F : FTy → Type} [FloatOps F] [Facts] {c : Dev nD} {R : Refs}
variable {i : grid0.Coords} {hq : (R .q).IsWhole} {hk : (R .k).IsWhole} {hv : (R .v).IsWhole} {hkb : (R .kb).IsWhole} {hcq : (R .cq).IsWhole}
  {hct : (R .ct).IsWhole} {het : (R .et).IsWhole} {hp : (R .p).IsWhole} {hrow : (R .row).IsWhole} {hmx : (R .mx).IsWhole}
  {htri : (R .tri).IsWhole} {hbad : (R .bad).IsWhole}

theorem nextN_safe {bd : Option ℕ} {it n : BitVec 32} (hn : n = 6#32 ∨ n = 12#32) :
    Sf c R bd (nextN (F := F) (bufs R hct) it n) (fun n => n = 6#32 ∨ n = 12#32) := by
  unfold nextN
  show Sf c R bd (ite _ _ _) _
  split
  · refine .load .bad fun b => .ret ?_
    unfold Scalar.select
    split
    · exact .inr rfl
    · exact .inl rfl
  · exact .ret hn

/-- The loop from count `k`, with `j` rounds to come at most. -/
theorem while_safe : ∀ (j k : ℕ) (hjk : k + j = 12) (n : BitVec 32) (hn : n = 6#32 ∨ n = 12#32) (u : Mxu F) (h : St none' u),
    Sf c R (some j) (cc0_while1 i (R .cq) hcq (R .q) hq (R .k) hk (R .kb) hkb (R .mx) hmx (R .tri) htri (R .row) hrow (R .p) hp (R .bad) hbad (R .v) hv (R .ct) hct (R .et) het (BitVec.ofNat 32 k) n u) (fun x => St none' x.2.2)
  | 0, k, hjk, n, hn, u, h => by
    obtain rfl : k = 12 := by omega
    rw [while_eq, if_neg (by rcases hn with rfl | rfl <;> decide)]
    exact .ret h
  | j + 1, k, hjk, n, hn, u, h => by
    rw [while_eq]
    split
    · unfold round
      refine .assume (chk ⟨k, by omega⟩) <| .bind (Q := fun _ => True) (.ret trivial) fun _ _ => .bind (rare_safe h) fun u hu => .bind (pair_safe _ hu) fun u hu =>
        .bind (nextN_safe hn) fun n hn => .call j (fun w hw => by cases hw; omega) (Q := fun x : BitVec 32 × BitVec 32 × Mxu F => St none' x.2.2) ?_ fun x hx => .ret hx
      have e : Scalar.addi (BitVec.ofNat 32 k) 1#32 = BitVec.ofNat 32 (k + 1) := (BitVec.ofNat_add k 1).symm
      rw [e]
      exact while_safe j (k + 1) (by omega) n hn u hu
    · exact .ret h

end Cert.KernelIdeal.Pair
-- ==== Proof.Ideal.Whole.lean ====
/-
  The whole body runs without fault: the operands are laid out in scratch memory, the loop over pairs of heads
  runs, and the codes and exponents are copied out.
-/
module

public import proofs.«01_k».proof.Proof.Ideal.While

@[expose] public section

namespace Cert.KernelIdeal.Pair

open Idealize.ShloMosaic Idealize.SL.Sem Cert.KernelIdeal
open Cert.KernelIdeal.Facts₀

variable {F : FTy → Type} [FloatOps F] [Facts] {c : Dev nD} {R : Refs} {i : grid0.Coords} {H : ∀ s, (R s).IsWhole}

theorem part1_safe  : Sf c R none (k0_part1 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (St none') := by
  unfold k0_part1
  exact .load .xq fun _ => .load .q fun _ => .store .q <| .load .xq fun _ => .load .q fun _ => .store .q <| .load .xq fun _ =>
    .load .q fun _ => .store .q <| .load .xq fun _ => .load .q fun _ => .store .q <| .ret ⟨fun _ _ => rfl, fun _ _ h =>
    by cases h⟩

theorem part2_safe  : Sf c R none (k0_part2 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part2
  exact .load .xq fun _ => .load .q fun _ => .store .q <| .load .xq fun _ => .load .q fun _ => .store .q <| .load .xq fun _ =>
    .load .q fun _ => .store .q <| .load .xq fun _ => .load .q fun _ => .store .q <| .load .xq fun _ => .ret trivial

theorem part3_safe {v66 : FVec F S2048x128 .bf16} : Sf c R none (k0_part3 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v66) (fun _ => True) := by
  unfold k0_part3
  exact .load .q fun _ => .store .q <| .load .xk fun _ => .load .k fun _ => .store .k <| .load .k fun _ => .store .k <| .load
    .ks fun _ => .load .kb fun _ => .store .kb <| .load .xv fun _ => .load .vs fun _ => .ret trivial

theorem part4_safe {v96 : FVec F S96x2048 .bf16} : Sf c R none (k0_part4 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v96) (fun _ => True) := by
  unfold k0_part4
  exact .load .v fun _ => .store .v <| .load .xk fun _ => .load .k fun _ => .store .k <| .load .k fun _ => .store .k <| .load
    .ks fun _ => .load .kb fun _ => .store .kb <| .load .xv fun _ => .load .vs fun _ => .load .v fun _ => .ret trivial

theorem part5_safe {v124 : FVec F S96x2048 .bf16} : Sf c R none (k0_part5 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v124) (fun _ => True) := by
  unfold k0_part5
  exact .store .v <| .load .xk fun _ => .load .k fun _ => .store .k <| .load .k fun _ => .store .k <| .load .ks fun _ => .load
    .kb fun _ => .store .kb <| .load .xv fun _ => .load .vs fun _ => .load .v fun _ => .store .v <| .ret trivial

theorem part6_safe  : Sf c R none (k0_part6 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part6
  exact .load .xk fun _ => .load .k fun _ => .store .k <| .load .k fun _ => .store .k <| .load .ks fun _ => .load .kb fun _ =>
    .store .kb <| .load .xv fun _ => .load .vs fun _ => .load .v fun _ => .store .v <| .load .xs fun _ => .ret trivial

theorem part7_safe {v184 : Vec F S1x12x2048 .f32} {u : Mxu F} (h : St none' u) :
    Sf c R none (k0_part7 i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) u v184) (St none') := by
  unfold k0_part7
  refine .load _ fun _ => .store _ <| .load _ fun _ => .store _ <| .load _ fun _ => .store _ <|
    .call 12 (fun _ h => by cases h) (while_safe 12 0 rfl 6#32 (.inl rfl) u h) fun x hx => ?_
  obtain ⟨x0, x1, u'⟩ := x
  exact .load _ fun _ => .load _ fun _ => .store _ <| .load _ fun _ => .load _ fun _ => .store _ <| .ret hx

theorem part8_safe  : Sf c R none (k0_part8 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part8
  exact .load .ct fun _ => .load .oc fun _ => .store .oc <| .load .ct fun _ => .load .oc fun _ => .store .oc <| .load .ct fun _
    => .load .oc fun _ => .store .oc <| .load .ct fun _ => .load .oc fun _ => .store .oc <| .load .ct fun _ => .load .oc
    fun _ => .store .oc <| .ret trivial

theorem part9_safe  : Sf c R none (k0_part9 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part9
  exact .load .ct fun _ => .load .oc fun _ => .store .oc <| .load .ct fun _ => .load .oc fun _ => .store .oc <| .load .et fun _
    => .load .oe fun _ => .store .oe <| .load .ct fun _ => .load .oc fun _ => .store .oc <| .load .ct fun _ => .load .oc
    fun _ => .ret trivial

theorem part10_safe {v277 : FVec F S1x256x128 .fp8e4m3} : Sf c R none (k0_part10 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v277) (fun _ => True) := by
  unfold k0_part10
  exact .store .oc <| .load .ct fun _ => .load .oc fun _ => .store .oc <| .load .ct fun _ => .load .oc fun _ => .store .oc <|
    .load .ct fun _ => .load .oc fun _ => .store .oc <| .load .ct fun _ => .load .oc fun _ => .store .oc <| .load .ct
    fun _ => .load .oc fun _ => .ret trivial

theorem part11_safe {v307 : FVec F S1x256x128 .fp8e4m3} : Sf c R none (k0_part11 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v307) (fun _ => True) := by
  unfold k0_part11
  exact .store .oc <| .load .ct fun _ => .load .oc fun _ => .store .oc <| .load .ct fun _ => .load .oc fun _ => .store .oc <|
    .load .et fun _ => .load .oe fun _ => .store .oe <| .load .ct fun _ => .load .oc fun _ => .store .oc <| .load .ct
    fun _ => .load .oc fun _ => .ret trivial

theorem part12_safe {v336 : FVec F S256x128 .fp8e4m3} {v337 : Vec F S1x256x128 .fp8e4m3} : Sf c R none (k0_part12 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v336 v337) (fun _ => True) := by
  unfold k0_part12
  exact .store .oc <| .load .ct fun _ => .load .oc fun _ => .store .oc <| .load .ct fun _ => .load .oc fun _ => .store .oc <|
    .load .ct fun _ => .load .oc fun _ => .store .oc <| .load .ct fun _ => .load .oc fun _ => .store .oc <| .load .ct
    fun _ => .load .oc fun _ => .ret trivial

theorem part13_safe {v366 : FVec F S256x128 .fp8e4m3} {v367 : Vec F S1x256x128 .fp8e4m3} : Sf c R none (k0_part13 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v366 v367) (fun _ => True) := by
  unfold k0_part13
  exact .store .oc <| .load .ct fun _ => .load .oc fun _ => .store .oc <| .load .ct fun _ => .load .oc fun _ => .store .oc <|
    .load .et fun _ => .load .oe fun _ => .store .oe <| .load .ct fun _ => .load .oc fun _ => .store .oc <| .load .ct
    fun _ => .ret trivial

theorem part14_safe {v398 : FVec F S256x128 .fp8e4m3} : Sf c R none (k0_part14 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v398) (fun _ => True) := by
  unfold k0_part14
  exact .load .oc fun _ => .store .oc <| .load .ct fun _ => .load .oc fun _ => .store .oc <| .load .ct fun _ => .load .oc fun _
    => .store .oc <| .load .ct fun _ => .load .oc fun _ => .store .oc <| .load .ct fun _ => .load .oc fun _ => .store
    .oc <| .load .ct fun _ => .ret trivial

theorem part15_safe {v428 : FVec F S256x128 .fp8e4m3} : Sf c R none (k0_part15 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v428) (fun _ => True) := by
  unfold k0_part15
  exact .load .oc fun _ => .store .oc <| .load .ct fun _ => .load .oc fun _ => .store .oc <| .load .ct fun _ => .load .oc fun _
    => .store .oc <| .load .et fun _ => .load .oe fun _ => .store .oe <| .load .ct fun _ => .load .oc fun _ => .store
    .oc <| .load .ct fun _ => .ret trivial

theorem part16_safe {v460 : FVec F S256x128 .fp8e4m3} : Sf c R none (k0_part16 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v460) (fun _ => True) := by
  unfold k0_part16
  exact .load .oc fun _ => .store .oc <| .load .ct fun _ => .load .oc fun _ => .store .oc <| .load .ct fun _ => .load .oc fun _
    => .store .oc <| .load .ct fun _ => .load .oc fun _ => .store .oc <| .load .ct fun _ => .load .oc fun _ => .store
    .oc <| .load .ct fun _ => .ret trivial

theorem part17_safe {v490 : FVec F S256x128 .fp8e4m3} : Sf c R none (k0_part17 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v490) (fun _ => True) := by
  unfold k0_part17
  exact .load .oc fun _ => .store .oc <| .load .ct fun _ => .load .oc fun _ => .store .oc <| .load .ct fun _ => .load .oc fun _
    => .store .oc <| .load .et fun _ => .load .oe fun _ => .store .oe <| .load .ct fun _ => .load .oc fun _ => .store
    .oc <| .load .ct fun _ => .ret trivial

theorem part18_safe {v520 : Vec F S128x256 .bf16} : Sf c R none (k0_part18 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v520) (fun _ => True) := by
  unfold k0_part18
  exact .load .oc fun _ => .store .oc <| .load .ct fun _ => .load .oc fun _ => .store .oc <| .load .ct fun _ => .load .oc fun _
    => .store .oc <| .load .ct fun _ => .load .oc fun _ => .store .oc <| .load .ct fun _ => .load .oc fun _ => .store
    .oc <| .load .ct fun _ => .ret trivial

theorem part19_safe {v550 : Vec F S128x256 .bf16} : Sf c R none (k0_part19 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v550) (fun _ => True) := by
  unfold k0_part19
  exact .load .oc fun _ => .store .oc <| .load .ct fun _ => .load .oc fun _ => .store .oc <| .load .ct fun _ => .load .oc fun _
    => .store .oc <| .load .et fun _ => .load .oe fun _ => .store .oe <| .load .ct fun _ => .load .oc fun _ => .store
    .oc <| .ret trivial

theorem part20_safe  : Sf c R none (k0_part20 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part20
  exact .load .ct fun _ => .load .oc fun _ => .store .oc <| .load .ct fun _ => .load .oc fun _ => .store .oc <| .load .ct fun _
    => .load .oc fun _ => .store .oc <| .load .ct fun _ => .load .oc fun _ => .store .oc <| .load .ct fun _ => .load .oc
    fun _ => .store .oc <| .ret trivial

theorem part21_safe  : Sf c R none (k0_part21 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) ) (fun _ => True) := by
  unfold k0_part21
  exact .load .ct fun _ => .load .oc fun _ => .store .oc <| .load .ct fun _ => .load .oc fun _ => .store .oc <| .load .ct fun _
    => .load .oc fun _ => .store .oc <| .load .et fun _ => .load .oe fun _ => .store .oe <| .load .ct fun _ => .load .oc
    fun _ => .ret trivial

theorem part22_safe {v643 : FVec F S1x256x128 .fp8e4m3} : Sf c R none (k0_part22 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) v643) (fun _ => True) := by
  unfold k0_part22
  exact .store .oc <| .load .ct fun _ => .load .oc fun _ => .store .oc <| .load .ct fun _ => .load .oc fun _ => .store .oc <|
    .load .ct fun _ => .load .oc fun _ => .store .oc <| .load .ct fun _ => .load .oc fun _ => .store .oc <| .load .ct
    fun _ => .load .oc fun _ => .ret trivial

/-- The kernel's body runs from any contents of its windows and scratch. -/
theorem body_safe : Sf c R none (cc0_gqa_prefill (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) (fun _ => True) := by
  have h23 : Sf c R none (k0_part23 (F := F) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) (St none') := by
    unfold k0_part23
    exact .bind part1_safe fun u hu => .bind part2_safe fun _ _ => .bind part3_safe fun _ _ => .bind part4_safe
      fun _ _ => .bind part5_safe fun _ _ => .bind part6_safe fun _ _ => .bind (part7_safe hu) fun u hu =>
      .bind part8_safe fun _ _ => .bind part9_safe fun _ _ => .bind part10_safe fun _ _ => .bind part11_safe
      fun ⟨_, _⟩ _ => .bind part12_safe fun ⟨_, _⟩ _ => .bind part13_safe fun _ _ => .bind part14_safe fun _ _
      => .bind part15_safe fun _ _ => .bind part16_safe fun _ _ => .bind part17_safe fun _ _ => .bind
      part18_safe fun _ _ => .bind part19_safe fun _ _ => .bind part20_safe fun _ _ => .bind part21_safe fun _
      _ => .bind part22_safe fun _ _ =>
      .store .oc <| .load .ct fun _ => .load .oc fun _ => .store .oc <| .load .ct fun _ => .load .oc fun _ => .store .oc <|
      .load .ct fun _ => .load .oc fun _ => .store .oc <| .ret hu
  unfold cc0_gqa_prefill
  refine .bind h23 fun u hu => .load .et fun _ => .load .oe fun _ => .store .oe <| .assume ⟨fun q r => ?_, fun q r => ?_⟩ <| .ret trivial
  · rw [hu.1]; rfl
  · by_contra h
    exact hu.2 q r (by simpa using h)

end Cert.KernelIdeal.Pair
-- ==== Proof.Ideal.Run.lean ====
/-
  The kernel runs: its body's safety carried through the pipeline over the sixteen sequences, and from there to the
  whole program, which ends with its arguments unchanged and every semaphore at zero.
-/
module

public import proofs.«01_k».proof.Proof.Ideal.Whole
public import proofs.«01_k».proof.Proof.Gen.KernelIdeal.Launch
public import proofs.«01_k».proof.Proof.Gen.KernelIdeal.Points

@[expose] public section

noncomputable section

namespace Cert.KernelIdeal.Pair

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point of the grid -/

/-- Where the kernel's buffers are at point `t`. -/
abbrev refs (t : Fin (cfg0 (F := F)).N) : Refs
  | .xq => win0_0.stage ((cfg0 (F := F)).slots t 0) | .xs => win0_1.stage ((cfg0 (F := F)).slots t 1) | .xk => win0_2.stage ((cfg0 (F := F)).slots t 2) | .ks => win0_3.stage ((cfg0 (F := F)).slots t 3) | .xv => win0_4.stage ((cfg0 (F := F)).slots t 4) | .vs => win0_5.stage ((cfg0 (F := F)).slots t 5)
  | .oc => win0_6.stage ((cfg0 (F := F)).slots t 6) | .oe => win0_7.stage ((cfg0 (F := F)).slots t 7)
  | .q => Memref.whole cc0_scratch0 | .k => Memref.whole cc0_scratch1 | .v => Memref.whole cc0_scratch2
  | .kb => Memref.whole cc0_scratch3 | .cq => Memref.whole cc0_scratch4 | .ct => Memref.whole cc0_scratch5
  | .et => Memref.whole cc0_scratch6 | .p => Memref.whole cc0_scratch7 | .row => Memref.whole cc0_scratch8
  | .mx => Memref.whole cc0_scratch9 | .tri => Memref.whole cc0_scratch10 | .bad => Memref.whole cc0_scratch11

theorem refs_whole (t : Fin (cfg0 (F := F)).N) : ∀ s, (refs t s).IsWhole
  | .xq => hstage0_0 (((cfg0 (F := F)).slots t 0).cast nbuf0_0) | .xs => hstage0_1 (((cfg0 (F := F)).slots t 1).cast nbuf0_1) | .xk => hstage0_2 (((cfg0 (F := F)).slots t 2).cast nbuf0_2) | .ks => hstage0_3 (((cfg0 (F := F)).slots t 3).cast nbuf0_3) | .xv => hstage0_4 (((cfg0 (F := F)).slots t 4).cast nbuf0_4)
  | .vs => hstage0_5 (((cfg0 (F := F)).slots t 5).cast nbuf0_5) | .oc => hstage0_6 (((cfg0 (F := F)).slots t 6).cast nbuf0_6) | .oe => hstage0_7 (((cfg0 (F := F)).slots t 7).cast nbuf0_7)
  | .q => Memref.isWhole_whole _ | .k => Memref.isWhole_whole _ | .v => Memref.isWhole_whole _
  | .kb => Memref.isWhole_whole _ | .cq => Memref.isWhole_whole _ | .ct => Memref.isWhole_whole _
  | .et => Memref.isWhole_whole _ | .p => Memref.isWhole_whole _ | .row => Memref.isWhole_whole _
  | .mx => Memref.isWhole_whole _ | .tri => Memref.isWhole_whole _ | .bad => Memref.isWhole_whole _

/-- The buffers' ownership, buffer by buffer. -/
theorem own_eq (c : Dev nD) (R : Refs) (μ : Mem F) :
    (own c R μ : sProp 𝕄) = iprop(owns (c : Thread nD τ) (R .xq) fullShare (μ .xq) ∗ owns (c : Thread nD τ) (R .xs) fullShare (μ .xs)
      ∗ owns (c : Thread nD τ) (R .xk) fullShare (μ .xk) ∗ owns (c : Thread nD τ) (R .ks) fullShare (μ .ks)
      ∗ owns (c : Thread nD τ) (R .xv) fullShare (μ .xv) ∗ owns (c : Thread nD τ) (R .vs) fullShare (μ .vs)
      ∗ owns (c : Thread nD τ) (R .oc) fullShare (μ .oc) ∗ owns (c : Thread nD τ) (R .oe) fullShare (μ .oe)
      ∗ owns (c : Thread nD τ) (R .q) fullShare (μ .q) ∗ owns (c : Thread nD τ) (R .k) fullShare (μ .k)
      ∗ owns (c : Thread nD τ) (R .v) fullShare (μ .v) ∗ owns (c : Thread nD τ) (R .kb) fullShare (μ .kb)
      ∗ owns (c : Thread nD τ) (R .cq) fullShare (μ .cq) ∗ owns (c : Thread nD τ) (R .ct) fullShare (μ .ct)
      ∗ owns (c : Thread nD τ) (R .et) fullShare (μ .et) ∗ owns (c : Thread nD τ) (R .p) fullShare (μ .p)
      ∗ owns (c : Thread nD τ) (R .row) fullShare (μ .row) ∗ owns (c : Thread nD τ) (R .mx) fullShare (μ .mx)
      ∗ owns (c : Thread nD τ) (R .tri) fullShare (μ .tri) ∗ owns (c : Thread nD τ) (R .bad) fullShare (μ .bad)) := by
  unfold own
  exact bigSep_univ_eq_bigSepL ([.xq, .xs, .xk, .ks, .xv, .vs, .oc, .oe, .q, .k, .v, .kb, .cq, .ct, .et, .p, .row, .mx, .tri, .bad] : List Slot)
    (by decide) (by decide) _

/-- The scratch buffers' contents as found, beside the windows' `Y`. -/
def mem (t : Fin (cfg0 (F := F)).N) (Y : (w : Fin (cfg0 (F := F)).W) → ((cfg0 (F := F)).win w).block.Idx → Elt F ((cfg0 (F := F)).win w).elt)
    (d0 : Vec F S1152x2048 .fp8e4m3) (d1 : Vec F S4x2048x128 .fp8e4m3) (d2 : Vec F S4x96x2048 .bf16) (d3 : Vec F S4x2048x128 .f32)
    (d4 : Vec F S12x2048 .f32) (d5 : Vec F S1152x2048 .bf16) (d6 : Vec F S128x2048 .f32) (d7 : Vec F S2x2x2048x256 .f32)
    (d8 : Vec F S2x16x256 .f32) (d9 : Vec F S16x256 .f32) (d10 : Vec F S128x128 .f32) (d11 : Vec F S1x256 .f32) : Mem F
  | .xq => Y 0 | .xs => Y 1 | .xk => Y 2 | .ks => Y 3 | .xv => Y 4 | .vs => Y 5 | .oc => Y 6 | .oe => Y 7
  | .q => d0 | .k => d1 | .v => d2 | .kb => d3 | .cq => d4 | .ct => d5 | .et => d6 | .p => d7 | .row => d8 | .mx => d9
  | .tri => d10 | .bad => d11

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-! ## The program's lines before the call -/

/-- What each buffer holds when the call begins. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

set_option maxHeartbeats 1600000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_eq (b : Ref sig .tc) (h0 : b ≠ main_v0) (h1 : b ≠ main_v1) (c : Dev nD) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The run -/

/-- The proof data: the windows' arrays as the call finds them; a window's buffer may be left holding anything. -/
def rdat (c : Dev nD) : RDat τ (Elt F) Unit ℕ (UR sig nD τ) ℕ (cfg0 (F := F)) c where
  A w := V m c (Pipeline.arrRef spec0 w)
  after _ _ _ _ := True
  Φ _ := Pipeline.ΦA spec0 c
  q _ := fullShare
  owed _ := 0

theorem A_eq (c : Dev nD) (w : Fin (cfg0 (F := F)).W) : (rdat m c).A w = V m c (Pipeline.arrRef spec0 w) := by
  dsimp only [rdat]

/-- What the pipeline takes back after the body. -/
theorem pipe_finish (c : Dev nD) (t : Fin (cfg0 (F := F)).N)
    (Y : (w : Fin (cfg0 (F := F)).W) → ((cfg0 (F := F)).win w).block.Idx → Elt F ((cfg0 (F := F)).win w).elt) :
    (iprop((∃ μ', ⌜True⌝ ∗ own c (refs t) μ') ∗ (∃ r, prngReg c r) ∗ (rdat m c).owesAt () t.castSucc) : sProp 𝕄)
      ⊢ iprop((rdat m c).Φ t.succ ∗ (rdat m c).owesAt () t.succ
        ∗ bigSep Finset.univ fun w => iprop(∃ X, ⌜(rdat m c).after w t (Y w) X⌝
          ∗ owns (c : Thread nD τ) (((cfg0 (F := F)).win w).stage ((cfg0 (F := F)).slots t w)) fullShare X)) := by
  rw [bigSep_W0, show (rdat m c).Φ t.succ = Pipeline.ΦA spec0 c from rfl,
    show (rdat m c).owesAt () t.succ = (rdat m c).owesAt () t.castSucc from rfl]
  unfold Pipeline.ΦA
  rw [scopedRest0_eq]
  simp only [← owns_whole, own_eq]
  iintro ⟨⟨%μ, -, W0, W1, W2, W3, W4, W5, W6, W7, S0, S1, S2, S3, S4, S5, S6, S7, S8, S9, S10, S11⟩, HR, HO⟩
  isplitl [HR S0 S1 S2 S3 S4 S5 S6 S7 S8 S9 S10 S11]
  · isplitr [HR]
    swap; · iexact HR
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    iexists _; iexact S11
  isplitl [HO]; · iexact HO
  isplitl [W0]; · iexists (μ .xq); isplitr; · ipureintro; trivial
                  iexact W0
  isplitl [W1]; · iexists (μ .xs); isplitr; · ipureintro; trivial
                  iexact W1
  isplitl [W2]; · iexists (μ .xk); isplitr; · ipureintro; trivial
                  iexact W2
  isplitl [W3]; · iexists (μ .ks); isplitr; · ipureintro; trivial
                  iexact W3
  isplitl [W4]; · iexists (μ .xv); isplitr; · ipureintro; trivial
                  iexact W4
  isplitl [W5]; · iexists (μ .vs); isplitr; · ipureintro; trivial
                  iexact W5
  isplitl [W6]; · iexists (μ .oc); isplitr; · ipureintro; trivial
                  iexact W6
  iexists (μ .oe); isplitr; · ipureintro; trivial
  iexact W7

theorem body_runs (c : Dev nD) (t : Fin (cfg0 (F := F)).N) (μ : Mem F) :
    (own c (refs t) μ : sProp 𝕄) ⊢ wp frame (wpE (defs₀ (F := F)) Variants.nat (c : Thread nD τ) none)
      Set.univ (bodyAt0 t) (fun _ => iprop(∃ μ', ⌜True⌝ ∗ own c (refs t) μ')) := by
  have h := body_safe (F := F) (c := c) (R := refs t) (i := grid0.coords t) (H := refs_whole t)
  have h2 := h μ
  unfold Ev at h2
  dsimp only [refs] at h2
  unfold bodyAt0
  dsimp only [refs]
  convert h2 using 4

theorem body_obligation (c : Dev nD) : (rdat m c).BodyObligation (defs₀ (F := F)) Variants.nat () Set.univ := fun t Y _ => by
  rw [bigSep_W0, defs₀_row, show (rdat m c).Φ t.castSucc = Pipeline.ΦA spec0 c from rfl]
  unfold Pipeline.ΦA
  rw [scopedRest0_eq]
  simp only [← owns_whole]
  iintro ⟨⟨⟨⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩, ⟨%d10, S10⟩, ⟨%d11, S11⟩⟩, HR⟩,
    HO, W0, W1, W2, W3, W4, W5, W6, W7⟩
  have h := body_runs c t (mem t Y d0 d1 d2 d3 d4 d5 d6 d7 d8 d9 d10 d11)
  rw [own_eq (μ := mem t Y d0 d1 d2 d3 d4 d5 d6 d7 d8 d9 d10 d11)] at h
  have h' := (wp_frame_r frame (wpE (defs₀ (F := F)) Variants.nat (c : Thread nD τ) none) Set.univ
    (R := iprop((∃ r, prngReg c r) ∗ (rdat m c).owesAt () t.castSucc))).trans
    (wp_mono _ _ _ (p := bodyAt0 t) fun _ => pipe_finish m c t Y)
  iapply h'
  isplitr [HR HO]
  · iapply h
    dsimp only [mem]
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [HR]; · iexact HR
  iexact HO

/-- Every execution ends, with every semaphore at zero and the call's arrays and the other arguments accounted for. -/
theorem run_main : θ_run defs (onTc (τ := τ) (main (F := F))) (s₀ m ρ)
    (fun r => RDat.FramePost (cfg0 (F := F)) (rdat m) (V m) r ∧ r.2.sem = fun _ => 0) :=
  RDat.θ_run_frame cfgs (0 : Fin 1) launch0 defs₀ Variants.nat (rdat m) m ρ main (body_obligation m)
    (fun c w => by unfold RDat.share; split <;> rfl) (fun _ _ => rfl) (V m) (hmain m Variants.nat) (A_eq m) (fun _ _ => rfl) (Q' := _) (hQ' := fun _ h => h)

/-- The kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r ⟨h, hs⟩ => ⟨fun c => ⟨?_, ?_, ?_, ?_, ?_, ?_⟩, hs⟩) (run_main m ρ)
  · exact (RDat.FramePost.arr_in h c 0 rfl).trans ((A_eq m c 0).trans (V_eq m main_arg0 (by decide) (by decide) c))
  · exact ((h c).2 main_arg1 (Pipeline.mem_restRefs_of main_arg1 (by decide) (by decide : ∀ w : Fin 8, (spec0 w).arr.view.ref ≠ main_arg1))).trans (V_eq m main_arg1 (by decide) (by decide) c)
  · exact (RDat.FramePost.arr_in h c 2 rfl).trans ((A_eq m c 2).trans (V_eq m main_arg2 (by decide) (by decide) c))
  · exact (RDat.FramePost.arr_in h c 3 rfl).trans ((A_eq m c 3).trans (V_eq m main_arg3 (by decide) (by decide) c))
  · exact (RDat.FramePost.arr_in h c 4 rfl).trans ((A_eq m c 4).trans (V_eq m main_arg4 (by decide) (by decide) c))
  · exact ((h c).2 main_arg5 (Pipeline.mem_restRefs_of main_arg5 (by decide) (by decide : ∀ w : Fin 8, (spec0 w).arr.view.ref ≠ main_arg5))).trans (V_eq m main_arg5 (by decide) (by decide) c)

end Cert.KernelIdeal.Pair
-- ==== Proof.Value.Spec.lean ====
/-
  What the kernel computes, over the extended reals: the scores of one head, the weights a shift gives, and that
  the estimated shift gives the weights of the exact maximum wherever the sum stays below the limit.
-/
module

public import Idealize.ShloMosaic.PureOps.Ideal

@[expose] public section

noncomputable section

namespace Attn

open Idealize.ShloMosaic Finset

/-- The sum of the unnormalised weights of a column of scores under a shift. -/
def den (Z : ℕ → EReal) (σ : EReal) : EReal := ∑ k ∈ range 2048, Ideal.exp2 (Z k - σ)

/-- The weight of a key. -/
def wt (Z : ℕ → EReal) (σ : EReal) (k : ℕ) : EReal := Ideal.exp2 (Z k - σ) * Ideal.div 1 (den Z σ)

theorem exp2_nonneg (x : EReal) : 0 ≤ Ideal.exp2 x := by
  induction x with
  | bot => exact le_refl _
  | top => exact le_top
  | coe r => exact EReal.coe_nonneg.mpr (Real.rpow_nonneg (by norm_num) r)

theorem exp2_bot : Ideal.exp2 ⊥ = 0 := rfl
theorem exp2_top : Ideal.exp2 ⊤ = ⊤ := rfl
theorem exp2_bot_sub (σ : EReal) : Ideal.exp2 (⊥ - σ) = 0 := by rw [EReal.bot_sub]; rfl

theorem exp2_sub_top (z : EReal) : Ideal.exp2 (z - ⊤) = 0 := by
  rw [show z - ⊤ = ⊥ by rw [sub_eq_add_neg, EReal.neg_top, EReal.add_bot]]; rfl

theorem den_top {Z : ℕ → EReal} {σ : EReal} {k : ℕ} (hk : k < 2048) (h : Ideal.exp2 (Z k - σ) = ⊤) : den Z σ = ⊤ :=
  top_le_iff.mp (h ▸ single_le_sum (f := fun k => Ideal.exp2 (Z k - σ)) (fun i _ => exp2_nonneg _) (mem_range.mpr hk))

/-- Two real shifts give the same weights. -/
theorem wt_shift {Z : ℕ → EReal} (hZ : ∀ k < 2048, Z k ≠ ⊤) (s m : ℝ) {k : ℕ} (hk : k < 2048) :
    wt Z (s : EReal) k = wt Z (m : EReal) k := by
  have h : ∀ k < 2048, ∃ a : ℝ, 0 ≤ a ∧ Ideal.exp2 (Z k - m) = (a : EReal) ∧ Ideal.exp2 (Z k - s) = ((Real.rpow 2 (m - s) * a : ℝ) : EReal) := by
    intro k hk
    have h1 := hZ k hk
    generalize Z k = z at h1
    induction z with
    | bot => exact ⟨0, le_refl _, by rw [exp2_bot_sub]; rfl, by rw [exp2_bot_sub]; simp⟩
    | top => exact absurd rfl h1
    | coe r =>
      refine ⟨Real.rpow 2 (r - m), Real.rpow_nonneg (by norm_num) _, by rw [← EReal.coe_sub]; rfl, ?_⟩
      rw [← EReal.coe_sub]
      show ((Real.rpow 2 (r - s) : ℝ) : EReal) = _
      congr 1
      show (2:ℝ) ^ (r - s) = (2:ℝ) ^ (m - s) * (2:ℝ) ^ (r - m)
      rw [← Real.rpow_add (by norm_num)]; congr 1; ring
  choose! a ha hm hs using h
  have hc : 0 < Real.rpow 2 (m - s) := Real.rpow_pos_of_pos (by norm_num) _
  have d1 : den Z m = ((∑ k ∈ range 2048, a k : ℝ) : EReal) := by
    unfold den
    rw [sum_congr rfl fun k hk => hm k (mem_range.mp hk)]
    exact (map_sum (⟨⟨fun x : ℝ => (x : EReal), rfl⟩, fun _ _ => rfl⟩ : ℝ →+ EReal) _ _).symm
  have d2 : den Z s = ((Real.rpow 2 (m - s) * ∑ k ∈ range 2048, a k : ℝ) : EReal) := by
    unfold den
    rw [sum_congr rfl fun k hk => hs k (mem_range.mp hk), mul_sum]
    exact (map_sum (⟨⟨fun x : ℝ => (x : EReal), rfl⟩, fun _ _ => rfl⟩ : ℝ →+ EReal) _ _).symm
  unfold wt
  rw [d1, d2, hm k hk, hs k hk]
  by_cases h0 : ∑ k ∈ range 2048, a k = 0
  · have : a k = 0 := (sum_eq_zero_iff_of_nonneg fun i hi => ha i (mem_range.mp hi)).mp h0 k (mem_range.mpr hk)
    rw [this]; simp
  · rw [Ideal.div_coe h0, Ideal.div_coe (mul_ne_zero hc.ne' h0), one_mul, one_mul, ← EReal.coe_mul, ← EReal.coe_mul]
    congr 1
    field_simp

/-- Where the sum stays below infinity, the shift from the first 32 keys gives the weights of the maximum. -/
theorem wt_est {Z : ℕ → EReal} (e : EReal) (he : e = (range 32).sup Z) (b : ℝ) (hd : den Z (e + b) ≠ ⊤) {k : ℕ} (hk : k < 2048) :
    wt Z (e + b) k = wt Z ((range 2048).sup Z) k := by
  have hle : e ≤ (range 2048).sup Z := he ▸ sup_mono (range_subset_range.mpr (by norm_num))
  by_cases ht : ∃ k < 2048, Z k = ⊤
  · obtain ⟨j, hj, hz⟩ := ht
    have hM : (range 2048).sup Z = ⊤ := top_le_iff.mp (hz ▸ le_sup (mem_range.mpr hj))
    by_cases h1 : e = ⊤
    · rw [hM, h1, EReal.top_add_coe]
    · refine absurd (den_top hj ?_) hd
      rw [hz]
      have : ⊤ - (e + (b : EReal)) = ⊤ := by
        induction e with
        | bot => simp
        | top => exact absurd rfl h1
        | coe r => rw [← EReal.coe_add, EReal.top_sub_coe]
      rw [this]; rfl
  · push Not at ht
    have hM : (range 2048).sup Z ≠ ⊤ := by
      intro h
      obtain ⟨j, hj, hz⟩ := exists_mem_eq_sup (range 2048) ⟨0, by simp⟩ Z
      exact ht j (mem_range.mp hj) (hz ▸ h)
    by_cases hb : e = ⊥
    · subst hb
      by_cases hz : ∀ j < 2048, Z j = ⊥
      · have : (range 2048).sup Z = ⊥ := by
          rw [Finset.sup_eq_bot_iff]; intro j hj; exact hz j (mem_range.mp hj)
        rw [this, EReal.bot_add]
      · push Not at hz
        obtain ⟨j, hj, hz⟩ := hz
        refine absurd (den_top hj ?_) hd
        rw [EReal.bot_add]
        have h2 := ht j hj
        generalize Z j = z at hz h2
        induction z with
        | bot => exact absurd rfl hz
        | top => exact absurd rfl h2
        | coe r => rw [EReal.coe_sub_bot]; rfl
    · have h3 : e ≠ ⊤ := fun h => hM (top_le_iff.mp (h ▸ hle))
      have h4 : (range 2048).sup Z ≠ ⊥ := fun h => hb (le_bot_iff.mp (h ▸ hle))
      generalize (range 2048).sup Z = M at *
      lift M to ℝ using ⟨hM, h4⟩
      lift e to ℝ using ⟨h3, hb⟩
      rw [← EReal.coe_add]
      exact wt_shift ht _ _ hk

end Attn
-- ==== Proof.Value.Ops.lean ====
/-
  What the constant buffers hold during the loop, and what the matrix units do to their accumulators, over the
  extended reals.
-/
module

public import proofs.«01_k».proof.Proof.Ideal.Safe
public import proofs.«01_k».proof.Proof.Value.Spec
public import Idealize.ShloMosaic.Lib.Pointwise

@[expose] public section

noncomputable section

namespace Cert.KernelIdeal.Pair

open Idealize.ShloMosaic Idealize.SL.Sem Cert.KernelIdeal Attn
open Cert.KernelIdeal.Facts₀
open Finset (range)

variable [Facts]

/-- A store through a unit rectangle, read at an index. -/
theorem put_unit {s : Shape} {e : EltTy} (off size : Fin s.rank → ℕ) (inb : ∀ a, off a + size a ≤ s.size a)
    (w : (Rect.unit (s := s) off size inb).shape.Idx → Elt Ideal e) (X : s.Idx → Elt Ideal e) (y : s.Idx) :
    put (Rect.unit off size inb) w X y = if h : ∀ a, off a ≤ (y a).val ∧ (y a).val < off a + size a then
      w (fun a => ⟨(y a).val - off a, by have := h a; show _ < size a; omega⟩) else X y := by
  unfold put
  split_ifs with h
  · have : (Rect.unit (s := s) off size inb).emb (fun a => ⟨(y a).val - off a, by have := h a; show _ < size a; omega⟩) = y := by
      funext a; apply Fin.ext; rw [Rect.emb_apply]
      show off a + 1 * ((y a).val - off a) = _
      have := h a; omega
    conv_lhs => rw [← this]
    rw [preimage?_emb]
  · rw [preimage?_eq_none]
    intro x hx
    apply h
    intro a
    rw [← hx, Rect.emb_apply]
    show off a ≤ off a + 1 * (x a).val ∧ off a + 1 * (x a).val < off a + size a
    have : (x a).val < size a := (x a).isLt
    omega

theorem emb_unit {s : Shape} (off size : Fin s.rank → ℕ) (inb : ∀ a, off a + size a ≤ s.size a)
    (x : (Rect.unit (s := s) off size inb).shape.Idx) (a : Fin s.rank) :
    ((Rect.unit (s := s) off size inb).emb x a).val = off a + (x a).val := by
  rw [Rect.emb_apply]; show off a + 1 * _ = _; rw [one_mul]

theorem c2 {α β γ : Type} (f : α → β → γ) {a a' : α} {b b' : β} (ha : a = a') (hb : b = b') : f a b = f a' b' := by rw [ha, hb]
theorem c3 {α β γ δ : Type} (f : α → β → γ → δ) {a a' : α} {b b' : β} {c c' : γ} (ha : a = a') (hb : b = b') (hc : c = c') :
    f a b c = f a' b' c' := by rw [ha, hb, hc]

/-- What one sequence's operands hold: queries by row and token, keys, values and scales by head. -/
structure In where
  Q : ℕ → ℕ → EReal
  K : ℕ → ℕ → ℕ → EReal
  V : ℕ → ℕ → ℕ → EReal
  KS : ℕ → ℕ → EReal
  C : ℕ → ℕ → EReal

/-- The unscaled score of a key and a query. -/
def In.sc (I : In) (h k q : ℕ) : EReal := ∑ d ∈ range 96, I.K (h / 3) k d * I.Q (96 * h + d) q

/-- The score, minus infinity past the query's own token. -/
def In.Z (I : In) (h q k : ℕ) : EReal := if k ≤ q then I.sc h k q * I.KS (h / 3) k * I.C h q else ⊥

/-- The buffers filled before the loop. -/
structure Con (I : In) (μ : Mem Ideal) : Prop where
  q : ∀ y, @Eq EReal (μ .q y) (I.Q (y 0).val (y 1).val)
  k : ∀ y, @Eq EReal (μ .k y) (if (y 2).val < 96 then I.K (y 0).val (y 1).val (y 2).val else 0)
  v : ∀ y, @Eq EReal (μ .v y) (I.V (y 0).val (y 1).val (y 2).val)
  kb : ∀ y, @Eq EReal (μ .kb y) (I.KS (y 0).val (y 1).val)
  cq : ∀ y, @Eq EReal (μ .cq y) (I.C (y 0).val (y 1).val)
  tri : ∀ y, @Eq EReal (μ .tri y) (if (y 0).val ≤ (y 1).val then 0 else ⊥)

theorem Con.of_eq {I : In} {μ μ' : Mem Ideal} (h : Con I μ) (hq : μ' .q = μ .q) (hk : μ' .k = μ .k) (hv : μ' .v = μ .v)
    (hkb : μ' .kb = μ .kb) (hcq : μ' .cq = μ .cq) (htri : μ' .tri = μ .tri) : Con I μ' :=
  ⟨hq ▸ h.q, hk ▸ h.k, hv ▸ h.v, hkb ▸ h.kb, hcq ▸ h.cq, htri ▸ h.tri⟩

theorem zero8 : Ideal.ofBits .fp8e4m3 0x00#8 = (0 : EReal) := by
  simp [Ideal.ofBits, Ideal.e4m3fn]

/-- The pass of a left-hand value by a staged tile, an element of it. -/
theorem pass_apply {M : ℕ} {φ φ' : FTy} (v : FVec Ideal (Mxu.STile 256) φ) (w : FVec Ideal (Mxu.STile M) φ') (y : (Mxu.STile M).Idx) :
    @Eq EReal ((⟨φ, false, v⟩ : Mxu.Staged Ideal).pass w y) (∑ k : Fin 256, (w (ix2 (y 0) k) : EReal) * v (ix2 k (y 1))) := by
  show Ideal.mxuPass (DotDims.plain M 256 256) w v y = _
  unfold Ideal.mxuPass
  have hb : Function.Bijective (fun k : (DotDims.plain M 256 256).contr.Idx => (k ⟨0, Nat.one_pos⟩ : Fin 256)) := by
    refine ⟨fun a b h => ?_, fun x => ⟨fun i => ⟨x.val, ?_⟩, ?_⟩⟩
    · funext i
      obtain rfl : i = ⟨0, Nat.one_pos⟩ := Fin.ext (by have : i.val < 1 := i.isLt; show i.val = 0; omega)
      exact h
    · obtain rfl : i = ⟨0, Nat.one_pos⟩ := Fin.ext (by have : i.val < 1 := i.isLt; show i.val = 0; omega)
      exact x.isLt
    · rfl
  refine Fintype.sum_bijective _ hb _ _ fun k => ?_
  have e1 : (DotDims.plain M 256 256).lhsIdx y k = ix2 (y 0) (k ⟨0, Nat.one_pos⟩ : Fin 256) := by
    funext b
    match b with
    | ⟨0, _⟩ => rfl
    | ⟨1, _⟩ => rfl
  have e2 : (DotDims.plain M 256 256).rhsIdx y k = ix2 (k ⟨0, Nat.one_pos⟩ : Fin 256) (y 1) := by
    funext b
    match b with
    | ⟨0, _⟩ => rfl
    | ⟨1, _⟩ => rfl
  rw [e1, e2]
  rfl

theorem acc_accBy (u : Mxu Ideal) (m : Fin 2) (t : Mxu.Staged Ideal) (A : ℕ) {M : ℕ} {φ : FTy} (w : FVec Ideal (Mxu.STile M) φ)
    (hf : Mxu.Fits A M) (m' : Fin 2) (R : Fin 1024) (C : Fin 256) :
    @Eq EReal ((u.accBy m t A w hf).acc m' R C) (u.acc m' R C + if h : m' = m ∧ 4 * A ≤ R.val ∧ R.val < 4 * A + M then
      t.pass w (Mxu.ix ⟨R.val - 4 * A, by omega⟩ C) else (0 : EReal)) := by
  unfold Mxu.accBy
  dsimp only
  split_ifs with h
  · cases hl : u.live m' R
    · have := u.clean m' R C hl
      rw [this]
      show _ = Ideal.ofBits .f32 0 + _
      rw [show Ideal.ofBits .f32 0 = (0 : EReal) by simp [Ideal.ofBits, Ideal.ieee], zero_add]; rfl
    · rfl
  · rw [add_zero]

theorem acc_accLhs (u : Mxu Ideal) (m r : Fin 2) (A : ℕ) {M : ℕ} {φ : FTy} (w : FVec Ideal (Mxu.STile M) φ)
    (hf : Mxu.Fits A M) : (u.accLhs m r A w hf).acc = (u.accBy m (u.staged m r) A w hf).acc := rfl

theorem acc_pop (u : Mxu Ideal) (m : Fin 2) (A M : ℕ) (hf : Mxu.Fits A M) (m' : Fin 2) (R : Fin 1024) (C : Fin 256) :
    @Eq EReal ((u.pop m A M hf).acc m' R C) (if m' = m ∧ 4 * A ≤ R.val ∧ R.val < 4 * A + M then 0 else u.acc m' R C) := by
  unfold Mxu.pop
  dsimp only
  split_ifs with h
  · show Ideal.ofBits .f32 0 = (0 : EReal)
    simp [Ideal.ofBits, Ideal.ieee]
  · rfl

theorem acc_pushed (u : Mxu Ideal) (m r : Fin 2) (tr : Bool) {φ : FTy} (v : FVec Ideal (Mxu.STile 256) φ) : (u.pushed m r tr v).acc = u.acc := by
  unfold Mxu.pushed; split <;> rfl

theorem staged_pushed {u : Mxu Ideal} {m r : Fin 2} (hn : u.reg m r = none) {φ : FTy} (v : FVec Ideal (Mxu.STile 256) φ) :
    (u.pushed m r false v).staged m r = ⟨φ, false, v⟩ := by
  unfold Mxu.staged; rw [Mxu.reg_pushed_of_none _ _ _ _ _ hn]; rfl

theorem sum_fin_lt (f : ℕ → EReal) (n N : ℕ) (h : n ≤ N) : ∑ k : Fin N, (if k.val < n then f k.val else 0) = ∑ k ∈ range n, f k := by
  rw [Fin.sum_univ_eq_sum_range (fun k => if k < n then f k else 0) N]
  rw [← Finset.sum_subset (Finset.range_subset_range.mpr h) (fun x _ hx => by rw [if_neg (by simpa using hx)])]
  exact Finset.sum_congr rfl fun x hx => if_pos (by simpa using hx)

section
variable {c : Dev nD} {R : Refs} {bd : Option ℕ} {hct : (R .ct).IsWhole} {it : BitVec 32} (ok : Ok it)

theorem Ev.push {F : FTy → Type} [FloatOps F] {u : Mxu F} {m r : Fin 2} {tr : Bool} {φ : FTy} {v : FVec F (Mxu.STile 256) φ} {β : Type} {k : Mxu F → Pr F β} {μ : Mem F}
    {Q : β → Mem F → Prop} (hn : u.reg m r = none) (h : Ev c R bd (k (u.pushed m r tr v)) μ Q) : Ev c R bd (u.pushRhs m r tr v >>= k) μ Q := by
  simp only [Mxu.pushRhs, Prog.bind_op, Prog.bind_ret]
  exact .assume (Mxu.pushOk_of_none _ _ _ _ hn) h

theorem Ev.loaded {F : FTy → Type} [FloatOps F] {u : Mxu F} {m : Fin 2} {A M : ℕ} {φ : FTy} {w : FVec F (Mxu.STile M) φ} {hf : Mxu.Fits A M} {t : Mxu.Staged F}
    {β : Type} {k : Mxu F → Pr F β} {μ : Mem F} {Q : β → Mem F → Prop}
    (ht : u.gmr m = some t) (h : Ev c R bd (k (u.accBy m t A w hf)) μ Q) : Ev c R bd (u.accLhsLoaded m A w hf >>= k) μ Q := by
  obtain ⟨hs, e⟩ := Option.eq_some_iff_get_eq.mp ht
  rw [← e] at h
  simp only [Mxu.accLhsLoaded, Prog.bind_op, Prog.bind_ret]
  exact .assume hs h

instance (m buf q : Fin 2) (r : ℕ) : Decidable (sRows m buf q r) := by unfold sRows; infer_instance
instance (m : Fin 2) (t : ℕ) (q : Fin 2) (r : ℕ) : Decidable (oRows m t q r) := by unfold oRows; infer_instance

theorem qk_pass {I : In} {μ : Mem Ideal} (hc : Con I μ) {h : ℕ} (m : Fin 2) (t c' : Fin 8) (j : Fin 2) (hh : hrow it m = 96 * h) (hk : krow it m = h / 3)
    (y : S128x256.Idx) :
    @Eq EReal ((⟨.bf16, false, qTile (F := Ideal) (fun x => μ .q ((Rect.unit (s := S1152x2048) ![hrow it m, t.val * 256] S96x256.size (inb2 (ok.q m) (by have := t.2; omega))).emb x))⟩ : Mxu.Staged Ideal).pass
      (kTile (F := Ideal) (fun x => μ .k ((Rect.unit (s := S4x2048x128) ![krow it m, c'.val * 256 + j.val * 128, 0] S1x128x128.size (inbK it ok m c' j)).emb x))) y)
    (I.sc h (256 * c'.val + 128 * j.val + (y 0).val) (256 * t.val + (y 1).val)) := by
  rw [pass_apply]
  unfold In.sc
  rw [← sum_fin_lt _ 96 256 (by norm_num)]
  refine Finset.sum_congr rfl fun k _ => ?_
  unfold qTile kTile
  pointwise
  split_ifs with h1 h2 h2
  · rw [hc.q, hc.k]
    simp only [emb_unit]
    have := k.2
    refine (congrArg (· * _) (if_pos (show 0 + k.val < 96 by omega))).trans ?_
    refine congrArg₂ (· * ·) (c3 I.K ?_ ?_ ?_) (c2 I.Q ?_ ?_)
    · show krow it m + 0 = _; rw [hk]; rfl
    · show c'.val * 256 + j.val * 128 + (y 0).val = _; omega
    · show 0 + k.val = _; omega
    · show hrow it m + k.val = _; rw [hh]
    · show t.val * 256 + (y 1).val = _; omega
  · rw [zero8, mul_zero]
  · omega
  · rw [zero8, zero_mul]

theorem issue_ev {I : In} {μ : Mem Ideal} (hc : Con I μ) {h : ℕ} (m : Fin 2) (t c' : Fin 8) (buf : Fin 2) (hh : hrow it m = 96 * h) (hk : krow it m = h / 3)
    {S : Rows} {u : Mxu Ideal} (hu : St S u) :
    Ev c R bd (issue (bufs R hct) it ok m t c' buf u) μ (fun u' μ' => μ' = μ ∧ St (fun q r => S q r ∨ sRows m buf q r) u' ∧
      ∀ m' R C, @Eq EReal (u'.acc m' R C) (u.acc m' R C + if sRows m buf m' R.val then I.sc h (256 * c'.val + (R.val - 256 * buf.val)) (256 * t.val + C.val) else (0 : EReal))) := by
  unfold issue
  simp only [ld, Prog.lift, Prog.bind_op, Prog.bind_ret]
  refine .load .q <| .push (hu.1 _ _) <| .load .k <| .load .k ?_
  rw [← bind_pure (Mxu.accLhsLoaded _ _ _ _ _)]
  refine .loaded (Mxu.gmr_accLhs _ _ _ _ _ _) (.ret ⟨rfl, ?_, ?_⟩)
  · refine St.mono (St.acc (St.load hu ..) ..) fun q r => ?_
    have := buf.2
    rintro ((h | ⟨rfl, h1, h2⟩) | ⟨rfl, h1, h2⟩)
    · exact .inl h
    · exact .inr ⟨rfl, by simp only [sAddr] at h1 h2; omega, by simp only [sAddr] at h1 h2; omega⟩
    · exact .inr ⟨rfl, by simp only [sAddr] at h1 h2; omega, by simp only [sAddr] at h1 h2; omega⟩
  · intro m' R C
    rw [acc_accBy, acc_accLhs, acc_accBy, staged_pushed (hu.1 _ _)]
    rw [acc_pushed, add_assoc]
    congr 1
    have hb := buf.2
    have e0 : (0 : Fin 2).val = 0 := rfl
    have e1 : (1 : Fin 2).val = 1 := rfl
    split_ifs with h1 h2 h3 h3 h2 h3 h3
    · simp only [sAddr] at h1 h2; omega
    · simp only [sAddr] at h1 h2; omega
    · refine (add_zero _).trans ((qk_pass ok hc m t c' 0 hh hk _).trans ?_)
      simp only [sAddr] at h1 ⊢
      refine c3 I.sc rfl ?_ rfl
      show 256 * c'.val + 128 * 0 + (R.val - 4 * (64 * buf.val + 32 * 0)) = _
      omega
    · exact absurd ⟨h1.1, by simp only [sAddr] at h1; omega, by simp only [sAddr] at h1; omega⟩ h3
    · refine (zero_add _).trans ((qk_pass ok hc m t c' 1 hh hk _).trans ?_)
      simp only [sAddr] at h2 ⊢
      refine c3 I.sc rfl ?_ rfl
      show 256 * c'.val + 128 * 1 + (R.val - 4 * (64 * buf.val + 32 * 1)) = _
      omega
    · exact absurd ⟨h2.1, by simp only [sAddr] at h2; omega, by simp only [sAddr] at h2; omega⟩ h3
    · obtain ⟨h3, h4, h5⟩ := h3
      simp only [sAddr] at h1 h2
      by_cases hr : R.val < 256 * buf.val + 128
      · exact absurd ⟨h3, by omega, by omega⟩ h2
      · exact absurd ⟨h3, by omega, by omega⟩ h1
    · exact add_zero _

end

end Cert.KernelIdeal.Pair
-- ==== Proof.Value.Head.lean ====
/-
  A head's weights: what one step leaves in the shift rows, the weight buffer and the partial sums.
-/
module

public import proofs.«01_k».proof.Proof.Value.Ops

@[expose] public section

noncomputable section

namespace Cert.KernelIdeal.Pair

open Idealize.ShloMosaic Idealize.SL.Sem Cert.KernelIdeal Attn
open Cert.KernelIdeal.Facts₀
open Finset (range)

variable [Facts]

/-- The constant added to the estimated maximum. -/
abbrev e90 : EReal := Ideal.ofBits .f32 0x42B40000#32
/-- The limit of the sums. -/
abbrev lim : EReal := Ideal.ofBits .f32 0x7B800000#32

theorem negInf32 : Ideal.ofBits .f32 0xFF800000#32 = (⊥ : EReal) := by simp [Ideal.ofBits, Ideal.ieee]
theorem zero32 : Ideal.ofBits .f32 0x00000000#32 = (0 : EReal) := by simp [Ideal.ofBits, Ideal.ieee]
theorem one32 : Ideal.ofBits .f32 0x3F800000#32 = (1 : EReal) := by
  simp [Ideal.ofBits, Ideal.ieee]
  rw [← EReal.coe_mul, ← EReal.coe_one]; norm_num

theorem fold_max (n : ℕ) (f : ℕ → EReal) : Finset.fold max (Ideal.ofBits .f32 0xFF800000#32) (fun x : Fin n => f x.val) Finset.univ = (range n).sup f := by
  rw [negInf32]
  apply le_antisymm
  · rw [Finset.fold_max_le]
    exact ⟨bot_le, fun x _ => Finset.le_sup (f := f) (Finset.mem_range.mpr x.2)⟩
  · refine Finset.sup_le fun k hk => ?_
    rw [Finset.le_fold_max]
    exact .inr ⟨⟨k, Finset.mem_range.mp hk⟩, Finset.mem_univ _, le_refl _⟩

/-- A head's unnormalised weight. -/
def pf (I : In) (hd : ℕ → ℕ) (σ : ℕ → ℕ → EReal) (m q k : ℕ) : EReal := Ideal.exp2 (I.Z (hd m) q k - σ m q)
/-- Its sum over the keys. -/
def dn (I : In) (hd : ℕ → ℕ) (σ : ℕ → ℕ → EReal) (m q : ℕ) : EReal := den (I.Z (hd m) q) (σ m q)

/-- The shifts are what the first key tile stores. -/
def Sh (I : In) (hd : ℕ → ℕ) (σ : ℕ → ℕ → EReal) (it : BitVec 32) (mx : S16x256.Idx → EReal) : Prop :=
  ∀ m t x, ∀ y : S16x256.Idx, m < 2 → t < 8 → (y 0).val = 8 * m + t → (y 1).val = x →
    (Scalar.select (Scalar.cmpi .sge it 6#32) (mx y) ((range 32).sup (I.Z (hd m) (256 * t + x)) + e90) : EReal) = σ m (256 * t + x)

section
variable {c : Dev nD} {R : Refs} {bd : Option ℕ} {hct : (R .ct).IsWhole} {it : BitVec 32}
variable {I : In} {hd : ℕ → ℕ} {σ : ℕ → ℕ → EReal}

theorem est_apply (z : FVec Ideal S128x128 .f32) (f : ℕ → EReal) (y : S1x128.Idx) (hz : ∀ a : Fin 32, @Eq EReal (z (ix2 ⟨a.val, by omega⟩ (y 1))) (f a.val)) :
    @Eq EReal (est z y) ((range 32).sup f + e90) := by
  unfold est
  pointwise
  rw [← fold_max]
  congr 2
  funext a
  exact hz a

theorem pTile_apply (z : FVec Ideal S128x128 .f32) (s : Vec Ideal S1x1x128 .f32) (y : S128x128.Idx) :
    @Eq EReal (pTile z s y) (Ideal.exp2 ((z y : EReal) - s (ix3 0 0 (y 1)))) := by
  unfold pTile
  pointwise
  rfl

theorem fold8_apply (z : FVec Ideal S128x128 .f32) (y : S8x128.Idx) :
    @Eq EReal (fold8 z y) (∑ x : Fin 16, z (ix2 ⟨x.val * 8 + (y 0).val, by have : (y 0).val < 8 := (y 0).isLt; omega⟩ (y 1))) := by
  unfold fold8
  pointwise

theorem cast4_apply (w : FVec Ideal S128x128 .f32) (y : S1x1x128x128.Idx) :
    @Eq EReal (shapeCast S1x1x128x128 w shapeCasts_S128x128_S1x1x128x128 y) (w (ix2 (y 2) (y 3))) := by
  pointwise

theorem cast3_apply (w : FVec Ideal S1x128 .f32) (y : S1x1x128.Idx) :
    @Eq EReal (shapeCast S1x1x128 w shapeCasts_S1x128_S1x1x128 y) (w (ix2 0 (y 2))) := by
  pointwise

theorem zHalf_apply (hf : Fin 2) (s : FVec Ideal S128x256 .f32) (kb : Vec Ideal S1x128x128 .f32) (cq : Vec Ideal S1x256 .f32) (y : S128x128.Idx) :
    @Eq EReal (zHalf hf s kb cq y) (s (ix2 (y 0) ⟨128 * hf.val + (y 1).val, by have : (y 1).val < 128 := (y 1).isLt; omega⟩) * kb (ix3 0 (y 0) (y 1))
      * cq (ix2 0 ⟨128 * hf.val + (y 1).val, by have : (y 1).val < 128 := (y 1).isLt; omega⟩)) := by
  match hf with
  | 0 => unfold zHalf; pointwise; try simp
  | 1 => unfold zHalf; pointwise; try simp

/-- The buffers a head's weights change. -/
structure Fr (A : S2x16x256.Idx → Prop) (P : S2x2x2048x256.Idx → Prop) (μ μ' : Mem Ideal) : Prop where
  other : ∀ s, s ≠ .row → s ≠ .p → s ≠ .bad → μ' s = μ s
  row : ∀ y, ¬ A y → μ' .row y = μ .row y
  p : ∀ y, ¬ P y → μ' .p y = μ .p y

theorem Fr.trans {A A' : S2x16x256.Idx → Prop} {P P' : S2x2x2048x256.Idx → Prop} {μ μ' μ'' : Mem Ideal} (h : Fr A P μ μ') (h' : Fr A' P' μ' μ'') :
    Fr (fun y => A y ∨ A' y) (fun y => P y ∨ P' y) μ μ'' where
  other s h1 h2 h3 := (h'.other s h1 h2 h3).trans (h.other s h1 h2 h3)
  row y hy := (h'.row y fun h => hy (.inr h)).trans (h.row y fun h => hy (.inl h))
  p y hy := (h'.p y fun h => hy (.inr h)).trans (h.p y fun h => hy (.inl h))

theorem Fr.con {A : S2x16x256.Idx → Prop} {P : S2x2x2048x256.Idx → Prop} {μ μ' : Mem Ideal} (h : Fr A P μ μ') (hc : Con I μ) : Con I μ' :=
  hc.of_eq (h.other _ nofun nofun nofun) (h.other _ nofun nofun nofun) (h.other _ nofun nofun nofun) (h.other _ nofun nofun nofun)
    (h.other _ nofun nofun nofun) (h.other _ nofun nofun nofun)

/-- The part of the shift rows one half of a query tile uses. -/
def rowHalf (m t h : ℕ) (y : S2x16x256.Idx) : Prop := (y 0).val = m ∧ (y 1).val = 2 * t ∧ 128 * h ≤ (y 2).val ∧ (y 2).val < 128 * h + 128
/-- The part of the weight buffer one half of a chunk of keys uses. -/
def pHalf (m t c j h : ℕ) (y : S2x2x2048x256.Idx) : Prop := (y 0).val = m ∧ (y 1).val = t % 2 ∧ (256 * c + 128 * j ≤ (y 2).val ∧ (y 2).val < 256 * c + 128 * j + 128) ∧ 128 * h ≤ (y 3).val ∧ (y 3).val < 128 * h + 128

/-- After one half of a chunk. -/
structure HalfPost (I : In) (hd : ℕ → ℕ) (σ : ℕ → ℕ → EReal) (m t c j h : ℕ) (d d' : S8x128.Idx → EReal) (μ μ' : Mem Ideal) : Prop where
  fr : Fr (fun y => c + j = 0 ∧ rowHalf m t h y) (pHalf m t c j h) μ μ'
  bad : μ' .bad = μ .bad
  row : ∀ y, rowHalf m t h y → @Eq EReal (μ' .row y) (σ m (256 * t + (y 2).val))
  p : ∀ y, pHalf m t c j h y → @Eq EReal (μ' .p y) (pf I hd σ m (256 * t + (y 3).val) (y 2).val)
  d : ∀ y, d' y = (if c + j = 0 then 0 else d y) + ∑ x : Fin 16, pf I hd σ m (256 * t + 128 * h + (y 1).val) (256 * c + 128 * j + (x.val * 8 + (y 0).val))

theorem weigh_ev (m : Fin 2) (t c' : Fin 8) (j h : Fin 2) (z : FVec Ideal S128x128 .f32) {μ : Mem Ideal} (hsh : Sh I hd σ it (μ .mx))
    (hz : ∀ y, @Eq EReal (z y) (I.Z (hd m.val) (256 * t.val + (128 * h.val + (y 1).val)) (256 * c'.val + 128 * j.val + (y 0).val)))
    (hr : c'.val + j.val = 0 ∨ ∀ y, rowHalf m.val t.val h.val y → @Eq EReal (μ .row y) (σ m.val (256 * t.val + (y 2).val))) :
    Ev c R bd (weigh (bufs R hct) it m t c' j h z) μ (fun d' μ' => ∀ d : S8x128.Idx → EReal,
      HalfPost I hd σ m.val t.val c'.val j.val h.val d (if c'.val + j.val = 0 then d' else addf (F := Ideal) (φ := .f32) d d') μ μ') := by
  have key : ∀ μ1 : Mem Ideal, Fr (fun y => c'.val + j.val = 0 ∧ rowHalf m.val t.val h.val y) (fun _ => False) μ μ1 → μ1 .bad = μ .bad →
      (∀ y, rowHalf m.val t.val h.val y → @Eq EReal (μ1 .row y) (σ m.val (256 * t.val + (y 2).val))) →
      Ev c R bd (do
        let r ← ld (R .row) ![m.val, 2 * t.val, 128 * h.val] S1x1x128.size (inbR m t h) h_S1x1x128
        let _ ← ld (R .p) ![m.val, t.val % 2, c'.val * 256 + j.val * 128, 128 * h.val] S1x1x128x128.size (inbP m t c' j h) h_S1x1x128x128
        st (R .p) ![m.val, t.val % 2, c'.val * 256 + j.val * 128, 128 * h.val] S1x1x128x128.size (inbP m t c' j h) h_S1x1x128x128
          (shapeCast S1x1x128x128 (pTile z r) shapeCasts_S128x128_S1x1x128x128)
        pure (fold8 (pTile z r)) : Pr Ideal (FVec Ideal S8x128 .f32)) μ1 (fun d' μ' => ∀ d : S8x128.Idx → EReal,
      HalfPost I hd σ m.val t.val c'.val j.val h.val d (if c'.val + j.val = 0 then d' else addf (F := Ideal) (φ := .f32) d d') μ μ') := by
    intro μ1 hfr hbad hrow
    have hp : ∀ y, @Eq EReal (pTile z (fun x => μ1 .row ((Rect.unit (s := S2x16x256) ![m.val, 2 * t.val, 128 * h.val] S1x1x128.size (inbR m t h)).emb x)) y)
        (pf I hd σ m.val (256 * t.val + (128 * h.val + (y 1).val)) (256 * c'.val + 128 * j.val + (y 0).val)) := by
      intro y
      rw [pTile_apply, hz, hrow]
      · unfold pf
        rw [emb_unit]
        rfl
      · have : (y 1).val < 128 := (y 1).isLt
        refine ⟨?_, ?_, ?_, ?_⟩ <;> rw [emb_unit]
        · show m.val + 0 = _; omega
        · show 2 * t.val + 0 = _; omega
        · show _ ≤ 128 * h.val + (y 1).val; omega
        · show 128 * h.val + (y 1).val < _; omega
    simp only [ld, st, Prog.lift, Prog.bind_op, Prog.bind_ret, Prog.pure_eq_ret]
    refine .load .row <| .load .p <| .store .p <| .ret fun d => ⟨⟨?_, ?_, ?_⟩, ?_, ?_, ?_, ?_⟩
    · intro s h1 h2 h3; exact (Function.update_of_ne h2 _ _).trans (hfr.other s h1 h2 h3)
    · intro y hy; exact hfr.row y hy
    · intro y hy
      rw [Function.update_self, put_unit, dif_neg]
      · exact hfr.p y id
      intro hh
      refine hy ?_
      have h0 := hh 0; have h1 := hh 1; have h2 := hh 2; have h3 := hh 3
      exact ⟨by have : (y 0).val < m.val + 1 := h0.2; have : m.val ≤ (y 0).val := h0.1; omega,
        by have : (y 1).val < t.val % 2 + 1 := h1.2; have : t.val % 2 ≤ (y 1).val := h1.1; omega,
        by have : (y 2).val < c'.val * 256 + j.val * 128 + 128 := h2.2; have : c'.val * 256 + j.val * 128 ≤ (y 2).val := h2.1; omega, h3⟩
    · exact hbad
    · intro y hy; exact hrow y hy
    · intro y hy
      obtain ⟨h0, h1, ⟨h2, h2'⟩, h3, h3'⟩ := hy
      rw [Function.update_self, put_unit, dif_pos]
      · refine (cast4_apply _ _).trans ((hp _).trans ?_)
        unfold pf
        have e1 : 256 * t.val + (128 * h.val + ((y 3).val - 128 * h.val)) = 256 * t.val + (y 3).val := by omega
        have e2 : 256 * c'.val + 128 * j.val + ((y 2).val - (c'.val * 256 + j.val * 128)) = (y 2).val := by omega
        show Ideal.exp2 (I.Z (hd m.val) (256 * t.val + (128 * h.val + ((y 3).val - 128 * h.val))) (256 * c'.val + 128 * j.val + ((y 2).val - (c'.val * 256 + j.val * 128)))
          - σ m.val (256 * t.val + (128 * h.val + ((y 3).val - 128 * h.val)))) = _
        rw [e1, e2]
      · intro a
        match a with
        | ⟨0, _⟩ => exact ⟨h0.ge, by show (y 0).val < m.val + 1; omega⟩
        | ⟨1, _⟩ => exact ⟨h1.ge, by show (y 1).val < t.val % 2 + 1; omega⟩
        | ⟨2, _⟩ => exact ⟨by show c'.val * 256 + j.val * 128 ≤ (y 2).val; omega, by show (y 2).val < c'.val * 256 + j.val * 128 + 128; omega⟩
        | ⟨3, _⟩ => exact ⟨h3, h3'⟩
    · intro y
      have hf : @Eq EReal (fold8 (pTile z (fun x => μ1 .row ((Rect.unit (s := S2x16x256) ![m.val, 2 * t.val, 128 * h.val] S1x1x128.size (inbR m t h)).emb x))) y)
          (∑ x : Fin 16, pf I hd σ m.val (256 * t.val + 128 * h.val + (y 1).val) (256 * c'.val + 128 * j.val + (x.val * 8 + (y 0).val))) := by
        rw [fold8_apply]
        refine Finset.sum_congr rfl fun x _ => (hp _).trans ?_
        show pf I hd σ m.val (256 * t.val + (128 * h.val + (y 1).val)) (256 * c'.val + 128 * j.val + (x.val * 8 + (y 0).val)) = _
        rw [← add_assoc]
      by_cases hcj : c'.val + j.val = 0
      · rw [if_pos hcj, if_pos hcj, zero_add]; exact hf
      · rw [if_neg hcj, if_neg hcj]; exact congrArg (fun e : EReal => d y + e) hf
  unfold weigh
  split
  · next h0 =>
    simp only [ld, st, Prog.lift, Prog.bind_op, Prog.bind_ret, Prog.pure_eq_ret] at key ⊢
    simp only [if_pos h0] at key
    refine .load .mx <| .load .row <| .store .row ?_
    refine key _ ⟨?_, ?_, ?_⟩ ?_ ?_
    · intro s h1 h2 h3; exact Function.update_of_ne h1 _ _
    · intro y hy
      rw [Function.update_self, put_unit, dif_neg]
      intro hh
      refine hy ⟨h0, ?_⟩
      have h0 := hh 0; have h1 := hh 1; have h2 := hh 2
      exact ⟨by have : (y 0).val < m.val + 1 := h0.2; have : m.val ≤ (y 0).val := h0.1; omega,
        by have : (y 1).val < 2 * t.val + 1 := h1.2; have : 2 * t.val ≤ (y 1).val := h1.1; omega, h2.1, h2.2⟩
    · intro y hy; rfl
    · rfl
    · intro y hy
      obtain ⟨h1, h2, h3, h4⟩ := hy
      rw [Function.update_self, put_unit, dif_pos]
      · rw [cast3_apply]
        have hlt : (y 2).val < 256 := (y 2).isLt
        refine Eq.trans ?_ (hsh m.val t.val (y 2).val (ix2 ⟨8 * m.val + t.val, by omega⟩ ⟨(y 2).val, hlt⟩) m.2 t.2 rfl rfl)
        unfold Scalar.select
        split
        · show μ .mx _ = μ .mx _
          congr 1
          funext a
          apply Fin.ext
          rw [emb_unit]
          match a with
          | ⟨0, _⟩ => rfl
          | ⟨1, _⟩ => show 128 * h.val + ((y 2).val - 128 * h.val) = (y 2).val; omega
        · refine est_apply z _ _ fun a => ?_
          rw [hz]
          have e1 : 256 * t.val + (128 * h.val + ((y 2).val - 128 * h.val)) = 256 * t.val + (y 2).val := by omega
          show I.Z (hd m.val) (256 * t.val + (128 * h.val + ((y 2).val - 128 * h.val))) (256 * c'.val + 128 * j.val + a.val) = _
          rw [e1, show 256 * c'.val + 128 * j.val + a.val = a.val by omega]
      · intro a
        match a with
        | ⟨0, _⟩ => exact ⟨h1.ge, by show (y 0).val < m.val + 1; omega⟩
        | ⟨1, _⟩ => exact ⟨h2.ge, by show (y 1).val < 2 * t.val + 1; omega⟩
        | ⟨2, _⟩ => exact ⟨h3, h4⟩
  · next h0 =>
    simp only [if_neg h0] at key
    exact key μ ⟨fun _ _ _ _ => rfl, fun _ _ => rfl, fun _ _ => rfl⟩ rfl (hr.resolve_left h0)

/-- One half of one chunk of keys that the query tile looks at. -/
theorem half_ev (m : Fin 2) (t c' : Fin 8) (j h : Fin 2) (hx : c'.val < t.val ∨ c'.val = t.val ∧ j.val ≤ h.val)
    (s : FVec Ideal S128x256 .f32) (kb : Vec Ideal S1x128x128 .f32) (cq : Vec Ideal S1x256 .f32) (d : FVec Ideal S8x128 .f32) {μ : Mem Ideal} (hc : Con I μ)
    (hs : ∀ y, @Eq EReal (s y) (I.sc (hd m.val) (256 * c'.val + 128 * j.val + (y 0).val) (256 * t.val + (y 1).val)))
    (hkb : ∀ y, @Eq EReal (kb y) (I.KS (hd m.val / 3) (256 * c'.val + 128 * j.val + (y 1).val)))
    (hcq : ∀ y, @Eq EReal (cq y) (I.C (hd m.val) (256 * t.val + (y 1).val)))
    (hsh : Sh I hd σ it (μ .mx))
    (hr : c'.val + j.val = 0 ∨ ∀ y, rowHalf m.val t.val h.val y → @Eq EReal (μ .row y) (σ m.val (256 * t.val + (y 2).val))) :
    Ev c R bd (half (bufs R hct) it m t c' j h s kb cq d) μ (fun d' μ' => HalfPost I hd σ m.val t.val c'.val j.val h.val d d' μ μ') := by
  unfold half
  refine .bind (Q := fun z μ' => μ' = μ ∧ ∀ y, @Eq EReal (z y) (I.Z (hd m.val) (256 * t.val + (128 * h.val + (y 1).val)) (256 * c'.val + 128 * j.val + (y 0).val))) ?_ fun z μ' hz => ?_
  · have hzz : ∀ y : S128x128.Idx, @Eq EReal (zHalf h s kb cq y) (I.sc (hd m.val) (256 * c'.val + 128 * j.val + (y 0).val) (256 * t.val + (128 * h.val + (y 1).val))
        * I.KS (hd m.val / 3) (256 * c'.val + 128 * j.val + (y 0).val) * I.C (hd m.val) (256 * t.val + (128 * h.val + (y 1).val))) := by
      intro y
      rw [zHalf_apply, hs, hkb, hcq]
      rfl
    have hj := j.2; have hh := h.2
    split
    · next hd' =>
      simp only [ld, Prog.lift, Prog.bind_op, Prog.bind_ret, Prog.pure_eq_ret]
      refine .load .tri <| .ret ⟨rfl, fun y => ?_⟩
      have e : @Eq EReal (μ .tri ((Rect.unit (s := S128x128) ![0, 0] S128x128.size inb_S128x128_S128x128_0_0).emb y)) (if (y 0).val ≤ (y 1).val then 0 else ⊥) := by
        rw [hc.tri, emb_unit, emb_unit]
        show (if 0 + (y 0).val ≤ 0 + (y 1).val then _ else _) = _
        rw [Nat.zero_add, Nat.zero_add]
      show (zHalf h s kb cq y : EReal) + μ .tri _ = _
      rw [e, hzz]
      unfold In.Z
      obtain ⟨h1, h2⟩ := hd'
      have h2 : j.val = h.val := congrArg Fin.val h2
      by_cases hle : (y 0).val ≤ (y 1).val
      · rw [if_pos hle, if_pos (by omega), add_zero]
      · rw [if_neg hle, if_neg (by omega), EReal.add_bot]
    · next hd' =>
      refine .ret ⟨rfl, fun y => ?_⟩
      rw [hzz]
      unfold In.Z
      have h0 : (y 0).val < 128 := (y 0).isLt
      have h1 : (y 1).val < 128 := (y 1).isLt
      rw [if_pos]
      have : ¬ (c'.val = t.val ∧ j.val = h.val) := fun hh => hd' ⟨hh.1, Fin.ext hh.2⟩
      omega
  · obtain ⟨rfl, hz⟩ := hz
    exact (weigh_ev m t c' j h z hsh hz hr).bind fun p μ' hp => .ret (hp d)

end

end Cert.KernelIdeal.Pair
-- ==== Proof.Value.PassA.lean ====
/-
  A query tile's scores against a key tile, to weights: what the step leaves in the buffers.
-/
module

public import proofs.«01_k».proof.Proof.Value.Head

@[expose] public section

noncomputable section

namespace Cert.KernelIdeal.Pair

open Idealize.ShloMosaic Idealize.SL.Sem Cert.KernelIdeal Attn
open Cert.KernelIdeal.Facts₀
open Finset (range)

variable [Facts]

section
variable {c : Dev nD} {R : Refs} {bd : Option ℕ} {hct : (R .ct).IsWhole} {it : BitVec 32} (ok : Ok it)
variable {I : In} {hd : ℕ → ℕ} {σ : ℕ → ℕ → EReal}

theorem sum8 (f : ℕ → EReal) (b : ℕ) : ∑ r : Fin 8, ∑ x : Fin 16, f (b + (x.val * 8 + r.val)) = ∑ k ∈ range 128, f (b + k) := by
  rw [Finset.sum_comm, ← Fintype.sum_prod_type' (f := fun (x : Fin 16) (r : Fin 8) => f (b + (x.val * 8 + r.val)))]
  rw [← Fin.sum_univ_eq_sum_range (fun k => f (b + k)) 128]
  refine Fintype.sum_equiv (finProdFinEquiv : Fin 16 × Fin 8 ≃ Fin (16 * 8)) _ _ ?_
  rintro ⟨x, r⟩
  show _ = f (b + (r.val + 8 * x.val))
  dsimp only
  congr 2; omega

/-- Partial sums of the weights of the first `n` keys. -/
def Ds (I : In) (hd : ℕ → ℕ) (σ : ℕ → ℕ → EReal) (m q0 n : ℕ) (d : S8x128.Idx → EReal) : Prop :=
  ∀ x : Fin 128, ∑ r : Fin 8, d (ix2 r x) = ∑ k ∈ range n, pf I hd σ m (q0 + x.val) k

theorem HalfPost.ds {m t c j h : ℕ} {d d' : S8x128.Idx → EReal} {μ μ' : Mem Ideal} (P : HalfPost I hd σ m t c j h d d' μ μ')
    (hD : c + j = 0 ∨ Ds I hd σ m (256 * t + 128 * h) (256 * c + 128 * j) d) : Ds I hd σ m (256 * t + 128 * h) (256 * c + 128 * j + 128) d' := by
  intro x
  have : ∀ r : Fin 8, d' (ix2 r x) = (if c + j = 0 then 0 else d (ix2 r x)) + ∑ y : Fin 16, pf I hd σ m (256 * t + 128 * h + x.val) (256 * c + 128 * j + (y.val * 8 + r.val)) :=
    fun r => P.d (ix2 r x)
  rw [Finset.sum_congr rfl fun r _ => this r, Finset.sum_add_distrib, sum8 (fun k => pf I hd σ m (256 * t + 128 * h + x.val) k), Finset.sum_range_add]
  congr 1
  by_cases h0 : c + j = 0
  · simp only [if_pos h0, Finset.sum_const_zero]
    rw [show 256 * c + 128 * j = 0 by omega]; rfl
  · simp only [if_neg h0]
    exact hD.resolve_left h0 x

theorem sum_dn (m q n : ℕ) (hq : q < n) (hn : n ≤ 2048) : ∑ k ∈ range n, pf I hd σ m q k = dn I hd σ m q := by
  unfold dn den
  refine Finset.sum_subset (Finset.range_subset_range.mpr hn) fun k _ hk => ?_
  rw [Finset.mem_range] at hk
  unfold pf In.Z
  rw [if_neg (by omega), exp2_bot_sub]

theorem lRow_apply (d0 d1 : FVec Ideal S8x128 .f32) (y : S1x256.Idx) :
    @Eq EReal (lRow d0 d1 y) (∑ x : Fin 8, if h : (y 1).val < 128 then d0 (ix2 x ⟨(y 1).val, h⟩) else
      d1 (ix2 x ⟨(y 1).val - 128, by have : (y 1).val < 256 := (y 1).isLt; omega⟩)) := by
  unfold lRow
  pointwise

theorem badRow_apply (b : Vec Ideal S1x256 .f32) (l : FVec Ideal S1x256 .f32) (y : S1x256.Idx) :
    @Eq EReal (badRow b l y) (max (b y) (if (l y : EReal) < lim then 0 else 1)) := by
  unfold badRow
  pointwise

theorem invRow_apply (l : FVec Ideal S1x256 .f32) (y : S1x1x256.Idx) : @Eq EReal (invRow l y) (Ideal.div 1 (l (ix2 0 (y 2)))) := by
  unfold invRow
  pointwise

theorem emb_zero (y : S1x256.Idx) (h : ∀ a, (y a).val - (![0, 0] : Fin 2 → ℕ) a < S1x256.size a) :
    ((Rect.unit (s := S1x256) ![0, 0] S1x256.size inb_S1x256_S1x256_0_0).emb fun a => ⟨(y a).val - (![0, 0] : Fin 2 → ℕ) a, h a⟩) = y := by
  funext a; apply Fin.ext; rw [emb_unit]
  match a with
  | ⟨0, _⟩ => exact (Nat.zero_add _).trans (Nat.sub_zero _)
  | ⟨1, _⟩ => exact (Nat.zero_add _).trans (Nat.sub_zero _)

/-- A head's shift rows and weights before its step `(t, c)`. -/
structure HM (I : In) (hd : ℕ → ℕ) (σ : ℕ → ℕ → EReal) (m t c : ℕ) (μ : Mem Ideal) : Prop where
  rs : 0 < c → ∀ y : S2x16x256.Idx, (y 0).val = m → (y 1).val = 2 * t → @Eq EReal (μ .row y) (σ m (256 * t + (y 2).val))
  rl : 0 < t → ∀ y : S2x16x256.Idx, (y 0).val = m → (y 1).val = 2 * t - 1 → @Eq EReal (μ .row y) (Ideal.div 1 (dn I hd σ m (256 * (t - 1) + (y 2).val)))
  pc : ∀ y : S2x2x2048x256.Idx, (y 0).val = m → (y 1).val = t % 2 → (y 2).val < 256 * c → @Eq EReal (μ .p y) (pf I hd σ m (256 * t + (y 3).val) (y 2).val)
  pp : 0 < t → ∀ y : S2x2x2048x256.Idx, (y 0).val = m → (y 1).val = (t - 1) % 2 → (y 2).val < 256 * t → ¬ (256 * (t - 1) + 128 ≤ (y 2).val ∧ (y 3).val < 128) →
    @Eq EReal (μ .p y) (pf I hd σ m (256 * (t - 1) + (y 3).val) (y 2).val)

theorem HM.fr {m t c' m' : ℕ} {μ μ' : Mem Ideal} (h : HM I hd σ m t c' μ) (hf : Fr (fun y => (y 0).val = m') (fun y => (y 0).val = m') μ μ') (hm : m ≠ m') :
    HM I hd σ m t c' μ' where
  rs h0 y h1 h2 := by rw [hf.row y (by omega)]; exact h.rs h0 y h1 h2
  rl h0 y h1 h2 := by rw [hf.row y (by omega)]; exact h.rl h0 y h1 h2
  pc y h1 h2 h3 := by rw [hf.p y (by omega)]; exact h.pc y h1 h2 h3
  pp h0 y h1 h2 h3 h4 := by rw [hf.p y (by omega)]; exact h.pp h0 y h1 h2 h3 h4

theorem ld_kb {μ : Mem Ideal} (hc : Con I μ) (m : Fin 2) (c' : Fin 8) (j : Fin 2) {h : ℕ} (hk : krow it m = h / 3) (y : S1x128x128.Idx) :
    @Eq EReal (μ .kb ((Rect.unit (s := S4x2048x128) ![krow it m, c'.val * 256 + j.val * 128, 0] S1x128x128.size (inbK it ok m c' j)).emb y))
      (I.KS (h / 3) (256 * c'.val + 128 * j.val + (y 1).val)) := by
  rw [hc.kb, emb_unit, emb_unit]
  have : (y 0).val < 1 := (y 0).isLt
  refine c2 I.KS ?_ ?_
  · show krow it m + (y 0).val = _; omega
  · show c'.val * 256 + j.val * 128 + (y 1).val = _; omega

/-- After a head's step `(t, c)`. -/
structure PostA (I : In) (hd : ℕ → ℕ) (σ : ℕ → ℕ → EReal) (m : Fin 2) (t c : ℕ) (buf : Fin 2) (u : Mxu Ideal) (x : Mxu Ideal × (FVec Ideal S8x128 .f32 × FVec Ideal S8x128 .f32)) (μ μ' : Mem Ideal) : Prop where
  acc : ∀ m' R C, @Eq EReal (x.1.acc m' R C) (if sRows m buf m' R.val then 0 else u.acc m' R C)
  fr : Fr (fun y => (y 0).val = m.val) (fun y => (y 0).val = m.val) μ μ'
  hm : if c < t then HM I hd σ m.val t (c + 1) μ' else HM I hd σ m.val (t + 1) 0 μ'
  ds : c < t → Ds I hd σ m.val (256 * t) (256 * (c + 1)) x.2.1 ∧ Ds I hd σ m.val (256 * t + 128) (256 * (c + 1)) x.2.2
  mono : ∀ y, (μ .bad y : EReal) ≤ μ' .bad y
  bad : ¬ c < t → ∀ y, (μ' .bad y : EReal) ≤ 0 → dn I hd σ m.val (256 * t + (y 1).val) < lim

theorem passA_ev (m : Fin 2) (t c' : Fin 8) (hle : c'.val ≤ t.val) (buf : Fin 2) (hk : krow it m = hd m.val / 3) (hcr : crow it m = hd m.val) {S : Rows} {u : Mxu Ideal} (h : St S u) (d : FVec Ideal S8x128 .f32 × FVec Ideal S8x128 .f32)
    {μ : Mem Ideal} (hc : Con I μ) (hsh : Sh I hd σ it (μ .mx)) (hm : HM I hd σ m.val t.val c'.val μ)
    (hs : ∀ R C, sRows m buf m R.val → @Eq EReal (u.acc m R C) (I.sc (hd m.val) (256 * c'.val + (R.val - 256 * buf.val)) (256 * t.val + C.val)))
    (hD : c'.val = 0 ∨ Ds I hd σ m.val (256 * t.val) (256 * c'.val) d.1 ∧ Ds I hd σ m.val (256 * t.val + 128) (256 * c'.val) d.2) :
    Ev c R bd (passA (bufs R hct) it ok m t c' buf u d) μ
      (fun x μ' => St (fun q r => S q r ∧ ¬ sRows m buf q r) x.1 ∧ PostA I hd σ m t.val c'.val buf u x μ μ') := by
  have key : St (fun q r => S q r ∧ ¬ sRows m buf q r)
      ((u.pop m (sAddr buf 0) 128 (fitsS buf 0)).pop m (sAddr buf 1) 128 (fitsS buf 1)) := by
    refine St.mono (St.pop (St.pop h ..) ..) fun q r => ?_
    rintro ⟨⟨h0, h1⟩, h2⟩
    refine ⟨h0, ?_⟩
    rintro ⟨rfl, h3, h4⟩
    by_cases hr : r < 256 * buf.val + 128
    · exact h1 ⟨rfl, by simp only [sAddr]; simp; omega, by simp only [sAddr]; simp; omega⟩
    · exact h2 ⟨rfl, by simp only [sAddr]; simp; omega, by simp only [sAddr]; simp; omega⟩
  have e0 : (0 : Fin 2).val = 0 := rfl
  have e1 : (1 : Fin 2).val = 1 := rfl
  have hb := buf.2
  have hacc : ∀ m' R C, @Eq EReal (((u.pop m (sAddr buf 0) 128 (fitsS buf 0)).pop m (sAddr buf 1) 128 (fitsS buf 1)).acc m' R C) (if sRows m buf m' R.val then 0 else u.acc m' R C) := by
    intro m' R C
    rw [acc_pop, acc_pop]
    unfold sRows sAddr
    by_cases hmm : m' = m
    · subst hmm
      simp only [true_and]
      split_ifs <;> first | rfl | (exfalso; omega)
    · simp only [hmm, false_and, if_false]
  have hs0 : ∀ y, @Eq EReal (u.read m (sAddr buf 0) (fitsS buf 0) y) (I.sc (hd m.val) (256 * c'.val + 128 * (0 : Fin 2).val + (y 0).val) (256 * t.val + (y 1).val)) := by
    intro y
    have : (y 0).val < 128 := (y 0).isLt
    refine (hs _ _ ⟨rfl, ?_, ?_⟩).trans (c3 I.sc rfl ?_ rfl)
    · show _ ≤ 4 * (64 * buf.val + 32 * 0) + (y 0).val; omega
    · show 4 * (64 * buf.val + 32 * 0) + (y 0).val < _; omega
    · show _ + (4 * (64 * buf.val + 32 * 0) + (y 0).val - _) = _; omega
  have hs1 : ∀ y, @Eq EReal ((u.pop m (sAddr buf 0) 128 (fitsS buf 0)).read m (sAddr buf 1) (fitsS buf 1) y) (I.sc (hd m.val) (256 * c'.val + 128 * (1 : Fin 2).val + (y 0).val) (256 * t.val + (y 1).val)) := by
    intro y
    have : (y 0).val < 128 := (y 0).isLt
    refine (acc_pop u m (sAddr buf 0) 128 (fitsS buf 0) m _ _).trans ?_
    rw [if_neg]
    · refine (hs _ _ ⟨rfl, ?_, ?_⟩).trans (c3 I.sc rfl ?_ rfl)
      · show _ ≤ 4 * (64 * buf.val + 32 * 1) + (y 0).val; omega
      · show 4 * (64 * buf.val + 32 * 1) + (y 0).val < _; omega
      · show _ + (4 * (64 * buf.val + 32 * 1) + (y 0).val - _) = _; omega
    · rintro ⟨-, -, h2⟩
      have : 4 * (64 * buf.val + 32 * 1) + (y 0).val < 4 * (64 * buf.val + 32 * 0) + 128 := h2
      omega
  have hcq : ∀ y : S1x256.Idx, @Eq EReal (μ .cq ((Rect.unit (s := S12x2048) ![crow it m, t.val * 256] S1x256.size (inb2 (ok.c m) (by have := t.2; omega))).emb y))
      (I.C (hd m.val) (256 * t.val + (y 1).val)) := by
    intro y
    rw [hc.cq, emb_unit, emb_unit]
    have : (y 0).val < 1 := (y 0).isLt
    refine c2 I.C ?_ ?_
    · show crow it m + (y 0).val = _; omega
    · show t.val * 256 + (y 1).val = _; omega
  unfold passA
  simp only [ld, st, Prog.lift, Prog.bind_op, Prog.bind_ret, Prog.pure_eq_ret]
  refine .load .cq <| .load .kb <| .bind (half_ev (I := I) (hd := hd) (σ := σ) m t c' 0 0 (by omega) _ _ _ _ hc hs0 (ld_kb ok hc m c' 0 hk) hcq hsh ?_) fun d0 μ1 P0 =>
    .bind (half_ev (I := I) (hd := hd) (σ := σ) m t c' 0 1 (by omega) _ _ _ _ (P0.fr.con hc) hs0 (ld_kb ok hc m c' 0 hk) hcq ((P0.fr.other .mx nofun nofun nofun).symm ▸ hsh) ?_) fun d1 μ2 P1 => .load .kb ?_
  · rcases Nat.eq_zero_or_pos c'.val with h0 | h0
    · left; omega
    · right; exact fun y hy => hm.rs h0 y hy.1 hy.2.1
  · rcases Nat.eq_zero_or_pos c'.val with h0 | h0
    · left; omega
    · right; exact fun y hy => (P0.fr.row y (by rintro ⟨h, -⟩; omega)).trans (hm.rs h0 y hy.1 hy.2.1)
  have hrow2 : ∀ y : S2x16x256.Idx, (y 0).val = m.val → (y 1).val = 2 * t.val → @Eq EReal (μ2 .row y) (σ m.val (256 * t.val + (y 2).val)) := by
    intro y h0 h1
    have hlt : (y 2).val < 256 := (y 2).isLt
    by_cases h2 : (y 2).val < 128
    · exact (P1.fr.row y (by rintro ⟨-, -, -, h3, -⟩; omega)).trans (P0.row y ⟨h0, h1, by omega, by omega⟩)
    · exact P1.row y ⟨h0, h1, by omega, by omega⟩
  have ds0 : Ds I hd σ m.val (256 * t.val) (256 * c'.val + 128) d0 := by
    have := P0.ds (by
      rcases hD with hD | hD
      · left; omega
      · right; simpa using hD.1)
    simpa using this
  have ds1 : Ds I hd σ m.val (256 * t.val + 128) (256 * c'.val + 128) d1 := by
    have := P1.ds (by
      rcases hD with hD | hD
      · left; omega
      · right; simpa using hD.2)
    simpa using this
  have F2 := P0.fr.trans P1.fr
  have hc2 := F2.con hc
  have hsh2 : Sh I hd σ it (μ2 .mx) := (F2.other .mx nofun nofun nofun).symm ▸ hsh
  have hcc := c'.2
  have htt := t.2
  split
  · next hd' =>
    refine .bind (half_ev (I := I) (hd := hd) (σ := σ) m t c' 1 1 (by omega) _ _ _ _ hc2 hs1 (ld_kb ok hc2 m c' 1 hk) hcq hsh2 (.inr fun y hy => hrow2 y hy.1 hy.2.1)) fun d1' μ3 P2 =>
      .load .bad <| .load .bad <| .store .bad <| .load .row <| .store .row <| .ret ⟨key, ?_⟩
    have F3 := F2.trans P2.fr
    have ds1' : Ds I hd σ m.val (256 * t.val + 128) (256 * t.val + 256) d1' := by
      have := P2.ds (.inr (by simpa using ds1))
      rw [show (256 * c'.val + 128 * (1 : Fin 2).val + 128) = 256 * t.val + 256 by omega, show 256 * t.val + 128 * (1 : Fin 2).val = 256 * t.val + 128 by omega] at this
      exact this
    have hl : ∀ y : S1x256.Idx, @Eq EReal (lRow d0 d1' y) (dn I hd σ m.val (256 * t.val + (y 1).val)) := by
      intro y
      have hlt : (y 1).val < 256 := (y 1).isLt
      rw [lRow_apply]
      by_cases h1 : (y 1).val < 128
      · simp only [dif_pos h1]
        refine (ds0 ⟨(y 1).val, h1⟩).trans (sum_dn _ _ _ ?_ ?_)
        · show 256 * t.val + (y 1).val < _; omega
        · omega
      · simp only [dif_neg h1]
        refine (ds1' ⟨(y 1).val - 128, by omega⟩).trans ?_
        have e : 256 * t.val + 128 + ((y 1).val - 128) = 256 * t.val + (y 1).val := by omega
        show ∑ k ∈ range (256 * t.val + 256), pf I hd σ m.val (256 * t.val + 128 + ((y 1).val - 128)) k = _
        rw [e]
        exact sum_dn _ _ _ (by omega) (by omega)
    have hbad : ∀ y, @Eq EReal (put (Rect.unit (s := S1x256) ![0, 0] S1x256.size inb_S1x256_S1x256_0_0) (badRow (fun x => μ3 .bad ((Rect.unit (s := S1x256) ![0, 0] S1x256.size inb_S1x256_S1x256_0_0).emb x)) (lRow d0 d1')) (μ3 .bad) y)
        (max (μ .bad y) (if dn I hd σ m.val (256 * t.val + (y 1).val) < lim then 0 else 1)) := by
      intro y
      rw [put_unit, dif_pos]
      · rw [badRow_apply, hl]
        refine congrArg₂ max ?_ ?_
        · refine (congrArg (μ3 .bad) (emb_zero y _)).trans ?_
          rw [P2.bad, P1.bad, P0.bad]
        · rfl
      · intro a
        match a with
        | ⟨0, _⟩ => exact ⟨Nat.zero_le _, by have : (y 0).val < 1 := (y 0).isLt; show (y 0).val < 0 + 1; omega⟩
        | ⟨1, _⟩ => exact ⟨Nat.zero_le _, by have : (y 1).val < 256 := (y 1).isLt; show (y 1).val < 0 + 256; omega⟩
    refine ⟨hacc, ⟨?_, ?_, ?_⟩, ?_, fun h => absurd h (by omega), ?_, ?_⟩
    · intro s h1 h2 h3
      exact (Function.update_of_ne h1 _ _).trans ((Function.update_of_ne h3 _ _).trans (F3.other s h1 h2 h3))
    · intro y hy
      rw [Function.update_self, put_unit, dif_neg]
      · exact F3.row y (by rintro ((⟨-, h⟩ | ⟨-, h⟩) | ⟨-, h⟩) <;> exact hy h.1)
      · intro hh
        have h0 := hh 0
        exact hy (by have : (y 0).val < m.val + 1 := h0.2; have : m.val ≤ (y 0).val := h0.1; omega)
    · intro y hy
      exact F3.p y (by rintro ((h | h) | h) <;> exact hy h.1)
    · rw [if_neg (by omega)]
      refine ⟨fun h => absurd h (by omega), fun _ y h0 h1 => ?_, fun y _ _ h => absurd h (by omega), fun _ y h0 h1 h2 h3 => ?_⟩
      · rw [Function.update_self, put_unit, dif_pos]
        · refine (invRow_apply _ _).trans (congrArg (Ideal.div 1) ((hl _).trans ?_))
          refine c2 (dn I hd σ) rfl ?_
          show 256 * t.val + ((y 2).val - 0) = 256 * (t.val + 1 - 1) + (y 2).val
          omega
        · intro a
          match a with
          | ⟨0, _⟩ => exact ⟨h0.ge, by show (y 0).val < m.val + 1; omega⟩
          | ⟨1, _⟩ => exact ⟨by show 2 * t.val + 1 ≤ (y 1).val; omega, by show (y 1).val < 2 * t.val + 1 + 1; omega⟩
          | ⟨2, _⟩ => exact ⟨Nat.zero_le _, by have : (y 2).val < 256 := (y 2).isLt; show (y 2).val < 0 + 256; omega⟩
      · have hlt : (y 3).val < 256 := (y 3).isLt
        rw [show 256 * (t.val + 1 - 1) = 256 * t.val by omega] at h3 ⊢
        rw [show t.val + 1 - 1 = t.val by omega] at h1
        show @Eq EReal (μ3 .p y) _
        by_cases q0 : (y 2).val < 256 * c'.val
        · rw [F3.p y (by rintro ((h | h) | h) <;> (obtain ⟨-, -, h, -⟩ := h; omega))]
          exact hm.pc y h0 h1 q0
        by_cases q1 : (y 2).val < 256 * c'.val + 128
        · by_cases q2 : (y 3).val < 128
          · rw [P2.fr.p y (by rintro ⟨-, -, h, -⟩; omega), P1.fr.p y (by rintro ⟨-, -, -, h⟩; omega)]
            exact P0.p y ⟨h0, h1, by omega, by omega⟩
          · rw [P2.fr.p y (by rintro ⟨-, -, h, -⟩; omega)]
            exact P1.p y ⟨h0, h1, by omega, by omega⟩
        · exact P2.p y ⟨h0, h1, by omega, by omega⟩
    · intro y
      refine le_of_le_of_eq (le_max_left _ _) (hbad y).symm
    · intro _ y hy
      have := (hbad y).symm.le.trans hy
      by_contra hn
      rw [if_neg hn] at this
      exact absurd ((le_max_right _ _).trans this) (by norm_num)
  · next hd' =>
    refine .bind (half_ev (I := I) (hd := hd) (σ := σ) m t c' 1 0 (by omega) _ _ _ _ hc2 hs1 (ld_kb ok hc2 m c' 1 hk) hcq hsh2 (.inr fun y hy => hrow2 y hy.1 hy.2.1)) fun d0' μ3 P2 => ?_
    have F3 := F2.trans P2.fr
    have hc3 := F3.con hc
    have hsh3 : Sh I hd σ it (μ3 .mx) := (F3.other .mx nofun nofun nofun).symm ▸ hsh
    have hrow3 : ∀ y : S2x16x256.Idx, (y 0).val = m.val → (y 1).val = 2 * t.val → @Eq EReal (μ3 .row y) (σ m.val (256 * t.val + (y 2).val)) := by
      intro y h0 h1
      exact (P2.fr.row y (by rintro ⟨h, -⟩; omega)).trans (hrow2 y h0 h1)
    refine .bind (half_ev (I := I) (hd := hd) (σ := σ) m t c' 1 1 (by omega) _ _ _ _ hc3 hs1 (ld_kb ok hc2 m c' 1 hk) hcq hsh3 (.inr fun y hy => hrow3 y hy.1 hy.2.1)) fun d1' μ4 P3 => .ret ⟨key, ?_⟩
    have F4 := F3.trans P3.fr
    have hlt : c'.val < t.val := by omega
    refine ⟨hacc, ⟨F4.other, ?_, ?_⟩, ?_, fun _ => ⟨?_, ?_⟩, ?_, fun h => absurd hlt h⟩
    · intro y hy
      exact F4.row y (by rintro (((⟨-, h⟩ | ⟨-, h⟩) | ⟨-, h⟩) | ⟨-, h⟩) <;> exact hy h.1)
    · intro y hy
      exact F4.p y (by rintro (((h | h) | h) | h) <;> exact hy h.1)
    · rw [if_pos hlt]
      refine ⟨fun _ y h0 h1 => ?_, fun h y h0 h1 => ?_, fun y h0 h1 h2 => ?_, fun h y h0 h1 h2 h3 => ?_⟩
      · exact (P3.fr.row y (by rintro ⟨h, -⟩; omega)).trans (hrow3 y h0 h1)
      · rw [F4.row y (by rintro (((⟨-, -, h, -⟩ | ⟨-, -, h, -⟩) | ⟨-, -, h, -⟩) | ⟨-, -, h, -⟩) <;> omega)]
        exact hm.rl h y h0 h1
      · have hl3 : (y 3).val < 256 := (y 3).isLt
        by_cases q0 : (y 2).val < 256 * c'.val
        · rw [F4.p y (by rintro (((h | h) | h) | h) <;> (obtain ⟨-, -, h, -⟩ := h; omega))]
          exact hm.pc y h0 h1 q0
        by_cases q1 : (y 2).val < 256 * c'.val + 128 <;> by_cases q2 : (y 3).val < 128
        · rw [P3.fr.p y (by rintro ⟨-, -, h, -⟩; omega), P2.fr.p y (by rintro ⟨-, -, h, -⟩; omega), P1.fr.p y (by rintro ⟨-, -, -, h⟩; omega)]
          exact P0.p y ⟨h0, h1, by omega, by omega⟩
        · rw [P3.fr.p y (by rintro ⟨-, -, h, -⟩; omega), P2.fr.p y (by rintro ⟨-, -, h, -⟩; omega)]
          exact P1.p y ⟨h0, h1, by omega, by omega⟩
        · rw [P3.fr.p y (by rintro ⟨-, -, -, h⟩; omega)]
          exact P2.p y ⟨h0, h1, by omega, by omega⟩
        · exact P3.p y ⟨h0, h1, by omega, by omega⟩
      · rw [F4.p y (by rintro (((h | h) | h) | h) <;> (obtain ⟨-, h, -⟩ := h; omega))]
        exact hm.pp h y h0 h1 h2 h3
    · have := P2.ds (.inr (by simpa using ds0))
      rw [show (256 * c'.val + 128 * (1 : Fin 2).val + 128) = 256 * (c'.val + 1) by omega, show 256 * t.val + 128 * (0 : Fin 2).val = 256 * t.val by omega] at this
      exact this
    · have := P3.ds (.inr (by simpa using ds1))
      rw [show (256 * c'.val + 128 * (1 : Fin 2).val + 128) = 256 * (c'.val + 1) by omega, show 256 * t.val + 128 * (1 : Fin 2).val = 256 * t.val + 128 by omega] at this
      exact this
    · intro y
      rw [P3.bad, P2.bad, P1.bad, P0.bad]

end

end Cert.KernelIdeal.Pair
-- ==== Proof.Value.Log.lean ====
/-
  The exponent of a positive number: the floor of its logarithm in base two needs no correction over the extended reals.
-/
module

public import Idealize.ShloMosaic.PureOps.Ideal

@[expose] public section

noncomputable section

namespace Attn

open Idealize.ShloMosaic

theorem two32 : Ideal.ofBits .f32 0x40000000#32 = ((2 : ℝ) : EReal) := by
  simp [Ideal.ofBits, Ideal.ieee]
  rw [← EReal.coe_mul]; norm_num

/-- The floor of the logarithm in base two. -/
def flog2 (y : EReal) : EReal := Ideal.liftRound Int.floor (Ideal.div (Ideal.log y) (Ideal.log (Ideal.ofBits .f32 0x40000000#32)))

theorem log_two : Ideal.log (Ideal.ofBits .f32 0x40000000#32) = ((Real.log 2 : ℝ) : EReal) := by
  rw [two32, Ideal.log_coe, if_neg (by norm_num)]

theorem log2_pos : 0 < Real.log 2 := Real.log_pos (by norm_num)

theorem log2_ne : Real.log 2 ≠ 0 := log2_pos.ne'

theorem flog2_top : flog2 ⊤ = ⊤ := by
  unfold flog2
  rw [log_two, Ideal.div_coe log2_ne, Ideal.log_top, EReal.top_mul_coe_of_pos (one_div_pos.mpr log2_pos)]
  rfl

theorem flog2_coe {r : ℝ} (h : 0 < r) : flog2 (r : EReal) = ((⌊Real.log r / Real.log 2⌋ : ℝ) : EReal) := by
  unfold flog2
  rw [log_two, Ideal.div_coe log2_ne, Ideal.log_coe, if_neg (by linarith), ← EReal.coe_mul, mul_one_div]
  rfl

/-- A positive number lies between the power of two of that floor and the next one, so neither correction applies; infinity stays infinite. -/
theorem flog2_correct {y : EReal} (h : 0 < y) :
    flog2 y + (if Ideal.exp2 (flog2 y + 1) ≤ y then 1 else 0) - (if y < Ideal.exp2 (flog2 y) then 1 else 0) = flog2 y := by
  have sub_zero : ∀ x : EReal, x - 0 = x := fun x => by rw [sub_eq_add_neg, neg_zero, add_zero]
  induction y with
  | bot => exact absurd h (by simp)
  | top =>
    rw [flog2_top, if_neg (not_lt.mpr le_top), sub_zero]
    exact EReal.top_add_of_ne_bot (by split_ifs; exacts [EReal.coe_ne_bot 1, EReal.zero_ne_bot])
  | coe r =>
    have hr : 0 < r := EReal.coe_pos.mp h
    have h1 : ¬ Ideal.exp2 (flog2 (r : EReal) + 1) ≤ (r : EReal) := by
      rw [flog2_coe hr, ← EReal.coe_one, ← EReal.coe_add, not_le]
      refine EReal.coe_lt_coe_iff.mpr ?_
      show r < (2 : ℝ) ^ ((⌊Real.log r / Real.log 2⌋ : ℝ) + 1)
      rw [Real.lt_rpow_iff_log_lt hr (by norm_num), ← div_lt_iff₀ log2_pos]
      exact Int.lt_floor_add_one _
    have h2 : ¬ (r : EReal) < Ideal.exp2 (flog2 (r : EReal)) := by
      rw [flog2_coe hr, not_lt]
      refine EReal.coe_le_coe_iff.mpr ?_
      show (2 : ℝ) ^ (⌊Real.log r / Real.log 2⌋ : ℝ) ≤ r
      rw [Real.rpow_le_iff_le_log (by norm_num) hr, ← le_div_iff₀ log2_pos]
      exact Int.floor_le _
    rw [if_neg h1, if_neg h2, sub_zero, add_zero]

end Attn
-- ==== Proof.Value.PassB.lean ====
/-
  A key tile's weights against the values, and a finished query tile's codes.
-/
module

public import proofs.«01_k».proof.Proof.Value.PassA
public import proofs.«01_k».proof.Proof.Value.Log

@[expose] public section

noncomputable section

namespace Cert.KernelIdeal.Pair

open Idealize.ShloMosaic Idealize.SL.Sem Cert.KernelIdeal Attn
open Cert.KernelIdeal.Facts₀
open Finset (range)

variable [Facts]

/-- The exponent of a block's scale, from its largest absolute value: one more than the floor of the logarithm in base two. -/
def expS (a : EReal) : BitVec 32 :=
  Scalar.select (Ideal.cmp .oeq a (Ideal.ofBits .f32 0x00000000#32)) 0#32
    (IntOp.addi (FloatOps.fptosi (F := Ideal) (φ := .f32) 32 (flog2 (a * Ideal.ofBits .f32 0x3B124925#32))) 1#32)
/-- The code of an element of a block. -/
def codS (a x : EReal) : EReal := min (Ideal.ofBits .f32 0x43E00000#32) (max (Ideal.ofBits .f32 0xC3E00000#32)
  (x * Ideal.exp2 (FloatOps.sitofp (F := Ideal) .f32 (IntOp.subi 0#32 (expS a)))))
/-- The largest absolute value of block `b` of a column. -/
def amx (f : ℕ → EReal) (b : ℕ) : EReal := (range 32).sup fun i => FloatOps.absf (F := Ideal) (φ := .f32) (f (32 * b + i))
/-- The biased exponent, as a float. -/
def expF (a : EReal) : EReal := FloatOps.sitofp (F := Ideal) .f32 (IntOp.addi (expS a) 127#32)

theorem absf_nonneg (x : EReal) : (0 : EReal) ≤ FloatOps.absf (F := Ideal) (φ := .f32) x := by
  show (0 : EReal) ≤ max x (-x)
  rcases le_total 0 x with h | h
  · exact le_max_of_le_left h
  · exact le_max_of_le_right (EReal.neg_nonneg.mpr h)

theorem amx_nonneg (f : ℕ → EReal) (b : ℕ) : 0 ≤ amx f b :=
  (absf_nonneg _).trans (Finset.le_sup (f := fun i => FloatOps.absf (F := Ideal) (φ := .f32) (f (32 * b + i))) (Finset.mem_range.mpr (by norm_num : 0 < 32)))

theorem frac_pos : (0 : EReal) < Ideal.ofBits .f32 0x3B124925#32 := by
  simp [Ideal.ofBits, Ideal.ieee]
  rw [← EReal.coe_mul]
  exact EReal.coe_pos.mpr (by positivity)

/-- The kernel's exponent, its corrections included, is that exponent. -/
theorem expo_apply (a : FVec Ideal S1x256 .f32) (y : S1x256.Idx) (h : (0 : EReal) ≤ a y) : expo a y = expS (a y) := by
  unfold expS expo flog
  pointwise
  rcases h.eq_or_lt with h0 | h0
  · rw [if_pos h0.symm, if_pos h0.symm]
  · rw [if_neg h0.ne', if_neg h0.ne']
    exact congrArg (fun x : EReal => IntOp.addi (FloatOps.fptosi (F := Ideal) (φ := .f32) 32 x) 1#32) (flog2_correct (EReal.mul_pos h0 frac_pos))

theorem oBlock_apply (b : Fin 3) (o : FVec Ideal S96x256 .f32) (y : S32x256.Idx) :
    @Eq EReal (oBlock b o y) (o (ix2 ⟨32 * b.val + (y 0).val, by have : (y 0).val < 32 := (y 0).isLt; have := b.2; omega⟩ (y 1))) := by
  match b with
  | 0 => unfold oBlock; pointwise; try simp
  | 1 => unfold oBlock; pointwise; try simp
  | 2 => unfold oBlock; pointwise; try simp

theorem amax_apply (ob : FVec Ideal S32x256 .f32) (f : ℕ → EReal) (b : ℕ) (y : S1x256.Idx)
    (hf : ∀ i : Fin 32, @Eq EReal (ob (ix2 i (y 1))) (f (32 * b + i.val))) : @Eq EReal (amax ob y) (amx f b) := by
  unfold amax amx
  pointwise
  rw [← fold_max]
  congr 1
  funext i
  rw [← hf i]

theorem codes_apply (ob : FVec Ideal S32x256 .f32) (f : ℕ → EReal) (b : ℕ) (y : S32x256.Idx)
    (hf : ∀ i : Fin 32, @Eq EReal (ob (ix2 i (y 1))) (f (32 * b + i.val))) :
    @Eq EReal (codes ob y) (codS (amx f b) (f (32 * b + (y 0).val))) := by
  have h := amax_apply ob f b (ix2 0 (y 1)) hf
  have h2 : @Eq EReal (ob y) (f (32 * b + (y 0).val)) := by
    refine (congrArg ob (show y = ix2 (y 0) (y 1) from ?_)).trans (hf (y 0))
    funext a
    match a with
    | ⟨0, _⟩ => rfl
    | ⟨1, _⟩ => rfl
  unfold codes codS
  pointwise
  rw [expo_apply _ _ (h.symm ▸ amx_nonneg f b)]
  rw [h, h2]
  rfl

theorem exps_apply (ob : FVec Ideal S32x256 .f32) (f : ℕ → EReal) (b : ℕ) (y : S1x256.Idx)
    (hf : ∀ i : Fin 32, @Eq EReal (ob (ix2 i (y 1))) (f (32 * b + i.val))) :
    @Eq EReal (exps ob y) (expF (amx f b)) := by
  have h := amax_apply ob f b y hf
  unfold exps expF
  pointwise
  rw [expo_apply _ _ (h.symm ▸ amx_nonneg f b)]
  rw [h]

section
variable {c : Dev nD} {R : Refs} {bd : Option ℕ} {hct : (R .ct).IsWhole} {it : BitVec 32} (ok : Ok it)
variable {I : In} {hd : ℕ → ℕ} {σ : ℕ → ℕ → EReal}

/-- A head's normalised weight. -/
def ww (I : In) (hd : ℕ → ℕ) (σ : ℕ → ℕ → EReal) (m q k : ℕ) : EReal := pf I hd σ m q k * Ideal.div 1 (dn I hd σ m q)
/-- A head's output. -/
def oo (I : In) (hd : ℕ → ℕ) (σ : ℕ → ℕ → EReal) (m r q : ℕ) : EReal := ∑ k ∈ range 2048, I.V (hd m / 3) r k * ww I hd σ m q k

theorem ww_zero (m : ℕ) {q k : ℕ} (h : q < k) : ww I hd σ m q k = 0 := by
  unfold ww pf In.Z; rw [if_neg (by omega), exp2_bot_sub, zero_mul]

theorem sum_oo (m r q n : ℕ) (hq : q < n) (hn : n ≤ 2048) : ∑ k ∈ range n, I.V (hd m / 3) r k * ww I hd σ m q k = oo I hd σ m r q := by
  refine Finset.sum_subset (Finset.range_subset_range.mpr hn) fun k _ hk => ?_
  rw [Finset.mem_range] at hk
  rw [ww_zero m (by omega), mul_zero]

theorem wFull_apply (r : Vec Ideal S1x1x256 .f32) (p : Vec Ideal S1x1x256x256 .f32) (y : S256x256.Idx) :
    @Eq EReal (wFull r p y) (p (ix4 0 0 (y 0) (y 1)) * r (ix3 0 0 (y 1))) := by
  unfold wFull
  pointwise

theorem wDiag_apply (r : Vec Ideal S1x1x256 .f32) (p : Vec Ideal S1x1x128x256 .f32) (p' : Vec Ideal S1x1x128x128 .f32) (y : S256x256.Idx) :
    @Eq EReal (wDiag r p p' y) (if h : (y 0).val < 128 then p (ix4 0 0 ⟨(y 0).val, h⟩ (y 1)) * r (ix3 0 0 (y 1))
      else if h' : (y 1).val < 128 then 0 else
        p' (ix4 0 0 ⟨(y 0).val - 128, by have : (y 0).val < 256 := (y 0).isLt; omega⟩ ⟨(y 1).val - 128, by have : (y 1).val < 256 := (y 1).isLt; omega⟩)
          * r (ix3 0 0 ⟨128 + ((y 1).val - 128), by have : (y 1).val < 256 := (y 1).isLt; omega⟩)) := by
  unfold wDiag
  pointwise

theorem passB_ev (m : Fin 2) (t c' : Fin 8) (hle : c'.val ≤ t.val) (hk : krow it m = hd m.val / 3) {S : Rows} {u : Mxu Ideal} (h : St S u) {μ : Mem Ideal} (hc : Con I μ)
    {cc : ℕ} (hm : HM I hd σ m.val (t.val + 1) cc μ) :
    Ev c R bd (passB (bufs R hct) it ok m t c' u) μ (fun u' μ' => μ' = μ ∧ St (fun q r => S q r ∨ oRows m t.val q r) u' ∧
      ∀ m' R C, @Eq EReal (u'.acc m' R C) (u.acc m' R C + if oRows m t.val m' R.val then
        ∑ k ∈ range 256, I.V (hd m.val / 3) (R.val - (512 + 96 * (t.val % 2))) (256 * c'.val + k) * ww I hd σ m.val (256 * t.val + C.val) (256 * c'.val + k) else (0 : EReal))) := by
  have hw : ∀ (w : FVec Ideal S256x256 .bf16) (v : FVec Ideal S96x256 .bf16),
      St (fun q r => S q r ∨ oRows m t.val q r) ((u.pushed m 1 false w).accLhs m 1 (oAddr t) v (fitsO t)) := fun w v => by
    refine St.mono (St.load h ..) fun q r => ?_
    rintro (h | ⟨rfl, h1, h2⟩)
    · exact .inl h
    · exact .inr ⟨rfl, by simp only [oAddr] at h1 h2; omega, by simp only [oAddr] at h1 h2; omega⟩
  have hr : ∀ y : S1x1x256.Idx, @Eq EReal (μ .row ((Rect.unit (s := S2x16x256) ![m.val, 2 * t.val + 1, 0] S1x1x256.size (inb3 (by have := m.2; omega) (by have := t.2; omega) (by omega))).emb y))
      (Ideal.div 1 (dn I hd σ m.val (256 * t.val + (y 2).val))) := by
    intro y
    have h0 : (y 0).val < 1 := (y 0).isLt
    have h1 : (y 1).val < 1 := (y 1).isLt
    rw [hm.rl (by omega), emb_unit]
    · congr 2
      show 256 * t.val + (0 + (y 2).val) = _; omega
    · rw [emb_unit]; show m.val + (y 0).val = _; omega
    · rw [emb_unit]; show 2 * t.val + 1 + (y 1).val = _; omega
  have htt := t.2
  have hpp : ∀ y : S2x2x2048x256.Idx, (y 0).val = m.val → (y 1).val = t.val % 2 → (y 2).val < 256 * (c'.val + 1) → ¬ (256 * t.val + 128 ≤ (y 2).val ∧ (y 3).val < 128) →
      @Eq EReal (μ .p y) (pf I hd σ m.val (256 * t.val + (y 3).val) (y 2).val) := by
    intro y h0 h1 h2 h3
    exact hm.pp (by omega) y h0 h1 (by omega) h3
  unfold passB
  simp only [ld, Prog.lift, Prog.bind_op, Prog.bind_ret, Prog.pure_eq_ret]
  refine .load .row <| .bind (Q := fun w μ' => μ' = μ ∧ ∀ y, @Eq EReal (w y) (ww I hd σ m.val (256 * t.val + (y 1).val) (256 * c'.val + (y 0).val))) ?_ fun w μ' hq => ?_
  · split
    · next hd' =>
      refine .load .p <| .load .p <| .ret ⟨rfl, fun y => ?_⟩
      have hy0 : (y 0).val < 256 := (y 0).isLt
      have hy1 : (y 1).val < 256 := (y 1).isLt
      rw [wDiag_apply]
      split_ifs with q0 q1
      · unfold ww
        refine congrArg₂ (· * ·) ((hpp _ ?_ ?_ ?_ ?_).trans (c2 (pf I hd σ m.val) ?_ ?_)) (hr _)
        all_goals simp only [emb_unit]
        · show m.val + 0 = _; omega
        · show t.val % 2 + 0 = _; omega
        · show c'.val * 256 + (y 0).val < _; omega
        · show ¬ (_ ≤ c'.val * 256 + (y 0).val ∧ _); omega
        · show 256 * t.val + (0 + (y 1).val) = _; omega
        · show c'.val * 256 + (y 0).val = _; omega
      · exact (ww_zero _ (by omega)).symm
      · unfold ww
        refine congrArg₂ (· * ·) ((hpp _ ?_ ?_ ?_ ?_).trans (c2 (pf I hd σ m.val) ?_ ?_)) ((hr _).trans ?_)
        all_goals simp only [emb_unit]
        · show m.val + 0 = _; omega
        · show t.val % 2 + 0 = _; omega
        · show c'.val * 256 + 128 + ((y 0).val - 128) < _; omega
        · show ¬ (_ ∧ 128 + ((y 1).val - 128) < 128); omega
        · show 256 * t.val + (128 + ((y 1).val - 128)) = _; omega
        · show c'.val * 256 + 128 + ((y 0).val - 128) = _; omega
        · congr 2
          show 256 * t.val + (128 + ((y 1).val - 128)) = _; omega
    · next hd' =>
      refine .load .p <| .ret ⟨rfl, fun y => ?_⟩
      have hy0 : (y 0).val < 256 := (y 0).isLt
      have hy1 : (y 1).val < 256 := (y 1).isLt
      rw [wFull_apply]
      unfold ww
      refine congrArg₂ (· * ·) ((hpp _ ?_ ?_ ?_ ?_).trans (c2 (pf I hd σ m.val) ?_ ?_)) (hr _)
      all_goals simp only [emb_unit]
      · show m.val + 0 = _; omega
      · show t.val % 2 + 0 = _; omega
      · show c'.val * 256 + (y 0).val < _; omega
      · show ¬ (_ ≤ c'.val * 256 + (y 0).val ∧ _); omega
      · show 256 * t.val + (0 + (y 1).val) = _; omega
      · show c'.val * 256 + (y 0).val = _; omega
  · obtain ⟨rfl, hwv⟩ := hq
    refine .push (h.1 _ _) (.load .v <| .ret ⟨rfl, hw w _, fun m' R C => ?_⟩)
    rw [acc_accLhs, acc_accBy, staged_pushed (h.1 _ _), acc_pushed]
    refine congrArg (fun e : EReal => u.acc m' R C + e) ?_
    have ho : 4 * oAddr t = 512 + 96 * (t.val % 2) := by unfold oAddr; omega
    by_cases hR : m' = m ∧ 4 * oAddr t ≤ R.val ∧ R.val < 4 * oAddr t + 96
    · rw [dif_pos hR, if_pos (by rw [ho] at hR; exact hR), pass_apply, ← Fin.sum_univ_eq_sum_range (fun k => I.V (hd m.val / 3) (R.val - (512 + 96 * (t.val % 2))) (256 * c'.val + k) * ww I hd σ m.val (256 * t.val + C.val) (256 * c'.val + k)) 256]
      refine Finset.sum_congr rfl fun k _ => congrArg₂ (· * ·) ?_ (hwv _)
      have hsc : ∀ (v : Vec Ideal S1x96x256 .bf16) (z : S96x256.Idx), @Eq EReal (shapeCast S96x256 v shapeCasts_S1x96x256_S96x256 z) (v (ix3 0 (z 0) (z 1))) := by
        intro v z; pointwise
      refine (hsc _ _).trans ?_
      rw [hc.v]
      simp only [emb_unit]
      refine c3 I.V ?_ ?_ ?_
      · show krow it m + 0 = _; rw [hk]; rfl
      · show 0 + (R.val - 4 * oAddr t) = _; omega
      · show c'.val * 256 + k.val = _; omega
    · rw [dif_neg hR, if_neg (show ¬ oRows m t.val m' R.val by rw [ho] at hR; exact hR)]

/-- The result buffers a finished query tile changes. -/
structure Fo (A : S1152x2048.Idx → Prop) (E : S128x2048.Idx → Prop) (μ μ' : Mem Ideal) : Prop where
  other : ∀ s, s ≠ .ct → s ≠ .et → μ' s = μ s
  ct : ∀ y, ¬ A y → μ' .ct y = μ .ct y
  et : ∀ y, ¬ E y → μ' .et y = μ .et y

/-- The rows of a head's codes, at a query tile. -/
def ctT (r n t : ℕ) (y : S1152x2048.Idx) : Prop := (r ≤ (y 0).val ∧ (y 0).val < r + n) ∧ 256 * t ≤ (y 1).val ∧ (y 1).val < 256 * t + 256
/-- The rows of a head's exponents, at a query tile. -/
def etT (r n t : ℕ) (y : S128x2048.Idx) : Prop := (r ≤ (y 0).val ∧ (y 0).val < r + n) ∧ 256 * t ≤ (y 1).val ∧ (y 1).val < 256 * t + 256

/-- A code of a head's output. -/
def cv (I : In) (hd : ℕ → ℕ) (σ : ℕ → ℕ → EReal) (m r q : ℕ) : EReal := codS (amx (fun r => oo I hd σ m r q) (r / 32)) (oo I hd σ m r q)
/-- An exponent of a head's output. -/
def ev (I : In) (hd : ℕ → ℕ) (σ : ℕ → ℕ → EReal) (m b q : ℕ) : EReal := expF (amx (fun r => oo I hd σ m r q) b)

set_option maxHeartbeats 2000000 in
theorem quant_ev (m : Fin 2) (t : Fin 8) (o : FVec Ideal S96x256 .f32) (b : Fin 3) (hor : orow it m b = 96 * hd m.val + 32 * b.val) (her : erow it m b = 3 * hd m.val + b.val)
    {μ : Mem Ideal} (ho : ∀ y, @Eq EReal (o y) (oo I hd σ m.val (y 0).val (256 * t.val + (y 1).val))) :
    Ev c R bd (quant (bufs R hct) it ok m t o b) μ (fun _ μ' => Fo (ctT (96 * hd m.val + 32 * b.val) 32 t.val) (etT (3 * hd m.val + b.val) 1 t.val) μ μ' ∧
      (∀ y, ctT (96 * hd m.val + 32 * b.val) 32 t.val y → @Eq EReal (μ' .ct y) (cv I hd σ m.val ((y 0).val - 96 * hd m.val) (y 1).val)) ∧
      ∀ y, etT (3 * hd m.val + b.val) 1 t.val y → @Eq EReal (μ' .et y) (ev I hd σ m.val ((y 0).val - 3 * hd m.val) (y 1).val)) := by
  have hf : ∀ (z : Fin 256) (i : Fin 32), @Eq EReal (oBlock b o (ix2 i z)) (oo I hd σ m.val (32 * b.val + i.val) (256 * t.val + z.val)) := fun z i =>
    (oBlock_apply b o _).trans (ho _)
  unfold quant
  simp only [ld, st, Prog.lift, Prog.bind_op, Prog.bind_ret]
  refine .load .ct <| .store .ct <| .load .et <| .store .et <| .ret ⟨⟨?_, ?_, ?_⟩, ?_, ?_⟩
  · intro s h1 h2
    exact (Function.update_of_ne h2 _ _).trans (Function.update_of_ne h1 _ _)
  · intro y hy
    show put _ _ _ y = _
    rw [put_unit, dif_neg]
    intro hh
    have h0 := hh 0; have h1 := hh 1
    have h0a : orow it m b ≤ (y 0).val := h0.1
    have h0b : (y 0).val < orow it m b + 32 := h0.2
    have h1a : t.val * 256 ≤ (y 1).val := h1.1
    have h1b : (y 1).val < t.val * 256 + 256 := h1.2
    exact hy ⟨⟨by omega, by omega⟩, by omega, by omega⟩
  · intro y hy
    show put _ _ _ y = _
    rw [put_unit, dif_neg]
    · rfl
    intro hh
    have h0 := hh 0; have h1 := hh 1
    have h0a : erow it m b ≤ (y 0).val := h0.1
    have h0b : (y 0).val < erow it m b + 1 := h0.2
    have h1a : t.val * 256 ≤ (y 1).val := h1.1
    have h1b : (y 1).val < t.val * 256 + 256 := h1.2
    exact hy ⟨⟨by omega, by omega⟩, by omega, by omega⟩
  · rintro y ⟨⟨h0, h0'⟩, h1, h1'⟩
    show put _ _ _ y = _
    rw [put_unit, dif_pos]
    · refine (codes_apply (oBlock b o) (fun r => oo I hd σ m.val r (y 1).val) b.val _ fun i => (hf _ i).trans ?_).trans ?_
      · refine c2 (oo I hd σ m.val) rfl ?_
        show 256 * t.val + ((y 1).val - t.val * 256) = _; omega
      · unfold cv
        have e : 32 * b.val + ((y 0).val - orow it m b) = (y 0).val - 96 * hd m.val := by omega
        have e2 : ((y 0).val - 96 * hd m.val) / 32 = b.val := by omega
        rw [e2]
        show codS _ (oo I hd σ m.val (32 * b.val + ((y 0).val - orow it m b)) (y 1).val) = _
        rw [e]
    · intro a
      match a with
      | ⟨0, _⟩ => exact ⟨by show orow it m b ≤ (y 0).val; omega, by show (y 0).val < orow it m b + 32; omega⟩
      | ⟨1, _⟩ => exact ⟨by show t.val * 256 ≤ (y 1).val; omega, by show (y 1).val < t.val * 256 + 256; omega⟩
  · rintro y ⟨⟨h0, h0'⟩, h1, h1'⟩
    show put _ _ _ y = _
    rw [put_unit, dif_pos]
    · refine (exps_apply (oBlock b o) (fun r => oo I hd σ m.val r (y 1).val) b.val _ fun i => (hf _ i).trans ?_).trans ?_
      · refine c2 (oo I hd σ m.val) rfl ?_
        show 256 * t.val + ((y 1).val - t.val * 256) = _; omega
      · unfold ev
        rw [show (y 0).val - 3 * hd m.val = b.val by omega]
    · intro a
      match a with
      | ⟨0, _⟩ => exact ⟨by show erow it m b ≤ (y 0).val; omega, by show (y 0).val < erow it m b + 1; omega⟩
      | ⟨1, _⟩ => exact ⟨by show t.val * 256 ≤ (y 1).val; omega, by show (y 1).val < t.val * 256 + 256; omega⟩

/-- A finished query tile. -/
structure PostF (I : In) (hd : ℕ → ℕ) (σ : ℕ → ℕ → EReal) (m : Fin 2) (t : ℕ) (u u' : Mxu Ideal) (μ μ' : Mem Ideal) : Prop where
  acc : ∀ m' R C, @Eq EReal (u'.acc m' R C) (if oRows m t m' R.val then 0 else u.acc m' R C)
  fo : Fo (ctT (96 * hd m.val) 96 t) (etT (3 * hd m.val) 3 t) μ μ'
  ct : ∀ y, ctT (96 * hd m.val) 96 t y → @Eq EReal (μ' .ct y) (cv I hd σ m.val ((y 0).val - 96 * hd m.val) (y 1).val)
  et : ∀ y, etT (3 * hd m.val) 3 t y → @Eq EReal (μ' .et y) (ev I hd σ m.val ((y 0).val - 3 * hd m.val) (y 1).val)

theorem finish_ev (m : Fin 2) (t : Fin 8) (hor : ∀ b, orow it m b = 96 * hd m.val + 32 * b.val) (her : ∀ b, erow it m b = 3 * hd m.val + b.val)
    {S : Rows} {u : Mxu Ideal} (h : St S u) {μ : Mem Ideal}
    (hu : ∀ R C, oRows m t.val m R.val → @Eq EReal (u.acc m R C) (∑ k ∈ range (256 * (t.val + 1)), I.V (hd m.val / 3) (R.val - (512 + 96 * (t.val % 2))) k * ww I hd σ m.val (256 * t.val + C.val) k)) :
    Ev c R bd (finish (bufs R hct) it ok m t u) μ (fun u' μ' => St (fun q r => S q r ∧ ¬ oRows m t.val q r) u' ∧ PostF I hd σ m t.val u u' μ μ') := by
  have htt := t.2
  have hoa : 4 * oAddr t = 512 + 96 * (t.val % 2) := by unfold oAddr; omega
  have ho : ∀ y, @Eq EReal (u.read m (oAddr t) (fitsO t) y) (oo I hd σ m.val (y 0).val (256 * t.val + (y 1).val)) := by
    intro y
    have : (y 0).val < 96 := (y 0).isLt
    have h1 : (y 1).val < 256 := (y 1).isLt
    refine (hu _ _ ⟨rfl, ?_, ?_⟩).trans ?_
    · show _ ≤ 4 * oAddr t + (y 0).val; omega
    · show 4 * oAddr t + (y 0).val < _; omega
    · refine (sum_oo m.val _ _ _ ?_ (by omega)).trans (c2 (oo I hd σ m.val) ?_ rfl)
      · show 256 * t.val + (y 1).val < _; omega
      · show 4 * oAddr t + (y 0).val - _ = _; omega
  unfold finish
  refine .bind (quant_ev ok m t _ 0 (hor 0) (her 0) ho) fun _ μ1 h1 => .bind (quant_ev ok m t _ 1 (hor 1) (her 1) ho) fun _ μ2 h2 =>
    .bind (quant_ev ok m t _ 2 (hor 2) (her 2) ho) fun _ μ3 h3 => .ret ⟨?_, ?_, ⟨?_, ?_, ?_⟩, ?_, ?_⟩
  · refine St.mono (St.pop h ..) fun q r => ?_
    rintro ⟨h0, h1⟩
    refine ⟨h0, ?_⟩
    rintro ⟨rfl, h3, h4⟩
    exact h1 ⟨rfl, by omega, by omega⟩
  · intro m' R C
    rw [acc_pop, hoa]
    rfl
  all_goals
    obtain ⟨⟨f1, g1, k1⟩, a1, b1⟩ := h1
    obtain ⟨⟨f2, g2, k2⟩, a2, b2⟩ := h2
    obtain ⟨⟨f3, g3, k3⟩, a3, b3⟩ := h3
    have e0 : (0 : Fin 3).val = 0 := rfl
    have e1 : (1 : Fin 3).val = 1 := rfl
    have e2 : (2 : Fin 3).val = 2 := rfl
  · intro s p q
    rw [f3 s p q, f2 s p q, f1 s p q]
  · intro y hy
    rw [g3 y fun ⟨⟨p, q⟩, r, s⟩ => hy ⟨⟨by omega, by omega⟩, r, s⟩, g2 y fun ⟨⟨p, q⟩, r, s⟩ => hy ⟨⟨by omega, by omega⟩, r, s⟩, g1 y fun ⟨⟨p, q⟩, r, s⟩ => hy ⟨⟨by omega, by omega⟩, r, s⟩]
  · intro y hy
    rw [k3 y fun ⟨⟨p, q⟩, r, s⟩ => hy ⟨⟨by omega, by omega⟩, r, s⟩, k2 y fun ⟨⟨p, q⟩, r, s⟩ => hy ⟨⟨by omega, by omega⟩, r, s⟩, k1 y fun ⟨⟨p, q⟩, r, s⟩ => hy ⟨⟨by omega, by omega⟩, r, s⟩]
  · rintro y ⟨⟨p, q⟩, r, s⟩
    by_cases z2 : 96 * hd m.val + 64 ≤ (y 0).val
    · exact a3 y ⟨⟨by omega, by omega⟩, r, s⟩
    by_cases z1 : 96 * hd m.val + 32 ≤ (y 0).val
    · exact (g3 y (by rintro ⟨⟨h, -⟩, -⟩; omega)).trans (a2 y ⟨⟨by omega, by omega⟩, r, s⟩)
    · exact (g3 y (by rintro ⟨⟨h, -⟩, -⟩; omega)).trans ((g2 y (by rintro ⟨⟨h, -⟩, -⟩; omega)).trans (a1 y ⟨⟨by omega, by omega⟩, r, s⟩))
  · rintro y ⟨⟨p, q⟩, r, s⟩
    by_cases z2 : 3 * hd m.val + 2 ≤ (y 0).val
    · exact b3 y ⟨⟨by omega, by omega⟩, r, s⟩
    by_cases z1 : 3 * hd m.val + 1 ≤ (y 0).val
    · exact (k3 y (by rintro ⟨⟨h, -⟩, -⟩; omega)).trans (b2 y ⟨⟨by omega, by omega⟩, r, s⟩)
    · exact (k3 y (by rintro ⟨⟨h, -⟩, -⟩; omega)).trans ((k2 y (by rintro ⟨⟨h, -⟩, -⟩; omega)).trans (b1 y ⟨⟨by omega, by omega⟩, r, s⟩))

end

end Cert.KernelIdeal.Pair
-- ==== Proof.Value.Steps.lean ====
/-
  A pair of heads with contents: after its steps, the result buffers hold the two heads' codes and exponents.
-/
module

public import proofs.«01_k».proof.Proof.Value.PassB

@[expose] public section

noncomputable section

namespace Cert.KernelIdeal.Pair

open Idealize.ShloMosaic Idealize.SL.Sem Cert.KernelIdeal Attn
open Cert.KernelIdeal.Facts₀
open Finset (range)

variable [Facts]

theorem Fo.con {I : In} {A : S1152x2048.Idx → Prop} {E : S128x2048.Idx → Prop} {μ μ' : Mem Ideal} (h : Fo A E μ μ') (hc : Con I μ) : Con I μ' :=
  hc.of_eq (h.other _ nofun nofun) (h.other _ nofun nofun) (h.other _ nofun nofun) (h.other _ nofun nofun)
    (h.other _ nofun nofun) (h.other _ nofun nofun)

theorem Fo.refl {A : S1152x2048.Idx → Prop} {E : S128x2048.Idx → Prop} (μ : Mem Ideal) : Fo A E μ μ := ⟨fun _ _ _ => rfl, fun _ _ => rfl, fun _ _ => rfl⟩

section
variable {c : Dev nD} {R : Refs} {bd : Option ℕ} {hct : (R .ct).IsWhole} {it : BitVec 32} (ok : Ok it)
variable {I : In} {hd : ℕ → ℕ} {σ : ℕ → ℕ → EReal}

theorem HM.fo {m t c' : ℕ} {A : S1152x2048.Idx → Prop} {E : S128x2048.Idx → Prop} {μ μ' : Mem Ideal} (h : HM I hd σ m t c' μ) (hf : Fo A E μ μ') :
    HM I hd σ m t c' μ' := by
  have e1 := hf.other .row nofun nofun
  have e2 := hf.other .p nofun nofun
  exact ⟨by rw [e1]; exact h.rs, by rw [e1]; exact h.rl, by rw [e2]; exact h.pc, by rw [e2]; exact h.pp⟩

/-- The pair's heads, as its counter names them. -/
structure Hd (it : BitVec 32) (hd : ℕ → ℕ) : Prop where
  q : ∀ m : Fin 2, hrow it m = 96 * hd m.val
  k : ∀ m : Fin 2, krow it m = hd m.val / 3
  c : ∀ m : Fin 2, crow it m = hd m.val
  o : ∀ m b, orow it m b = 96 * hd m.val + 32 * b.val
  e : ∀ m b, erow it m b = 3 * hd m.val + b.val
  s : hd 1 = hd 0 + 1

/-- A query tile's output from its first `n` keys. -/
def part (I : In) (hd : ℕ → ℕ) (σ : ℕ → ℕ → EReal) (m t n R C : ℕ) : EReal :=
  ∑ k ∈ range n, I.V (hd m / 3) (R - (512 + 96 * (t % 2))) k * ww I hd σ m (256 * t + C) k

theorem part_add (m t c' R C : ℕ) : part I hd σ m t (256 * c') R C + ∑ k ∈ range 256, I.V (hd m / 3) (R - (512 + 96 * (t % 2))) (256 * c' + k) * ww I hd σ m (256 * t + C) (256 * c' + k)
    = part I hd σ m t (256 * (c' + 1)) R C := by
  unfold part
  rw [show 256 * (c' + 1) = 256 * c' + 256 by omega, Finset.sum_range_add]

/-- What a head's second half of a step does. -/
structure PostT (I : In) (hd : ℕ → ℕ) (σ : ℕ → ℕ → EReal) (m : Fin 2) (t c : ℕ) (u u' : Mxu Ideal) (μ μ' : Mem Ideal) : Prop where
  acc : ∀ m' R C, @Eq EReal (u'.acc m' R C) (if 0 < t ∧ oRows m (t - 1) m' R.val then
    (if c < t then u.acc m' R C + ∑ k ∈ range 256, I.V (hd m.val / 3) (R.val - (512 + 96 * ((t - 1) % 2))) (256 * c + k) * ww I hd σ m.val (256 * (t - 1) + C.val) (256 * c + k) else 0)
    else u.acc m' R C)
  fo : Fo (ctT (96 * hd m.val) 96 (t - 1)) (etT (3 * hd m.val) 3 (t - 1)) μ μ'
  ct : t ≤ c → 0 < t → ∀ y, ctT (96 * hd m.val) 96 (t - 1) y → @Eq EReal (μ' .ct y) (cv I hd σ m.val ((y 0).val - 96 * hd m.val) (y 1).val)
  et : t ≤ c → 0 < t → ∀ y, etT (3 * hd m.val) 3 (t - 1) y → @Eq EReal (μ' .et y) (ev I hd σ m.val ((y 0).val - 3 * hd m.val) (y 1).val)

theorem tail_ev (hH : Hd it hd) (m : Fin 2) (t c' : Fin 8) {S : Rows} {u : Mxu Ideal} (h : St S u) {μ : Mem Ideal} (hc : Con I μ)
    (hm : c'.val < t.val → HM I hd σ m.val t.val (c'.val + 1) μ)
    (hu : t.val ≤ c'.val → 0 < t.val → ∀ R C, oRows m (t.val - 1) m R.val → @Eq EReal (u.acc m R C) (part I hd σ m.val (t.val - 1) (256 * t.val) R.val C.val)) :
    Ev c R bd (tail (bufs R hct) it ok m t c' u) μ (fun u' μ' =>
      St (fun q r => (S q r ∨ (c'.val < t.val ∧ oRows m (t.val - 1) q r)) ∧ ¬ (t.val ≤ c'.val ∧ 0 < t.val ∧ oRows m (t.val - 1) q r)) u' ∧
      PostT I hd σ m t.val c'.val u u' μ μ') := by
  unfold tail
  split
  · next hlt =>
    have e : (prev t).val + 1 = t.val := by unfold prev; show t.val - 1 + 1 = t.val; omega
    refine (passB_ev (hd := hd) (σ := σ) ok m (prev t) c' (by omega) (hH.k m) h hc (cc := c'.val + 1) (by rw [e]; exact hm hlt)).mono fun u' μ' ⟨e1, hS, ha⟩ => ⟨hS.mono fun q r => ?_, ?_⟩
    · rintro (h | h)
      · exact ⟨.inl h, fun h' => by omega⟩
      · exact ⟨.inr ⟨hlt, h⟩, fun h' => by omega⟩
    · subst e1
      refine ⟨fun m' R C => (ha m' R C).trans ?_, Fo.refl _, fun h => by omega, fun h => by omega⟩
      by_cases ho : oRows m (t.val - 1) m' R.val
      · rw [if_pos (show oRows m (prev t).val m' R.val from ho), if_pos ⟨by omega, ho⟩, if_pos hlt]
        rfl
      · rw [if_neg (show ¬ oRows m (prev t).val m' R.val from ho), if_neg (fun h => ho h.2), add_zero]
  · next hlt =>
    split
    · next h0 =>
      have e : (prev t).val + 1 = t.val := by unfold prev; show t.val - 1 + 1 = t.val; omega
      refine (finish_ev (I := I) (σ := σ) ok m (prev t) (hH.o m) (hH.e m) h fun R C hr => ?_).mono fun u' μ' ⟨hS, hp⟩ => ⟨hS.mono fun q r => ?_, ?_⟩
      · rw [e]
        exact hu (by omega) h0 R C hr
      · rintro ⟨h, h'⟩
        exact ⟨.inl h, fun h'' => h' h''.2.2⟩
      · refine ⟨fun m' R C => (hp.acc m' R C).trans ?_, hp.fo, fun _ _ => hp.ct, fun _ _ => hp.et⟩
        by_cases ho : oRows m (t.val - 1) m' R.val
        · rw [if_pos (show oRows m (prev t).val m' R.val from ho), if_pos ⟨h0, ho⟩, if_neg hlt]
        · rw [if_neg (show ¬ oRows m (prev t).val m' R.val from ho), if_neg (fun h => ho h.2)]
    · next h0 =>
      exact .ret ⟨h.mono fun q r h => ⟨.inl h, fun h' => by omega⟩, fun m' R C => by rw [if_neg (fun h => h0 h.1)], Fo.refl _, fun _ h => absurd h h0, fun _ h => absurd h h0⟩

/-- The steps' contents before step `(t, c)`. -/
structure J (I : In) (hd : ℕ → ℕ) (σ : ℕ → ℕ → EReal) (μ0 : Mem Ideal) (t c : ℕ) (μ : Mem Ideal) : Prop where
  con : Con I μ
  hm : ∀ m : Fin 2, HM I hd σ m.val t c μ
  ct : ∀ (m : Fin 2) (t' : ℕ), t' + 1 < t → ∀ y, ctT (96 * hd m.val) 96 t' y → @Eq EReal (μ .ct y) (cv I hd σ m.val ((y 0).val - 96 * hd m.val) (y 1).val)
  et : ∀ (m : Fin 2) (t' : ℕ), t' + 1 < t → ∀ y, etT (3 * hd m.val) 3 t' y → @Eq EReal (μ .et y) (ev I hd σ m.val ((y 0).val - 3 * hd m.val) (y 1).val)
  ctf : ∀ y, (∀ m : Fin 2, ¬ (96 * hd m.val ≤ (y 0).val ∧ (y 0).val < 96 * hd m.val + 96)) → μ .ct y = μ0 .ct y
  etf : ∀ y, (∀ m : Fin 2, ¬ (3 * hd m.val ≤ (y 0).val ∧ (y 0).val < 3 * hd m.val + 3)) → μ .et y = μ0 .et y
  other : ∀ s, s ≠ .row → s ≠ .p → s ≠ .bad → s ≠ .ct → s ≠ .et → μ s = μ0 s
  mono : ∀ y, (μ0 .bad y : EReal) ≤ μ .bad y
  bad : ∀ (m : Fin 2) (t' : ℕ), t' < t → ∀ y, (μ .bad y : EReal) ≤ 0 → dn I hd σ m.val (256 * t' + (y 1).val) < lim

/-- The accumulators before step `(t, c)`. -/
def E (I : In) (hd : ℕ → ℕ) (σ : ℕ → ℕ → EReal) (t c : ℕ) (buf m : Fin 2) (R C : ℕ) : EReal :=
  if sRows m buf m R then I.sc (hd m.val) (256 * c + (R - 256 * buf.val)) (256 * t + C)
  else if 0 < t ∧ oRows m (t - 1) m R then part I hd σ m.val (t - 1) (256 * c) R C else 0

/-- The step after `(t, c)`. -/
def nt (t c : ℕ) : ℕ := if c < t then t else t + 1
def nc (t c : ℕ) : ℕ := if c < t then c + 1 else 0

theorem step_acc {t c' : ℕ} (hle : c' ≤ t) {buf buf' : Fin 2} (hb : buf'.val = 1 - buf.val) (m' : Fin 2) (R C : ℕ) {a0 a1 a2 a3 a4 a5 a6 : EReal}
    (h0 : a0 = E I hd σ t c' buf m' R C)
    (h1 : a1 = a0 + if sRows 0 buf' m' R then I.sc (hd 0) (256 * nc t c' + (R - 256 * buf'.val)) (256 * nt t c' + C) else 0)
    (h2 : a2 = a1 + if sRows 1 buf' m' R then I.sc (hd 1) (256 * nc t c' + (R - 256 * buf'.val)) (256 * nt t c' + C) else 0)
    (h3 : a3 = if sRows 0 buf m' R then 0 else a2) (h4 : a4 = if sRows 1 buf m' R then 0 else a3)
    (h5 : a5 = if 0 < t ∧ oRows 0 (t - 1) m' R then (if c' < t then a4 + ∑ k ∈ range 256, I.V (hd 0 / 3) (R - (512 + 96 * ((t - 1) % 2))) (256 * c' + k) * ww I hd σ 0 (256 * (t - 1) + C) (256 * c' + k) else 0) else a4)
    (h6 : a6 = if 0 < t ∧ oRows 1 (t - 1) m' R then (if c' < t then a5 + ∑ k ∈ range 256, I.V (hd 1 / 3) (R - (512 + 96 * ((t - 1) % 2))) (256 * c' + k) * ww I hd σ 1 (256 * (t - 1) + C) (256 * c' + k) else 0) else a5) :
    a6 = E I hd σ (nt t c') (nc t c') buf' m' R C := by
  have hb2 := buf.2
  have f : ∀ (a b : Fin 2) (S : Prop), a ≠ b → ((a = b ∧ S) ↔ False) := fun a b S h => ⟨fun h' => h h'.1, False.elim⟩
  have hs : ∀ a b : Fin 2, a ≠ b → ∀ x, ¬ sRows a x b R := fun a b h x h' => h h'.1.symm
  have ho : ∀ a b : Fin 2, a ≠ b → ∀ x, ¬ oRows a x b R := fun a b h x h' => h h'.1.symm
  have d1 : ∀ a : Fin 2, sRows a buf a R → ¬ sRows a buf' a R := fun a h h' => by
    obtain ⟨_, x, y⟩ := h; obtain ⟨_, z, w⟩ := h'; omega
  have d2 : ∀ (a x : Fin 2) (T : ℕ), sRows a x a R → ¬ oRows a T a R := fun a x T h h' => by
    obtain ⟨_, p, q⟩ := h; obtain ⟨_, z, w⟩ := h'; have := x.2; omega
  have key : ∀ (m : Fin 2) (b0 b1 b2 b3 : EReal), b0 = E I hd σ t c' buf m R C →
      b1 = b0 + (if sRows m buf' m R then I.sc (hd m.val) (256 * nc t c' + (R - 256 * buf'.val)) (256 * nt t c' + C) else 0) →
      b2 = (if sRows m buf m R then 0 else b1) →
      b3 = (if 0 < t ∧ oRows m (t - 1) m R then (if c' < t then b2 + ∑ k ∈ range 256, I.V (hd m.val / 3) (R - (512 + 96 * ((t - 1) % 2))) (256 * c' + k) * ww I hd σ m.val (256 * (t - 1) + C) (256 * c' + k) else 0) else b2) →
      b3 = E I hd σ (nt t c') (nc t c') buf' m R C := by
    intro m b0 b1 b2 b3 e0 e1 e2 e3
    unfold E at e0 ⊢
    by_cases p1 : sRows m buf m R
    · rw [if_pos p1] at e2
      rw [if_neg (fun h => d2 _ _ _ p1 h.2)] at e3
      rw [if_neg (d1 _ p1), if_neg (fun h => d2 _ _ _ p1 h.2), e3, e2]
    rw [if_neg p1] at e0 e2
    by_cases p2 : sRows m buf' m R
    · rw [if_pos p2] at e1
      rw [if_neg (fun h => d2 _ _ _ p2 h.2)] at e0 e3
      rw [if_pos p2, e3, e2, e1, e0, zero_add]
    rw [if_neg p2, add_zero] at e1
    rw [if_neg p2, e3, e2, e1, e0]
    by_cases hlt : c' < t
    · have n1 : nt t c' = t := if_pos hlt
      have n2 : nc t c' = c' + 1 := if_pos hlt
      rw [n1, n2]
      by_cases p3 : 0 < t ∧ oRows m (t - 1) m R
      · rw [if_pos p3, if_pos p3, if_pos hlt, if_pos p3, part_add]
      · rw [if_neg p3, if_neg p3, if_neg p3]
    · have n1 : nt t c' = t + 1 := if_neg hlt
      have n2 : nc t c' = 0 := if_neg hlt
      rw [n1, n2]
      have z : (if 0 < t + 1 ∧ oRows m (t + 1 - 1) m R then part I hd σ m.val (t + 1 - 1) (256 * 0) R C else 0) = (0 : EReal) := by
        split_ifs
        · unfold part; simp
        · rfl
      rw [z]
      by_cases p3 : 0 < t ∧ oRows m (t - 1) m R
      · rw [if_pos p3, if_neg hlt]
      · rw [if_neg p3, if_neg p3]
  have h01 : (0 : Fin 2) ≠ 1 := by decide
  have h10 : (1 : Fin 2) ≠ 0 := by decide
  have hm : m' = 0 ∨ m' = 1 := by fin_cases m' <;> simp
  rcases hm with rfl | rfl
  · rw [if_neg (hs _ _ h10 _), add_zero] at h2
    rw [if_neg (hs _ _ h10 _)] at h4
    rw [if_neg (fun h => ho _ _ h10 _ h.2)] at h6
    subst h2 h4 h6
    exact key 0 _ _ _ _ h0 h1 h3 h5
  · rw [if_neg (hs _ _ h01 _), add_zero] at h1
    rw [if_neg (hs _ _ h01 _)] at h3
    rw [if_neg (fun h => ho _ _ h01 _ h.2)] at h5
    subst h1 h3 h5
    exact key 1 _ _ _ _ h0 h2 h4 h6

theorem hm_next {m t c' : ℕ} {μ : Mem Ideal} (h : if c' < t then HM I hd σ m t (c' + 1) μ else HM I hd σ m (t + 1) 0 μ) : HM I hd σ m (nt t c') (nc t c') μ := by
  unfold nt nc
  split_ifs at h ⊢
  · exact h
  · exact h

theorem step_J (hH : Hd it hd) {t c' : ℕ} (hle : c' ≤ t) {buf : Fin 2} {μ0 μ μ1 μ2 μ3 μ4 : Mem Ideal} (hJ : J I hd σ μ0 t c' μ) {u0 u2 u2' u3 u3' u4 : Mxu Ideal}
    {x1 x2 : Mxu Ideal × (FVec Ideal S8x128 .f32 × FVec Ideal S8x128 .f32)}
    (p0 : PostA I hd σ 0 t c' buf u0 x1 μ μ1) (p1 : PostA I hd σ 1 t c' buf u2 x2 μ1 μ2)
    (t0 : PostT I hd σ 0 t c' u2' u3 μ2 μ3) (t1 : PostT I hd σ 1 t c' u3' u4 μ3 μ4) : J I hd σ μ0 (nt t c') (nc t c') μ4 := by
  have hs := hH.s
  have v0 : (0 : Fin 2).val = 0 := rfl
  have v1 : (1 : Fin 2).val = 1 := rfl
  have ht : nt t c' = t ∨ (t ≤ c' ∧ nt t c' = t + 1) := by
    unfold nt; split_ifs
    · exact .inl rfl
    · exact .inr ⟨by omega, rfl⟩
  have hbad : μ4 .bad = μ2 .bad := (t1.fo.other .bad nofun nofun).trans (t0.fo.other .bad nofun nofun)
  have hct : μ2 .ct = μ .ct := (p1.fr.other .ct nofun nofun nofun).trans (p0.fr.other .ct nofun nofun nofun)
  have het : μ2 .et = μ .et := (p1.fr.other .et nofun nofun nofun).trans (p0.fr.other .et nofun nofun nofun)
  have hm2 : ∀ m : Fin 2, m = 0 ∨ m = 1 := fun m => by fin_cases m <;> simp
  have cross : ∀ y, ctT (96 * hd 0) 96 (t - 1) y → μ4 .ct y = μ3 .ct y := fun y h => t1.fo.ct y (by
    rintro ⟨⟨h1, h2⟩, -⟩; obtain ⟨⟨h3, h4⟩, -⟩ := h; rw [v1, hs] at h1; omega)
  have cross' : ∀ y, etT (3 * hd 0) 3 (t - 1) y → μ4 .et y = μ3 .et y := fun y h => t1.fo.et y (by
    rintro ⟨⟨h1, h2⟩, -⟩; obtain ⟨⟨h3, h4⟩, -⟩ := h; rw [v1, hs] at h1; omega)
  refine ⟨t1.fo.con (t0.fo.con (p1.fr.con (p0.fr.con hJ.con))), ?_, ?_, ?_, ?_, ?_, ?_, ?_, ?_⟩
  · intro m
    rcases hm2 m with rfl | rfl
    · exact (((hm_next p0.hm).fr p1.fr (by decide)).fo t0.fo).fo t1.fo
    · exact ((hm_next p1.hm).fo t0.fo).fo t1.fo
  · intro m t' h y hy
    by_cases ho : t' + 1 < t
    · have e : μ4 .ct y = μ .ct y := by
        obtain ⟨-, h1, h2⟩ := hy
        rw [t1.fo.ct y (by rintro ⟨-, h3, h4⟩; omega), t0.fo.ct y (by rintro ⟨-, h3, h4⟩; omega), hct]
      rw [e]
      exact hJ.ct m t' ho y hy
    · obtain rfl : t' = t - 1 := by omega
      rcases hm2 m with rfl | rfl
      · exact (cross y hy).trans (t0.ct (by omega) (by omega) y hy)
      · exact t1.ct (by omega) (by omega) y hy
  · intro m t' h y hy
    by_cases ho : t' + 1 < t
    · have e : μ4 .et y = μ .et y := by
        obtain ⟨-, h1, h2⟩ := hy
        rw [t1.fo.et y (by rintro ⟨-, h3, h4⟩; omega), t0.fo.et y (by rintro ⟨-, h3, h4⟩; omega), het]
      rw [e]
      exact hJ.et m t' ho y hy
    · obtain rfl : t' = t - 1 := by omega
      rcases hm2 m with rfl | rfl
      · exact (cross' y hy).trans (t0.et (by omega) (by omega) y hy)
      · exact t1.et (by omega) (by omega) y hy
  · intro y hy
    rw [t1.fo.ct y fun h => hy 1 h.1, t0.fo.ct y fun h => hy 0 h.1, hct]
    exact hJ.ctf y hy
  · intro y hy
    rw [t1.fo.et y fun h => hy 1 h.1, t0.fo.et y fun h => hy 0 h.1, het]
    exact hJ.etf y hy
  · intro s h1 h2 h3 h4 h5
    rw [t1.fo.other s h4 h5, t0.fo.other s h4 h5, p1.fr.other s h1 h2 h3, p0.fr.other s h1 h2 h3]
    exact hJ.other s h1 h2 h3 h4 h5
  · intro y
    rw [hbad]
    exact (hJ.mono y).trans ((p0.mono y).trans (p1.mono y))
  · intro m t' h y hy
    rw [hbad] at hy
    by_cases ho : t' < t
    · exact hJ.bad m t' ho y (((p0.mono y).trans (p1.mono y)).trans hy)
    · obtain rfl : t' = t := by omega
      rcases hm2 m with rfl | rfl
      · exact p0.bad (by omega) y ((p1.mono y).trans hy)
      · exact p1.bad (by omega) y hy

/-- The step that comes next. -/
def Nx (s : Fin 8 × Fin 8) : Option (Fin 8 × Fin 8) → Prop
  | some s' => s'.1.val = nt s.1.val s.2.val ∧ s'.2.val = nc s.1.val s.2.val
  | none => nt s.1.val s.2.val = 8 ∧ nc s.1.val s.2.val = 0

/-- The partial sums carried. -/
def CD (I : In) (hd : ℕ → ℕ) (σ : ℕ → ℕ → EReal) (t c : ℕ) (x : Carry Ideal) : Prop :=
  c = 0 ∨ ((Ds I hd σ 0 (256 * t) (256 * c) x.d0.1 ∧ Ds I hd σ 0 (256 * t + 128) (256 * c) x.d0.2) ∧
    Ds I hd σ 1 (256 * t) (256 * c) x.d1.1 ∧ Ds I hd σ 1 (256 * t + 128) (256 * c) x.d1.2)

theorem step_ev (hH : Hd it hd) (s : Fin 8 × Fin 8) (nx : Option (Fin 8 × Fin 8)) (hn : Next s nx) (hx : Nx s nx) (hle : s.2.val ≤ s.1.val) (buf : Fin 2)
    (x : Carry Ideal) (h : St (before s buf) x.u) {μ0 μ : Mem Ideal} (hsh : Sh I hd σ it (μ0 .mx)) (hJ : J I hd σ μ0 s.1.val s.2.val μ)
    (hE : ∀ m R C, @Eq EReal (x.u.acc m R C) (E I hd σ s.1.val s.2.val buf m R.val C.val)) (hD : CD I hd σ s.1.val s.2.val x) :
    Ev c R bd (step (bufs R hct) it ok s nx buf x) μ (fun y μ' => St (beforeAll nx (1 - buf)) y.u ∧ J I hd σ μ0 (nt s.1.val s.2.val) (nc s.1.val s.2.val) μ' ∧
      CD I hd σ (nt s.1.val s.2.val) (nc s.1.val s.2.val) y ∧
      (nx.isSome → ∀ m R C, @Eq EReal (y.u.acc m R C) (E I hd σ (nt s.1.val s.2.val) (nc s.1.val s.2.val) (1 - buf) m R.val C.val))) := by
  have hb : (1 - buf : Fin 2).val = 1 - buf.val := by fin_cases buf <;> rfl
  have hb2 := buf.2
  have v0 : (0 : Fin 2).val = 0 := rfl
  have v1 : (1 : Fin 2).val = 1 := rfl
  have hmx : μ .mx = μ0 .mx := hJ.other .mx nofun nofun nofun nofun nofun
  unfold step
  refine .bind (Q := fun u μ' => μ' = μ ∧ St (fun q r => before s buf q r ∨ (nx.isSome ∧ 256 * (1 - buf : Fin 2).val ≤ r ∧ r < 256 * (1 - buf : Fin 2).val + 256)) u ∧
    ∀ m' R C, @Eq EReal (u.acc m' R C) ((x.u.acc m' R C + if nx.isSome ∧ sRows 0 (1 - buf) m' R.val then I.sc (hd 0) (256 * nc s.1.val s.2.val + (R.val - 256 * (1 - buf : Fin 2).val)) (256 * nt s.1.val s.2.val + C.val) else (0 : EReal))
      + if nx.isSome ∧ sRows 1 (1 - buf) m' R.val then I.sc (hd 1) (256 * nc s.1.val s.2.val + (R.val - 256 * (1 - buf : Fin 2).val)) (256 * nt s.1.val s.2.val + C.val) else (0 : EReal))) ?_ fun u μ' hq => ?_
  · match nx, hx with
    | none, _ => exact .ret ⟨rfl, h.mono fun q r h => .inl h, fun m' R C => by simp⟩
    | some (t', c'), hx =>
      obtain ⟨ht', hc'⟩ := hx
      dsimp only at ht' hc'
      refine .bind (issue_ev ok hJ.con 0 t' c' (1 - buf) (hH.q 0) (hH.k 0) h) fun u1 μ1 ⟨e1, hS1, ha1⟩ => ?_
      subst e1
      refine (issue_ev ok hJ.con 1 t' c' (1 - buf) (hH.q 1) (hH.k 1) hS1).mono fun u2 μ2 ⟨e2, hS2, ha2⟩ => ⟨e2, hS2.mono fun q r => ?_, fun m' R C => ?_⟩
      · rintro ((h | ⟨-, h⟩) | ⟨-, h⟩)
        · exact .inl h
        · exact .inr ⟨rfl, h⟩
        · exact .inr ⟨rfl, h⟩
      · rw [ha2, ha1, ← ht', ← hc']
        simp only [Option.isSome_some, true_and]
        rfl
  obtain ⟨rfl, hS, hacc⟩ := hq
  have hd1 : ∀ (m : Fin 2) (R : ℕ), sRows m buf m R → ∀ m', ¬ sRows m' (1 - buf) m R := fun m R h m' h' => by
    obtain ⟨_, p, q⟩ := h; obtain ⟨_, z, w⟩ := h'; omega
  have hd2 : ∀ (m : Fin 2) (R T : ℕ), oRows m T m R → ∀ m' b, ¬ sRows m' b m R := fun m R T h m' b h' => by
    obtain ⟨_, p, q⟩ := h; obtain ⟨_, z, w⟩ := h'; have := b.2; omega
  have hA : ∀ (m : Fin 2) R C, sRows m buf m R.val → @Eq EReal (u.acc m R C) (I.sc (hd m.val) (256 * s.2.val + (R.val - 256 * buf.val)) (256 * s.1.val + C.val)) := fun m R C h => by
    rw [hacc, if_neg (fun h' => hd1 m _ h _ h'.2), if_neg (fun h' => hd1 m _ h _ h'.2), add_zero, add_zero, hE]
    exact if_pos h
  have hB : ∀ (m : Fin 2) R C, 0 < s.1.val → oRows m (s.1.val - 1) m R.val → @Eq EReal (u.acc m R C) (part I hd σ m.val (s.1.val - 1) (256 * s.2.val) R.val C.val) := fun m R C h0 h => by
    rw [hacc, if_neg (fun h' => hd2 m _ _ h _ _ h'.2), if_neg (fun h' => hd2 m _ _ h _ _ h'.2), add_zero, add_zero, hE]
    exact (if_neg (hd2 m _ _ h _ _)).trans (if_pos ⟨h0, h⟩)
  refine .bind (passA_ev ok 0 s.1 s.2 hle buf (hH.k 0) (hH.c 0) hS x.d0 hJ.con (hmx ▸ hsh) (hJ.hm 0) (hA 0) (hD.imp id fun h => h.1)) fun x1 μ1 ⟨hS1, p0⟩ => ?_
  have hmx1 : μ1 .mx = μ0 .mx := (p0.fr.other .mx nofun nofun nofun).trans hmx
  have a1 : ∀ R C, @Eq EReal (x1.1.acc 1 R C) (u.acc 1 R C) := fun R C => (p0.acc 1 R C).trans (if_neg fun h => by cases h.1)
  refine .bind (passA_ev ok 1 s.1 s.2 hle buf (hH.k 1) (hH.c 1) hS1 x.d1 (p0.fr.con hJ.con) (hmx1 ▸ hsh) ((hJ.hm 1).fr p0.fr (by decide)) (fun R C h => (a1 R C).trans (hA 1 R C h)) (hD.imp id fun h => h.2)) fun x2 μ2 ⟨hS2, p1⟩ => ?_
  have hc2 : Con I μ2 := p1.fr.con (p0.fr.con hJ.con)
  have o0 : ∀ m R C, (∀ b, ¬ sRows 0 b m R.val ∧ ¬ sRows 1 b m R.val) → @Eq EReal (x2.1.acc m R C) (u.acc m R C) := fun m R C h =>
    ((p1.acc m R C).trans (if_neg (h buf).2)).trans ((p0.acc m R C).trans (if_neg (h buf).1))
  refine .bind (tail_ev (σ := σ) ok hH 0 s.1 s.2 hS2 hc2 (fun h => ?_) fun h1 h2 R C hr => ?_) fun u3 μ3 ⟨hS3, t0⟩ => ?_
  · have := p0.hm; rw [if_pos h] at this; exact this.fr p1.fr (by decide)
  · rw [o0 0 R C fun b => ⟨hd2 0 _ _ hr _ _, hd2 0 _ _ hr _ _⟩, hB 0 R C h2 hr, show s.2.val = s.1.val by omega]
  have a3 : ∀ R C, @Eq EReal (u3.acc 1 R C) (x2.1.acc 1 R C) := fun R C => (t0.acc 1 R C).trans (if_neg fun h => by cases h.2.1)
  refine .bind (tail_ev (σ := σ) ok hH 1 s.1 s.2 hS3 (t0.fo.con hc2) (fun h => ?_) fun h1 h2 R C hr => ?_) fun u4 μ4 ⟨hS4, t1⟩ => ?_
  · have := p1.hm; rw [if_pos h] at this; exact this.fo t0.fo
  · rw [a3, o0 1 R C fun b => ⟨hd2 1 _ _ hr _ _, hd2 1 _ _ hr _ _⟩, hB 1 R C h2 hr, show s.2.val = s.1.val by omega]
  refine .ret ⟨?_, step_J hH hle hJ p0 p1 t0 t1, ?_, fun hsome m' R C => ?_⟩
  · refine hS4.mono fun q r => ?_
    have hq : q = 0 ∨ q = 1 := by fin_cases q <;> simp
    rw [hb]
    clear hacc hA hB hd1 hd2 o0 a1 a3 hD hE p0 p1 t0 t1 hJ hsh
    unfold beforeAll before sRows oRows Next at *
    rcases nx with _ | ⟨t', c'⟩ <;> rcases hq with rfl | rfl <;> simp at hn ⊢ <;> (try split at hn) <;> omega
  · unfold CD nt nc
    split_ifs with hlt
    · exact .inr ⟨p0.ds hlt, p1.ds hlt⟩
    · exact .inl rfl
  · refine step_acc (I := I) (hd := hd) (σ := σ) hle hb m' R.val C.val (hE m' R C) (a1 := x.u.acc m' R C + if nx.isSome ∧ sRows 0 (1 - buf) m' R.val then I.sc (hd 0) (256 * nc s.1.val s.2.val + (R.val - 256 * (1 - buf : Fin 2).val)) (256 * nt s.1.val s.2.val + C.val) else (0 : EReal))
      ?_ ((hacc m' R C).trans ?_) (p0.acc m' R C) (p1.acc m' R C) (t0.acc m' R C) (t1.acc m' R C)
    · simp only [hsome, true_and]
    · simp only [hsome, true_and]

theorem steps_ev (hH : Hd it hd) : ∀ (l : List (Fin 8 × Fin 8)) (s : Fin 8 × Fin 8) (hs : l.head? = some s) (hl : Linked l) (hx : ∀ i s, l[i]? = some s → Nx s (l[i+1]?) ∧ s.2.val ≤ s.1.val) (buf : Fin 2)
    (x : Carry Ideal) (h : St (before s buf) x.u) {μ0 μ : Mem Ideal} (hsh : Sh I hd σ it (μ0 .mx)) (hJ : J I hd σ μ0 s.1.val s.2.val μ)
    (hE : ∀ m R C, @Eq EReal (x.u.acc m R C) (E I hd σ s.1.val s.2.val buf m R.val C.val)) (hD : CD I hd σ s.1.val s.2.val x),
    Ev c R bd (steps (bufs R hct) it ok l buf x) μ (fun y μ' => St (fun _ _ => False) y.u ∧ J I hd σ μ0 8 0 μ')
  | [], _, hs, _, _, _, _, _, _, _, _, _, _, _ => by cases hs
  | s :: r, _, hs, hl, hx, buf, x, h, μ0, μ, hsh, hJ, hE, hD => by
    cases hs
    have h0 := hx 0 s rfl
    have hr : (s :: r)[0 + 1]? = r.head? := by cases r <;> rfl
    rw [hr] at h0
    refine .bind (step_ev ok hH s r.head? hl.1 h0.1 h0.2 buf x h hsh hJ hE hD) fun y μ' ⟨hS, hJ', hD', hE'⟩ => ?_
    match r, hl, hx, h0, hS, hE' with
    | [], _, _, h0, hS, _ =>
      obtain ⟨e1, e2⟩ := h0.1
      rw [e1, e2] at hJ'
      exact .ret ⟨hS, hJ'⟩
    | s' :: r', hl, hx, h0, hS, hE' =>
      obtain ⟨e1, e2⟩ := h0.1
      rw [← e1, ← e2] at hJ' hD' hE'
      exact steps_ev hH (s' :: r') s' rfl hl.2 (fun i s'' hi => hx (i + 1) s'' hi) (1 - buf) y hS hsh hJ' (hE' rfl) hD'

theorem order_nx : ∀ i s, order[i]? = some s → Nx s (order[i+1]?) ∧ s.2.val ≤ s.1.val := by
  intro i s h
  have hi : i < 36 := by
    by_contra hc
    rw [List.getElem?_eq_none (by simp [order]; omega)] at h
    cases h
  interval_cases i <;> (cases h; exact ⟨by constructor <;> rfl, by decide⟩)

/-- Key tiles in order from `n`. -/
def Tiles' : ℕ → List (Fin 8) → Prop
  | _, [] => True
  | n, c :: r => c.val = n ∧ Tiles' (n + 1) r

theorem last_ev (hH : Hd it hd) {μ : Mem Ideal} (hc : Con I μ) (hm : ∀ m : Fin 2, HM I hd σ m.val 8 0 μ) : ∀ (l : List (Fin 8)) (n : ℕ) (hl : Tiles' n l) {S : Rows} {u : Mxu Ideal} (h : St S u)
    (ha : ∀ m R C, oRows m 7 m R.val → @Eq EReal (u.acc m R C) (part I hd σ m.val 7 (256 * n) R.val C.val)),
    Ev c R bd (last (bufs R hct) it ok l u) μ (fun u' μ' => μ' = μ ∧ St (fun q r => S q r ∨ oRows q 7 q r) u' ∧
      ∀ m R C, oRows m 7 m R.val → @Eq EReal (u'.acc m R C) (part I hd σ m.val 7 (256 * (n + l.length)) R.val C.val))
  | [], n, _, S, u, h, ha => .ret ⟨rfl, h.mono fun _ _ h => .inl h, ha⟩
  | c' :: l, n, hl, S, u, h, ha => by
    obtain ⟨rfl, hl⟩ := hl
    refine .bind (passB_ev ok 0 7 c' (Nat.le_of_lt_succ c'.2) (hH.k 0) h hc (hm 0)) fun u1 μ1 ⟨e1, hS1, h1⟩ => ?_
    subst e1
    refine .bind (passB_ev ok 1 7 c' (Nat.le_of_lt_succ c'.2) (hH.k 1) hS1 hc (hm 1)) fun u2 μ2 ⟨e2, hS2, h2⟩ => ?_
    subst e2
    refine (last_ev hH hc hm l (c'.val + 1) hl hS2 fun m R C hr => ?_).mono fun u' μ' ⟨e, hS, ha'⟩ => ⟨e, hS.mono fun q r => ?_, fun m R C hr => ?_⟩
    · have hmm : m = 0 ∨ m = 1 := by fin_cases m <;> simp
      rcases hmm with rfl | rfl
      · rw [h2, if_neg (fun h => by cases h.1), add_zero, h1, if_pos (show oRows 0 (7 : Fin 8).val 0 R.val from hr), ha 0 R C hr]
        exact part_add 0 7 c'.val R.val C.val
      · rw [h2, if_pos (show oRows 1 (7 : Fin 8).val 1 R.val from hr), h1, if_neg (fun h => by cases h.1), add_zero, ha 1 R C hr]
        exact part_add 1 7 c'.val R.val C.val
    · rintro (((h | h) | h) | h)
      · exact .inl h
      · obtain ⟨rfl, h⟩ := h; exact .inr ⟨rfl, h⟩
      · obtain ⟨rfl, h⟩ := h; exact .inr ⟨rfl, h⟩
      · exact .inr h
    · rw [ha' m R C hr, List.length_cons, show c'.val + 1 + l.length = c'.val + (l.length + 1) by omega]

/-- What a pair of heads leaves. -/
structure PostP (I : In) (hd : ℕ → ℕ) (σ : ℕ → ℕ → EReal) (μ0 μ : Mem Ideal) : Prop where
  other : ∀ s, s ≠ .row → s ≠ .p → s ≠ .bad → s ≠ .ct → s ≠ .et → μ s = μ0 s
  ct : ∀ (m : Fin 2) (y : S1152x2048.Idx), 96 * hd m.val ≤ (y 0).val → (y 0).val < 96 * hd m.val + 96 → @Eq EReal (μ .ct y) (cv I hd σ m.val ((y 0).val - 96 * hd m.val) (y 1).val)
  et : ∀ (m : Fin 2) (y : S128x2048.Idx), 3 * hd m.val ≤ (y 0).val → (y 0).val < 3 * hd m.val + 3 → @Eq EReal (μ .et y) (ev I hd σ m.val ((y 0).val - 3 * hd m.val) (y 1).val)
  ctf : ∀ y, (∀ m : Fin 2, ¬ (96 * hd m.val ≤ (y 0).val ∧ (y 0).val < 96 * hd m.val + 96)) → μ .ct y = μ0 .ct y
  etf : ∀ y, (∀ m : Fin 2, ¬ (3 * hd m.val ≤ (y 0).val ∧ (y 0).val < 3 * hd m.val + 3)) → μ .et y = μ0 .et y
  mono : ∀ y, (μ0 .bad y : EReal) ≤ μ .bad y
  bad : ∀ (m : Fin 2) (q : ℕ), q < 2048 → (∀ y, (μ .bad y : EReal) ≤ 0) → dn I hd σ m.val q < lim

theorem acc_none {u : Mxu Ideal} (h : St (fun _ _ => False) u) (m : Fin 2) (R : Fin 1024) (C : Fin 256) : @Eq EReal (u.acc m R C) 0 := by
  have : u.live m R = false := by
    by_contra h'
    exact h.2 m R (by simpa using h')
  exact (u.clean m R C this).trans zero32

theorem pair_ev (hH : Hd it hd) {u : Mxu Ideal} (h : St (fun _ _ => False) u) {μ0 : Mem Ideal} (hc : Con I μ0) (hsh : Sh I hd σ it (μ0 .mx)) :
    Ev c R bd (pair (bufs R hct) it ok u) μ0 (fun u' μ' => St (fun _ _ => False) u' ∧ PostP I hd σ μ0 μ') := by
  have hs := hH.s
  have v0 : (0 : Fin 2).val = 0 := rfl
  have v1 : (1 : Fin 2).val = 1 := rfl
  have hm2 : ∀ m : Fin 2, m = 0 ∨ m = 1 := fun m => by fin_cases m <;> simp
  unfold pair
  refine .bind (issue_ev ok hc 0 0 0 0 (hH.q 0) (hH.k 0) h) fun u1 μ1 ⟨e1, hS1, a1⟩ => ?_
  subst e1
  refine .bind (issue_ev ok hc 1 0 0 0 (hH.q 1) (hH.k 1) hS1) fun u2 μ2 ⟨e2, hS2, a2⟩ => ?_
  subst e2
  refine .bind (steps_ev (σ := σ) ok hH order (0, 0) rfl order_linked order_nx 0 _ (hS2.mono fun q r => ?_) (μ0 := μ2) hsh ?_ (fun m R C => ?_) (.inl rfl)) fun x μ3 ⟨hS3, hJ⟩ => ?_
  · rintro ((h | ⟨-, h⟩) | ⟨-, h⟩)
    · exact h.elim
    · exact .inl h
    · exact .inl h
  · exact ⟨hc, fun m => ⟨fun h => absurd h (by decide), fun h => absurd h (by decide), fun y _ _ h => absurd h (Nat.not_lt_zero _), fun h => absurd h (by decide)⟩,
      fun m t' h => absurd h (Nat.not_lt_zero _), fun m t' h => absurd h (Nat.not_lt_zero _), fun _ _ => rfl, fun _ _ => rfl, fun _ _ _ _ _ _ => rfl, fun _ => le_refl _,
      fun m t' h => absurd h (Nat.not_lt_zero _)⟩
  · rw [a2, a1, acc_none h, zero_add]
    have he : E I hd σ ((0, 0) : Fin 8 × Fin 8).1.val ((0, 0) : Fin 8 × Fin 8).2.val 0 m R.val C.val = if sRows m 0 m R.val then I.sc (hd m.val) (256 * 0 + (R.val - 256 * 0)) (256 * 0 + C.val) else 0 := by
      unfold E
      rw [if_neg (c := (0 < ((0, 0) : Fin 8 × Fin 8).1.val ∧ _)) (fun h => absurd h.1 (by decide))]
      rfl
    rw [he]
    rcases hm2 m with rfl | rfl
    · rw [if_neg (c := sRows 1 0 0 R.val) (fun h => by cases h.1), add_zero]
      rfl
    · rw [if_neg (c := sRows 0 0 1 R.val) (fun h => by cases h.1), zero_add]
      rfl
  · have hm : ∀ m : Fin 2, HM I hd σ m.val 8 0 μ3 := hJ.hm
    refine .bind (last_ev ok hH hJ.con hm [0, 1, 2, 3, 4, 5, 6, 7] 0 ⟨rfl, rfl, rfl, rfl, rfl, rfl, rfl, rfl, trivial⟩ hS3 fun m R C _ => ?_) fun u4 μ4 ⟨e4, hS4, a4⟩ => ?_
    · rw [acc_none hS3]; unfold part; simp
    subst e4
    refine .bind (finish_ev (I := I) (σ := σ) ok 0 7 (hH.o 0) (hH.e 0) hS4 (a4 0)) fun u5 μ5 ⟨hS5, p0⟩ => ?_
    refine (finish_ev (I := I) (σ := σ) ok 1 7 (hH.o 1) (hH.e 1) hS5 fun R C hr => ?_).mono fun u6 μ6 ⟨hS6, p1⟩ => ⟨hS6.mono fun q r => ?_, ?_⟩
    · rw [p0.acc, if_neg (fun h => by cases h.1)]
      exact a4 1 R C hr
    · rintro ⟨⟨h | h, h0⟩, h1⟩
      · exact h
      · rcases hm2 q with rfl | rfl
        · exact h0 h
        · exact h1 h
    have hbad : μ6 .bad = μ4 .bad := (p1.fo.other .bad nofun nofun).trans (p0.fo.other .bad nofun nofun)
    have v7 : (7 : Fin 8).val = 7 := rfl
    refine ⟨?_, ?_, ?_, ?_, ?_, ?_, ?_⟩
    · intro s h1 h2 h3 h4 h5
      rw [p1.fo.other s h4 h5, p0.fo.other s h4 h5]
      exact hJ.other s h1 h2 h3 h4 h5
    · intro m y h1 h2
      have hy : (y 1).val < 2048 := (y 1).isLt
      by_cases h7 : 256 * 7 ≤ (y 1).val
      · rcases hm2 m with rfl | rfl
        · rw [p1.fo.ct y (by rintro ⟨⟨h3, h4⟩, -⟩; rw [v1, hs] at h3; rw [v0] at h2; omega)]
          exact p0.ct y ⟨⟨h1, h2⟩, h7, by omega⟩
        · exact p1.ct y ⟨⟨h1, h2⟩, h7, by omega⟩
      · rw [p1.fo.ct y (by rintro ⟨-, h3, h4⟩; omega), p0.fo.ct y (by rintro ⟨-, h3, h4⟩; omega)]
        exact hJ.ct m ((y 1).val / 256) (by omega) y ⟨⟨h1, h2⟩, by omega, by omega⟩
    · intro m y h1 h2
      have hy : (y 1).val < 2048 := (y 1).isLt
      by_cases h7 : 256 * 7 ≤ (y 1).val
      · rcases hm2 m with rfl | rfl
        · rw [p1.fo.et y (by rintro ⟨⟨h3, h4⟩, -⟩; rw [v1, hs] at h3; rw [v0] at h2; omega)]
          exact p0.et y ⟨⟨h1, h2⟩, h7, by omega⟩
        · exact p1.et y ⟨⟨h1, h2⟩, h7, by omega⟩
      · rw [p1.fo.et y (by rintro ⟨-, h3, h4⟩; omega), p0.fo.et y (by rintro ⟨-, h3, h4⟩; omega)]
        exact hJ.et m ((y 1).val / 256) (by omega) y ⟨⟨h1, h2⟩, by omega, by omega⟩
    · intro y hy
      rw [p1.fo.ct y fun h => hy 1 h.1, p0.fo.ct y fun h => hy 0 h.1]
      exact hJ.ctf y hy
    · intro y hy
      rw [p1.fo.et y fun h => hy 1 h.1, p0.fo.et y fun h => hy 0 h.1]
      exact hJ.etf y hy
    · intro y
      rw [hbad]
      exact hJ.mono y
    · intro m q hq hy
      rw [hbad] at hy
      have := hJ.bad m (q / 256) (show q / 256 < 8 by omega) (ix2 0 ⟨q % 256, by omega⟩) (hy _)
      rw [show q = 256 * (q / 256) + q % 256 by omega]
      exact this

end

end Cert.KernelIdeal.Pair
-- ==== Proof.Value.Rare.lean ====
/-
  The loops over key tiles find each query's greatest score.
-/
module

public import proofs.«01_k».proof.Proof.Value.Steps
public import proofs.«01_k».proof.Proof.Ideal.Rare

@[expose] public section

noncomputable section

namespace Cert.KernelIdeal.Pair

open Idealize.ShloMosaic Idealize.SL.Sem Cert.KernelIdeal Attn
open Cert.KernelIdeal.Facts₀
open Finset (range)

variable [Facts]

/-- The greatest scores so far, each of eight rows, with a chunk of 128 keys more. -/
def best {F : FTy → Type} [FloatOps F] (k0 q0 : BitVec 32) (s : FVec F S128x256 .f32) (kb : Vec F S1x128x128 .f32) (cq : Vec F S1x256 .f32) (b : FVec F S8x256 .f32) : FVec F S8x256 .f32 :=
  have kb' : FVec F S128x128 .f32 := shapeCast S128x128 kb shapeCasts_S1x128x128_S128x128
  have z : FVec F S128x256 .f32 := mulf (mulf s (concatenate S128x256 1 [⟨S128x128, kb'⟩, ⟨S128x128, kb'⟩] concatenates_S128x128_S128x128_S128x256_d1)) (broadcastTo S128x256 cq broadcasts_S1x256_S128x256)
  maximumf b (multiReduction .maximumf [0] S8x256 (shapeCast S16x8x256 (select (cmpi .sle (addi (broadcast S128x256 k0) (iota .tc S128x256 32 [0] iota_S128x256_d0_w32 : IVec S128x256 32)) (addi (broadcast S128x256 q0) (iota .tc S128x256 32 [1] iota_S128x256_d1_w32 : IVec S128x256 32))) z
    (broadcast S128x256 (Scalar.ofBits .f32 0xFF800000#32 : F .f32))) shapeCasts_S128x256_S16x8x256) 0xFF800000#32 reduces_S16x8x256_S8x256 (.inl rfl) rfl)

/-- The greatest of the eight rows. -/
def top8 {F : FTy → Type} [FloatOps F] (b : FVec F S8x256 .f32) : FVec F S1x256 .f32 :=
  shapeCast S1x256 (shapeCast S1x256 (multiReduction .maximumf [0] S256 b 0xFF800000#32 reduces_S8x256_S256 (.inl rfl) rfl) shapeCasts_S256_S1x256) shapeCasts_S1x256_S1x256

theorem sle_small (a b : ℕ) (ha : a < 2 ^ 31) (hb : b < 2 ^ 31) : (IntOp.cmpi CmpIPredicate.sle (BitVec.ofNat 32 a) (BitVec.ofNat 32 b) = 1#1) ↔ a ≤ b := by
  have e : IntOp.cmpi CmpIPredicate.sle (BitVec.ofNat 32 a) (BitVec.ofNat 32 b) = BitVec.ofBool ((BitVec.ofNat 32 a).sle (BitVec.ofNat 32 b)) := rfl
  rw [e, BitVec.sle_eq_decide]
  have h1 : (BitVec.ofNat 32 a).toInt = a := by
    have e : (BitVec.ofNat 32 a).toNat = a := by rw [BitVec.toNat_ofNat]; omega
    rw [BitVec.toInt_eq_toNat_of_lt (by omega), e]
  have h2 : (BitVec.ofNat 32 b).toInt = b := by
    have e : (BitVec.ofNat 32 b).toNat = b := by rw [BitVec.toNat_ofNat]; omega
    rw [BitVec.toInt_eq_toNat_of_lt (by omega), e]
  rw [h1, h2]
  by_cases h : a ≤ b
  · have : ((a : ℤ) ≤ b) := by exact_mod_cast h
    simp [h]
  · have : ¬ ((a : ℤ) ≤ b) := by exact_mod_cast h
    simp [h]

theorem sup_add (f : ℕ → EReal) (n m : ℕ) : (range (n + m)).sup f = max ((range n).sup f) ((range m).sup fun r => f (n + r)) := by
  induction m with
  | zero => simp
  | succ m ih => rw [← Nat.add_assoc, Finset.range_add_one, Finset.sup_insert, ih, Finset.range_add_one, Finset.sup_insert]; simp only [max_comm, max_left_comm]

theorem sup_rows (f : ℕ → EReal) (n : ℕ) : ((range 8).sup fun a => (range n).sup fun r => f (8 * r + a)) = (range (8 * n)).sup f := by
  apply le_antisymm
  · refine Finset.sup_le fun a ha => Finset.sup_le fun r hr => Finset.le_sup (f := f) ?_
    rw [Finset.mem_range] at *; omega
  · refine Finset.sup_le fun k hk => ?_
    rw [Finset.mem_range] at hk
    refine le_trans ?_ (Finset.le_sup (b := k % 8) (by rw [Finset.mem_range]; omega))
    refine le_trans (le_of_eq ?_) (Finset.le_sup (b := k / 8) (by rw [Finset.mem_range]; omega))
    congr 1; omega

theorem sup_Z (I : In) (h q n : ℕ) (hq : q < n) (hn : n ≤ 2048) : (range n).sup (I.Z h q) = (range 2048).sup (I.Z h q) := by
  apply le_antisymm
  · exact Finset.sup_mono (Finset.range_subset_range.mpr hn)
  · refine Finset.sup_le fun k hk => ?_
    by_cases hkn : k < n
    · exact Finset.le_sup (by rw [Finset.mem_range]; exact hkn)
    · unfold In.Z; rw [if_neg (by omega)]; exact bot_le

theorem best_apply {I : In} {h t j : ℕ} (ht : t < 8) (hj : j < 16) {k0 q0 : BitVec 32} (hk0 : k0 = BitVec.ofNat 32 (128 * j)) (hq0 : q0 = BitVec.ofNat 32 (256 * t))
    (s : FVec Ideal S128x256 .f32) (kb : Vec Ideal S1x128x128 .f32) (cq : Vec Ideal S1x256 .f32) (b : FVec Ideal S8x256 .f32)
    (hs : ∀ y, @Eq EReal (s y) (I.sc h (128 * j + (y 0).val) (256 * t + (y 1).val))) (hkb : ∀ y, @Eq EReal (kb y) (I.KS (h / 3) (128 * j + (y 1).val)))
    (hcq : ∀ y, @Eq EReal (cq y) (I.C h (256 * t + (y 1).val)))
    (hb : ∀ y, @Eq EReal (b y) ((range (16 * j)).sup fun r => I.Z h (256 * t + (y 1).val) (8 * r + (y 0).val))) (y : S8x256.Idx) :
    @Eq EReal (best k0 q0 s kb cq b y) ((range (16 * (j + 1))).sup fun r => I.Z h (256 * t + (y 1).val) (8 * r + (y 0).val)) := by
  subst hk0 hq0
  have hy0 : (y 0).val < 8 := (y 0).isLt
  have hy1 : (y 1).val < 256 := (y 1).isLt
  unfold best
  pointwise
  rw [show 16 * (j + 1) = 16 * j + 16 by omega, sup_add, hb, ← fold_max 16]
  congr 2
  funext x
  have hx := x.2
  have e1 : IntOp.addi (BitVec.ofNat 32 (128 * j)) (BitVec.ofNat 32 (x.val * 8 + (y 0).val)) = BitVec.ofNat 32 (128 * j + (x.val * 8 + (y 0).val)) := (BitVec.ofNat_add _ _).symm
  have e2 : IntOp.addi (BitVec.ofNat 32 (256 * t)) (BitVec.ofNat 32 (y 1).val) = BitVec.ofNat 32 (256 * t + (y 1).val) := (BitVec.ofNat_add _ _).symm
  rw [e1, e2, hs, hcq, show (if h : (y 1).val < 128 then (kb (ix3 0 ⟨x.val * 8 + (y 0).val, by omega⟩ ⟨(y 1).val, h⟩) : EReal) else kb (ix3 0 ⟨x.val * 8 + (y 0).val, by omega⟩ ⟨(y 1).val - 128, by omega⟩)) = I.KS (h / 3) (128 * j + (x.val * 8 + (y 0).val)) from by
    split_ifs
    · exact hkb _
    · exact hkb _]
  unfold Scalar.select In.Z
  have e3 : 8 * (16 * j + x.val) + (y 0).val = 128 * j + (x.val * 8 + (y 0).val) := by omega
  rw [e3]
  by_cases hle : 128 * j + (x.val * 8 + (y 0).val) ≤ 256 * t + (y 1).val
  · rw [if_pos hle]
    exact if_pos ((sle_small _ _ (by omega) (by omega)).mpr hle)
  · rw [if_neg hle]
    exact (if_neg fun h' => hle ((sle_small _ _ (by omega) (by omega)).mp h')).trans negInf32

theorem top8_apply {I : In} {h t : ℕ} (ht : t < 8) (b : FVec Ideal S8x256 .f32)
    (hb : ∀ y, @Eq EReal (b y) ((range (16 * (2 * (t + 1)))).sup fun r => I.Z h (256 * t + (y 1).val) (8 * r + (y 0).val))) (y : S1x256.Idx) :
    @Eq EReal (top8 b y) ((range 2048).sup (I.Z h (256 * t + (y 1).val))) := by
  have hy1 : (y 1).val < 256 := (y 1).isLt
  unfold top8
  pointwise
  rw [← sup_Z I h _ (8 * (16 * (2 * (t + 1)))) (by omega) (by omega), ← sup_rows, ← fold_max 8]
  congr 1
  funext x
  exact hb _

theorem qk_gen {I : In} {h k0 q0 : ℕ} (q : Vec Ideal S96x256 .fp8e4m3) (k : Vec Ideal S1x128x128 .fp8e4m3)
    (hq : ∀ y, @Eq EReal (q y) (I.Q (96 * h + (y 0).val) (q0 + (y 1).val)))
    (hk : ∀ y, @Eq EReal (k y) (if (y 2).val < 96 then I.K (h / 3) (k0 + (y 1).val) (y 2).val else 0)) (y : S128x256.Idx) :
    @Eq EReal ((⟨.bf16, false, qTile (F := Ideal) q⟩ : Mxu.Staged Ideal).pass (kTile (F := Ideal) k) y) (I.sc h (k0 + (y 0).val) (q0 + (y 1).val)) := by
  rw [pass_apply]
  unfold In.sc
  rw [← sum_fin_lt _ 96 256 (by norm_num)]
  refine Finset.sum_congr rfl fun x _ => ?_
  unfold qTile kTile
  pointwise
  split_ifs with h1 h2 h2
  · rw [hq, hk]
    exact congrArg (· * _) (if_pos h2)
  · rw [zero8, mul_zero]
  · omega
  · rw [zero8, zero_mul]

section
variable {c : Dev nD} {R : Refs} {bd : Option ℕ}
variable {i : grid0.Coords} {hq : (R .q).IsWhole} {hk : (R .k).IsWhole} {hv : (R .v).IsWhole} {hkb : (R .kb).IsWhole} {hcq : (R .cq).IsWhole}
  {hct : (R .ct).IsWhole} {het : (R .et).IsWhole} {hp : (R .p).IsWhole} {hrow : (R .row).IsWhole} {hmx : (R .mx).IsWhole}
  {htri : (R .tri).IsWhole} {hbad : (R .bad).IsWhole}
variable {it n : BitVec 32} {u0 : Mxu Ideal} {hw : k0_chk1 it} {h1 : k0_cond1 it = 1#1}

theorem read_one {I : In} {h k0 q0 : ℕ} {u : Mxu Ideal} (hu : St none' u) (m : Fin 2) (q : Vec Ideal S96x256 .fp8e4m3) (k : Vec Ideal S1x128x128 .fp8e4m3)
    (hq : ∀ y, @Eq EReal (q y) (I.Q (96 * h + (y 0).val) (q0 + (y 1).val)))
    (hk : ∀ y, @Eq EReal (k y) (if (y 2).val < 96 then I.K (h / 3) (k0 + (y 1).val) (y 2).val else 0)) (hf : Mxu.Fits 0 128) (y : S128x256.Idx) :
    @Eq EReal (((u.pushed m 0 false (qTile q)).accLhs m 0 0 (kTile k) hf).read m 0 hf y) (I.sc h (k0 + (y 0).val) (q0 + (y 1).val)) := by
  have hy : (y 0).val < 128 := (y 0).isLt
  show @Eq EReal (((u.pushed m 0 false (qTile q)).accLhs m 0 0 (kTile k) hf).acc m _ _) _
  rw [acc_accLhs, staged_pushed (hu.1 _ _)]
  refine (acc_accBy _ _ _ _ _ _ _ _ _).trans ?_
  refine (congrArg₂ (· + ·) (((congrFun (congrFun (congrFun (acc_pushed u m 0 false (qTile q)) _) _) _)).trans (acc_none hu _ _ _)) (dif_pos ⟨rfl, Nat.le_add_right _ _, by show 4 * 0 + (y 0).val < _; omega⟩)).trans ?_
  refine (zero_add _).trans ((qk_gen q k hq hk _).trans ?_)
  refine c2 (I.sc h) ?_ rfl
  show k0 + (4 * 0 + (y 0).val - 4 * 0) = _; omega

theorem trips2 : ∀ t : Fin k0_t1_loop.trips, (k0_t2_loop t).trips = 2 * (t.val + 1) := by decide +kernel
theorem trips3 : ∀ t : Fin k0_t1_loop.trips, (k0_t3_loop t).trips = 0 := by decide +kernel
theorem trips5 : ∀ t : Fin k0_t4_loop.trips, (k0_t5_loop t).trips = 2 * (t.val + 1) := by decide +kernel
theorem trips6 : ∀ t : Fin k0_t4_loop.trips, (k0_t6_loop t).trips = 0 := by decide +kernel

/-- A pair's first head, on the second round of the pairs. -/
def hd0 (k m : ℕ) : ℕ := 2 * (k % 6) + m

theorem o1 : ∀ (k : Fin 12), 6 ≤ k.val → ∀ (t : Fin k0_t1_loop.trips), k0_off1 (BitVec.ofNat 32 k.val) t = ![hd0 k 0, 256 * t.val] := by decide +kernel
theorem o2 : ∀ (k : Fin 12), 6 ≤ k.val → ∀ (t : Fin k0_t1_loop.trips), k0_off2 (BitVec.ofNat 32 k.val) t = ![96 * hd0 k 0, 256 * t.val] := by decide +kernel
theorem o3 : ∀ (k : Fin 12), 6 ≤ k.val → ∀ (t : Fin k0_t1_loop.trips) (t' : Fin (k0_t2_loop t).trips), k0_off3 (BitVec.ofNat 32 k.val) t t' = ![hd0 k 0 / 3, 128 * t'.val, 0] := by decide +kernel
theorem o6 : ∀ (t : Fin k0_t1_loop.trips), k0_off6 t = ![t.val, 0] := by decide +kernel
theorem o7 : ∀ (k : Fin 12), 6 ≤ k.val → ∀ (t : Fin k0_t4_loop.trips), k0_off7 (BitVec.ofNat 32 k.val) t = ![hd0 k 1, 256 * t.val] := by decide +kernel
theorem o8 : ∀ (k : Fin 12), 6 ≤ k.val → ∀ (t : Fin k0_t4_loop.trips), k0_off8 (BitVec.ofNat 32 k.val) t = ![96 * hd0 k 1, 256 * t.val] := by decide +kernel
theorem o9 : ∀ (k : Fin 12), 6 ≤ k.val → ∀ (t : Fin k0_t4_loop.trips) (t' : Fin (k0_t5_loop t).trips), k0_off9 (BitVec.ofNat 32 k.val) t t' = ![hd0 k 1 / 3, 128 * t'.val, 0] := by decide +kernel
theorem o12 : ∀ (t : Fin k0_t4_loop.trips), k0_off12 t = ![8 + t.val, 0] := by decide +kernel
theorem iv2 : ∀ (t : Fin k0_t1_loop.trips) (t' : Fin (k0_t2_loop t).trips), Scalar.muli (Scf.iv 0#32 1#32 t') 128#32 = BitVec.ofNat 32 (128 * t'.val) := by decide +kernel
theorem iv5 : ∀ (t : Fin k0_t4_loop.trips) (t' : Fin (k0_t5_loop t).trips), Scalar.muli (Scf.iv 0#32 1#32 t') 128#32 = BitVec.ofNat 32 (128 * t'.val) := by decide +kernel
theorem iv1 : ∀ (t : Fin k0_t1_loop.trips), Scalar.muli (Scf.iv 0#32 1#32 t) 256#32 = BitVec.ofNat 32 (256 * t.val) := by decide +kernel
theorem iv4 : ∀ (t : Fin k0_t4_loop.trips), Scalar.muli (Scf.iv 0#32 1#32 t) 256#32 = BitVec.ofNat 32 (256 * t.val) := by decide +kernel

variable {I : In} {k : Fin 12} (hk6 : 6 ≤ k.val)

theorem q_at {μ : Mem Ideal} (hc : Con I μ) {off : Fin 2 → ℕ} {inb : ∀ a, off a + S96x256.size a ≤ S1152x2048.size a} {h t : ℕ} (ho : off = ![96 * h, 256 * t]) (y : S96x256.Idx) :
    @Eq EReal (μ .q ((Rect.unit (s := S1152x2048) off S96x256.size inb).emb y)) (I.Q (96 * h + (y 0).val) (256 * t + (y 1).val)) := by
  subst ho
  rw [hc.q]
  simp only [emb_unit]
  rfl

theorem k_at {μ : Mem Ideal} (hc : Con I μ) {off : Fin 3 → ℕ} {inb : ∀ a, off a + S1x128x128.size a ≤ S4x2048x128.size a} {h j : ℕ} (ho : off = ![h / 3, 128 * j, 0]) (y : S1x128x128.Idx) :
    @Eq EReal (μ .k ((Rect.unit (s := S4x2048x128) off S1x128x128.size inb).emb y)) (if (y 2).val < 96 then I.K (h / 3) (128 * j + (y 1).val) (y 2).val else 0) := by
  subst ho
  have hy : (y 0).val < 1 := (y 0).isLt
  have e0 : (y 0).val = 0 := by omega
  have e : (((Rect.unit (s := S4x2048x128) ![h / 3, 128 * j, 0] S1x128x128.size inb).emb y) 2).val = (y 2).val := by
    rw [emb_unit]; show 0 + (y 2).val = _; omega
  rw [hc.k, e]
  refine if_congr Iff.rfl (c3 I.K ?_ ?_ rfl) rfl
  · rw [emb_unit]; show h / 3 + (y 0).val = _; omega
  · rw [emb_unit]; rfl

theorem kb_at {μ : Mem Ideal} (hc : Con I μ) {off : Fin 3 → ℕ} {inb : ∀ a, off a + S1x128x128.size a ≤ S4x2048x128.size a} {h j : ℕ} (ho : off = ![h / 3, 128 * j, 0]) (y : S1x128x128.Idx) :
    @Eq EReal (μ .kb ((Rect.unit (s := S4x2048x128) off S1x128x128.size inb).emb y)) (I.KS (h / 3) (128 * j + (y 1).val)) := by
  subst ho
  have hy : (y 0).val < 1 := (y 0).isLt
  rw [hc.kb]
  simp only [emb_unit]
  refine c2 I.KS ?_ rfl
  show h / 3 + (y 0).val = _; omega

theorem cq_at {μ : Mem Ideal} (hc : Con I μ) {off : Fin 2 → ℕ} {inb : ∀ a, off a + S1x256.size a ≤ S12x2048.size a} {h t : ℕ} (ho : off = ![h, 256 * t]) (y : S1x256.Idx) :
    @Eq EReal (μ .cq ((Rect.unit (s := S12x2048) off S1x256.size inb).emb y)) (I.C h (256 * t + (y 1).val)) := by
  subst ho
  have hy : (y 0).val < 1 := (y 0).isLt
  rw [hc.cq]
  simp only [emb_unit]
  refine c2 I.C ?_ rfl
  show h + (y 0).val = _; omega

include hk6 in
theorem part24_ev (hit : it = BitVec.ofNat 32 k.val) {a b : BitVec 32} {t : Fin k0_t1_loop.trips} {t' : Fin (k0_t2_loop t).trips} {u : Mxu Ideal} (h : St none' u) {μ : Mem Ideal} (hc : Con I μ) :
    Ev c R bd (k0_part24 i (R .cq) hcq (R .q) hq (R .k) hk (R .kb) hkb (R .mx) hmx (R .tri) htri (R .row) hrow (R .p) hp (R .bad) hbad (R .v) hv (R .ct) hct (R .et) het it n u0 hw h1 a t b 0#32 1#32 t' u) μ
      (fun x μ' => μ' = μ ∧ x.1 = BitVec.ofNat 32 (128 * t'.val) ∧ St none' (x.2.1.pop 0 0 128 Facts₀.fits_0_128) ∧
        ∀ y, @Eq EReal (x.2.1.read 0 0 Facts₀.fits_0_128 y) (I.sc (hd0 k 0) (128 * t'.val + (y 0).val) (256 * t.val + (y 1).val))) := by
  subst hit
  unfold k0_part24
  exact .load .q <| .push (h.1 _ _) (.load .k <| .ret ⟨rfl, iv2 t t', h.one .., read_one h 0 _ _ (q_at hc (o2 k hk6 t)) (k_at hc (o3 k hk6 t t')) Facts₀.fits_0_128⟩)

include hk6 in
theorem part26_ev (hit : it = BitVec.ofNat 32 k.val) {a b : BitVec 32} {t : Fin k0_t4_loop.trips} {t' : Fin (k0_t5_loop t).trips} {u : Mxu Ideal} (h : St none' u) {μ : Mem Ideal} (hc : Con I μ) :
    Ev c R bd (k0_part26 i (R .cq) hcq (R .q) hq (R .k) hk (R .kb) hkb (R .mx) hmx (R .tri) htri (R .row) hrow (R .p) hp (R .bad) hbad (R .v) hv (R .ct) hct (R .et) het it n u0 hw h1 a t b 0#32 1#32 t' u) μ
      (fun x μ' => μ' = μ ∧ x.1 = BitVec.ofNat 32 (128 * t'.val) ∧ St none' (x.2.1.pop 1 0 128 Facts₀.fits_0_128) ∧
        ∀ y, @Eq EReal (x.2.1.read 1 0 Facts₀.fits_0_128 y) (I.sc (hd0 k 1) (128 * t'.val + (y 0).val) (256 * t.val + (y 1).val))) := by
  subst hit
  unfold k0_part26
  exact .load .q <| .push (h.1 _ _) (.load .k <| .ret ⟨rfl, iv5 t t', h.one .., read_one h 1 _ _ (q_at hc (o8 k hk6 t)) (k_at hc (o9 k hk6 t t')) Facts₀.fits_0_128⟩)

/-- The first `n` rows of greatest scores found, everything else as it was. -/
def MX (I : In) (k : ℕ) (μ0 : Mem Ideal) (n : ℕ) (μ : Mem Ideal) : Prop :=
  (∀ s, s ≠ .mx → μ s = μ0 s) ∧ ∀ y : S16x256.Idx, (y 0).val < n → @Eq EReal (μ .mx y) ((range 2048).sup (I.Z (hd0 k ((y 0).val / 8)) (256 * ((y 0).val % 8) + (y 1).val)))

theorem MX.con {k n : ℕ} {μ0 μ : Mem Ideal} (h : MX I k μ0 n μ) (hc : Con I μ0) : Con I μ :=
  hc.of_eq (h.1 _ nofun) (h.1 _ nofun) (h.1 _ nofun) (h.1 _ nofun) (h.1 _ nofun) (h.1 _ nofun)

theorem MX.put {k n : ℕ} {μ0 μ : Mem Ideal} (h : MX I k μ0 n μ) {off : Fin 2 → ℕ} {inb : ∀ a, off a + S1x256.size a ≤ S16x256.size a} (ho : off = ![n, 0])
    (w : S1x256.Idx → EReal) (hw : ∀ y, w y = (range 2048).sup (I.Z (hd0 k (n / 8)) (256 * (n % 8) + (y 1).val))) :
    MX I k μ0 (n + 1) (Function.update μ .mx (put (Rect.unit (s := S16x256) off S1x256.size inb) w (μ .mx))) := by
  subst ho
  refine ⟨fun s hs => (Function.update_of_ne hs _ _).trans (h.1 s hs), fun y hy => ?_⟩
  have hy1 : (y 1).val < 256 := (y 1).isLt
  rw [Function.update_self]
  by_cases he : (y 0).val = n
  · rw [put_unit, dif_pos]
    · refine (hw _).trans ?_
      show (range 2048).sup (I.Z (hd0 k (n / 8)) (256 * (n % 8) + ((y 1).val - 0))) = _
      rw [he, Nat.sub_zero]
    · intro a
      match a with
      | ⟨0, _⟩ => exact ⟨by show n ≤ (y 0).val; omega, by show (y 0).val < n + 1; omega⟩
      | ⟨1, _⟩ => exact ⟨by show 0 ≤ (y 1).val; omega, by show (y 1).val < 0 + 256; omega⟩
  · rw [put_unit, dif_neg]
    · exact h.2 y (by omega)
    · intro hh
      have h0a : n ≤ (y 0).val := (hh 0).1
      omega

theorem t1_lt (t : Fin k0_t1_loop.trips) : t.val < 8 := t.isLt.trans_le (by decide +kernel)
theorem t4_lt (t : Fin k0_t4_loop.trips) : t.val < 8 := t.isLt.trans_le (by decide +kernel)

theorem cond_iff : ∀ (k : Fin 12), k0_cond1 (BitVec.ofNat 32 k.val) = 1#1 ↔ 6 ≤ k.val := by decide +kernel

/-- The greatest scores before any key tile. -/
theorem best0 (I : In) (h t : ℕ) (y : S8x256.Idx) : @Eq EReal ((broadcast S8x256 (Scalar.ofBits .f32 0xFF800000#32 : Ideal .f32) : FVec Ideal S8x256 .f32) y) ((range (16 * 0)).sup fun r => I.Z h t (8 * r + (y 0).val)) :=
  negInf32

/-- A loop over key tiles: the greatest scores so far, in eight rows. -/
def BX (I : In) (h t : ℕ) (μt : Mem Ideal) (j : ℕ) (x : FVec Ideal S8x256 .f32 × Mxu Ideal) (μ : Mem Ideal) : Prop :=
  μ = μt ∧ St none' x.2 ∧ ∀ y, @Eq EReal (x.1 y) ((range (16 * j)).sup fun r => I.Z h (256 * t + (y 1).val) (8 * r + (y 0).val))

set_option maxHeartbeats 2000000 in
/-- The loops over key tiles, on the second round of the pairs: each query's greatest score. -/
theorem rare_ev (hit : it = BitVec.ofNat 32 k.val) {u : Mxu Ideal} (h : St none' u) {μ0 : Mem Ideal} (hc : Con I μ0) :
    Ev c R bd (k0_part29 i (R .cq) hcq (R .q) hq (R .k) hk (R .kb) hkb (R .mx) hmx (R .tri) htri (R .row) hrow (R .p) hp (R .bad) hbad (R .v) hv (R .ct) hct (R .et) het it n u hw) μ0
      (fun u' μ' => St none' u' ∧ (k.val < 6 → μ' = μ0) ∧ (6 ≤ k.val → MX I k.val μ0 16 μ')) := by
  subst hit
  unfold k0_part29
  show Ev c R bd (dite (k0_cond1 (BitVec.ofNat 32 k.val) = 1#1) _ _) _ _
  split
  case isFalse hn =>
    exact .ret ⟨h, fun _ => rfl, fun h6 => absurd ((cond_iff k).mpr h6) hn⟩
  case isTrue hy =>
    have hk6 := (cond_iff k).mp hy
    refine .bind (.for (fun j x μ => St none' x.2 ∧ MX I k.val μ0 j μ) ⟨h, fun _ _ => rfl, fun y hy => absurd hy (Nat.not_lt_zero _)⟩ fun t (_, _) μt ⟨hx, hM⟩ => ?_) fun (_, _) μ1 ⟨hx, hM⟩ => ?_
    · have hct := hM.con hc
      refine .load .cq <| .bind (Q := fun (x : FVec Ideal S1x256 .f32) μ => μ = μt ∧ ∀ y, @Eq EReal (x y) (I.C (hd0 k 0) (256 * t.val + (y 1).val))) (.ret ⟨rfl, cq_at hct (o1 k hk6 t)⟩) fun xc μ ⟨hμ, hxc⟩ => hμ ▸ .bind (.for (BX I (hd0 k 0) t μt) ⟨rfl, hx, fun y => best0 I _ (256 * t.val + (y 1).val) y⟩ fun t' (_, _) μ' ⟨hμ', hx, hb⟩ => ?_) fun (_, _) μ2 ⟨hμ2, hx2, hb2⟩ =>
        .bind (.for (fun _ x μ => BX I (hd0 k 0) t μt (k0_t2_loop t).trips x μ) ⟨hμ2, hx2, hb2⟩ fun t' (_, _) _ _ => absurd (t'.isLt.trans_eq (trips3 t)) (Nat.not_lt_zero _)) fun (_, _) μ3 ⟨hμ3, hx3, hb3⟩ => ?_
      · subst hμ'
        refine .bind (part24_ev hk6 rfl hx hct) fun ⟨k0, u', _, _, _, _⟩ μ'' ⟨hμ'', hk0, hu', hs⟩ => ?_
        subst hμ''
        have hj : t'.val < 16 := by have := t'.isLt.trans_eq (trips2 t); have := t1_lt t; omega
        exact .load .kb <| .ret ⟨rfl, hu', best_apply (t1_lt t) hj hk0 (iv1 t) _ _ _ _ hs (kb_at hct (o3 k hk6 t t')) hxc hb⟩
      · subst hμ3
        rw [trips2] at hb3
        refine .load .mx <| .store .mx <| .ret ⟨hx3, MX.put hM (o6 t) _ fun y => (top8_apply (t1_lt t) _ hb3 y).trans ?_⟩
        have := t1_lt t
        rw [Nat.div_eq_of_lt this, Nat.mod_eq_of_lt this]
    · refine .bind (.for (fun j x μ => St none' x.2 ∧ MX I k.val μ0 (8 + j) μ) ⟨hx, hM⟩ fun t (_, _) μt ⟨hx, hM⟩ => ?_) fun (_, _) μ1 ⟨hx, hM⟩ => .ret ⟨hx, fun h => absurd h (by omega), fun _ => hM⟩
      have hct := hM.con hc
      refine .load .cq <| .bind (Q := fun (x : FVec Ideal S1x256 .f32) μ => μ = μt ∧ ∀ y, @Eq EReal (x y) (I.C (hd0 k 1) (256 * t.val + (y 1).val))) (.ret ⟨rfl, cq_at hct (o7 k hk6 t)⟩) fun xc μ ⟨hμ, hxc⟩ => hμ ▸ .bind (.for (BX I (hd0 k 1) t μt) ⟨rfl, hx, fun y => best0 I _ (256 * t.val + (y 1).val) y⟩ fun t' (_, _) μ' ⟨hμ', hx, hb⟩ => ?_) fun (_, _) μ2 ⟨hμ2, hx2, hb2⟩ =>
        .bind (.for (fun _ x μ => BX I (hd0 k 1) t μt (k0_t5_loop t).trips x μ) ⟨hμ2, hx2, hb2⟩ fun t' (_, _) _ _ => absurd (t'.isLt.trans_eq (trips6 t)) (Nat.not_lt_zero _)) fun (_, _) μ3 ⟨hμ3, hx3, hb3⟩ => ?_
      · subst hμ'
        refine .bind (part26_ev hk6 rfl hx hct) fun ⟨k0, u', _, _, _, _⟩ μ'' ⟨hμ'', hk0, hu', hs⟩ => ?_
        subst hμ''
        have hj : t'.val < 16 := by have := t'.isLt.trans_eq (trips5 t); have := t4_lt t; omega
        exact .load .kb <| .ret ⟨rfl, hu', best_apply (t4_lt t) hj hk0 (iv4 t) _ _ _ _ hs (kb_at hct (o9 k hk6 t t')) hxc hb⟩
      · subst hμ3
        rw [trips5] at hb3
        refine .load .mx <| .store .mx <| .ret ⟨hx3, MX.put hM (o12 t) _ fun y => (top8_apply (t4_lt t) _ hb3 y).trans ?_⟩
        have := t4_lt t
        rw [show (8 + t.val) / 8 = 1 by omega, show (8 + t.val) % 8 = t.val by omega]

end

end Cert.KernelIdeal.Pair
-- ==== Proof.Value.While.lean ====
/-
  The loop over pairs of heads leaves every head's codes and exponents as the exact greatest scores give them.
-/
module

public import proofs.«01_k».proof.Proof.Value.Rare
public import proofs.«01_k».proof.Proof.Ideal.While

@[expose] public section

noncomputable section

namespace Cert.KernelIdeal.Pair

open Idealize.ShloMosaic Idealize.SL.Sem Cert.KernelIdeal Attn
open Cert.KernelIdeal.Facts₀
open Finset (range)

variable [Facts]

/-- A query's greatest score. -/
def sE (I : In) (h q : ℕ) : EReal := (range 2048).sup (I.Z h q)
/-- The estimate of it: the greatest of the first 32 keys, and 90. -/
def sS (I : In) (h q : ℕ) : EReal := (range 32).sup (I.Z h q) + e90

/-- A head's codes, its scores shifted by `s`. -/
def cvG (I : In) (s : ℕ → ℕ → EReal) (h r q : ℕ) : EReal := cv I (fun _ => h) (fun _ q => s h q) 0 r q
/-- Its exponents. -/
def evG (I : In) (s : ℕ → ℕ → EReal) (h b q : ℕ) : EReal := ev I (fun _ => h) (fun _ q => s h q) 0 b q

/-- A head's rows hold its codes and exponents. -/
structure Hs (I : In) (s : ℕ → ℕ → EReal) (h : ℕ) (μ : Mem Ideal) : Prop where
  ct : ∀ y : S1152x2048.Idx, 96 * h ≤ (y 0).val → (y 0).val < 96 * h + 96 → @Eq EReal (μ .ct y) (cvG I s h ((y 0).val - 96 * h) (y 1).val)
  et : ∀ y : S128x2048.Idx, 3 * h ≤ (y 0).val → (y 0).val < 3 * h + 3 → @Eq EReal (μ .et y) (evG I s h ((y 0).val - 3 * h) (y 1).val)

/-- What the loop leaves alone. -/
def Un (μ0 μ : Mem Ideal) : Prop := ∀ s, s ≠ .row → s ≠ .p → s ≠ .bad → s ≠ .ct → s ≠ .et → s ≠ .mx → μ s = μ0 s

theorem Un.con {I : In} {μ0 μ : Mem Ideal} (h : Un μ0 μ) (hc : Con I μ0) : Con I μ :=
  hc.of_eq (h .q nofun nofun nofun nofun nofun nofun) (h .k nofun nofun nofun nofun nofun nofun) (h .v nofun nofun nofun nofun nofun nofun)
    (h .kb nofun nofun nofun nofun nofun nofun) (h .cq nofun nofun nofun nofun nofun nofun) (h .tri nofun nofun nofun nofun nofun nofun)

theorem oo_congr {I : In} {h : ℕ} {s : ℕ → ℕ → EReal} {q : ℕ} (hw : ∀ k < 2048, wt (I.Z h q) (s h q) k = wt (I.Z h q) (sE I h q) k) (r : ℕ) :
    oo I (fun _ => h) (fun _ q => s h q) 0 r q = oo I (fun _ => h) (fun _ q => sE I h q) 0 r q := by
  unfold oo
  refine Finset.sum_congr rfl fun k hk => congrArg (_ * ·) ?_
  exact hw k (Finset.mem_range.mp hk)

/-- Rows from an estimate that was good enough are the exact ones. -/
theorem Hs.exact {I : In} {h : ℕ} {μ : Mem Ideal} (hh : Hs I (sS I) h μ) (hl : ∀ q < 2048, den (I.Z h q) (sS I h q) < lim) : Hs I (sE I) h μ := by
  have hw : ∀ q < 2048, ∀ r, oo I (fun _ => h) (fun _ q => sS I h q) 0 r q = oo I (fun _ => h) (fun _ q => sE I h q) 0 r q := fun q hq r =>
    oo_congr (s := sS I) (fun k hk => wt_est _ rfl _ (ne_top_of_lt (hl q hq)) hk) r
  constructor
  · intro y h1 h2
    refine (hh.ct y h1 h2).trans ?_
    have := funext (hw (y 1).val (y 1).isLt)
    unfold cvG cv
    refine (congrArg (fun f : ℕ → EReal => codS (amx f (((y 0).val - 96 * h) / 32)) (f ((y 0).val - 96 * h))) this).trans rfl
  · intro y h1 h2
    refine (hh.et y h1 h2).trans ?_
    have := funext (hw (y 1).val (y 1).isLt)
    unfold evG ev
    refine (congrArg (fun f : ℕ → EReal => expF (amx f ((y 0).val - 3 * h))) this).trans rfl

theorem hd_k : ∀ k : Fin 12, Hd (BitVec.ofNat 32 k.val) (hd0 k.val) := fun k => by
  constructor
  · revert k; decide +kernel
  · revert k; decide +kernel
  · revert k; decide +kernel
  · revert k; decide +kernel
  · revert k; decide +kernel
  · rfl

theorem sge_k : ∀ k : Fin 12, Scalar.cmpi CmpIPredicate.sge (BitVec.ofNat 32 k.val) 6#32 = if 6 ≤ k.val then 1#1 else 0#1 := by decide +kernel

theorem sh_est {I : In} (k : Fin 12) (hk : k.val < 6) (mx : S16x256.Idx → EReal) : Sh I (hd0 k.val) (fun m q => sS I (hd0 k.val m) q) (BitVec.ofNat 32 k.val) mx := by
  intro m t x y hm ht h0 h1
  rw [sge_k, if_neg (by omega)]
  rfl

theorem sh_exact {I : In} (k : Fin 12) (hk : 6 ≤ k.val) {μ0 μ : Mem Ideal} (h : MX I k.val μ0 16 μ) : Sh I (hd0 k.val) (fun m q => sE I (hd0 k.val m) q) (BitVec.ofNat 32 k.val) (μ .mx) := by
  intro m t x y hm ht h0 h1
  rw [sge_k, if_pos hk]
  refine (h.2 y (y 0).isLt).trans ?_
  rw [h0, h1, show (8 * m + t) / 8 = m by omega, show (8 * m + t) % 8 = t by omega]
  rfl

/-- After a pair: its two heads, and every other head as it was. -/
theorem PostP.own {I : In} {s : ℕ → ℕ → EReal} {k : ℕ} {μ0 μ : Mem Ideal} (h : PostP I (hd0 k) (fun m q => s (hd0 k m) q) μ0 μ) (m : Fin 2) : Hs I s (hd0 k m.val) μ :=
  ⟨fun y h1 h2 => h.ct m y h1 h2, fun y h1 h2 => h.et m y h1 h2⟩

theorem PostP.keep {I : In} {s s' : ℕ → ℕ → EReal} {k h : ℕ} {μ0 μ : Mem Ideal} (hp : PostP I (hd0 k) (fun m q => s (hd0 k m) q) μ0 μ) (hh : Hs I s' h μ0)
    (hne : ∀ m : Fin 2, h ≠ hd0 k m.val) : Hs I s' h μ :=
  ⟨fun y h1 h2 => (hp.ctf y fun m hm => hne m (by omega)).symm ▸ hh.ct y h1 h2, fun y h1 h2 => (hp.etf y fun m hm => hne m (by omega)).symm ▸ hh.et y h1 h2⟩

theorem PostP.un {I : In} {hd : ℕ → ℕ} {σ : ℕ → ℕ → EReal} {μ0 μ : Mem Ideal} (hp : PostP I hd σ μ0 μ) : Un μ0 μ := fun s h1 h2 h3 h4 h5 _ => hp.other s h1 h2 h3 h4 h5

theorem bad_test (b : Vec Ideal S1x256 .f32) (h : Scalar.cmpf .ogt (extractAt ![0, 0, 0] (shapeCast S1x1x1 (multiReduction .maximumf [1, 2] S1
          (shapeCast S1x1x256 b shapeCasts_S1x256_S1x1x256) 0xFF800000#32 reduces_S1x1x256_S1 (.inl rfl) rfl) shapeCasts_S1_S1x1x1) inpos_S1x1x1_p0_0_0)
          (Scalar.ofBits .f32 0x00000000#32 : Ideal .f32) ≠ 1#1) (y : S1x256.Idx) : (b y : EReal) ≤ 0 := by
  revert h
  pointwise
  intro h
  by_contra hb
  rw [not_le] at hb
  refine h ?_
  have hle : (b y : EReal) ≤ Finset.fold max (Ideal.ofBits .f32 4286578688#32) (fun x : Fin 1 × Fin 256 => (b (ix2 0 x.2) : EReal)) Finset.univ :=
    (Finset.le_fold_max _).mpr (.inr ⟨(0, y 1), Finset.mem_univ _, le_of_eq (congrArg b (funext fun a => ?_))⟩)
  · exact congrArg BitVec.ofBool (decide_eq_true (hb.trans_le hle))
  · match a with
    | ⟨0, _⟩ => exact Fin.ext (by have := (y 0).isLt; show (y 0).val = 0; have h1 : (y 0).val < 1 := this; omega)
    | ⟨1, _⟩ => rfl

section
variable {c : Dev nD} {R : Refs}
variable {i : grid0.Coords} {hq : (R .q).IsWhole} {hk : (R .k).IsWhole} {hv : (R .v).IsWhole} {hkb : (R .kb).IsWhole} {hcq : (R .cq).IsWhole}
  {hct : (R .ct).IsWhole} {het : (R .et).IsWhole} {hp : (R .p).IsWhole} {hrow : (R .row).IsWhole} {hmx : (R .mx).IsWhole}
  {htri : (R .tri).IsWhole} {hbad : (R .bad).IsWhole}

theorem eq5 : ∀ k : Fin 12, Scalar.cmpi .ne (Scalar.extui (Scalar.cmpi .eq (BitVec.ofNat 32 k.val) 5#32) : BitVec 32) 0#32 = 1#1 ↔ k.val = 5 := by decide +kernel

/-- After the sixth pair the second round is skipped only when no sum was too large. -/
theorem nextN_ev {bd : Option ℕ} (k : Fin 12) {n : BitVec 32} {μ : Mem Ideal} :
    Ev c R bd (nextN (F := Ideal) (bufs R hct) (BitVec.ofNat 32 k.val) n) μ (fun n' μ' => μ' = μ ∧ (k.val ≠ 5 → n' = n) ∧ (k.val = 5 → n' = 12#32 ∨ n' = 6#32 ∧ ∀ y, (μ .bad y : EReal) ≤ 0)) := by
  unfold nextN
  show Ev c R bd (ite _ _ _) _ _
  split
  case isTrue h =>
    have h5 := (eq5 k).mp h
    refine .load .bad <| .ret ⟨rfl, fun h => absurd h5 h, fun _ => ?_⟩
    unfold Scalar.select
    split
    case isTrue => exact .inl rfl
    case isFalse hn =>
      refine .inr ⟨rfl, fun y => ?_⟩
      have := bad_test _ hn y
      exact (le_of_eq (congrArg (μ .bad) (funext fun a => Fin.ext (by rw [emb_unit]; match a with
        | ⟨0, _⟩ => exact (Nat.zero_add _).symm
        | ⟨1, _⟩ => exact (Nat.zero_add _).symm)))).trans this
  case isFalse h => exact .ret ⟨rfl, fun _ => rfl, fun h5 => absurd ((eq5 k).mpr h5) h⟩

/-- The first `2 k` heads hold what the estimates give. -/
def Est (I : In) (k : ℕ) (μ : Mem Ideal) : Prop := ∀ h < 2 * k, Hs I (sS I) h μ ∧ ∀ q < 2048, (∀ y, (μ .bad y : EReal) ≤ 0) → den (I.Z h q) (sS I h q) < lim

/-- Before the round of count `k`. -/
def Inv (I : In) (μ0 : Mem Ideal) (k : ℕ) (n : BitVec 32) (μ : Mem Ideal) : Prop :=
  Un μ0 μ ∧ ((k ≤ 5 ∧ n = 6#32 ∧ Est I k μ) ∨ (k = 6 ∧ n = 6#32 ∧ ∀ h < 12, Hs I (sE I) h μ) ∨ (6 ≤ k ∧ n = 12#32 ∧ ∀ h < 2 * (k - 6), Hs I (sE I) h μ))

theorem slt_n : ∀ k : Fin 13, (Scalar.cmpi .slt (BitVec.ofNat 32 k.val) 6#32 = 1#1 ↔ k.val < 6) ∧ (Scalar.cmpi .slt (BitVec.ofNat 32 k.val) 12#32 = 1#1 ↔ k.val < 12) := by decide +kernel

theorem own_cases {k h : ℕ} (hk : k < 6) (h1 : h < 2 * (k + 1)) : h < 2 * k ∨ ∃ m : Fin 2, h = hd0 k m.val := by
  by_cases h2 : h < 2 * k
  · exact .inl h2
  · refine .inr ⟨⟨h - 2 * k, by omega⟩, ?_⟩
    show h = 2 * (k % 6) + (h - 2 * k)
    rw [Nat.mod_eq_of_lt hk]; omega

theorem not_own {k h : ℕ} (hh : h < 2 * (k % 6)) (m : Fin 2) : h ≠ hd0 k m.val := by unfold hd0; omega

/-- The loop from count `k`, with `j` rounds to come at most. -/
theorem while_ev {I : In} {μ0 : Mem Ideal} (hc0 : Con I μ0) : ∀ (j k : ℕ) (hjk : k + j = 12) (n : BitVec 32) (μ : Mem Ideal) (hI : Inv I μ0 k n μ) (u : Mxu Ideal) (h : St none' u),
    Ev c R (some j) (cc0_while1 i (R .cq) hcq (R .q) hq (R .k) hk (R .kb) hkb (R .mx) hmx (R .tri) htri (R .row) hrow (R .p) hp (R .bad) hbad (R .v) hv (R .ct) hct (R .et) het (BitVec.ofNat 32 k) n u) μ
      (fun x μ' => St none' x.2.2 ∧ Un μ0 μ' ∧ ∀ h < 12, Hs I (sE I) h μ')
  | 0, k, hjk, n, μ, hI, u, h => by
    obtain rfl : k = 12 := by omega
    obtain ⟨hu, ⟨h1, -⟩ | ⟨h1, -⟩ | ⟨-, rfl, hh⟩⟩ := hI
    · omega
    · omega
    · rw [while_eq, if_neg (by decide)]
      exact .ret ⟨h, hu, hh⟩
  | j + 1, k, hjk, n, μ, hI, u, h => by
    have hk12 : k < 12 := by omega
    have e : Scalar.addi (BitVec.ofNat 32 k) 1#32 = BitVec.ofNat 32 (k + 1) := (BitVec.ofNat_add k 1).symm
    obtain ⟨hu, hcase⟩ := hI
    have hcon := hu.con hc0
    rw [while_eq]
    split
    case isTrue hlt =>
      unfold round
      refine .assume (chk ⟨k, hk12⟩) <| .bind (Q := fun _ μ' => μ' = μ) (.ret rfl) fun _ μ1 hμ1 => hμ1 ▸ .bind (rare_ev (k := ⟨k, hk12⟩) rfl h hcon) fun u1 μ2 ⟨hu1, hlo, hhi⟩ => ?_
      rcases hcase with ⟨h5, rfl, hE⟩ | ⟨rfl, rfl, -⟩ | ⟨h6, rfl, hE⟩
      · obtain rfl := hlo (show k < 6 by omega)
        refine .bind (pair_ev (hct := hct) _ (hd_k ⟨k, hk12⟩) hu1 hcon (sh_est ⟨k, hk12⟩ (show k < 6 by omega) _)) fun u2 μ3 ⟨hu2, hP⟩ => .bind (nextN_ev ⟨k, hk12⟩) fun n μ4 ⟨e4, hn5, hn⟩ => ?_
        subst e4
        have hU : Un μ0 μ4 := fun s h1 h2 h3 h4 h5 h6 => (hP.un s h1 h2 h3 h4 h5 h6).trans (hu s h1 h2 h3 h4 h5 h6)
        have hE' : Est I (k + 1) μ4 := fun h hh => by
          rcases own_cases (by omega) hh with h1 | ⟨m, rfl⟩
          · exact ⟨hP.keep (hE h h1).1 (not_own (show h < 2 * (k % 6) by omega)), fun q hq hb => (hE h h1).2 q hq fun y => (hP.mono y).trans (hb y)⟩
          · exact ⟨hP.own m, fun q hq hb => hP.bad m q hq hb⟩
        refine .call j (fun w hw => by cases hw; omega) (Q := fun (x : BitVec 32 × BitVec 32 × Mxu Ideal) μ' => St none' x.2.2 ∧ Un μ0 μ' ∧ ∀ h < 12, Hs I (sE I) h μ') ?_ fun x μ' hx => .ret hx
        rw [e]
        refine while_ev hc0 j (k + 1) (by omega) n μ4 ⟨hU, ?_⟩ u2 hu2
        by_cases hk5 : k = 5
        · rcases hn hk5 with rfl | ⟨rfl, hb⟩
          · exact .inr (.inr ⟨by omega, rfl, fun h hh => absurd hh (by omega)⟩)
          · exact .inr (.inl ⟨by omega, rfl, fun h hh => (hE' h (by omega)).1.exact fun q hq => (hE' h (by omega)).2 q hq hb⟩)
        · exact .inl ⟨by omega, hn5 hk5, hE'⟩
      · exact absurd hlt (by decide)
      · have hM := hhi (show 6 ≤ k from h6)
        have hcon2 := hM.con hcon
        refine .bind (pair_ev (hct := hct) _ (hd_k ⟨k, hk12⟩) hu1 hcon2 (sh_exact ⟨k, hk12⟩ (show 6 ≤ k from h6) hM)) fun u2 μ3 ⟨hu2, hP⟩ => .bind (nextN_ev ⟨k, hk12⟩) fun n μ4 ⟨e4, hn5, hn⟩ => ?_
        subst e4
        have hU : Un μ0 μ4 := fun s h1 h2 h3 h4 h5 h6 => (hP.un s h1 h2 h3 h4 h5 h6).trans ((hM.1 s h6).trans (hu s h1 h2 h3 h4 h5 h6))
        have hE' : ∀ h < 2 * (k + 1 - 6), Hs I (sE I) h μ4 := fun h hh => by
          rcases own_cases (k := k - 6) (by omega) (show h < 2 * (k - 6 + 1) by omega) with h1 | ⟨m, hm⟩
          · have h2 := hE h (by omega)
            refine hP.keep (s' := sE I) ⟨fun y a b => (congrFun (hM.1 .ct nofun) y).trans (h2.ct y a b), fun y a b => (congrFun (hM.1 .et nofun) y).trans (h2.et y a b)⟩ (not_own (show h < 2 * (k % 6) by omega))
          · have : hd0 (k - 6) m.val = hd0 k m.val := by unfold hd0; omega
            rw [hm, this]
            exact hP.own m
        refine .call j (fun w hw => by cases hw; omega) (Q := fun (x : BitVec 32 × BitVec 32 × Mxu Ideal) μ' => St none' x.2.2 ∧ Un μ0 μ' ∧ ∀ h < 12, Hs I (sE I) h μ') ?_ fun x μ' hx => .ret hx
        rw [e, hn5 (show k ≠ 5 by omega)]
        exact while_ev hc0 j (k + 1) (by omega) _ μ4 ⟨hU, .inr (.inr ⟨by omega, rfl, hE'⟩)⟩ u2 hu2
    case isFalse hlt =>
      refine .ret ⟨h, hu, ?_⟩
      rcases hcase with ⟨h5, rfl, hE⟩ | ⟨rfl, rfl, hE⟩ | ⟨h6, rfl, hE⟩
      · exact absurd ((slt_n ⟨k, by omega⟩).1.mpr (show k < 6 by omega)) hlt
      · exact hE
      · exact absurd ((slt_n ⟨k, by omega⟩).2.mpr (show k < 12 by omega)) hlt

end

end Cert.KernelIdeal.Pair
-- ==== Proof.Value.Pro.lean ====
/-
  The operands laid out in scratch memory.
-/
module

public import proofs.«01_k».proof.Proof.Value.While
public import proofs.«01_k».proof.Proof.Ideal.Whole

@[expose] public section

noncomputable section

namespace Cert.KernelIdeal.Pair

open Idealize.ShloMosaic Idealize.SL.Sem Cert.KernelIdeal Attn
open Cert.KernelIdeal.Facts₀
open Finset (range)

variable [Facts]

/-- The windows hold one sequence's inputs. -/
structure Win (I : In) (μ : Mem Ideal) : Prop where
  xq : ∀ y : S1x2048x1152.Idx, @Eq EReal (μ .xq y) (I.Q (y 2).val (y 1).val)
  xs : ∀ y : S1x12x2048.Idx, @Eq EReal (FloatOps.mulf (F := Ideal) (φ := .f32) (μ .xs y) (Scalar.ofBits .f32 0x3E16C740#32 : Ideal .f32)) (I.C (y 1).val (y 2).val)
  xk : ∀ y : S1x2048x384.Idx, @Eq EReal (μ .xk y) (I.K ((y 2).val / 96) (y 1).val ((y 2).val % 96))
  ks : ∀ y : S1x2048x4.Idx, @Eq EReal (μ .ks y) (I.KS (y 2).val (y 1).val)
  xv : ∀ (y : S1x2048x384.Idx) (z : S1x4x2048.Idx), (z 1).val = (y 2).val / 96 → (z 2).val = (y 1).val → @Eq EReal ((μ .xv y : EReal) * μ .vs z) (I.V ((y 2).val / 96) ((y 2).val % 96) (y 1).val)

/-- The first `a` tiles of the queries laid out, `b` heads of the keys, `z` of the zeros beside them, `d` of the keys' scales and `e` of the values. -/
structure Pro (I : In) (a b z d e : ℕ) (μ : Mem Ideal) : Prop where
  win : Win I μ
  q : ∀ y : S1152x2048.Idx, (y 0).val < 128 * a → @Eq EReal (μ .q y) (I.Q (y 0).val (y 1).val)
  k : ∀ y : S4x2048x128.Idx, (y 0).val < b → (y 2).val < 96 → @Eq EReal (μ .k y) (I.K (y 0).val (y 1).val (y 2).val)
  z : ∀ y : S4x2048x128.Idx, (y 0).val < z → ¬ (y 2).val < 96 → @Eq EReal (μ .k y) 0
  kb : ∀ y : S4x2048x128.Idx, (y 0).val < d → @Eq EReal (μ .kb y) (I.KS (y 0).val (y 1).val)
  v : ∀ y : S4x96x2048.Idx, (y 0).val < e → @Eq EReal (μ .v y) (I.V (y 0).val (y 1).val (y 2).val)

section
variable {c : Dev nD} {R : Refs} {bd : Option ℕ} {I : In} {a b z d e : ℕ} {μ : Mem Ideal} {β : Type} {Q' : β → Mem Ideal → Prop}

theorem Win.upd (h : Win I μ) (s : Slot) (h0 : s ≠ .xq) (h1 : s ≠ .xs) (h2 : s ≠ .xk) (h3 : s ≠ .ks) (h4 : s ≠ .xv) (h5 : s ≠ .vs) (X : s.shape.Idx → Elt Ideal s.elt) : Win I (Function.update μ s X) := by
  constructor
  · rw [Function.update_of_ne h0.symm]; exact h.xq
  · rw [Function.update_of_ne h1.symm]; exact h.xs
  · rw [Function.update_of_ne h2.symm]; exact h.xk
  · rw [Function.update_of_ne h3.symm]; exact h.ks
  · rw [Function.update_of_ne h4.symm, Function.update_of_ne h5.symm]; exact h.xv

theorem upd {s s' : Slot} (h : s' ≠ s) {X : s.shape.Idx → Elt Ideal s.elt} (y : s'.shape.Idx) : Function.update μ s X s' y = μ s' y :=
  congrFun (Function.update_of_ne h _ _) y

theorem Ev.pq (hP : Pro I a b z d e μ) {off : Fin 2 → ℕ} {inb : ∀ a, off a + S128x2048.size a ≤ S1152x2048.size a} {w : S128x2048.Idx → EReal}
    {hx : ((R .q).access (Rect.unit (s := S1152x2048) off S128x2048.size inb)).Stores Finset.univ}
    {hm : (Finset.univ : Finset (Rect.unit (s := S1152x2048) off S128x2048.size inb).shape.Idx) = Finset.univ ∨ ∀ a, (Rect.unit (s := S1152x2048) off S128x2048.size inb).stride a = 1} {k : PUnit → Pr Ideal β}
    (ho : off = ![128 * a, 0]) (hw : ∀ y, w y = I.Q (128 * a + (y 0).val) (y 1).val) (h : ∀ μ', Pro I (a + 1) b z d e μ' → Ev c R bd (k ⟨⟩) μ' Q') :
    Ev c R bd (.op (.store (R .q) (Rect.unit (s := S1152x2048) off S128x2048.size inb) w Finset.univ hx hm) k) μ Q' := by
  subst ho
  refine .store .q (h _ ⟨hP.win.upd .q nofun nofun nofun nofun nofun nofun _, fun y hy => ?_, fun y => ?_, fun y => ?_, fun y => ?_, fun y => ?_⟩)
  · have hy1 : (y 1).val < 2048 := (y 1).isLt
    rw [Function.update_self, put_unit]
    split_ifs with hh
    · have h0 : 128 * a ≤ (y 0).val := (hh 0).1
      refine (hw _).trans (c2 I.Q ?_ rfl)
      show 128 * a + ((y 0).val - 128 * a) = _; omega
    · refine hP.q y ?_
      by_contra hn
      refine hh fun x => ?_
      match x with
      | ⟨0, _⟩ => exact ⟨by show 128 * a ≤ (y 0).val; omega, by show (y 0).val < 128 * a + 128; omega⟩
      | ⟨1, _⟩ => exact ⟨Nat.zero_le _, by show (y 1).val < 0 + 2048; omega⟩
  · rw [upd (s := .q) (s' := .k) nofun]; exact hP.k y
  · rw [upd (s := .q) (s' := .k) nofun]; exact hP.z y
  · rw [upd (s := .q) (s' := .kb) nofun]; exact hP.kb y
  · rw [upd (s := .q) (s' := .v) nofun]; exact hP.v y

theorem Ev.pk (hP : Pro I a b z d e μ) {off : Fin 3 → ℕ} {inb : ∀ a, off a + S1x2048x96.size a ≤ S4x2048x128.size a} {w : S1x2048x96.Idx → EReal}
    {hx : ((R .k).access (Rect.unit (s := S4x2048x128) off S1x2048x96.size inb)).Stores Finset.univ}
    {hm : (Finset.univ : Finset (Rect.unit (s := S4x2048x128) off S1x2048x96.size inb).shape.Idx) = Finset.univ ∨ ∀ a, (Rect.unit (s := S4x2048x128) off S1x2048x96.size inb).stride a = 1} {k : PUnit → Pr Ideal β}
    (ho : off = ![b, 0, 0]) (hw : ∀ y, w y = I.K b (y 1).val (y 2).val) (h : ∀ μ', Pro I a (b + 1) z d e μ' → Ev c R bd (k ⟨⟩) μ' Q') :
    Ev c R bd (.op (.store (R .k) (Rect.unit (s := S4x2048x128) off S1x2048x96.size inb) w Finset.univ hx hm) k) μ Q' := by
  subst ho
  refine .store .k (h _ ⟨hP.win.upd .k nofun nofun nofun nofun nofun nofun _, fun y => ?_, fun y hy h2 => ?_, fun y hy h2 => ?_, fun y => ?_, fun y => ?_⟩)
  · rw [upd (s := .k) (s' := .q) nofun]; exact hP.q y
  · have hy1 : (y 1).val < 2048 := (y 1).isLt
    rw [Function.update_self, put_unit]
    split_ifs with hh
    · have h0 : b ≤ (y 0).val := (hh 0).1
      exact (hw _).trans (c3 I.K (by omega) rfl rfl)
    · refine hP.k y ?_ h2
      by_contra hn
      refine hh fun x => ?_
      match x with
      | ⟨0, _⟩ => exact ⟨by show b ≤ (y 0).val; omega, by show (y 0).val < b + 1; omega⟩
      | ⟨1, _⟩ => exact ⟨Nat.zero_le _, by show (y 1).val < 0 + 2048; omega⟩
      | ⟨2, _⟩ => exact ⟨Nat.zero_le _, by show (y 2).val < 0 + 96; omega⟩
  · rw [Function.update_self, put_unit, dif_neg]
    · exact hP.z y hy h2
    · intro hh
      have h0 : (y 2).val < 0 + 96 := (hh 2).2
      omega
  · rw [upd (s := .k) (s' := .kb) nofun]; exact hP.kb y
  · rw [upd (s := .k) (s' := .v) nofun]; exact hP.v y

theorem Ev.pz (hP : Pro I a b z d e μ) {off : Fin 3 → ℕ} {inb : ∀ a, off a + S1x2048x32.size a ≤ S4x2048x128.size a} {w : S1x2048x32.Idx → EReal}
    {hx : ((R .k).access (Rect.unit (s := S4x2048x128) off S1x2048x32.size inb)).Stores Finset.univ}
    {hm : (Finset.univ : Finset (Rect.unit (s := S4x2048x128) off S1x2048x32.size inb).shape.Idx) = Finset.univ ∨ ∀ a, (Rect.unit (s := S4x2048x128) off S1x2048x32.size inb).stride a = 1} {k : PUnit → Pr Ideal β}
    (ho : off = ![z, 0, 96]) (hw : ∀ y, w y = 0) (h : ∀ μ', Pro I a b (z + 1) d e μ' → Ev c R bd (k ⟨⟩) μ' Q') :
    Ev c R bd (.op (.store (R .k) (Rect.unit (s := S4x2048x128) off S1x2048x32.size inb) w Finset.univ hx hm) k) μ Q' := by
  subst ho
  refine .store .k (h _ ⟨hP.win.upd .k nofun nofun nofun nofun nofun nofun _, fun y => ?_, fun y hy h2 => ?_, fun y hy h2 => ?_, fun y => ?_, fun y => ?_⟩)
  · rw [upd (s := .k) (s' := .q) nofun]; exact hP.q y
  · rw [Function.update_self, put_unit, dif_neg]
    · exact hP.k y hy h2
    · intro hh
      have h0 : 96 ≤ (y 2).val := (hh 2).1
      omega
  · have hy1 : (y 1).val < 2048 := (y 1).isLt
    have hy2 : (y 2).val < 128 := (y 2).isLt
    rw [Function.update_self, put_unit]
    split_ifs with hh
    · exact hw _
    · refine hP.z y ?_ h2
      by_contra hn
      refine hh fun x => ?_
      match x with
      | ⟨0, _⟩ => exact ⟨by show z ≤ (y 0).val; omega, by show (y 0).val < z + 1; omega⟩
      | ⟨1, _⟩ => exact ⟨Nat.zero_le _, by show (y 1).val < 0 + 2048; omega⟩
      | ⟨2, _⟩ => exact ⟨by show 96 ≤ (y 2).val; omega, by show (y 2).val < 96 + 32; omega⟩
  · rw [upd (s := .k) (s' := .kb) nofun]; exact hP.kb y
  · rw [upd (s := .k) (s' := .v) nofun]; exact hP.v y

theorem Ev.pb (hP : Pro I a b z d e μ) {off : Fin 3 → ℕ} {inb : ∀ a, off a + S1x2048x128.size a ≤ S4x2048x128.size a} {w : S1x2048x128.Idx → EReal}
    {hx : ((R .kb).access (Rect.unit (s := S4x2048x128) off S1x2048x128.size inb)).Stores Finset.univ}
    {hm : (Finset.univ : Finset (Rect.unit (s := S4x2048x128) off S1x2048x128.size inb).shape.Idx) = Finset.univ ∨ ∀ a, (Rect.unit (s := S4x2048x128) off S1x2048x128.size inb).stride a = 1} {k : PUnit → Pr Ideal β}
    (ho : off = ![d, 0, 0]) (hw : ∀ y, w y = I.KS d (y 1).val) (h : ∀ μ', Pro I a b z (d + 1) e μ' → Ev c R bd (k ⟨⟩) μ' Q') :
    Ev c R bd (.op (.store (R .kb) (Rect.unit (s := S4x2048x128) off S1x2048x128.size inb) w Finset.univ hx hm) k) μ Q' := by
  subst ho
  refine .store .kb (h _ ⟨hP.win.upd .kb nofun nofun nofun nofun nofun nofun _, fun y => ?_, fun y => ?_, fun y => ?_, fun y hy => ?_, fun y => ?_⟩)
  · rw [upd (s := .kb) (s' := .q) nofun]; exact hP.q y
  · rw [upd (s := .kb) (s' := .k) nofun]; exact hP.k y
  · rw [upd (s := .kb) (s' := .k) nofun]; exact hP.z y
  · have hy1 : (y 1).val < 2048 := (y 1).isLt
    have hy2 : (y 2).val < 128 := (y 2).isLt
    rw [Function.update_self, put_unit]
    split_ifs with hh
    · have h0 : d ≤ (y 0).val := (hh 0).1
      exact (hw _).trans (c2 I.KS (by omega) rfl)
    · refine hP.kb y ?_
      by_contra hn
      refine hh fun x => ?_
      match x with
      | ⟨0, _⟩ => exact ⟨by show d ≤ (y 0).val; omega, by show (y 0).val < d + 1; omega⟩
      | ⟨1, _⟩ => exact ⟨Nat.zero_le _, by show (y 1).val < 0 + 2048; omega⟩
      | ⟨2, _⟩ => exact ⟨Nat.zero_le _, by show (y 2).val < 0 + 128; omega⟩
  · rw [upd (s := .kb) (s' := .v) nofun]; exact hP.v y

theorem Ev.pv (hP : Pro I a b z d e μ) {off : Fin 3 → ℕ} {inb : ∀ a, off a + S1x96x2048.size a ≤ S4x96x2048.size a} {w : S1x96x2048.Idx → EReal}
    {hx : ((R .v).access (Rect.unit (s := S4x96x2048) off S1x96x2048.size inb)).Stores Finset.univ}
    {hm : (Finset.univ : Finset (Rect.unit (s := S4x96x2048) off S1x96x2048.size inb).shape.Idx) = Finset.univ ∨ ∀ a, (Rect.unit (s := S4x96x2048) off S1x96x2048.size inb).stride a = 1} {k : PUnit → Pr Ideal β}
    (ho : off = ![e, 0, 0]) (hw : ∀ y, w y = I.V e (y 1).val (y 2).val) (h : ∀ μ', Pro I a b z d (e + 1) μ' → Ev c R bd (k ⟨⟩) μ' Q') :
    Ev c R bd (.op (.store (R .v) (Rect.unit (s := S4x96x2048) off S1x96x2048.size inb) w Finset.univ hx hm) k) μ Q' := by
  subst ho
  refine .store .v (h _ ⟨hP.win.upd .v nofun nofun nofun nofun nofun nofun _, fun y => ?_, fun y => ?_, fun y => ?_, fun y => ?_, fun y hy => ?_⟩)
  · rw [upd (s := .v) (s' := .q) nofun]; exact hP.q y
  · rw [upd (s := .v) (s' := .k) nofun]; exact hP.k y
  · rw [upd (s := .v) (s' := .k) nofun]; exact hP.z y
  · rw [upd (s := .v) (s' := .kb) nofun]; exact hP.kb y
  · have hy1 : (y 1).val < 96 := (y 1).isLt
    have hy2 : (y 2).val < 2048 := (y 2).isLt
    rw [Function.update_self, put_unit]
    split_ifs with hh
    · have h0 : e ≤ (y 0).val := (hh 0).1
      exact (hw _).trans (c3 I.V (by omega) rfl rfl)
    · refine hP.v y ?_
      by_contra hn
      refine hh fun x => ?_
      match x with
      | ⟨0, _⟩ => exact ⟨by show e ≤ (y 0).val; omega, by show (y 0).val < e + 1; omega⟩
      | ⟨1, _⟩ => exact ⟨Nat.zero_le _, by show (y 1).val < 0 + 96; omega⟩
      | ⟨2, _⟩ => exact ⟨Nat.zero_le _, by show (y 2).val < 0 + 2048; omega⟩

/-- A tile of the queries, from the window. -/
theorem q_ext (hW : Win I μ) {off : Fin 3 → ℕ} {inb : ∀ a, off a + S1x2048x128.size a ≤ S1x2048x1152.size a} (a : ℕ) (ho : off = ![0, 0, 128 * a]) (y : S2048x128.Idx) :
    @Eq EReal ((extf .bf16 (shapeCast S2048x128 (fun x => μ .xq ((Rect.unit (s := S1x2048x1152) off S1x2048x128.size inb).emb x) : FVec Ideal S1x2048x128 .fp8e4m3) shapeCasts_S1x2048x128_S2048x128) bitsLt_fp8e4m3_bf16 : FVec Ideal S2048x128 .bf16) y) (I.Q (128 * a + (y 1).val) (y 0).val) := by
  subst ho
  pointwise
  rw [hW.xq]
  simp only [emb_unit]
  exact c2 I.Q rfl (Nat.zero_add _)

theorem q_tr {f : FVec Ideal S2048x128 .bf16} (h : ∀ y, @Eq EReal (f y) (I.Q (128 * a + (y 1).val) (y 0).val)) (y : S128x2048.Idx) :
    @Eq EReal (shapeCast S128x2048 (truncf .fp8e4m3 (transpose S128x2048 [1, 0] f transposes_S2048x128_p1_0_S128x2048) bitsLt_fp8e4m3_bf16 : FVec Ideal S128x2048 .fp8e4m3) shapeCasts_S128x2048_S128x2048 y) (I.Q (128 * a + (y 0).val) (y 1).val) := by
  pointwise
  exact h _

theorem k_val (hW : Win I μ) {off : Fin 3 → ℕ} {inb : ∀ a, off a + S1x2048x96.size a ≤ S1x2048x384.size a} (ho : off = ![0, 0, 96 * b]) (y : S1x2048x96.Idx) :
    @Eq EReal (shapeCast S1x2048x96 (shapeCast S2048x96 (fun x => μ .xk ((Rect.unit (s := S1x2048x384) off S1x2048x96.size inb).emb x) : FVec Ideal S1x2048x96 .fp8e4m3) shapeCasts_S1x2048x96_S2048x96) shapeCasts_S2048x96_S1x2048x96 y) (I.K b (y 1).val (y 2).val) := by
  subst ho
  have hy2 : (y 2).val < 96 := (y 2).isLt
  pointwise
  rw [hW.xk]
  simp only [emb_unit]
  refine c3 I.K ?_ (Nat.zero_add _) ?_
  · show (96 * b + (y 2).val) / 96 = b; omega
  · show (96 * b + (y 2).val) % 96 = (y 2).val; omega

theorem z_val (y : S1x2048x32.Idx) : @Eq EReal (shapeCast S1x2048x32 (broadcast S2048x32 (Scalar.ofBits .fp8e4m3 0x00#8 : Ideal .fp8e4m3) : FVec Ideal S2048x32 .fp8e4m3) shapeCasts_S2048x32_S1x2048x32 y) 0 := by
  pointwise
  try exact zero8

theorem b_val (hW : Win I μ) {off : Fin 3 → ℕ} {inb : ∀ a, off a + S1x2048x1.size a ≤ S1x2048x4.size a} (ho : off = ![0, 0, d]) (y : S1x2048x128.Idx) :
    @Eq EReal (shapeCast S1x2048x128 (broadcastTo S2048x128 (shapeCast S2048x1 (shapeCast S2048x1 (fun x => μ .ks ((Rect.unit (s := S1x2048x4) off S1x2048x1.size inb).emb x) : FVec Ideal S1x2048x1 .f32) shapeCasts_S1x2048x1_S2048x1) shapeCasts_S2048x1_S2048x1) broadcasts_S2048x1_S2048x128) shapeCasts_S2048x128_S1x2048x128 y) (I.KS d (y 1).val) := by
  subst ho
  pointwise
  rw [hW.ks]
  simp only [emb_unit]
  exact c2 I.KS rfl (Nat.zero_add _)

theorem v_mul (hW : Win I μ) {off : Fin 3 → ℕ} {inb : ∀ a, off a + S1x2048x96.size a ≤ S1x2048x384.size a} {off' : Fin 3 → ℕ} {inb' : ∀ a, off' a + S1x1x2048.size a ≤ S1x4x2048.size a}
    (ho : off = ![0, 0, 96 * e]) (ho' : off' = ![0, e, 0]) (y : S96x2048.Idx) :
    @Eq EReal ((truncf .bf16 (mulf (transpose S96x2048 [1, 0] (extf .f32 (shapeCast S2048x96 (fun x => μ .xv ((Rect.unit (s := S1x2048x384) off S1x2048x96.size inb).emb x) : FVec Ideal S1x2048x96 .fp8e4m3) shapeCasts_S1x2048x96_S2048x96) bitsLt_fp8e4m3_f32 : FVec Ideal S2048x96 .f32) transposes_S2048x96_p1_0_S96x2048)
      (broadcastTo S96x2048 (shapeCast S1x2048 (fun x => μ .vs ((Rect.unit (s := S1x4x2048) off' S1x1x2048.size inb').emb x) : FVec Ideal S1x1x2048 .f32) shapeCasts_S1x1x2048_S1x2048) broadcasts_S1x2048_S96x2048)) bitsLt_bf16_f32 : FVec Ideal S96x2048 .bf16) y) (I.V e (y 0).val (y 1).val) := by
  subst ho ho'
  have hy0 : (y 0).val < 96 := (y 0).isLt
  pointwise
  refine (hW.xv _ _ ?_ ?_).trans ?_
  · simp only [emb_unit]
    show e + 0 = (96 * e + (y 0).val) / 96; omega
  · simp only [emb_unit]
    rfl
  · simp only [emb_unit]
    refine c3 I.V ?_ ?_ (Nat.zero_add _)
    · show (96 * e + (y 0).val) / 96 = e; omega
    · show (96 * e + (y 0).val) % 96 = (y 0).val; omega

theorem v_val {f : FVec Ideal S96x2048 .bf16} (h : ∀ y, @Eq EReal (f y) (I.V e (y 0).val (y 1).val)) (y : S1x96x2048.Idx) :
    @Eq EReal (shapeCast S1x96x2048 f shapeCasts_S96x2048_S1x96x2048 y) (I.V e (y 1).val (y 2).val) := by
  pointwise
  exact h _

end

section
variable {c : Dev nD} {R : Refs} {i : grid0.Coords} {H : ∀ s, (R s).IsWhole} {I : In} {μ : Mem Ideal}

theorem part1_ev {μ : Mem Ideal} (hP : Pro I 0 0 0 0 0 μ) :
    Ev c R none (k0_part1 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun x μ => St none' x ∧ Pro I 4 0 0 0 0 μ) := by
  unfold k0_part1
  exact .load .xq <| .load .q <| .pq hP rfl (q_tr (q_ext hP.win 0 rfl)) fun _ hP =>
    .load .xq <| .load .q <| .pq hP rfl (q_tr (q_ext hP.win 1 rfl)) fun _ hP =>
    .load .xq <| .load .q <| .pq hP rfl (q_tr (q_ext hP.win 2 rfl)) fun _ hP =>
    .load .xq <| .load .q <| .pq hP rfl (q_tr (q_ext hP.win 3 rfl)) fun _ hP =>
    .ret ⟨⟨fun _ _ => rfl, fun _ _ h => by cases h⟩, hP⟩

theorem part2_ev {μ : Mem Ideal} (hP : Pro I 4 0 0 0 0 μ) :
    Ev c R none (k0_part2 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun x μ => (∀ y, @Eq EReal (x y) (I.Q (128 * 8 + (y 1).val) (y 0).val)) ∧ Pro I 8 0 0 0 0 μ) := by
  unfold k0_part2
  exact .load .xq <| .load .q <| .pq hP rfl (q_tr (q_ext hP.win 4 rfl)) fun _ hP =>
    .load .xq <| .load .q <| .pq hP rfl (q_tr (q_ext hP.win 5 rfl)) fun _ hP =>
    .load .xq <| .load .q <| .pq hP rfl (q_tr (q_ext hP.win 6 rfl)) fun _ hP =>
    .load .xq <| .load .q <| .pq hP rfl (q_tr (q_ext hP.win 7 rfl)) fun _ hP =>
    .load .xq <| .ret ⟨q_ext hP.win 8 rfl, hP⟩

theorem part3_ev {f : FVec Ideal S2048x128 .bf16} (hf : ∀ y, @Eq EReal (f y) (I.Q (128 * 8 + (y 1).val) (y 0).val)) {μ : Mem Ideal} (hP : Pro I 8 0 0 0 0 μ) :
    Ev c R none (k0_part3 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (I.V 0 (y 0).val (y 1).val)) ∧ Pro I 9 1 1 1 0 μ) := by
  unfold k0_part3
  exact .load .q <| .pq hP rfl (q_tr hf) fun _ hP =>
    .load .xk <| .load .k <| .pk hP rfl (k_val hP.win rfl) fun _ hP => .load .k <| .pz hP rfl z_val fun _ hP => .load .ks <| .load .kb <| .pb hP rfl (b_val hP.win rfl) fun _ hP =>
    .load .xv <| .load .vs <| .ret ⟨v_mul hP.win rfl rfl, hP⟩

theorem part4_ev {f : FVec Ideal S96x2048 .bf16} (hf : ∀ y, @Eq EReal (f y) (I.V 0 (y 0).val (y 1).val)) {μ : Mem Ideal} (hP : Pro I 9 1 1 1 0 μ) :
    Ev c R none (k0_part4 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (I.V 1 (y 0).val (y 1).val)) ∧ Pro I 9 2 2 2 1 μ) := by
  unfold k0_part4
  exact .load .v <| .pv hP rfl (v_val hf) fun _ hP =>
    .load .xk <| .load .k <| .pk hP rfl (k_val hP.win rfl) fun _ hP => .load .k <| .pz hP rfl z_val fun _ hP => .load .ks <| .load .kb <| .pb hP rfl (b_val hP.win rfl) fun _ hP =>
    .load .xv <| .load .vs <| .load .v <| .ret ⟨v_mul hP.win rfl rfl, hP⟩

theorem part5_ev {f : FVec Ideal S96x2048 .bf16} (hf : ∀ y, @Eq EReal (f y) (I.V 1 (y 0).val (y 1).val)) {μ : Mem Ideal} (hP : Pro I 9 2 2 2 1 μ) :
    Ev c R none (k0_part5 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => Pro I 9 3 3 3 3 μ) := by
  unfold k0_part5
  exact .pv hP rfl (v_val hf) fun _ hP =>
    .load .xk <| .load .k <| .pk hP rfl (k_val hP.win rfl) fun _ hP => .load .k <| .pz hP rfl z_val fun _ hP => .load .ks <| .load .kb <| .pb hP rfl (b_val hP.win rfl) fun _ hP =>
    .load .xv <| .load .vs <| .load .v <| .pv hP rfl (v_val (v_mul hP.win rfl rfl)) fun _ hP => .ret hP

theorem part6_ev {μ : Mem Ideal} (hP : Pro I 9 3 3 3 3 μ) :
    Ev c R none (k0_part6 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun x μ => (∀ y, x y = μ .xs y) ∧ Pro I 9 4 4 4 4 μ) := by
  unfold k0_part6
  refine .load .xk <| .load .k <| .pk hP rfl (k_val hP.win rfl) fun _ hP => .load .k <| .pz hP rfl z_val fun _ hP => .load .ks <| .load .kb <| .pb hP rfl (b_val hP.win rfl) fun _ hP =>
    .load .xv <| .load .vs <| .load .v <| .pv hP rfl (v_val (v_mul hP.win rfl rfl)) fun μ hP => .load .xs <| .ret ⟨fun y => congrArg (μ .xs) (funext fun a => Fin.ext ?_), hP⟩
  rw [emb_unit]
  match a with
  | ⟨0, _⟩ => exact Nat.zero_add _
  | ⟨1, _⟩ => exact Nat.zero_add _
  | ⟨2, _⟩ => exact Nat.zero_add _

end

end Cert.KernelIdeal.Pair
-- ==== Proof.Value.Epi.lean ====
/-
  The codes and exponents copied out, and the whole body: from one sequence's inputs, its outputs.
-/
module

public import proofs.«01_k».proof.Proof.Value.Pro

@[expose] public section

noncomputable section

namespace Cert.KernelIdeal.Pair

open Idealize.ShloMosaic Idealize.SL.Sem Cert.KernelIdeal Attn
open Cert.KernelIdeal.Facts₀
open Finset (range)

variable [Facts]

/-- The code of output lane `r` of token `q`. -/
def O (I : In) (r q : ℕ) : EReal := cvG I (sE I) (r / 96) (r % 96) q
/-- The biased exponent of block `r`, a float. -/
def X (I : In) (r q : ℕ) : EReal := evG I (sE I) (r / 3) (r % 3) q
/-- The stored byte. -/
def XB (I : In) (r q : ℕ) : BitVec 8 := BitVec.setWidth 8 (FloatOps.fptosi (F := Ideal) (φ := .f32) 32 (X I r q))

/-- All codes and exponents found; the first `n` tiles of codes and `e` of exponents copied out. -/
structure Ep (I : In) (n e : ℕ) (μ : Mem Ideal) : Prop where
  ct : ∀ y : S1152x2048.Idx, @Eq EReal (μ .ct y) (O I (y 0).val (y 1).val)
  et : ∀ y : S128x2048.Idx, (y 0).val < 36 → @Eq EReal (μ .et y) (X I (y 0).val (y 1).val)
  oc : ∀ y : S1x2048x1152.Idx, 9 * ((y 1).val / 256) + (y 2).val / 128 < n → @Eq EReal (μ .oc y) (O I (y 2).val (y 1).val)
  oe : ∀ y : S1x2048x36.Idx, (y 1).val < 256 * e → @Eq (BitVec 8) (μ .oe y) (XB I (y 2).val (y 1).val)

section
variable {c : Dev nD} {R : Refs} {bd : Option ℕ} {I : In} {n e : ℕ} {μ : Mem Ideal} {β : Type} {Q' : β → Mem Ideal → Prop}

theorem Ep.init (h : ∀ h < 12, Hs I (sE I) h μ) : Ep I 0 0 μ where
  ct y := by
    have hy : (y 0).val < 1152 := (y 0).isLt
    have e : (y 0).val % 96 = (y 0).val - 96 * ((y 0).val / 96) := by omega
    unfold O
    rw [e]
    exact (h ((y 0).val / 96) (by omega)).ct y (by omega) (by omega)
  et y hy := by
    have e : (y 0).val % 3 = (y 0).val - 3 * ((y 0).val / 3) := by omega
    unfold X
    rw [e]
    exact (h ((y 0).val / 3) (by omega)).et y (by omega) (by omega)
  oc y hy := absurd hy (Nat.not_lt_zero _)
  oe y hy := absurd hy (Nat.not_lt_zero _)

theorem Ev.oc (hP : Ep I n e μ) {off : Fin 3 → ℕ} {inb : ∀ a, off a + S1x256x128.size a ≤ S1x2048x1152.size a} {w : S1x256x128.Idx → EReal}
    {hx : ((R .oc).access (Rect.unit (s := S1x2048x1152) off S1x256x128.size inb)).Stores Finset.univ}
    {hm : (Finset.univ : Finset (Rect.unit (s := S1x2048x1152) off S1x256x128.size inb).shape.Idx) = Finset.univ ∨ ∀ a, (Rect.unit (s := S1x2048x1152) off S1x256x128.size inb).stride a = 1} {k : PUnit → Pr Ideal β}
    (ho : off = ![0, 256 * (n / 9), 128 * (n % 9)]) (hw : ∀ y, w y = O I (128 * (n % 9) + (y 2).val) (256 * (n / 9) + (y 1).val)) (h : ∀ μ', Ep I (n + 1) e μ' → Ev c R bd (k ⟨⟩) μ' Q') :
    Ev c R bd (.op (.store (R .oc) (Rect.unit (s := S1x2048x1152) off S1x256x128.size inb) w Finset.univ hx hm) k) μ Q' := by
  subst ho
  refine .store .oc (h _ ⟨fun y => ?_, fun y => ?_, fun y hy => ?_, fun y => ?_⟩)
  · rw [upd (s := .oc) (s' := .ct) nofun]; exact hP.ct y
  · rw [upd (s := .oc) (s' := .et) nofun]; exact hP.et y
  · have hy0 : (y 0).val < 1 := (y 0).isLt
    have hy1 : (y 1).val < 2048 := (y 1).isLt
    have hy2 : (y 2).val < 1152 := (y 2).isLt
    rw [Function.update_self, put_unit]
    split_ifs with hh
    · have h1 : 256 * (n / 9) ≤ (y 1).val := (hh 1).1
      have h2 : 128 * (n % 9) ≤ (y 2).val := (hh 2).1
      refine (hw _).trans (c2 (O I) ?_ ?_)
      · show 128 * (n % 9) + ((y 2).val - 128 * (n % 9)) = _; omega
      · show 256 * (n / 9) + ((y 1).val - 256 * (n / 9)) = _; omega
    · refine hP.oc y ?_
      by_contra hn
      have h1 : (y 1).val / 256 = n / 9 := by omega
      have h2 : (y 2).val / 128 = n % 9 := by omega
      refine hh fun x => ?_
      match x with
      | ⟨0, _⟩ => exact ⟨Nat.zero_le _, by show (y 0).val < 0 + 1; omega⟩
      | ⟨1, _⟩ => exact ⟨by show 256 * (n / 9) ≤ (y 1).val; omega, by show (y 1).val < 256 * (n / 9) + 256; omega⟩
      | ⟨2, _⟩ => exact ⟨by show 128 * (n % 9) ≤ (y 2).val; omega, by show (y 2).val < 128 * (n % 9) + 128; omega⟩
  · rw [upd (s := .oc) (s' := .oe) nofun]; exact hP.oe y

theorem Ev.oe (hP : Ep I n e μ) {off : Fin 3 → ℕ} {inb : ∀ a, off a + S1x256x36.size a ≤ S1x2048x36.size a} {w : S1x256x36.Idx → BitVec 8}
    {hx : ((R .oe).access (Rect.unit (s := S1x2048x36) off S1x256x36.size inb)).Stores Finset.univ}
    {hm : (Finset.univ : Finset (Rect.unit (s := S1x2048x36) off S1x256x36.size inb).shape.Idx) = Finset.univ ∨ ∀ a, (Rect.unit (s := S1x2048x36) off S1x256x36.size inb).stride a = 1} {k : PUnit → Pr Ideal β}
    (ho : off = ![0, 256 * e, 0]) (hw : ∀ y, w y = XB I (y 2).val (256 * e + (y 1).val)) (h : ∀ μ', Ep I n (e + 1) μ' → Ev c R bd (k ⟨⟩) μ' Q') :
    Ev c R bd (.op (.store (R .oe) (Rect.unit (s := S1x2048x36) off S1x256x36.size inb) w Finset.univ hx hm) k) μ Q' := by
  subst ho
  refine .store .oe (h _ ⟨fun y => ?_, fun y => ?_, fun y => ?_, fun y hy => ?_⟩)
  · rw [upd (s := .oe) (s' := .ct) nofun]; exact hP.ct y
  · rw [upd (s := .oe) (s' := .et) nofun]; exact hP.et y
  · rw [upd (s := .oe) (s' := .oc) nofun]; exact hP.oc y
  · have hy0 : (y 0).val < 1 := (y 0).isLt
    have hy2 : (y 2).val < 36 := (y 2).isLt
    rw [Function.update_self, put_unit]
    split_ifs with hh
    · have h1 : 256 * e ≤ (y 1).val := (hh 1).1
      refine (hw _).trans (c2 (XB I) rfl ?_)
      show 256 * e + ((y 1).val - 256 * e) = _; omega
    · refine hP.oe y ?_
      by_contra hn
      refine hh fun x => ?_
      match x with
      | ⟨0, _⟩ => exact ⟨Nat.zero_le _, by show (y 0).val < 0 + 1; omega⟩
      | ⟨1, _⟩ => exact ⟨by show 256 * e ≤ (y 1).val; omega, by show (y 1).val < 256 * e + 256; omega⟩
      | ⟨2, _⟩ => exact ⟨Nat.zero_le _, by show (y 2).val < 0 + 36; omega⟩

theorem Ep.col (hP : Ep I n e μ) {off : Fin 2 → ℕ} {inb : ∀ a, off a + S128x256.size a ≤ S1152x2048.size a} {r q : ℕ} (ho : off = ![r, q]) (y : S128x256.Idx) :
    @Eq EReal (μ .ct ((Rect.unit (s := S1152x2048) off S128x256.size inb).emb y)) (O I (r + (y 0).val) (q + (y 1).val)) := by
  subst ho
  rw [hP.ct]
  simp only [emb_unit]
  rfl

theorem t1 {v : FVec Ideal S128x256 .bf16} {r q : ℕ} (h : ∀ y, @Eq EReal (v y) (O I (r + (y 0).val) (q + (y 1).val))) (y : S256x128.Idx) :
    @Eq EReal ((truncf .fp8e4m3 (transpose S256x128 [1, 0] v transposes_S128x256_p1_0_S256x128) bitsLt_fp8e4m3_bf16 : FVec Ideal S256x128 .fp8e4m3) y) (O I (r + (y 1).val) (q + (y 0).val)) := by
  pointwise
  exact h _

theorem t2 {v : FVec Ideal S256x128 .fp8e4m3} {r q : ℕ} (h : ∀ y, @Eq EReal (v y) (O I (r + (y 1).val) (q + (y 0).val))) (y : S1x256x128.Idx) :
    @Eq EReal (shapeCast S1x256x128 v shapeCasts_S256x128_S1x256x128 y) (O I (r + (y 2).val) (q + (y 1).val)) := by
  pointwise
  exact h _

theorem e1 (hP : Ep I n e μ) {off : Fin 2 → ℕ} {inb : ∀ a, off a + S128x256.size a ≤ S128x2048.size a} {q : ℕ} (ho : off = ![0, q]) (y : S1x256x36.Idx) :
    @Eq (BitVec 8) (shapeCast S1x256x36 (trunci 8 (fptosi (F := Ideal) (φ := .f32) 32 (extractStridedSlice S256x36 ![0, 0] (transpose (α := Ideal .f32) S256x128 [1, 0] (fun x => μ .et ((Rect.unit (s := S128x2048) off S128x256.size inb).emb x) : FVec Ideal S128x256 .f32) transposes_S128x256_p1_0_S256x128) slices_S256x128_o0_0_S256x36)) natLt_8_32) shapeCasts_S256x36_S1x256x36 y) (XB I (y 2).val (q + (y 1).val)) := by
  subst ho
  have hy : (y 2).val < 36 := (y 2).isLt
  pointwise
  unfold XB
  refine congrArg (fun x : EReal => BitVec.setWidth 8 (FloatOps.fptosi (F := Ideal) (φ := .f32) 32 x)) ?_
  rw [hP.et]
  · simp only [emb_unit]
    refine c2 (X I) ?_ ?_
    · show 0 + (y 2).val = _; omega
    · rfl
  · simp only [emb_unit]
    show 0 + (y 2).val < 36; omega

end

section
variable {c : Dev nD} {R : Refs} {i : grid0.Coords} {H : ∀ s, (R s).IsWhole} {I : In}

theorem part8_ev {μ : Mem Ideal} (hP : Ep I 2 0 μ) :
    Ev c R none (k0_part8 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun x μ => Ep I 7 0 μ) := by
  unfold k0_part8
  exact .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .ret hP

theorem part9_ev {μ : Mem Ideal} (hP : Ep I 7 0 μ) :
    Ev c R none (k0_part9 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun x μ => (∀ y, @Eq EReal (x y) (O I (128 + (y 2).val) (256 + (y 1).val))) ∧ Ep I 10 1 μ) := by
  unfold k0_part9
  exact .load .ct <| .load .oc <| .oc hP rfl (t2 (t1 (hP.col rfl))) fun _ hP =>
    .load .ct <| .load .oc <| .oc hP rfl (t2 (t1 (hP.col rfl))) fun _ hP =>
    .load .et <| .load .oe <| .oe hP rfl (e1 hP rfl) fun _ hP =>
    .load .ct <| .load .oc <| .oc hP rfl (t2 (t1 (hP.col rfl))) fun _ hP =>
    .load .ct <| .load .oc <| .ret ⟨t2 (t1 (hP.col rfl)), hP⟩

theorem part10_ev {f : FVec Ideal S1x256x128 .fp8e4m3} (hf : ∀ y, @Eq EReal (f y) (O I (128 + (y 2).val) (256 + (y 1).val))) {μ : Mem Ideal} (hP : Ep I 10 1 μ) :
    Ev c R none (k0_part10 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (O I (768 + (y 2).val) (256 + (y 1).val))) ∧ Ep I 15 1 μ) := by
  unfold k0_part10
  exact .oc hP rfl hf fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .ret ⟨t2 (t1 (hP.col rfl)), hP⟩

theorem part11_ev {f : FVec Ideal S1x256x128 .fp8e4m3} (hf : ∀ y, @Eq EReal (f y) (O I (768 + (y 2).val) (256 + (y 1).val))) {μ : Mem Ideal} (hP : Ep I 15 1 μ) :
    Ev c R none (k0_part11 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x.1 y) (O I (128 + (y 1).val) (512 + (y 0).val))) ∧ Ep I 19 2 μ) := by
  unfold k0_part11
  exact .oc hP rfl hf fun _ hP =>
    .load .ct <| .load .oc <| .oc hP rfl (t2 (t1 (hP.col rfl))) fun _ hP =>
    .load .ct <| .load .oc <| .oc hP rfl (t2 (t1 (hP.col rfl))) fun _ hP =>
    .load .et <| .load .oe <| .oe hP rfl (e1 hP rfl) fun _ hP =>
    .load .ct <| .load .oc <| .oc hP rfl (t2 (t1 (hP.col rfl))) fun _ hP =>
    .load .ct <| .load .oc <| .ret ⟨t1 (hP.col rfl), hP⟩

theorem part12_ev {f : FVec Ideal S256x128 .fp8e4m3} {g : Vec Ideal S1x256x128 .fp8e4m3} (hf : ∀ y, @Eq EReal (f y) (O I (128 + (y 1).val) (512 + (y 0).val))) {μ : Mem Ideal} (hP : Ep I 19 2 μ) :
    Ev c R none (k0_part12 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f g) μ (fun x μ => (∀ y, @Eq EReal (x.1 y) (O I (768 + (y 1).val) (512 + (y 0).val))) ∧ Ep I 24 2 μ) := by
  unfold k0_part12
  exact .oc hP rfl (t2 hf) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .ret ⟨t1 (hP.col rfl), hP⟩

theorem part13_ev {f : FVec Ideal S256x128 .fp8e4m3} {g : Vec Ideal S1x256x128 .fp8e4m3} (hf : ∀ y, @Eq EReal (f y) (O I (768 + (y 1).val) (512 + (y 0).val))) {μ : Mem Ideal} (hP : Ep I 24 2 μ) :
    Ev c R none (k0_part13 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f g) μ (fun x μ => (∀ y, @Eq EReal (x y) (O I (128 + (y 1).val) (768 + (y 0).val))) ∧ Ep I 28 3 μ) := by
  unfold k0_part13
  exact .oc hP rfl (t2 hf) fun _ hP =>
    .load .ct <| .load .oc <| .oc hP rfl (t2 (t1 (hP.col rfl))) fun _ hP =>
    .load .ct <| .load .oc <| .oc hP rfl (t2 (t1 (hP.col rfl))) fun _ hP =>
    .load .et <| .load .oe <| .oe hP rfl (e1 hP rfl) fun _ hP =>
    .load .ct <| .load .oc <| .oc hP rfl (t2 (t1 (hP.col rfl))) fun _ hP =>
    .load .ct <| .ret ⟨t1 (hP.col rfl), hP⟩

theorem part14_ev {f : FVec Ideal S256x128 .fp8e4m3} (hf : ∀ y, @Eq EReal (f y) (O I (128 + (y 1).val) (768 + (y 0).val))) {μ : Mem Ideal} (hP : Ep I 28 3 μ) :
    Ev c R none (k0_part14 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (O I (768 + (y 1).val) (768 + (y 0).val))) ∧ Ep I 33 3 μ) := by
  unfold k0_part14
  exact .load .oc <| .oc hP rfl (t2 hf) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .ret ⟨t1 (hP.col rfl), hP⟩

theorem part15_ev {f : FVec Ideal S256x128 .fp8e4m3} (hf : ∀ y, @Eq EReal (f y) (O I (768 + (y 1).val) (768 + (y 0).val))) {μ : Mem Ideal} (hP : Ep I 33 3 μ) :
    Ev c R none (k0_part15 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (O I (128 + (y 1).val) (1024 + (y 0).val))) ∧ Ep I 37 4 μ) := by
  unfold k0_part15
  exact .load .oc <| .oc hP rfl (t2 hf) fun _ hP =>
    .load .ct <| .load .oc <| .oc hP rfl (t2 (t1 (hP.col rfl))) fun _ hP =>
    .load .ct <| .load .oc <| .oc hP rfl (t2 (t1 (hP.col rfl))) fun _ hP =>
    .load .et <| .load .oe <| .oe hP rfl (e1 hP rfl) fun _ hP =>
    .load .ct <| .load .oc <| .oc hP rfl (t2 (t1 (hP.col rfl))) fun _ hP =>
    .load .ct <| .ret ⟨t1 (hP.col rfl), hP⟩

theorem part16_ev {f : FVec Ideal S256x128 .fp8e4m3} (hf : ∀ y, @Eq EReal (f y) (O I (128 + (y 1).val) (1024 + (y 0).val))) {μ : Mem Ideal} (hP : Ep I 37 4 μ) :
    Ev c R none (k0_part16 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (O I (768 + (y 1).val) (1024 + (y 0).val))) ∧ Ep I 42 4 μ) := by
  unfold k0_part16
  exact .load .oc <| .oc hP rfl (t2 hf) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .ret ⟨t1 (hP.col rfl), hP⟩

theorem part17_ev {f : FVec Ideal S256x128 .fp8e4m3} (hf : ∀ y, @Eq EReal (f y) (O I (768 + (y 1).val) (1024 + (y 0).val))) {μ : Mem Ideal} (hP : Ep I 42 4 μ) :
    Ev c R none (k0_part17 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (O I (128 + (y 0).val) (1280 + (y 1).val))) ∧ Ep I 46 5 μ) := by
  unfold k0_part17
  exact .load .oc <| .oc hP rfl (t2 hf) fun _ hP =>
    .load .ct <| .load .oc <| .oc hP rfl (t2 (t1 (hP.col rfl))) fun _ hP =>
    .load .ct <| .load .oc <| .oc hP rfl (t2 (t1 (hP.col rfl))) fun _ hP =>
    .load .et <| .load .oe <| .oe hP rfl (e1 hP rfl) fun _ hP =>
    .load .ct <| .load .oc <| .oc hP rfl (t2 (t1 (hP.col rfl))) fun _ hP =>
    .load .ct <| .ret ⟨hP.col rfl, hP⟩

theorem part18_ev {f : Vec Ideal S128x256 .bf16} (hf : ∀ y, @Eq EReal (f y) (O I (128 + (y 0).val) (1280 + (y 1).val))) {μ : Mem Ideal} (hP : Ep I 46 5 μ) :
    Ev c R none (k0_part18 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (O I (768 + (y 0).val) (1280 + (y 1).val))) ∧ Ep I 51 5 μ) := by
  unfold k0_part18
  exact .load .oc <| .oc hP rfl (t2 (t1 hf)) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .ret ⟨hP.col rfl, hP⟩

theorem part19_ev {f : Vec Ideal S128x256 .bf16} (hf : ∀ y, @Eq EReal (f y) (O I (768 + (y 0).val) (1280 + (y 1).val))) {μ : Mem Ideal} (hP : Ep I 51 5 μ) :
    Ev c R none (k0_part19 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => Ep I 55 6 μ) := by
  unfold k0_part19
  exact .load .oc <| .oc hP rfl (t2 (t1 hf)) fun _ hP =>
    .load .ct <| .load .oc <| .oc hP rfl (t2 (t1 (hP.col rfl))) fun _ hP =>
    .load .ct <| .load .oc <| .oc hP rfl (t2 (t1 (hP.col rfl))) fun _ hP =>
    .load .et <| .load .oe <| .oe hP rfl (e1 hP rfl) fun _ hP =>
    .load .ct <| .load .oc <| .oc hP rfl (t2 (t1 (hP.col rfl))) fun _ hP =>
    .ret hP

theorem part20_ev {μ : Mem Ideal} (hP : Ep I 55 6 μ) :
    Ev c R none (k0_part20 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun x μ => Ep I 60 6 μ) := by
  unfold k0_part20
  exact .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .ret hP

theorem part21_ev {μ : Mem Ideal} (hP : Ep I 60 6 μ) :
    Ev c R none (k0_part21 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun x μ => (∀ y, @Eq EReal (x y) (O I (0 + (y 2).val) (1792 + (y 1).val))) ∧ Ep I 63 7 μ) := by
  unfold k0_part21
  exact .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .et <| .load .oe <| .oe hP rfl (e1 hP rfl) fun _ hP =>
    .load .ct <| .load .oc <| .ret ⟨t2 (t1 (hP.col rfl)), hP⟩

theorem part22_ev {f : FVec Ideal S1x256x128 .fp8e4m3} (hf : ∀ y, @Eq EReal (f y) (O I (0 + (y 2).val) (1792 + (y 1).val))) {μ : Mem Ideal} (hP : Ep I 63 7 μ) :
    Ev c R none (k0_part22 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) f) μ (fun x μ => (∀ y, @Eq EReal (x y) (O I (640 + (y 2).val) (1792 + (y 1).val))) ∧ Ep I 68 7 μ) := by
  unfold k0_part22
  exact .oc hP rfl hf fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .ret ⟨t2 (t1 (hP.col rfl)), hP⟩

theorem part7_ev {v : Vec Ideal S1x12x2048 .f32} {u : Mxu Ideal} (h : St none' u) {μ : Mem Ideal} (hv : ∀ y, v y = μ .xs y) (hP : Pro I 9 4 4 4 4 μ) :
    Ev c R none (k0_part7 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad) u v) μ (fun x μ => St none' x ∧ Ep I 2 0 μ) := by
  unfold k0_part7
  refine .load .cq <| .store .cq <| .load .tri <| .store .tri <| .load .bad <| .store .bad <|
    .call 12 (fun _ h => by cases h) (while_ev (I := I) (μ0 := _) ?_ 12 0 rfl 6#32 _ ⟨fun _ _ _ _ _ _ _ => rfl, .inl ⟨by omega, rfl, fun h hh => absurd hh (by omega)⟩⟩ u h) fun x μ hx => ?_
  swap
  · obtain ⟨x0, x1, u'⟩ := x
    have hP := Ep.init hx.2.2
    exact .load .ct <| .load .oc <| .oc hP rfl (t2 (t1 (hP.col rfl))) fun _ hP => .load .ct <| .load .oc <| .oc hP rfl (t2 (t1 (hP.col rfl))) fun _ hP => .ret ⟨hx.1, hP⟩
  refine ⟨fun y => ?_, fun y => ?_, fun y => ?_, fun y => ?_, fun y => ?_, fun y => ?_⟩
  · rw [upd (s := .bad) (s' := .q) nofun, upd (s := .tri) (s' := .q) nofun, upd (s := .cq) (s' := .q) nofun]
    exact hP.q y (y 0).isLt
  · rw [upd (s := .bad) (s' := .k) nofun, upd (s := .tri) (s' := .k) nofun, upd (s := .cq) (s' := .k) nofun]
    split_ifs with h2
    · exact hP.k y (y 0).isLt h2
    · exact hP.z y (y 0).isLt h2
  · rw [upd (s := .bad) (s' := .v) nofun, upd (s := .tri) (s' := .v) nofun, upd (s := .cq) (s' := .v) nofun]
    exact hP.v y (y 0).isLt
  · rw [upd (s := .bad) (s' := .kb) nofun, upd (s := .tri) (s' := .kb) nofun, upd (s := .cq) (s' := .kb) nofun]
    exact hP.kb y (y 0).isLt
  · rw [upd (s := .bad) (s' := .cq) nofun, upd (s := .tri) (s' := .cq) nofun, Function.update_self, put_unit, dif_pos (fun a => by
      match a with
      | ⟨0, _⟩ => exact ⟨Nat.zero_le _, by have h0 : (y 0).val < 12 := (y 0).isLt; show (y 0).val < 0 + 12; omega⟩
      | ⟨1, _⟩ => exact ⟨Nat.zero_le _, by have h0 : (y 1).val < 2048 := (y 1).isLt; show (y 1).val < 0 + 2048; omega⟩)]
    pointwise
    rw [hv]
    exact hP.win.xs _
  · rw [upd (s := .bad) (s' := .tri) nofun, Function.update_self, put_unit, dif_pos (fun a => by
      match a with
      | ⟨0, _⟩ => exact ⟨Nat.zero_le _, by have h0 : (y 0).val < 128 := (y 0).isLt; show (y 0).val < 0 + 128; omega⟩
      | ⟨1, _⟩ => exact ⟨Nat.zero_le _, by have h0 : (y 1).val < 128 := (y 1).isLt; show (y 1).val < 0 + 128; omega⟩)]
    have h0 : (y 0).val < 128 := (y 0).isLt
    have h1 : (y 1).val < 128 := (y 1).isLt
    pointwise
    unfold Scalar.select
    by_cases hle : (y 0).val ≤ (y 1).val
    · rw [if_pos hle]
      exact (if_pos ((sle_small _ _ (by omega) (by omega)).mpr hle))
    · rw [if_neg hle]
      exact (if_neg fun h' => hle ((sle_small _ _ (by omega) (by omega)).mp h')).trans negInf32

/-- The kernel's body: one sequence's codes and exponents. -/
theorem body_ev {μ : Mem Ideal} (hW : Win I μ) : Ev c R none (cc0_gqa_prefill (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun _ μ => Ep I 72 8 μ) := by
  have h23 : Ev c R none (k0_part23 (F := Ideal) i (R .xq) (H .xq) (R .xs) (H .xs) (R .xk) (H .xk) (R .ks) (H .ks) (R .xv) (H .xv) (R .vs) (H .vs) (R .oc) (H .oc) (R .oe) (H .oe) (R .q) (H .q) (R .k) (H .k) (R .v) (H .v) (R .kb) (H .kb) (R .cq) (H .cq) (R .ct) (H .ct) (R .et) (H .et) (R .p) (H .p) (R .row) (H .row) (R .mx) (H .mx) (R .tri) (H .tri) (R .bad) (H .bad)) μ (fun x μ => St none' x ∧ Ep I 72 7 μ) := by
    unfold k0_part23
    exact .bind (part1_ev ⟨hW, fun _ h => absurd h (by omega), fun _ h => absurd h (by omega), fun _ h => absurd h (by omega), fun _ h => absurd h (by omega), fun _ h => absurd h (by omega)⟩) fun u _ ⟨hu, hP⟩ =>
      .bind (part2_ev hP) fun _ _ ⟨hf, hP⟩ => .bind (part3_ev hf hP) fun _ _ ⟨hf, hP⟩ => .bind (part4_ev hf hP) fun _ _ ⟨hf, hP⟩ => .bind (part5_ev hf hP) fun _ _ hP => .bind (part6_ev hP) fun _ _ ⟨hf, hP⟩ =>
      .bind (part7_ev hu hf hP) fun u _ ⟨hu, hP⟩ => .bind (part8_ev hP) fun _ _ hP => .bind (part9_ev hP) fun _ _ ⟨hf, hP⟩ => .bind (part10_ev hf hP) fun _ _ ⟨hf, hP⟩ =>
      .bind (part11_ev hf hP) fun ⟨_, _⟩ _ ⟨hf, hP⟩ => .bind (part12_ev hf hP) fun ⟨_, _⟩ _ ⟨hf, hP⟩ => .bind (part13_ev hf hP) fun _ _ ⟨hf, hP⟩ => .bind (part14_ev hf hP) fun _ _ ⟨hf, hP⟩ =>
      .bind (part15_ev hf hP) fun _ _ ⟨hf, hP⟩ => .bind (part16_ev hf hP) fun _ _ ⟨hf, hP⟩ => .bind (part17_ev hf hP) fun _ _ ⟨hf, hP⟩ => .bind (part18_ev hf hP) fun _ _ ⟨hf, hP⟩ =>
      .bind (part19_ev hf hP) fun _ _ hP => .bind (part20_ev hP) fun _ _ hP => .bind (part21_ev hP) fun _ _ ⟨hf, hP⟩ => .bind (part22_ev hf hP) fun _ _ ⟨hf, hP⟩ =>
      .oc hP rfl hf fun _ hP =>
    .load .ct <| .load .oc <| .oc hP rfl (t2 (t1 (hP.col rfl))) fun _ hP =>
    .load .ct <| .load .oc <| .oc hP rfl (t2 (t1 (hP.col rfl))) fun _ hP =>
    .load .ct <| .load .oc <| .oc hP rfl (t2 (t1 (hP.col rfl))) fun _ hP =>
    .ret ⟨hu, hP⟩
  unfold cc0_gqa_prefill
  refine .bind h23 fun u _ ⟨hu, hP⟩ => .load .et <| .load .oe <| .oe hP rfl (e1 hP rfl) fun _ hP => .assume ⟨fun q r => ?_, fun q r => ?_⟩ <| .ret hP
  · rw [hu.1]; rfl
  · by_contra h
    exact hu.2 q r (by simpa using h)

end

end Cert.KernelIdeal.Pair
-- ==== Proof.Value.RunK.lean ====
/-
  The kernel's results: what its body writes for one sequence, carried through the pipeline over the sixteen
  sequences to the two result arrays.
-/
module

public import proofs.«01_k».proof.Proof.Value.Epi
public import proofs.«01_k».proof.Proof.Ideal.Run
public import Idealize.ShloMosaic.Lib.Pipeline.ValueKit
public import Idealize.ShloMosaic.Lib.Pipeline.ArrRel
public import Idealize.ShloMosaic.Lib.Claim

@[expose] public section

noncomputable section

namespace Attn

open Idealize.ShloMosaic

/-- An element of an array of three axes at natural coordinates. -/
def at3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0

theorem at3_eq {a b c : ℕ} (f : (⟨3, ![a, b, c]⟩ : Shape).Idx → EReal) (y : (⟨3, ![a, b, c]⟩ : Shape).Idx) {i j k : ℕ}
    (hi : (y 0).val = i) (hj : (y 1).val = j) (hk : (y 2).val = k) : f y = at3 f i j k := by
  have h : i < a ∧ j < b ∧ k < c := ⟨hi ▸ (y 0).isLt, hj ▸ (y 1).isLt, hk ▸ (y 2).isLt⟩
  unfold at3
  rw [dif_pos h]
  congr 1
  funext d
  match d with
  | 0 => exact Fin.ext hi
  | 1 => exact Fin.ext hj
  | 2 => exact Fin.ext hk

end Attn

namespace Cert.KernelIdeal.Pair

open Cert.KernelIdeal Cert.KernelIdeal.Gen Attn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

/-- One sequence's inputs. -/
def inp (x : S16x2048x1152.Idx → EReal) (xs : S16x2048x12.Idx → EReal) (k : S16x2048x384.Idx → EReal) (ks : S16x2048x4.Idx → EReal)
    (v : S16x2048x384.Idx → EReal) (vs : S16x2048x4.Idx → EReal) (b : ℕ) : In where
  Q r q := at3 x b q r
  K g i d := at3 k b i (96 * g + d)
  V g d i := at3 v b i (96 * g + d) * at3 vs b i g
  KS g i := at3 ks b i g
  C h q := at3 xs b q h * Ideal.ofBits .f32 0x3E16C740#32

variable (m : (ℓ : Loc nD τ sig) → Buf (Elt Ideal) ℓ) (ρ : Dev nD → PrngReg)

/-- The inputs in the launch memory. -/
def inK (c : Dev nD) (b : ℕ) : In :=
  inp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) b

/-- The proof data: what the body leaves in the two result windows. -/
def vdat (c : Dev nD) : RDat τ (Elt Ideal) Unit ℕ (UR sig nD τ) ℕ (cfg0 (F := Ideal)) c where
  A w := V m c (Pipeline.arrRef spec0 w)
  after w t _ X := match w with
    | ⟨6, _⟩ => ∀ y : S1x2048x1152.Idx, @Eq EReal (X y) (O (inK m c t.val) (y 2).val (y 1).val)
    | ⟨7, _⟩ => ∀ y : S1x2048x36.Idx, @Eq (BitVec 8) (X y) (XB (inK m c t.val) (y 2).val (y 1).val)
    | _ => True
  Φ _ := Pipeline.ΦA spec0 c
  q _ := fullShare
  owed _ := 0

theorem vA_eq (c : Dev nD) (w : Fin (cfg0 (F := Ideal)).W) : (vdat m c).A w = V m c (Pipeline.arrRef spec0 w) := by
  dsimp only [vdat]

theorem ix_0 : ∀ t : Fin grid0.N, win0_0.index t 0 = t.val ∧ win0_0.index t 1 = 0 ∧ win0_0.index t 2 = 0 := by decide +kernel
theorem ix_1 : ∀ t : Fin grid0.N, win0_1.index t 0 = t.val ∧ win0_1.index t 1 = 0 ∧ win0_1.index t 2 = 0 := by decide +kernel
theorem ix_2 : ∀ t : Fin grid0.N, win0_2.index t 0 = t.val ∧ win0_2.index t 1 = 0 ∧ win0_2.index t 2 = 0 := by decide +kernel
theorem ix_3 : ∀ t : Fin grid0.N, win0_3.index t 0 = t.val ∧ win0_3.index t 1 = 0 ∧ win0_3.index t 2 = 0 := by decide +kernel
theorem ix_4 : ∀ t : Fin grid0.N, win0_4.index t 0 = t.val ∧ win0_4.index t 1 = 0 ∧ win0_4.index t 2 = 0 := by decide +kernel
theorem ix_5 : ∀ t : Fin grid0.N, win0_5.index t 0 = t.val ∧ win0_5.index t 1 = 0 ∧ win0_5.index t 2 = 0 := by decide +kernel
theorem ix_6 : ∀ t : Fin grid0.N, win0_6.index t 0 = t.val ∧ win0_6.index t 1 = 0 ∧ win0_6.index t 2 = 0 := by decide +kernel
theorem ix_7 : ∀ t : Fin grid0.N, win0_7.index t 0 = t.val ∧ win0_7.index t 1 = 0 ∧ win0_7.index t 2 = 0 := by decide +kernel

/-- The scales the host transposes. -/
theorem V_0 (c : Dev nD) : V m c main_v0 = transpose S16x12x2048 [0, 2, 1] (m ((c.tc : Thread nD τ).loc main_arg1)) transposes_S16x2048x12_S16x12x2048_0_2_1 := by
  unfold_abbrev_sides
  after_results
theorem VA_0 (c : Dev nD) (z : S16x12x2048.Idx) : @Eq EReal (V m c main_v0 z) (at3 (m ((c.tc : Thread nD τ).loc main_arg1)) (z 0).val (z 2).val (z 1).val) := by
  refine (congrFun (V_0 m c) z).trans ?_
  pointwise
  exact at3_eq (m ((c.tc : Thread nD τ).loc main_arg1)) _ rfl rfl rfl
theorem V_1 (c : Dev nD) : V m c main_v1 = transpose S16x4x2048 [0, 2, 1] (m ((c.tc : Thread nD τ).loc main_arg5)) transposes_S16x2048x4_S16x4x2048_0_2_1 := by
  unfold_abbrev_sides
  after_results
theorem VA_1 (c : Dev nD) (z : S16x4x2048.Idx) : @Eq EReal (V m c main_v1 z) (at3 (m ((c.tc : Thread nD τ).loc main_arg5)) (z 0).val (z 2).val (z 1).val) := by
  refine (congrFun (V_1 m c) z).trans ?_
  pointwise
  exact at3_eq (m ((c.tc : Thread nD τ).loc main_arg5)) _ rfl rfl rfl

/-- The windows as the pipeline fetches them. -/
theorem win_of (c : Dev nD) (t : Fin (cfg0 (F := Ideal)).N) (Y : (w : Fin (cfg0 (F := Ideal)).W) → ((cfg0 (F := Ideal)).win w).block.Idx → Elt Ideal ((cfg0 (F := Ideal)).win w).elt)
    (hY : ∀ w, (vdat m c).Finds w t (Y w))
    (d0 : Vec Ideal S1152x2048 .fp8e4m3) (d1 : Vec Ideal S4x2048x128 .fp8e4m3) (d2 : Vec Ideal S4x96x2048 .bf16) (d3 : Vec Ideal S4x2048x128 .f32)
    (d4 : Vec Ideal S12x2048 .f32) (d5 : Vec Ideal S1152x2048 .bf16) (d6 : Vec Ideal S128x2048 .f32) (d7 : Vec Ideal S2x2x2048x256 .f32)
    (d8 : Vec Ideal S2x16x256 .f32) (d9 : Vec Ideal S16x256 .f32) (d10 : Vec Ideal S128x128 .f32) (d11 : Vec Ideal S1x256 .f32) :
    Win (inK m c t.val) (mem t Y d0 d1 d2 d3 d4 d5 d6 d7 d8 d9 d10 d11) := by
  have f0 : ∀ y : S1x2048x1152.Idx, @Eq EReal (Y 0 y) (at3 (m ((c.tc : Thread nD τ).loc main_arg0)) t.val (y 1).val (y 2).val) := fun y => by
    obtain ⟨d, hd⟩ := ((vdat m c).finds_of_fetch (fetch0_0 t) _).mp (hY 0)
    rw [hd]
    unfold RDat.fetched RDat.blockOf Pipeline.Window.fill
    rw [dif_pos ((Pipeline.Window.moved_iff _ _ _).mpr fun a => (y a).isLt)]
    refine (congrFun (V_eq m main_arg0 (by decide) (by decide) c) _).trans (at3_eq _ _ ?_ ?_ ?_)
    · blk_simp; rw [(ix_0 t).1]; rfl
    · blk_simp; rw [(ix_0 t).2.1]; exact (congrArg (· + (y 1).val) (Nat.zero_mul _)).trans (Nat.zero_add _)
    · blk_simp; rw [(ix_0 t).2.2]; exact (congrArg (· + (y 2).val) (Nat.zero_mul _)).trans (Nat.zero_add _)
  have f1 : ∀ y : S1x12x2048.Idx, @Eq EReal (Y 1 y) (at3 (m ((c.tc : Thread nD τ).loc main_arg1)) t.val (y 2).val (y 1).val) := fun y => by
    obtain ⟨d, hd⟩ := ((vdat m c).finds_of_fetch (fetch0_1 t) _).mp (hY 1)
    rw [hd]
    unfold RDat.fetched RDat.blockOf Pipeline.Window.fill
    rw [dif_pos ((Pipeline.Window.moved_iff _ _ _).mpr fun a => (y a).isLt)]
    refine (VA_0 m c _).trans ?_
    congr 1
    · blk_simp; rw [(ix_1 t).1]; rfl
    · blk_simp; rw [(ix_1 t).2.2]; exact (congrArg (· + (y 2).val) (Nat.zero_mul _)).trans (Nat.zero_add _)
    · blk_simp; rw [(ix_1 t).2.1]; exact (congrArg (· + (y 1).val) (Nat.zero_mul _)).trans (Nat.zero_add _)
  have f2 : ∀ y : S1x2048x384.Idx, @Eq EReal (Y 2 y) (at3 (m ((c.tc : Thread nD τ).loc main_arg2)) t.val (y 1).val (y 2).val) := fun y => by
    obtain ⟨d, hd⟩ := ((vdat m c).finds_of_fetch (fetch0_2 t) _).mp (hY 2)
    rw [hd]
    unfold RDat.fetched RDat.blockOf Pipeline.Window.fill
    rw [dif_pos ((Pipeline.Window.moved_iff _ _ _).mpr fun a => (y a).isLt)]
    refine (congrFun (V_eq m main_arg2 (by decide) (by decide) c) _).trans (at3_eq _ _ ?_ ?_ ?_)
    · blk_simp; rw [(ix_2 t).1]; rfl
    · blk_simp; rw [(ix_2 t).2.1]; exact (congrArg (· + (y 1).val) (Nat.zero_mul _)).trans (Nat.zero_add _)
    · blk_simp; rw [(ix_2 t).2.2]; exact (congrArg (· + (y 2).val) (Nat.zero_mul _)).trans (Nat.zero_add _)
  have f3 : ∀ y : S1x2048x4.Idx, @Eq EReal (Y 3 y) (at3 (m ((c.tc : Thread nD τ).loc main_arg3)) t.val (y 1).val (y 2).val) := fun y => by
    obtain ⟨d, hd⟩ := ((vdat m c).finds_of_fetch (fetch0_3 t) _).mp (hY 3)
    rw [hd]
    unfold RDat.fetched RDat.blockOf Pipeline.Window.fill
    rw [dif_pos ((Pipeline.Window.moved_iff _ _ _).mpr fun a => (y a).isLt)]
    refine (congrFun (V_eq m main_arg3 (by decide) (by decide) c) _).trans (at3_eq _ _ ?_ ?_ ?_)
    · blk_simp; rw [(ix_3 t).1]; rfl
    · blk_simp; rw [(ix_3 t).2.1]; exact (congrArg (· + (y 1).val) (Nat.zero_mul _)).trans (Nat.zero_add _)
    · blk_simp; rw [(ix_3 t).2.2]; exact (congrArg (· + (y 2).val) (Nat.zero_mul _)).trans (Nat.zero_add _)
  have f4 : ∀ y : S1x2048x384.Idx, @Eq EReal (Y 4 y) (at3 (m ((c.tc : Thread nD τ).loc main_arg4)) t.val (y 1).val (y 2).val) := fun y => by
    obtain ⟨d, hd⟩ := ((vdat m c).finds_of_fetch (fetch0_4 t) _).mp (hY 4)
    rw [hd]
    unfold RDat.fetched RDat.blockOf Pipeline.Window.fill
    rw [dif_pos ((Pipeline.Window.moved_iff _ _ _).mpr fun a => (y a).isLt)]
    refine (congrFun (V_eq m main_arg4 (by decide) (by decide) c) _).trans (at3_eq _ _ ?_ ?_ ?_)
    · blk_simp; rw [(ix_4 t).1]; rfl
    · blk_simp; rw [(ix_4 t).2.1]; exact (congrArg (· + (y 1).val) (Nat.zero_mul _)).trans (Nat.zero_add _)
    · blk_simp; rw [(ix_4 t).2.2]; exact (congrArg (· + (y 2).val) (Nat.zero_mul _)).trans (Nat.zero_add _)
  have f5 : ∀ y : S1x4x2048.Idx, @Eq EReal (Y 5 y) (at3 (m ((c.tc : Thread nD τ).loc main_arg5)) t.val (y 2).val (y 1).val) := fun y => by
    obtain ⟨d, hd⟩ := ((vdat m c).finds_of_fetch (fetch0_5 t) _).mp (hY 5)
    rw [hd]
    unfold RDat.fetched RDat.blockOf Pipeline.Window.fill
    rw [dif_pos ((Pipeline.Window.moved_iff _ _ _).mpr fun a => (y a).isLt)]
    refine (VA_1 m c _).trans ?_
    congr 1
    · blk_simp; rw [(ix_5 t).1]; rfl
    · blk_simp; rw [(ix_5 t).2.2]; exact (congrArg (· + (y 2).val) (Nat.zero_mul _)).trans (Nat.zero_add _)
    · blk_simp; rw [(ix_5 t).2.1]; exact (congrArg (· + (y 1).val) (Nat.zero_mul _)).trans (Nat.zero_add _)
  refine ⟨fun y => f0 y, fun y => ?_, fun y => ?_, fun y => f3 y, fun y z h1 h2 => ?_⟩
  · exact congrArg (fun a : EReal => a * Ideal.ofBits .f32 0x3E16C740#32) (f1 y)
  · refine (f2 y).trans ?_
    show _ = at3 _ _ _ (96 * ((y 2).val / 96) + (y 2).val % 96)
    rw [Nat.div_add_mod]
  · refine (congrArg₂ (fun a b : EReal => a * b) (f4 y) (f5 z)).trans ?_
    show _ = at3 _ _ _ (96 * ((y 2).val / 96) + (y 2).val % 96) * at3 _ _ _ _
    rw [Nat.div_add_mod, h1, h2]

theorem oc_of {I : In} {μ : Mem Ideal} (h : Ep I 72 8 μ) (y : S1x2048x1152.Idx) : @Eq EReal (μ .oc y) (O I (y 2).val (y 1).val) :=
  h.oc y (by have h1 : (y 1).val < 2048 := (y 1).isLt; have h2 : (y 2).val < 1152 := (y 2).isLt; omega)
theorem oe_of {I : In} {μ : Mem Ideal} (h : Ep I 72 8 μ) (y : S1x2048x36.Idx) : @Eq (BitVec 8) (μ .oe y) (XB I (y 2).val (y 1).val) :=
  h.oe y (by have h1 : (y 1).val < 2048 := (y 1).isLt; omega)

/-- What the pipeline takes back after the body. -/
theorem vpipe_finish (c : Dev nD) (t : Fin (cfg0 (F := Ideal)).N)
    (Y : (w : Fin (cfg0 (F := Ideal)).W) → ((cfg0 (F := Ideal)).win w).block.Idx → Elt Ideal ((cfg0 (F := Ideal)).win w).elt) :
    (iprop((∃ μ', ⌜Ep (inK m c t.val) 72 8 μ'⌝ ∗ own c (refs t) μ') ∗ (∃ r, prngReg c r) ∗ (vdat m c).owesAt () t.castSucc) : sProp 𝕄)
      ⊢ iprop((vdat m c).Φ t.succ ∗ (vdat m c).owesAt () t.succ
        ∗ bigSep Finset.univ fun w => iprop(∃ X, ⌜(vdat m c).after w t (Y w) X⌝
          ∗ owns (c : Thread nD τ) (((cfg0 (F := Ideal)).win w).stage ((cfg0 (F := Ideal)).slots t w)) fullShare X)) := by
  rw [bigSep_W0, show (vdat m c).Φ t.succ = Pipeline.ΦA spec0 c from rfl,
    show (vdat m c).owesAt () t.succ = (vdat m c).owesAt () t.castSucc from rfl]
  unfold Pipeline.ΦA
  rw [scopedRest0_eq]
  simp only [← owns_whole, own_eq]
  iintro ⟨⟨%μ, %hμ, W0, W1, W2, W3, W4, W5, W6, W7, S0, S1, S2, S3, S4, S5, S6, S7, S8, S9, S10, S11⟩, HR, HO⟩
  isplitl [HR S0 S1 S2 S3 S4 S5 S6 S7 S8 S9 S10 S11]
  · isplitr [HR]
    swap; · iexact HR
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    iexists _; iexact S11
  isplitl [HO]; · iexact HO
  isplitl [W0]; · iexists (μ .xq); isplitr; · ipureintro; trivial
                  iexact W0
  isplitl [W1]; · iexists (μ .xs); isplitr; · ipureintro; trivial
                  iexact W1
  isplitl [W2]; · iexists (μ .xk); isplitr; · ipureintro; trivial
                  iexact W2
  isplitl [W3]; · iexists (μ .ks); isplitr; · ipureintro; trivial
                  iexact W3
  isplitl [W4]; · iexists (μ .xv); isplitr; · ipureintro; trivial
                  iexact W4
  isplitl [W5]; · iexists (μ .vs); isplitr; · ipureintro; trivial
                  iexact W5
  isplitl [W6]; · iexists (μ .oc); isplitr; · ipureintro; exact oc_of hμ
                  iexact W6
  iexists (μ .oe); isplitr; · ipureintro; exact oe_of hμ
  iexact W7

theorem vbody_runs (c : Dev nD) (t : Fin (cfg0 (F := Ideal)).N) {I : In} (μ : Mem Ideal) (hW : Win I μ) :
    (own c (refs t) μ : sProp 𝕄) ⊢ wp Idealize.ShloMosaic.frame (wpE (defs₀ (F := Ideal)) Variants.nat (c : Thread nD τ) none)
      Set.univ (bodyAt0 t) (fun _ => iprop(∃ μ', ⌜Ep I 72 8 μ'⌝ ∗ own c (refs t) μ')) := by
  have h2 := body_ev (c := c) (R := refs t) (i := grid0.coords t) (H := refs_whole t) hW
  unfold Ev at h2
  dsimp only [refs] at h2
  unfold bodyAt0
  dsimp only [refs]
  convert h2 using 4

theorem vbody_obligation (c : Dev nD) : (vdat m c).BodyObligation (defs₀ (F := Ideal)) Variants.nat () Set.univ := fun t Y hY => by
  rw [bigSep_W0, defs₀_row, show (vdat m c).Φ t.castSucc = Pipeline.ΦA spec0 c from rfl]
  unfold Pipeline.ΦA
  rw [scopedRest0_eq]
  simp only [← owns_whole]
  iintro ⟨⟨⟨⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩, ⟨%d10, S10⟩, ⟨%d11, S11⟩⟩, HR⟩,
    HO, W0, W1, W2, W3, W4, W5, W6, W7⟩
  have h := vbody_runs c t (mem t Y d0 d1 d2 d3 d4 d5 d6 d7 d8 d9 d10 d11) (win_of m c t Y hY d0 d1 d2 d3 d4 d5 d6 d7 d8 d9 d10 d11)
  rw [own_eq (μ := mem t Y d0 d1 d2 d3 d4 d5 d6 d7 d8 d9 d10 d11)] at h
  have h' := (wp_frame_r Idealize.ShloMosaic.frame (wpE (defs₀ (F := Ideal)) Variants.nat (c : Thread nD τ) none) Set.univ
    (R := iprop((∃ r, prngReg c r) ∗ (vdat m c).owesAt () t.castSucc))).trans
    (wp_mono _ _ _ (p := bodyAt0 t) fun _ => vpipe_finish m c t Y)
  iapply h'
  isplitr [HR HO]
  · iapply h
    dsimp only [mem]
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [HR]; · iexact HR
  iexact HO

/-- Every execution ends, with every semaphore at zero and the call's arrays and the other arguments accounted for. -/
theorem vrun_main : θ_run defs (onTc (τ := τ) (main (F := Ideal))) (s₀ m ρ)
    (fun r => RDat.FramePost (cfg0 (F := Ideal)) (vdat m) (V m) r ∧ r.2.sem = fun _ => 0) :=
  RDat.θ_run_frame cfgs (0 : Fin 1) launch0 defs₀ Variants.nat (vdat m) m ρ main (vbody_obligation m)
    (fun c w => by unfold RDat.share; split <;> rfl) (fun _ _ => rfl) (V m) (hmain m Variants.nat) (vA_eq m) (fun _ _ => rfl) (Q' := _) (hQ' := fun _ h => h)

/-- The kernel's results and its unchanged arguments. -/
theorem value : θ_run defs (onTc (τ := τ) (main (F := Ideal))) ⟨m, fun _ => 0, ρ⟩ (fun r => ∀ c : Dev nD,
      (∀ y : S16x2048x1152.Idx, @Eq EReal (r.2.mem ((c.tc : Thread nD τ).loc main_v2_0) y) (O (inK m c (y 0).val) (y 2).val (y 1).val))
      ∧ (∀ y : S16x2048x36.Idx, @Eq (BitVec 8) (r.2.mem ((c.tc : Thread nD τ).loc main_v2_1) y) (XB (inK m c (y 0).val) (y 2).val (y 1).val))) := by
  refine (θ_run defs _ _).mono (fun r ⟨h, hs⟩ c => ?_) (vrun_main m ρ)
  obtain ⟨after, hL, hA⟩ := RDat.FramePost.exists_exact h c
  refine ⟨fun y => ?_, fun y => ?_⟩
  · refine (congrFun (hA 6) y).trans ?_
    refine Pipeline.Dat.arrAt_forall_of_covers ((vdat m c).withAfter after) 6 (fun i v => @Eq EReal v (O (inK m c (i 0).val) (i 2).val (i 1).val)) (by decide +kernel) (fun t hf z => ?_) y
    have h0 : (z 0).val < 1 := (z 0).isLt
    obtain ⟨Y, -, hX⟩ := hL 6 t hf
    have hz := hX z
    blk_simp
    rw [(ix_6 t).1, (ix_6 t).2.1, (ix_6 t).2.2, Nat.zero_mul, Nat.zero_add, Nat.zero_add]
    refine Eq.trans ?_ hz
    rfl
  · refine (congrFun (hA 7) y).trans ?_
    refine Pipeline.Dat.arrAt_forall_of_covers ((vdat m c).withAfter after) 7 (fun i v => @Eq (BitVec 8) v (XB (inK m c (i 0).val) (i 2).val (i 1).val)) (by decide +kernel) (fun t hf z => ?_) y
    have h0 : (z 0).val < 1 := (z 0).isLt
    obtain ⟨Y, -, hX⟩ := hL 7 t hf
    have hz := hX z
    blk_simp
    simp only [(ix_7 t).1, (ix_7 t).2.1, (ix_7 t).2.2, Nat.zero_mul, Nat.zero_add]
    refine Eq.trans ?_ hz
    rfl

end Cert.KernelIdeal.Pair
-- ==== Proof.Value.RefEv.lean ====
/-
  Running the reference's programs over the contents of its buffers: `Ev` says that a program, holding every
  buffer at given contents, ends with the buffers at contents its result is described with; one rule per operation.
-/
module

public import proofs.«01_k».proof.Proof.Gen.ReferenceIdeal
public import Idealize.ShloMosaic.Lib.Tactic
public import Idealize.ShloMosaic.Lib.Exec
public import Idealize.ShloMosaic.Lib.Claim
public import Idealize.ShloMosaic.Lib.Pipeline.Frame
public import Idealize.ShloMosaic.Lib.Pipeline.FrameBody

@[expose] public section

noncomputable section

namespace Cert.ReferenceIdeal.Pair

open Cert.ReferenceIdeal Cert.ReferenceIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

/-- A program of the reference. -/
abbrev Pr (F : FTy → Type) [FloatOps F] (α : Type) := Prog (TpuEff nD τ sig (Elt F) Λ₀ .tc) α

/-- The reference's buffers: its six operands and its two results. -/
inductive Slot where
  | xq | xs | xk | ks | xv | vs | oc | oe
  deriving DecidableEq

instance : Fintype Slot :=
  ⟨⟨Multiset.ofList [.xq, .xs, .xk, .ks, .xv, .vs, .oc, .oe], by decide⟩,
    fun s => by cases s <;> decide⟩

/-- A buffer's shape. -/
@[reducible] def Slot.shape : Slot → Shape
  | .xq => S16x2048x1152 | .xs => S16x2048x12 | .xk => S16x2048x384 | .ks => S16x4x2048 | .xv => S16x2048x384 | .vs => S16x4x2048
  | .oc => S16x2048x1152 | .oe => S16x2048x36

/-- A buffer's element type. -/
@[reducible] def Slot.elt : Slot → EltTy
  | .xq => .fp8e4m3 | .xs => .f32 | .xk => .fp8e4m3 | .ks => .f32 | .xv => .fp8e4m3 | .vs => .f32
  | .oc => .fp8e4m3 | .oe => .i8

/-- Where each buffer is. -/
abbrev Refs := ∀ s : Slot, Memref sig .tc .vmem s.shape s.elt

/-- What each buffer holds. -/
abbrev Mem (F : FTy → Type) := ∀ s : Slot, s.shape.Idx → Elt F s.elt

local notation "𝕄" => MT nD τ sig Unit (Elt F) ℕ (UR sig nD τ) ℕ

/-- All buffers held, at the given contents. -/
def own (c : Dev nD) (R : Refs) (μ : Mem F) : sProp 𝕄 :=
  bigSep Finset.univ fun s => owns (c : Thread nD τ) (R s) fullShare (μ s)

/-- A rectangle of contents overwritten. -/
def put {s : Shape} {e : EltTy} (r : Rect s) (w : r.shape.Idx → Elt F e) (X : s.Idx → Elt F e) : s.Idx → Elt F e :=
  fun y => match preimage? r.emb y with | some x => w x | none => X y

theorem read_put {s : Shape} {e : EltTy} (m : Memref sig .tc .vmem s e) (r : Rect s) (f : m.view.ty.Contents (Elt F))
    (w : r.shape.Idx → Elt F e) :
    m.view.read (Elt F) ((m.access r).write (Elt F) f w Finset.univ) = put r w (m.view.read (Elt F) f) := by
  funext y
  unfold put
  cases h : preimage? r.emb y with
  | some x =>
    obtain rfl : r.emb x = y := by
      by_cases hx : ∃ x', r.emb x' = y
      · obtain ⟨x', rfl⟩ := hx
        rw [preimage?_emb] at h; cases h; rfl
      · rw [preimage?_eq_none fun x' h' => hx ⟨x', h'⟩] at h; cases h
    exact View.read_slice_write_emb r f w (Finset.mem_univ x)
  | none =>
    refine View.read_slice_write_of_not_mem r f w Finset.univ ?_
    intro hm
    obtain ⟨x, -, rfl⟩ := Finset.mem_map.mp hm
    rw [preimage?_emb] at h; cases h

variable (c : Dev nD) (R : Refs) (bd : Option ℕ)

theorem bigSep_slot (s : Slot) (Φ : Slot → sProp 𝕄) :
    bigSep Finset.univ Φ = iprop(Φ s ∗ bigSep (Finset.univ.erase s) Φ) := bigSep_erase (Finset.mem_univ s)

/-- One buffer taken out of all of them, to be put back at any contents. -/
theorem own_take (s : Slot) (μ : Mem F) :
    own c R μ ⊢ iprop(owns (c : Thread nD τ) (R s) fullShare (μ s)
      ∗ (∀ X, owns (c : Thread nD τ) (R s) fullShare X -∗ own c R (Function.update μ s X))) := by
  unfold own
  rw [bigSep_slot s]
  iintro ⟨H, HR⟩
  isplitl [H]; · iexact H
  iintro %X HX
  rw [bigSep_slot s, Function.update_self]
  isplitl [HX]; · iexact HX
  rw [show bigSep (Finset.univ.erase s) (fun s' => (owns (c : Thread nD τ) (R s') fullShare (Function.update μ s X s') : sProp 𝕄))
    = bigSep (Finset.univ.erase s) (fun s' => owns (c : Thread nD τ) (R s') fullShare (μ s')) from
    bigSep_congr fun s' hs' => by rw [Function.update_of_ne (Finset.ne_of_mem_erase hs')]]
  iexact HR

/-- The program, from the buffers at `μ`, ends in a result and contents `Q` holds of. -/
def Ev {α : Type} (p : Pr F α) (μ : Mem F) (Q : α → Mem F → Prop) : Prop :=
  own c R μ ⊢ wp frame (wpE (defs₀ (F := F)) Variants.nat (c : Thread nD τ) bd) Set.univ p
    (fun a => iprop(∃ μ', ⌜Q a μ'⌝ ∗ own c R μ'))

variable {c R bd}

theorem Ev.ret {α : Type} {a : α} {μ : Mem F} {Q : α → Mem F → Prop} (h : Q a μ) : Ev c R bd (.ret a) μ Q := by
  unfold Ev
  rw [wp_ret]
  iintro H; imodintro
  iexists μ; isplitr; · ipureintro; exact h
  iexact H

theorem Ev.mono {α : Type} {p : Pr F α} {μ : Mem F} {Q Q' : α → Mem F → Prop} (h : Ev c R bd p μ Q)
    (hQ : ∀ a μ', Q a μ' → Q' a μ') : Ev c R bd p μ Q' := by
  unfold Ev at *
  refine h.trans (wp_mono _ _ _ fun a => ?_)
  iintro ⟨%μ', %hq, H⟩
  iexists μ'; isplitr; · ipureintro; exact hQ a μ' hq
  iexact H

theorem Ev.bind {α β : Type} {p : Pr F α} {k : α → Pr F β} {μ : Mem F} {Q : α → Mem F → Prop} {Q' : β → Mem F → Prop}
    (h : Ev c R bd p μ Q) (hk : ∀ a μ', Q a μ' → Ev c R bd (k a) μ' Q') : Ev c R bd (p >>= k) μ Q' := by
  unfold Ev at *
  rw [wp_bind]
  refine h.trans (wp_mono _ _ _ fun a => ?_)
  iintro ⟨%μ', %hq, H⟩
  iapply (hk a μ' hq)
  iexact H

/-- A load reads the buffer's contents. -/
theorem Ev.load (s : Slot) {r : Rect s.shape} {hl : (R s).view.LoadsAt r.toLoadRect} {β : Type} {k : (r.shape.Idx → Elt F s.elt) → Pr F β}
    {μ : Mem F} {Q : β → Mem F → Prop} (h : Ev c R bd (k fun x => μ s (r.emb x)) μ Q) :
    Ev c R bd (.op (.load (R s) r.toLoadRect hl) k) μ Q := by
  unfold Ev at *
  refine (own_take c R s μ).trans ?_
  unfold owns
  iintro ⟨⟨%f, %hf, H⟩, HR⟩
  iapply (wp_load_rect (𝒱 := Variants.nat) (c : Thread nD τ) bd Set.univ (m := R s) (r := r) (by
    rw [show ((R s).access r).set = (R s).view.setOn r.set from View.set_slice _ _]; exact Finset.map_subset_map.mpr (Finset.subset_univ _))) $$ H
  iintro H
  rw [show (((R s).access r).read (Elt F) f) = (fun x => μ s (r.emb x)) from by rw [← hf]; rfl]
  iapply h
  rw [show (own c R μ : sProp 𝕄) = own c R (Function.update μ s (μ s)) from by rw [Function.update_eq_self]]
  iapply HR
  iexists f; isplitr; · ipureintro; exact hf
  iexact H

/-- A store overwrites a rectangle of the buffer's contents. -/
theorem Ev.store (s : Slot) {r : Rect s.shape} {w : r.shape.Idx → Elt F s.elt} {hx : ((R s).access r).Stores Finset.univ}
    {hm : (Finset.univ : Finset r.shape.Idx) = Finset.univ ∨ ∀ a, r.stride a = 1} {β : Type} {k : PUnit → Pr F β}
    {μ : Mem F} {Q : β → Mem F → Prop} (h : Ev c R bd (k ⟨⟩) (Function.update μ s (put r w (μ s))) Q) :
    Ev c R bd (.op (.store (R s) r w Finset.univ hx hm) k) μ Q := by
  unfold Ev at *
  refine (own_take c R s μ).trans ?_
  unfold owns
  iintro ⟨⟨%f, %hf, H⟩, HR⟩
  iapply (wp_store (𝒱 := Variants.nat) (c : Thread nD τ) bd Set.univ (m := R s) (r := r) (Mk := Finset.univ) (by
    rw [View.setOn_univ, show ((R s).access r).set = (R s).view.setOn r.set from View.set_slice _ _]; exact Finset.map_subset_map.mpr (Finset.subset_univ _))) $$ H
  iintro H
  iapply h
  iapply HR
  iexists _; isplitr
  swap; · iexact H
  ipureintro
  rw [read_put, hf]

theorem Ev.assume {P : Prop} {d : Decidable P} {β : Type} {k : PLift P → Pr F β} {μ : Mem F} {Q : β → Mem F → Prop} (hP : P)
    (h : Ev c R bd (k ⟨hP⟩) μ Q) : Ev c R bd (.op (.assume P d) k) μ Q := by
  unfold Ev at *
  exact h.trans (wp_assume _ _ _ _ hP)

/-- A counted loop, by an invariant. -/
theorem Ev.for {w : ℕ} {σ : Type} {lb ub st : BitVec w} {hok : Scf.OK lb ub st} {init : σ}
    {body : Fin (Scf.trips lb ub st) → σ → Pr F σ} {μ : Mem F} (I : ℕ → σ → Mem F → Prop) (h0 : I 0 init μ)
    (hbody : ∀ k acc μ', I k.val acc μ' → Ev c R bd (body k acc) μ' (I (k.val + 1))) :
    Ev c R bd (Scf.for lb ub st hok init body) μ (I (Scf.trips lb ub st)) := by
  unfold Ev at *
  have := Scf.wp_for frame (wpE (defs₀ (F := F)) Variants.nat (c : Thread nD τ) bd) Set.univ lb ub st hok init body
    (fun k acc => iprop(∃ μ', ⌜I k acc μ'⌝ ∗ own c R μ')) (fun k acc => by
      iintro ⟨%μ', %hq, H⟩
      iapply (hbody k acc μ' hq)
      iexact H) (Q := fun acc => iprop(∃ μ', ⌜I (Scf.trips lb ub st) acc μ'⌝ ∗ own c R μ'))
  refine BIBase.Entails.trans ?_ this
  iintro H
  isplitl [H]
  · iexists μ; isplitr; · ipureintro; exact h0
    iexact H
  iintro %acc H
  iexact H

end Cert.ReferenceIdeal.Pair
-- ==== Proof.Value.RefVal.lean ====
/-
  What the reference's operations give, over the extended reals.
-/
module

public import proofs.«01_k».proof.Proof.Value.RefEv
public import proofs.«01_k».proof.Proof.Value.RunK

@[expose] public section

noncomputable section

namespace Cert.ReferenceIdeal.Pair

open Idealize.ShloMosaic Idealize.SL.Sem Cert.ReferenceIdeal Attn
open Cert.ReferenceIdeal.Facts₀
open Cert.KernelIdeal.Pair (In inp O X XB sE fold_max expS codS expF amx oo ww pf dn cvG cv evG ev emb_unit c2 c3)
open Finset (range)

variable [Facts] [Cert.KernelIdeal.Facts]

theorem off1 : ∀ (b : Fin k0_t1_loop.trips) (h : Fin k0_t2_loop.trips), k0_off1 b h = ![b.val, 0, 96 * h.val] := by decide +kernel
theorem off2 : ∀ (b : Fin k0_t1_loop.trips) (h : Fin k0_t2_loop.trips), k0_off2 b h = ![b.val, 0, 96 * (h.val / 3)] := by decide +kernel
theorem off3 : ∀ (b : Fin k0_t1_loop.trips) (h : Fin k0_t2_loop.trips), k0_off3 b h = ![b.val, 0, h.val] := by decide +kernel
theorem off4 : ∀ (b : Fin k0_t1_loop.trips) (h : Fin k0_t2_loop.trips), k0_off4 b h = ![b.val, h.val / 3, 0] := by decide +kernel
theorem off5 : ∀ (b : Fin k0_t1_loop.trips) (h : Fin k0_t2_loop.trips) (n : Fin 3), k0_off5 b h (BitVec.ofNat 32 (32 * n.val)) = ![b.val, 0, 96 * h.val + 32 * n.val] := by decide +kernel
theorem off6 : ∀ (b : Fin k0_t1_loop.trips) (h : Fin k0_t2_loop.trips) (n : Fin 3), k0_off6 b h (BitVec.ofNat 32 n.val) = ![b.val, 0, 3 * h.val + n.val] := by decide +kernel

/-- The arrays of the reference hold these values. -/
structure Con (x : S16x2048x1152.Idx → EReal) (xs : S16x2048x12.Idx → EReal) (k : S16x2048x384.Idx → EReal) (ks : Cert.KernelIdeal.S16x2048x4.Idx → EReal)
    (v : S16x2048x384.Idx → EReal) (vs : Cert.KernelIdeal.S16x2048x4.Idx → EReal) (μ : Mem Ideal) : Prop where
  x : ∀ y, @Eq EReal (μ .xq y) (at3 x (y 0).val (y 1).val (y 2).val)
  xs : ∀ y, @Eq EReal (μ .xs y) (at3 xs (y 0).val (y 1).val (y 2).val)
  k : ∀ y, @Eq EReal (μ .xk y) (at3 k (y 0).val (y 1).val (y 2).val)
  ks : ∀ y, @Eq EReal (μ .ks y) (at3 ks (y 0).val (y 2).val (y 1).val)
  v : ∀ y, @Eq EReal (μ .xv y) (at3 v (y 0).val (y 1).val (y 2).val)
  vs : ∀ y, @Eq EReal (μ .vs y) (at3 vs (y 0).val (y 2).val (y 1).val)

variable {c : Dev nD} {R : Refs} {bd : Option ℕ} (hw : ∀ s, (R s).IsWhole)
variable {x : S16x2048x1152.Idx → EReal} {xs : S16x2048x12.Idx → EReal} {k : S16x2048x384.Idx → EReal} {ks : Cert.KernelIdeal.S16x2048x4.Idx → EReal}
    {v : S16x2048x384.Idx → EReal} {vs : Cert.KernelIdeal.S16x2048x4.Idx → EReal}

theorem qk_apply (a b : FVec Ideal S2048x96 .fp8e4m3) (y : S2048x2048.Idx) :
    @Eq EReal (matmul dot_S2048x96_S2048x96_S2048x2048_1_1_0_0_n_n none a b (constant S2048x2048 .f32 0x00000000#32) y)
      (∑ d : Fin 96, (a (ix2 (y 0) d) : EReal) * b (ix2 (y 1) d)) := by
  pointwise

theorem pv_apply (a : FVec Ideal S2048x2048 .bf16) (b : FVec Ideal S2048x96 .bf16) (y : S2048x96.Idx) :
    @Eq EReal (matmul dot_S2048x2048_S2048x96_S2048x96_1_0_0_1_n_n none a b (constant S2048x96 .f32 0x00000000#32) y)
      (∑ d : Fin 2048, (a (ix2 (y 0) d) : EReal) * b (ix2 d (y 1))) := by
  pointwise

/-- The masked scores of a head, queries by keys. -/
def scoresR (a : FVec Ideal S2048x2048 .f32) (s : Vec Ideal S1x1x2048 .f32) : FVec Ideal S2048x2048 .f32 :=
  select (cmpi .sle (iota .tc S2048x2048 32 [1] iota_S2048x2048_d1_w32) (iota .tc S2048x2048 32 [0] iota_S2048x2048_d0_w32))
    (mulf (mulf a (broadcastTo S2048x2048 (shapeCast S1x2048 s shapeCasts_S1x1x2048_S1x2048) broadcasts_S1x2048_S2048x2048))
      (broadcast S2048x2048 (Scalar.ofBits .f32 0x3E16C740#32))) (broadcast S2048x2048 (Scalar.ofBits .f32 0xFF800000#32))

/-- The softmax weights. -/
def probR (z : FVec Ideal S2048x2048 .f32) : FVec Ideal S2048x2048 .f32 :=
  let p := exp2 (subf z (broadcastTo S2048x2048 (shapeCast S2048x1 (multiReduction .maximumf [1] S2048 z 0xFF800000#32 reduces_S2048x2048_S2048 (.inl rfl) rfl)
    shapeCasts_S2048_S2048x1) broadcasts_S2048x1_S2048x2048))
  mulf p (broadcastTo S2048x2048 (divf (broadcast S2048x1 (Scalar.ofBits .f32 0x3F800000#32))
    (shapeCast S2048x1 (multiReduction .add [1] S2048 p 0x00000000#32 reduces_S2048x2048_S2048 (.inl rfl) rfl) shapeCasts_S2048_S2048x1)) broadcasts_S2048x1_S2048x2048)

/-- The weighted sum of the values. -/
def outR (p : FVec Ideal S2048x2048 .f32) (s : Vec Ideal S1x1x2048 .f32) (v : FVec Ideal S2048x96 .bf16) : FVec Ideal S2048x96 .f32 :=
  matmul dot_S2048x2048_S2048x96_S2048x96_1_0_0_1_n_n none (truncf .bf16 (mulf p (broadcastTo S2048x2048
    (shapeCast S1x2048 s shapeCasts_S1x1x2048_S1x2048) broadcasts_S1x2048_S2048x2048)) bitsLt_bf16_f32) v (constant S2048x96 .f32 0x00000000#32)

/-- A block's largest absolute value. -/
def amaxR (o : FVec Ideal S2048x32 .f32) : FVec Ideal S2048x1 .f32 :=
  shapeCast S2048x1 (multiReduction .maximumf [1] S2048 (absf o) 0xFF800000#32 reduces_S2048x32_S2048 (.inl rfl) rfl) shapeCasts_S2048_S2048x1

/-- The floor of the logarithm in base two of a block's fraction of the largest code. -/
def flogR (a : FVec Ideal S2048x1 .f32) : FVec Ideal S2048x1 .f32 :=
  floor (divf (log (mulf a (broadcast S2048x1 (Scalar.ofBits .f32 0x3B124925#32)))) (log (broadcast S2048x1 (Scalar.ofBits .f32 0x40000000#32))))

/-- The exponent of its scale. -/
def expoR (a : FVec Ideal S2048x1 .f32) : IVec S2048x1 32 :=
  select (cmpf .oeq a (broadcast S2048x1 (Scalar.ofBits .f32 0x00000000#32))) (broadcast S2048x1 0#32)
    (addi (fptosi 32 (flogR a)) (broadcast S2048x1 1#32))

/-- Its codes. -/
def codesR (o : FVec Ideal S2048x32 .f32) (e : IVec S2048x1 32) : FVec Ideal S2048x32 .fp8e4m3 :=
  truncf .fp8e4m3 (minimumf (broadcast S2048x32 (Scalar.ofBits .f32 0x43E00000#32)) (maximumf (broadcast S2048x32 (Scalar.ofBits .f32 0xC3E00000#32))
    (mulf o (broadcastTo S2048x32 (exp2 (sitofp .f32 (subi (broadcast S2048x1 0#32) e))) broadcasts_S2048x1_S2048x32)))) bitsLt_fp8e4m3_f32

theorem scoresR_apply (I : In) (h : ℕ) (xh : ℕ → EReal) (hC : ∀ q, I.C h q = xh q * Ideal.ofBits .f32 0x3E16C740#32)
    (a : FVec Ideal S2048x2048 .f32) (s : Vec Ideal S1x1x2048 .f32) (y : S2048x2048.Idx)
    (ha : ∀ y, @Eq EReal (a y) (I.sc h (y 1).val (y 0).val * xh (y 0).val)) (hs : ∀ y, @Eq EReal (s y) (I.KS (h / 3) (y 2).val)) :
    @Eq EReal (scoresR a s y) (I.Z h (y 0).val (y 1).val) := by
  unfold scoresR In.Z
  pointwise
  have h0 : (y 0).val < 2048 := (y 0).isLt
  have h1 : (y 1).val < 2048 := (y 1).isLt
  have e := Cert.KernelIdeal.Pair.sle_small (y 1).val (y 0).val (by omega) (by omega)
  rw [ha, hs, hC]
  by_cases h3 : (y 1).val ≤ (y 0).val
  · rw [if_pos h3]
    refine (if_pos (e.mpr h3)).trans ?_
    show _ * I.KS (h / 3) (y 1).val * _ = _
    rw [mul_assoc, mul_assoc, mul_assoc, mul_left_comm (xh _)]
  · rw [if_neg h3]
    exact (if_neg fun h' => h3 (e.mp h')).trans Cert.KernelIdeal.Pair.negInf32

theorem probR_apply (I : In) (h : ℕ) (z : FVec Ideal S2048x2048 .f32) (y : S2048x2048.Idx) (hz : ∀ y, @Eq EReal (z y) (I.Z h (y 0).val (y 1).val)) :
    @Eq EReal (probR z y) (ww I (fun _ => h) (fun _ q => sE I h q) 0 (y 0).val (y 1).val) := by
  unfold probR ww pf dn den sE
  pointwise
  have hf : Finset.fold max (Ideal.ofBits .f32 0xFF800000#32) (fun x => (z (ix2 (y 0) x) : EReal)) Finset.univ = (range 2048).sup (I.Z h (y 0).val) := by
    rw [← fold_max]
    congr 1
    funext k
    exact hz _
  rw [← Fin.sum_univ_eq_sum_range (fun x => Ideal.exp2 (I.Z h (y 0).val x - (range 2048).sup (I.Z h (y 0).val))) 2048]
  refine congrArg₂ (· * Ideal.div 1 ·) ?_ (Finset.sum_congr rfl fun k _ => ?_)
  · exact congrArg Ideal.exp2 (congrArg₂ (· - ·) (hz y) hf)
  · exact congrArg Ideal.exp2 (congrArg₂ (· - ·) (hz _) hf)

theorem outR_apply (I : In) (h : ℕ) (vg : ℕ → ℕ → EReal) (sg : ℕ → EReal) (hV : ∀ r q, I.V (h / 3) r q = vg r q * sg q)
    (p : FVec Ideal S2048x2048 .f32) (s : Vec Ideal S1x1x2048 .f32) (v : FVec Ideal S2048x96 .bf16) (y : S2048x96.Idx)
    (hp : ∀ y, @Eq EReal (p y) (ww I (fun _ => h) (fun _ q => sE I h q) 0 (y 0).val (y 1).val))
    (hs : ∀ y, @Eq EReal (s y) (sg (y 2).val)) (hv : ∀ y, @Eq EReal (v y) (vg (y 1).val (y 0).val)) :
    @Eq EReal (outR p s v y) (oo I (fun _ => h) (fun _ q => sE I h q) 0 (y 1).val (y 0).val) := by
  unfold outR oo
  rw [← Fin.sum_univ_eq_sum_range (fun k => I.V (h / 3) (y 1).val k * ww I (fun _ => h) (fun _ q => sE I h q) 0 (y 0).val k) 2048]
  refine (pv_apply _ _ y).trans (Finset.sum_congr rfl fun k _ => ?_)
  pointwise
  rw [hp, hs, hv, hV, mul_assoc, mul_comm]
  refine congrArg (· * _) ?_
  exact mul_comm _ _

theorem amaxR_apply (o : FVec Ideal S2048x32 .f32) (f : ℕ → EReal) (b : ℕ) (y : S2048x1.Idx)
    (hf : ∀ i : Fin 32, @Eq EReal (o (ix2 (y 0) i)) (f (32 * b + i.val))) : @Eq EReal (amaxR o y) (amx f b) := by
  unfold amaxR amx
  pointwise
  rw [← fold_max]
  congr 1
  funext i
  rw [← hf i]

theorem expoR_apply (a : FVec Ideal S2048x1 .f32) (y : S2048x1.Idx) : expoR a y = expS (a y) := by
  unfold expS expoR flogR flog2
  pointwise

theorem codesR_apply (o : FVec Ideal S2048x32 .f32) (f : ℕ → EReal) (b : ℕ) (y : S2048x32.Idx)
    (hf : ∀ i : Fin 32, @Eq EReal (o (ix2 (y 0) i)) (f (32 * b + i.val))) :
    @Eq EReal (codesR o (expoR (amaxR o)) y) (codS (amx f b) (f (32 * b + (y 1).val))) := by
  have h := amaxR_apply o f b (ix2 (y 0) 0) hf
  have h2 : @Eq EReal (o y) (f (32 * b + (y 1).val)) := by
    refine (congrArg o (show y = ix2 (y 0) (y 1) from ?_)).trans (hf (y 1))
    funext a
    match a with
    | ⟨0, _⟩ => rfl
    | ⟨1, _⟩ => rfl
  unfold codesR codS
  pointwise
  rw [expoR_apply]
  rw [h, h2]
  rfl

theorem fptosi_sitofp (b : BitVec 32) : FloatOps.fptosi (F := Ideal) (φ := .f32) 32 (FloatOps.sitofp (F := Ideal) .f32 b) = b := by
  show Ideal.fptosi 32 ((b.toInt : ℝ) : EReal) = b
  unfold Ideal.fptosi
  have h1 := b.toInt_lt
  have h2 := b.le_toInt
  have : Ideal.toIntClamped (-(2 ^ (32 - 1) : Nat)) ((2 ^ (32 - 1) : Nat) - 1) ((b.toInt : ℝ) : EReal) = b.toInt := by
    show max _ (min _ (if (0:ℝ) ≤ (b.toInt : ℝ) then ⌊(b.toInt : ℝ)⌋ else ⌈(b.toInt : ℝ)⌉)) = _
    rw [Int.floor_intCast, Int.ceil_intCast, ite_self]
    norm_num at h1 h2 ⊢
    omega
  rw [this, BitVec.ofInt_toInt]

/-- The three blocks of a head's output. -/
def blockR (n : Fin 3) (o : FVec Ideal S2048x96 .f32) : FVec Ideal S2048x32 .f32 :=
  match n with
  | 0 => extractStridedSlice S2048x32 ![0, 0] o slices_S2048x96_o0_0_S2048x32
  | 1 => extractStridedSlice S2048x32 ![0, 32] o slices_S2048x96_o0_32_S2048x32
  | 2 => extractStridedSlice S2048x32 ![0, 64] o slices_S2048x96_o0_64_S2048x32

theorem blockR_apply (n : Fin 3) (o : FVec Ideal S2048x96 .f32) (f : ℕ → ℕ → EReal) (ho : ∀ y, @Eq EReal (o y) (f (y 0).val (y 1).val)) (y : S2048x32.Idx) :
    @Eq EReal (blockR n o y) (f (y 0).val (32 * n.val + (y 1).val)) := by
  match n with
  | 0 => unfold blockR; pointwise; rw [ho]; refine congrArg₂ f ?_ ?_ <;> simp
  | 1 => unfold blockR; pointwise; rw [ho]; refine congrArg₂ f ?_ ?_ <;> simp
  | 2 => unfold blockR; pointwise; rw [ho]; refine congrArg₂ f ?_ ?_ <;> simp

end Cert.ReferenceIdeal.Pair
-- ==== Proof.Value.RefBody.lean ====
/-
  The reference's loops: after each head its codes and exponents are stored.
-/
module

public import proofs.«01_k».proof.Proof.Value.RefVal

@[expose] public section

noncomputable section

namespace Cert.ReferenceIdeal.Pair

open Idealize.ShloMosaic Idealize.SL.Sem Cert.ReferenceIdeal Attn
open Cert.ReferenceIdeal.Facts₀
open Cert.KernelIdeal.Pair (In inp O X XB sE fold_max expS codS expF amx oo ww pf dn cvG cv evG ev emb_unit c2 c3)
open Finset (range)

variable [Facts] [Cert.KernelIdeal.Facts]
variable {c : Dev nD} {R : Refs} {bd : Option ℕ} (hw : ∀ s, (R s).IsWhole)
variable {x : S16x2048x1152.Idx → EReal} {xs : S16x2048x12.Idx → EReal} {k : S16x2048x384.Idx → EReal} {ks : Cert.KernelIdeal.S16x2048x4.Idx → EReal}
    {v : S16x2048x384.Idx → EReal} {vs : Cert.KernelIdeal.S16x2048x4.Idx → EReal}

/-- A store through a unit rectangle, read at an index. -/
theorem put_unit {s : Shape} {e : EltTy} (off size : Fin s.rank → ℕ) (inb : ∀ a, off a + size a ≤ s.size a)
    (w : (Rect.unit (s := s) off size inb).shape.Idx → Elt Ideal e) (X : s.Idx → Elt Ideal e) (y : s.Idx) :
    put (Rect.unit off size inb) w X y = if h : ∀ a, off a ≤ (y a).val ∧ (y a).val < off a + size a then
      w (fun a => ⟨(y a).val - off a, by have := h a; show _ < size a; omega⟩) else X y := by
  unfold put
  split_ifs with h
  · have : (Rect.unit (s := s) off size inb).emb (fun a => ⟨(y a).val - off a, by have := h a; show _ < size a; omega⟩) = y := by
      funext a; apply Fin.ext; rw [Rect.emb_apply]
      show off a + 1 * ((y a).val - off a) = _
      have := h a; omega
    conv_lhs => rw [← this]
    rw [preimage?_emb]
  · rw [preimage?_eq_none]
    intro x hx
    apply h
    intro a
    rw [← hx, Rect.emb_apply]
    show off a ≤ off a + 1 * (x a).val ∧ off a + 1 * (x a).val < off a + size a
    have : (x a).val < size a := (x a).isLt
    omega

/-- A head's output. -/
abbrev hOut (I : In) (h q r : ℕ) : EReal := oo I (fun _ => h) (fun _ q => sE I h q) 0 r q

/-- A head's output, its first block and that block's exponents. -/
def qR (o : FVec Ideal S2048x96 .f32) : Σ' (v73 : FVec Ideal S2048x96 .f32) (v74 : FVec Ideal S2048x32 .f32), IVec S2048x1 32 :=
  ⟨o, blockR 0 o, expoR (amaxR (blockR 0 o))⟩

/-- One more than the floor of the logarithm, before blocks of zeros are told apart. -/
abbrev oneUp (a : FVec Ideal S2048x1 .f32) : IVec S2048x1 32 := addi (fptosi 32 (flogR a)) (broadcast S2048x1 1#32)

theorem part1_ev (b : Fin k0_t1_loop.trips) (h : Fin k0_t2_loop.trips) (a8 c0 c1 : BitVec 32) {μ : Mem Ideal} (hc : Con x xs k ks v vs μ) :
    Ev c R bd (k0_part1 (F := Ideal) (R .xq) (hw .xq) (R .xs) (hw .xs) (R .xk) (hw .xk) (R .ks) (hw .ks) (R .xv) (hw .xv) (R .vs) (hw .vs) (R .oc) (hw .oc) (R .oe) (hw .oe) b a8 c0 c1 h) μ
      (fun r μ' => μ' = μ ∧ (∀ y, @Eq EReal (r.2.2.1 y) (at3 v b.val (y 0).val (96 * (h.val / 3) + (y 1).val))) ∧
        (∀ y, @Eq EReal (r.2.2.2.1 y) ((inp x xs k ks v vs b.val).sc h.val (y 1).val (y 0).val * at3 xs b.val (y 0).val h.val)) ∧
        (∀ y, @Eq EReal (r.2.2.2.2 y) ((inp x xs k ks v vs b.val).KS (h.val / 3) (y 2).val))) := by
  unfold k0_part1
  simp only [Prog.lift, Prog.bind_op, Prog.bind_ret]
  refine .load .xq <| .load .xk <| .load .xv <| .load .xs <| .load .ks <| .ret ⟨rfl, fun y => ?_, fun y => ?_, fun y => ?_⟩
  · dsimp only
    pointwise
    rw [hc.v]
    simp only [emb_unit, off2 b h]
    refine c3 (at3 v) ?_ ?_ ?_
    · rfl
    · exact Nat.zero_add _
    · rfl
  · dsimp only
    pointwise
    unfold In.sc
    rw [← Fin.sum_univ_eq_sum_range (fun d => (inp x xs k ks v vs b.val).K (h.val / 3) (y 1).val d * (inp x xs k ks v vs b.val).Q (96 * h.val + d) (y 0).val) 96]
    refine congrArg₂ (· * ·) (Finset.sum_congr rfl fun d _ => ?_) ?_
    · rw [mul_comm, hc.x, hc.k]
      simp only [emb_unit, off2 b h, emb_unit, off1 b h]
      refine congrArg₂ (· * ·) (c3 (at3 k) rfl (Nat.zero_add _) rfl) (c3 (at3 x) rfl (Nat.zero_add _) rfl)
    · rw [hc.xs]
      simp only [emb_unit, off3 b h]
      exact c3 (at3 xs) rfl (Nat.zero_add _) rfl
  · dsimp only
    rw [hc.ks]
    have h0 : (y 0).val < 1 := (y 0).isLt
    have h1 : (y 1).val < 1 := (y 1).isLt
    simp only [emb_unit, off4 b h]
    refine c3 (at3 ks) ?_ (Nat.zero_add _) ?_
    · show b.val + (y 0).val = b.val; omega
    · show h.val / 3 + (y 1).val = h.val / 3; omega

theorem part2_ev (b : Fin k0_t1_loop.trips) (h : Fin k0_t2_loop.trips) (a8 v18 : BitVec 32) {μ : Mem Ideal} (hc : Con x xs k ks v vs μ)
    (v34 : FVec Ideal S2048x96 .bf16) (v41 : FVec Ideal S2048x2048 .f32) (v44 : Vec Ideal S1x1x2048 .f32)
    (h34 : ∀ y, @Eq EReal (v34 y) (at3 v b.val (y 0).val (96 * (h.val / 3) + (y 1).val)))
    (h41 : ∀ y, @Eq EReal (v41 y) ((inp x xs k ks v vs b.val).sc h.val (y 1).val (y 0).val * at3 xs b.val (y 0).val h.val))
    (h44 : ∀ y, @Eq EReal (v44 y) ((inp x xs k ks v vs b.val).KS (h.val / 3) (y 2).val)) :
    Ev c R bd (k0_part2 (F := Ideal) (R .xq) (hw .xq) (R .xs) (hw .xs) (R .xk) (hw .xk) (R .ks) (hw .ks) (R .xv) (hw .xv) (R .vs) (hw .vs) (R .oc) (hw .oc) (R .oe) (hw .oe) b a8 h v18 v34 v41 v44) μ
      (fun r μ' => μ' = μ ∧ ∃ o, r = qR o ∧ ∀ y, @Eq EReal (o y) (hOut (inp x xs k ks v vs b.val) h.val (y 0).val (y 1).val)) := by
  unfold k0_part2
  simp only [Prog.lift, Prog.bind_op, Prog.bind_ret]
  refine .load .vs <| .ret ⟨rfl, outR (probR (scoresR v41 v44)) (fun y => μ .vs ((Rect.unit (s := S16x4x2048) (k0_off4 b h) S1x1x2048.size (k0_off4_inb b h)).emb y)) v34, rfl, fun y => ?_⟩
  refine outR_apply _ h.val (fun r q => at3 v b.val q (96 * (h.val / 3) + r)) (fun q => at3 vs b.val q (h.val / 3)) (fun _ _ => rfl) _ _ _ y
    (fun y => probR_apply _ h.val _ y fun y => scoresR_apply _ h.val (fun q => at3 xs b.val q h.val) (fun _ => rfl) _ _ y h41 h44) (fun y => ?_) h34
  rw [hc.vs]
  have h0 : (y 0).val < 1 := (y 0).isLt
  have h1 : (y 1).val < 1 := (y 1).isLt
  simp only [emb_unit, off4 b h]
  refine c3 (at3 vs) ?_ (Nat.zero_add _) ?_
  · show b.val + (y 0).val = b.val; omega
  · show h.val / 3 + (y 1).val = h.val / 3; omega

/-- A block's codes and its biased exponents as they are stored. -/
def codeV (o : FVec Ideal S2048x32 .f32) : FVec Ideal S1x2048x32 .fp8e4m3 :=
  shapeCast S1x2048x32 (codesR o (expoR (amaxR o))) shapeCasts_S2048x32_S1x2048x32
def expV (e : IVec S2048x1 32) : IVec S1x2048x1 8 :=
  shapeCast S1x2048x1 (trunci 8 (addi e (broadcast S2048x1 127#32)) natLt_8_32) shapeCasts_S2048x1_S1x2048x1

theorem codeV_apply (I : In) (h : ℕ) (n : Fin 3) (o : FVec Ideal S2048x96 .f32) (ho : ∀ y, @Eq EReal (o y) (hOut I h (y 0).val (y 1).val)) (z : S1x2048x32.Idx) :
    @Eq EReal (codeV (blockR n o) z) (O I (96 * h + 32 * n.val + (z 2).val) (z 1).val) := by
  have h2 : (z 2).val < 32 := (z 2).isLt
  have hn := n.2
  unfold O cvG cv
  rw [show (96 * h + 32 * n.val + (z 2).val) / 96 = h by omega, show (96 * h + 32 * n.val + (z 2).val) % 96 = 32 * n.val + (z 2).val by omega,
    show (32 * n.val + (z 2).val) / 32 = n.val by omega]
  unfold codeV
  pointwise
  exact codesR_apply _ (fun r => hOut I h (z 1).val r) n.val _ fun i => blockR_apply n o (hOut I h) ho _

theorem XB_eq (I : In) (h : ℕ) (n : Fin 3) (q i : ℕ) (hi : i < 1) :
    XB I (3 * h + n.val + i) q = BitVec.setWidth 8 (IntOp.addi (expS (amx (fun r => hOut I h q r) n.val)) 127#32) := by
  have hn := n.2
  unfold XB X evG ev expF
  rw [show (3 * h + n.val + i) / 3 = h by omega, show (3 * h + n.val + i) % 3 = n.val by omega, fptosi_sitofp]

theorem expV_eq (e : IVec S2048x1 32) (z : S1x2048x1.Idx) : expV e z = BitVec.setWidth 8 (IntOp.addi (e (ix2 (z 1) 0)) 127#32) := by
  unfold expV
  pointwise

theorem expV_apply (I : In) (h : ℕ) (n : Fin 3) (o : FVec Ideal S2048x96 .f32) (ho : ∀ y, @Eq EReal (o y) (hOut I h (y 0).val (y 1).val)) (z : S1x2048x1.Idx) :
    @Eq (BitVec 8) (expV (expoR (amaxR (blockR n o))) z) (XB I (3 * h + n.val + (z 2).val) (z 1).val) := by
  have e : expoR (amaxR (blockR n o)) (ix2 (z 1) 0) = expS (amx (fun r => hOut I h (z 1).val r) n.val) :=
    (expoR_apply _ _).trans (congrArg expS (amaxR_apply _ (fun r => hOut I h (z 1).val r) n.val _ fun i => blockR_apply n o (hOut I h) ho _))
  exact (expV_eq _ z).trans ((congrArg (fun e => BitVec.setWidth 8 (IntOp.addi e 127#32)) e).trans (XB_eq I h n _ _ (z 2).isLt).symm)

/-- Sequences before `t` are done; of sequence `t`, the codes of the first `a` lanes and the first `e` exponents. -/
structure Rg (J : ℕ → In) (t a e : ℕ) (μ : Mem Ideal) : Prop where
  oc : ∀ y : S16x2048x1152.Idx, ((y 0).val < t ∨ (y 0).val = t ∧ (y 2).val < a) → @Eq EReal (μ .oc y) (O (J (y 0).val) (y 2).val (y 1).val)
  oe : ∀ y : S16x2048x36.Idx, ((y 0).val < t ∨ (y 0).val = t ∧ (y 2).val < e) → @Eq (BitVec 8) (μ .oe y) (XB (J (y 0).val) (y 2).val (y 1).val)

/-- The same, the operands unchanged. -/
def Go (x : S16x2048x1152.Idx → EReal) (xs : S16x2048x12.Idx → EReal) (k : S16x2048x384.Idx → EReal) (ks : Cert.KernelIdeal.S16x2048x4.Idx → EReal)
    (v : S16x2048x384.Idx → EReal) (vs : Cert.KernelIdeal.S16x2048x4.Idx → EReal) (t a e : ℕ) (μ : Mem Ideal) : Prop :=
  Con x xs k ks v vs μ ∧ Rg (inp x xs k ks v vs) t a e μ

theorem upd {s s' : Slot} {X : s.shape.Idx → Elt Ideal s.elt} {μ : Mem Ideal} (h : s' ≠ s) : Function.update μ s X s' = μ s' := Function.update_of_ne h ..

theorem Go.oc {t a e : ℕ} {μ : Mem Ideal} (h : Go x xs k ks v vs t a e μ) (off : Fin 3 → ℕ) (inb : ∀ i, off i + S1x2048x32.size i ≤ S16x2048x1152.size i)
    (ho : off = ![t, 0, a]) (w : FVec Ideal S1x2048x32 .fp8e4m3)
    (hwv : ∀ z, @Eq EReal (w z) (O (inp x xs k ks v vs t) (a + (z 2).val) (z 1).val)) :
    Go x xs k ks v vs t (a + 32) e (Function.update μ .oc (put (Rect.unit (s := S16x2048x1152) off S1x2048x32.size inb) w (μ .oc))) := by
  subst ho
  refine ⟨⟨?_, ?_, ?_, ?_, ?_, ?_⟩, ?_, ?_⟩
  · rw [upd (s := .oc) (s' := .xq) nofun]; exact h.1.x
  · rw [upd (s := .oc) (s' := .xs) nofun]; exact h.1.xs
  · rw [upd (s := .oc) (s' := .xk) nofun]; exact h.1.k
  · rw [upd (s := .oc) (s' := .ks) nofun]; exact h.1.ks
  · rw [upd (s := .oc) (s' := .xv) nofun]; exact h.1.v
  · rw [upd (s := .oc) (s' := .vs) nofun]; exact h.1.vs
  · intro y hy
    rw [Function.update_self]
    refine (put_unit (s := S16x2048x1152) (e := .fp8e4m3) _ _ inb w (μ .oc) y).trans ?_
    have y1 : (y 1).val < 2048 := (y 1).isLt
    split_ifs with hh
    · have h0 := hh 0
      have h2 := hh 2
      change t ≤ (y 0).val ∧ (y 0).val < t + 1 at h0
      change a ≤ (y 2).val ∧ (y 2).val < a + 32 at h2
      refine (hwv _).trans ?_
      rw [show (y 0).val = t by omega]
      refine c2 (O _) ?_ ?_
      · show a + ((y 2).val - a) = _; omega
      · show (y 1).val - 0 = _; omega
    · refine h.2.oc y ?_
      rcases hy with hy | ⟨hy, hy'⟩
      · exact .inl hy
      · refine .inr ⟨hy, ?_⟩
        by_contra hc
        refine hh fun i => ?_
        match i with
        | ⟨0, _⟩ => show t ≤ (y 0).val ∧ (y 0).val < t + 1; omega
        | ⟨1, _⟩ => show 0 ≤ (y 1).val ∧ (y 1).val < 0 + 2048; omega
        | ⟨2, _⟩ => show a ≤ (y 2).val ∧ (y 2).val < a + 32; omega
  · rw [upd (s := .oc) (s' := .oe) nofun]; exact h.2.oe

theorem Go.oe {t a e : ℕ} {μ : Mem Ideal} (h : Go x xs k ks v vs t a e μ) (off : Fin 3 → ℕ) (inb : ∀ i, off i + S1x2048x1.size i ≤ S16x2048x36.size i)
    (ho : off = ![t, 0, e]) (w : IVec S1x2048x1 8)
    (hwv : ∀ z, @Eq (BitVec 8) (w z) (XB (inp x xs k ks v vs t) (e + (z 2).val) (z 1).val)) :
    Go x xs k ks v vs t a (e + 1) (Function.update μ .oe (put (Rect.unit (s := S16x2048x36) off S1x2048x1.size inb) w (μ .oe))) := by
  subst ho
  refine ⟨⟨?_, ?_, ?_, ?_, ?_, ?_⟩, ?_, ?_⟩
  · rw [upd (s := .oe) (s' := .xq) nofun]; exact h.1.x
  · rw [upd (s := .oe) (s' := .xs) nofun]; exact h.1.xs
  · rw [upd (s := .oe) (s' := .xk) nofun]; exact h.1.k
  · rw [upd (s := .oe) (s' := .ks) nofun]; exact h.1.ks
  · rw [upd (s := .oe) (s' := .xv) nofun]; exact h.1.v
  · rw [upd (s := .oe) (s' := .vs) nofun]; exact h.1.vs
  · rw [upd (s := .oe) (s' := .oc) nofun]; exact h.2.oc
  · intro y hy
    rw [Function.update_self]
    refine (put_unit (s := S16x2048x36) (e := .i8) _ _ inb w (μ .oe) y).trans ?_
    have y1 : (y 1).val < 2048 := (y 1).isLt
    split_ifs with hh
    · have h0 := hh 0
      have h2 := hh 2
      change t ≤ (y 0).val ∧ (y 0).val < t + 1 at h0
      change e ≤ (y 2).val ∧ (y 2).val < e + 1 at h2
      refine (hwv _).trans ?_
      rw [show (y 0).val = t by omega]
      refine c2 (XB _) ?_ ?_
      · show e + ((y 2).val - e) = _; omega
      · show (y 1).val - 0 = _; omega
    · refine h.2.oe y ?_
      rcases hy with hy | ⟨hy, hy'⟩
      · exact .inl hy
      · refine .inr ⟨hy, ?_⟩
        by_contra hc
        refine hh fun i => ?_
        match i with
        | ⟨0, _⟩ => show t ≤ (y 0).val ∧ (y 0).val < t + 1; omega
        | ⟨1, _⟩ => show 0 ≤ (y 1).val ∧ (y 1).val < 0 + 2048; omega
        | ⟨2, _⟩ => show e ≤ (y 2).val ∧ (y 2).val < e + 1; omega

theorem part3_ev (b : Fin k0_t1_loop.trips) (h : Fin k0_t2_loop.trips) (a8 a9 : BitVec 32) {μ : Mem Ideal} (hg : Go x xs k ks v vs b.val (96 * h.val + 32 * (0 : Fin 3).val) (3 * h.val + (0 : Fin 3).val) μ)
    (o : FVec Ideal S2048x96 .f32) (ho : ∀ y, @Eq EReal (o y) (hOut (inp x xs k ks v vs b.val) h.val (y 0).val (y 1).val)) :
    Ev c R bd (k0_part3 (F := Ideal) (R .xq) (hw .xq) (R .xs) (hw .xs) (R .xk) (hw .xk) (R .ks) (hw .ks) (R .xv) (hw .xv) (R .vs) (hw .vs) (R .oc) (hw .oc) (R .oe) (hw .oe) b a8 h a9 o (blockR 0 o) (expoR (amaxR (blockR 0 o)))) μ
      (fun r μ' => r = ⟨blockR 1 o, amaxR (blockR 1 o), oneUp (amaxR (blockR 1 o)), broadcast S2048x1 (Scalar.ofBits .f32 0x00000000#32)⟩ ∧
        Go x xs k ks v vs b.val (96 * h.val + 32 * (1 : Fin 3).val) (3 * h.val + (1 : Fin 3).val) μ') := by
  unfold k0_part3
  simp only [Prog.lift, Prog.bind_op, Prog.bind_ret]
  refine .load .oc <| .store .oc <| .load .oe <| .store .oe <| .ret ⟨rfl, ?_⟩
  refine Go.oe (Go.oc hg _ _ (off5 b h 0) (codeV (blockR 0 o)) (codeV_apply _ _ 0 o ho)) _ _ (off6 b h 0) (expV (expoR (amaxR (blockR 0 o)))) (expV_apply _ _ 0 o ho)

theorem part4_ev (b : Fin k0_t1_loop.trips) (h : Fin k0_t2_loop.trips) (a8 a9 : BitVec 32) {μ : Mem Ideal} (hg : Go x xs k ks v vs b.val (96 * h.val + 32 * (1 : Fin 3).val) (3 * h.val + (1 : Fin 3).val) μ)
    (o : FVec Ideal S2048x96 .f32) (ho : ∀ y, @Eq EReal (o y) (hOut (inp x xs k ks v vs b.val) h.val (y 0).val (y 1).val)) :
    Ev c R bd (k0_part4 (F := Ideal) (R .xq) (hw .xq) (R .xs) (hw .xs) (R .xk) (hw .xk) (R .ks) (hw .ks) (R .xv) (hw .xv) (R .vs) (hw .vs) (R .oc) (hw .oc) (R .oe) (hw .oe) b a8 h a9 o (blockR 1 o) (amaxR (blockR 1 o)) (oneUp (amaxR (blockR 1 o))) (broadcast S2048x1 (Scalar.ofBits .f32 0x00000000#32))) μ
      (fun r μ' => r = ⟨blockR 2 o, amaxR (blockR 2 o), fptosi 32 (flogR (amaxR (blockR 2 o))), 1#32⟩ ∧
        Go x xs k ks v vs b.val (96 * h.val + 32 * (2 : Fin 3).val) (3 * h.val + (2 : Fin 3).val) μ') := by
  unfold k0_part4
  simp only [Prog.lift, Prog.bind_op, Prog.bind_ret]
  refine .load .oc <| .store .oc <| .load .oe <| .store .oe <| .ret ⟨rfl, ?_⟩
  refine Go.oe (Go.oc hg _ _ (off5 b h 1) (codeV (blockR 1 o)) (codeV_apply _ _ 1 o ho)) _ _ (off6 b h 1) (expV (expoR (amaxR (blockR 1 o)))) (expV_apply _ _ 1 o ho)

theorem body_ev {μ : Mem Ideal} (hc : Con x xs k ks v vs μ) :
    Ev c R bd (cc0_reference (F := Ideal) (R .xq) (hw .xq) (R .xs) (hw .xs) (R .xk) (hw .xk) (R .ks) (hw .ks) (R .xv) (hw .xv) (R .vs) (hw .vs) (R .oc) (hw .oc) (R .oe) (hw .oe)) μ (fun _ μ' => Go x xs k ks v vs 16 0 0 μ') := by
  unfold cc0_reference
  refine .bind (Ev.for (fun b _ μ' => Go x xs k ks v vs b 0 0 μ') ⟨hc, fun y hy => by omega, fun y hy => by omega⟩ fun b _ μ hb => ?_) fun _ μ h => .ret h
  dsimp only
  refine .bind (Ev.for (fun h _ μ' => Go x xs k ks v vs b.val (96 * h) (3 * h) μ') hb fun h _ μ hg => ?_) fun _ μ h => .ret ?_
  · refine .bind (part1_ev hw b h _ _ _ hg.1) fun r1 μ1 ⟨e1, h34, h41, h44⟩ => ?_
    obtain ⟨a9, v18, v34, v41, v44⟩ := r1
    subst e1
    refine .bind (part2_ev hw b h _ _ hg.1 v34 v41 v44 h34 h41 h44) fun r2 μ2 ⟨e2, o, hr, ho⟩ => ?_
    subst e2 hr
    unfold qR
    dsimp only
    have hg0 : Go x xs k ks v vs b.val (96 * h.val + 32 * (0 : Fin 3).val) (3 * h.val + (0 : Fin 3).val) μ2 := by simpa using hg
    refine .bind (part3_ev hw b h _ _ hg0 o ho) fun r3 μ3 ⟨e3, h3⟩ => ?_
    subst e3
    dsimp only
    refine .bind (part4_ev hw b h _ _ h3 o ho) fun r4 μ4 ⟨e4, h4⟩ => ?_
    subst e4
    dsimp only
    simp only [Prog.lift, Prog.bind_op, Prog.bind_ret]
    refine .load .oc <| .store .oc <| .load .oe <| .store .oe <| .ret ?_
    show Go x xs k ks v vs b.val (96 * h.val + 32 * (2 : Fin 3).val + 32) (3 * h.val + (2 : Fin 3).val + 1) _
    exact Go.oe (Go.oc h4 _ _ (off5 b h 2) (codeV (blockR 2 o)) (codeV_apply _ _ 2 o ho)) _ _ (off6 b h 2) (expV (expoR (amaxR (blockR 2 o)))) (expV_apply _ _ 2 o ho)
  · refine ⟨h.1, fun y hy => h.2.oc y ?_, fun y hy => h.2.oe y ?_⟩
    · have h2 : (y 2).val < 1152 := (y 2).isLt
      have : (k0_t2_loop.trips) = 12 := by decide +kernel
      show _ ∨ _ ∧ (y 2).val < 96 * k0_t2_loop.trips
      omega
    · have h2 : (y 2).val < 36 := (y 2).isLt
      have : (k0_t2_loop.trips) = 12 := by decide +kernel
      show _ ∨ _ ∧ (y 2).val < 3 * k0_t2_loop.trips
      omega

end Cert.ReferenceIdeal.Pair
-- ==== Proof.Value.RunR.lean ====
/-
  The reference's results: what its body leaves, carried through the pipeline to the two result arrays.
-/
module

public import proofs.«01_k».proof.Proof.Value.RefBody
public import proofs.«01_k».proof.Proof.Gen.ReferenceIdeal.Launch
public import proofs.«01_k».proof.Proof.Gen.ReferenceIdeal.Points

@[expose] public section

noncomputable section

namespace Cert.ReferenceIdeal.Pair

open Cert.ReferenceIdeal Cert.ReferenceIdeal.Gen Attn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal.Pair (In inp O XB)

local notation "𝕄" => MT nD τ sig Unit (Elt Ideal) ℕ (UR sig nD τ) ℕ

variable (m : (ℓ : Loc nD τ sig) → Buf (Elt Ideal) ℓ) (ρ : Dev nD → PrngReg)

/-- Where the reference's buffers are. -/
abbrev refs (t : Fin cfg0.N) : Refs
  | .xq => win0_0.stage (cfg0.slots t 0) | .xs => win0_1.stage (cfg0.slots t 1) | .xk => win0_2.stage (cfg0.slots t 2) | .ks => win0_3.stage (cfg0.slots t 3) | .xv => win0_4.stage (cfg0.slots t 4) | .vs => win0_5.stage (cfg0.slots t 5) | .oc => win0_6.stage (cfg0.slots t 6) | .oe => win0_7.stage (cfg0.slots t 7)

theorem refs_whole (t : Fin cfg0.N) : ∀ s, (refs t s).IsWhole
  | .xq => hstage0_0 0 | .xs => hstage0_1 0 | .xk => hstage0_2 0 | .ks => hstage0_3 0 | .xv => hstage0_4 0 | .vs => hstage0_5 0 | .oc => hstage0_6 0 | .oe => hstage0_7 0

/-- The buffers' ownership, buffer by buffer. -/
theorem own_eq (c : Dev nD) (R : Refs) (μ : Mem Ideal) :
    (own c R μ : sProp 𝕄) = iprop(owns (c : Thread nD τ) (R .xq) fullShare (μ .xq) ∗ owns (c : Thread nD τ) (R .xs) fullShare (μ .xs) ∗ owns (c : Thread nD τ) (R .xk) fullShare (μ .xk) ∗ owns (c : Thread nD τ) (R .ks) fullShare (μ .ks) ∗ owns (c : Thread nD τ) (R .xv) fullShare (μ .xv) ∗ owns (c : Thread nD τ) (R .vs) fullShare (μ .vs) ∗ owns (c : Thread nD τ) (R .oc) fullShare (μ .oc) ∗ owns (c : Thread nD τ) (R .oe) fullShare (μ .oe)) := by
  unfold own
  exact bigSep_univ_eq_bigSepL ([.xq, .xs, .xk, .ks, .xv, .vs, .oc, .oe] : List Slot)
    (by decide) (by decide) _

/-- The windows' contents as found. -/
def mem (t : Fin cfg0.N) (Y : (w : Fin cfg0.W) → (cfg0.win w).block.Idx → Elt Ideal (cfg0.win w).elt) : Mem Ideal
  | .xq => Y 0 | .xs => Y 1 | .xk => Y 2 | .ks => Y 3 | .xv => Y 4 | .vs => Y 5 | .oc => Y 6 | .oe => Y 7

theorem defs₀_row (t : Fin cfg0.N) :
    defs₀ (F := Ideal) .tc cfg0.body (cfg0.bodyArgs t (cfg0.slots t)) = bodyAt0 t := by
  unfold defs₀; rw [Defs.onTc_tc]

/-- What each buffer holds when the call begins. -/
abbrev V (c : Dev nD) (b : Ref sig .tc) : Buf (Elt Ideal) ((c : Thread nD τ).loc b) := StableHlo.after hostOps0 (fun b => m (c, b)) b

theorem hostOps0_fresh : (hostOps0 : List (HloOp τ sig (Elt Ideal))).Forall fun op => op.fresh = ∅ := ⟨rfl, rfl⟩

set_option maxHeartbeats 1600000 in
theorem hmain (𝒱₀ : Variants) : Pipeline.HMain (Ix := Unit) (Name := ℕ) (U := UR sig nD τ) (Lvl := ℕ) cfgs 0 defs₀ 𝒱₀ m (main (F := Ideal)) (V m) :=
  Pipeline.hmain_prefix cfgs 0 defs₀ 𝒱₀ m main hostOps0 hostOps0_sub hostOps0_fresh main_chain

theorem V_eq (b : Ref sig .tc) (h0 : b ≠ main_v0) (h1 : b ≠ main_v1) (c : Dev nD) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-- One sequence's inputs in the launch memory. -/
def inR (c : Dev nD) (b : ℕ) : In :=
  inp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) b

/-- The operands hold the launch arrays. -/
abbrev ConM (c : Dev nD) (μ : Mem Ideal) : Prop :=
  Con (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) μ

/-- All codes and exponents are found. -/
abbrev Done (c : Dev nD) (μ : Mem Ideal) : Prop := Rg (inR m c) 16 0 0 μ

/-- The proof data: what the body leaves in the two result windows. -/
def vdat (c : Dev nD) : RDat τ (Elt Ideal) Unit ℕ (UR sig nD τ) ℕ cfg0 c where
  A w := V m c (Pipeline.arrRef spec0 w)
  after w t _ X := match w with
    | ⟨6, _⟩ => ∀ y : S16x2048x1152.Idx, @Eq EReal (X y) (O (inR m c (y 0).val) (y 2).val (y 1).val)
    | ⟨7, _⟩ => ∀ y : S16x2048x36.Idx, @Eq (BitVec 8) (X y) (XB (inR m c (y 0).val) (y 2).val (y 1).val)
    | _ => True
  Φ _ := Pipeline.ΦA spec0 c
  q _ := fullShare
  owed _ := 0

theorem vA_eq (c : Dev nD) (w : Fin cfg0.W) : (vdat m c).A w = V m c (Pipeline.arrRef spec0 w) := by
  dsimp only [vdat]

theorem ix_0 : ∀ t : Fin grid0.N, win0_0.index t 0 = 0 ∧ win0_0.index t 1 = 0 ∧ win0_0.index t 2 = 0 := by decide +kernel
theorem ix_1 : ∀ t : Fin grid0.N, win0_1.index t 0 = 0 ∧ win0_1.index t 1 = 0 ∧ win0_1.index t 2 = 0 := by decide +kernel
theorem ix_2 : ∀ t : Fin grid0.N, win0_2.index t 0 = 0 ∧ win0_2.index t 1 = 0 ∧ win0_2.index t 2 = 0 := by decide +kernel
theorem ix_3 : ∀ t : Fin grid0.N, win0_3.index t 0 = 0 ∧ win0_3.index t 1 = 0 ∧ win0_3.index t 2 = 0 := by decide +kernel
theorem ix_4 : ∀ t : Fin grid0.N, win0_4.index t 0 = 0 ∧ win0_4.index t 1 = 0 ∧ win0_4.index t 2 = 0 := by decide +kernel
theorem ix_5 : ∀ t : Fin grid0.N, win0_5.index t 0 = 0 ∧ win0_5.index t 1 = 0 ∧ win0_5.index t 2 = 0 := by decide +kernel
theorem ix_6 : ∀ t : Fin grid0.N, win0_6.index t 0 = 0 ∧ win0_6.index t 1 = 0 ∧ win0_6.index t 2 = 0 := by decide +kernel
theorem ix_7 : ∀ t : Fin grid0.N, win0_7.index t 0 = 0 ∧ win0_7.index t 1 = 0 ∧ win0_7.index t 2 = 0 := by decide +kernel

/-- The scales the host transposes. -/
theorem V_0 (c : Dev nD) : V m c main_v0 = transpose S16x4x2048 [0, 2, 1] (m ((c.tc : Thread nD τ).loc main_arg3)) transposes_S16x2048x4_S16x4x2048_0_2_1 := by
  unfold_abbrev_sides
  after_results
theorem VA_0 (c : Dev nD) (z : S16x4x2048.Idx) : @Eq EReal (V m c main_v0 z) (at3 (m ((c.tc : Thread nD τ).loc main_arg3)) (z 0).val (z 2).val (z 1).val) := by
  refine (congrFun (V_0 m c) z).trans ?_
  pointwise
  exact at3_eq (m ((c.tc : Thread nD τ).loc main_arg3)) _ rfl rfl rfl
theorem V_1 (c : Dev nD) : V m c main_v1 = transpose S16x4x2048 [0, 2, 1] (m ((c.tc : Thread nD τ).loc main_arg5)) transposes_S16x2048x4_S16x4x2048_0_2_1 := by
  unfold_abbrev_sides
  after_results
theorem VA_1 (c : Dev nD) (z : S16x4x2048.Idx) : @Eq EReal (V m c main_v1 z) (at3 (m ((c.tc : Thread nD τ).loc main_arg5)) (z 0).val (z 2).val (z 1).val) := by
  refine (congrFun (V_1 m c) z).trans ?_
  pointwise
  exact at3_eq (m ((c.tc : Thread nD τ).loc main_arg5)) _ rfl rfl rfl

/-- The windows as the pipeline fetches them. -/
theorem con_of (c : Dev nD) (t : Fin cfg0.N) (Y : (w : Fin cfg0.W) → (cfg0.win w).block.Idx → Elt Ideal (cfg0.win w).elt)
    (hY : ∀ w, (vdat m c).Finds w t (Y w)) : ConM m c (mem t Y) := by
  have f0 : ∀ y : S16x2048x1152.Idx, @Eq EReal (Y 0 y) (at3 (m ((c.tc : Thread nD τ).loc main_arg0)) (y 0).val (y 1).val (y 2).val) := fun y => by
    obtain ⟨d, hd⟩ := ((vdat m c).finds_of_fetch (fetch0_0 t) _).mp (hY 0)
    rw [hd]
    unfold RDat.fetched RDat.blockOf Pipeline.Window.fill
    rw [dif_pos ((Pipeline.Window.moved_iff _ _ _).mpr fun a => (y a).isLt)]
    refine (congrFun (V_eq m main_arg0 (by decide) (by decide) c) _).trans (at3_eq _ _ ?_ ?_ ?_)
    · blk_simp; rw [(ix_0 t).1]; exact (congrArg (· + (y 0).val) (Nat.zero_mul _)).trans (Nat.zero_add _)
    · blk_simp; rw [(ix_0 t).2.1]; exact (congrArg (· + (y 1).val) (Nat.zero_mul _)).trans (Nat.zero_add _)
    · blk_simp; rw [(ix_0 t).2.2]; exact (congrArg (· + (y 2).val) (Nat.zero_mul _)).trans (Nat.zero_add _)
  have f1 : ∀ y : S16x2048x12.Idx, @Eq EReal (Y 1 y) (at3 (m ((c.tc : Thread nD τ).loc main_arg1)) (y 0).val (y 1).val (y 2).val) := fun y => by
    obtain ⟨d, hd⟩ := ((vdat m c).finds_of_fetch (fetch0_1 t) _).mp (hY 1)
    rw [hd]
    unfold RDat.fetched RDat.blockOf Pipeline.Window.fill
    rw [dif_pos ((Pipeline.Window.moved_iff _ _ _).mpr fun a => (y a).isLt)]
    refine (congrFun (V_eq m main_arg1 (by decide) (by decide) c) _).trans (at3_eq _ _ ?_ ?_ ?_)
    · blk_simp; rw [(ix_1 t).1]; exact (congrArg (· + (y 0).val) (Nat.zero_mul _)).trans (Nat.zero_add _)
    · blk_simp; rw [(ix_1 t).2.1]; exact (congrArg (· + (y 1).val) (Nat.zero_mul _)).trans (Nat.zero_add _)
    · blk_simp; rw [(ix_1 t).2.2]; exact (congrArg (· + (y 2).val) (Nat.zero_mul _)).trans (Nat.zero_add _)
  have f2 : ∀ y : S16x2048x384.Idx, @Eq EReal (Y 2 y) (at3 (m ((c.tc : Thread nD τ).loc main_arg2)) (y 0).val (y 1).val (y 2).val) := fun y => by
    obtain ⟨d, hd⟩ := ((vdat m c).finds_of_fetch (fetch0_2 t) _).mp (hY 2)
    rw [hd]
    unfold RDat.fetched RDat.blockOf Pipeline.Window.fill
    rw [dif_pos ((Pipeline.Window.moved_iff _ _ _).mpr fun a => (y a).isLt)]
    refine (congrFun (V_eq m main_arg2 (by decide) (by decide) c) _).trans (at3_eq _ _ ?_ ?_ ?_)
    · blk_simp; rw [(ix_2 t).1]; exact (congrArg (· + (y 0).val) (Nat.zero_mul _)).trans (Nat.zero_add _)
    · blk_simp; rw [(ix_2 t).2.1]; exact (congrArg (· + (y 1).val) (Nat.zero_mul _)).trans (Nat.zero_add _)
    · blk_simp; rw [(ix_2 t).2.2]; exact (congrArg (· + (y 2).val) (Nat.zero_mul _)).trans (Nat.zero_add _)
  have f3 : ∀ y : S16x4x2048.Idx, @Eq EReal (Y 3 y) (at3 (m ((c.tc : Thread nD τ).loc main_arg3)) (y 0).val (y 2).val (y 1).val) := fun y => by
    obtain ⟨d, hd⟩ := ((vdat m c).finds_of_fetch (fetch0_3 t) _).mp (hY 3)
    rw [hd]
    unfold RDat.fetched RDat.blockOf Pipeline.Window.fill
    rw [dif_pos ((Pipeline.Window.moved_iff _ _ _).mpr fun a => (y a).isLt)]
    refine (VA_0 m c _).trans ?_
    congr 1
    · blk_simp; rw [(ix_3 t).1]; exact (congrArg (· + (y 0).val) (Nat.zero_mul _)).trans (Nat.zero_add _)
    · blk_simp; rw [(ix_3 t).2.2]; exact (congrArg (· + (y 2).val) (Nat.zero_mul _)).trans (Nat.zero_add _)
    · blk_simp; rw [(ix_3 t).2.1]; exact (congrArg (· + (y 1).val) (Nat.zero_mul _)).trans (Nat.zero_add _)
  have f4 : ∀ y : S16x2048x384.Idx, @Eq EReal (Y 4 y) (at3 (m ((c.tc : Thread nD τ).loc main_arg4)) (y 0).val (y 1).val (y 2).val) := fun y => by
    obtain ⟨d, hd⟩ := ((vdat m c).finds_of_fetch (fetch0_4 t) _).mp (hY 4)
    rw [hd]
    unfold RDat.fetched RDat.blockOf Pipeline.Window.fill
    rw [dif_pos ((Pipeline.Window.moved_iff _ _ _).mpr fun a => (y a).isLt)]
    refine (congrFun (V_eq m main_arg4 (by decide) (by decide) c) _).trans (at3_eq _ _ ?_ ?_ ?_)
    · blk_simp; rw [(ix_4 t).1]; exact (congrArg (· + (y 0).val) (Nat.zero_mul _)).trans (Nat.zero_add _)
    · blk_simp; rw [(ix_4 t).2.1]; exact (congrArg (· + (y 1).val) (Nat.zero_mul _)).trans (Nat.zero_add _)
    · blk_simp; rw [(ix_4 t).2.2]; exact (congrArg (· + (y 2).val) (Nat.zero_mul _)).trans (Nat.zero_add _)
  have f5 : ∀ y : S16x4x2048.Idx, @Eq EReal (Y 5 y) (at3 (m ((c.tc : Thread nD τ).loc main_arg5)) (y 0).val (y 2).val (y 1).val) := fun y => by
    obtain ⟨d, hd⟩ := ((vdat m c).finds_of_fetch (fetch0_5 t) _).mp (hY 5)
    rw [hd]
    unfold RDat.fetched RDat.blockOf Pipeline.Window.fill
    rw [dif_pos ((Pipeline.Window.moved_iff _ _ _).mpr fun a => (y a).isLt)]
    refine (VA_1 m c _).trans ?_
    congr 1
    · blk_simp; rw [(ix_5 t).1]; exact (congrArg (· + (y 0).val) (Nat.zero_mul _)).trans (Nat.zero_add _)
    · blk_simp; rw [(ix_5 t).2.2]; exact (congrArg (· + (y 2).val) (Nat.zero_mul _)).trans (Nat.zero_add _)
    · blk_simp; rw [(ix_5 t).2.1]; exact (congrArg (· + (y 1).val) (Nat.zero_mul _)).trans (Nat.zero_add _)
  exact ⟨fun y => f0 y, fun y => f1 y, fun y => f2 y, fun y => f3 y, fun y => f4 y, fun y => f5 y⟩

theorem oc_of {c : Dev nD} {μ : Mem Ideal} (h : Done m c μ) (y : S16x2048x1152.Idx) : @Eq EReal (μ .oc y) (O (inR m c (y 0).val) (y 2).val (y 1).val) :=
  h.oc y (.inl (y 0).isLt)
theorem oe_of {c : Dev nD} {μ : Mem Ideal} (h : Done m c μ) (y : S16x2048x36.Idx) : @Eq (BitVec 8) (μ .oe y) (XB (inR m c (y 0).val) (y 2).val (y 1).val) :=
  h.oe y (.inl (y 0).isLt)

/-- What the pipeline takes back after the body. -/
theorem vpipe_finish (c : Dev nD) (t : Fin cfg0.N)
    (Y : (w : Fin cfg0.W) → (cfg0.win w).block.Idx → Elt Ideal (cfg0.win w).elt) :
    (iprop((∃ μ', ⌜Done m c μ'⌝ ∗ own c (refs t) μ') ∗ (BI.emp ∗ (∃ r, prngReg c r)) ∗ (vdat m c).owesAt () t.castSucc) : sProp 𝕄)
      ⊢ iprop((vdat m c).Φ t.succ ∗ (vdat m c).owesAt () t.succ
        ∗ bigSep Finset.univ fun w => iprop(∃ X, ⌜(vdat m c).after w t (Y w) X⌝
          ∗ owns (c : Thread nD τ) ((cfg0.win w).stage (cfg0.slots t w)) fullShare X)) := by
  rw [bigSep_W0, show (vdat m c).Φ t.succ = Pipeline.ΦA spec0 c from rfl,
    show (vdat m c).owesAt () t.succ = (vdat m c).owesAt () t.castSucc from rfl]
  unfold Pipeline.ΦA
  rw [scopedRest0_eq]
  simp only [own_eq]
  iintro ⟨⟨%μ, %hμ, W0, W1, W2, W3, W4, W5, W6, W7⟩, HR, HO⟩
  isplitl [HR]; · iexact HR
  isplitl [HO]; · iexact HO
  isplitl [W0]; · iexists (μ .xq); isplitr; · ipureintro; trivial
                  iexact W0
  isplitl [W1]; · iexists (μ .xs); isplitr; · ipureintro; trivial
                  iexact W1
  isplitl [W2]; · iexists (μ .xk); isplitr; · ipureintro; trivial
                  iexact W2
  isplitl [W3]; · iexists (μ .ks); isplitr; · ipureintro; trivial
                  iexact W3
  isplitl [W4]; · iexists (μ .xv); isplitr; · ipureintro; trivial
                  iexact W4
  isplitl [W5]; · iexists (μ .vs); isplitr; · ipureintro; trivial
                  iexact W5
  isplitl [W6]; · iexists (μ .oc); isplitr; · ipureintro; exact oc_of m hμ
                  iexact W6
  iexists (μ .oe); isplitr; · ipureintro; exact oe_of m hμ
  iexact W7

theorem vbody_runs (c : Dev nD) (t : Fin cfg0.N) (μ : Mem Ideal) (hW : ConM m c μ) :
    (own c (refs t) μ : sProp 𝕄) ⊢ wp Idealize.ShloMosaic.frame (wpE (defs₀ (F := Ideal)) Variants.nat (c : Thread nD τ) none)
      Set.univ (bodyAt0 t) (fun _ => iprop(∃ μ', ⌜Done m c μ'⌝ ∗ own c (refs t) μ')) := by
  have h2 := (body_ev (c := c) (R := refs t) (bd := none) (refs_whole t) hW).mono (Q' := fun _ μ' => Done m c μ') fun _ _ h => h.2
  unfold Ev at h2
  dsimp only [refs] at h2
  unfold bodyAt0
  dsimp only [refs]
  convert h2 using 4

theorem vbody_obligation (c : Dev nD) : (vdat m c).BodyObligation (defs₀ (F := Ideal)) Variants.nat () Set.univ := fun t Y hY => by
  rw [bigSep_W0, defs₀_row, show (vdat m c).Φ t.castSucc = Pipeline.ΦA spec0 c from rfl]
  unfold Pipeline.ΦA
  rw [scopedRest0_eq]
  iintro ⟨HR, HO, W0, W1, W2, W3, W4, W5, W6, W7⟩
  have h := vbody_runs m c t (mem t Y) (con_of m c t Y hY)
  rw [own_eq (μ := mem t Y)] at h
  have h' := (wp_frame_r Idealize.ShloMosaic.frame (wpE (defs₀ (F := Ideal)) Variants.nat (c : Thread nD τ) none) Set.univ
    (R := iprop((BI.emp ∗ (∃ r, prngReg c r)) ∗ (vdat m c).owesAt () t.castSucc))).trans
    (wp_mono _ _ _ (p := bodyAt0 t) fun _ => vpipe_finish m c t Y)
  iapply h'
  isplitr [HR HO]
  · iapply h
    dsimp only [mem]
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [HR]; · iexact HR
  iexact HO

/-- Every execution ends, with every semaphore at zero and the call's arrays and the other arguments accounted for. -/
theorem vrun_main : θ_run defs (onTc (τ := τ) (main (F := Ideal))) (s₀ m ρ)
    (fun r => RDat.FramePost cfg0 (vdat m) (V m) r ∧ r.2.sem = fun _ => 0) :=
  RDat.θ_run_frame cfgs (0 : Fin 1) launch0 defs₀ Variants.nat (vdat m) m ρ main (vbody_obligation m)
    (fun c w => by unfold RDat.share; split <;> rfl) (fun _ _ => rfl) (V m) (hmain m Variants.nat) (vA_eq m) (fun _ _ => rfl) (Q' := _) (hQ' := fun _ h => h)

/-- The reference's frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r ⟨h, hs⟩ => ⟨fun c => ⟨?_, ?_, ?_, ?_, ?_, ?_⟩, hs⟩) (vrun_main m ρ)
  · exact (RDat.FramePost.arr_in h c 0 rfl).trans ((vA_eq m c 0).trans (V_eq m main_arg0 (by decide) (by decide) c))
  · exact (RDat.FramePost.arr_in h c 1 rfl).trans ((vA_eq m c 1).trans (V_eq m main_arg1 (by decide) (by decide) c))
  · exact (RDat.FramePost.arr_in h c 2 rfl).trans ((vA_eq m c 2).trans (V_eq m main_arg2 (by decide) (by decide) c))
  · exact ((h c).2 main_arg3 (Pipeline.mem_restRefs_of main_arg3 (by decide) (by decide : ∀ w : Fin 8, (spec0 w).arr.view.ref ≠ main_arg3))).trans (V_eq m main_arg3 (by decide) (by decide) c)
  · exact (RDat.FramePost.arr_in h c 4 rfl).trans ((vA_eq m c 4).trans (V_eq m main_arg4 (by decide) (by decide) c))
  · exact ((h c).2 main_arg5 (Pipeline.mem_restRefs_of main_arg5 (by decide) (by decide : ∀ w : Fin 8, (spec0 w).arr.view.ref ≠ main_arg5))).trans (V_eq m main_arg5 (by decide) (by decide) c)

/-- The reference's results. -/
theorem value : θ_run defs (onTc (τ := τ) (main (F := Ideal))) ⟨m, fun _ => 0, ρ⟩ (fun r => ∀ c : Dev nD,
      (∀ y : S16x2048x1152.Idx, @Eq EReal (r.2.mem ((c.tc : Thread nD τ).loc main_v2_0) y) (O (inR m c (y 0).val) (y 2).val (y 1).val))
      ∧ (∀ y : S16x2048x36.Idx, @Eq (BitVec 8) (r.2.mem ((c.tc : Thread nD τ).loc main_v2_1) y) (XB (inR m c (y 0).val) (y 2).val (y 1).val))) := by
  refine (θ_run defs _ _).mono (fun r ⟨h, hs⟩ c => ?_) (vrun_main m ρ)
  obtain ⟨after, hL, hA⟩ := RDat.FramePost.exists_exact h c
  refine ⟨fun y => ?_, fun y => ?_⟩
  · refine (congrFun (hA 6) y).trans ?_
    refine Pipeline.Dat.arrAt_forall_of_covers ((vdat m c).withAfter after) 6 (fun i v => @Eq EReal v (O (inR m c (i 0).val) (i 2).val (i 1).val)) (by decide +kernel) (fun t hf z => ?_) y
    obtain ⟨Y, -, hX⟩ := hL 6 t hf
    have hz := hX z
    blk_simp
    simp only [(ix_6 t).1, (ix_6 t).2.1, (ix_6 t).2.2, Nat.zero_mul, Nat.zero_add]
    refine Eq.trans ?_ hz
    rfl
  · refine (congrFun (hA 7) y).trans ?_
    refine Pipeline.Dat.arrAt_forall_of_covers ((vdat m c).withAfter after) 7 (fun i v => @Eq (BitVec 8) v (XB (inR m c (i 0).val) (i 2).val (i 1).val)) (by decide +kernel) (fun t hf z => ?_) y
    obtain ⟨Y, -, hX⟩ := hL 7 t hf
    have hz := hX z
    blk_simp
    simp only [(ix_7 t).1, (ix_7 t).2.1, (ix_7 t).2.2, Nat.zero_mul, Nat.zero_add]
    refine Eq.trans ?_ hz
    rfl

end Cert.ReferenceIdeal.Pair
-- ==== Proof.lean ====
module

public import proofs.«01_k».proof.Defs
public import proofs.«01_k».proof.Proof.Run
public import proofs.«01_k».proof.Proof.Ideal.Run
public import proofs.«01_k».proof.Proof.Value.RunK
public import proofs.«01_k».proof.Proof.Value.RunR
public import Idealize.ShloMosaic.Adequacy
public import Idealize.ShloMosaic.Init
public import Idealize.ShloMosaic.Lib.Claim

@[expose] public section

noncomputable section

namespace Cert.Proof

open Idealize.ShloMosaic Idealize.SL.Sem
open Cert.KernelIdeal.Pair (O XB inK)

/-- From equal arguments, one sequence's inputs are the same. -/
theorem inR_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (b : ℕ) :
    Cert.ReferenceIdeal.Pair.inR m' c b = inK m c b := by
  obtain ⟨h0, h1, h2, h3, h4, h5⟩ := h
  unfold Cert.ReferenceIdeal.Pair.inR inK
  rw [h0, h1, h2, h3, h4, h5]

/-- The kernel and the reference end with the same codes and exponents. -/
theorem algebraic : Cert.algebraic_KernelIdeal_ReferenceIdeal (hKernelIdeal := Cert.KernelIdeal.Gen.facts) (hReferenceIdeal := Cert.ReferenceIdeal.Gen.facts) :=
  fun m g m' g' _ hm => ⟨fun c y => O (inK m c (y 0).val) (y 2).val (y 1).val, fun c y => XB (inK m c (y 0).val) (y 2).val (y 1).val,
    (θ_run _ _ _).mono (fun r ⟨hv, hf⟩ c => ⟨funext (hv c).1, funext (hv c).2, hf.1 c⟩)
      (θ_run_and (Cert.KernelIdeal.Pair.value m g) (Cert.KernelIdeal.Pair.frame m g)),
    (θ_run _ _ _).mono (fun r ⟨hv, hf⟩ c => ⟨funext fun y => ((hv c).1 y).trans (by rw [inR_eq (hm c)]), funext fun y => ((hv c).2 y).trans (by rw [inR_eq (hm c)]), hf.1 c⟩)
      (θ_run_and (Cert.ReferenceIdeal.Pair.value m' g') (Cert.ReferenceIdeal.Pair.frame m' g'))⟩

theorem claim : Cert.Claim :=
  ⟨Cert.Kernel.Gen.facts, Cert.KernelIdeal.Gen.facts, Cert.ReferenceIdeal.Gen.facts, fun m g _ => Cert.Kernel.Pair.frame m g,
    fun m g _ => Cert.KernelIdeal.Pair.frame m g, fun m g _ => Cert.ReferenceIdeal.Pair.frame m g, trivial, algebraic⟩

end Cert.Proof

end
